-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleIdeal_finite_ple [hPre_finite_ple : Cert.Pre_finite_ple.Facts] (m : (ℓ : Loc Cert.PleIdeal.nD Cert.PleIdeal.τ Cert.PleIdeal.sig) → Buf (Elt Ideal) ℓ) : Prop :=
  ∀ c : Dev Cert.PleIdeal.nD,
    (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.1 = (fun _ => 1#1)
    ∧ (Cert.Pre_finite_ple.fn (F := Ideal) (m ((c.tc : Thread Cert.PleIdeal.nD Cert.PleIdeal.τ).loc Cert.PleIdeal.main_arg0)) (m ((c.tc : Thread Cert.PleIdeal.nD Cert.PleIdeal.τ).loc Cert.PleIdeal.main_arg1)) (m ((c.tc : Thread Cert.PleIdeal.nD Cert.PleIdeal.τ).loc Cert.PleIdeal.main_arg2)) (m ((c.tc : Thread Cert.PleIdeal.nD Cert.PleIdeal.τ).loc Cert.PleIdeal.main_arg3)) (m ((c.tc : Thread Cert.PleIdeal.nD Cert.PleIdeal.τ).loc Cert.PleIdeal.main_arg4)) (m ((c.tc : Thread Cert.PleIdeal.nD Cert.PleIdeal.τ).loc Cert.PleIdeal.main_arg5)) (m ((c.tc : Thread Cert.PleIdeal.nD Cert.PleIdeal.τ).loc Cert.PleIdeal.main_arg6))).2.2.2.2.2 = (fun _ => 1#1)

def Pre_RefPleIdeal (m : (ℓ : Loc Cert.RefPleIdeal.nD Cert.RefPleIdeal.τ Cert.RefPleIdeal.sig) → Buf (Elt Ideal) ℓ) : Prop :=
  True

def Pre_RefPleIdeal_finite_ple [hPre_finite_ple : Cert.Pre_finite_ple.Facts] (m : (ℓ : Loc Cert.RefPleIdeal.nD Cert.RefPleIdeal.τ Cert.RefPleIdeal.sig) → Buf (Elt Ideal) ℓ) : Prop :=
  ∀ c : Dev Cert.RefPleIdeal.nD,
    (Cert.Pre_finite_ple.fn (F := Ideal) (m ((c.tc : Thread Cert.RefPleIdeal.nD Cert.RefPleIdeal.τ).loc Cert.RefPleIdeal.main_arg0)) (m ((c.tc : Thread Cert.RefPleIdeal.nD Cert.RefPleIdeal.τ).loc Cert.RefPleIdeal.main_arg1)) (m ((c.tc : Thread Cert.RefPleIdeal.nD Cert.RefPleIdeal.τ).loc Cert.RefPleIdeal.main_arg2)) (m ((c.tc : Thread Cert.RefPleIdeal.nD Cert.RefPleIdeal.τ).loc Cert.RefPleIdeal.main_arg3)) (m ((c.tc : Thread Cert.RefPleIdeal.nD Cert.RefPleIdeal.τ).loc Cert.RefPleIdeal.main_arg4)) (m ((c.tc : Thread Cert.RefPleIdeal.nD Cert.RefPleIdeal.τ).loc Cert.RefPleIdeal.main_arg5)) (m ((c.tc : Thread Cert.RefPleIdeal.nD Cert.RefPleIdeal.τ).loc Cert.RefPleIdeal.main_arg6))).1 = (fun _ => 1#1)
    ∧ (Cert.Pre_finite_ple.fn (F := Ideal) (m ((c.tc : Thread Cert.RefPleIdeal.nD Cert.RefPleIdeal.τ).loc Cert.RefPleIdeal.main_arg0)) (m ((c.tc : Thread Cert.RefPleIdeal.nD Cert.RefPleIdeal.τ).loc Cert.RefPleIdeal.main_arg1)) (m ((c.tc : Thread Cert.RefPleIdeal.nD Cert.RefPleIdeal.τ).loc Cert.RefPleIdeal.main_arg2)) (m ((c.tc : Thread Cert.RefPleIdeal.nD Cert.RefPleIdeal.τ).loc Cert.RefPleIdeal.main_arg3)) (m ((c.tc : Thread Cert.RefPleIdeal.nD Cert.RefPleIdeal.τ).loc Cert.RefPleIdeal.main_arg4)) (m ((c.tc : Thread Cert.RefPleIdeal.nD Cert.RefPleIdeal.τ).loc Cert.RefPleIdeal.main_arg5)) (m ((c.tc : Thread Cert.RefPleIdeal.nD Cert.RefPleIdeal.τ).loc Cert.RefPleIdeal.main_arg6))).2.1 = (fun _ => 1#1)
    ∧ (Cert.Pre_finite_ple.fn (F := Ideal) (m ((c.tc : Thread Cert.RefPleIdeal.nD Cert.RefPleIdeal.τ).loc Cert.RefPleIdeal.main_arg0)) (m ((c.tc : Thread Cert.RefPleIdeal.nD Cert.RefPleIdeal.τ).loc Cert.RefPleIdeal.main_arg1)) (m ((c.tc : Thread Cert.RefPleIdeal.nD Cert.RefPleIdeal.τ).loc Cert.RefPleIdeal.main_arg2)) (m ((c.tc : Thread Cert.RefPleIdeal.nD Cert.RefPleIdeal.τ).loc Cert.RefPleIdeal.main_arg3)) (m ((c.tc : Thread Cert.RefPleIdeal.nD Cert.RefPleIdeal.τ).loc Cert.RefPleIdeal.main_arg4)) (m ((c.tc : Thread Cert.RefPleIdeal.nD Cert.RefPleIdeal.τ).loc Cert.RefPleIdeal.main_arg5)) (m ((c.tc : Thread Cert.RefPleIdeal.nD Cert.RefPleIdeal.τ).loc Cert.RefPleIdeal.main_arg6))).2.2.1 = (fun _ => 1#1)
    ∧ (Cert.Pre_finite_ple.fn (F := Ideal) (m ((c.tc : Thread Cert.RefPleIdeal.nD Cert.RefPleIdeal.τ).loc Cert.RefPleIdeal.main_arg0)) (m ((c.tc : Thread Cert.RefPleIdeal.nD Cert.RefPleIdeal.τ).loc Cert.RefPleIdeal.main_arg1)) (m ((c.tc : Thread Cert.RefPleIdeal.nD Cert.RefPleIdeal.τ).loc Cert.RefPleIdeal.main_arg2)) (m ((c.tc : Thread Cert.RefPleIdeal.nD Cert.RefPleIdeal.τ).loc Cert.RefPleIdeal.main_arg3)) (m ((c.tc : Thread Cert.RefPleIdeal.nD Cert.RefPleIdeal.τ).loc Cert.RefPleIdeal.main_arg4)) (m ((c.tc : Thread Cert.RefPleIdeal.nD Cert.RefPleIdeal.τ).loc Cert.RefPleIdeal.main_arg5)) (m ((c.tc : Thread Cert.RefPleIdeal.nD Cert.RefPleIdeal.τ).loc Cert.RefPleIdeal.main_arg6))).2.2.2.1 = (fun _ => 1#1)
    ∧ (Cert.Pre_finite_ple.fn (F := Ideal) (m ((c.tc : Thread Cert.RefPleIdeal.nD Cert.RefPleIdeal.τ).loc Cert.RefPleIdeal.main_arg0)) (m ((c.tc : Thread Cert.RefPleIdeal.nD Cert.RefPleIdeal.τ).loc Cert.RefPleIdeal.main_arg1)) (m ((c.tc : Thread Cert.RefPleIdeal.nD Cert.RefPleIdeal.τ).loc Cert.RefPleIdeal.main_arg2)) (m ((c.tc : Thread Cert.RefPleIdeal.nD Cert.RefPleIdeal.τ).loc Cert.RefPleIdeal.main_arg3)) (m ((c.tc : Thread Cert.RefPleIdeal.nD Cert.RefPleIdeal.τ).loc Cert.RefPleIdeal.main_arg4)) (m ((c.tc : Thread Cert.RefPleIdeal.nD Cert.RefPleIdeal.τ).loc Cert.RefPleIdeal.main_arg5)) (m ((c.tc : Thread Cert.RefPleIdeal.nD Cert.RefPleIdeal.τ).loc Cert.RefPleIdeal.main_arg6))).2.2.2.2.1 = (fun _ => 1#1)
    ∧ (Cert.Pre_finite_ple.fn (F := Ideal) (m ((c.tc : Thread Cert.RefPleIdeal.nD Cert.RefPleIdeal.τ).loc Cert.RefPleIdeal.main_arg0)) (m ((c.tc : Thread Cert.RefPleIdeal.nD Cert.RefPleIdeal.τ).loc Cert.RefPleIdeal.main_arg1)) (m ((c.tc : Thread Cert.RefPleIdeal.nD Cert.RefPleIdeal.τ).loc Cert.RefPleIdeal.main_arg2)) (m ((c.tc : Thread Cert.RefPleIdeal.nD Cert.RefPleIdeal.τ).loc Cert.RefPleIdeal.main_arg3)) (m ((c.tc : Thread Cert.RefPleIdeal.nD Cert.RefPleIdeal.τ).loc Cert.RefPleIdeal.main_arg4)) (m ((c.tc : Thread Cert.RefPleIdeal.nD Cert.RefPleIdeal.τ).loc Cert.RefPleIdeal.main_arg5)) (m ((c.tc : Thread Cert.RefPleIdeal.nD Cert.RefPleIdeal.τ).loc Cert.RefPleIdeal.main_arg6))).2.2.2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_RefConvIdeal (m : (ℓ : Loc Cert.RefConvIdeal.nD Cert.RefConvIdeal.τ Cert.RefConvIdeal.sig) → Buf (Elt Ideal) ℓ) : Prop :=
  True

def Pre_MixB (m : (ℓ : Loc Cert.MixB.nD Cert.MixB.τ Cert.MixB.sig) → Buf (Elt Bits) ℓ) : Prop :=
  True

def Pre_MixBIdeal (m : (ℓ : Loc Cert.MixBIdeal.nD Cert.MixBIdeal.τ Cert.MixBIdeal.sig) → Buf (Elt Ideal) ℓ) : Prop :=
  True

def Pre_MixBIdeal_finite_mixb [hPre_finite_mixb : Cert.Pre_finite_mixb.Facts] (m : (ℓ : Loc Cert.MixBIdeal.nD Cert.MixBIdeal.τ Cert.MixBIdeal.sig) → Buf (Elt Ideal) ℓ) : Prop :=
  ∀ c : Dev Cert.MixBIdeal.nD,
    (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.2.2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.2.2.2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.2.2.2.2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.2.2.2.2.2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.2.2.2.2.2.2.2.1 = (fun _ => 1#1)
    ∧ (Cert.Pre_finite_mixb.fn (F := Ideal) (m ((c.tc : Thread Cert.MixBIdeal.nD Cert.MixBIdeal.τ).loc Cert.MixBIdeal.main_arg0)) (m ((c.tc : Thread Cert.MixBIdeal.nD Cert.MixBIdeal.τ).loc Cert.MixBIdeal.main_arg1)) (m ((c.tc : Thread Cert.MixBIdeal.nD Cert.MixBIdeal.τ).loc Cert.MixBIdeal.main_arg2)) (m ((c.tc : Thread Cert.MixBIdeal.nD Cert.MixBIdeal.τ).loc Cert.MixBIdeal.main_arg3)) (m ((c.tc : Thread Cert.MixBIdeal.nD Cert.MixBIdeal.τ).loc Cert.MixBIdeal.main_arg4)) (m ((c.tc : Thread Cert.MixBIdeal.nD Cert.MixBIdeal.τ).loc Cert.MixBIdeal.main_arg5)) (m ((c.tc : Thread Cert.MixBIdeal.nD Cert.MixBIdeal.τ).loc Cert.MixBIdeal.main_arg6)) (m ((c.tc : Thread Cert.MixBIdeal.nD Cert.MixBIdeal.τ).loc Cert.MixBIdeal.main_arg7)) (m ((c.tc : Thread Cert.MixBIdeal.nD Cert.MixBIdeal.τ).loc Cert.MixBIdeal.main_arg8)) (m ((c.tc : Thread Cert.MixBIdeal.nD Cert.MixBIdeal.τ).loc Cert.MixBIdeal.main_arg9)) (m ((c.tc : Thread Cert.MixBIdeal.nD Cert.MixBIdeal.τ).loc Cert.MixBIdeal.main_arg10)) (m ((c.tc : Thread Cert.MixBIdeal.nD Cert.MixBIdeal.τ).loc Cert.MixBIdeal.main_arg11)) (m ((c.tc : Thread Cert.MixBIdeal.nD Cert.MixBIdeal.τ).loc Cert.MixBIdeal.main_arg12)) (m ((c.tc : Thread Cert.MixBIdeal.nD Cert.MixBIdeal.τ).loc Cert.MixBIdeal.main_arg13))).2.2.2.2.2.2.2.2.2.2.2 = (fun _ => 1#1)

def Pre_RefMixBIdeal (m : (ℓ : Loc Cert.RefMixBIdeal.nD Cert.RefMixBIdeal.τ Cert.RefMixBIdeal.sig) → Buf (Elt Ideal) ℓ) : Prop :=
  True

def Pre_RefMixBIdeal_finite_mixb [hPre_finite_mixb : Cert.Pre_finite_mixb.Facts] (m : (ℓ : Loc Cert.RefMixBIdeal.nD Cert.RefMixBIdeal.τ Cert.RefMixBIdeal.sig) → Buf (Elt Ideal) ℓ) : Prop :=
  ∀ c : Dev Cert.RefMixBIdeal.nD,
    (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.2.2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.2.2.2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.2.2.2.2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.2.2.2.2.2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.2.2.2.2.2.2.2.1 = (fun _ => 1#1)
    ∧ (Cert.Pre_finite_mixb.fn (F := Ideal) (m ((c.tc : Thread Cert.RefMixBIdeal.nD Cert.RefMixBIdeal.τ).loc Cert.RefMixBIdeal.main_arg0)) (m ((c.tc : Thread Cert.RefMixBIdeal.nD Cert.RefMixBIdeal.τ).loc Cert.RefMixBIdeal.main_arg1)) (m ((c.tc : Thread Cert.RefMixBIdeal.nD Cert.RefMixBIdeal.τ).loc Cert.RefMixBIdeal.main_arg2)) (m ((c.tc : Thread Cert.RefMixBIdeal.nD Cert.RefMixBIdeal.τ).loc Cert.RefMixBIdeal.main_arg3)) (m ((c.tc : Thread Cert.RefMixBIdeal.nD Cert.RefMixBIdeal.τ).loc Cert.RefMixBIdeal.main_arg4)) (m ((c.tc : Thread Cert.RefMixBIdeal.nD Cert.RefMixBIdeal.τ).loc Cert.RefMixBIdeal.main_arg5)) (m ((c.tc : Thread Cert.RefMixBIdeal.nD Cert.RefMixBIdeal.τ).loc Cert.RefMixBIdeal.main_arg6)) (m ((c.tc : Thread Cert.RefMixBIdeal.nD Cert.RefMixBIdeal.τ).loc Cert.RefMixBIdeal.main_arg7)) (m ((c.tc : Thread Cert.RefMixBIdeal.nD Cert.RefMixBIdeal.τ).loc Cert.RefMixBIdeal.main_arg8)) (m ((c.tc : Thread Cert.RefMixBIdeal.nD Cert.RefMixBIdeal.τ).loc Cert.RefMixBIdeal.main_arg9)) (m ((c.tc : Thread Cert.RefMixBIdeal.nD Cert.RefMixBIdeal.τ).loc Cert.RefMixBIdeal.main_arg10)) (m ((c.tc : Thread Cert.RefMixBIdeal.nD Cert.RefMixBIdeal.τ).loc Cert.RefMixBIdeal.main_arg11)) (m ((c.tc : Thread Cert.RefMixBIdeal.nD Cert.RefMixBIdeal.τ).loc Cert.RefMixBIdeal.main_arg12)) (m ((c.tc : Thread Cert.RefMixBIdeal.nD Cert.RefMixBIdeal.τ).loc Cert.RefMixBIdeal.main_arg13))).2.2.2.2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.1 = (fun _ => 1#1)
    ∧ (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2.2 = (fun _ => 1#1)

def Pre_RefFfnIdeal (m : (ℓ : Loc Cert.RefFfnIdeal.nD Cert.RefFfnIdeal.τ Cert.RefFfnIdeal.sig) → Buf (Elt Ideal) ℓ) : Prop :=
  True

def Pre_RefFfnIdeal_finite_ffn [hPre_finite_ffn : Cert.Pre_finite_ffn.Facts] (m : (ℓ : Loc Cert.RefFfnIdeal.nD Cert.RefFfnIdeal.τ Cert.RefFfnIdeal.sig) → Buf (Elt Ideal) ℓ) : Prop :=
  ∀ c : Dev Cert.RefFfnIdeal.nD,
    (Cert.Pre_finite_ffn.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).1 = (fun _ => 1#1)
    ∧ (Cert.Pre_finite_ffn.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).2.1 = (fun _ => 1#1)
    ∧ (Cert.Pre_finite_ffn.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).2.2.1 = (fun _ => 1#1)
    ∧ (Cert.Pre_finite_ffn.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).2.2.2.1 = (fun _ => 1#1)
    ∧ (Cert.Pre_finite_ffn.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))).2.2.2.2 = (fun _ => 1#1)

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_RefS5Ideal (m : (ℓ : Loc Cert.RefS5Ideal.nD Cert.RefS5Ideal.τ Cert.RefS5Ideal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4))).2.2 = (fun _ => 1#1)

def Pre_RefFwdIdeal (m : (ℓ : Loc Cert.RefFwdIdeal.nD Cert.RefFwdIdeal.τ Cert.RefFwdIdeal.sig) → Buf (Elt Ideal) ℓ) : Prop :=
  True

def Pre_RefFwdIdeal_finite_fwd [hPre_finite_fwd : Cert.Pre_finite_fwd.Facts] (m : (ℓ : Loc Cert.RefFwdIdeal.nD Cert.RefFwdIdeal.τ Cert.RefFwdIdeal.sig) → Buf (Elt Ideal) ℓ) : Prop :=
  ∀ c : Dev Cert.RefFwdIdeal.nD,
    (Cert.Pre_finite_fwd.fn (F := Ideal) (m ((c.tc : Thread Cert.RefFwdIdeal.nD Cert.RefFwdIdeal.τ).loc Cert.RefFwdIdeal.main_arg0)) (m ((c.tc : Thread Cert.RefFwdIdeal.nD Cert.RefFwdIdeal.τ).loc Cert.RefFwdIdeal.main_arg1)) (m ((c.tc : Thread Cert.RefFwdIdeal.nD Cert.RefFwdIdeal.τ).loc Cert.RefFwdIdeal.main_arg2)) (m ((c.tc : Thread Cert.RefFwdIdeal.nD Cert.RefFwdIdeal.τ).loc Cert.RefFwdIdeal.main_arg3)) (m ((c.tc : Thread Cert.RefFwdIdeal.nD Cert.RefFwdIdeal.τ).loc Cert.RefFwdIdeal.main_arg4))).1 = (fun _ => 1#1)
    ∧ (Cert.Pre_finite_fwd.fn (F := Ideal) (m ((c.tc : Thread Cert.RefFwdIdeal.nD Cert.RefFwdIdeal.τ).loc Cert.RefFwdIdeal.main_arg0)) (m ((c.tc : Thread Cert.RefFwdIdeal.nD Cert.RefFwdIdeal.τ).loc Cert.RefFwdIdeal.main_arg1)) (m ((c.tc : Thread Cert.RefFwdIdeal.nD Cert.RefFwdIdeal.τ).loc Cert.RefFwdIdeal.main_arg2)) (m ((c.tc : Thread Cert.RefFwdIdeal.nD Cert.RefFwdIdeal.τ).loc Cert.RefFwdIdeal.main_arg3)) (m ((c.tc : Thread Cert.RefFwdIdeal.nD Cert.RefFwdIdeal.τ).loc Cert.RefFwdIdeal.main_arg4))).2.1 = (fun _ => 1#1)
    ∧ (Cert.Pre_finite_fwd.fn (F := Ideal) (m ((c.tc : Thread Cert.RefFwdIdeal.nD Cert.RefFwdIdeal.τ).loc Cert.RefFwdIdeal.main_arg0)) (m ((c.tc : Thread Cert.RefFwdIdeal.nD Cert.RefFwdIdeal.τ).loc Cert.RefFwdIdeal.main_arg1)) (m ((c.tc : Thread Cert.RefFwdIdeal.nD Cert.RefFwdIdeal.τ).loc Cert.RefFwdIdeal.main_arg2)) (m ((c.tc : Thread Cert.RefFwdIdeal.nD Cert.RefFwdIdeal.τ).loc Cert.RefFwdIdeal.main_arg3)) (m ((c.tc : Thread Cert.RefFwdIdeal.nD Cert.RefFwdIdeal.τ).loc Cert.RefFwdIdeal.main_arg4))).2.2 = (fun _ => 1#1)

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFIdeal_finite_mixf [hPre_finite_mixf : Cert.Pre_finite_mixf.Facts] (m : (ℓ : Loc Cert.MixFIdeal.nD Cert.MixFIdeal.τ Cert.MixFIdeal.sig) → Buf (Elt Ideal) ℓ) : Prop :=
  ∀ c : Dev Cert.MixFIdeal.nD,
    (Cert.Pre_finite_mixf.fn (F := Ideal) (m ((c.tc : Thread Cert.MixFIdeal.nD Cert.MixFIdeal.τ).loc Cert.MixFIdeal.main_arg0)) (m ((c.tc : Thread Cert.MixFIdeal.nD Cert.MixFIdeal.τ).loc Cert.MixFIdeal.main_arg1)) (m ((c.tc : Thread Cert.MixFIdeal.nD Cert.MixFIdeal.τ).loc Cert.MixFIdeal.main_arg2)) (m ((c.tc : Thread Cert.MixFIdeal.nD Cert.MixFIdeal.τ).loc Cert.MixFIdeal.main_arg3)) (m ((c.tc : Thread Cert.MixFIdeal.nD Cert.MixFIdeal.τ).loc Cert.MixFIdeal.main_arg4)) (m ((c.tc : Thread Cert.MixFIdeal.nD Cert.MixFIdeal.τ).loc Cert.MixFIdeal.main_arg5)) (m ((c.tc : Thread Cert.MixFIdeal.nD Cert.MixFIdeal.τ).loc Cert.MixFIdeal.main_arg6)) (m ((c.tc : Thread Cert.MixFIdeal.nD Cert.MixFIdeal.τ).loc Cert.MixFIdeal.main_arg7)) (m ((c.tc : Thread Cert.MixFIdeal.nD Cert.MixFIdeal.τ).loc Cert.MixFIdeal.main_arg8)) (m ((c.tc : Thread Cert.MixFIdeal.nD Cert.MixFIdeal.τ).loc Cert.MixFIdeal.main_arg9)) (m ((c.tc : Thread Cert.MixFIdeal.nD Cert.MixFIdeal.τ).loc Cert.MixFIdeal.main_arg10)) (m ((c.tc : Thread Cert.MixFIdeal.nD Cert.MixFIdeal.τ).loc Cert.MixFIdeal.main_arg11)) (m ((c.tc : Thread Cert.MixFIdeal.nD Cert.MixFIdeal.τ).loc Cert.MixFIdeal.main_arg12)) (m ((c.tc : Thread Cert.MixFIdeal.nD Cert.MixFIdeal.τ).loc Cert.MixFIdeal.main_arg13))).1 = (fun _ => 1#1)
    ∧ (Cert.Pre_finite_mixf.fn (F := Ideal) (m ((c.tc : Thread Cert.MixFIdeal.nD Cert.MixFIdeal.τ).loc Cert.MixFIdeal.main_arg0)) (m ((c.tc : Thread Cert.MixFIdeal.nD Cert.MixFIdeal.τ).loc Cert.MixFIdeal.main_arg1)) (m ((c.tc : Thread Cert.MixFIdeal.nD Cert.MixFIdeal.τ).loc Cert.MixFIdeal.main_arg2)) (m ((c.tc : Thread Cert.MixFIdeal.nD Cert.MixFIdeal.τ).loc Cert.MixFIdeal.main_arg3)) (m ((c.tc : Thread Cert.MixFIdeal.nD Cert.MixFIdeal.τ).loc Cert.MixFIdeal.main_arg4)) (m ((c.tc : Thread Cert.MixFIdeal.nD Cert.MixFIdeal.τ).loc Cert.MixFIdeal.main_arg5)) (m ((c.tc : Thread Cert.MixFIdeal.nD Cert.MixFIdeal.τ).loc Cert.MixFIdeal.main_arg6)) (m ((c.tc : Thread Cert.MixFIdeal.nD Cert.MixFIdeal.τ).loc Cert.MixFIdeal.main_arg7)) (m ((c.tc : Thread Cert.MixFIdeal.nD Cert.MixFIdeal.τ).loc Cert.MixFIdeal.main_arg8)) (m ((c.tc : Thread Cert.MixFIdeal.nD Cert.MixFIdeal.τ).loc Cert.MixFIdeal.main_arg9)) (m ((c.tc : Thread Cert.MixFIdeal.nD Cert.MixFIdeal.τ).loc Cert.MixFIdeal.main_arg10)) (m ((c.tc : Thread Cert.MixFIdeal.nD Cert.MixFIdeal.τ).loc Cert.MixFIdeal.main_arg11)) (m ((c.tc : Thread Cert.MixFIdeal.nD Cert.MixFIdeal.τ).loc Cert.MixFIdeal.main_arg12)) (m ((c.tc : Thread Cert.MixFIdeal.nD Cert.MixFIdeal.τ).loc Cert.MixFIdeal.main_arg13))).2 = (fun _ => 1#1)

def Pre_RefMixFIdeal (m : (ℓ : Loc Cert.RefMixFIdeal.nD Cert.RefMixFIdeal.τ Cert.RefMixFIdeal.sig) → Buf (Elt Ideal) ℓ) : Prop :=
  True

def Pre_RefMixFIdeal_finite_mixf [hPre_finite_mixf : Cert.Pre_finite_mixf.Facts] (m : (ℓ : Loc Cert.RefMixFIdeal.nD Cert.RefMixFIdeal.τ Cert.RefMixFIdeal.sig) → Buf (Elt Ideal) ℓ) : Prop :=
  ∀ c : Dev Cert.RefMixFIdeal.nD,
    (Cert.Pre_finite_mixf.fn (F := Ideal) (m ((c.tc : Thread Cert.RefMixFIdeal.nD Cert.RefMixFIdeal.τ).loc Cert.RefMixFIdeal.main_arg0)) (m ((c.tc : Thread Cert.RefMixFIdeal.nD Cert.RefMixFIdeal.τ).loc Cert.RefMixFIdeal.main_arg1)) (m ((c.tc : Thread Cert.RefMixFIdeal.nD Cert.RefMixFIdeal.τ).loc Cert.RefMixFIdeal.main_arg2)) (m ((c.tc : Thread Cert.RefMixFIdeal.nD Cert.RefMixFIdeal.τ).loc Cert.RefMixFIdeal.main_arg3)) (m ((c.tc : Thread Cert.RefMixFIdeal.nD Cert.RefMixFIdeal.τ).loc Cert.RefMixFIdeal.main_arg4)) (m ((c.tc : Thread Cert.RefMixFIdeal.nD Cert.RefMixFIdeal.τ).loc Cert.RefMixFIdeal.main_arg5)) (m ((c.tc : Thread Cert.RefMixFIdeal.nD Cert.RefMixFIdeal.τ).loc Cert.RefMixFIdeal.main_arg6)) (m ((c.tc : Thread Cert.RefMixFIdeal.nD Cert.RefMixFIdeal.τ).loc Cert.RefMixFIdeal.main_arg7)) (m ((c.tc : Thread Cert.RefMixFIdeal.nD Cert.RefMixFIdeal.τ).loc Cert.RefMixFIdeal.main_arg8)) (m ((c.tc : Thread Cert.RefMixFIdeal.nD Cert.RefMixFIdeal.τ).loc Cert.RefMixFIdeal.main_arg9)) (m ((c.tc : Thread Cert.RefMixFIdeal.nD Cert.RefMixFIdeal.τ).loc Cert.RefMixFIdeal.main_arg10)) (m ((c.tc : Thread Cert.RefMixFIdeal.nD Cert.RefMixFIdeal.τ).loc Cert.RefMixFIdeal.main_arg11)) (m ((c.tc : Thread Cert.RefMixFIdeal.nD Cert.RefMixFIdeal.τ).loc Cert.RefMixFIdeal.main_arg12)) (m ((c.tc : Thread Cert.RefMixFIdeal.nD Cert.RefMixFIdeal.τ).loc Cert.RefMixFIdeal.main_arg13))).1 = (fun _ => 1#1)
    ∧ (Cert.Pre_finite_mixf.fn (F := Ideal) (m ((c.tc : Thread Cert.RefMixFIdeal.nD Cert.RefMixFIdeal.τ).loc Cert.RefMixFIdeal.main_arg0)) (m ((c.tc : Thread Cert.RefMixFIdeal.nD Cert.RefMixFIdeal.τ).loc Cert.RefMixFIdeal.main_arg1)) (m ((c.tc : Thread Cert.RefMixFIdeal.nD Cert.RefMixFIdeal.τ).loc Cert.RefMixFIdeal.main_arg2)) (m ((c.tc : Thread Cert.RefMixFIdeal.nD Cert.RefMixFIdeal.τ).loc Cert.RefMixFIdeal.main_arg3)) (m ((c.tc : Thread Cert.RefMixFIdeal.nD Cert.RefMixFIdeal.τ).loc Cert.RefMixFIdeal.main_arg4)) (m ((c.tc : Thread Cert.RefMixFIdeal.nD Cert.RefMixFIdeal.τ).loc Cert.RefMixFIdeal.main_arg5)) (m ((c.tc : Thread Cert.RefMixFIdeal.nD Cert.RefMixFIdeal.τ).loc Cert.RefMixFIdeal.main_arg6)) (m ((c.tc : Thread Cert.RefMixFIdeal.nD Cert.RefMixFIdeal.τ).loc Cert.RefMixFIdeal.main_arg7)) (m ((c.tc : Thread Cert.RefMixFIdeal.nD Cert.RefMixFIdeal.τ).loc Cert.RefMixFIdeal.main_arg8)) (m ((c.tc : Thread Cert.RefMixFIdeal.nD Cert.RefMixFIdeal.τ).loc Cert.RefMixFIdeal.main_arg9)) (m ((c.tc : Thread Cert.RefMixFIdeal.nD Cert.RefMixFIdeal.τ).loc Cert.RefMixFIdeal.main_arg10)) (m ((c.tc : Thread Cert.RefMixFIdeal.nD Cert.RefMixFIdeal.τ).loc Cert.RefMixFIdeal.main_arg11)) (m ((c.tc : Thread Cert.RefMixFIdeal.nD Cert.RefMixFIdeal.τ).loc Cert.RefMixFIdeal.main_arg12)) (m ((c.tc : Thread Cert.RefMixFIdeal.nD Cert.RefMixFIdeal.τ).loc Cert.RefMixFIdeal.main_arg13))).2 = (fun _ => 1#1)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_PleIdeal_pre_finite_ple [hPleIdeal : Cert.PleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg), Pre_PleIdeal_finite_ple m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ r.2.sem = fun _ => 0)

def quiescent_RefPleIdeal [hRefPleIdeal : Cert.RefPleIdeal.Facts] : Prop :=
  ∀ (m : (ℓ : Loc Cert.RefPleIdeal.nD Cert.RefPleIdeal.τ Cert.RefPleIdeal.sig) → Buf (Elt Ideal) ℓ) (g : Dev Cert.RefPleIdeal.nD → PrngReg), Pre_RefPleIdeal m →
    θ_run (Cert.RefPleIdeal.defs (F := Ideal)) (onTc (τ := Cert.RefPleIdeal.τ) (Cert.RefPleIdeal.main (F := Ideal))) ⟨m, fun _ => 0, g⟩ (fun r => (∀ c : Dev Cert.RefPleIdeal.nD,
      r.2.mem ((c.tc : Thread Cert.RefPleIdeal.nD Cert.RefPleIdeal.τ).loc Cert.RefPleIdeal.main_arg0) = m ((c.tc : Thread Cert.RefPleIdeal.nD Cert.RefPleIdeal.τ).loc Cert.RefPleIdeal.main_arg0)
      ∧ r.2.mem ((c.tc : Thread Cert.RefPleIdeal.nD Cert.RefPleIdeal.τ).loc Cert.RefPleIdeal.main_arg1) = m ((c.tc : Thread Cert.RefPleIdeal.nD Cert.RefPleIdeal.τ).loc Cert.RefPleIdeal.main_arg1)
      ∧ r.2.mem ((c.tc : Thread Cert.RefPleIdeal.nD Cert.RefPleIdeal.τ).loc Cert.RefPleIdeal.main_arg2) = m ((c.tc : Thread Cert.RefPleIdeal.nD Cert.RefPleIdeal.τ).loc Cert.RefPleIdeal.main_arg2)
      ∧ r.2.mem ((c.tc : Thread Cert.RefPleIdeal.nD Cert.RefPleIdeal.τ).loc Cert.RefPleIdeal.main_arg3) = m ((c.tc : Thread Cert.RefPleIdeal.nD Cert.RefPleIdeal.τ).loc Cert.RefPleIdeal.main_arg3)
      ∧ r.2.mem ((c.tc : Thread Cert.RefPleIdeal.nD Cert.RefPleIdeal.τ).loc Cert.RefPleIdeal.main_arg4) = m ((c.tc : Thread Cert.RefPleIdeal.nD Cert.RefPleIdeal.τ).loc Cert.RefPleIdeal.main_arg4)
      ∧ r.2.mem ((c.tc : Thread Cert.RefPleIdeal.nD Cert.RefPleIdeal.τ).loc Cert.RefPleIdeal.main_arg5) = m ((c.tc : Thread Cert.RefPleIdeal.nD Cert.RefPleIdeal.τ).loc Cert.RefPleIdeal.main_arg5)
      ∧ r.2.mem ((c.tc : Thread Cert.RefPleIdeal.nD Cert.RefPleIdeal.τ).loc Cert.RefPleIdeal.main_arg6) = m ((c.tc : Thread Cert.RefPleIdeal.nD Cert.RefPleIdeal.τ).loc Cert.RefPleIdeal.main_arg6))
      ∧ r.2.sem = fun _ => 0)

def quiescent_RefPleIdeal_pre_finite_ple [hRefPleIdeal : Cert.RefPleIdeal.Facts] [hPre_finite_ple : Cert.Pre_finite_ple.Facts] : Prop :=
  ∀ (m : (ℓ : Loc Cert.RefPleIdeal.nD Cert.RefPleIdeal.τ Cert.RefPleIdeal.sig) → Buf (Elt Ideal) ℓ) (g : Dev Cert.RefPleIdeal.nD → PrngReg), Pre_RefPleIdeal_finite_ple m →
    θ_run (Cert.RefPleIdeal.defs (F := Ideal)) (onTc (τ := Cert.RefPleIdeal.τ) (Cert.RefPleIdeal.main (F := Ideal))) ⟨m, fun _ => 0, g⟩ (fun r => (∀ c : Dev Cert.RefPleIdeal.nD,
      r.2.mem ((c.tc : Thread Cert.RefPleIdeal.nD Cert.RefPleIdeal.τ).loc Cert.RefPleIdeal.main_arg0) = m ((c.tc : Thread Cert.RefPleIdeal.nD Cert.RefPleIdeal.τ).loc Cert.RefPleIdeal.main_arg0)
      ∧ r.2.mem ((c.tc : Thread Cert.RefPleIdeal.nD Cert.RefPleIdeal.τ).loc Cert.RefPleIdeal.main_arg1) = m ((c.tc : Thread Cert.RefPleIdeal.nD Cert.RefPleIdeal.τ).loc Cert.RefPleIdeal.main_arg1)
      ∧ r.2.mem ((c.tc : Thread Cert.RefPleIdeal.nD Cert.RefPleIdeal.τ).loc Cert.RefPleIdeal.main_arg2) = m ((c.tc : Thread Cert.RefPleIdeal.nD Cert.RefPleIdeal.τ).loc Cert.RefPleIdeal.main_arg2)
      ∧ r.2.mem ((c.tc : Thread Cert.RefPleIdeal.nD Cert.RefPleIdeal.τ).loc Cert.RefPleIdeal.main_arg3) = m ((c.tc : Thread Cert.RefPleIdeal.nD Cert.RefPleIdeal.τ).loc Cert.RefPleIdeal.main_arg3)
      ∧ r.2.mem ((c.tc : Thread Cert.RefPleIdeal.nD Cert.RefPleIdeal.τ).loc Cert.RefPleIdeal.main_arg4) = m ((c.tc : Thread Cert.RefPleIdeal.nD Cert.RefPleIdeal.τ).loc Cert.RefPleIdeal.main_arg4)
      ∧ r.2.mem ((c.tc : Thread Cert.RefPleIdeal.nD Cert.RefPleIdeal.τ).loc Cert.RefPleIdeal.main_arg5) = m ((c.tc : Thread Cert.RefPleIdeal.nD Cert.RefPleIdeal.τ).loc Cert.RefPleIdeal.main_arg5)
      ∧ r.2.mem ((c.tc : Thread Cert.RefPleIdeal.nD Cert.RefPleIdeal.τ).loc Cert.RefPleIdeal.main_arg6) = m ((c.tc : Thread Cert.RefPleIdeal.nD Cert.RefPleIdeal.τ).loc Cert.RefPleIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_RefConvIdeal [hRefConvIdeal : Cert.RefConvIdeal.Facts] : Prop :=
  ∀ (m : (ℓ : Loc Cert.RefConvIdeal.nD Cert.RefConvIdeal.τ Cert.RefConvIdeal.sig) → Buf (Elt Ideal) ℓ) (g : Dev Cert.RefConvIdeal.nD → PrngReg), Pre_RefConvIdeal m →
    θ_run (Cert.RefConvIdeal.defs (F := Ideal)) (onTc (τ := Cert.RefConvIdeal.τ) (Cert.RefConvIdeal.main (F := Ideal))) ⟨m, fun _ => 0, g⟩ (fun r => (∀ c : Dev Cert.RefConvIdeal.nD,
      r.2.mem ((c.tc : Thread Cert.RefConvIdeal.nD Cert.RefConvIdeal.τ).loc Cert.RefConvIdeal.main_arg0) = m ((c.tc : Thread Cert.RefConvIdeal.nD Cert.RefConvIdeal.τ).loc Cert.RefConvIdeal.main_arg0)
      ∧ r.2.mem ((c.tc : Thread Cert.RefConvIdeal.nD Cert.RefConvIdeal.τ).loc Cert.RefConvIdeal.main_arg1) = m ((c.tc : Thread Cert.RefConvIdeal.nD Cert.RefConvIdeal.τ).loc Cert.RefConvIdeal.main_arg1)
      ∧ r.2.mem ((c.tc : Thread Cert.RefConvIdeal.nD Cert.RefConvIdeal.τ).loc Cert.RefConvIdeal.main_arg2) = m ((c.tc : Thread Cert.RefConvIdeal.nD Cert.RefConvIdeal.τ).loc Cert.RefConvIdeal.main_arg2)
      ∧ r.2.mem ((c.tc : Thread Cert.RefConvIdeal.nD Cert.RefConvIdeal.τ).loc Cert.RefConvIdeal.main_arg3) = m ((c.tc : Thread Cert.RefConvIdeal.nD Cert.RefConvIdeal.τ).loc Cert.RefConvIdeal.main_arg3)
      ∧ r.2.mem ((c.tc : Thread Cert.RefConvIdeal.nD Cert.RefConvIdeal.τ).loc Cert.RefConvIdeal.main_arg4) = m ((c.tc : Thread Cert.RefConvIdeal.nD Cert.RefConvIdeal.τ).loc Cert.RefConvIdeal.main_arg4)
      ∧ r.2.mem ((c.tc : Thread Cert.RefConvIdeal.nD Cert.RefConvIdeal.τ).loc Cert.RefConvIdeal.main_arg5) = m ((c.tc : Thread Cert.RefConvIdeal.nD Cert.RefConvIdeal.τ).loc Cert.RefConvIdeal.main_arg5)
      ∧ r.2.mem ((c.tc : Thread Cert.RefConvIdeal.nD Cert.RefConvIdeal.τ).loc Cert.RefConvIdeal.main_arg6) = m ((c.tc : Thread Cert.RefConvIdeal.nD Cert.RefConvIdeal.τ).loc Cert.RefConvIdeal.main_arg6)
      ∧ r.2.mem ((c.tc : Thread Cert.RefConvIdeal.nD Cert.RefConvIdeal.τ).loc Cert.RefConvIdeal.main_arg7) = m ((c.tc : Thread Cert.RefConvIdeal.nD Cert.RefConvIdeal.τ).loc Cert.RefConvIdeal.main_arg7)
      ∧ r.2.mem ((c.tc : Thread Cert.RefConvIdeal.nD Cert.RefConvIdeal.τ).loc Cert.RefConvIdeal.main_arg8) = m ((c.tc : Thread Cert.RefConvIdeal.nD Cert.RefConvIdeal.τ).loc Cert.RefConvIdeal.main_arg8)
      ∧ r.2.mem ((c.tc : Thread Cert.RefConvIdeal.nD Cert.RefConvIdeal.τ).loc Cert.RefConvIdeal.main_arg9) = m ((c.tc : Thread Cert.RefConvIdeal.nD Cert.RefConvIdeal.τ).loc Cert.RefConvIdeal.main_arg9))
      ∧ r.2.sem = fun _ => 0)

def quiescent_MixB [hMixB : Cert.MixB.Facts] : Prop :=
  ∀ (m : (ℓ : Loc Cert.MixB.nD Cert.MixB.τ Cert.MixB.sig) → Buf (Elt Bits) ℓ) (g : Dev Cert.MixB.nD → PrngReg), Pre_MixB m →
    θ_run (Cert.MixB.defs (F := Bits)) (onTc (τ := Cert.MixB.τ) (Cert.MixB.main (F := Bits))) ⟨m, fun _ => 0, g⟩ (fun r => (∀ c : Dev Cert.MixB.nD,
      r.2.mem ((c.tc : Thread Cert.MixB.nD Cert.MixB.τ).loc Cert.MixB.main_arg0) = m ((c.tc : Thread Cert.MixB.nD Cert.MixB.τ).loc Cert.MixB.main_arg0)
      ∧ r.2.mem ((c.tc : Thread Cert.MixB.nD Cert.MixB.τ).loc Cert.MixB.main_arg1) = m ((c.tc : Thread Cert.MixB.nD Cert.MixB.τ).loc Cert.MixB.main_arg1)
      ∧ r.2.mem ((c.tc : Thread Cert.MixB.nD Cert.MixB.τ).loc Cert.MixB.main_arg2) = m ((c.tc : Thread Cert.MixB.nD Cert.MixB.τ).loc Cert.MixB.main_arg2)
      ∧ r.2.mem ((c.tc : Thread Cert.MixB.nD Cert.MixB.τ).loc Cert.MixB.main_arg3) = m ((c.tc : Thread Cert.MixB.nD Cert.MixB.τ).loc Cert.MixB.main_arg3)
      ∧ r.2.mem ((c.tc : Thread Cert.MixB.nD Cert.MixB.τ).loc Cert.MixB.main_arg4) = m ((c.tc : Thread Cert.MixB.nD Cert.MixB.τ).loc Cert.MixB.main_arg4)
      ∧ r.2.mem ((c.tc : Thread Cert.MixB.nD Cert.MixB.τ).loc Cert.MixB.main_arg5) = m ((c.tc : Thread Cert.MixB.nD Cert.MixB.τ).loc Cert.MixB.main_arg5)
      ∧ r.2.mem ((c.tc : Thread Cert.MixB.nD Cert.MixB.τ).loc Cert.MixB.main_arg6) = m ((c.tc : Thread Cert.MixB.nD Cert.MixB.τ).loc Cert.MixB.main_arg6)
      ∧ r.2.mem ((c.tc : Thread Cert.MixB.nD Cert.MixB.τ).loc Cert.MixB.main_arg7) = m ((c.tc : Thread Cert.MixB.nD Cert.MixB.τ).loc Cert.MixB.main_arg7)
      ∧ r.2.mem ((c.tc : Thread Cert.MixB.nD Cert.MixB.τ).loc Cert.MixB.main_arg8) = m ((c.tc : Thread Cert.MixB.nD Cert.MixB.τ).loc Cert.MixB.main_arg8)
      ∧ r.2.mem ((c.tc : Thread Cert.MixB.nD Cert.MixB.τ).loc Cert.MixB.main_arg9) = m ((c.tc : Thread Cert.MixB.nD Cert.MixB.τ).loc Cert.MixB.main_arg9)
      ∧ r.2.mem ((c.tc : Thread Cert.MixB.nD Cert.MixB.τ).loc Cert.MixB.main_arg10) = m ((c.tc : Thread Cert.MixB.nD Cert.MixB.τ).loc Cert.MixB.main_arg10)
      ∧ r.2.mem ((c.tc : Thread Cert.MixB.nD Cert.MixB.τ).loc Cert.MixB.main_arg11) = m ((c.tc : Thread Cert.MixB.nD Cert.MixB.τ).loc Cert.MixB.main_arg11)
      ∧ r.2.mem ((c.tc : Thread Cert.MixB.nD Cert.MixB.τ).loc Cert.MixB.main_arg12) = m ((c.tc : Thread Cert.MixB.nD Cert.MixB.τ).loc Cert.MixB.main_arg12)
      ∧ r.2.mem ((c.tc : Thread Cert.MixB.nD Cert.MixB.τ).loc Cert.MixB.main_arg13) = m ((c.tc : Thread Cert.MixB.nD Cert.MixB.τ).loc Cert.MixB.main_arg13))
      ∧ r.2.sem = fun _ => 0)

def quiescent_MixBIdeal [hMixBIdeal : Cert.MixBIdeal.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
      ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
      ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
      ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
      ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6)
      ∧ r.2.mem ((c.tc : Thread Cert.MixBIdeal.nD Cert.MixBIdeal.τ).loc Cert.MixBIdeal.main_arg7) = m ((c.tc : Thread Cert.MixBIdeal.nD Cert.MixBIdeal.τ).loc Cert.MixBIdeal.main_arg7)
      ∧ r.2.mem ((c.tc : Thread Cert.MixBIdeal.nD Cert.MixBIdeal.τ).loc Cert.MixBIdeal.main_arg8) = m ((c.tc : Thread Cert.MixBIdeal.nD Cert.MixBIdeal.τ).loc Cert.MixBIdeal.main_arg8)
      ∧ r.2.mem ((c.tc : Thread Cert.MixBIdeal.nD Cert.MixBIdeal.τ).loc Cert.MixBIdeal.main_arg9) = m ((c.tc : Thread Cert.MixBIdeal.nD Cert.MixBIdeal.τ).loc Cert.MixBIdeal.main_arg9)
      ∧ r.2.mem ((c.tc : Thread Cert.MixBIdeal.nD Cert.MixBIdeal.τ).loc Cert.MixBIdeal.main_arg10) = m ((c.tc : Thread Cert.MixBIdeal.nD Cert.MixBIdeal.τ).loc Cert.MixBIdeal.main_arg10)
      ∧ r.2.mem ((c.tc : Thread Cert.MixBIdeal.nD Cert.MixBIdeal.τ).loc Cert.MixBIdeal.main_arg11) = m ((c.tc : Thread Cert.MixBIdeal.nD Cert.MixBIdeal.τ).loc Cert.MixBIdeal.main_arg11)
      ∧ r.2.mem ((c.tc : Thread Cert.MixBIdeal.nD Cert.MixBIdeal.τ).loc Cert.MixBIdeal.main_arg12) = m ((c.tc : Thread Cert.MixBIdeal.nD Cert.MixBIdeal.τ).loc Cert.MixBIdeal.main_arg12)
      ∧ r.2.mem ((c.tc : Thread Cert.MixBIdeal.nD Cert.MixBIdeal.τ).loc Cert.MixBIdeal.main_arg13) = m ((c.tc : Thread Cert.MixBIdeal.nD Cert.MixBIdeal.τ).loc Cert.MixBIdeal.main_arg13))
      ∧ r.2.sem = fun _ => 0)

def quiescent_MixBIdeal_pre_finite_mixb [hMixBIdeal : Cert.MixBIdeal.Facts] [hPre_finite_mixb : Cert.Pre_finite_mixb.Facts] : Prop :=
  ∀ (m : (ℓ : Loc Cert.MixBIdeal.nD Cert.MixBIdeal.τ Cert.MixBIdeal.sig) → Buf (Elt Ideal) ℓ) (g : Dev Cert.MixBIdeal.nD → PrngReg), Pre_MixBIdeal_finite_mixb m →
    θ_run (Cert.MixBIdeal.defs (F := Ideal)) (onTc (τ := Cert.MixBIdeal.τ) (Cert.MixBIdeal.main (F := Ideal))) ⟨m, fun _ => 0, g⟩ (fun r => (∀ c : Dev Cert.MixBIdeal.nD,
      r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
      ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
      ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
      ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
      ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
      ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
      ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6)
      ∧ r.2.mem ((c.tc : Thread Cert.MixBIdeal.nD Cert.MixBIdeal.τ).loc Cert.MixBIdeal.main_arg7) = m ((c.tc : Thread Cert.MixBIdeal.nD Cert.MixBIdeal.τ).loc Cert.MixBIdeal.main_arg7)
      ∧ r.2.mem ((c.tc : Thread Cert.MixBIdeal.nD Cert.MixBIdeal.τ).loc Cert.MixBIdeal.main_arg8) = m ((c.tc : Thread Cert.MixBIdeal.nD Cert.MixBIdeal.τ).loc Cert.MixBIdeal.main_arg8)
      ∧ r.2.mem ((c.tc : Thread Cert.MixBIdeal.nD Cert.MixBIdeal.τ).loc Cert.MixBIdeal.main_arg9) = m ((c.tc : Thread Cert.MixBIdeal.nD Cert.MixBIdeal.τ).loc Cert.MixBIdeal.main_arg9)
      ∧ r.2.mem ((c.tc : Thread Cert.MixBIdeal.nD Cert.MixBIdeal.τ).loc Cert.MixBIdeal.main_arg10) = m ((c.tc : Thread Cert.MixBIdeal.nD Cert.MixBIdeal.τ).loc Cert.MixBIdeal.main_arg10)
      ∧ r.2.mem ((c.tc : Thread Cert.MixBIdeal.nD Cert.MixBIdeal.τ).loc Cert.MixBIdeal.main_arg11) = m ((c.tc : Thread Cert.MixBIdeal.nD Cert.MixBIdeal.τ).loc Cert.MixBIdeal.main_arg11)
      ∧ r.2.mem ((c.tc : Thread Cert.MixBIdeal.nD Cert.MixBIdeal.τ).loc Cert.MixBIdeal.main_arg12) = m ((c.tc : Thread Cert.MixBIdeal.nD Cert.MixBIdeal.τ).loc Cert.MixBIdeal.main_arg12)
      ∧ r.2.mem ((c.tc : Thread Cert.MixBIdeal.nD Cert.MixBIdeal.τ).loc Cert.MixBIdeal.main_arg13) = m ((c.tc : Thread Cert.MixBIdeal.nD Cert.MixBIdeal.τ).loc Cert.MixBIdeal.main_arg13))
      ∧ r.2.sem = fun _ => 0)

def quiescent_RefMixBIdeal [hRefMixBIdeal : Cert.RefMixBIdeal.Facts] : Prop :=
  ∀ (m : (ℓ : Loc Cert.RefMixBIdeal.nD Cert.RefMixBIdeal.τ Cert.RefMixBIdeal.sig) → Buf (Elt Ideal) ℓ) (g : Dev Cert.RefMixBIdeal.nD → PrngReg), Pre_RefMixBIdeal m →
    θ_run (Cert.RefMixBIdeal.defs (F := Ideal)) (onTc (τ := Cert.RefMixBIdeal.τ) (Cert.RefMixBIdeal.main (F := Ideal))) ⟨m, fun _ => 0, g⟩ (fun r => (∀ c : Dev Cert.RefMixBIdeal.nD,
      r.2.mem ((c.tc : Thread Cert.RefMixBIdeal.nD Cert.RefMixBIdeal.τ).loc Cert.RefMixBIdeal.main_arg0) = m ((c.tc : Thread Cert.RefMixBIdeal.nD Cert.RefMixBIdeal.τ).loc Cert.RefMixBIdeal.main_arg0)
      ∧ r.2.mem ((c.tc : Thread Cert.RefMixBIdeal.nD Cert.RefMixBIdeal.τ).loc Cert.RefMixBIdeal.main_arg1) = m ((c.tc : Thread Cert.RefMixBIdeal.nD Cert.RefMixBIdeal.τ).loc Cert.RefMixBIdeal.main_arg1)
      ∧ r.2.mem ((c.tc : Thread Cert.RefMixBIdeal.nD Cert.RefMixBIdeal.τ).loc Cert.RefMixBIdeal.main_arg2) = m ((c.tc : Thread Cert.RefMixBIdeal.nD Cert.RefMixBIdeal.τ).loc Cert.RefMixBIdeal.main_arg2)
      ∧ r.2.mem ((c.tc : Thread Cert.RefMixBIdeal.nD Cert.RefMixBIdeal.τ).loc Cert.RefMixBIdeal.main_arg3) = m ((c.tc : Thread Cert.RefMixBIdeal.nD Cert.RefMixBIdeal.τ).loc Cert.RefMixBIdeal.main_arg3)
      ∧ r.2.mem ((c.tc : Thread Cert.RefMixBIdeal.nD Cert.RefMixBIdeal.τ).loc Cert.RefMixBIdeal.main_arg4) = m ((c.tc : Thread Cert.RefMixBIdeal.nD Cert.RefMixBIdeal.τ).loc Cert.RefMixBIdeal.main_arg4)
      ∧ r.2.mem ((c.tc : Thread Cert.RefMixBIdeal.nD Cert.RefMixBIdeal.τ).loc Cert.RefMixBIdeal.main_arg5) = m ((c.tc : Thread Cert.RefMixBIdeal.nD Cert.RefMixBIdeal.τ).loc Cert.RefMixBIdeal.main_arg5)
      ∧ r.2.mem ((c.tc : Thread Cert.RefMixBIdeal.nD Cert.RefMixBIdeal.τ).loc Cert.RefMixBIdeal.main_arg6) = m ((c.tc : Thread Cert.RefMixBIdeal.nD Cert.RefMixBIdeal.τ).loc Cert.RefMixBIdeal.main_arg6)
      ∧ r.2.mem ((c.tc : Thread Cert.RefMixBIdeal.nD Cert.RefMixBIdeal.τ).loc Cert.RefMixBIdeal.main_arg7) = m ((c.tc : Thread Cert.RefMixBIdeal.nD Cert.RefMixBIdeal.τ).loc Cert.RefMixBIdeal.main_arg7)
      ∧ r.2.mem ((c.tc : Thread Cert.RefMixBIdeal.nD Cert.RefMixBIdeal.τ).loc Cert.RefMixBIdeal.main_arg8) = m ((c.tc : Thread Cert.RefMixBIdeal.nD Cert.RefMixBIdeal.τ).loc Cert.RefMixBIdeal.main_arg8)
      ∧ r.2.mem ((c.tc : Thread Cert.RefMixBIdeal.nD Cert.RefMixBIdeal.τ).loc Cert.RefMixBIdeal.main_arg9) = m ((c.tc : Thread Cert.RefMixBIdeal.nD Cert.RefMixBIdeal.τ).loc Cert.RefMixBIdeal.main_arg9)
      ∧ r.2.mem ((c.tc : Thread Cert.RefMixBIdeal.nD Cert.RefMixBIdeal.τ).loc Cert.RefMixBIdeal.main_arg10) = m ((c.tc : Thread Cert.RefMixBIdeal.nD Cert.RefMixBIdeal.τ).loc Cert.RefMixBIdeal.main_arg10)
      ∧ r.2.mem ((c.tc : Thread Cert.RefMixBIdeal.nD Cert.RefMixBIdeal.τ).loc Cert.RefMixBIdeal.main_arg11) = m ((c.tc : Thread Cert.RefMixBIdeal.nD Cert.RefMixBIdeal.τ).loc Cert.RefMixBIdeal.main_arg11)
      ∧ r.2.mem ((c.tc : Thread Cert.RefMixBIdeal.nD Cert.RefMixBIdeal.τ).loc Cert.RefMixBIdeal.main_arg12) = m ((c.tc : Thread Cert.RefMixBIdeal.nD Cert.RefMixBIdeal.τ).loc Cert.RefMixBIdeal.main_arg12)
      ∧ r.2.mem ((c.tc : Thread Cert.RefMixBIdeal.nD Cert.RefMixBIdeal.τ).loc Cert.RefMixBIdeal.main_arg13) = m ((c.tc : Thread Cert.RefMixBIdeal.nD Cert.RefMixBIdeal.τ).loc Cert.RefMixBIdeal.main_arg13))
      ∧ r.2.sem = fun _ => 0)

def quiescent_RefMixBIdeal_pre_finite_mixb [hRefMixBIdeal : Cert.RefMixBIdeal.Facts] [hPre_finite_mixb : Cert.Pre_finite_mixb.Facts] : Prop :=
  ∀ (m : (ℓ : Loc Cert.RefMixBIdeal.nD Cert.RefMixBIdeal.τ Cert.RefMixBIdeal.sig) → Buf (Elt Ideal) ℓ) (g : Dev Cert.RefMixBIdeal.nD → PrngReg), Pre_RefMixBIdeal_finite_mixb m →
    θ_run (Cert.RefMixBIdeal.defs (F := Ideal)) (onTc (τ := Cert.RefMixBIdeal.τ) (Cert.RefMixBIdeal.main (F := Ideal))) ⟨m, fun _ => 0, g⟩ (fun r => (∀ c : Dev Cert.RefMixBIdeal.nD,
      r.2.mem ((c.tc : Thread Cert.RefMixBIdeal.nD Cert.RefMixBIdeal.τ).loc Cert.RefMixBIdeal.main_arg0) = m ((c.tc : Thread Cert.RefMixBIdeal.nD Cert.RefMixBIdeal.τ).loc Cert.RefMixBIdeal.main_arg0)
      ∧ r.2.mem ((c.tc : Thread Cert.RefMixBIdeal.nD Cert.RefMixBIdeal.τ).loc Cert.RefMixBIdeal.main_arg1) = m ((c.tc : Thread Cert.RefMixBIdeal.nD Cert.RefMixBIdeal.τ).loc Cert.RefMixBIdeal.main_arg1)
      ∧ r.2.mem ((c.tc : Thread Cert.RefMixBIdeal.nD Cert.RefMixBIdeal.τ).loc Cert.RefMixBIdeal.main_arg2) = m ((c.tc : Thread Cert.RefMixBIdeal.nD Cert.RefMixBIdeal.τ).loc Cert.RefMixBIdeal.main_arg2)
      ∧ r.2.mem ((c.tc : Thread Cert.RefMixBIdeal.nD Cert.RefMixBIdeal.τ).loc Cert.RefMixBIdeal.main_arg3) = m ((c.tc : Thread Cert.RefMixBIdeal.nD Cert.RefMixBIdeal.τ).loc Cert.RefMixBIdeal.main_arg3)
      ∧ r.2.mem ((c.tc : Thread Cert.RefMixBIdeal.nD Cert.RefMixBIdeal.τ).loc Cert.RefMixBIdeal.main_arg4) = m ((c.tc : Thread Cert.RefMixBIdeal.nD Cert.RefMixBIdeal.τ).loc Cert.RefMixBIdeal.main_arg4)
      ∧ r.2.mem ((c.tc : Thread Cert.RefMixBIdeal.nD Cert.RefMixBIdeal.τ).loc Cert.RefMixBIdeal.main_arg5) = m ((c.tc : Thread Cert.RefMixBIdeal.nD Cert.RefMixBIdeal.τ).loc Cert.RefMixBIdeal.main_arg5)
      ∧ r.2.mem ((c.tc : Thread Cert.RefMixBIdeal.nD Cert.RefMixBIdeal.τ).loc Cert.RefMixBIdeal.main_arg6) = m ((c.tc : Thread Cert.RefMixBIdeal.nD Cert.RefMixBIdeal.τ).loc Cert.RefMixBIdeal.main_arg6)
      ∧ r.2.mem ((c.tc : Thread Cert.RefMixBIdeal.nD Cert.RefMixBIdeal.τ).loc Cert.RefMixBIdeal.main_arg7) = m ((c.tc : Thread Cert.RefMixBIdeal.nD Cert.RefMixBIdeal.τ).loc Cert.RefMixBIdeal.main_arg7)
      ∧ r.2.mem ((c.tc : Thread Cert.RefMixBIdeal.nD Cert.RefMixBIdeal.τ).loc Cert.RefMixBIdeal.main_arg8) = m ((c.tc : Thread Cert.RefMixBIdeal.nD Cert.RefMixBIdeal.τ).loc Cert.RefMixBIdeal.main_arg8)
      ∧ r.2.mem ((c.tc : Thread Cert.RefMixBIdeal.nD Cert.RefMixBIdeal.τ).loc Cert.RefMixBIdeal.main_arg9) = m ((c.tc : Thread Cert.RefMixBIdeal.nD Cert.RefMixBIdeal.τ).loc Cert.RefMixBIdeal.main_arg9)
      ∧ r.2.mem ((c.tc : Thread Cert.RefMixBIdeal.nD Cert.RefMixBIdeal.τ).loc Cert.RefMixBIdeal.main_arg10) = m ((c.tc : Thread Cert.RefMixBIdeal.nD Cert.RefMixBIdeal.τ).loc Cert.RefMixBIdeal.main_arg10)
      ∧ r.2.mem ((c.tc : Thread Cert.RefMixBIdeal.nD Cert.RefMixBIdeal.τ).loc Cert.RefMixBIdeal.main_arg11) = m ((c.tc : Thread Cert.RefMixBIdeal.nD Cert.RefMixBIdeal.τ).loc Cert.RefMixBIdeal.main_arg11)
      ∧ r.2.mem ((c.tc : Thread Cert.RefMixBIdeal.nD Cert.RefMixBIdeal.τ).loc Cert.RefMixBIdeal.main_arg12) = m ((c.tc : Thread Cert.RefMixBIdeal.nD Cert.RefMixBIdeal.τ).loc Cert.RefMixBIdeal.main_arg12)
      ∧ r.2.mem ((c.tc : Thread Cert.RefMixBIdeal.nD Cert.RefMixBIdeal.τ).loc Cert.RefMixBIdeal.main_arg13) = m ((c.tc : Thread Cert.RefMixBIdeal.nD Cert.RefMixBIdeal.τ).loc Cert.RefMixBIdeal.main_arg13))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_RefFfnIdeal_pre_finite_ffn [hRefFfnIdeal : Cert.RefFfnIdeal.Facts] [hPre_finite_ffn : Cert.Pre_finite_ffn.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal_finite_ffn m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7))
      ∧ r.2.sem = fun _ => 0)

def quiescent_RefS5Ideal [hRefS5Ideal : Cert.RefS5Ideal.Facts] : Prop :=
  ∀ (m : (ℓ : Loc Cert.RefS5Ideal.nD Cert.RefS5Ideal.τ Cert.RefS5Ideal.sig) → Buf (Elt Ideal) ℓ) (g : Dev Cert.RefS5Ideal.nD → PrngReg), Pre_RefS5Ideal m →
    θ_run (Cert.RefS5Ideal.defs (F := Ideal)) (onTc (τ := Cert.RefS5Ideal.τ) (Cert.RefS5Ideal.main (F := Ideal))) ⟨m, fun _ => 0, g⟩ (fun r => (∀ c : Dev Cert.RefS5Ideal.nD,
      r.2.mem ((c.tc : Thread Cert.RefS5Ideal.nD Cert.RefS5Ideal.τ).loc Cert.RefS5Ideal.main_arg0) = m ((c.tc : Thread Cert.RefS5Ideal.nD Cert.RefS5Ideal.τ).loc Cert.RefS5Ideal.main_arg0)
      ∧ r.2.mem ((c.tc : Thread Cert.RefS5Ideal.nD Cert.RefS5Ideal.τ).loc Cert.RefS5Ideal.main_arg1) = m ((c.tc : Thread Cert.RefS5Ideal.nD Cert.RefS5Ideal.τ).loc Cert.RefS5Ideal.main_arg1)
      ∧ r.2.mem ((c.tc : Thread Cert.RefS5Ideal.nD Cert.RefS5Ideal.τ).loc Cert.RefS5Ideal.main_arg2) = m ((c.tc : Thread Cert.RefS5Ideal.nD Cert.RefS5Ideal.τ).loc Cert.RefS5Ideal.main_arg2)
      ∧ r.2.mem ((c.tc : Thread Cert.RefS5Ideal.nD Cert.RefS5Ideal.τ).loc Cert.RefS5Ideal.main_arg3) = m ((c.tc : Thread Cert.RefS5Ideal.nD Cert.RefS5Ideal.τ).loc Cert.RefS5Ideal.main_arg3)
      ∧ r.2.mem ((c.tc : Thread Cert.RefS5Ideal.nD Cert.RefS5Ideal.τ).loc Cert.RefS5Ideal.main_arg4) = m ((c.tc : Thread Cert.RefS5Ideal.nD Cert.RefS5Ideal.τ).loc Cert.RefS5Ideal.main_arg4)
      ∧ r.2.mem ((c.tc : Thread Cert.RefS5Ideal.nD Cert.RefS5Ideal.τ).loc Cert.RefS5Ideal.main_arg5) = m ((c.tc : Thread Cert.RefS5Ideal.nD Cert.RefS5Ideal.τ).loc Cert.RefS5Ideal.main_arg5)
      ∧ r.2.mem ((c.tc : Thread Cert.RefS5Ideal.nD Cert.RefS5Ideal.τ).loc Cert.RefS5Ideal.main_arg6) = m ((c.tc : Thread Cert.RefS5Ideal.nD Cert.RefS5Ideal.τ).loc Cert.RefS5Ideal.main_arg6)
      ∧ r.2.mem ((c.tc : Thread Cert.RefS5Ideal.nD Cert.RefS5Ideal.τ).loc Cert.RefS5Ideal.main_arg7) = m ((c.tc : Thread Cert.RefS5Ideal.nD Cert.RefS5Ideal.τ).loc Cert.RefS5Ideal.main_arg7))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3)
      ∧ r.2.mem ((c.tc : Thread Cert.RefFwdIdeal.nD Cert.RefFwdIdeal.τ).loc Cert.RefFwdIdeal.main_arg4) = m ((c.tc : Thread Cert.RefFwdIdeal.nD Cert.RefFwdIdeal.τ).loc Cert.RefFwdIdeal.main_arg4))
      ∧ r.2.sem = fun _ => 0)

def quiescent_RefFwdIdeal_pre_finite_fwd [hRefFwdIdeal : Cert.RefFwdIdeal.Facts] [hPre_finite_fwd : Cert.Pre_finite_fwd.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal_finite_fwd m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1)
      ∧ r.2.mem ((c.tc : Thread Cert.RefFwdIdeal.nD Cert.RefFwdIdeal.τ).loc Cert.RefFwdIdeal.main_arg2) = m ((c.tc : Thread Cert.RefFwdIdeal.nD Cert.RefFwdIdeal.τ).loc Cert.RefFwdIdeal.main_arg2)
      ∧ r.2.mem ((c.tc : Thread Cert.RefFwdIdeal.nD Cert.RefFwdIdeal.τ).loc Cert.RefFwdIdeal.main_arg3) = m ((c.tc : Thread Cert.RefFwdIdeal.nD Cert.RefFwdIdeal.τ).loc Cert.RefFwdIdeal.main_arg3)
      ∧ r.2.mem ((c.tc : Thread Cert.RefFwdIdeal.nD Cert.RefFwdIdeal.τ).loc Cert.RefFwdIdeal.main_arg4) = m ((c.tc : Thread Cert.RefFwdIdeal.nD Cert.RefFwdIdeal.τ).loc Cert.RefFwdIdeal.main_arg4))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4)
      ∧ r.2.mem ((c.tc : Thread Cert.MixF.nD Cert.MixF.τ).loc Cert.MixF.main_arg5) = m ((c.tc : Thread Cert.MixF.nD Cert.MixF.τ).loc Cert.MixF.main_arg5)
      ∧ r.2.mem ((c.tc : Thread Cert.MixF.nD Cert.MixF.τ).loc Cert.MixF.main_arg6) = m ((c.tc : Thread Cert.MixF.nD Cert.MixF.τ).loc Cert.MixF.main_arg6)
      ∧ r.2.mem ((c.tc : Thread Cert.MixF.nD Cert.MixF.τ).loc Cert.MixF.main_arg7) = m ((c.tc : Thread Cert.MixF.nD Cert.MixF.τ).loc Cert.MixF.main_arg7)
      ∧ r.2.mem ((c.tc : Thread Cert.MixF.nD Cert.MixF.τ).loc Cert.MixF.main_arg8) = m ((c.tc : Thread Cert.MixF.nD Cert.MixF.τ).loc Cert.MixF.main_arg8)
      ∧ r.2.mem ((c.tc : Thread Cert.MixF.nD Cert.MixF.τ).loc Cert.MixF.main_arg9) = m ((c.tc : Thread Cert.MixF.nD Cert.MixF.τ).loc Cert.MixF.main_arg9)
      ∧ r.2.mem ((c.tc : Thread Cert.MixF.nD Cert.MixF.τ).loc Cert.MixF.main_arg10) = m ((c.tc : Thread Cert.MixF.nD Cert.MixF.τ).loc Cert.MixF.main_arg10)
      ∧ r.2.mem ((c.tc : Thread Cert.MixF.nD Cert.MixF.τ).loc Cert.MixF.main_arg11) = m ((c.tc : Thread Cert.MixF.nD Cert.MixF.τ).loc Cert.MixF.main_arg11)
      ∧ r.2.mem ((c.tc : Thread Cert.MixF.nD Cert.MixF.τ).loc Cert.MixF.main_arg12) = m ((c.tc : Thread Cert.MixF.nD Cert.MixF.τ).loc Cert.MixF.main_arg12)
      ∧ r.2.mem ((c.tc : Thread Cert.MixF.nD Cert.MixF.τ).loc Cert.MixF.main_arg13) = m ((c.tc : Thread Cert.MixF.nD Cert.MixF.τ).loc Cert.MixF.main_arg13))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
      ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6)
      ∧ r.2.mem ((c.tc : Thread Cert.MixFIdeal.nD Cert.MixFIdeal.τ).loc Cert.MixFIdeal.main_arg7) = m ((c.tc : Thread Cert.MixFIdeal.nD Cert.MixFIdeal.τ).loc Cert.MixFIdeal.main_arg7)
      ∧ r.2.mem ((c.tc : Thread Cert.MixFIdeal.nD Cert.MixFIdeal.τ).loc Cert.MixFIdeal.main_arg8) = m ((c.tc : Thread Cert.MixFIdeal.nD Cert.MixFIdeal.τ).loc Cert.MixFIdeal.main_arg8)
      ∧ r.2.mem ((c.tc : Thread Cert.MixFIdeal.nD Cert.MixFIdeal.τ).loc Cert.MixFIdeal.main_arg9) = m ((c.tc : Thread Cert.MixFIdeal.nD Cert.MixFIdeal.τ).loc Cert.MixFIdeal.main_arg9)
      ∧ r.2.mem ((c.tc : Thread Cert.MixFIdeal.nD Cert.MixFIdeal.τ).loc Cert.MixFIdeal.main_arg10) = m ((c.tc : Thread Cert.MixFIdeal.nD Cert.MixFIdeal.τ).loc Cert.MixFIdeal.main_arg10)
      ∧ r.2.mem ((c.tc : Thread Cert.MixFIdeal.nD Cert.MixFIdeal.τ).loc Cert.MixFIdeal.main_arg11) = m ((c.tc : Thread Cert.MixFIdeal.nD Cert.MixFIdeal.τ).loc Cert.MixFIdeal.main_arg11)
      ∧ r.2.mem ((c.tc : Thread Cert.MixFIdeal.nD Cert.MixFIdeal.τ).loc Cert.MixFIdeal.main_arg12) = m ((c.tc : Thread Cert.MixFIdeal.nD Cert.MixFIdeal.τ).loc Cert.MixFIdeal.main_arg12)
      ∧ r.2.mem ((c.tc : Thread Cert.MixFIdeal.nD Cert.MixFIdeal.τ).loc Cert.MixFIdeal.main_arg13) = m ((c.tc : Thread Cert.MixFIdeal.nD Cert.MixFIdeal.τ).loc Cert.MixFIdeal.main_arg13))
      ∧ r.2.sem = fun _ => 0)

def quiescent_MixFIdeal_pre_finite_mixf [hMixFIdeal : Cert.MixFIdeal.Facts] [hPre_finite_mixf : Cert.Pre_finite_mixf.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal_finite_mixf m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
      ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
      ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6)
      ∧ r.2.mem ((c.tc : Thread Cert.MixFIdeal.nD Cert.MixFIdeal.τ).loc Cert.MixFIdeal.main_arg7) = m ((c.tc : Thread Cert.MixFIdeal.nD Cert.MixFIdeal.τ).loc Cert.MixFIdeal.main_arg7)
      ∧ r.2.mem ((c.tc : Thread Cert.MixFIdeal.nD Cert.MixFIdeal.τ).loc Cert.MixFIdeal.main_arg8) = m ((c.tc : Thread Cert.MixFIdeal.nD Cert.MixFIdeal.τ).loc Cert.MixFIdeal.main_arg8)
      ∧ r.2.mem ((c.tc : Thread Cert.MixFIdeal.nD Cert.MixFIdeal.τ).loc Cert.MixFIdeal.main_arg9) = m ((c.tc : Thread Cert.MixFIdeal.nD Cert.MixFIdeal.τ).loc Cert.MixFIdeal.main_arg9)
      ∧ r.2.mem ((c.tc : Thread Cert.MixFIdeal.nD Cert.MixFIdeal.τ).loc Cert.MixFIdeal.main_arg10) = m ((c.tc : Thread Cert.MixFIdeal.nD Cert.MixFIdeal.τ).loc Cert.MixFIdeal.main_arg10)
      ∧ r.2.mem ((c.tc : Thread Cert.MixFIdeal.nD Cert.MixFIdeal.τ).loc Cert.MixFIdeal.main_arg11) = m ((c.tc : Thread Cert.MixFIdeal.nD Cert.MixFIdeal.τ).loc Cert.MixFIdeal.main_arg11)
      ∧ r.2.mem ((c.tc : Thread Cert.MixFIdeal.nD Cert.MixFIdeal.τ).loc Cert.MixFIdeal.main_arg12) = m ((c.tc : Thread Cert.MixFIdeal.nD Cert.MixFIdeal.τ).loc Cert.MixFIdeal.main_arg12)
      ∧ r.2.mem ((c.tc : Thread Cert.MixFIdeal.nD Cert.MixFIdeal.τ).loc Cert.MixFIdeal.main_arg13) = m ((c.tc : Thread Cert.MixFIdeal.nD Cert.MixFIdeal.τ).loc Cert.MixFIdeal.main_arg13))
      ∧ r.2.sem = fun _ => 0)

def quiescent_RefMixFIdeal [hRefMixFIdeal : Cert.RefMixFIdeal.Facts] : Prop :=
  ∀ (m : (ℓ : Loc Cert.RefMixFIdeal.nD Cert.RefMixFIdeal.τ Cert.RefMixFIdeal.sig) → Buf (Elt Ideal) ℓ) (g : Dev Cert.RefMixFIdeal.nD → PrngReg), Pre_RefMixFIdeal m →
    θ_run (Cert.RefMixFIdeal.defs (F := Ideal)) (onTc (τ := Cert.RefMixFIdeal.τ) (Cert.RefMixFIdeal.main (F := Ideal))) ⟨m, fun _ => 0, g⟩ (fun r => (∀ c : Dev Cert.RefMixFIdeal.nD,
      r.2.mem ((c.tc : Thread Cert.RefMixFIdeal.nD Cert.RefMixFIdeal.τ).loc Cert.RefMixFIdeal.main_arg0) = m ((c.tc : Thread Cert.RefMixFIdeal.nD Cert.RefMixFIdeal.τ).loc Cert.RefMixFIdeal.main_arg0)
      ∧ r.2.mem ((c.tc : Thread Cert.RefMixFIdeal.nD Cert.RefMixFIdeal.τ).loc Cert.RefMixFIdeal.main_arg1) = m ((c.tc : Thread Cert.RefMixFIdeal.nD Cert.RefMixFIdeal.τ).loc Cert.RefMixFIdeal.main_arg1)
      ∧ r.2.mem ((c.tc : Thread Cert.RefMixFIdeal.nD Cert.RefMixFIdeal.τ).loc Cert.RefMixFIdeal.main_arg2) = m ((c.tc : Thread Cert.RefMixFIdeal.nD Cert.RefMixFIdeal.τ).loc Cert.RefMixFIdeal.main_arg2)
      ∧ r.2.mem ((c.tc : Thread Cert.RefMixFIdeal.nD Cert.RefMixFIdeal.τ).loc Cert.RefMixFIdeal.main_arg3) = m ((c.tc : Thread Cert.RefMixFIdeal.nD Cert.RefMixFIdeal.τ).loc Cert.RefMixFIdeal.main_arg3)
      ∧ r.2.mem ((c.tc : Thread Cert.RefMixFIdeal.nD Cert.RefMixFIdeal.τ).loc Cert.RefMixFIdeal.main_arg4) = m ((c.tc : Thread Cert.RefMixFIdeal.nD Cert.RefMixFIdeal.τ).loc Cert.RefMixFIdeal.main_arg4)
      ∧ r.2.mem ((c.tc : Thread Cert.RefMixFIdeal.nD Cert.RefMixFIdeal.τ).loc Cert.RefMixFIdeal.main_arg5) = m ((c.tc : Thread Cert.RefMixFIdeal.nD Cert.RefMixFIdeal.τ).loc Cert.RefMixFIdeal.main_arg5)
      ∧ r.2.mem ((c.tc : Thread Cert.RefMixFIdeal.nD Cert.RefMixFIdeal.τ).loc Cert.RefMixFIdeal.main_arg6) = m ((c.tc : Thread Cert.RefMixFIdeal.nD Cert.RefMixFIdeal.τ).loc Cert.RefMixFIdeal.main_arg6)
      ∧ r.2.mem ((c.tc : Thread Cert.RefMixFIdeal.nD Cert.RefMixFIdeal.τ).loc Cert.RefMixFIdeal.main_arg7) = m ((c.tc : Thread Cert.RefMixFIdeal.nD Cert.RefMixFIdeal.τ).loc Cert.RefMixFIdeal.main_arg7)
      ∧ r.2.mem ((c.tc : Thread Cert.RefMixFIdeal.nD Cert.RefMixFIdeal.τ).loc Cert.RefMixFIdeal.main_arg8) = m ((c.tc : Thread Cert.RefMixFIdeal.nD Cert.RefMixFIdeal.τ).loc Cert.RefMixFIdeal.main_arg8)
      ∧ r.2.mem ((c.tc : Thread Cert.RefMixFIdeal.nD Cert.RefMixFIdeal.τ).loc Cert.RefMixFIdeal.main_arg9) = m ((c.tc : Thread Cert.RefMixFIdeal.nD Cert.RefMixFIdeal.τ).loc Cert.RefMixFIdeal.main_arg9)
      ∧ r.2.mem ((c.tc : Thread Cert.RefMixFIdeal.nD Cert.RefMixFIdeal.τ).loc Cert.RefMixFIdeal.main_arg10) = m ((c.tc : Thread Cert.RefMixFIdeal.nD Cert.RefMixFIdeal.τ).loc Cert.RefMixFIdeal.main_arg10)
      ∧ r.2.mem ((c.tc : Thread Cert.RefMixFIdeal.nD Cert.RefMixFIdeal.τ).loc Cert.RefMixFIdeal.main_arg11) = m ((c.tc : Thread Cert.RefMixFIdeal.nD Cert.RefMixFIdeal.τ).loc Cert.RefMixFIdeal.main_arg11)
      ∧ r.2.mem ((c.tc : Thread Cert.RefMixFIdeal.nD Cert.RefMixFIdeal.τ).loc Cert.RefMixFIdeal.main_arg12) = m ((c.tc : Thread Cert.RefMixFIdeal.nD Cert.RefMixFIdeal.τ).loc Cert.RefMixFIdeal.main_arg12)
      ∧ r.2.mem ((c.tc : Thread Cert.RefMixFIdeal.nD Cert.RefMixFIdeal.τ).loc Cert.RefMixFIdeal.main_arg13) = m ((c.tc : Thread Cert.RefMixFIdeal.nD Cert.RefMixFIdeal.τ).loc Cert.RefMixFIdeal.main_arg13))
      ∧ r.2.sem = fun _ => 0)

def quiescent_RefMixFIdeal_pre_finite_mixf [hRefMixFIdeal : Cert.RefMixFIdeal.Facts] [hPre_finite_mixf : Cert.Pre_finite_mixf.Facts] : Prop :=
  ∀ (m : (ℓ : Loc Cert.RefMixFIdeal.nD Cert.RefMixFIdeal.τ Cert.RefMixFIdeal.sig) → Buf (Elt Ideal) ℓ) (g : Dev Cert.RefMixFIdeal.nD → PrngReg), Pre_RefMixFIdeal_finite_mixf m →
    θ_run (Cert.RefMixFIdeal.defs (F := Ideal)) (onTc (τ := Cert.RefMixFIdeal.τ) (Cert.RefMixFIdeal.main (F := Ideal))) ⟨m, fun _ => 0, g⟩ (fun r => (∀ c : Dev Cert.RefMixFIdeal.nD,
      r.2.mem ((c.tc : Thread Cert.RefMixFIdeal.nD Cert.RefMixFIdeal.τ).loc Cert.RefMixFIdeal.main_arg0) = m ((c.tc : Thread Cert.RefMixFIdeal.nD Cert.RefMixFIdeal.τ).loc Cert.RefMixFIdeal.main_arg0)
      ∧ r.2.mem ((c.tc : Thread Cert.RefMixFIdeal.nD Cert.RefMixFIdeal.τ).loc Cert.RefMixFIdeal.main_arg1) = m ((c.tc : Thread Cert.RefMixFIdeal.nD Cert.RefMixFIdeal.τ).loc Cert.RefMixFIdeal.main_arg1)
      ∧ r.2.mem ((c.tc : Thread Cert.RefMixFIdeal.nD Cert.RefMixFIdeal.τ).loc Cert.RefMixFIdeal.main_arg2) = m ((c.tc : Thread Cert.RefMixFIdeal.nD Cert.RefMixFIdeal.τ).loc Cert.RefMixFIdeal.main_arg2)
      ∧ r.2.mem ((c.tc : Thread Cert.RefMixFIdeal.nD Cert.RefMixFIdeal.τ).loc Cert.RefMixFIdeal.main_arg3) = m ((c.tc : Thread Cert.RefMixFIdeal.nD Cert.RefMixFIdeal.τ).loc Cert.RefMixFIdeal.main_arg3)
      ∧ r.2.mem ((c.tc : Thread Cert.RefMixFIdeal.nD Cert.RefMixFIdeal.τ).loc Cert.RefMixFIdeal.main_arg4) = m ((c.tc : Thread Cert.RefMixFIdeal.nD Cert.RefMixFIdeal.τ).loc Cert.RefMixFIdeal.main_arg4)
      ∧ r.2.mem ((c.tc : Thread Cert.RefMixFIdeal.nD Cert.RefMixFIdeal.τ).loc Cert.RefMixFIdeal.main_arg5) = m ((c.tc : Thread Cert.RefMixFIdeal.nD Cert.RefMixFIdeal.τ).loc Cert.RefMixFIdeal.main_arg5)
      ∧ r.2.mem ((c.tc : Thread Cert.RefMixFIdeal.nD Cert.RefMixFIdeal.τ).loc Cert.RefMixFIdeal.main_arg6) = m ((c.tc : Thread Cert.RefMixFIdeal.nD Cert.RefMixFIdeal.τ).loc Cert.RefMixFIdeal.main_arg6)
      ∧ r.2.mem ((c.tc : Thread Cert.RefMixFIdeal.nD Cert.RefMixFIdeal.τ).loc Cert.RefMixFIdeal.main_arg7) = m ((c.tc : Thread Cert.RefMixFIdeal.nD Cert.RefMixFIdeal.τ).loc Cert.RefMixFIdeal.main_arg7)
      ∧ r.2.mem ((c.tc : Thread Cert.RefMixFIdeal.nD Cert.RefMixFIdeal.τ).loc Cert.RefMixFIdeal.main_arg8) = m ((c.tc : Thread Cert.RefMixFIdeal.nD Cert.RefMixFIdeal.τ).loc Cert.RefMixFIdeal.main_arg8)
      ∧ r.2.mem ((c.tc : Thread Cert.RefMixFIdeal.nD Cert.RefMixFIdeal.τ).loc Cert.RefMixFIdeal.main_arg9) = m ((c.tc : Thread Cert.RefMixFIdeal.nD Cert.RefMixFIdeal.τ).loc Cert.RefMixFIdeal.main_arg9)
      ∧ r.2.mem ((c.tc : Thread Cert.RefMixFIdeal.nD Cert.RefMixFIdeal.τ).loc Cert.RefMixFIdeal.main_arg10) = m ((c.tc : Thread Cert.RefMixFIdeal.nD Cert.RefMixFIdeal.τ).loc Cert.RefMixFIdeal.main_arg10)
      ∧ r.2.mem ((c.tc : Thread Cert.RefMixFIdeal.nD Cert.RefMixFIdeal.τ).loc Cert.RefMixFIdeal.main_arg11) = m ((c.tc : Thread Cert.RefMixFIdeal.nD Cert.RefMixFIdeal.τ).loc Cert.RefMixFIdeal.main_arg11)
      ∧ r.2.mem ((c.tc : Thread Cert.RefMixFIdeal.nD Cert.RefMixFIdeal.τ).loc Cert.RefMixFIdeal.main_arg12) = m ((c.tc : Thread Cert.RefMixFIdeal.nD Cert.RefMixFIdeal.τ).loc Cert.RefMixFIdeal.main_arg12)
      ∧ r.2.mem ((c.tc : Thread Cert.RefMixFIdeal.nD Cert.RefMixFIdeal.τ).loc Cert.RefMixFIdeal.main_arg13) = m ((c.tc : Thread Cert.RefMixFIdeal.nD Cert.RefMixFIdeal.τ).loc Cert.RefMixFIdeal.main_arg13))
      ∧ r.2.sem = fun _ => 0)

def preserves_Ple_PleIdeal : Prop :=
  True

def algebraic_PleIdeal_RefPleIdeal_pre_finite_ple [hPleIdeal : Cert.PleIdeal.Facts] [hRefPleIdeal : Cert.RefPleIdeal.Facts] [hPre_finite_ple : Cert.Pre_finite_ple.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.RefPleIdeal.nD Cert.RefPleIdeal.τ Cert.RefPleIdeal.sig) → Buf (Elt Ideal) ℓ) (g' : Dev Cert.RefPleIdeal.nD → PrngReg), Pre_PleIdeal_finite_ple m →
    (∀ c : Dev Cert.PleIdeal.nD,
      m' ((c.tc : Thread Cert.RefPleIdeal.nD Cert.RefPleIdeal.τ).loc Cert.RefPleIdeal.main_arg0) = m ((c.tc : Thread Cert.PleIdeal.nD Cert.PleIdeal.τ).loc Cert.PleIdeal.main_arg0)
      ∧ m' ((c.tc : Thread Cert.RefPleIdeal.nD Cert.RefPleIdeal.τ).loc Cert.RefPleIdeal.main_arg1) = m ((c.tc : Thread Cert.PleIdeal.nD Cert.PleIdeal.τ).loc Cert.PleIdeal.main_arg1)
      ∧ m' ((c.tc : Thread Cert.RefPleIdeal.nD Cert.RefPleIdeal.τ).loc Cert.RefPleIdeal.main_arg2) = m ((c.tc : Thread Cert.PleIdeal.nD Cert.PleIdeal.τ).loc Cert.PleIdeal.main_arg2)
      ∧ m' ((c.tc : Thread Cert.RefPleIdeal.nD Cert.RefPleIdeal.τ).loc Cert.RefPleIdeal.main_arg3) = m ((c.tc : Thread Cert.PleIdeal.nD Cert.PleIdeal.τ).loc Cert.PleIdeal.main_arg3)
      ∧ m' ((c.tc : Thread Cert.RefPleIdeal.nD Cert.RefPleIdeal.τ).loc Cert.RefPleIdeal.main_arg4) = m ((c.tc : Thread Cert.PleIdeal.nD Cert.PleIdeal.τ).loc Cert.PleIdeal.main_arg4)
      ∧ m' ((c.tc : Thread Cert.RefPleIdeal.nD Cert.RefPleIdeal.τ).loc Cert.RefPleIdeal.main_arg5) = m ((c.tc : Thread Cert.PleIdeal.nD Cert.PleIdeal.τ).loc Cert.PleIdeal.main_arg5)
      ∧ m' ((c.tc : Thread Cert.RefPleIdeal.nD Cert.RefPleIdeal.τ).loc Cert.RefPleIdeal.main_arg6) = m ((c.tc : Thread Cert.PleIdeal.nD Cert.PleIdeal.τ).loc Cert.PleIdeal.main_arg6)) →
    ∃ (v0 : (c : Dev Cert.PleIdeal.nD) → Buf (Elt Ideal) ((c.tc : Thread Cert.PleIdeal.nD Cert.PleIdeal.τ).loc Cert.PleIdeal.main_v5_0)) (v1 : (c : Dev Cert.PleIdeal.nD) → Buf (Elt Ideal) ((c.tc : Thread Cert.PleIdeal.nD Cert.PleIdeal.τ).loc Cert.PleIdeal.main_v5_1)) (v2 : (c : Dev Cert.PleIdeal.nD) → Buf (Elt Ideal) ((c.tc : Thread Cert.PleIdeal.nD Cert.PleIdeal.τ).loc Cert.PleIdeal.main_v5_2)) (v3 : (c : Dev Cert.PleIdeal.nD) → Buf (Elt Ideal) ((c.tc : Thread Cert.PleIdeal.nD Cert.PleIdeal.τ).loc Cert.PleIdeal.main_v5_3)) (v4 : (c : Dev Cert.PleIdeal.nD) → Buf (Elt Ideal) ((c.tc : Thread Cert.PleIdeal.nD Cert.PleIdeal.τ).loc Cert.PleIdeal.main_v5_4)) (v5 : (c : Dev Cert.PleIdeal.nD) → Buf (Elt Ideal) ((c.tc : Thread Cert.PleIdeal.nD Cert.PleIdeal.τ).loc Cert.PleIdeal.main_v5_5)) (v6 : (c : Dev Cert.PleIdeal.nD) → Buf (Elt Ideal) ((c.tc : Thread Cert.PleIdeal.nD Cert.PleIdeal.τ).loc Cert.PleIdeal.main_v5_6)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5_0) = v0 c
          ∧ r.2.mem ((c.tc : Thread Cert.PleIdeal.nD Cert.PleIdeal.τ).loc Cert.PleIdeal.main_v5_1) = v1 c
          ∧ r.2.mem ((c.tc : Thread Cert.PleIdeal.nD Cert.PleIdeal.τ).loc Cert.PleIdeal.main_v5_2) = v2 c
          ∧ r.2.mem ((c.tc : Thread Cert.PleIdeal.nD Cert.PleIdeal.τ).loc Cert.PleIdeal.main_v5_3) = v3 c
          ∧ r.2.mem ((c.tc : Thread Cert.PleIdeal.nD Cert.PleIdeal.τ).loc Cert.PleIdeal.main_v5_4) = v4 c
          ∧ r.2.mem ((c.tc : Thread Cert.PleIdeal.nD Cert.PleIdeal.τ).loc Cert.PleIdeal.main_v5_5) = v5 c
          ∧ r.2.mem ((c.tc : Thread Cert.PleIdeal.nD Cert.PleIdeal.τ).loc Cert.PleIdeal.main_v5_6) = v6 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6))
      ∧ θ_run (Cert.RefPleIdeal.defs (F := Ideal)) (onTc (τ := Cert.RefPleIdeal.τ) (Cert.RefPleIdeal.main (F := Ideal))) ⟨m', fun _ => 0, g'⟩ (fun r => ∀ c : Dev Cert.RefPleIdeal.nD,
          r.2.mem ((c.tc : Thread Cert.RefPleIdeal.nD Cert.RefPleIdeal.τ).loc Cert.RefPleIdeal.main_v92) = v0 c
          ∧ r.2.mem ((c.tc : Thread Cert.RefPleIdeal.nD Cert.RefPleIdeal.τ).loc Cert.RefPleIdeal.main_v91) = v1 c
          ∧ r.2.mem ((c.tc : Thread Cert.RefPleIdeal.nD Cert.RefPleIdeal.τ).loc Cert.RefPleIdeal.main_v93) = v2 c
          ∧ r.2.mem ((c.tc : Thread Cert.RefPleIdeal.nD Cert.RefPleIdeal.τ).loc Cert.RefPleIdeal.main_v94) = v3 c
          ∧ r.2.mem ((c.tc : Thread Cert.RefPleIdeal.nD Cert.RefPleIdeal.τ).loc Cert.RefPleIdeal.main_v95) = v4 c
          ∧ r.2.mem ((c.tc : Thread Cert.RefPleIdeal.nD Cert.RefPleIdeal.τ).loc Cert.RefPleIdeal.main_v60) = v5 c
          ∧ r.2.mem ((c.tc : Thread Cert.RefPleIdeal.nD Cert.RefPleIdeal.τ).loc Cert.RefPleIdeal.main_v57) = v6 c
          ∧ r.2.mem ((c.tc : Thread Cert.RefPleIdeal.nD Cert.RefPleIdeal.τ).loc Cert.RefPleIdeal.main_arg0) = m' ((c.tc : Thread Cert.RefPleIdeal.nD Cert.RefPleIdeal.τ).loc Cert.RefPleIdeal.main_arg0)
          ∧ r.2.mem ((c.tc : Thread Cert.RefPleIdeal.nD Cert.RefPleIdeal.τ).loc Cert.RefPleIdeal.main_arg1) = m' ((c.tc : Thread Cert.RefPleIdeal.nD Cert.RefPleIdeal.τ).loc Cert.RefPleIdeal.main_arg1)
          ∧ r.2.mem ((c.tc : Thread Cert.RefPleIdeal.nD Cert.RefPleIdeal.τ).loc Cert.RefPleIdeal.main_arg2) = m' ((c.tc : Thread Cert.RefPleIdeal.nD Cert.RefPleIdeal.τ).loc Cert.RefPleIdeal.main_arg2)
          ∧ r.2.mem ((c.tc : Thread Cert.RefPleIdeal.nD Cert.RefPleIdeal.τ).loc Cert.RefPleIdeal.main_arg3) = m' ((c.tc : Thread Cert.RefPleIdeal.nD Cert.RefPleIdeal.τ).loc Cert.RefPleIdeal.main_arg3)
          ∧ r.2.mem ((c.tc : Thread Cert.RefPleIdeal.nD Cert.RefPleIdeal.τ).loc Cert.RefPleIdeal.main_arg4) = m' ((c.tc : Thread Cert.RefPleIdeal.nD Cert.RefPleIdeal.τ).loc Cert.RefPleIdeal.main_arg4)
          ∧ r.2.mem ((c.tc : Thread Cert.RefPleIdeal.nD Cert.RefPleIdeal.τ).loc Cert.RefPleIdeal.main_arg5) = m' ((c.tc : Thread Cert.RefPleIdeal.nD Cert.RefPleIdeal.τ).loc Cert.RefPleIdeal.main_arg5)
          ∧ r.2.mem ((c.tc : Thread Cert.RefPleIdeal.nD Cert.RefPleIdeal.τ).loc Cert.RefPleIdeal.main_arg6) = m' ((c.tc : Thread Cert.RefPleIdeal.nD Cert.RefPleIdeal.τ).loc Cert.RefPleIdeal.main_arg6))

def preserves_Conv_ConvIdeal : Prop :=
  True

def algebraic_ConvIdeal_RefConvIdeal_on_written_conv [hConvIdeal : Cert.ConvIdeal.Facts] [hRefConvIdeal : Cert.RefConvIdeal.Facts] [hOn_written_conv : Cert.On_written_conv.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.RefConvIdeal.nD Cert.RefConvIdeal.τ Cert.RefConvIdeal.sig) → Buf (Elt Ideal) ℓ) (g' : Dev Cert.RefConvIdeal.nD → PrngReg), Pre_ConvIdeal m →
    (∀ c : Dev Cert.ConvIdeal.nD,
      m' ((c.tc : Thread Cert.RefConvIdeal.nD Cert.RefConvIdeal.τ).loc Cert.RefConvIdeal.main_arg0) = m ((c.tc : Thread Cert.ConvIdeal.nD Cert.ConvIdeal.τ).loc Cert.ConvIdeal.main_arg0)
      ∧ m' ((c.tc : Thread Cert.RefConvIdeal.nD Cert.RefConvIdeal.τ).loc Cert.RefConvIdeal.main_arg1) = m ((c.tc : Thread Cert.ConvIdeal.nD Cert.ConvIdeal.τ).loc Cert.ConvIdeal.main_arg1)
      ∧ m' ((c.tc : Thread Cert.RefConvIdeal.nD Cert.RefConvIdeal.τ).loc Cert.RefConvIdeal.main_arg2) = m ((c.tc : Thread Cert.ConvIdeal.nD Cert.ConvIdeal.τ).loc Cert.ConvIdeal.main_arg2)
      ∧ m' ((c.tc : Thread Cert.RefConvIdeal.nD Cert.RefConvIdeal.τ).loc Cert.RefConvIdeal.main_arg3) = m ((c.tc : Thread Cert.ConvIdeal.nD Cert.ConvIdeal.τ).loc Cert.ConvIdeal.main_arg3)
      ∧ m' ((c.tc : Thread Cert.RefConvIdeal.nD Cert.RefConvIdeal.τ).loc Cert.RefConvIdeal.main_arg4) = m ((c.tc : Thread Cert.ConvIdeal.nD Cert.ConvIdeal.τ).loc Cert.ConvIdeal.main_arg4)
      ∧ m' ((c.tc : Thread Cert.RefConvIdeal.nD Cert.RefConvIdeal.τ).loc Cert.RefConvIdeal.main_arg5) = m ((c.tc : Thread Cert.ConvIdeal.nD Cert.ConvIdeal.τ).loc Cert.ConvIdeal.main_arg5)
      ∧ m' ((c.tc : Thread Cert.RefConvIdeal.nD Cert.RefConvIdeal.τ).loc Cert.RefConvIdeal.main_arg6) = m ((c.tc : Thread Cert.ConvIdeal.nD Cert.ConvIdeal.τ).loc Cert.ConvIdeal.main_arg6)
      ∧ m' ((c.tc : Thread Cert.RefConvIdeal.nD Cert.RefConvIdeal.τ).loc Cert.RefConvIdeal.main_arg7) = m ((c.tc : Thread Cert.ConvIdeal.nD Cert.ConvIdeal.τ).loc Cert.ConvIdeal.main_arg7)
      ∧ m' ((c.tc : Thread Cert.RefConvIdeal.nD Cert.RefConvIdeal.τ).loc Cert.RefConvIdeal.main_arg8) = m ((c.tc : Thread Cert.ConvIdeal.nD Cert.ConvIdeal.τ).loc Cert.ConvIdeal.main_arg8)
      ∧ m' ((c.tc : Thread Cert.RefConvIdeal.nD Cert.RefConvIdeal.τ).loc Cert.RefConvIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v35_0)) (v1 : (c : Dev Cert.ConvIdeal.nD) → Buf (Elt Ideal) ((c.tc : Thread Cert.ConvIdeal.nD Cert.ConvIdeal.τ).loc Cert.ConvIdeal.main_v35_1)) (v2 : (c : Dev Cert.ConvIdeal.nD) → Buf (Elt Ideal) ((c.tc : Thread Cert.ConvIdeal.nD Cert.ConvIdeal.τ).loc Cert.ConvIdeal.main_v35_2)) (v3 : (c : Dev Cert.ConvIdeal.nD) → Buf (Elt Ideal) ((c.tc : Thread Cert.ConvIdeal.nD Cert.ConvIdeal.τ).loc Cert.ConvIdeal.main_v35_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          (∀ i : (⟨2, ![2048, 4096]⟩ : Shape).Idx, (Cert.On_written_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)) (m ((c.tc : Thread Cert.ConvIdeal.nD Cert.ConvIdeal.τ).loc Cert.ConvIdeal.main_arg7)) (m ((c.tc : Thread Cert.ConvIdeal.nD Cert.ConvIdeal.τ).loc Cert.ConvIdeal.main_arg8)) (m ((c.tc : Thread Cert.ConvIdeal.nD Cert.ConvIdeal.τ).loc Cert.ConvIdeal.main_arg9))).1 i = 1#1 → r.2.mem ((c.tc : Thread Cert.ConvIdeal.nD Cert.ConvIdeal.τ).loc Cert.ConvIdeal.main_v35_0) i = v0 c i)
          ∧ (∀ i : (⟨2, ![2048, 1024]⟩ : Shape).Idx, (Cert.On_written_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)) (m ((c.tc : Thread Cert.ConvIdeal.nD Cert.ConvIdeal.τ).loc Cert.ConvIdeal.main_arg7)) (m ((c.tc : Thread Cert.ConvIdeal.nD Cert.ConvIdeal.τ).loc Cert.ConvIdeal.main_arg8)) (m ((c.tc : Thread Cert.ConvIdeal.nD Cert.ConvIdeal.τ).loc Cert.ConvIdeal.main_arg9))).2.1 i = 1#1 → r.2.mem ((c.tc : Thread Cert.ConvIdeal.nD Cert.ConvIdeal.τ).loc Cert.ConvIdeal.main_v35_1) i = v1 c i)
          ∧ (∀ i : (⟨2, ![8, 512]⟩ : Shape).Idx, (Cert.On_written_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)) (m ((c.tc : Thread Cert.ConvIdeal.nD Cert.ConvIdeal.τ).loc Cert.ConvIdeal.main_arg7)) (m ((c.tc : Thread Cert.ConvIdeal.nD Cert.ConvIdeal.τ).loc Cert.ConvIdeal.main_arg8)) (m ((c.tc : Thread Cert.ConvIdeal.nD Cert.ConvIdeal.τ).loc Cert.ConvIdeal.main_arg9))).2.2.1 i = 1#1 → r.2.mem ((c.tc : Thread Cert.ConvIdeal.nD Cert.ConvIdeal.τ).loc Cert.ConvIdeal.main_v35_2) i = v2 c i)
          ∧ (∀ i : (⟨2, ![1, 512]⟩ : Shape).Idx, (Cert.On_written_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)) (m ((c.tc : Thread Cert.ConvIdeal.nD Cert.ConvIdeal.τ).loc Cert.ConvIdeal.main_arg7)) (m ((c.tc : Thread Cert.ConvIdeal.nD Cert.ConvIdeal.τ).loc Cert.ConvIdeal.main_arg8)) (m ((c.tc : Thread Cert.ConvIdeal.nD Cert.ConvIdeal.τ).loc Cert.ConvIdeal.main_arg9))).2.2.2 i = 1#1 → r.2.mem ((c.tc : Thread Cert.ConvIdeal.nD Cert.ConvIdeal.τ).loc Cert.ConvIdeal.main_v35_3) i = v3 c i)
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.RefConvIdeal.defs (F := Ideal)) (onTc (τ := Cert.RefConvIdeal.τ) (Cert.RefConvIdeal.main (F := Ideal))) ⟨m', fun _ => 0, g'⟩ (fun r => ∀ c : Dev Cert.RefConvIdeal.nD,
          (∀ i : (⟨2, ![2048, 4096]⟩ : Shape).Idx, (Cert.On_written_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)) (m ((c.tc : Thread Cert.ConvIdeal.nD Cert.ConvIdeal.τ).loc Cert.ConvIdeal.main_arg7)) (m ((c.tc : Thread Cert.ConvIdeal.nD Cert.ConvIdeal.τ).loc Cert.ConvIdeal.main_arg8)) (m ((c.tc : Thread Cert.ConvIdeal.nD Cert.ConvIdeal.τ).loc Cert.ConvIdeal.main_arg9))).1 i = 1#1 → r.2.mem ((c.tc : Thread Cert.RefConvIdeal.nD Cert.RefConvIdeal.τ).loc Cert.RefConvIdeal.main_v71) i = v0 c i)
          ∧ (∀ i : (⟨2, ![2048, 1024]⟩ : Shape).Idx, (Cert.On_written_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)) (m ((c.tc : Thread Cert.ConvIdeal.nD Cert.ConvIdeal.τ).loc Cert.ConvIdeal.main_arg7)) (m ((c.tc : Thread Cert.ConvIdeal.nD Cert.ConvIdeal.τ).loc Cert.ConvIdeal.main_arg8)) (m ((c.tc : Thread Cert.ConvIdeal.nD Cert.ConvIdeal.τ).loc Cert.ConvIdeal.main_arg9))).2.1 i = 1#1 → r.2.mem ((c.tc : Thread Cert.RefConvIdeal.nD Cert.RefConvIdeal.τ).loc Cert.RefConvIdeal.main_v70) i = v1 c i)
          ∧ (∀ i : (⟨2, ![8, 512]⟩ : Shape).Idx, (Cert.On_written_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)) (m ((c.tc : Thread Cert.ConvIdeal.nD Cert.ConvIdeal.τ).loc Cert.ConvIdeal.main_arg7)) (m ((c.tc : Thread Cert.ConvIdeal.nD Cert.ConvIdeal.τ).loc Cert.ConvIdeal.main_arg8)) (m ((c.tc : Thread Cert.ConvIdeal.nD Cert.ConvIdeal.τ).loc Cert.ConvIdeal.main_arg9))).2.2.1 i = 1#1 → r.2.mem ((c.tc : Thread Cert.RefConvIdeal.nD Cert.RefConvIdeal.τ).loc Cert.RefConvIdeal.main_v73) i = v2 c i)
          ∧ (∀ i : (⟨2, ![1, 512]⟩ : Shape).Idx, (Cert.On_written_conv.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5)) (m ((c.tc : Thread Cert.ConvIdeal.nD Cert.ConvIdeal.τ).loc Cert.ConvIdeal.main_arg6)) (m ((c.tc : Thread Cert.ConvIdeal.nD Cert.ConvIdeal.τ).loc Cert.ConvIdeal.main_arg7)) (m ((c.tc : Thread Cert.ConvIdeal.nD Cert.ConvIdeal.τ).loc Cert.ConvIdeal.main_arg8)) (m ((c.tc : Thread Cert.ConvIdeal.nD Cert.ConvIdeal.τ).loc Cert.ConvIdeal.main_arg9))).2.2.2 i = 1#1 → r.2.mem ((c.tc : Thread Cert.RefConvIdeal.nD Cert.RefConvIdeal.τ).loc Cert.RefConvIdeal.main_v37) i = v3 c i)
          ∧ r.2.mem ((c.tc : Thread Cert.RefConvIdeal.nD Cert.RefConvIdeal.τ).loc Cert.RefConvIdeal.main_arg0) = m' ((c.tc : Thread Cert.RefConvIdeal.nD Cert.RefConvIdeal.τ).loc Cert.RefConvIdeal.main_arg0)
          ∧ r.2.mem ((c.tc : Thread Cert.RefConvIdeal.nD Cert.RefConvIdeal.τ).loc Cert.RefConvIdeal.main_arg1) = m' ((c.tc : Thread Cert.RefConvIdeal.nD Cert.RefConvIdeal.τ).loc Cert.RefConvIdeal.main_arg1)
          ∧ r.2.mem ((c.tc : Thread Cert.RefConvIdeal.nD Cert.RefConvIdeal.τ).loc Cert.RefConvIdeal.main_arg2) = m' ((c.tc : Thread Cert.RefConvIdeal.nD Cert.RefConvIdeal.τ).loc Cert.RefConvIdeal.main_arg2)
          ∧ r.2.mem ((c.tc : Thread Cert.RefConvIdeal.nD Cert.RefConvIdeal.τ).loc Cert.RefConvIdeal.main_arg3) = m' ((c.tc : Thread Cert.RefConvIdeal.nD Cert.RefConvIdeal.τ).loc Cert.RefConvIdeal.main_arg3)
          ∧ r.2.mem ((c.tc : Thread Cert.RefConvIdeal.nD Cert.RefConvIdeal.τ).loc Cert.RefConvIdeal.main_arg4) = m' ((c.tc : Thread Cert.RefConvIdeal.nD Cert.RefConvIdeal.τ).loc Cert.RefConvIdeal.main_arg4)
          ∧ r.2.mem ((c.tc : Thread Cert.RefConvIdeal.nD Cert.RefConvIdeal.τ).loc Cert.RefConvIdeal.main_arg5) = m' ((c.tc : Thread Cert.RefConvIdeal.nD Cert.RefConvIdeal.τ).loc Cert.RefConvIdeal.main_arg5)
          ∧ r.2.mem ((c.tc : Thread Cert.RefConvIdeal.nD Cert.RefConvIdeal.τ).loc Cert.RefConvIdeal.main_arg6) = m' ((c.tc : Thread Cert.RefConvIdeal.nD Cert.RefConvIdeal.τ).loc Cert.RefConvIdeal.main_arg6)
          ∧ r.2.mem ((c.tc : Thread Cert.RefConvIdeal.nD Cert.RefConvIdeal.τ).loc Cert.RefConvIdeal.main_arg7) = m' ((c.tc : Thread Cert.RefConvIdeal.nD Cert.RefConvIdeal.τ).loc Cert.RefConvIdeal.main_arg7)
          ∧ r.2.mem ((c.tc : Thread Cert.RefConvIdeal.nD Cert.RefConvIdeal.τ).loc Cert.RefConvIdeal.main_arg8) = m' ((c.tc : Thread Cert.RefConvIdeal.nD Cert.RefConvIdeal.τ).loc Cert.RefConvIdeal.main_arg8)
          ∧ r.2.mem ((c.tc : Thread Cert.RefConvIdeal.nD Cert.RefConvIdeal.τ).loc Cert.RefConvIdeal.main_arg9) = m' ((c.tc : Thread Cert.RefConvIdeal.nD Cert.RefConvIdeal.τ).loc Cert.RefConvIdeal.main_arg9))

def preserves_MixB_MixBIdeal : Prop :=
  IdealRules.named_const.Statement Cert.MixBIdeal.κ "cube" .f32 0x3D372713#32 ((8943 / 200000 : ℝ) : EReal)
  ∧ IdealRules.named_const.Statement Cert.MixBIdeal.κ "cube3" .f32 0x3E095D4F#32 ((26829 / 200000 : ℝ) : EReal)

def algebraic_MixBIdeal_RefMixBIdeal_pre_finite_mixb [hMixBIdeal : Cert.MixBIdeal.Facts] [hRefMixBIdeal : Cert.RefMixBIdeal.Facts] [hPre_finite_mixb : Cert.Pre_finite_mixb.Facts] : Prop :=
  ∀ (m : (ℓ : Loc Cert.MixBIdeal.nD Cert.MixBIdeal.τ Cert.MixBIdeal.sig) → Buf (Elt Ideal) ℓ) (g : Dev Cert.MixBIdeal.nD → PrngReg)
    (m' : (ℓ : Loc Cert.RefMixBIdeal.nD Cert.RefMixBIdeal.τ Cert.RefMixBIdeal.sig) → Buf (Elt Ideal) ℓ) (g' : Dev Cert.RefMixBIdeal.nD → PrngReg), Pre_MixBIdeal_finite_mixb m →
    (∀ c : Dev Cert.MixBIdeal.nD,
      m' ((c.tc : Thread Cert.RefMixBIdeal.nD Cert.RefMixBIdeal.τ).loc Cert.RefMixBIdeal.main_arg0) = m ((c.tc : Thread Cert.MixBIdeal.nD Cert.MixBIdeal.τ).loc Cert.MixBIdeal.main_arg0)
      ∧ m' ((c.tc : Thread Cert.RefMixBIdeal.nD Cert.RefMixBIdeal.τ).loc Cert.RefMixBIdeal.main_arg1) = m ((c.tc : Thread Cert.MixBIdeal.nD Cert.MixBIdeal.τ).loc Cert.MixBIdeal.main_arg1)
      ∧ m' ((c.tc : Thread Cert.RefMixBIdeal.nD Cert.RefMixBIdeal.τ).loc Cert.RefMixBIdeal.main_arg2) = m ((c.tc : Thread Cert.MixBIdeal.nD Cert.MixBIdeal.τ).loc Cert.MixBIdeal.main_arg2)
      ∧ m' ((c.tc : Thread Cert.RefMixBIdeal.nD Cert.RefMixBIdeal.τ).loc Cert.RefMixBIdeal.main_arg3) = m ((c.tc : Thread Cert.MixBIdeal.nD Cert.MixBIdeal.τ).loc Cert.MixBIdeal.main_arg3)
      ∧ m' ((c.tc : Thread Cert.RefMixBIdeal.nD Cert.RefMixBIdeal.τ).loc Cert.RefMixBIdeal.main_arg4) = m ((c.tc : Thread Cert.MixBIdeal.nD Cert.MixBIdeal.τ).loc Cert.MixBIdeal.main_arg4)
      ∧ m' ((c.tc : Thread Cert.RefMixBIdeal.nD Cert.RefMixBIdeal.τ).loc Cert.RefMixBIdeal.main_arg5) = m ((c.tc : Thread Cert.MixBIdeal.nD Cert.MixBIdeal.τ).loc Cert.MixBIdeal.main_arg5)
      ∧ m' ((c.tc : Thread Cert.RefMixBIdeal.nD Cert.RefMixBIdeal.τ).loc Cert.RefMixBIdeal.main_arg6) = m ((c.tc : Thread Cert.MixBIdeal.nD Cert.MixBIdeal.τ).loc Cert.MixBIdeal.main_arg6)
      ∧ m' ((c.tc : Thread Cert.RefMixBIdeal.nD Cert.RefMixBIdeal.τ).loc Cert.RefMixBIdeal.main_arg7) = m ((c.tc : Thread Cert.MixBIdeal.nD Cert.MixBIdeal.τ).loc Cert.MixBIdeal.main_arg7)
      ∧ m' ((c.tc : Thread Cert.RefMixBIdeal.nD Cert.RefMixBIdeal.τ).loc Cert.RefMixBIdeal.main_arg8) = m ((c.tc : Thread Cert.MixBIdeal.nD Cert.MixBIdeal.τ).loc Cert.MixBIdeal.main_arg8)
      ∧ m' ((c.tc : Thread Cert.RefMixBIdeal.nD Cert.RefMixBIdeal.τ).loc Cert.RefMixBIdeal.main_arg9) = m ((c.tc : Thread Cert.MixBIdeal.nD Cert.MixBIdeal.τ).loc Cert.MixBIdeal.main_arg9)
      ∧ m' ((c.tc : Thread Cert.RefMixBIdeal.nD Cert.RefMixBIdeal.τ).loc Cert.RefMixBIdeal.main_arg10) = m ((c.tc : Thread Cert.MixBIdeal.nD Cert.MixBIdeal.τ).loc Cert.MixBIdeal.main_arg10)
      ∧ m' ((c.tc : Thread Cert.RefMixBIdeal.nD Cert.RefMixBIdeal.τ).loc Cert.RefMixBIdeal.main_arg11) = m ((c.tc : Thread Cert.MixBIdeal.nD Cert.MixBIdeal.τ).loc Cert.MixBIdeal.main_arg11)
      ∧ m' ((c.tc : Thread Cert.RefMixBIdeal.nD Cert.RefMixBIdeal.τ).loc Cert.RefMixBIdeal.main_arg12) = m ((c.tc : Thread Cert.MixBIdeal.nD Cert.MixBIdeal.τ).loc Cert.MixBIdeal.main_arg12)
      ∧ m' ((c.tc : Thread Cert.RefMixBIdeal.nD Cert.RefMixBIdeal.τ).loc Cert.RefMixBIdeal.main_arg13) = m ((c.tc : Thread Cert.MixBIdeal.nD Cert.MixBIdeal.τ).loc Cert.MixBIdeal.main_arg13)) →
    ∃ (v0 : (c : Dev Cert.MixBIdeal.nD) → Buf (Elt Ideal) ((c.tc : Thread Cert.MixBIdeal.nD Cert.MixBIdeal.τ).loc Cert.MixBIdeal.main_v84_0)) (v1 : (c : Dev Cert.MixBIdeal.nD) → Buf (Elt Ideal) ((c.tc : Thread Cert.MixBIdeal.nD Cert.MixBIdeal.τ).loc Cert.MixBIdeal.main_v84_1)) (v2 : (c : Dev Cert.MixBIdeal.nD) → Buf (Elt Ideal) ((c.tc : Thread Cert.MixBIdeal.nD Cert.MixBIdeal.τ).loc Cert.MixBIdeal.main_v84_2)) (v3 : (c : Dev Cert.MixBIdeal.nD) → Buf (Elt Ideal) ((c.tc : Thread Cert.MixBIdeal.nD Cert.MixBIdeal.τ).loc Cert.MixBIdeal.main_v84_3)) (v4 : (c : Dev Cert.MixBIdeal.nD) → Buf (Elt Ideal) ((c.tc : Thread Cert.MixBIdeal.nD Cert.MixBIdeal.τ).loc Cert.MixBIdeal.main_v84_4)) (v5 : (c : Dev Cert.MixBIdeal.nD) → Buf (Elt Ideal) ((c.tc : Thread Cert.MixBIdeal.nD Cert.MixBIdeal.τ).loc Cert.MixBIdeal.main_v84_5)) (v6 : (c : Dev Cert.MixBIdeal.nD) → Buf (Elt Ideal) ((c.tc : Thread Cert.MixBIdeal.nD Cert.MixBIdeal.τ).loc Cert.MixBIdeal.main_v84_6)) (v7 : (c : Dev Cert.MixBIdeal.nD) → Buf (Elt Ideal) ((c.tc : Thread Cert.MixBIdeal.nD Cert.MixBIdeal.τ).loc Cert.MixBIdeal.main_v84_7)) (v8 : (c : Dev Cert.MixBIdeal.nD) → Buf (Elt Ideal) ((c.tc : Thread Cert.MixBIdeal.nD Cert.MixBIdeal.τ).loc Cert.MixBIdeal.main_v84_9)) (v9 : (c : Dev Cert.MixBIdeal.nD) → Buf (Elt Ideal) ((c.tc : Thread Cert.MixBIdeal.nD Cert.MixBIdeal.τ).loc Cert.MixBIdeal.main_v84_10)) (v10 : (c : Dev Cert.MixBIdeal.nD) → Buf (Elt Ideal) ((c.tc : Thread Cert.MixBIdeal.nD Cert.MixBIdeal.τ).loc Cert.MixBIdeal.main_v84_11)),
      θ_run (Cert.MixBIdeal.defs (F := Ideal)) (onTc (τ := Cert.MixBIdeal.τ) (Cert.MixBIdeal.main (F := Ideal))) ⟨m, fun _ => 0, g⟩ (fun r => ∀ c : Dev Cert.MixBIdeal.nD,
          r.2.mem ((c.tc : Thread Cert.MixBIdeal.nD Cert.MixBIdeal.τ).loc Cert.MixBIdeal.main_v84_0) = v0 c
          ∧ r.2.mem ((c.tc : Thread Cert.MixBIdeal.nD Cert.MixBIdeal.τ).loc Cert.MixBIdeal.main_v84_1) = v1 c
          ∧ r.2.mem ((c.tc : Thread Cert.MixBIdeal.nD Cert.MixBIdeal.τ).loc Cert.MixBIdeal.main_v84_2) = v2 c
          ∧ r.2.mem ((c.tc : Thread Cert.MixBIdeal.nD Cert.MixBIdeal.τ).loc Cert.MixBIdeal.main_v84_3) = v3 c
          ∧ r.2.mem ((c.tc : Thread Cert.MixBIdeal.nD Cert.MixBIdeal.τ).loc Cert.MixBIdeal.main_v84_4) = v4 c
          ∧ r.2.mem ((c.tc : Thread Cert.MixBIdeal.nD Cert.MixBIdeal.τ).loc Cert.MixBIdeal.main_v84_5) = v5 c
          ∧ r.2.mem ((c.tc : Thread Cert.MixBIdeal.nD Cert.MixBIdeal.τ).loc Cert.MixBIdeal.main_v84_6) = v6 c
          ∧ r.2.mem ((c.tc : Thread Cert.MixBIdeal.nD Cert.MixBIdeal.τ).loc Cert.MixBIdeal.main_v84_7) = v7 c
          ∧ r.2.mem ((c.tc : Thread Cert.MixBIdeal.nD Cert.MixBIdeal.τ).loc Cert.MixBIdeal.main_v84_9) = v8 c
          ∧ r.2.mem ((c.tc : Thread Cert.MixBIdeal.nD Cert.MixBIdeal.τ).loc Cert.MixBIdeal.main_v84_10) = v9 c
          ∧ r.2.mem ((c.tc : Thread Cert.MixBIdeal.nD Cert.MixBIdeal.τ).loc Cert.MixBIdeal.main_v84_11) = v10 c
          ∧ r.2.mem ((c.tc : Thread Cert.MixBIdeal.nD Cert.MixBIdeal.τ).loc Cert.MixBIdeal.main_arg0) = m ((c.tc : Thread Cert.MixBIdeal.nD Cert.MixBIdeal.τ).loc Cert.MixBIdeal.main_arg0)
          ∧ r.2.mem ((c.tc : Thread Cert.MixBIdeal.nD Cert.MixBIdeal.τ).loc Cert.MixBIdeal.main_arg1) = m ((c.tc : Thread Cert.MixBIdeal.nD Cert.MixBIdeal.τ).loc Cert.MixBIdeal.main_arg1)
          ∧ r.2.mem ((c.tc : Thread Cert.MixBIdeal.nD Cert.MixBIdeal.τ).loc Cert.MixBIdeal.main_arg2) = m ((c.tc : Thread Cert.MixBIdeal.nD Cert.MixBIdeal.τ).loc Cert.MixBIdeal.main_arg2)
          ∧ r.2.mem ((c.tc : Thread Cert.MixBIdeal.nD Cert.MixBIdeal.τ).loc Cert.MixBIdeal.main_arg3) = m ((c.tc : Thread Cert.MixBIdeal.nD Cert.MixBIdeal.τ).loc Cert.MixBIdeal.main_arg3)
          ∧ r.2.mem ((c.tc : Thread Cert.MixBIdeal.nD Cert.MixBIdeal.τ).loc Cert.MixBIdeal.main_arg4) = m ((c.tc : Thread Cert.MixBIdeal.nD Cert.MixBIdeal.τ).loc Cert.MixBIdeal.main_arg4)
          ∧ r.2.mem ((c.tc : Thread Cert.MixBIdeal.nD Cert.MixBIdeal.τ).loc Cert.MixBIdeal.main_arg5) = m ((c.tc : Thread Cert.MixBIdeal.nD Cert.MixBIdeal.τ).loc Cert.MixBIdeal.main_arg5)
          ∧ r.2.mem ((c.tc : Thread Cert.MixBIdeal.nD Cert.MixBIdeal.τ).loc Cert.MixBIdeal.main_arg6) = m ((c.tc : Thread Cert.MixBIdeal.nD Cert.MixBIdeal.τ).loc Cert.MixBIdeal.main_arg6)
          ∧ r.2.mem ((c.tc : Thread Cert.MixBIdeal.nD Cert.MixBIdeal.τ).loc Cert.MixBIdeal.main_arg7) = m ((c.tc : Thread Cert.MixBIdeal.nD Cert.MixBIdeal.τ).loc Cert.MixBIdeal.main_arg7)
          ∧ r.2.mem ((c.tc : Thread Cert.MixBIdeal.nD Cert.MixBIdeal.τ).loc Cert.MixBIdeal.main_arg8) = m ((c.tc : Thread Cert.MixBIdeal.nD Cert.MixBIdeal.τ).loc Cert.MixBIdeal.main_arg8)
          ∧ r.2.mem ((c.tc : Thread Cert.MixBIdeal.nD Cert.MixBIdeal.τ).loc Cert.MixBIdeal.main_arg9) = m ((c.tc : Thread Cert.MixBIdeal.nD Cert.MixBIdeal.τ).loc Cert.MixBIdeal.main_arg9)
          ∧ r.2.mem ((c.tc : Thread Cert.MixBIdeal.nD Cert.MixBIdeal.τ).loc Cert.MixBIdeal.main_arg10) = m ((c.tc : Thread Cert.MixBIdeal.nD Cert.MixBIdeal.τ).loc Cert.MixBIdeal.main_arg10)
          ∧ r.2.mem ((c.tc : Thread Cert.MixBIdeal.nD Cert.MixBIdeal.τ).loc Cert.MixBIdeal.main_arg11) = m ((c.tc : Thread Cert.MixBIdeal.nD Cert.MixBIdeal.τ).loc Cert.MixBIdeal.main_arg11)
          ∧ r.2.mem ((c.tc : Thread Cert.MixBIdeal.nD Cert.MixBIdeal.τ).loc Cert.MixBIdeal.main_arg12) = m ((c.tc : Thread Cert.MixBIdeal.nD Cert.MixBIdeal.τ).loc Cert.MixBIdeal.main_arg12)
          ∧ r.2.mem ((c.tc : Thread Cert.MixBIdeal.nD Cert.MixBIdeal.τ).loc Cert.MixBIdeal.main_arg13) = m ((c.tc : Thread Cert.MixBIdeal.nD Cert.MixBIdeal.τ).loc Cert.MixBIdeal.main_arg13))
      ∧ θ_run (Cert.RefMixBIdeal.defs (F := Ideal)) (onTc (τ := Cert.RefMixBIdeal.τ) (Cert.RefMixBIdeal.main (F := Ideal))) ⟨m', fun _ => 0, g'⟩ (fun r => ∀ c : Dev Cert.RefMixBIdeal.nD,
          r.2.mem ((c.tc : Thread Cert.RefMixBIdeal.nD Cert.RefMixBIdeal.τ).loc Cert.RefMixBIdeal.main_v134) = v0 c
          ∧ r.2.mem ((c.tc : Thread Cert.RefMixBIdeal.nD Cert.RefMixBIdeal.τ).loc Cert.RefMixBIdeal.main_v174) = v1 c
          ∧ r.2.mem ((c.tc : Thread Cert.RefMixBIdeal.nD Cert.RefMixBIdeal.τ).loc Cert.RefMixBIdeal.main_v175) = v2 c
          ∧ r.2.mem ((c.tc : Thread Cert.RefMixBIdeal.nD Cert.RefMixBIdeal.τ).loc Cert.RefMixBIdeal.main_v176) = v3 c
          ∧ r.2.mem ((c.tc : Thread Cert.RefMixBIdeal.nD Cert.RefMixBIdeal.τ).loc Cert.RefMixBIdeal.main_v159) = v4 c
          ∧ r.2.mem ((c.tc : Thread Cert.RefMixBIdeal.nD Cert.RefMixBIdeal.τ).loc Cert.RefMixBIdeal.main_v177) = v5 c
          ∧ r.2.mem ((c.tc : Thread Cert.RefMixBIdeal.nD Cert.RefMixBIdeal.τ).loc Cert.RefMixBIdeal.main_v178) = v6 c
          ∧ r.2.mem ((c.tc : Thread Cert.RefMixBIdeal.nD Cert.RefMixBIdeal.τ).loc Cert.RefMixBIdeal.main_v179) = v7 c
          ∧ r.2.mem ((c.tc : Thread Cert.RefMixBIdeal.nD Cert.RefMixBIdeal.τ).loc Cert.RefMixBIdeal.main_v107) = v8 c
          ∧ r.2.mem ((c.tc : Thread Cert.RefMixBIdeal.nD Cert.RefMixBIdeal.τ).loc Cert.RefMixBIdeal.main_v104) = v9 c
          ∧ r.2.mem ((c.tc : Thread Cert.RefMixBIdeal.nD Cert.RefMixBIdeal.τ).loc Cert.RefMixBIdeal.main_v180) = v10 c
          ∧ r.2.mem ((c.tc : Thread Cert.RefMixBIdeal.nD Cert.RefMixBIdeal.τ).loc Cert.RefMixBIdeal.main_arg0) = m' ((c.tc : Thread Cert.RefMixBIdeal.nD Cert.RefMixBIdeal.τ).loc Cert.RefMixBIdeal.main_arg0)
          ∧ r.2.mem ((c.tc : Thread Cert.RefMixBIdeal.nD Cert.RefMixBIdeal.τ).loc Cert.RefMixBIdeal.main_arg1) = m' ((c.tc : Thread Cert.RefMixBIdeal.nD Cert.RefMixBIdeal.τ).loc Cert.RefMixBIdeal.main_arg1)
          ∧ r.2.mem ((c.tc : Thread Cert.RefMixBIdeal.nD Cert.RefMixBIdeal.τ).loc Cert.RefMixBIdeal.main_arg2) = m' ((c.tc : Thread Cert.RefMixBIdeal.nD Cert.RefMixBIdeal.τ).loc Cert.RefMixBIdeal.main_arg2)
          ∧ r.2.mem ((c.tc : Thread Cert.RefMixBIdeal.nD Cert.RefMixBIdeal.τ).loc Cert.RefMixBIdeal.main_arg3) = m' ((c.tc : Thread Cert.RefMixBIdeal.nD Cert.RefMixBIdeal.τ).loc Cert.RefMixBIdeal.main_arg3)
          ∧ r.2.mem ((c.tc : Thread Cert.RefMixBIdeal.nD Cert.RefMixBIdeal.τ).loc Cert.RefMixBIdeal.main_arg4) = m' ((c.tc : Thread Cert.RefMixBIdeal.nD Cert.RefMixBIdeal.τ).loc Cert.RefMixBIdeal.main_arg4)
          ∧ r.2.mem ((c.tc : Thread Cert.RefMixBIdeal.nD Cert.RefMixBIdeal.τ).loc Cert.RefMixBIdeal.main_arg5) = m' ((c.tc : Thread Cert.RefMixBIdeal.nD Cert.RefMixBIdeal.τ).loc Cert.RefMixBIdeal.main_arg5)
          ∧ r.2.mem ((c.tc : Thread Cert.RefMixBIdeal.nD Cert.RefMixBIdeal.τ).loc Cert.RefMixBIdeal.main_arg6) = m' ((c.tc : Thread Cert.RefMixBIdeal.nD Cert.RefMixBIdeal.τ).loc Cert.RefMixBIdeal.main_arg6)
          ∧ r.2.mem ((c.tc : Thread Cert.RefMixBIdeal.nD Cert.RefMixBIdeal.τ).loc Cert.RefMixBIdeal.main_arg7) = m' ((c.tc : Thread Cert.RefMixBIdeal.nD Cert.RefMixBIdeal.τ).loc Cert.RefMixBIdeal.main_arg7)
          ∧ r.2.mem ((c.tc : Thread Cert.RefMixBIdeal.nD Cert.RefMixBIdeal.τ).loc Cert.RefMixBIdeal.main_arg8) = m' ((c.tc : Thread Cert.RefMixBIdeal.nD Cert.RefMixBIdeal.τ).loc Cert.RefMixBIdeal.main_arg8)
          ∧ r.2.mem ((c.tc : Thread Cert.RefMixBIdeal.nD Cert.RefMixBIdeal.τ).loc Cert.RefMixBIdeal.main_arg9) = m' ((c.tc : Thread Cert.RefMixBIdeal.nD Cert.RefMixBIdeal.τ).loc Cert.RefMixBIdeal.main_arg9)
          ∧ r.2.mem ((c.tc : Thread Cert.RefMixBIdeal.nD Cert.RefMixBIdeal.τ).loc Cert.RefMixBIdeal.main_arg10) = m' ((c.tc : Thread Cert.RefMixBIdeal.nD Cert.RefMixBIdeal.τ).loc Cert.RefMixBIdeal.main_arg10)
          ∧ r.2.mem ((c.tc : Thread Cert.RefMixBIdeal.nD Cert.RefMixBIdeal.τ).loc Cert.RefMixBIdeal.main_arg11) = m' ((c.tc : Thread Cert.RefMixBIdeal.nD Cert.RefMixBIdeal.τ).loc Cert.RefMixBIdeal.main_arg11)
          ∧ r.2.mem ((c.tc : Thread Cert.RefMixBIdeal.nD Cert.RefMixBIdeal.τ).loc Cert.RefMixBIdeal.main_arg12) = m' ((c.tc : Thread Cert.RefMixBIdeal.nD Cert.RefMixBIdeal.τ).loc Cert.RefMixBIdeal.main_arg12)
          ∧ r.2.mem ((c.tc : Thread Cert.RefMixBIdeal.nD Cert.RefMixBIdeal.τ).loc Cert.RefMixBIdeal.main_arg13) = m' ((c.tc : Thread Cert.RefMixBIdeal.nD Cert.RefMixBIdeal.τ).loc Cert.RefMixBIdeal.main_arg13))

def preserves_Ffn_FfnIdeal : Prop :=
  True

def algebraic_FfnIdeal_RefFfnIdeal_pre_finite_ffn [hFfnIdeal : Cert.FfnIdeal.Facts] [hRefFfnIdeal : Cert.RefFfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal_finite_ffn m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v32_0)) (v1 : (c : Dev Cert.FfnIdeal.nD) → Buf (Elt Ideal) ((c.tc : Thread Cert.FfnIdeal.nD Cert.FfnIdeal.τ).loc Cert.FfnIdeal.main_v32_1)) (v2 : (c : Dev Cert.FfnIdeal.nD) → Buf (Elt Ideal) ((c.tc : Thread Cert.FfnIdeal.nD Cert.FfnIdeal.τ).loc Cert.FfnIdeal.main_v32_2)) (v3 : (c : Dev Cert.FfnIdeal.nD) → Buf (Elt Ideal) ((c.tc : Thread Cert.FfnIdeal.nD Cert.FfnIdeal.τ).loc Cert.FfnIdeal.main_v32_3)) (v4 : (c : Dev Cert.FfnIdeal.nD) → Buf (Elt Ideal) ((c.tc : Thread Cert.FfnIdeal.nD Cert.FfnIdeal.τ).loc Cert.FfnIdeal.main_v32_4)) (v5 : (c : Dev Cert.FfnIdeal.nD) → Buf (Elt Ideal) ((c.tc : Thread Cert.FfnIdeal.nD Cert.FfnIdeal.τ).loc Cert.FfnIdeal.main_v32_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v32_0) = v0 c
          ∧ r.2.mem ((c.tc : Thread Cert.FfnIdeal.nD Cert.FfnIdeal.τ).loc Cert.FfnIdeal.main_v32_1) = v1 c
          ∧ r.2.mem ((c.tc : Thread Cert.FfnIdeal.nD Cert.FfnIdeal.τ).loc Cert.FfnIdeal.main_v32_2) = v2 c
          ∧ r.2.mem ((c.tc : Thread Cert.FfnIdeal.nD Cert.FfnIdeal.τ).loc Cert.FfnIdeal.main_v32_3) = v3 c
          ∧ r.2.mem ((c.tc : Thread Cert.FfnIdeal.nD Cert.FfnIdeal.τ).loc Cert.FfnIdeal.main_v32_4) = v4 c
          ∧ r.2.mem ((c.tc : Thread Cert.FfnIdeal.nD Cert.FfnIdeal.τ).loc Cert.FfnIdeal.main_v32_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v88) = v0 c
          ∧ r.2.mem ((c.tc : Thread Cert.RefFfnIdeal.nD Cert.RefFfnIdeal.τ).loc Cert.RefFfnIdeal.main_v94) = v1 c
          ∧ r.2.mem ((c.tc : Thread Cert.RefFfnIdeal.nD Cert.RefFfnIdeal.τ).loc Cert.RefFfnIdeal.main_v95) = v2 c
          ∧ r.2.mem ((c.tc : Thread Cert.RefFfnIdeal.nD Cert.RefFfnIdeal.τ).loc Cert.RefFfnIdeal.main_v96) = v3 c
          ∧ r.2.mem ((c.tc : Thread Cert.RefFfnIdeal.nD Cert.RefFfnIdeal.τ).loc Cert.RefFfnIdeal.main_v51) = v4 c
          ∧ r.2.mem ((c.tc : Thread Cert.RefFfnIdeal.nD Cert.RefFfnIdeal.τ).loc Cert.RefFfnIdeal.main_v48) = v5 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4))

def preserves_S5_S5Ideal : Prop :=
  True

def algebraic_S5Ideal_RefS5Ideal_on_diagonal_s5 [hS5Ideal : Cert.S5Ideal.Facts] [hRefS5Ideal : Cert.RefS5Ideal.Facts] [hOn_diagonal_s5 : Cert.On_diagonal_s5.Facts] : Prop :=
  ∀ (m : (ℓ : Loc Cert.S5Ideal.nD Cert.S5Ideal.τ Cert.S5Ideal.sig) → Buf (Elt Ideal) ℓ) (g : Dev Cert.S5Ideal.nD → PrngReg)
    (m' : (ℓ : Loc Cert.RefS5Ideal.nD Cert.RefS5Ideal.τ Cert.RefS5Ideal.sig) → Buf (Elt Ideal) ℓ) (g' : Dev Cert.RefS5Ideal.nD → PrngReg), Pre_S5Ideal m →
    (∀ c : Dev Cert.S5Ideal.nD,
      m' ((c.tc : Thread Cert.RefS5Ideal.nD Cert.RefS5Ideal.τ).loc Cert.RefS5Ideal.main_arg0) = m ((c.tc : Thread Cert.S5Ideal.nD Cert.S5Ideal.τ).loc Cert.S5Ideal.main_arg0)
      ∧ m' ((c.tc : Thread Cert.RefS5Ideal.nD Cert.RefS5Ideal.τ).loc Cert.RefS5Ideal.main_arg1) = m ((c.tc : Thread Cert.S5Ideal.nD Cert.S5Ideal.τ).loc Cert.S5Ideal.main_arg1)
      ∧ m' ((c.tc : Thread Cert.RefS5Ideal.nD Cert.RefS5Ideal.τ).loc Cert.RefS5Ideal.main_arg2) = m ((c.tc : Thread Cert.S5Ideal.nD Cert.S5Ideal.τ).loc Cert.S5Ideal.main_arg2)
      ∧ m' ((c.tc : Thread Cert.RefS5Ideal.nD Cert.RefS5Ideal.τ).loc Cert.RefS5Ideal.main_arg3) = m ((c.tc : Thread Cert.S5Ideal.nD Cert.S5Ideal.τ).loc Cert.S5Ideal.main_arg3)
      ∧ m' ((c.tc : Thread Cert.RefS5Ideal.nD Cert.RefS5Ideal.τ).loc Cert.RefS5Ideal.main_arg4) = m ((c.tc : Thread Cert.S5Ideal.nD Cert.S5Ideal.τ).loc Cert.S5Ideal.main_arg4)
      ∧ m' ((c.tc : Thread Cert.RefS5Ideal.nD Cert.RefS5Ideal.τ).loc Cert.RefS5Ideal.main_arg5) = m ((c.tc : Thread Cert.S5Ideal.nD Cert.S5Ideal.τ).loc Cert.S5Ideal.main_arg5)
      ∧ m' ((c.tc : Thread Cert.RefS5Ideal.nD Cert.RefS5Ideal.τ).loc Cert.RefS5Ideal.main_arg6) = m ((c.tc : Thread Cert.S5Ideal.nD Cert.S5Ideal.τ).loc Cert.S5Ideal.main_arg6)
      ∧ m' ((c.tc : Thread Cert.RefS5Ideal.nD Cert.RefS5Ideal.τ).loc Cert.RefS5Ideal.main_arg7) = m ((c.tc : Thread Cert.S5Ideal.nD Cert.S5Ideal.τ).loc Cert.S5Ideal.main_arg7)) →
    ∃ (v0 : (c : Dev Cert.S5Ideal.nD) → Buf (Elt Ideal) ((c.tc : Thread Cert.S5Ideal.nD Cert.S5Ideal.τ).loc Cert.S5Ideal.main_v737_3)) (v1 : (c : Dev Cert.S5Ideal.nD) → Buf (Elt Ideal) ((c.tc : Thread Cert.S5Ideal.nD Cert.S5Ideal.τ).loc Cert.S5Ideal.main_v737_4)),
      θ_run (Cert.S5Ideal.defs (F := Ideal)) (onTc (τ := Cert.S5Ideal.τ) (Cert.S5Ideal.main (F := Ideal))) ⟨m, fun _ => 0, g⟩ (fun r => ∀ c : Dev Cert.S5Ideal.nD,
          (∀ i : (⟨3, ![16, 128, 128]⟩ : Shape).Idx, (Cert.On_diagonal_s5.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7))).1 i = 1#1 → r.2.mem ((c.tc : Thread Cert.S5Ideal.nD Cert.S5Ideal.τ).loc Cert.S5Ideal.main_v737_3) i = v0 c i)
          ∧ (∀ i : (⟨3, ![16, 128, 128]⟩ : Shape).Idx, (Cert.On_diagonal_s5.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7))).2 i = 1#1 → r.2.mem ((c.tc : Thread Cert.S5Ideal.nD Cert.S5Ideal.τ).loc Cert.S5Ideal.main_v737_4) i = v1 c i)
          ∧ r.2.mem ((c.tc : Thread Cert.S5Ideal.nD Cert.S5Ideal.τ).loc Cert.S5Ideal.main_arg0) = m ((c.tc : Thread Cert.S5Ideal.nD Cert.S5Ideal.τ).loc Cert.S5Ideal.main_arg0)
          ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
          ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
          ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
          ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
          ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
          ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
          ∧ r.2.mem ((c.tc : Thread Cert.S5Ideal.nD Cert.S5Ideal.τ).loc Cert.S5Ideal.main_arg7) = m ((c.tc : Thread Cert.S5Ideal.nD Cert.S5Ideal.τ).loc Cert.S5Ideal.main_arg7))
      ∧ θ_run (Cert.RefS5Ideal.defs (F := Ideal)) (onTc (τ := Cert.RefS5Ideal.τ) (Cert.RefS5Ideal.main (F := Ideal))) ⟨m', fun _ => 0, g'⟩ (fun r => ∀ c : Dev Cert.RefS5Ideal.nD,
          (∀ i : (⟨3, ![16, 128, 128]⟩ : Shape).Idx, (Cert.On_diagonal_s5.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7))).1 i = 1#1 → r.2.mem ((c.tc : Thread Cert.RefS5Ideal.nD Cert.RefS5Ideal.τ).loc Cert.RefS5Ideal.main_v726) i = v0 c i)
          ∧ (∀ i : (⟨3, ![16, 128, 128]⟩ : Shape).Idx, (Cert.On_diagonal_s5.fn (F := Ideal) (m ((c.tc : Thread Cert.S5Ideal.nD Cert.S5Ideal.τ).loc Cert.S5Ideal.main_arg0)) (m ((c.tc : Thread Cert.S5Ideal.nD Cert.S5Ideal.τ).loc Cert.S5Ideal.main_arg1)) (m ((c.tc : Thread Cert.S5Ideal.nD Cert.S5Ideal.τ).loc Cert.S5Ideal.main_arg2)) (m ((c.tc : Thread Cert.S5Ideal.nD Cert.S5Ideal.τ).loc Cert.S5Ideal.main_arg3)) (m ((c.tc : Thread Cert.S5Ideal.nD Cert.S5Ideal.τ).loc Cert.S5Ideal.main_arg4)) (m ((c.tc : Thread Cert.S5Ideal.nD Cert.S5Ideal.τ).loc Cert.S5Ideal.main_arg5)) (m ((c.tc : Thread Cert.S5Ideal.nD Cert.S5Ideal.τ).loc Cert.S5Ideal.main_arg6)) (m ((c.tc : Thread Cert.S5Ideal.nD Cert.S5Ideal.τ).loc Cert.S5Ideal.main_arg7))).2 i = 1#1 → r.2.mem ((c.tc : Thread Cert.RefS5Ideal.nD Cert.RefS5Ideal.τ).loc Cert.RefS5Ideal.main_v730) i = v1 c i)
          ∧ r.2.mem ((c.tc : Thread Cert.RefS5Ideal.nD Cert.RefS5Ideal.τ).loc Cert.RefS5Ideal.main_arg0) = m' ((c.tc : Thread Cert.RefS5Ideal.nD Cert.RefS5Ideal.τ).loc Cert.RefS5Ideal.main_arg0)
          ∧ r.2.mem ((c.tc : Thread Cert.RefS5Ideal.nD Cert.RefS5Ideal.τ).loc Cert.RefS5Ideal.main_arg1) = m' ((c.tc : Thread Cert.RefS5Ideal.nD Cert.RefS5Ideal.τ).loc Cert.RefS5Ideal.main_arg1)
          ∧ r.2.mem ((c.tc : Thread Cert.RefS5Ideal.nD Cert.RefS5Ideal.τ).loc Cert.RefS5Ideal.main_arg2) = m' ((c.tc : Thread Cert.RefS5Ideal.nD Cert.RefS5Ideal.τ).loc Cert.RefS5Ideal.main_arg2)
          ∧ r.2.mem ((c.tc : Thread Cert.RefS5Ideal.nD Cert.RefS5Ideal.τ).loc Cert.RefS5Ideal.main_arg3) = m' ((c.tc : Thread Cert.RefS5Ideal.nD Cert.RefS5Ideal.τ).loc Cert.RefS5Ideal.main_arg3)
          ∧ r.2.mem ((c.tc : Thread Cert.RefS5Ideal.nD Cert.RefS5Ideal.τ).loc Cert.RefS5Ideal.main_arg4) = m' ((c.tc : Thread Cert.RefS5Ideal.nD Cert.RefS5Ideal.τ).loc Cert.RefS5Ideal.main_arg4)
          ∧ r.2.mem ((c.tc : Thread Cert.RefS5Ideal.nD Cert.RefS5Ideal.τ).loc Cert.RefS5Ideal.main_arg5) = m' ((c.tc : Thread Cert.RefS5Ideal.nD Cert.RefS5Ideal.τ).loc Cert.RefS5Ideal.main_arg5)
          ∧ r.2.mem ((c.tc : Thread Cert.RefS5Ideal.nD Cert.RefS5Ideal.τ).loc Cert.RefS5Ideal.main_arg6) = m' ((c.tc : Thread Cert.RefS5Ideal.nD Cert.RefS5Ideal.τ).loc Cert.RefS5Ideal.main_arg6)
          ∧ r.2.mem ((c.tc : Thread Cert.RefS5Ideal.nD Cert.RefS5Ideal.τ).loc Cert.RefS5Ideal.main_arg7) = m' ((c.tc : Thread Cert.RefS5Ideal.nD Cert.RefS5Ideal.τ).loc Cert.RefS5Ideal.main_arg7))

def preserves_Fwd_FwdIdeal : Prop :=
  True

def algebraic_FwdIdeal_RefFwdIdeal_pre_finite_fwd [hFwdIdeal : Cert.FwdIdeal.Facts] [hRefFwdIdeal : Cert.RefFwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdIdeal_finite_fwd m →
    (∀ c : Dev Cert.FwdIdeal.nD,
      m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0)
      ∧ m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1)
      ∧ m' ((c.tc : Thread Cert.RefFwdIdeal.nD Cert.RefFwdIdeal.τ).loc Cert.RefFwdIdeal.main_arg2) = m ((c.tc : Thread Cert.FwdIdeal.nD Cert.FwdIdeal.τ).loc Cert.FwdIdeal.main_arg2)
      ∧ m' ((c.tc : Thread Cert.RefFwdIdeal.nD Cert.RefFwdIdeal.τ).loc Cert.RefFwdIdeal.main_arg3) = m ((c.tc : Thread Cert.FwdIdeal.nD Cert.FwdIdeal.τ).loc Cert.FwdIdeal.main_arg3)
      ∧ m' ((c.tc : Thread Cert.RefFwdIdeal.nD Cert.RefFwdIdeal.τ).loc Cert.RefFwdIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v5_0)) (v1 : (c : Dev Cert.FwdIdeal.nD) → Buf (Elt Ideal) ((c.tc : Thread Cert.FwdIdeal.nD Cert.FwdIdeal.τ).loc Cert.FwdIdeal.main_v5_1)) (v2 : (c : Dev Cert.FwdIdeal.nD) → Buf (Elt Ideal) ((c.tc : Thread Cert.FwdIdeal.nD Cert.FwdIdeal.τ).loc Cert.FwdIdeal.main_v5_2)) (v3 : (c : Dev Cert.FwdIdeal.nD) → Buf (Elt Ideal) ((c.tc : Thread Cert.FwdIdeal.nD Cert.FwdIdeal.τ).loc Cert.FwdIdeal.main_v5_3)) (v4 : (c : Dev Cert.FwdIdeal.nD) → Buf (Elt Ideal) ((c.tc : Thread Cert.FwdIdeal.nD Cert.FwdIdeal.τ).loc Cert.FwdIdeal.main_v5_4)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v5_0) = v0 c
          ∧ r.2.mem ((c.tc : Thread Cert.FwdIdeal.nD Cert.FwdIdeal.τ).loc Cert.FwdIdeal.main_v5_1) = v1 c
          ∧ r.2.mem ((c.tc : Thread Cert.FwdIdeal.nD Cert.FwdIdeal.τ).loc Cert.FwdIdeal.main_v5_2) = v2 c
          ∧ r.2.mem ((c.tc : Thread Cert.FwdIdeal.nD Cert.FwdIdeal.τ).loc Cert.FwdIdeal.main_v5_3) = v3 c
          ∧ r.2.mem ((c.tc : Thread Cert.FwdIdeal.nD Cert.FwdIdeal.τ).loc Cert.FwdIdeal.main_v5_4) = v4 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v36) = v0 c
          ∧ r.2.mem ((c.tc : Thread Cert.RefFwdIdeal.nD Cert.RefFwdIdeal.τ).loc Cert.RefFwdIdeal.main_v10) = v1 c
          ∧ r.2.mem ((c.tc : Thread Cert.RefFwdIdeal.nD Cert.RefFwdIdeal.τ).loc Cert.RefFwdIdeal.main_v30) = v2 c
          ∧ r.2.mem ((c.tc : Thread Cert.RefFwdIdeal.nD Cert.RefFwdIdeal.τ).loc Cert.RefFwdIdeal.main_v37) = v3 c
          ∧ r.2.mem ((c.tc : Thread Cert.RefFwdIdeal.nD Cert.RefFwdIdeal.τ).loc Cert.RefFwdIdeal.main_v38) = v4 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1)
          ∧ r.2.mem ((c.tc : Thread Cert.RefFwdIdeal.nD Cert.RefFwdIdeal.τ).loc Cert.RefFwdIdeal.main_arg2) = m' ((c.tc : Thread Cert.RefFwdIdeal.nD Cert.RefFwdIdeal.τ).loc Cert.RefFwdIdeal.main_arg2)
          ∧ r.2.mem ((c.tc : Thread Cert.RefFwdIdeal.nD Cert.RefFwdIdeal.τ).loc Cert.RefFwdIdeal.main_arg3) = m' ((c.tc : Thread Cert.RefFwdIdeal.nD Cert.RefFwdIdeal.τ).loc Cert.RefFwdIdeal.main_arg3)
          ∧ r.2.mem ((c.tc : Thread Cert.RefFwdIdeal.nD Cert.RefFwdIdeal.τ).loc Cert.RefFwdIdeal.main_arg4) = m' ((c.tc : Thread Cert.RefFwdIdeal.nD Cert.RefFwdIdeal.τ).loc Cert.RefFwdIdeal.main_arg4))

def preserves_MixF_MixFIdeal : Prop :=
  IdealRules.named_const.Statement Cert.MixFIdeal.κ "cube" .f32 0x3D372713#32 ((8943 / 200000 : ℝ) : EReal)

def algebraic_MixFIdeal_RefMixFIdeal_pre_finite_mixf [hMixFIdeal : Cert.MixFIdeal.Facts] [hRefMixFIdeal : Cert.RefMixFIdeal.Facts] [hPre_finite_mixf : Cert.Pre_finite_mixf.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.RefMixFIdeal.nD Cert.RefMixFIdeal.τ Cert.RefMixFIdeal.sig) → Buf (Elt Ideal) ℓ) (g' : Dev Cert.RefMixFIdeal.nD → PrngReg), Pre_MixFIdeal_finite_mixf m →
    (∀ c : Dev Cert.MixFIdeal.nD,
      m' ((c.tc : Thread Cert.RefMixFIdeal.nD Cert.RefMixFIdeal.τ).loc Cert.RefMixFIdeal.main_arg0) = m ((c.tc : Thread Cert.MixFIdeal.nD Cert.MixFIdeal.τ).loc Cert.MixFIdeal.main_arg0)
      ∧ m' ((c.tc : Thread Cert.RefMixFIdeal.nD Cert.RefMixFIdeal.τ).loc Cert.RefMixFIdeal.main_arg1) = m ((c.tc : Thread Cert.MixFIdeal.nD Cert.MixFIdeal.τ).loc Cert.MixFIdeal.main_arg1)
      ∧ m' ((c.tc : Thread Cert.RefMixFIdeal.nD Cert.RefMixFIdeal.τ).loc Cert.RefMixFIdeal.main_arg2) = m ((c.tc : Thread Cert.MixFIdeal.nD Cert.MixFIdeal.τ).loc Cert.MixFIdeal.main_arg2)
      ∧ m' ((c.tc : Thread Cert.RefMixFIdeal.nD Cert.RefMixFIdeal.τ).loc Cert.RefMixFIdeal.main_arg3) = m ((c.tc : Thread Cert.MixFIdeal.nD Cert.MixFIdeal.τ).loc Cert.MixFIdeal.main_arg3)
      ∧ m' ((c.tc : Thread Cert.RefMixFIdeal.nD Cert.RefMixFIdeal.τ).loc Cert.RefMixFIdeal.main_arg4) = m ((c.tc : Thread Cert.MixFIdeal.nD Cert.MixFIdeal.τ).loc Cert.MixFIdeal.main_arg4)
      ∧ m' ((c.tc : Thread Cert.RefMixFIdeal.nD Cert.RefMixFIdeal.τ).loc Cert.RefMixFIdeal.main_arg5) = m ((c.tc : Thread Cert.MixFIdeal.nD Cert.MixFIdeal.τ).loc Cert.MixFIdeal.main_arg5)
      ∧ m' ((c.tc : Thread Cert.RefMixFIdeal.nD Cert.RefMixFIdeal.τ).loc Cert.RefMixFIdeal.main_arg6) = m ((c.tc : Thread Cert.MixFIdeal.nD Cert.MixFIdeal.τ).loc Cert.MixFIdeal.main_arg6)
      ∧ m' ((c.tc : Thread Cert.RefMixFIdeal.nD Cert.RefMixFIdeal.τ).loc Cert.RefMixFIdeal.main_arg7) = m ((c.tc : Thread Cert.MixFIdeal.nD Cert.MixFIdeal.τ).loc Cert.MixFIdeal.main_arg7)
      ∧ m' ((c.tc : Thread Cert.RefMixFIdeal.nD Cert.RefMixFIdeal.τ).loc Cert.RefMixFIdeal.main_arg8) = m ((c.tc : Thread Cert.MixFIdeal.nD Cert.MixFIdeal.τ).loc Cert.MixFIdeal.main_arg8)
      ∧ m' ((c.tc : Thread Cert.RefMixFIdeal.nD Cert.RefMixFIdeal.τ).loc Cert.RefMixFIdeal.main_arg9) = m ((c.tc : Thread Cert.MixFIdeal.nD Cert.MixFIdeal.τ).loc Cert.MixFIdeal.main_arg9)
      ∧ m' ((c.tc : Thread Cert.RefMixFIdeal.nD Cert.RefMixFIdeal.τ).loc Cert.RefMixFIdeal.main_arg10) = m ((c.tc : Thread Cert.MixFIdeal.nD Cert.MixFIdeal.τ).loc Cert.MixFIdeal.main_arg10)
      ∧ m' ((c.tc : Thread Cert.RefMixFIdeal.nD Cert.RefMixFIdeal.τ).loc Cert.RefMixFIdeal.main_arg11) = m ((c.tc : Thread Cert.MixFIdeal.nD Cert.MixFIdeal.τ).loc Cert.MixFIdeal.main_arg11)
      ∧ m' ((c.tc : Thread Cert.RefMixFIdeal.nD Cert.RefMixFIdeal.τ).loc Cert.RefMixFIdeal.main_arg12) = m ((c.tc : Thread Cert.MixFIdeal.nD Cert.MixFIdeal.τ).loc Cert.MixFIdeal.main_arg12)
      ∧ m' ((c.tc : Thread Cert.RefMixFIdeal.nD Cert.RefMixFIdeal.τ).loc Cert.RefMixFIdeal.main_arg13) = m ((c.tc : Thread Cert.MixFIdeal.nD Cert.MixFIdeal.τ).loc Cert.MixFIdeal.main_arg13)) →
    ∃ (v0 : (c : Dev Cert.MixFIdeal.nD) → Buf (Elt Ideal) ((c.tc : Thread Cert.MixFIdeal.nD Cert.MixFIdeal.τ).loc Cert.MixFIdeal.main_v27_0)) (v1 : (c : Dev Cert.MixFIdeal.nD) → Buf (Elt Ideal) ((c.tc : Thread Cert.MixFIdeal.nD Cert.MixFIdeal.τ).loc Cert.MixFIdeal.main_v27_1)) (v2 : (c : Dev Cert.MixFIdeal.nD) → Buf (Elt Ideal) ((c.tc : Thread Cert.MixFIdeal.nD Cert.MixFIdeal.τ).loc Cert.MixFIdeal.main_v27_2)) (v3 : (c : Dev Cert.MixFIdeal.nD) → Buf (Elt Ideal) ((c.tc : Thread Cert.MixFIdeal.nD Cert.MixFIdeal.τ).loc Cert.MixFIdeal.main_v27_3)) (v4 : (c : Dev Cert.MixFIdeal.nD) → Buf (Elt Ideal) ((c.tc : Thread Cert.MixFIdeal.nD Cert.MixFIdeal.τ).loc Cert.MixFIdeal.main_v27_4)) (v5 : (c : Dev Cert.MixFIdeal.nD) → Buf (Elt Ideal) ((c.tc : Thread Cert.MixFIdeal.nD Cert.MixFIdeal.τ).loc Cert.MixFIdeal.main_v27_5)) (v6 : (c : Dev Cert.MixFIdeal.nD) → Buf (Elt Ideal) ((c.tc : Thread Cert.MixFIdeal.nD Cert.MixFIdeal.τ).loc Cert.MixFIdeal.main_v27_6)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v27_0) = v0 c
          ∧ r.2.mem ((c.tc : Thread Cert.MixFIdeal.nD Cert.MixFIdeal.τ).loc Cert.MixFIdeal.main_v27_1) = v1 c
          ∧ r.2.mem ((c.tc : Thread Cert.MixFIdeal.nD Cert.MixFIdeal.τ).loc Cert.MixFIdeal.main_v27_2) = v2 c
          ∧ r.2.mem ((c.tc : Thread Cert.MixFIdeal.nD Cert.MixFIdeal.τ).loc Cert.MixFIdeal.main_v27_3) = v3 c
          ∧ r.2.mem ((c.tc : Thread Cert.MixFIdeal.nD Cert.MixFIdeal.τ).loc Cert.MixFIdeal.main_v27_4) = v4 c
          ∧ r.2.mem ((c.tc : Thread Cert.MixFIdeal.nD Cert.MixFIdeal.τ).loc Cert.MixFIdeal.main_v27_5) = v5 c
          ∧ r.2.mem ((c.tc : Thread Cert.MixFIdeal.nD Cert.MixFIdeal.τ).loc Cert.MixFIdeal.main_v27_6) = v6 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4)
          ∧ r.2.mem ((c.tc : Thread Cert.MixFIdeal.nD Cert.MixFIdeal.τ).loc Cert.MixFIdeal.main_arg5) = m ((c.tc : Thread Cert.MixFIdeal.nD Cert.MixFIdeal.τ).loc Cert.MixFIdeal.main_arg5)
          ∧ r.2.mem ((c.tc : Thread Cert.MixFIdeal.nD Cert.MixFIdeal.τ).loc Cert.MixFIdeal.main_arg6) = m ((c.tc : Thread Cert.MixFIdeal.nD Cert.MixFIdeal.τ).loc Cert.MixFIdeal.main_arg6)
          ∧ r.2.mem ((c.tc : Thread Cert.MixFIdeal.nD Cert.MixFIdeal.τ).loc Cert.MixFIdeal.main_arg7) = m ((c.tc : Thread Cert.MixFIdeal.nD Cert.MixFIdeal.τ).loc Cert.MixFIdeal.main_arg7)
          ∧ r.2.mem ((c.tc : Thread Cert.MixFIdeal.nD Cert.MixFIdeal.τ).loc Cert.MixFIdeal.main_arg8) = m ((c.tc : Thread Cert.MixFIdeal.nD Cert.MixFIdeal.τ).loc Cert.MixFIdeal.main_arg8)
          ∧ r.2.mem ((c.tc : Thread Cert.MixFIdeal.nD Cert.MixFIdeal.τ).loc Cert.MixFIdeal.main_arg9) = m ((c.tc : Thread Cert.MixFIdeal.nD Cert.MixFIdeal.τ).loc Cert.MixFIdeal.main_arg9)
          ∧ r.2.mem ((c.tc : Thread Cert.MixFIdeal.nD Cert.MixFIdeal.τ).loc Cert.MixFIdeal.main_arg10) = m ((c.tc : Thread Cert.MixFIdeal.nD Cert.MixFIdeal.τ).loc Cert.MixFIdeal.main_arg10)
          ∧ r.2.mem ((c.tc : Thread Cert.MixFIdeal.nD Cert.MixFIdeal.τ).loc Cert.MixFIdeal.main_arg11) = m ((c.tc : Thread Cert.MixFIdeal.nD Cert.MixFIdeal.τ).loc Cert.MixFIdeal.main_arg11)
          ∧ r.2.mem ((c.tc : Thread Cert.MixFIdeal.nD Cert.MixFIdeal.τ).loc Cert.MixFIdeal.main_arg12) = m ((c.tc : Thread Cert.MixFIdeal.nD Cert.MixFIdeal.τ).loc Cert.MixFIdeal.main_arg12)
          ∧ r.2.mem ((c.tc : Thread Cert.MixFIdeal.nD Cert.MixFIdeal.τ).loc Cert.MixFIdeal.main_arg13) = m ((c.tc : Thread Cert.MixFIdeal.nD Cert.MixFIdeal.τ).loc Cert.MixFIdeal.main_arg13))
      ∧ θ_run (Cert.RefMixFIdeal.defs (F := Ideal)) (onTc (τ := Cert.RefMixFIdeal.τ) (Cert.RefMixFIdeal.main (F := Ideal))) ⟨m', fun _ => 0, g'⟩ (fun r => ∀ c : Dev Cert.RefMixFIdeal.nD,
          r.2.mem ((c.tc : Thread Cert.RefMixFIdeal.nD Cert.RefMixFIdeal.τ).loc Cert.RefMixFIdeal.main_v11) = v0 c
          ∧ r.2.mem ((c.tc : Thread Cert.RefMixFIdeal.nD Cert.RefMixFIdeal.τ).loc Cert.RefMixFIdeal.main_v55) = v1 c
          ∧ r.2.mem ((c.tc : Thread Cert.RefMixFIdeal.nD Cert.RefMixFIdeal.τ).loc Cert.RefMixFIdeal.main_v56) = v2 c
          ∧ r.2.mem ((c.tc : Thread Cert.RefMixFIdeal.nD Cert.RefMixFIdeal.τ).loc Cert.RefMixFIdeal.main_v57) = v3 c
          ∧ r.2.mem ((c.tc : Thread Cert.RefMixFIdeal.nD Cert.RefMixFIdeal.τ).loc Cert.RefMixFIdeal.main_v58) = v4 c
          ∧ r.2.mem ((c.tc : Thread Cert.RefMixFIdeal.nD Cert.RefMixFIdeal.τ).loc Cert.RefMixFIdeal.main_v54) = v5 c
          ∧ r.2.mem ((c.tc : Thread Cert.RefMixFIdeal.nD Cert.RefMixFIdeal.τ).loc Cert.RefMixFIdeal.main_v78) = v6 c
          ∧ r.2.mem ((c.tc : Thread Cert.RefMixFIdeal.nD Cert.RefMixFIdeal.τ).loc Cert.RefMixFIdeal.main_arg0) = m' ((c.tc : Thread Cert.RefMixFIdeal.nD Cert.RefMixFIdeal.τ).loc Cert.RefMixFIdeal.main_arg0)
          ∧ r.2.mem ((c.tc : Thread Cert.RefMixFIdeal.nD Cert.RefMixFIdeal.τ).loc Cert.RefMixFIdeal.main_arg1) = m' ((c.tc : Thread Cert.RefMixFIdeal.nD Cert.RefMixFIdeal.τ).loc Cert.RefMixFIdeal.main_arg1)
          ∧ r.2.mem ((c.tc : Thread Cert.RefMixFIdeal.nD Cert.RefMixFIdeal.τ).loc Cert.RefMixFIdeal.main_arg2) = m' ((c.tc : Thread Cert.RefMixFIdeal.nD Cert.RefMixFIdeal.τ).loc Cert.RefMixFIdeal.main_arg2)
          ∧ r.2.mem ((c.tc : Thread Cert.RefMixFIdeal.nD Cert.RefMixFIdeal.τ).loc Cert.RefMixFIdeal.main_arg3) = m' ((c.tc : Thread Cert.RefMixFIdeal.nD Cert.RefMixFIdeal.τ).loc Cert.RefMixFIdeal.main_arg3)
          ∧ r.2.mem ((c.tc : Thread Cert.RefMixFIdeal.nD Cert.RefMixFIdeal.τ).loc Cert.RefMixFIdeal.main_arg4) = m' ((c.tc : Thread Cert.RefMixFIdeal.nD Cert.RefMixFIdeal.τ).loc Cert.RefMixFIdeal.main_arg4)
          ∧ r.2.mem ((c.tc : Thread Cert.RefMixFIdeal.nD Cert.RefMixFIdeal.τ).loc Cert.RefMixFIdeal.main_arg5) = m' ((c.tc : Thread Cert.RefMixFIdeal.nD Cert.RefMixFIdeal.τ).loc Cert.RefMixFIdeal.main_arg5)
          ∧ r.2.mem ((c.tc : Thread Cert.RefMixFIdeal.nD Cert.RefMixFIdeal.τ).loc Cert.RefMixFIdeal.main_arg6) = m' ((c.tc : Thread Cert.RefMixFIdeal.nD Cert.RefMixFIdeal.τ).loc Cert.RefMixFIdeal.main_arg6)
          ∧ r.2.mem ((c.tc : Thread Cert.RefMixFIdeal.nD Cert.RefMixFIdeal.τ).loc Cert.RefMixFIdeal.main_arg7) = m' ((c.tc : Thread Cert.RefMixFIdeal.nD Cert.RefMixFIdeal.τ).loc Cert.RefMixFIdeal.main_arg7)
          ∧ r.2.mem ((c.tc : Thread Cert.RefMixFIdeal.nD Cert.RefMixFIdeal.τ).loc Cert.RefMixFIdeal.main_arg8) = m' ((c.tc : Thread Cert.RefMixFIdeal.nD Cert.RefMixFIdeal.τ).loc Cert.RefMixFIdeal.main_arg8)
          ∧ r.2.mem ((c.tc : Thread Cert.RefMixFIdeal.nD Cert.RefMixFIdeal.τ).loc Cert.RefMixFIdeal.main_arg9) = m' ((c.tc : Thread Cert.RefMixFIdeal.nD Cert.RefMixFIdeal.τ).loc Cert.RefMixFIdeal.main_arg9)
          ∧ r.2.mem ((c.tc : Thread Cert.RefMixFIdeal.nD Cert.RefMixFIdeal.τ).loc Cert.RefMixFIdeal.main_arg10) = m' ((c.tc : Thread Cert.RefMixFIdeal.nD Cert.RefMixFIdeal.τ).loc Cert.RefMixFIdeal.main_arg10)
          ∧ r.2.mem ((c.tc : Thread Cert.RefMixFIdeal.nD Cert.RefMixFIdeal.τ).loc Cert.RefMixFIdeal.main_arg11) = m' ((c.tc : Thread Cert.RefMixFIdeal.nD Cert.RefMixFIdeal.τ).loc Cert.RefMixFIdeal.main_arg11)
          ∧ r.2.mem ((c.tc : Thread Cert.RefMixFIdeal.nD Cert.RefMixFIdeal.τ).loc Cert.RefMixFIdeal.main_arg12) = m' ((c.tc : Thread Cert.RefMixFIdeal.nD Cert.RefMixFIdeal.τ).loc Cert.RefMixFIdeal.main_arg12)
          ∧ r.2.mem ((c.tc : Thread Cert.RefMixFIdeal.nD Cert.RefMixFIdeal.τ).loc Cert.RefMixFIdeal.main_arg13) = m' ((c.tc : Thread Cert.RefMixFIdeal.nD Cert.RefMixFIdeal.τ).loc Cert.RefMixFIdeal.main_arg13))

def Claim : Prop :=
  ∃ (hPle : Cert.Ple.Facts) (hPleIdeal : Cert.PleIdeal.Facts) (hRefPleIdeal : Cert.RefPleIdeal.Facts) (hConv : Cert.Conv.Facts) (hConvIdeal : Cert.ConvIdeal.Facts) (hRefConvIdeal : Cert.RefConvIdeal.Facts) (hMixB : Cert.MixB.Facts) (hMixBIdeal : Cert.MixBIdeal.Facts) (hRefMixBIdeal : Cert.RefMixBIdeal.Facts) (hFfn : Cert.Ffn.Facts) (hFfnIdeal : Cert.FfnIdeal.Facts) (hRefFfnIdeal : Cert.RefFfnIdeal.Facts) (hS5 : Cert.S5.Facts) (hS5Ideal : Cert.S5Ideal.Facts) (hRefS5Ideal : Cert.RefS5Ideal.Facts) (hFwd : Cert.Fwd.Facts) (hFwdIdeal : Cert.FwdIdeal.Facts) (hRefFwdIdeal : Cert.RefFwdIdeal.Facts) (hMixF : Cert.MixF.Facts) (hMixFIdeal : Cert.MixFIdeal.Facts) (hRefMixFIdeal : Cert.RefMixFIdeal.Facts) (hPre_finite_ple : Cert.Pre_finite_ple.Facts) (hPre_finite_mixb : Cert.Pre_finite_mixb.Facts) (hPre_finite_ffn : Cert.Pre_finite_ffn.Facts) (hPre_finite_fwd : Cert.Pre_finite_fwd.Facts) (hPre_finite_mixf : Cert.Pre_finite_mixf.Facts) (hOn_written_conv : Cert.On_written_conv.Facts) (hOn_diagonal_s5 : Cert.On_diagonal_s5.Facts),
    quiescent_Ple (hPle := hPle)
    ∧ quiescent_PleIdeal (hPleIdeal := hPleIdeal)
    ∧ quiescent_PleIdeal_pre_finite_ple (hPleIdeal := hPleIdeal) (hPre_finite_ple := hPre_finite_ple)
    ∧ quiescent_RefPleIdeal (hRefPleIdeal := hRefPleIdeal)
    ∧ quiescent_RefPleIdeal_pre_finite_ple (hRefPleIdeal := hRefPleIdeal) (hPre_finite_ple := hPre_finite_ple)
    ∧ quiescent_Conv (hConv := hConv)
    ∧ quiescent_ConvIdeal (hConvIdeal := hConvIdeal)
    ∧ quiescent_RefConvIdeal (hRefConvIdeal := hRefConvIdeal)
    ∧ quiescent_MixB (hMixB := hMixB)
    ∧ quiescent_MixBIdeal (hMixBIdeal := hMixBIdeal)
    ∧ quiescent_MixBIdeal_pre_finite_mixb (hMixBIdeal := hMixBIdeal) (hPre_finite_mixb := hPre_finite_mixb)
    ∧ quiescent_RefMixBIdeal (hRefMixBIdeal := hRefMixBIdeal)
    ∧ quiescent_RefMixBIdeal_pre_finite_mixb (hRefMixBIdeal := hRefMixBIdeal) (hPre_finite_mixb := hPre_finite_mixb)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_RefFfnIdeal (hRefFfnIdeal := hRefFfnIdeal)
    ∧ quiescent_RefFfnIdeal_pre_finite_ffn (hRefFfnIdeal := hRefFfnIdeal) (hPre_finite_ffn := hPre_finite_ffn)
    ∧ quiescent_S5 (hS5 := hS5)
    ∧ quiescent_S5Ideal (hS5Ideal := hS5Ideal)
    ∧ quiescent_RefS5Ideal (hRefS5Ideal := hRefS5Ideal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_RefFwdIdeal (hRefFwdIdeal := hRefFwdIdeal)
    ∧ quiescent_RefFwdIdeal_pre_finite_fwd (hRefFwdIdeal := hRefFwdIdeal) (hPre_finite_fwd := hPre_finite_fwd)
    ∧ quiescent_MixF (hMixF := hMixF)
    ∧ quiescent_MixFIdeal (hMixFIdeal := hMixFIdeal)
    ∧ quiescent_MixFIdeal_pre_finite_mixf (hMixFIdeal := hMixFIdeal) (hPre_finite_mixf := hPre_finite_mixf)
    ∧ quiescent_RefMixFIdeal (hRefMixFIdeal := hRefMixFIdeal)
    ∧ quiescent_RefMixFIdeal_pre_finite_mixf (hRefMixFIdeal := hRefMixFIdeal) (hPre_finite_mixf := hPre_finite_mixf)
    ∧ preserves_Ple_PleIdeal
    ∧ algebraic_PleIdeal_RefPleIdeal_pre_finite_ple (hPleIdeal := hPleIdeal) (hRefPleIdeal := hRefPleIdeal) (hPre_finite_ple := hPre_finite_ple)
    ∧ preserves_Conv_ConvIdeal
    ∧ algebraic_ConvIdeal_RefConvIdeal_on_written_conv (hConvIdeal := hConvIdeal) (hRefConvIdeal := hRefConvIdeal) (hOn_written_conv := hOn_written_conv)
    ∧ preserves_MixB_MixBIdeal
    ∧ algebraic_MixBIdeal_RefMixBIdeal_pre_finite_mixb (hMixBIdeal := hMixBIdeal) (hRefMixBIdeal := hRefMixBIdeal) (hPre_finite_mixb := hPre_finite_mixb)
    ∧ preserves_Ffn_FfnIdeal
    ∧ algebraic_FfnIdeal_RefFfnIdeal_pre_finite_ffn (hFfnIdeal := hFfnIdeal) (hRefFfnIdeal := hRefFfnIdeal) (hPre_finite_ffn := hPre_finite_ffn)
    ∧ preserves_S5_S5Ideal
    ∧ algebraic_S5Ideal_RefS5Ideal_on_diagonal_s5 (hS5Ideal := hS5Ideal) (hRefS5Ideal := hRefS5Ideal) (hOn_diagonal_s5 := hOn_diagonal_s5)
    ∧ preserves_Fwd_FwdIdeal
    ∧ algebraic_FwdIdeal_RefFwdIdeal_pre_finite_fwd (hFwdIdeal := hFwdIdeal) (hRefFwdIdeal := hRefFwdIdeal) (hPre_finite_fwd := hPre_finite_fwd)
    ∧ preserves_MixF_MixFIdeal
    ∧ algebraic_MixFIdeal_RefMixFIdeal_pre_finite_mixf (hMixFIdeal := hMixFIdeal) (hRefMixFIdeal := hRefMixFIdeal) (hPre_finite_mixf := hPre_finite_mixf)
-- ==== On_diagonal_s5.lean ====
abbrev S2048x512 : Shape := ⟨2, ![2048, 512]⟩
abbrev S32x64 : Shape := ⟨2, ![32, 64]⟩
abbrev S32x64x16 : Shape := ⟨3, ![32, 64, 16]⟩
abbrev S2048x2048 : Shape := ⟨2, ![2048, 2048]⟩
abbrev S16x128x128 : Shape := ⟨3, ![16, 128, 128]⟩
abbrev S_ : Shape := ⟨0, ![]⟩

class Facts : Prop where
  bcast_S_S16x128x128 : S_.BroadcastsInDim S16x128x128 (![] : Fin 0 → Fin S16x128x128.rank)

variable [Facts]

def fn_where {F : FTy → Type} [FloatOps F] (arg0 : IVec S16x128x128 1) (arg1 : IVec S16x128x128 32) (arg2 : IVec S16x128x128 32) : IVec S16x128x128 32 :=
  let v0 : IVec S16x128x128 32 := select arg0 arg1 arg2
  v0

def fn_floor_divide {F : FTy → Type} [FloatOps F] (arg0 : IVec S16x128x128 32) (arg1 : IVec S_ 32) : IVec S16x128x128 32 :=
  let v0 : IVec S_ 32 := id arg1
  let v1 : IVec S16x128x128 32 := broadcastInDim S16x128x128 ![] bcast_S_S16x128x128 v0
  let v2 : IVec S16x128x128 32 := Host.divsi arg0 v1
  let v3 : IVec S16x128x128 32 := signi arg0
  let v4 : IVec S_ 32 := signi v0
  let v5 : IVec S16x128x128 32 := broadcastInDim S16x128x128 ![] bcast_S_S16x128x128 v4
  let v6 : IVec S16x128x128 1 := cmpi .ne v3 v5
  let v7 : IVec S16x128x128 32 := broadcastInDim S16x128x128 ![] bcast_S_S16x128x128 v0
  let v8 : IVec S16x128x128 32 := Host.remsi arg0 v7
  let c : IVec S_ 32 := constantI S_ 32 0#32
  let v9 : IVec S16x128x128 32 := broadcastInDim S16x128x128 ![] bcast_S_S16x128x128 c
  let v10 : IVec S16x128x128 1 := cmpi .ne v8 v9
  let v11 : IVec S16x128x128 1 := andi v6 v10
  let c_0 : IVec S_ 32 := constantI S_ 32 1#32
  let v12 : IVec S16x128x128 32 := broadcastInDim S16x128x128 ![] bcast_S_S16x128x128 c_0
  let v13 : IVec S16x128x128 32 := subi v2 v12
  let v14 : IVec S16x128x128 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16x128x128 32) (arg1 : IVec S_ 32) : IVec S16x128x128 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S16x128x128 32 := broadcastInDim S16x128x128 ![] bcast_S_S16x128x128 v2
  let v4 : IVec S16x128x128 32 := Host.remsi arg0 v3
  let c_1 : IVec S_ 32 := constantI S_ 32 0#32
  let v5 : IVec S16x128x128 32 := broadcastInDim S16x128x128 ![] bcast_S_S16x128x128 c_1
  let v6 : IVec S16x128x128 1 := cmpi .ne v4 v5
  let c_2 : IVec S_ 32 := constantI S_ 32 0#32
  let v7 : IVec S16x128x128 32 := broadcastInDim S16x128x128 ![] bcast_S_S16x128x128 c_2
  let v8 : IVec S16x128x128 1 := cmpi .slt v4 v7
  let c_3 : IVec S_ 32 := constantI S_ 32 0#32
  let v9 : IVec S_ 1 := cmpi .slt v2 c_3
  let v10 : IVec S16x128x128 1 := broadcastInDim S16x128x128 ![] bcast_S_S16x128x128 v9
  let v11 : IVec S16x128x128 1 := cmpi .ne v8 v10
  let v12 : IVec S16x128x128 1 := andi v11 v6
  let v13 : IVec S16x128x128 32 := broadcastInDim S16x128x128 ![] bcast_S_S16x128x128 v2
  let v14 : IVec S16x128x128 32 := addi v4 v13
  let v15 : IVec S16x128x128 32 := select v12 v14 v4
  v15

def fn {F : FTy → Type} [FloatOps F] (main_arg0 : FVec F S2048x512 .f32) (main_arg1 : FVec F S32x64 .f32) (main_arg2 : FVec F S32x64 .f32) (main_arg3 : FVec F S32x64x16 .f32) (main_arg4 : FVec F S32x64x16 .f32) (main_arg5 : FVec F S2048x512 .f32) (main_arg6 : FVec F S2048x2048 .f32) (main_arg7 : FVec F S2048x2048 .f32) : IVec S16x128x128 1 × IVec S16x128x128 1 :=
  let main_v0 : IVec S16x128x128 32 := iotaInDim S16x128x128 32 2
  let main_c : IVec S_ 32 := constantI S_ 32 16#32
  let main_v1 : IVec S16x128x128 32 := fn_floor_divide (F := F) main_v0 main_c
  let main_v2 : IVec S16x128x128 32 := iotaInDim S16x128x128 32 0
  let main_c_0 : IVec S_ 32 := constantI S_ 32 4#32
  let main_v3 : IVec S16x128x128 32 := fn_remainder (F := F) main_v2 main_c_0
  let main_c_1 : IVec S_ 32 := constantI S_ 32 2#32
  let main_v4 : IVec S16x128x128 32 := broadcastInDim S16x128x128 ![] bcast_S_S16x128x128 main_c_1
  let main_v5 : IVec S16x128x128 32 := muli main_v4 main_v3
  let main_v6 : IVec S16x128x128 32 := iotaInDim S16x128x128 32 1
  let main_c_2 : IVec S_ 32 := constantI S_ 32 64#32
  let main_v7 : IVec S16x128x128 32 := fn_floor_divide (F := F) main_v6 main_c_2
  let main_v8 : IVec S16x128x128 32 := addi main_v5 main_v7
  let main_v9 : IVec S16x128x128 1 := cmpi .eq main_v1 main_v8
  (main_v9, main_v9)
-- ==== On_written_conv.lean ====
abbrev S2048x1024 : Shape := ⟨2, ![2048, 1024]⟩
abbrev S1024x4096 : Shape := ⟨2, ![1024, 4096]⟩
abbrev S3x512 : Shape := ⟨2, ![3, 512]⟩
abbrev S1x512 : Shape := ⟨2, ![1, 512]⟩
abbrev S512x1024 : Shape := ⟨2, ![512, 1024]⟩
abbrev S2048x512 : Shape := ⟨2, ![2048, 512]⟩
abbrev S2048x2048 : Shape := ⟨2, ![2048, 2048]⟩
abbrev S2048x4096 : Shape := ⟨2, ![2048, 4096]⟩
abbrev S_ : Shape := ⟨0, ![]⟩
abbrev S8x512 : Shape := ⟨2, ![8, 512]⟩

class Facts : Prop where
  bcast_S_S2048x4096 : S_.BroadcastsInDim S2048x4096 (![] : Fin 0 → Fin S2048x4096.rank)
  bcast_S_S2048x1024 : S_.BroadcastsInDim S2048x1024 (![] : Fin 0 → Fin S2048x1024.rank)
  bcast_S_S8x512 : S_.BroadcastsInDim S8x512 (![] : Fin 0 → Fin S8x512.rank)
  bcast_S_S1x512 : S_.BroadcastsInDim S1x512 (![] : Fin 0 → Fin S1x512.rank)

variable [Facts]

def fn {F : FTy → Type} [FloatOps F] (main_arg0 : FVec F S2048x1024 .f32) (main_arg1 : FVec F S1024x4096 .f32) (main_arg2 : FVec F S3x512 .f32) (main_arg3 : FVec F S1x512 .f32) (main_arg4 : FVec F S512x1024 .f32) (main_arg5 : FVec F S2048x1024 .f32) (main_arg6 : FVec F S2048x512 .f32) (main_arg7 : FVec F S2048x512 .f32) (main_arg8 : FVec F S2048x2048 .f32) (main_arg9 : FVec F S2048x1024 .f32) : IVec S2048x4096 1 × IVec S2048x1024 1 × IVec S8x512 1 × IVec S1x512 1 :=
  let main_v0 : IVec S2048x4096 32 := iotaInDim S2048x4096 32 1
  let main_c : IVec S_ 32 := constantI S_ 32 2048#32
  let main_v1 : IVec S2048x4096 32 := broadcastInDim S2048x4096 ![] bcast_S_S2048x4096 main_c
  let main_v2 : IVec S2048x4096 1 := cmpi .slt main_v0 main_v1
  let main_c_0 : IVec S_ 1 := constantI S_ 1 1#1
  let main_v3 : IVec S2048x1024 1 := broadcastInDim S2048x1024 ![] bcast_S_S2048x1024 main_c_0
  let main_c_1 : IVec S_ 1 := constantI S_ 1 1#1
  let main_v4 : IVec S8x512 1 := broadcastInDim S8x512 ![] bcast_S_S8x512 main_c_1
  let main_c_2 : IVec S_ 1 := constantI S_ 1 1#1
  let main_v5 : IVec S1x512 1 := broadcastInDim S1x512 ![] bcast_S_S1x512 main_c_2
  (main_v2, main_v3, main_v4, main_v5)
-- ==== Pre_finite_ffn.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1024x5632 .f32) (main_arg2 : FVec F S2816x1024 .f32) (main_arg3 : FVec F S1x1024 .f32) (main_arg4 : FVec F S2048x1024 .f32) : IVec S2048x1024 1 × IVec S1024x5632 1 × IVec S2816x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite_fwd.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S1024x5632 .f32) (main_arg2 : FVec F S2816x1024 .f32) (main_arg3 : FVec F S1x1024 .f32) (main_arg4 : FVec F S1x1024 .f32) : IVec S2048x1024 1 × IVec S1024x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  (main_v2, main_v5, main_v8)
-- ==== Pre_finite_mixb.lean ====
abbrev S2048x1024 : Shape := ⟨2, ![2048, 1024]⟩
abbrev S2048x2048 : Shape := ⟨2, ![2048, 2048]⟩
abbrev S2048x512 : Shape := ⟨2, ![2048, 512]⟩
abbrev S32x16 : Shape := ⟨2, ![32, 16]⟩
abbrev S32x16x64 : Shape := ⟨3, ![32, 16, 64]⟩
abbrev S512x2048 : Shape := ⟨2, ![512, 2048]⟩
abbrev S1024x1024 : Shape := ⟨2, ![1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S32x16 : S_.BroadcastsInDim S32x16 (![] : Fin 0 → Fin S32x16.rank)
  bcast_S_S32x16x64 : S_.BroadcastsInDim S32x16x64 (![] : Fin 0 → Fin S32x16x64.rank)
  bcast_S_S512x2048 : S_.BroadcastsInDim S512x2048 (![] : Fin 0 → Fin S512x2048.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S32x16x64 .f32) (main_arg7 : FVec F S512x2048 .f32) (main_arg10 : FVec F S2048x1024 .f32) (main_arg11 : FVec F S1024x1024 .f32) (main_arg12 : FVec F S1x1024 .f32) (main_arg13 : FVec F S2048x1024 .f32) (main_v2 : IVec S2048x1024 1) (main_v5 : IVec S2048x2048 1) (main_v8 : IVec S2048x2048 1) (main_v11 : IVec S2048x512 1) (main_v14 : IVec S32x16 1) (main_v17 : IVec S32x16x64 1) : IVec S2048x1024 1 × IVec S2048x2048 1 × IVec S2048x2048 1 × IVec S2048x512 1 × IVec S32x16 1 × IVec S32x16x64 1 × IVec S32x16x64 1 × IVec S512x2048 1 × IVec S2048x1024 1 × IVec S1024x1024 1 × IVec S1x1024 1 × IVec S2048x1024 1 :=
  let main_v18 : FVec F S32x16x64 .f32 := Host.absf main_arg6
  let main_cst_5 : FVec F S_ .f32 := constant S_ .f32 0x7F800000#32
  let main_v19 : FVec F S32x16x64 .f32 := broadcastInDim S32x16x64 ![] bcast_S_S32x16x64 main_cst_5
  let main_v20 : IVec S32x16x64 1 := cmpf .olt main_v18 main_v19
  let main_v21 : FVec F S512x2048 .f32 := Host.absf main_arg7
  let main_cst_6 : FVec F S_ .f32 := constant S_ .f32 0x7F800000#32
  let main_v22 : FVec F S512x2048 .f32 := broadcastInDim S512x2048 ![] bcast_S_S512x2048 main_cst_6
  let main_v23 : IVec S512x2048 1 := cmpf .olt main_v21 main_v22
  let main_v24 : FVec F S2048x1024 .f32 := Host.absf main_arg10
  let main_cst_7 : FVec F S_ .f32 := constant S_ .f32 0x7F800000#32
  let main_v25 : FVec F S2048x1024 .f32 := broadcastInDim S2048x1024 ![] bcast_S_S2048x1024 main_cst_7
  let main_v26 : IVec S2048x1024 1 := cmpf .olt main_v24 main_v25
  let main_v27 : FVec F S1024x1024 .f32 := Host.absf main_arg11
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S1x1024 .f32 := Host.absf main_arg12
  let main_cst_9 : FVec F S_ .f32 := constant S_ .f32 0x7F800000#32
  let main_v31 : FVec F S1x1024 .f32 := broadcastInDim S1x1024 ![] bcast_S_S1x1024 main_cst_9
  let main_v32 : IVec S1x1024 1 := cmpf .olt main_v30 main_v31
  let main_v33 : FVec F S2048x1024 .f32 := Host.absf main_arg13
  let main_cst_10 : FVec F S_ .f32 := constant S_ .f32 0x7F800000#32
  let main_v34 : FVec F S2048x1024 .f32 := broadcastInDim S2048x1024 ![] bcast_S_S2048x1024 main_cst_10
  let main_v35 : IVec S2048x1024 1 := cmpf .olt main_v33 main_v34
  (main_v2, main_v5, main_v8, main_v11, main_v14, main_v17, main_v20, main_v23, main_v26, main_v29, main_v32, main_v35)

def fn {F : FTy → Type} [FloatOps F] (main_arg0 : FVec F S2048x1024 .f32) (main_arg1 : FVec F S2048x2048 .f32) (main_arg2 : FVec F S2048x2048 .f32) (main_arg3 : FVec F S2048x512 .f32) (main_arg4 : FVec F S32x16 .f32) (main_arg5 : FVec F S32x16x64 .f32) (main_arg6 : FVec F S32x16x64 .f32) (main_arg7 : FVec F S512x2048 .f32) (main_arg8 : FVec F S2048x1024 .f32) (main_arg9 : FVec F S2048x1024 .f32) (main_arg10 : FVec F S2048x1024 .f32) (main_arg11 : FVec F S1024x1024 .f32) (main_arg12 : FVec F S1x1024 .f32) (main_arg13 : FVec F S2048x1024 .f32) : IVec S2048x1024 1 × IVec S2048x2048 1 × IVec S2048x2048 1 × IVec S2048x512 1 × IVec S32x16 1 × IVec S32x16x64 1 × IVec S32x16x64 1 × IVec S512x2048 1 × IVec S2048x1024 1 × IVec S1024x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_v12 : FVec F S32x16 .f32 := Host.absf main_arg4
  let main_cst_3 : FVec F S_ .f32 := constant S_ .f32 0x7F800000#32
  let main_v13 : FVec F S32x16 .f32 := broadcastInDim S32x16 ![] bcast_S_S32x16 main_cst_3
  let main_v14 : IVec S32x16 1 := cmpf .olt main_v12 main_v13
  let main_v15 : FVec F S32x16x64 .f32 := Host.absf main_arg5
  let main_cst_4 : FVec F S_ .f32 := constant S_ .f32 0x7F800000#32
  let main_v16 : FVec F S32x16x64 .f32 := broadcastInDim S32x16x64 ![] bcast_S_S32x16x64 main_cst_4
  let main_v17 : IVec S32x16x64 1 := cmpf .olt main_v15 main_v16
  fn_part1 (F := F) main_arg6 main_arg7 main_arg10 main_arg11 main_arg12 main_arg13 main_v2 main_v5 main_v8 main_v11 main_v14 main_v17
-- ==== Pre_finite_mixf.lean ====
abbrev S2048x1024 : Shape := ⟨2, ![2048, 1024]⟩
abbrev S2048x2048 : Shape := ⟨2, ![2048, 2048]⟩
abbrev S2048x512 : Shape := ⟨2, ![2048, 512]⟩
abbrev S32x16 : Shape := ⟨2, ![32, 16]⟩
abbrev S32x16x64 : Shape := ⟨3, ![32, 16, 64]⟩
abbrev S512x2048 : Shape := ⟨2, ![512, 2048]⟩
abbrev S1024x1024 : Shape := ⟨2, ![1024, 1024]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  bcast_S_S32x16x64 : S_.BroadcastsInDim S32x16x64 (![] : Fin 0 → Fin S32x16x64.rank)

variable [Facts]

def fn {F : FTy → Type} [FloatOps F] (main_arg0 : FVec F S2048x1024 .f32) (main_arg1 : FVec F S2048x2048 .f32) (main_arg2 : FVec F S2048x2048 .f32) (main_arg3 : FVec F S2048x512 .f32) (main_arg4 : FVec F S32x16 .f32) (main_arg5 : FVec F S32x16x64 .f32) (main_arg6 : FVec F S32x16x64 .f32) (main_arg7 : FVec F S512x2048 .f32) (main_arg8 : FVec F S2048x1024 .f32) (main_arg9 : FVec F S2048x1024 .f32) (main_arg10 : FVec F S2048x1024 .f32) (main_arg11 : FVec F S1024x1024 .f32) (main_arg12 : FVec F S1x1024 .f32) (main_arg13 : FVec F S1x1024 .f32) : IVec S2048x2048 1 × IVec S32x16x64 1 :=
  let main_v0 : FVec F S2048x2048 .f32 := Host.absf main_arg2
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S32x16x64 .f32 := Host.absf main_arg6
  let main_cst_0 : FVec F S_ .f32 := constant S_ .f32 0x7F800000#32
  let main_v4 : FVec F S32x16x64 .f32 := broadcastInDim S32x16x64 ![] bcast_S_S32x16x64 main_cst_0
  let main_v5 : IVec S32x16x64 1 := cmpf .olt main_v3 main_v4
  (main_v2, main_v5)
-- ==== Pre_finite_ple.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S256x1024 : S_.BroadcastsInDim S256x1024 (![] : Fin 0 → Fin S256x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x256 .f32) (main_arg2 : FVec F S256x1024 .f32) (main_arg3 : FVec F S1024x1024 .f32) (main_arg4 : FVec F S1x1024 .f32) (main_arg5 : FVec F S1x1024 .f32) (main_arg6 : FVec F S2048x1024 .f32) : IVec S2048x1024 1 × IVec S2048x256 1 × IVec S256x1024 1 × IVec S1x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S2048x1024 .f32 := Host.absf main_arg6
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Ple.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1x1024 : Shape := ⟨2, ![1, 1024]⟩
abbrev S256x4x256 : Shape := ⟨3, ![256, 4, 256]⟩
abbrev S4x256x256 : Shape := ⟨3, ![4, 256, 256]⟩
abbrev S1x128 : Shape := ⟨2, ![1, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 19
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S256x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S256x4x256, .f32⟩
  | .hbm, ⟨8, _⟩ => ⟨S4x256x256, .f32⟩
  | .hbm, ⟨9, _⟩ => ⟨S4x256x256, .bf16⟩
  | .hbm, ⟨10, _⟩ => ⟨S2048x1024, .bf16⟩
  | .hbm, ⟨11, _⟩ => ⟨S1024x1024, .bf16⟩
  | .hbm, ⟨12, _⟩ => ⟨S1x128, .f32⟩
  | .hbm, ⟨13, _⟩ => ⟨S2048x1024, .f32⟩
  | .hbm, ⟨14, _⟩ => ⟨S2048x256, .bf16⟩
  | .hbm, ⟨15, _⟩ => ⟨S2048x1024, .bf16⟩
  | .hbm, ⟨16, _⟩ => ⟨S2048x1024, .bf16⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x256, .f32⟩
  | .local _ .vmem, ⟨5, _⟩ => ⟨S256x256, .f32⟩
  | .local _ .vmem, ⟨6, _⟩ => ⟨S4x256x256, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | .local _ .vmem, ⟨13, _⟩ => ⟨S256x1024, .f32⟩
  | .local _ .vmem, ⟨14, _⟩ => ⟨S256x1024, .f32⟩
  | .local _ .vmem, ⟨15, _⟩ => ⟨S256x256, .bf16⟩
  | .local _ .vmem, ⟨16, _⟩ => ⟨S256x256, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v88 : BitVec 1 := Scalar.cmpi .eq arg0 c0_i32
  let v89 : BitVec 32 := Scalar.extui v88
  let c0_i32_44 : BitVec 32 := 0#32
  let v90 : BitVec 1 := Scalar.cmpi .ne v89 c0_i32_44
  v90

def k0_cond2 (i : grid0.Coords) : BitVec 1 :=
  let arg0 : BitVec 32 := BitVec.ofNat 32 (i 0).val
  let c0_i32_45 : BitVec 32 := 0#32
  let v91 : BitVec 1 := Scalar.cmpi .sgt arg0 c0_i32_45
  let v92 : BitVec 32 := Scalar.extui v91
  let c0_i32_46 : BitVec 32 := 0#32
  let v93 : BitVec 1 := Scalar.cmpi .ne v92 c0_i32_46
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RefPleIdeal.lean ====
abbrev S2048x1024 : Shape := ⟨2, ![2048, 1024]⟩
abbrev S2048x256 : Shape := ⟨2, ![2048, 256]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S2048x1024, .f32⟩
  | 1 => ⟨S2048x256, .f32⟩
  | 2 => ⟨S256x1024, .f32⟩
  | 3 => ⟨S1024x1024, .f32⟩
  | 4 => ⟨S1x1024, .f32⟩
  | 5 => ⟨S1x1024, .f32⟩
  | 6 => ⟨S2048x1024, .f32⟩
  | 7 => ⟨S_, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S2048x1024, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S2048x1024, .f32⟩
  | 37 => ⟨S2048x1024, .f32⟩
  | 38 => ⟨S2048x1024, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S_, .f32⟩
  | 46 => ⟨S2048x1, .f32⟩
  | 47 => ⟨S2048x1, .f32⟩
  | 48 => ⟨S2048x1, .f32⟩
  | 49 => ⟨S2048x1, .f32⟩
  | 50 => ⟨S_, .f32⟩
  | 51 => ⟨S2048x1, .f32⟩
  | 52 => ⟨S2048x1, .f32⟩
  | 53 => ⟨S2048x1024, .f32⟩
  | 54 => ⟨S2048x1024, .f32⟩
  | 55 => ⟨S2048x1024, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S_, .f32⟩
  | 65 => ⟨S2048, .f32⟩
  | 66 => ⟨S_, .f32⟩
  | 67 => ⟨S2048, .f32⟩
  | 68 => ⟨S2048, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S2048, .f32⟩
  | 77 => ⟨S_, .f32⟩
  | 78 => ⟨S2048, .f32⟩
  | 79 => ⟨S2048, .f32⟩
  | 80 => ⟨S2048x1024, .f32⟩
  | 81 => ⟨S2048x1024, .f32⟩
  | 82 => ⟨S_, .f32⟩
  | 83 => ⟨S1024, .f32⟩
  | 84 => ⟨S1x1024, .f32⟩
  | 85 => ⟨S2048x1024, .f32⟩
  | 86 => ⟨S_, .f32⟩
  | 87 => ⟨S1024, .f32⟩
  | 88 => ⟨S1x1024, .f32⟩
  | 89 => ⟨S2048x1024, .f32⟩
  | 90 => ⟨S2048x1024, .f32⟩
  | 91 => ⟨S2048x1024, .f32⟩
  | 92 => ⟨S_, .f32⟩
  | 93 => ⟨S2048, .f32⟩
  | 94 => ⟨S2048x1, .f32⟩
  | 95 => ⟨S2048x1024, .f32⟩
  | 96 => ⟨S2048x1024, .f32⟩
  | 97 => ⟨S2048x1, .f32⟩
  | 98 => ⟨S_, .f32⟩
  | 99 => ⟨S2048x1, .f32⟩
  | 100 => ⟨S2048x1, .f32⟩
  | 101 => ⟨S_, .f32⟩
  | 102 => ⟨S2048, .f32⟩
  | 103 => ⟨S2048x1024, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S_, .f32⟩
  | 110 => ⟨S2048, .f32⟩
  | 111 => ⟨S2048x1, .f32⟩
  | 112 => ⟨S_, .f32⟩
  | 113 => ⟨S2048x1, .f32⟩
  | 114 => ⟨S2048x1, .f32⟩
  | 115 => ⟨S_, .f32⟩
  | 116 => ⟨S2048, .f32⟩
  | 117 => ⟨S2048x1024, .f32⟩
  | 118 => ⟨S2048x1024, .f32⟩
  | 119 => ⟨S_, .f32⟩
  | 120 => ⟨S2048x1024, .f32⟩
  | 121 => ⟨S2048x1024, .f32⟩
  | 122 => ⟨S2048x1024, .f32⟩
  | 123 => ⟨S2048x1024, .f32⟩
  | 124 => ⟨S2048x1024, .f32⟩
  | 125 => ⟨S2048x1024, .f32⟩
  | 126 => ⟨S2048x1024, .f32⟩
  | 127 => ⟨S1x128, .f32⟩
  | _ => ⟨S2048x1024, .f32⟩

abbrev hbmTy0_1 (i : Nat) : BufTy := match i % 128 with
  | 0 => ⟨S2048x256, .bf16⟩
  | 1 => ⟨S2048x1024, .bf16⟩
  | 2 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_cst_15 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_cst_17 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_18 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_20 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_21 : Ref sig .tc := ⟨.hbm, 98, rfl⟩
abbrev main_v69 : Ref sig .tc := ⟨.hbm, 99, rfl⟩
abbrev main_v70 : Ref sig .tc := ⟨.hbm, 100, rfl⟩
abbrev main_cst_22 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_23 : Ref sig .tc := ⟨.hbm, 109, rfl⟩
abbrev main_v78 : Ref sig .tc := ⟨.hbm, 110, rfl⟩
abbrev main_v79 : Ref sig .tc := ⟨.hbm, 111, rfl⟩
abbrev main_cst_24 : Ref sig .tc := ⟨.hbm, 112, rfl⟩
abbrev main_v80 : Ref sig .tc := ⟨.hbm, 113, rfl⟩
abbrev main_v81 : Ref sig .tc := ⟨.hbm, 114, rfl⟩
abbrev main_cst_25 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_26 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Conv.lean ====
abbrev S2048x1024 : Shape := ⟨2, ![2048, 1024]⟩
abbrev S1024x4096 : Shape := ⟨2, ![1024, 4096]⟩
abbrev S3x512 : Shape := ⟨2, ![3, 512]⟩
abbrev S1x512 : Shape := ⟨2, ![1, 512]⟩
abbrev S512x1024 : Shape := ⟨2, ![512, 1024]⟩
abbrev S2048x512 : Shape := ⟨2, ![2048, 512]⟩
abbrev S2048x2048 : Shape := ⟨2, ![2048, 2048]⟩
abbrev S512x4x256 : Shape := ⟨3, ![512, 4, 256]⟩
abbrev S4x512x256 : Shape := ⟨3, ![4, 512, 256]⟩
abbrev S1024x4x1024 : Shape := ⟨3, ![1024, 4, 1024]⟩
abbrev S4x1024x1024 : Shape := ⟨3, ![4, 1024, 1024]⟩
abbrev S1024x1536 : Shape := ⟨2, ![1024, 1536]⟩
abbrev S2048x1536 : Shape := ⟨2, ![2048, 1536]⟩
abbrev S_ : Shape := ⟨0, ![]⟩
abbrev S2x512 : Shape := ⟨2, ![2, 512]⟩
abbrev S2050x512 : Shape := ⟨2, ![2050, 512]⟩
abbrev S2048x4096 : Shape := ⟨2, ![2048, 4096]⟩
abbrev S8x512 : Shape := ⟨2, ![8, 512]⟩
abbrev S512x1536 : Shape := ⟨2, ![512, 1536]⟩
abbrev S8x1536 : Shape := ⟨2, ![8, 1536]⟩
abbrev S512x512 : Shape := ⟨2, ![512, 512]⟩
abbrev S512x2048 : Shape := ⟨2, ![512, 2048]⟩
abbrev S520x512 : Shape := ⟨2, ![520, 512]⟩
abbrev S512x256 : Shape := ⟨2, ![512, 256]⟩
abbrev S1x512x256 : Shape := ⟨3, ![1, 512, 256]⟩
abbrev S512 : Shape := ⟨1, ![512]⟩
abbrev S5x512 : Shape := ⟨2, ![5, 512]⟩
abbrev S1x1024x1024 : Shape := ⟨3, ![1, 1024, 1024]⟩
abbrev S1024x1024 : Shape := ⟨2, ![1024, 1024]⟩

abbrev nBuf : Space → Nat
  | .hbm => 51
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S3x512, .f32⟩
  | .hbm, ⟨3, _⟩ => ⟨S1x512, .f32⟩
  | .hbm, ⟨4, _⟩ => ⟨S512x1024, .f32⟩
  | .hbm, ⟨5, _⟩ => ⟨S2048x1024, .f32⟩
  | .hbm, ⟨6, _⟩ => ⟨S2048x512, .f32⟩
  | .hbm, ⟨7, _⟩ => ⟨S2048x512, .f32⟩
  | .hbm, ⟨8, _⟩ => ⟨S2048x2048, .f32⟩
  | .hbm, ⟨9, _⟩ => ⟨S2048x1024, .f32⟩
  | .hbm, ⟨10, _⟩ => ⟨S2048x1024, .bf16⟩
  | .hbm, ⟨11, _⟩ => ⟨S1024x4096, .bf16⟩
  | .hbm, ⟨12, _⟩ => ⟨S512x1024, .bf16⟩
  | .hbm, ⟨13, _⟩ => ⟨S512x4x256, .bf16⟩
  | .hbm, ⟨14, _⟩ => ⟨S4x512x256, .bf16⟩
  | .hbm, ⟨15, _⟩ => ⟨S1024x4x1024, .bf16⟩
  | .hbm, ⟨16, _⟩ => ⟨S4x1024x1024, .bf16⟩
  | .hbm, ⟨17, _⟩ => ⟨S1024x1536, .bf16⟩
  | .hbm, ⟨18, _⟩ => ⟨S2048x1536, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2x512, .f32⟩
  | .hbm, ⟨24, _⟩ => ⟨S2050x512, .f32⟩
  | .hbm, ⟨25, _⟩ => ⟨S1x512, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S1x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S1x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x1536, .bf16⟩
  | .hbm, ⟨41, _⟩ => ⟨S_, .f32⟩
  | .hbm, ⟨42, _⟩ => ⟨S2048x2048, .f32⟩
  | .hbm, ⟨43, _⟩ => ⟨S2048x4096, .f32⟩
  | .hbm, ⟨44, _⟩ => ⟨S2048x4096, .bf16⟩
  | .hbm, ⟨45, _⟩ => ⟨S2048x1024, .bf16⟩
  | .hbm, ⟨46, _⟩ => ⟨S2048x512, .bf16⟩
  | .hbm, ⟨47, _⟩ => ⟨S2048x4096, .bf16⟩
  | .hbm, ⟨48, _⟩ => ⟨S2048x1024, .f32⟩
  | .hbm, ⟨49, _⟩ => ⟨S8x512, .f32⟩
  | .hbm, ⟨50, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S4x512x256, .bf16⟩
  | .local _ .vmem, ⟨3, _⟩ => ⟨S512x1536, .bf16⟩
  | .local _ .vmem, ⟨4, _⟩ => ⟨S512x1536, .bf16⟩
  | .local _ .vmem, ⟨5, _⟩ => ⟨S8x1536, .bf16⟩
  | .local _ .vmem, ⟨6, _⟩ => ⟨S8x1536, .bf16⟩
  | .local _ .vmem, ⟨7, _⟩ => ⟨S512x512, .bf16⟩
  | .local _ .vmem, ⟨8, _⟩ => ⟨S512x512, .bf16⟩
  | .local _ .vmem, ⟨9, _⟩ => ⟨S3x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x2048, .bf16⟩
  | .local _ .vmem, ⟨15, _⟩ => ⟨S512x2048, .bf16⟩
  | .local _ .vmem, ⟨16, _⟩ => ⟨S512x1024, .f32⟩
  | .local _ .vmem, ⟨17, _⟩ => ⟨S512x1024, .f32⟩
  | .local _ .vmem, ⟨18, _⟩ => ⟨S4x1024x1024, .bf16⟩
  | .local _ .vmem, ⟨19, _⟩ => ⟨S512x2048, .bf16⟩
  | .local _ .vmem, ⟨20, _⟩ => ⟨S512x2048, .bf16⟩
  | .local _ .vmem, ⟨21, _⟩ => ⟨S512x1024, .f32⟩
  | .local _ .vmem, ⟨22, _⟩ => ⟨S512x1024, .f32⟩
  | .local _ .vmem, ⟨23, _⟩ => ⟨S8x512, .f32⟩
  | .local _ .vmem, ⟨24, _⟩ => ⟨S1x512, .f32⟩
  | .local _ .vmem, ⟨25, _⟩ => ⟨S520x512, .f32⟩
  | .local _ .vmem, ⟨26, _⟩ => ⟨S520x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_v35_3 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_46 : BitVec 32 := 0#32
  let v92 : BitVec 1 := Scalar.cmpi .eq arg0 c0_i32_46
  let v93 : BitVec 32 := Scalar.extui v92
  let c0_i32_47 : BitVec 32 := 0#32
  let v94 : BitVec 1 := Scalar.cmpi .ne v93 c0_i32_47
  v94

def k0_cond3 (i : grid0.Coords) : BitVec 1 :=
  let arg0 : BitVec 32 := BitVec.ofNat 32 (i 0).val
  let c0_i32_48 : BitVec 32 := 0#32
  let v95 : BitVec 1 := Scalar.cmpi .sgt arg0 c0_i32_48
  let v96 : BitVec 32 := Scalar.extui v95
  let c0_i32_49 : BitVec 32 := 0#32
  let v97 : BitVec 1 := Scalar.cmpi .ne v96 c0_i32_49
  v97

def cc0_transform_0 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c3_i32 : BitVec 32 := 3#32
  let v0 : BitVec 32 := Scalar.subi c3_i32 arg0
  let c1_i32 : BitVec 32 := 1#32
  let c0_i32 : BitVec 32 := 0#32
  ![v0.toNat, c1_i32.toNat]

def cc0_transform_9 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RefConvIdeal.lean ====
abbrev S2048x1024 : Shape := ⟨2, ![2048, 1024]⟩
abbrev S1024x4096 : Shape := ⟨2, ![1024, 4096]⟩
abbrev S3x512 : Shape := ⟨2, ![3, 512]⟩
abbrev S1x512 : Shape := ⟨2, ![1, 512]⟩
abbrev S512x1024 : Shape := ⟨2, ![512, 1024]⟩
abbrev S2048x512 : Shape := ⟨2, ![2048, 512]⟩
abbrev S2048x2048 : Shape := ⟨2, ![2048, 2048]⟩
abbrev S_ : Shape := ⟨0, ![]⟩
abbrev S2048x4096 : Shape := ⟨2, ![2048, 4096]⟩
abbrev S2x512 : Shape := ⟨2, ![2, 512]⟩
abbrev S2046x512 : Shape := ⟨2, ![2046, 512]⟩
abbrev S2047x512 : Shape := ⟨2, ![2047, 512]⟩
abbrev S512 : Shape := ⟨1, ![512]⟩
abbrev S5x512 : Shape := ⟨2, ![5, 512]⟩
abbrev S8x512 : Shape := ⟨2, ![8, 512]⟩

abbrev nBuf : Space → Nat
  | .hbm => 99
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S3x512, .f32⟩
  | .hbm, ⟨3, _⟩ => ⟨S1x512, .f32⟩
  | .hbm, ⟨4, _⟩ => ⟨S512x1024, .f32⟩
  | .hbm, ⟨5, _⟩ => ⟨S2048x1024, .f32⟩
  | .hbm, ⟨6, _⟩ => ⟨S2048x512, .f32⟩
  | .hbm, ⟨7, _⟩ => ⟨S2048x512, .f32⟩
  | .hbm, ⟨8, _⟩ => ⟨S2048x2048, .f32⟩
  | .hbm, ⟨9, _⟩ => ⟨S2048x1024, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x2048, .f32⟩
  | .hbm, ⟨19, _⟩ => ⟨S2048x512, .f32⟩
  | .hbm, ⟨20, _⟩ => ⟨S1x512, .f32⟩
  | .hbm, ⟨21, _⟩ => ⟨S_, .f32⟩
  | .hbm, ⟨22, _⟩ => ⟨S2x512, .f32⟩
  | .hbm, ⟨23, _⟩ => ⟨S2046x512, .f32⟩
  | .hbm, ⟨24, _⟩ => ⟨S2048x512, .f32⟩
  | .hbm, ⟨25, _⟩ => ⟨S_, .f32⟩
  | .hbm, ⟨26, _⟩ => ⟨S2x512, .f32⟩
  | .hbm, ⟨27, _⟩ => ⟨S2048x512, .f32⟩
  | .hbm, ⟨28, _⟩ => ⟨S2048x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S2047x512, .f32⟩
  | .hbm, ⟨33, _⟩ => ⟨S2048x512, .f32⟩
  | .hbm, ⟨34, _⟩ => ⟨S_, .f32⟩
  | .hbm, ⟨35, _⟩ => ⟨S1x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S1x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x1024, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S2047x512, .f32⟩
  | .hbm, ⟨70, _⟩ => ⟨S_, .f32⟩
  | .hbm, ⟨71, _⟩ => ⟨S2048x512, .f32⟩
  | .hbm, ⟨72, _⟩ => ⟨S2048x512, .f32⟩
  | .hbm, ⟨73, _⟩ => ⟨S_, .f32⟩
  | .hbm, ⟨74, _⟩ => ⟨S3x512, .f32⟩
  | .hbm, ⟨75, _⟩ => ⟨S3x512, .f32⟩
  | .hbm, ⟨76, _⟩ => ⟨S2048x512, .f32⟩
  | .hbm, ⟨77, _⟩ => ⟨S2048x512, .f32⟩
  | .hbm, ⟨78, _⟩ => ⟨S2048x512, .f32⟩
  | .hbm, ⟨79, _⟩ => ⟨S_, .f32⟩
  | .hbm, ⟨80, _⟩ => ⟨S512, .f32⟩
  | .hbm, ⟨81, _⟩ => ⟨S1x512, .f32⟩
  | .hbm, ⟨82, _⟩ => ⟨S2x512, .f32⟩
  | .hbm, ⟨83, _⟩ => ⟨S2046x512, .f32⟩
  | .hbm, ⟨84, _⟩ => ⟨S_, .f32⟩
  | .hbm, ⟨85, _⟩ => ⟨S2048x512, .f32⟩
  | .hbm, ⟨86, _⟩ => ⟨S2048x512, .f32⟩
  | .hbm, ⟨87, _⟩ => ⟨S_, .f32⟩
  | .hbm, ⟨88, _⟩ => ⟨S3x512, .f32⟩
  | .hbm, ⟨89, _⟩ => ⟨S3x512, .f32⟩
  | .hbm, ⟨90, _⟩ => ⟨S2048x512, .f32⟩
  | .hbm, ⟨91, _⟩ => ⟨S2048x512, .f32⟩
  | .hbm, ⟨92, _⟩ => ⟨S2048x4096, .f32⟩
  | .hbm, ⟨93, _⟩ => ⟨S2048x1024, .f32⟩
  | .hbm, ⟨94, _⟩ => ⟨S2048x1024, .f32⟩
  | .hbm, ⟨95, _⟩ => ⟨S2048x4096, .bf16⟩
  | .hbm, ⟨96, _⟩ => ⟨S_, .f32⟩
  | .hbm, ⟨97, _⟩ => ⟨S5x512, .f32⟩
  | .hbm, ⟨98, _⟩ => ⟨S8x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_13 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== MixB.lean ====
abbrev S2048x1024 : Shape := ⟨2, ![2048, 1024]⟩
abbrev S2048x2048 : Shape := ⟨2, ![2048, 2048]⟩
abbrev S2048x512 : Shape := ⟨2, ![2048, 512]⟩
abbrev S32x16 : Shape := ⟨2, ![32, 16]⟩
abbrev S32x16x64 : Shape := ⟨3, ![32, 16, 64]⟩
abbrev S512x2048 : Shape := ⟨2, ![512, 2048]⟩
abbrev S1024x1024 : Shape := ⟨2, ![1024, 1024]⟩
abbrev S1x1024 : Shape := ⟨2, ![1, 1024]⟩
abbrev S8x8 : Shape := ⟨2, ![8, 8]⟩
abbrev S1x8x1x8x1 : Shape := ⟨5, ![1, 8, 1, 8, 1]⟩
abbrev S1x512 : Shape := ⟨2, ![1, 512]⟩
abbrev S32x64x16 : Shape := ⟨3, ![32, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S512x4x512 : Shape := ⟨3, ![512, 4, 512]⟩
abbrev S4x512x512 : Shape := ⟨3, ![4, 512, 512]⟩
abbrev S2048x32x64 : Shape := ⟨3, ![2048, 32, 64]⟩
abbrev S32x2048x16 : Shape := ⟨3, ![32, 2048, 16]⟩
abbrev S2048x32x16 : Shape := ⟨3, ![2048, 32, 16]⟩
abbrev S_ : Shape := ⟨0, ![]⟩
abbrev S2048x4096 : Shape := ⟨2, ![2048, 4096]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x512x512 : Shape := ⟨3, ![1, 512, 512]⟩
abbrev S512x512 : Shape := ⟨2, ![512, 512]⟩
abbrev S1024 : Shape := ⟨1, ![1024]⟩
abbrev S512 : Shape := ⟨1, ![512]⟩
abbrev S256x128 : Shape := ⟨2, ![256, 128]⟩
abbrev S1x512x128 : Shape := ⟨3, ![1, 512, 128]⟩
abbrev S512x128 : Shape := ⟨2, ![512, 128]⟩

abbrev nBuf : Space → Nat
  | .hbm => 124
  | .vmem => 45
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .f32⟩
  | .hbm, ⟨3, _⟩ => ⟨S2048x512, .f32⟩
  | .hbm, ⟨4, _⟩ => ⟨S32x16, .f32⟩
  | .hbm, ⟨5, _⟩ => ⟨S32x16x64, .f32⟩
  | .hbm, ⟨6, _⟩ => ⟨S32x16x64, .f32⟩
  | .hbm, ⟨7, _⟩ => ⟨S512x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1024x1024, .f32⟩
  | .hbm, ⟨12, _⟩ => ⟨S1x1024, .f32⟩
  | .hbm, ⟨13, _⟩ => ⟨S2048x1024, .f32⟩
  | .hbm, ⟨14, _⟩ => ⟨S8x8, .f32⟩
  | .hbm, ⟨15, _⟩ => ⟨S1x8x1x8x1, .f32⟩
  | .hbm, ⟨16, _⟩ => ⟨S8x8, .f32⟩
  | .hbm, ⟨17, _⟩ => ⟨S1x8x1x8x1, .f32⟩
  | .hbm, ⟨18, _⟩ => ⟨S1x512, .f32⟩
  | .hbm, ⟨19, _⟩ => ⟨S32x64x16, .f32⟩
  | .hbm, ⟨20, _⟩ => ⟨S4x8x64x1x16, .f32⟩
  | .hbm, ⟨21, _⟩ => ⟨S4x8x64x8x16, .f32⟩
  | .hbm, ⟨22, _⟩ => ⟨S4x8x64x8x16, .f32⟩
  | .hbm, ⟨23, _⟩ => ⟨S4x8x64x8x16, .f32⟩
  | .hbm, ⟨24, _⟩ => ⟨S4x512x128, .f32⟩
  | .hbm, ⟨25, _⟩ => ⟨S4x512x128, .bf16⟩
  | .hbm, ⟨26, _⟩ => ⟨S32x16x64, .f32⟩
  | .hbm, ⟨27, _⟩ => ⟨S32x64x16, .f32⟩
  | .hbm, ⟨28, _⟩ => ⟨S4x8x64x1x16, .f32⟩
  | .hbm, ⟨29, _⟩ => ⟨S4x8x64x8x16, .f32⟩
  | .hbm, ⟨30, _⟩ => ⟨S4x8x64x8x16, .f32⟩
  | .hbm, ⟨31, _⟩ => ⟨S4x8x64x8x16, .f32⟩
  | .hbm, ⟨32, _⟩ => ⟨S4x512x128, .f32⟩
  | .hbm, ⟨33, _⟩ => ⟨S4x512x128, .bf16⟩
  | .hbm, ⟨34, _⟩ => ⟨S512x2048, .bf16⟩
  | .hbm, ⟨35, _⟩ => ⟨S512x4x512, .bf16⟩
  | .hbm, ⟨36, _⟩ => ⟨S4x512x512, .bf16⟩
  | .hbm, ⟨37, _⟩ => ⟨S2048x32x64, .f32⟩
  | .hbm, ⟨38, _⟩ => ⟨S32x2048x16, .f32⟩
  | .hbm, ⟨39, _⟩ => ⟨S2048x32x64, .f32⟩
  | .hbm, ⟨40, _⟩ => ⟨S32x2048x16, .f32⟩
  | .hbm, ⟨41, _⟩ => ⟨S32x2048x16, .f32⟩
  | .hbm, ⟨42, _⟩ => ⟨S2048x32x16, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S_, .f32⟩
  | .hbm, ⟨59, _⟩ => ⟨S2048x512, .f32⟩
  | .hbm, ⟨60, _⟩ => ⟨S2048x512, .f32⟩
  | .hbm, ⟨61, _⟩ => ⟨S2048x512, .f32⟩
  | .hbm, ⟨62, _⟩ => ⟨S_, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S2048x512, .bf16⟩
  | .hbm, ⟨67, _⟩ => ⟨S512x2048, .bf16⟩
  | .hbm, ⟨68, _⟩ => ⟨S2048x2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .f32⟩
  | .hbm, ⟨85, _⟩ => ⟨S_, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S_, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S_, .f32⟩
  | .hbm, ⟨100, _⟩ => ⟨S2048x1024, .f32⟩
  | .hbm, ⟨101, _⟩ => ⟨S2048x1024, .f32⟩
  | .hbm, ⟨102, _⟩ => ⟨S2048x1024, .bf16⟩
  | .hbm, ⟨103, _⟩ => ⟨S1024x1024, .bf16⟩
  | .hbm, ⟨104, _⟩ => ⟨S2048x1024, .f32⟩
  | .hbm, ⟨105, _⟩ => ⟨S2048x1024, .f32⟩
  | .hbm, ⟨106, _⟩ => ⟨S1024x1024, .bf16⟩
  | .hbm, ⟨107, _⟩ => ⟨S2048x1024, .bf16⟩
  | .hbm, ⟨108, _⟩ => ⟨S2048x1024, .bf16⟩
  | .hbm, ⟨109, _⟩ => ⟨S2048x1024, .bf16⟩
  | .hbm, ⟨110, _⟩ => ⟨S2048x1024, .bf16⟩
  | .hbm, ⟨111, _⟩ => ⟨S2048x1024, .bf16⟩
  | .hbm, ⟨112, _⟩ => ⟨S2048x1024, .f32⟩
  | .hbm, ⟨113, _⟩ => ⟨S2048x1024, .bf16⟩
  | .hbm, ⟨114, _⟩ => ⟨S2048x2048, .bf16⟩
  | .hbm, ⟨115, _⟩ => ⟨S2048x512, .bf16⟩
  | .hbm, ⟨116, _⟩ => ⟨S2048x512, .f32⟩
  | .hbm, ⟨117, _⟩ => ⟨S2048x2048, .bf16⟩
  | .hbm, ⟨118, _⟩ => ⟨S2048x2048, .bf16⟩
  | .hbm, ⟨119, _⟩ => ⟨S2048x1024, .bf16⟩
  | .hbm, ⟨120, _⟩ => ⟨S2048x4096, .bf16⟩
  | .hbm, ⟨121, _⟩ => ⟨S1x1024, .f32⟩
  | .hbm, ⟨122, _⟩ => ⟨S1x1024, .f32⟩
  | .hbm, ⟨123, _⟩ => ⟨S1x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1x512, .f32⟩
  | .local _ .vmem, ⟨21, _⟩ => ⟨S4x512x512, .bf16⟩
  | .local _ .vmem, ⟨22, _⟩ => ⟨S4x512x128, .bf16⟩
  | .local _ .vmem, ⟨23, _⟩ => ⟨S4x512x128, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x2048, .bf16⟩
  | .local _ .vmem, ⟨29, _⟩ => ⟨S256x2048, .bf16⟩
  | .local _ .vmem, ⟨30, _⟩ => ⟨S256x512, .bf16⟩
  | .local _ .vmem, ⟨31, _⟩ => ⟨S256x512, .bf16⟩
  | .local _ .vmem, ⟨32, _⟩ => ⟨S256x512, .f32⟩
  | .local _ .vmem, ⟨33, _⟩ => ⟨S256x512, .f32⟩
  | .local _ .vmem, ⟨34, _⟩ => ⟨S256x2048, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S256x1024, .bf16⟩
  | .local _ .vmem, ⟨39, _⟩ => ⟨S256x1024, .bf16⟩
  | .local _ .vmem, ⟨40, _⟩ => ⟨S256x2048, .bf16⟩
  | .local _ .vmem, ⟨41, _⟩ => ⟨S256x2048, .bf16⟩
  | .local _ .vmem, ⟨42, _⟩ => ⟨S1x1024, .f32⟩
  | .local _ .vmem, ⟨43, _⟩ => ⟨S1x1024, .f32⟩
  | .local _ .vmem, ⟨44, _⟩ => ⟨S1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_cst_2 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_cst_9 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_12 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84_0 : Ref sig .tc := ⟨.hbm, 112, rfl⟩
abbrev main_v84_1 : Ref sig .tc := ⟨.hbm, 113, rfl⟩
abbrev main_v84_2 : Ref sig .tc := ⟨.hbm, 114, rfl⟩
abbrev main_v84_3 : Ref sig .tc := ⟨.hbm, 115, rfl⟩
abbrev main_v84_4 : Ref sig .tc := ⟨.hbm, 116, rfl⟩
abbrev main_v84_5 : Ref sig .tc := ⟨.hbm, 117, rfl⟩
abbrev main_v84_6 : Ref sig .tc := ⟨.hbm, 118, rfl⟩
abbrev main_v84_7 : Ref sig .tc := ⟨.hbm, 119, rfl⟩
abbrev main_v84_8 : Ref sig .tc := ⟨.hbm, 120, rfl⟩
abbrev main_v84_9 : Ref sig .tc := ⟨.hbm, 121, rfl⟩
abbrev main_v84_10 : Ref sig .tc := ⟨.hbm, 122, rfl⟩
abbrev main_v84_11 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg26_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem25_0 : DmaSem sig := 43
abbrev cc0_sem26_0 : DmaSem sig := 44

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v139 : BitVec 1 := Scalar.cmpi .eq arg0 c0_i32
  let v140 : BitVec 32 := Scalar.extui v139
  let c0_i32_58 : BitVec 32 := 0#32
  let v141 : BitVec 1 := Scalar.cmpi .ne v140 c0_i32_58
  v141

def k0_cond2 (i : grid0.Coords) : BitVec 1 :=
  let arg0 : BitVec 32 := BitVec.ofNat 32 (i 0).val
  let c0_i32_59 : BitVec 32 := 0#32
  let v142 : BitVec 1 := Scalar.cmpi .sgt arg0 c0_i32_59
  let v143 : BitVec 32 := Scalar.extui v142
  let c0_i32_60 : BitVec 32 := 0#32
  let v144 : BitVec 1 := Scalar.cmpi .ne v143 c0_i32_60
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x512x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MixBIdeal.lean ====
variable {F : FTy → Type} [FloatOps F] [Named F]
def κ : String → Option EReal := fun
  | "cube" => some ((8943 / 200000 : ℝ) : EReal)
  | "cube3" => some ((26829 / 200000 : ℝ) : EReal)
  | _ => none
-- ==== RefMixBIdeal.lean ====
abbrev S2048x1024 : Shape := ⟨2, ![2048, 1024]⟩
abbrev S2048x2048 : Shape := ⟨2, ![2048, 2048]⟩
abbrev S2048x512 : Shape := ⟨2, ![2048, 512]⟩
abbrev S32x16 : Shape := ⟨2, ![32, 16]⟩
abbrev S32x16x64 : Shape := ⟨3, ![32, 16, 64]⟩
abbrev S512x2048 : Shape := ⟨2, ![512, 2048]⟩
abbrev S1024x1024 : Shape := ⟨2, ![1024, 1024]⟩
abbrev S1x1024 : Shape := ⟨2, ![1, 1024]⟩
abbrev S_ : Shape := ⟨0, ![]⟩
abbrev S2048x32x64 : Shape := ⟨3, ![2048, 32, 64]⟩
abbrev S32x2048x16 : Shape := ⟨3, ![32, 2048, 16]⟩
abbrev S2048x32x16 : Shape := ⟨3, ![2048, 32, 16]⟩
abbrev S1x512 : Shape := ⟨2, ![1, 512]⟩
abbrev S2048 : Shape := ⟨1, ![2048]⟩
abbrev S2048x1 : Shape := ⟨2, ![2048, 1]⟩
abbrev S1024 : Shape := ⟨1, ![1024]⟩
abbrev S512 : Shape := ⟨1, ![512]⟩
abbrev S32x2048x64 : Shape := ⟨3, ![32, 2048, 64]⟩

abbrev nBuf : Space → Nat
  | .hbm => 235
  | .vmem => 0
  | .smem => 0
  | _ => 0

abbrev hbmTy0_0 (i : Nat) : BufTy := match i % 128 with
  | 0 => ⟨S2048x1024, .f32⟩
  | 1 => ⟨S2048x2048, .f32⟩
  | 2 => ⟨S2048x2048, .f32⟩
  | 3 => ⟨S2048x512, .f32⟩
  | 4 => ⟨S32x16, .f32⟩
  | 5 => ⟨S32x16x64, .f32⟩
  | 6 => ⟨S32x16x64, .f32⟩
  | 7 => ⟨S512x2048, .f32⟩
  | 8 => ⟨S2048x1024, .f32⟩
  | 9 => ⟨S2048x1024, .f32⟩
  | 10 => ⟨S2048x1024, .f32⟩
  | 11 => ⟨S1024x1024, .f32⟩
  | 12 => ⟨S1x1024, .f32⟩
  | 13 => ⟨S2048x1024, .f32⟩
  | 14 => ⟨S_, .f32⟩
  | 15 => ⟨S2048x1024, .f32⟩
  | 16 => ⟨S_, .f32⟩
  | 17 => ⟨S2048x512, .f32⟩
  | 18 => ⟨S_, .f32⟩
  | 19 => ⟨S2048x2048, .f32⟩
  | 20 => ⟨S_, .f32⟩
  | 21 => ⟨S1x1024, .f32⟩
  | 22 => ⟨S2048x32x64, .f32⟩
  | 23 => ⟨S2048x32x64, .f32⟩
  | 24 => ⟨S32x2048x16, .f32⟩
  | 25 => ⟨S2048x32x16, .f32⟩
  | 26 => ⟨S32x2048x16, .f32⟩
  | 27 => ⟨S2048x32x16, .f32⟩
  | 28 => ⟨S2048x32x16, .f32⟩
  | 29 => ⟨S2048x512, .f32⟩
  | 30 => ⟨S1x512, .f32⟩
  | 31 => ⟨S2048x512, .f32⟩
  | 32 => ⟨S2048x512, .f32⟩
  | 33 => ⟨S2048x512, .f32⟩
  | 34 => ⟨S2048x512, .f32⟩
  | 35 => ⟨S_, .f32⟩
  | 36 => ⟨S_, .f32⟩
  | 37 => ⟨S_, .f32⟩
  | 38 => ⟨S2048x512, .f32⟩
  | 39 => ⟨S2048x512, .f32⟩
  | 40 => ⟨S2048x512, .f32⟩
  | 41 => ⟨S_, .f32⟩
  | 42 => ⟨S2048x512, .f32⟩
  | 43 => ⟨S2048x512, .f32⟩
  | 44 => ⟨S2048x512, .f32⟩
  | 45 => ⟨S2048x512, .f32⟩
  | 46 => ⟨S2048x512, .f32⟩
  | 47 => ⟨S_, .f32⟩
  | 48 => ⟨S2048x512, .f32⟩
  | 49 => ⟨S2048x512, .f32⟩
  | 50 => ⟨S2048x512, .f32⟩
  | 51 => ⟨S_, .f32⟩
  | 52 => ⟨S2048x512, .f32⟩
  | 53 => ⟨S2048x512, .f32⟩
  | 54 => ⟨S_, .f32⟩
  | 55 => ⟨S2048x512, .f32⟩
  | 56 => ⟨S2048x512, .f32⟩
  | 57 => ⟨S2048x512, .f32⟩
  | 58 => ⟨S_, .f32⟩
  | 59 => ⟨S2048x512, .f32⟩
  | 60 => ⟨S2048x512, .f32⟩
  | 61 => ⟨S_, .f32⟩
  | 62 => ⟨S2048x512, .f32⟩
  | 63 => ⟨S2048x512, .f32⟩
  | 64 => ⟨S2048x512, .f32⟩
  | 65 => ⟨S2048x2048, .f32⟩
  | 66 => ⟨S2048x2048, .f32⟩
  | 67 => ⟨S2048x1024, .f32⟩
  | 68 => ⟨S2048x1024, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S_, .f32⟩
  | 75 => ⟨S2048x1024, .f32⟩
  | 76 => ⟨S2048x1024, .f32⟩
  | 77 => ⟨S_, .f32⟩
  | 78 => ⟨S2048x1024, .f32⟩
  | 79 => ⟨S2048x1024, .f32⟩
  | 80 => ⟨S2048x1024, .f32⟩
  | 81 => ⟨S2048x1024, .f32⟩
  | 82 => ⟨S2048x1024, .f32⟩
  | 83 => ⟨S2048x1024, .f32⟩
  | 84 => ⟨S_, .f32⟩
  | 85 => ⟨S2048x1024, .f32⟩
  | 86 => ⟨S2048x1024, .f32⟩
  | 87 => ⟨S_, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S2048x1024, .f32⟩
  | 94 => ⟨S2048x1024, .f32⟩
  | 95 => ⟨S2048x1024, .f32⟩
  | 96 => ⟨S2048x1024, .f32⟩
  | 97 => ⟨S_, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S2048x1024, .f32⟩
  | 107 => ⟨S2048x1024, .f32⟩
  | 108 => ⟨S2048x1024, .f32⟩
  | 109 => ⟨S_, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S_, .f32⟩
  | 116 => ⟨S2048, .f32⟩
  | 117 => ⟨S2048x1, .f32⟩
  | 118 => ⟨S_, .f32⟩
  | 119 => ⟨S2048x1, .f32⟩
  | 120 => ⟨S2048x1, .f32⟩
  | 121 => ⟨S2048x1024, .f32⟩
  | 122 => ⟨S2048x1024, .f32⟩
  | 123 => ⟨S2048x1024, .f32⟩
  | 124 => ⟨S_, .f32⟩
  | 125 => ⟨S2048, .f32⟩
  | 126 => ⟨S2048x1, .f32⟩
  | 127 => ⟨S_, .f32⟩
  | _ => ⟨S2048x1024, .f32⟩

abbrev hbmTy0_1 (i : Nat) : BufTy := match i % 128 with
  | 0 => ⟨S2048x1, .f32⟩
  | 1 => ⟨S2048x1, .f32⟩
  | 2 => ⟨S_, .f32⟩
  | 3 => ⟨S2048x1, .f32⟩
  | 4 => ⟨S2048x1, .f32⟩
  | 5 => ⟨S2048x1, .f32⟩
  | 6 => ⟨S2048x1, .f32⟩
  | 7 => ⟨S_, .f32⟩
  | 8 => ⟨S2048x1, .f32⟩
  | 9 => ⟨S2048x1, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S_, .f32⟩
  | 18 => ⟨S1024, .f32⟩
  | 19 => ⟨S1x1024, .f32⟩
  | 20 => ⟨S2048x1024, .f32⟩
  | 21 => ⟨S_, .f32⟩
  | 22 => ⟨S1024, .f32⟩
  | 23 => ⟨S1x1024, .f32⟩
  | 24 => ⟨S2048x1024, .f32⟩
  | 25 => ⟨S2048x1024, .f32⟩
  | 26 => ⟨S2048x1024, .f32⟩
  | 27 => ⟨S_, .f32⟩
  | 28 => ⟨S2048, .f32⟩
  | 29 => ⟨S2048x1, .f32⟩
  | 30 => ⟨S2048x1024, .f32⟩
  | 31 => ⟨S2048x1024, .f32⟩
  | 32 => ⟨S2048x1, .f32⟩
  | 33 => ⟨S_, .f32⟩
  | 34 => ⟨S2048x1, .f32⟩
  | 35 => ⟨S2048x1, .f32⟩
  | 36 => ⟨S_, .f32⟩
  | 37 => ⟨S2048, .f32⟩
  | 38 => ⟨S2048x1024, .f32⟩
  | 39 => ⟨S2048x1024, .f32⟩
  | 40 => ⟨S2048x1024, .f32⟩
  | 41 => ⟨S2048x1024, .f32⟩
  | 42 => ⟨S2048x1024, .f32⟩
  | 43 => ⟨S2048x1024, .f32⟩
  | 44 => ⟨S_, .f32⟩
  | 45 => ⟨S2048, .f32⟩
  | 46 => ⟨S2048x1, .f32⟩
  | 47 => ⟨S_, .f32⟩
  | 48 => ⟨S2048x1, .f32⟩
  | 49 => ⟨S2048x1, .f32⟩
  | 50 => ⟨S_, .f32⟩
  | 51 => ⟨S2048, .f32⟩
  | 52 => ⟨S2048x1024, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x2048, .f32⟩
  | 68 => ⟨S2048x512, .f32⟩
  | 69 => ⟨S2048x512, .f32⟩
  | 70 => ⟨S2048x512, .f32⟩
  | 71 => ⟨S_, .f32⟩
  | 72 => ⟨S2048x512, .f32⟩
  | 73 => ⟨S2048x512, .f32⟩
  | 74 => ⟨S2048x512, .f32⟩
  | 75 => ⟨S_, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S_, .f32⟩
  | 87 => ⟨S512, .f32⟩
  | 88 => ⟨S1x512, .f32⟩
  | 89 => ⟨S32x16, .f32⟩
  | 90 => ⟨S2048x32x16, .f32⟩
  | 91 => ⟨S2048x32x16, .f32⟩
  | 92 => ⟨S32x2048x16, .f32⟩
  | 93 => ⟨S32x2048x64, .f32⟩
  | 94 => ⟨S2048x32x64, .f32⟩
  | 95 => ⟨S32x2048x16, .f32⟩
  | 96 => ⟨S32x2048x64, .f32⟩
  | 97 => ⟨S2048x32x64, .f32⟩
  | 98 => ⟨S2048x2048, .f32⟩
  | 99 => ⟨S2048x2048, .f32⟩
  | 100 => ⟨S2048x1024, .bf16⟩
  | 101 => ⟨S2048x2048, .bf16⟩
  | 102 => ⟨S2048x512, .bf16⟩
  | 103 => ⟨S2048x2048, .bf16⟩
  | 104 => ⟨S2048x2048, .bf16⟩
  | 105 => ⟨S2048x1024, .bf16⟩
  | 106 => ⟨S1x512, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_17 : Ref sig .tc := ⟨.hbm, 97, rfl⟩
abbrev main_v65 : Ref sig .tc := ⟨.hbm, 98, rfl⟩
abbrev main_v66 : Ref sig .tc := ⟨.hbm, 99, rfl⟩
abbrev main_cst_18 : Ref sig .tc := ⟨.hbm, 100, rfl⟩
abbrev main_v67 : Ref sig .tc := ⟨.hbm, 101, rfl⟩
abbrev main_v68 : Ref sig .tc := ⟨.hbm, 102, rfl⟩
abbrev main_cst_19 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_20 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_21 : Ref sig .tc := ⟨.hbm, 115, rfl⟩
abbrev main_v79 : Ref sig .tc := ⟨.hbm, 116, rfl⟩
abbrev main_v80 : Ref sig .tc := ⟨.hbm, 117, rfl⟩
abbrev main_cst_22 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_23 : Ref sig .tc := ⟨.hbm, 124, rfl⟩
abbrev main_v86 : Ref sig .tc := ⟨.hbm, 125, rfl⟩
abbrev main_v87 : Ref sig .tc := ⟨.hbm, 126, rfl⟩
abbrev main_cst_24 : Ref sig .tc := ⟨.hbm, 127, rfl⟩
abbrev main_v88 : Ref sig .tc := ⟨.hbm, 128, rfl⟩
abbrev main_v89 : Ref sig .tc := ⟨.hbm, 129, rfl⟩
abbrev main_cst_25 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_26 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_27 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_28 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_29 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_30 : Ref sig .tc := ⟨.hbm, 161, rfl⟩
abbrev main_v116 : Ref sig .tc := ⟨.hbm, 162, rfl⟩
abbrev main_v117 : Ref sig .tc := ⟨.hbm, 163, rfl⟩
abbrev main_cst_31 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_32 : Ref sig .tc := ⟨.hbm, 172, rfl⟩
abbrev main_v125 : Ref sig .tc := ⟨.hbm, 173, rfl⟩
abbrev main_v126 : Ref sig .tc := ⟨.hbm, 174, rfl⟩
abbrev main_cst_33 : Ref sig .tc := ⟨.hbm, 175, rfl⟩
abbrev main_v127 : Ref sig .tc := ⟨.hbm, 176, rfl⟩
abbrev main_v128 : Ref sig .tc := ⟨.hbm, 177, rfl⟩
abbrev main_cst_34 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_35 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_36 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_cst_37 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_38 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩

abbrev nD : Nat := 1
abbrev τ : Topo := Topo.v7x

variable {F : FTy → Type} [FloatOps F]
-- ==== Ffn.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S2048x5632 : Shape := ⟨2, ![2048, 5632]⟩
abbrev S2048x2816 : Shape := ⟨2, ![2048, 2816]⟩
abbrev S_ : Shape := ⟨0, ![]⟩
abbrev S2048x1408 : Shape := ⟨2, ![2048, 1408]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024 : Shape := ⟨1, ![1024]⟩
abbrev S1x1408x1024 : Shape := ⟨3, ![1, 1408, 1024]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 47
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1024x5632, .bf16⟩
  | .hbm, ⟨7, _⟩ => ⟨S2816x1024, .bf16⟩
  | .hbm, ⟨8, _⟩ => ⟨S1024x4x1408, .bf16⟩
  | .hbm, ⟨9, _⟩ => ⟨S4x1024x1408, .bf16⟩
  | .hbm, ⟨10, _⟩ => ⟨S2x1408x1024, .bf16⟩
  | .hbm, ⟨11, _⟩ => ⟨S2048x5632, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .bf16⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1408, .f32⟩
  | .hbm, ⟨34, _⟩ => ⟨S2048x1408, .f32⟩
  | .hbm, ⟨35, _⟩ => ⟨S2048x2816, .f32⟩
  | .hbm, ⟨36, _⟩ => ⟨S2048x1408, .f32⟩
  | .hbm, ⟨37, _⟩ => ⟨S2048x1408, .f32⟩
  | .hbm, ⟨38, _⟩ => ⟨S2048x2816, .f32⟩
  | .hbm, ⟨39, _⟩ => ⟨S2048x5632, .f32⟩
  | .hbm, ⟨40, _⟩ => ⟨S2048x5632, .bf16⟩
  | .hbm, ⟨41, _⟩ => ⟨S2048x1024, .f32⟩
  | .hbm, ⟨42, _⟩ => ⟨S2048x5632, .bf16⟩
  | .hbm, ⟨43, _⟩ => ⟨S2048x2816, .bf16⟩
  | .hbm, ⟨44, _⟩ => ⟨S2048x1024, .bf16⟩
  | .hbm, ⟨45, _⟩ => ⟨S1x1024, .f32⟩
  | .hbm, ⟨46, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S4x1024x1408, .bf16⟩
  | .local _ .vmem, ⟨8, _⟩ => ⟨S2x1408x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev main_v32_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RefFfnIdeal.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S2048x2816 : Shape := ⟨2, ![2048, 2816]⟩
abbrev S2048x5632 : Shape := ⟨2, ![2048, 5632]⟩
abbrev S2048 : Shape := ⟨1, ![2048]⟩
abbrev S2048x1 : Shape := ⟨2, ![2048, 1]⟩
abbrev S1024 : Shape := ⟨1, ![1024]⟩
abbrev S2048x1408 : Shape := ⟨2, ![2048, 1408]⟩

abbrev nBuf : Space → Nat
  | .hbm => 154
  | .vmem => 0
  | .smem => 0
  | _ => 0

abbrev hbmTy0_0 (i : Nat) : BufTy := match i % 128 with
  | 0 => ⟨S2048x1024, .f32⟩
  | 1 => ⟨S1024x5632, .f32⟩
  | 2 => ⟨S2816x1024, .f32⟩
  | 3 => ⟨S1x1024, .f32⟩
  | 4 => ⟨S2048x1024, .f32⟩
  | 5 => ⟨S_, .f32⟩
  | 6 => ⟨S2048x2816, .f32⟩
  | 7 => ⟨S_, .f32⟩
  | 8 => ⟨S2048x1024, .f32⟩
  | 9 => ⟨S_, .f32⟩
  | 10 => ⟨S1x1024, .f32⟩
  | 11 => ⟨S2048x5632, .f32⟩
  | 12 => ⟨S2048x2816, .f32⟩
  | 13 => ⟨S2048x2816, .f32⟩
  | 14 => ⟨S2048x2816, .f32⟩
  | 15 => ⟨S2048x2816, .f32⟩
  | 16 => ⟨S2048x2816, .f32⟩
  | 17 => ⟨S2048x2816, .f32⟩
  | 18 => ⟨S_, .f32⟩
  | 19 => ⟨S2048x2816, .f32⟩
  | 20 => ⟨S2048x2816, .f32⟩
  | 21 => ⟨S_, .f32⟩
  | 22 => ⟨S2048x2816, .f32⟩
  | 23 => ⟨S2048x2816, .f32⟩
  | 24 => ⟨S_, .f32⟩
  | 25 => ⟨S2048x2816, .f32⟩
  | 26 => ⟨S2048x2816, .f32⟩
  | 27 => ⟨S2048x2816, .f32⟩
  | 28 => ⟨S2048x2816, .f32⟩
  | 29 => ⟨S2048x2816, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S_, .f32⟩
  | 40 => ⟨S2048, .f32⟩
  | 41 => ⟨S2048x1, .f32⟩
  | 42 => ⟨S_, .f32⟩
  | 43 => ⟨S2048x1, .f32⟩
  | 44 => ⟨S2048x1, .f32⟩
  | 45 => ⟨S2048x1024, .f32⟩
  | 46 => ⟨S2048x1024, .f32⟩
  | 47 => ⟨S2048x1024, .f32⟩
  | 48 => ⟨S_, .f32⟩
  | 49 => ⟨S2048, .f32⟩
  | 50 => ⟨S2048x1, .f32⟩
  | 51 => ⟨S_, .f32⟩
  | 52 => ⟨S2048x1, .f32⟩
  | 53 => ⟨S2048x1, .f32⟩
  | 54 => ⟨S_, .f32⟩
  | 55 => ⟨S2048x1, .f32⟩
  | 56 => ⟨S2048x1, .f32⟩
  | 57 => ⟨S2048x1, .f32⟩
  | 58 => ⟨S2048x1, .f32⟩
  | 59 => ⟨S_, .f32⟩
  | 60 => ⟨S2048x1, .f32⟩
  | 61 => ⟨S2048x1, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S2048x2816, .f32⟩
  | 69 => ⟨S2048x2816, .f32⟩
  | 70 => ⟨S_, .f32⟩
  | 71 => ⟨S2048x2816, .f32⟩
  | 72 => ⟨S2048x2816, .f32⟩
  | 73 => ⟨S_, .f32⟩
  | 74 => ⟨S2048x2816, .f32⟩
  | 75 => ⟨S2048x2816, .f32⟩
  | 76 => ⟨S_, .f32⟩
  | 77 => ⟨S2048x2816, .f32⟩
  | 78 => ⟨S2048x2816, .f32⟩
  | 79 => ⟨S2048x2816, .f32⟩
  | 80 => ⟨S2048x2816, .f32⟩
  | 81 => ⟨S2048x2816, .f32⟩
  | 82 => ⟨S_, .f32⟩
  | 83 => ⟨S2048x2816, .f32⟩
  | 84 => ⟨S2048x2816, .f32⟩
  | 85 => ⟨S2048x2816, .f32⟩
  | 86 => ⟨S2048x2816, .f32⟩
  | 87 => ⟨S2048x2816, .f32⟩
  | 88 => ⟨S2048x2816, .f32⟩
  | 89 => ⟨S2048x2816, .f32⟩
  | 90 => ⟨S2048x1024, .f32⟩
  | 91 => ⟨S_, .f32⟩
  | 92 => ⟨S1024, .f32⟩
  | 93 => ⟨S1x1024, .f32⟩
  | 94 => ⟨S2048x1024, .f32⟩
  | 95 => ⟨S_, .f32⟩
  | 96 => ⟨S1024, .f32⟩
  | 97 => ⟨S1x1024, .f32⟩
  | 98 => ⟨S2048x1024, .f32⟩
  | 99 => ⟨S2048x1024, .f32⟩
  | 100 => ⟨S2048x1024, .f32⟩
  | 101 => ⟨S_, .f32⟩
  | 102 => ⟨S2048, .f32⟩
  | 103 => ⟨S2048x1, .f32⟩
  | 104 => ⟨S2048x1024, .f32⟩
  | 105 => ⟨S2048x1024, .f32⟩
  | 106 => ⟨S2048x1, .f32⟩
  | 107 => ⟨S_, .f32⟩
  | 108 => ⟨S2048x1, .f32⟩
  | 109 => ⟨S2048x1, .f32⟩
  | 110 => ⟨S_, .f32⟩
  | 111 => ⟨S2048, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S_, .f32⟩
  | 119 => ⟨S2048, .f32⟩
  | 120 => ⟨S2048x1, .f32⟩
  | 121 => ⟨S_, .f32⟩
  | 122 => ⟨S2048x1, .f32⟩
  | 123 => ⟨S2048x1, .f32⟩
  | 124 => ⟨S_, .f32⟩
  | 125 => ⟨S2048, .f32⟩
  | 126 => ⟨S2048x1024, .f32⟩
  | 127 => ⟨S2048x1024, .f32⟩
  | _ => ⟨S2048x1024, .f32⟩

abbrev hbmTy0_1 (i : Nat) : BufTy := match i % 128 with
  | 0 => ⟨S_, .f32⟩
  | 1 => ⟨S2048x1024, .f32⟩
  | 2 => ⟨S2048x1024, .f32⟩
  | 3 => ⟨S_, .f32⟩
  | 4 => ⟨S2048x1024, .f32⟩
  | 5 => ⟨S2048x1024, .f32⟩
  | 6 => ⟨S2048x2816, .f32⟩
  | 7 => ⟨S2048x2816, .f32⟩
  | 8 => ⟨S2048x2816, .f32⟩
  | 9 => ⟨S2048x2816, .f32⟩
  | 10 => ⟨S2048x2816, .f32⟩
  | 11 => ⟨S2048x2816, .f32⟩
  | 12 => ⟨S2048x2816, .f32⟩
  | 13 => ⟨S2048x2816, .f32⟩
  | 14 => ⟨S2048x2816, .f32⟩
  | 15 => ⟨S2048x5632, .f32⟩
  | 16 => ⟨S2048x1024, .f32⟩
  | 17 => ⟨S2048x1024, .f32⟩
  | 18 => ⟨S2048x1408, .f32⟩
  | 19 => ⟨S2048x1408, .f32⟩
  | 20 => ⟨S2048x1408, .f32⟩
  | 21 => ⟨S2048x1408, .f32⟩
  | 22 => ⟨S2048x5632, .f32⟩
  | 23 => ⟨S2048x5632, .bf16⟩
  | 24 => ⟨S2048x2816, .bf16⟩
  | 25 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v8_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v8_1 : Ref sig .tc := ⟨.hbm, 27, rfl⟩
abbrev main_v8_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_cst_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_6 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_cst_8 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_v40_2 : Ref sig .tc := ⟨.hbm, 75, rfl⟩
abbrev main_call1_cst_1 : Ref sig .tc := ⟨.hbm, 76, rfl⟩
abbrev main_call1_v6 : Ref sig .tc := ⟨.hbm, 77, rfl⟩
abbrev main_call1_v7 : Ref sig .tc := ⟨.hbm, 78, rfl⟩
abbrev main_v40_1 : Ref sig .tc := ⟨.hbm, 79, rfl⟩
abbrev main_v40_0 : Ref sig .tc := ⟨.hbm, 80, rfl⟩
abbrev main_v41 : Ref sig .tc := ⟨.hbm, 81, rfl⟩
abbrev main_cst_10 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v45 : Ref sig .tc := ⟨.hbm, 89, rfl⟩
abbrev main_v46 : Ref sig .tc := ⟨.hbm, 90, rfl⟩
abbrev main_cst_11 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_12 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_13 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_14 : Ref sig .tc := ⟨.hbm, 107, rfl⟩
abbrev main_v60 : Ref sig .tc := ⟨.hbm, 108, rfl⟩
abbrev main_v61 : Ref sig .tc := ⟨.hbm, 109, rfl⟩
abbrev main_cst_15 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_16 : Ref sig .tc := ⟨.hbm, 118, rfl⟩
abbrev main_v69 : Ref sig .tc := ⟨.hbm, 119, rfl⟩
abbrev main_v70 : Ref sig .tc := ⟨.hbm, 120, rfl⟩
abbrev main_cst_17 : Ref sig .tc := ⟨.hbm, 121, rfl⟩
abbrev main_v71 : Ref sig .tc := ⟨.hbm, 122, rfl⟩
abbrev main_v72 : Ref sig .tc := ⟨.hbm, 123, rfl⟩
abbrev main_cst_18 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_19 : Ref sig .tc := ⟨.hbm, 128, rfl⟩
abbrev main_v76 : Ref sig .tc := ⟨.hbm, 129, rfl⟩
abbrev main_v77 : Ref sig .tc := ⟨.hbm, 130, rfl⟩
abbrev main_cst_20 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩

abbrev nD : Nat := 1
abbrev τ : Topo := Topo.v7x

variable {F : FTy → Type} [FloatOps F]
-- ==== S5.lean ====
abbrev S2048x512 : Shape := ⟨2, ![2048, 512]⟩
abbrev S32x64 : Shape := ⟨2, ![32, 64]⟩
abbrev S32x64x16 : Shape := ⟨3, ![32, 64, 16]⟩
abbrev S2048x2048 : Shape := ⟨2, ![2048, 2048]⟩
abbrev S4x8x2 : Shape := ⟨3, ![4, 8, 2]⟩
abbrev S1x4x8x1x2x1 : Shape := ⟨6, ![1, 4, 8, 1, 2, 1]⟩
abbrev S32x16x64 : Shape := ⟨3, ![32, 16, 64]⟩
abbrev S4x1x8x16x1x64 : Shape := ⟨6, ![4, 1, 8, 16, 1, 64]⟩
abbrev S4x4x8x16x2x64 : Shape := ⟨6, ![4, 4, 8, 16, 2, 64]⟩
abbrev S16x128x128 : Shape := ⟨3, ![16, 128, 128]⟩
abbrev S2048x32x16 : Shape := ⟨3, ![2048, 32, 16]⟩
abbrev S32x64x2048 : Shape := ⟨3, ![32, 64, 2048]⟩
abbrev S2048x32x64 : Shape := ⟨3, ![2048, 32, 64]⟩
abbrev S1024x32x64 : Shape := ⟨3, ![1024, 32, 64]⟩
abbrev S512x32x64 : Shape := ⟨3, ![512, 32, 64]⟩
abbrev S256x32x64 : Shape := ⟨3, ![256, 32, 64]⟩
abbrev S128x32x64 : Shape := ⟨3, ![128, 32, 64]⟩
abbrev S64x32x64 : Shape := ⟨3, ![64, 32, 64]⟩
abbrev S32x32x64 : Shape := ⟨3, ![32, 32, 64]⟩
abbrev S16x32x64 : Shape := ⟨3, ![16, 32, 64]⟩
abbrev S8x32x64 : Shape := ⟨3, ![8, 32, 64]⟩
abbrev S4x32x64 : Shape := ⟨3, ![4, 32, 64]⟩
abbrev S2x32x64 : Shape := ⟨3, ![2, 32, 64]⟩
abbrev S1x32x64 : Shape := ⟨3, ![1, 32, 64]⟩
abbrev S0x32x64 : Shape := ⟨3, ![0, 32, 64]⟩
abbrev S_ : Shape := ⟨0, ![]⟩
abbrev S3x32x64 : Shape := ⟨3, ![3, 32, 64]⟩
abbrev S7x32x64 : Shape := ⟨3, ![7, 32, 64]⟩
abbrev S15x32x64 : Shape := ⟨3, ![15, 32, 64]⟩
abbrev S31x32x64 : Shape := ⟨3, ![31, 32, 64]⟩
abbrev S63x32x64 : Shape := ⟨3, ![63, 32, 64]⟩
abbrev S127x32x64 : Shape := ⟨3, ![127, 32, 64]⟩
abbrev S255x32x64 : Shape := ⟨3, ![255, 32, 64]⟩
abbrev S511x32x64 : Shape := ⟨3, ![511, 32, 64]⟩
abbrev S1023x32x64 : Shape := ⟨3, ![1023, 32, 64]⟩
abbrev S1x2048 : Shape := ⟨2, ![1, 2048]⟩
abbrev S2048x128 : Shape := ⟨2, ![2048, 128]⟩
abbrev S1x128x128 : Shape := ⟨3, ![1, 128, 128]⟩
abbrev S1x128 : Shape := ⟨2, ![1, 128]⟩
abbrev S2064x128 : Shape := ⟨2, ![2064, 128]⟩
abbrev S8x128 : Shape := ⟨2, ![8, 128]⟩
abbrev S1x8x128 : Shape := ⟨3, ![1, 8, 128]⟩
abbrev S256x128 : Shape := ⟨2, ![256, 128]⟩
abbrev S32x8x128 : Shape := ⟨3, ![32, 8, 128]⟩
abbrev S128x128 : Shape := ⟨2, ![128, 128]⟩
abbrev S128 : Shape := ⟨1, ![128]⟩

abbrev nBuf : Space → Nat
  | .hbm => 842
  | .vmem => 36
  | .smem => 0
  | _ => 0

abbrev hbmTy0_0 (i : Nat) : BufTy := match i % 128 with
  | 0 => ⟨S2048x512, .f32⟩
  | 1 => ⟨S32x64, .f32⟩
  | 2 => ⟨S32x64, .f32⟩
  | 3 => ⟨S32x64x16, .f32⟩
  | 4 => ⟨S32x64x16, .f32⟩
  | 5 => ⟨S2048x512, .f32⟩
  | 6 => ⟨S2048x2048, .f32⟩
  | 7 => ⟨S2048x2048, .f32⟩
  | 8 => ⟨S4x8x2, .f32⟩
  | 9 => ⟨S1x4x8x1x2x1, .f32⟩
  | 10 => ⟨S4x8x2, .f32⟩
  | 11 => ⟨S1x4x8x1x2x1, .f32⟩
  | 12 => ⟨S32x16x64, .f32⟩
  | 13 => ⟨S4x1x8x16x1x64, .f32⟩
  | 14 => ⟨S4x4x8x16x2x64, .f32⟩
  | 15 => ⟨S4x4x8x16x2x64, .f32⟩
  | 16 => ⟨S4x4x8x16x2x64, .f32⟩
  | 17 => ⟨S16x128x128, .f32⟩
  | 18 => ⟨S16x128x128, .bf16⟩
  | 19 => ⟨S32x16x64, .f32⟩
  | 20 => ⟨S4x1x8x16x1x64, .f32⟩
  | 21 => ⟨S4x4x8x16x2x64, .f32⟩
  | 22 => ⟨S4x4x8x16x2x64, .f32⟩
  | 23 => ⟨S4x4x8x16x2x64, .f32⟩
  | 24 => ⟨S16x128x128, .f32⟩
  | 25 => ⟨S16x128x128, .bf16⟩
  | 26 => ⟨S2048x32x16, .f32⟩
  | 27 => ⟨S32x64x2048, .f32⟩
  | 28 => ⟨S2048x32x64, .f32⟩
  | 29 => ⟨S32x64x2048, .f32⟩
  | 30 => ⟨S2048x32x64, .f32⟩
  | 31 => ⟨S2048x32x64, .f32⟩
  | 32 => ⟨S2048x32x64, .f32⟩
  | 33 => ⟨S1024x32x64, .f32⟩
  | 34 => ⟨S1024x32x64, .f32⟩
  | 35 => ⟨S1024x32x64, .f32⟩
  | 36 => ⟨S1024x32x64, .f32⟩
  | 37 => ⟨S1024x32x64, .f32⟩
  | 38 => ⟨S1024x32x64, .f32⟩
  | 39 => ⟨S1024x32x64, .f32⟩
  | 40 => ⟨S1024x32x64, .f32⟩
  | 41 => ⟨S1024x32x64, .f32⟩
  | 42 => ⟨S1024x32x64, .f32⟩
  | 43 => ⟨S1024x32x64, .f32⟩
  | 44 => ⟨S1024x32x64, .f32⟩
  | 45 => ⟨S1024x32x64, .f32⟩
  | 46 => ⟨S1024x32x64, .f32⟩
  | 47 => ⟨S1024x32x64, .f32⟩
  | 48 => ⟨S1024x32x64, .f32⟩
  | 49 => ⟨S1024x32x64, .f32⟩
  | 50 => ⟨S1024x32x64, .f32⟩
  | 51 => ⟨S1024x32x64, .f32⟩
  | 52 => ⟨S1024x32x64, .f32⟩
  | 53 => ⟨S1024x32x64, .f32⟩
  | 54 => ⟨S1024x32x64, .f32⟩
  | 55 => ⟨S512x32x64, .f32⟩
  | 56 => ⟨S512x32x64, .f32⟩
  | 57 => ⟨S512x32x64, .f32⟩
  | 58 => ⟨S512x32x64, .f32⟩
  | 59 => ⟨S512x32x64, .f32⟩
  | 60 => ⟨S512x32x64, .f32⟩
  | 61 => ⟨S512x32x64, .f32⟩
  | 62 => ⟨S512x32x64, .f32⟩
  | 63 => ⟨S512x32x64, .f32⟩
  | 64 => ⟨S512x32x64, .f32⟩
  | 65 => ⟨S512x32x64, .f32⟩
  | 66 => ⟨S512x32x64, .f32⟩
  | 67 => ⟨S512x32x64, .f32⟩
  | 68 => ⟨S512x32x64, .f32⟩
  | 69 => ⟨S512x32x64, .f32⟩
  | 70 => ⟨S512x32x64, .f32⟩
  | 71 => ⟨S512x32x64, .f32⟩
  | 72 => ⟨S512x32x64, .f32⟩
  | 73 => ⟨S512x32x64, .f32⟩
  | 74 => ⟨S512x32x64, .f32⟩
  | 75 => ⟨S512x32x64, .f32⟩
  | 76 => ⟨S512x32x64, .f32⟩
  | 77 => ⟨S256x32x64, .f32⟩
  | 78 => ⟨S256x32x64, .f32⟩
  | 79 => ⟨S256x32x64, .f32⟩
  | 80 => ⟨S256x32x64, .f32⟩
  | 81 => ⟨S256x32x64, .f32⟩
  | 82 => ⟨S256x32x64, .f32⟩
  | 83 => ⟨S256x32x64, .f32⟩
  | 84 => ⟨S256x32x64, .f32⟩
  | 85 => ⟨S256x32x64, .f32⟩
  | 86 => ⟨S256x32x64, .f32⟩
  | 87 => ⟨S256x32x64, .f32⟩
  | 88 => ⟨S256x32x64, .f32⟩
  | 89 => ⟨S256x32x64, .f32⟩
  | 90 => ⟨S256x32x64, .f32⟩
  | 91 => ⟨S256x32x64, .f32⟩
  | 92 => ⟨S256x32x64, .f32⟩
  | 93 => ⟨S256x32x64, .f32⟩
  | 94 => ⟨S256x32x64, .f32⟩
  | 95 => ⟨S256x32x64, .f32⟩
  | 96 => ⟨S256x32x64, .f32⟩
  | 97 => ⟨S256x32x64, .f32⟩
  | 98 => ⟨S256x32x64, .f32⟩
  | 99 => ⟨S128x32x64, .f32⟩
  | 100 => ⟨S128x32x64, .f32⟩
  | 101 => ⟨S128x32x64, .f32⟩
  | 102 => ⟨S128x32x64, .f32⟩
  | 103 => ⟨S128x32x64, .f32⟩
  | 104 => ⟨S128x32x64, .f32⟩
  | 105 => ⟨S128x32x64, .f32⟩
  | 106 => ⟨S128x32x64, .f32⟩
  | 107 => ⟨S128x32x64, .f32⟩
  | 108 => ⟨S128x32x64, .f32⟩
  | 109 => ⟨S128x32x64, .f32⟩
  | 110 => ⟨S128x32x64, .f32⟩
  | 111 => ⟨S128x32x64, .f32⟩
  | 112 => ⟨S128x32x64, .f32⟩
  | 113 => ⟨S128x32x64, .f32⟩
  | 114 => ⟨S128x32x64, .f32⟩
  | 115 => ⟨S128x32x64, .f32⟩
  | 116 => ⟨S128x32x64, .f32⟩
  | 117 => ⟨S128x32x64, .f32⟩
  | 118 => ⟨S128x32x64, .f32⟩
  | 119 => ⟨S128x32x64, .f32⟩
  | 120 => ⟨S128x32x64, .f32⟩
  | 121 => ⟨S64x32x64, .f32⟩
  | 122 => ⟨S64x32x64, .f32⟩
  | 123 => ⟨S64x32x64, .f32⟩
  | 124 => ⟨S64x32x64, .f32⟩
  | 125 => ⟨S64x32x64, .f32⟩
  | 126 => ⟨S64x32x64, .f32⟩
  | 127 => ⟨S64x32x64, .f32⟩
  | _ => ⟨S2048x512, .f32⟩

abbrev hbmTy0_1 (i : Nat) : BufTy := match i % 128 with
  | 0 => ⟨S64x32x64, .f32⟩
  | 1 => ⟨S64x32x64, .f32⟩
  | 2 => ⟨S64x32x64, .f32⟩
  | 3 => ⟨S64x32x64, .f32⟩
  | 4 => ⟨S64x32x64, .f32⟩
  | 5 => ⟨S64x32x64, .f32⟩
  | 6 => ⟨S64x32x64, .f32⟩
  | 7 => ⟨S64x32x64, .f32⟩
  | 8 => ⟨S64x32x64, .f32⟩
  | 9 => ⟨S64x32x64, .f32⟩
  | 10 => ⟨S64x32x64, .f32⟩
  | 11 => ⟨S64x32x64, .f32⟩
  | 12 => ⟨S64x32x64, .f32⟩
  | 13 => ⟨S64x32x64, .f32⟩
  | 14 => ⟨S64x32x64, .f32⟩
  | 15 => ⟨S32x32x64, .f32⟩
  | 16 => ⟨S32x32x64, .f32⟩
  | 17 => ⟨S32x32x64, .f32⟩
  | 18 => ⟨S32x32x64, .f32⟩
  | 19 => ⟨S32x32x64, .f32⟩
  | 20 => ⟨S32x32x64, .f32⟩
  | 21 => ⟨S32x32x64, .f32⟩
  | 22 => ⟨S32x32x64, .f32⟩
  | 23 => ⟨S32x32x64, .f32⟩
  | 24 => ⟨S32x32x64, .f32⟩
  | 25 => ⟨S32x32x64, .f32⟩
  | 26 => ⟨S32x32x64, .f32⟩
  | 27 => ⟨S32x32x64, .f32⟩
  | 28 => ⟨S32x32x64, .f32⟩
  | 29 => ⟨S32x32x64, .f32⟩
  | 30 => ⟨S32x32x64, .f32⟩
  | 31 => ⟨S32x32x64, .f32⟩
  | 32 => ⟨S32x32x64, .f32⟩
  | 33 => ⟨S32x32x64, .f32⟩
  | 34 => ⟨S32x32x64, .f32⟩
  | 35 => ⟨S32x32x64, .f32⟩
  | 36 => ⟨S32x32x64, .f32⟩
  | 37 => ⟨S16x32x64, .f32⟩
  | 38 => ⟨S16x32x64, .f32⟩
  | 39 => ⟨S16x32x64, .f32⟩
  | 40 => ⟨S16x32x64, .f32⟩
  | 41 => ⟨S16x32x64, .f32⟩
  | 42 => ⟨S16x32x64, .f32⟩
  | 43 => ⟨S16x32x64, .f32⟩
  | 44 => ⟨S16x32x64, .f32⟩
  | 45 => ⟨S16x32x64, .f32⟩
  | 46 => ⟨S16x32x64, .f32⟩
  | 47 => ⟨S16x32x64, .f32⟩
  | 48 => ⟨S16x32x64, .f32⟩
  | 49 => ⟨S16x32x64, .f32⟩
  | 50 => ⟨S16x32x64, .f32⟩
  | 51 => ⟨S16x32x64, .f32⟩
  | 52 => ⟨S16x32x64, .f32⟩
  | 53 => ⟨S16x32x64, .f32⟩
  | 54 => ⟨S16x32x64, .f32⟩
  | 55 => ⟨S16x32x64, .f32⟩
  | 56 => ⟨S16x32x64, .f32⟩
  | 57 => ⟨S16x32x64, .f32⟩
  | 58 => ⟨S16x32x64, .f32⟩
  | 59 => ⟨S8x32x64, .f32⟩
  | 60 => ⟨S8x32x64, .f32⟩
  | 61 => ⟨S8x32x64, .f32⟩
  | 62 => ⟨S8x32x64, .f32⟩
  | 63 => ⟨S8x32x64, .f32⟩
  | 64 => ⟨S8x32x64, .f32⟩
  | 65 => ⟨S8x32x64, .f32⟩
  | 66 => ⟨S8x32x64, .f32⟩
  | 67 => ⟨S8x32x64, .f32⟩
  | 68 => ⟨S8x32x64, .f32⟩
  | 69 => ⟨S8x32x64, .f32⟩
  | 70 => ⟨S8x32x64, .f32⟩
  | 71 => ⟨S8x32x64, .f32⟩
  | 72 => ⟨S8x32x64, .f32⟩
  | 73 => ⟨S8x32x64, .f32⟩
  | 74 => ⟨S8x32x64, .f32⟩
  | 75 => ⟨S8x32x64, .f32⟩
  | 76 => ⟨S8x32x64, .f32⟩
  | 77 => ⟨S8x32x64, .f32⟩
  | 78 => ⟨S8x32x64, .f32⟩
  | 79 => ⟨S8x32x64, .f32⟩
  | 80 => ⟨S8x32x64, .f32⟩
  | 81 => ⟨S4x32x64, .f32⟩
  | 82 => ⟨S4x32x64, .f32⟩
  | 83 => ⟨S4x32x64, .f32⟩
  | 84 => ⟨S4x32x64, .f32⟩
  | 85 => ⟨S4x32x64, .f32⟩
  | 86 => ⟨S4x32x64, .f32⟩
  | 87 => ⟨S4x32x64, .f32⟩
  | 88 => ⟨S4x32x64, .f32⟩
  | 89 => ⟨S4x32x64, .f32⟩
  | 90 => ⟨S4x32x64, .f32⟩
  | 91 => ⟨S4x32x64, .f32⟩
  | 92 => ⟨S4x32x64, .f32⟩
  | 93 => ⟨S4x32x64, .f32⟩
  | 94 => ⟨S4x32x64, .f32⟩
  | 95 => ⟨S4x32x64, .f32⟩
  | 96 => ⟨S4x32x64, .f32⟩
  | 97 => ⟨S4x32x64, .f32⟩
  | 98 => ⟨S4x32x64, .f32⟩
  | 99 => ⟨S4x32x64, .f32⟩
  | 100 => ⟨S4x32x64, .f32⟩
  | 101 => ⟨S4x32x64, .f32⟩
  | 102 => ⟨S4x32x64, .f32⟩
  | 103 => ⟨S2x32x64, .f32⟩
  | 104 => ⟨S2x32x64, .f32⟩
  | 105 => ⟨S2x32x64, .f32⟩
  | 106 => ⟨S2x32x64, .f32⟩
  | 107 => ⟨S2x32x64, .f32⟩
  | 108 => ⟨S2x32x64, .f32⟩
  | 109 => ⟨S2x32x64, .f32⟩
  | 110 => ⟨S2x32x64, .f32⟩
  | 111 => ⟨S2x32x64, .f32⟩
  | 112 => ⟨S2x32x64, .f32⟩
  | 113 => ⟨S2x32x64, .f32⟩
  | 114 => ⟨S2x32x64, .f32⟩
  | 115 => ⟨S2x32x64, .f32⟩
  | 116 => ⟨S2x32x64, .f32⟩
  | 117 => ⟨S2x32x64, .f32⟩
  | 118 => ⟨S2x32x64, .f32⟩
  | 119 => ⟨S2x32x64, .f32⟩
  | 120 => ⟨S2x32x64, .f32⟩
  | 121 => ⟨S2x32x64, .f32⟩
  | 122 => ⟨S2x32x64, .f32⟩
  | 123 => ⟨S2x32x64, .f32⟩
  | 124 => ⟨S2x32x64, .f32⟩
  | 125 => ⟨S1x32x64, .f32⟩
  | 126 => ⟨S1x32x64, .f32⟩
  | 127 => ⟨S1x32x64, .f32⟩
  | _ => ⟨S2048x512, .f32⟩

abbrev hbmTy0_2 (i : Nat) : BufTy := match i % 128 with
  | 0 => ⟨S1x32x64, .f32⟩
  | 1 => ⟨S1x32x64, .f32⟩
  | 2 => ⟨S1x32x64, .f32⟩
  | 3 => ⟨S1x32x64, .f32⟩
  | 4 => ⟨S1x32x64, .f32⟩
  | 5 => ⟨S1x32x64, .f32⟩
  | 6 => ⟨S1x32x64, .f32⟩
  | 7 => ⟨S1x32x64, .f32⟩
  | 8 => ⟨S1x32x64, .f32⟩
  | 9 => ⟨S1x32x64, .f32⟩
  | 10 => ⟨S1x32x64, .f32⟩
  | 11 => ⟨S1x32x64, .f32⟩
  | 12 => ⟨S1x32x64, .f32⟩
  | 13 => ⟨S1x32x64, .f32⟩
  | 14 => ⟨S1x32x64, .f32⟩
  | 15 => ⟨S1x32x64, .f32⟩
  | 16 => ⟨S1x32x64, .f32⟩
  | 17 => ⟨S1x32x64, .f32⟩
  | 18 => ⟨S1x32x64, .f32⟩
  | 19 => ⟨S0x32x64, .f32⟩
  | 20 => ⟨S0x32x64, .f32⟩
  | 21 => ⟨S0x32x64, .f32⟩
  | 22 => ⟨S0x32x64, .f32⟩
  | 23 => ⟨S0x32x64, .f32⟩
  | 24 => ⟨S0x32x64, .f32⟩
  | 25 => ⟨S0x32x64, .f32⟩
  | 26 => ⟨S0x32x64, .f32⟩
  | 27 => ⟨S0x32x64, .f32⟩
  | 28 => ⟨S0x32x64, .f32⟩
  | 29 => ⟨S0x32x64, .f32⟩
  | 30 => ⟨S0x32x64, .f32⟩
  | 31 => ⟨S0x32x64, .f32⟩
  | 32 => ⟨S0x32x64, .f32⟩
  | 33 => ⟨S0x32x64, .f32⟩
  | 34 => ⟨S0x32x64, .f32⟩
  | 35 => ⟨S0x32x64, .f32⟩
  | 36 => ⟨S0x32x64, .f32⟩
  | 37 => ⟨S0x32x64, .f32⟩
  | 38 => ⟨S0x32x64, .f32⟩
  | 39 => ⟨S0x32x64, .f32⟩
  | 40 => ⟨S0x32x64, .f32⟩
  | 41 => ⟨S1x32x64, .f32⟩
  | 42 => ⟨S1x32x64, .f32⟩
  | 43 => ⟨S1x32x64, .f32⟩
  | 44 => ⟨S1x32x64, .f32⟩
  | 45 => ⟨S1x32x64, .f32⟩
  | 46 => ⟨S1x32x64, .f32⟩
  | 47 => ⟨S1x32x64, .f32⟩
  | 48 => ⟨S1x32x64, .f32⟩
  | 49 => ⟨S_, .f32⟩
  | 50 => ⟨S2x32x64, .f32⟩
  | 51 => ⟨S_, .f32⟩
  | 52 => ⟨S2x32x64, .f32⟩
  | 53 => ⟨S2x32x64, .f32⟩
  | 54 => ⟨S_, .f32⟩
  | 55 => ⟨S2x32x64, .f32⟩
  | 56 => ⟨S_, .f32⟩
  | 57 => ⟨S2x32x64, .f32⟩
  | 58 => ⟨S2x32x64, .f32⟩
  | 59 => ⟨S_, .f32⟩
  | 60 => ⟨S2x32x64, .f32⟩
  | 61 => ⟨S_, .f32⟩
  | 62 => ⟨S2x32x64, .f32⟩
  | 63 => ⟨S2x32x64, .f32⟩
  | 64 => ⟨S_, .f32⟩
  | 65 => ⟨S2x32x64, .f32⟩
  | 66 => ⟨S_, .f32⟩
  | 67 => ⟨S2x32x64, .f32⟩
  | 68 => ⟨S2x32x64, .f32⟩
  | 69 => ⟨S1x32x64, .f32⟩
  | 70 => ⟨S1x32x64, .f32⟩
  | 71 => ⟨S1x32x64, .f32⟩
  | 72 => ⟨S1x32x64, .f32⟩
  | 73 => ⟨S1x32x64, .f32⟩
  | 74 => ⟨S1x32x64, .f32⟩
  | 75 => ⟨S1x32x64, .f32⟩
  | 76 => ⟨S1x32x64, .f32⟩
  | 77 => ⟨S1x32x64, .f32⟩
  | 78 => ⟨S1x32x64, .f32⟩
  | 79 => ⟨S1x32x64, .f32⟩
  | 80 => ⟨S1x32x64, .f32⟩
  | 81 => ⟨S1x32x64, .f32⟩
  | 82 => ⟨S1x32x64, .f32⟩
  | 83 => ⟨S1x32x64, .f32⟩
  | 84 => ⟨S1x32x64, .f32⟩
  | 85 => ⟨S1x32x64, .f32⟩
  | 86 => ⟨S1x32x64, .f32⟩
  | 87 => ⟨S1x32x64, .f32⟩
  | 88 => ⟨S1x32x64, .f32⟩
  | 89 => ⟨S1x32x64, .f32⟩
  | 90 => ⟨S1x32x64, .f32⟩
  | 91 => ⟨S1x32x64, .f32⟩
  | 92 => ⟨S2x32x64, .f32⟩
  | 93 => ⟨S1x32x64, .f32⟩
  | 94 => ⟨S2x32x64, .f32⟩
  | 95 => ⟨S1x32x64, .f32⟩
  | 96 => ⟨S2x32x64, .f32⟩
  | 97 => ⟨S1x32x64, .f32⟩
  | 98 => ⟨S2x32x64, .f32⟩
  | 99 => ⟨S_, .f32⟩
  | 100 => ⟨S4x32x64, .f32⟩
  | 101 => ⟨S_, .f32⟩
  | 102 => ⟨S4x32x64, .f32⟩
  | 103 => ⟨S4x32x64, .f32⟩
  | 104 => ⟨S_, .f32⟩
  | 105 => ⟨S4x32x64, .f32⟩
  | 106 => ⟨S_, .f32⟩
  | 107 => ⟨S4x32x64, .f32⟩
  | 108 => ⟨S4x32x64, .f32⟩
  | 109 => ⟨S_, .f32⟩
  | 110 => ⟨S4x32x64, .f32⟩
  | 111 => ⟨S_, .f32⟩
  | 112 => ⟨S4x32x64, .f32⟩
  | 113 => ⟨S4x32x64, .f32⟩
  | 114 => ⟨S_, .f32⟩
  | 115 => ⟨S4x32x64, .f32⟩
  | 116 => ⟨S_, .f32⟩
  | 117 => ⟨S4x32x64, .f32⟩
  | 118 => ⟨S4x32x64, .f32⟩
  | 119 => ⟨S3x32x64, .f32⟩
  | 120 => ⟨S3x32x64, .f32⟩
  | 121 => ⟨S3x32x64, .f32⟩
  | 122 => ⟨S3x32x64, .f32⟩
  | 123 => ⟨S3x32x64, .f32⟩
  | 124 => ⟨S3x32x64, .f32⟩
  | 125 => ⟨S3x32x64, .f32⟩
  | 126 => ⟨S3x32x64, .f32⟩
  | 127 => ⟨S3x32x64, .f32⟩
  | _ => ⟨S2048x512, .f32⟩

abbrev hbmTy0_3 (i : Nat) : BufTy := match i % 128 with
  | 0 => ⟨S3x32x64, .f32⟩
  | 1 => ⟨S3x32x64, .f32⟩
  | 2 => ⟨S3x32x64, .f32⟩
  | 3 => ⟨S3x32x64, .f32⟩
  | 4 => ⟨S3x32x64, .f32⟩
  | 5 => ⟨S3x32x64, .f32⟩
  | 6 => ⟨S3x32x64, .f32⟩
  | 7 => ⟨S3x32x64, .f32⟩
  | 8 => ⟨S3x32x64, .f32⟩
  | 9 => ⟨S3x32x64, .f32⟩
  | 10 => ⟨S3x32x64, .f32⟩
  | 11 => ⟨S3x32x64, .f32⟩
  | 12 => ⟨S3x32x64, .f32⟩
  | 13 => ⟨S1x32x64, .f32⟩
  | 14 => ⟨S4x32x64, .f32⟩
  | 15 => ⟨S1x32x64, .f32⟩
  | 16 => ⟨S4x32x64, .f32⟩
  | 17 => ⟨S1x32x64, .f32⟩
  | 18 => ⟨S4x32x64, .f32⟩
  | 19 => ⟨S1x32x64, .f32⟩
  | 20 => ⟨S4x32x64, .f32⟩
  | 21 => ⟨S_, .f32⟩
  | 22 => ⟨S8x32x64, .f32⟩
  | 23 => ⟨S_, .f32⟩
  | 24 => ⟨S8x32x64, .f32⟩
  | 25 => ⟨S8x32x64, .f32⟩
  | 26 => ⟨S_, .f32⟩
  | 27 => ⟨S8x32x64, .f32⟩
  | 28 => ⟨S_, .f32⟩
  | 29 => ⟨S8x32x64, .f32⟩
  | 30 => ⟨S8x32x64, .f32⟩
  | 31 => ⟨S_, .f32⟩
  | 32 => ⟨S8x32x64, .f32⟩
  | 33 => ⟨S_, .f32⟩
  | 34 => ⟨S8x32x64, .f32⟩
  | 35 => ⟨S8x32x64, .f32⟩
  | 36 => ⟨S_, .f32⟩
  | 37 => ⟨S8x32x64, .f32⟩
  | 38 => ⟨S_, .f32⟩
  | 39 => ⟨S8x32x64, .f32⟩
  | 40 => ⟨S8x32x64, .f32⟩
  | 41 => ⟨S7x32x64, .f32⟩
  | 42 => ⟨S7x32x64, .f32⟩
  | 43 => ⟨S7x32x64, .f32⟩
  | 44 => ⟨S7x32x64, .f32⟩
  | 45 => ⟨S7x32x64, .f32⟩
  | 46 => ⟨S7x32x64, .f32⟩
  | 47 => ⟨S7x32x64, .f32⟩
  | 48 => ⟨S7x32x64, .f32⟩
  | 49 => ⟨S7x32x64, .f32⟩
  | 50 => ⟨S7x32x64, .f32⟩
  | 51 => ⟨S7x32x64, .f32⟩
  | 52 => ⟨S7x32x64, .f32⟩
  | 53 => ⟨S7x32x64, .f32⟩
  | 54 => ⟨S7x32x64, .f32⟩
  | 55 => ⟨S7x32x64, .f32⟩
  | 56 => ⟨S7x32x64, .f32⟩
  | 57 => ⟨S7x32x64, .f32⟩
  | 58 => ⟨S7x32x64, .f32⟩
  | 59 => ⟨S7x32x64, .f32⟩
  | 60 => ⟨S7x32x64, .f32⟩
  | 61 => ⟨S7x32x64, .f32⟩
  | 62 => ⟨S7x32x64, .f32⟩
  | 63 => ⟨S1x32x64, .f32⟩
  | 64 => ⟨S8x32x64, .f32⟩
  | 65 => ⟨S1x32x64, .f32⟩
  | 66 => ⟨S8x32x64, .f32⟩
  | 67 => ⟨S1x32x64, .f32⟩
  | 68 => ⟨S8x32x64, .f32⟩
  | 69 => ⟨S1x32x64, .f32⟩
  | 70 => ⟨S8x32x64, .f32⟩
  | 71 => ⟨S_, .f32⟩
  | 72 => ⟨S16x32x64, .f32⟩
  | 73 => ⟨S_, .f32⟩
  | 74 => ⟨S16x32x64, .f32⟩
  | 75 => ⟨S16x32x64, .f32⟩
  | 76 => ⟨S_, .f32⟩
  | 77 => ⟨S16x32x64, .f32⟩
  | 78 => ⟨S_, .f32⟩
  | 79 => ⟨S16x32x64, .f32⟩
  | 80 => ⟨S16x32x64, .f32⟩
  | 81 => ⟨S_, .f32⟩
  | 82 => ⟨S16x32x64, .f32⟩
  | 83 => ⟨S_, .f32⟩
  | 84 => ⟨S16x32x64, .f32⟩
  | 85 => ⟨S16x32x64, .f32⟩
  | 86 => ⟨S_, .f32⟩
  | 87 => ⟨S16x32x64, .f32⟩
  | 88 => ⟨S_, .f32⟩
  | 89 => ⟨S16x32x64, .f32⟩
  | 90 => ⟨S16x32x64, .f32⟩
  | 91 => ⟨S15x32x64, .f32⟩
  | 92 => ⟨S15x32x64, .f32⟩
  | 93 => ⟨S15x32x64, .f32⟩
  | 94 => ⟨S15x32x64, .f32⟩
  | 95 => ⟨S15x32x64, .f32⟩
  | 96 => ⟨S15x32x64, .f32⟩
  | 97 => ⟨S15x32x64, .f32⟩
  | 98 => ⟨S15x32x64, .f32⟩
  | 99 => ⟨S15x32x64, .f32⟩
  | 100 => ⟨S15x32x64, .f32⟩
  | 101 => ⟨S15x32x64, .f32⟩
  | 102 => ⟨S15x32x64, .f32⟩
  | 103 => ⟨S15x32x64, .f32⟩
  | 104 => ⟨S15x32x64, .f32⟩
  | 105 => ⟨S15x32x64, .f32⟩
  | 106 => ⟨S15x32x64, .f32⟩
  | 107 => ⟨S15x32x64, .f32⟩
  | 108 => ⟨S15x32x64, .f32⟩
  | 109 => ⟨S15x32x64, .f32⟩
  | 110 => ⟨S15x32x64, .f32⟩
  | 111 => ⟨S15x32x64, .f32⟩
  | 112 => ⟨S15x32x64, .f32⟩
  | 113 => ⟨S1x32x64, .f32⟩
  | 114 => ⟨S16x32x64, .f32⟩
  | 115 => ⟨S1x32x64, .f32⟩
  | 116 => ⟨S16x32x64, .f32⟩
  | 117 => ⟨S1x32x64, .f32⟩
  | 118 => ⟨S16x32x64, .f32⟩
  | 119 => ⟨S1x32x64, .f32⟩
  | 120 => ⟨S16x32x64, .f32⟩
  | 121 => ⟨S_, .f32⟩
  | 122 => ⟨S32x32x64, .f32⟩
  | 123 => ⟨S_, .f32⟩
  | 124 => ⟨S32x32x64, .f32⟩
  | 125 => ⟨S32x32x64, .f32⟩
  | 126 => ⟨S_, .f32⟩
  | 127 => ⟨S32x32x64, .f32⟩
  | _ => ⟨S2048x512, .f32⟩

abbrev hbmTy0_4 (i : Nat) : BufTy := match i % 128 with
  | 0 => ⟨S_, .f32⟩
  | 1 => ⟨S32x32x64, .f32⟩
  | 2 => ⟨S32x32x64, .f32⟩
  | 3 => ⟨S_, .f32⟩
  | 4 => ⟨S32x32x64, .f32⟩
  | 5 => ⟨S_, .f32⟩
  | 6 => ⟨S32x32x64, .f32⟩
  | 7 => ⟨S32x32x64, .f32⟩
  | 8 => ⟨S_, .f32⟩
  | 9 => ⟨S32x32x64, .f32⟩
  | 10 => ⟨S_, .f32⟩
  | 11 => ⟨S32x32x64, .f32⟩
  | 12 => ⟨S32x32x64, .f32⟩
  | 13 => ⟨S31x32x64, .f32⟩
  | 14 => ⟨S31x32x64, .f32⟩
  | 15 => ⟨S31x32x64, .f32⟩
  | 16 => ⟨S31x32x64, .f32⟩
  | 17 => ⟨S31x32x64, .f32⟩
  | 18 => ⟨S31x32x64, .f32⟩
  | 19 => ⟨S31x32x64, .f32⟩
  | 20 => ⟨S31x32x64, .f32⟩
  | 21 => ⟨S31x32x64, .f32⟩
  | 22 => ⟨S31x32x64, .f32⟩
  | 23 => ⟨S31x32x64, .f32⟩
  | 24 => ⟨S31x32x64, .f32⟩
  | 25 => ⟨S31x32x64, .f32⟩
  | 26 => ⟨S31x32x64, .f32⟩
  | 27 => ⟨S31x32x64, .f32⟩
  | 28 => ⟨S31x32x64, .f32⟩
  | 29 => ⟨S31x32x64, .f32⟩
  | 30 => ⟨S31x32x64, .f32⟩
  | 31 => ⟨S31x32x64, .f32⟩
  | 32 => ⟨S31x32x64, .f32⟩
  | 33 => ⟨S31x32x64, .f32⟩
  | 34 => ⟨S31x32x64, .f32⟩
  | 35 => ⟨S1x32x64, .f32⟩
  | 36 => ⟨S32x32x64, .f32⟩
  | 37 => ⟨S1x32x64, .f32⟩
  | 38 => ⟨S32x32x64, .f32⟩
  | 39 => ⟨S1x32x64, .f32⟩
  | 40 => ⟨S32x32x64, .f32⟩
  | 41 => ⟨S1x32x64, .f32⟩
  | 42 => ⟨S32x32x64, .f32⟩
  | 43 => ⟨S_, .f32⟩
  | 44 => ⟨S64x32x64, .f32⟩
  | 45 => ⟨S_, .f32⟩
  | 46 => ⟨S64x32x64, .f32⟩
  | 47 => ⟨S64x32x64, .f32⟩
  | 48 => ⟨S_, .f32⟩
  | 49 => ⟨S64x32x64, .f32⟩
  | 50 => ⟨S_, .f32⟩
  | 51 => ⟨S64x32x64, .f32⟩
  | 52 => ⟨S64x32x64, .f32⟩
  | 53 => ⟨S_, .f32⟩
  | 54 => ⟨S64x32x64, .f32⟩
  | 55 => ⟨S_, .f32⟩
  | 56 => ⟨S64x32x64, .f32⟩
  | 57 => ⟨S64x32x64, .f32⟩
  | 58 => ⟨S_, .f32⟩
  | 59 => ⟨S64x32x64, .f32⟩
  | 60 => ⟨S_, .f32⟩
  | 61 => ⟨S64x32x64, .f32⟩
  | 62 => ⟨S64x32x64, .f32⟩
  | 63 => ⟨S63x32x64, .f32⟩
  | 64 => ⟨S63x32x64, .f32⟩
  | 65 => ⟨S63x32x64, .f32⟩
  | 66 => ⟨S63x32x64, .f32⟩
  | 67 => ⟨S63x32x64, .f32⟩
  | 68 => ⟨S63x32x64, .f32⟩
  | 69 => ⟨S63x32x64, .f32⟩
  | 70 => ⟨S63x32x64, .f32⟩
  | 71 => ⟨S63x32x64, .f32⟩
  | 72 => ⟨S63x32x64, .f32⟩
  | 73 => ⟨S63x32x64, .f32⟩
  | 74 => ⟨S63x32x64, .f32⟩
  | 75 => ⟨S63x32x64, .f32⟩
  | 76 => ⟨S63x32x64, .f32⟩
  | 77 => ⟨S63x32x64, .f32⟩
  | 78 => ⟨S63x32x64, .f32⟩
  | 79 => ⟨S63x32x64, .f32⟩
  | 80 => ⟨S63x32x64, .f32⟩
  | 81 => ⟨S63x32x64, .f32⟩
  | 82 => ⟨S63x32x64, .f32⟩
  | 83 => ⟨S63x32x64, .f32⟩
  | 84 => ⟨S63x32x64, .f32⟩
  | 85 => ⟨S1x32x64, .f32⟩
  | 86 => ⟨S64x32x64, .f32⟩
  | 87 => ⟨S1x32x64, .f32⟩
  | 88 => ⟨S64x32x64, .f32⟩
  | 89 => ⟨S1x32x64, .f32⟩
  | 90 => ⟨S64x32x64, .f32⟩
  | 91 => ⟨S1x32x64, .f32⟩
  | 92 => ⟨S64x32x64, .f32⟩
  | 93 => ⟨S_, .f32⟩
  | 94 => ⟨S128x32x64, .f32⟩
  | 95 => ⟨S_, .f32⟩
  | 96 => ⟨S128x32x64, .f32⟩
  | 97 => ⟨S128x32x64, .f32⟩
  | 98 => ⟨S_, .f32⟩
  | 99 => ⟨S128x32x64, .f32⟩
  | 100 => ⟨S_, .f32⟩
  | 101 => ⟨S128x32x64, .f32⟩
  | 102 => ⟨S128x32x64, .f32⟩
  | 103 => ⟨S_, .f32⟩
  | 104 => ⟨S128x32x64, .f32⟩
  | 105 => ⟨S_, .f32⟩
  | 106 => ⟨S128x32x64, .f32⟩
  | 107 => ⟨S128x32x64, .f32⟩
  | 108 => ⟨S_, .f32⟩
  | 109 => ⟨S128x32x64, .f32⟩
  | 110 => ⟨S_, .f32⟩
  | 111 => ⟨S128x32x64, .f32⟩
  | 112 => ⟨S128x32x64, .f32⟩
  | 113 => ⟨S127x32x64, .f32⟩
  | 114 => ⟨S127x32x64, .f32⟩
  | 115 => ⟨S127x32x64, .f32⟩
  | 116 => ⟨S127x32x64, .f32⟩
  | 117 => ⟨S127x32x64, .f32⟩
  | 118 => ⟨S127x32x64, .f32⟩
  | 119 => ⟨S127x32x64, .f32⟩
  | 120 => ⟨S127x32x64, .f32⟩
  | 121 => ⟨S127x32x64, .f32⟩
  | 122 => ⟨S127x32x64, .f32⟩
  | 123 => ⟨S127x32x64, .f32⟩
  | 124 => ⟨S127x32x64, .f32⟩
  | 125 => ⟨S127x32x64, .f32⟩
  | 126 => ⟨S127x32x64, .f32⟩
  | 127 => ⟨S127x32x64, .f32⟩
  | _ => ⟨S2048x512, .f32⟩

abbrev hbmTy0_5 (i : Nat) : BufTy := match i % 128 with
  | 0 => ⟨S127x32x64, .f32⟩
  | 1 => ⟨S127x32x64, .f32⟩
  | 2 => ⟨S127x32x64, .f32⟩
  | 3 => ⟨S127x32x64, .f32⟩
  | 4 => ⟨S127x32x64, .f32⟩
  | 5 => ⟨S127x32x64, .f32⟩
  | 6 => ⟨S127x32x64, .f32⟩
  | 7 => ⟨S1x32x64, .f32⟩
  | 8 => ⟨S128x32x64, .f32⟩
  | 9 => ⟨S1x32x64, .f32⟩
  | 10 => ⟨S128x32x64, .f32⟩
  | 11 => ⟨S1x32x64, .f32⟩
  | 12 => ⟨S128x32x64, .f32⟩
  | 13 => ⟨S1x32x64, .f32⟩
  | 14 => ⟨S128x32x64, .f32⟩
  | 15 => ⟨S_, .f32⟩
  | 16 => ⟨S256x32x64, .f32⟩
  | 17 => ⟨S_, .f32⟩
  | 18 => ⟨S256x32x64, .f32⟩
  | 19 => ⟨S256x32x64, .f32⟩
  | 20 => ⟨S_, .f32⟩
  | 21 => ⟨S256x32x64, .f32⟩
  | 22 => ⟨S_, .f32⟩
  | 23 => ⟨S256x32x64, .f32⟩
  | 24 => ⟨S256x32x64, .f32⟩
  | 25 => ⟨S_, .f32⟩
  | 26 => ⟨S256x32x64, .f32⟩
  | 27 => ⟨S_, .f32⟩
  | 28 => ⟨S256x32x64, .f32⟩
  | 29 => ⟨S256x32x64, .f32⟩
  | 30 => ⟨S_, .f32⟩
  | 31 => ⟨S256x32x64, .f32⟩
  | 32 => ⟨S_, .f32⟩
  | 33 => ⟨S256x32x64, .f32⟩
  | 34 => ⟨S256x32x64, .f32⟩
  | 35 => ⟨S255x32x64, .f32⟩
  | 36 => ⟨S255x32x64, .f32⟩
  | 37 => ⟨S255x32x64, .f32⟩
  | 38 => ⟨S255x32x64, .f32⟩
  | 39 => ⟨S255x32x64, .f32⟩
  | 40 => ⟨S255x32x64, .f32⟩
  | 41 => ⟨S255x32x64, .f32⟩
  | 42 => ⟨S255x32x64, .f32⟩
  | 43 => ⟨S255x32x64, .f32⟩
  | 44 => ⟨S255x32x64, .f32⟩
  | 45 => ⟨S255x32x64, .f32⟩
  | 46 => ⟨S255x32x64, .f32⟩
  | 47 => ⟨S255x32x64, .f32⟩
  | 48 => ⟨S255x32x64, .f32⟩
  | 49 => ⟨S255x32x64, .f32⟩
  | 50 => ⟨S255x32x64, .f32⟩
  | 51 => ⟨S255x32x64, .f32⟩
  | 52 => ⟨S255x32x64, .f32⟩
  | 53 => ⟨S255x32x64, .f32⟩
  | 54 => ⟨S255x32x64, .f32⟩
  | 55 => ⟨S255x32x64, .f32⟩
  | 56 => ⟨S255x32x64, .f32⟩
  | 57 => ⟨S1x32x64, .f32⟩
  | 58 => ⟨S256x32x64, .f32⟩
  | 59 => ⟨S1x32x64, .f32⟩
  | 60 => ⟨S256x32x64, .f32⟩
  | 61 => ⟨S1x32x64, .f32⟩
  | 62 => ⟨S256x32x64, .f32⟩
  | 63 => ⟨S1x32x64, .f32⟩
  | 64 => ⟨S256x32x64, .f32⟩
  | 65 => ⟨S_, .f32⟩
  | 66 => ⟨S512x32x64, .f32⟩
  | 67 => ⟨S_, .f32⟩
  | 68 => ⟨S512x32x64, .f32⟩
  | 69 => ⟨S512x32x64, .f32⟩
  | 70 => ⟨S_, .f32⟩
  | 71 => ⟨S512x32x64, .f32⟩
  | 72 => ⟨S_, .f32⟩
  | 73 => ⟨S512x32x64, .f32⟩
  | 74 => ⟨S512x32x64, .f32⟩
  | 75 => ⟨S_, .f32⟩
  | 76 => ⟨S512x32x64, .f32⟩
  | 77 => ⟨S_, .f32⟩
  | 78 => ⟨S512x32x64, .f32⟩
  | 79 => ⟨S512x32x64, .f32⟩
  | 80 => ⟨S_, .f32⟩
  | 81 => ⟨S512x32x64, .f32⟩
  | 82 => ⟨S_, .f32⟩
  | 83 => ⟨S512x32x64, .f32⟩
  | 84 => ⟨S512x32x64, .f32⟩
  | 85 => ⟨S511x32x64, .f32⟩
  | 86 => ⟨S511x32x64, .f32⟩
  | 87 => ⟨S511x32x64, .f32⟩
  | 88 => ⟨S511x32x64, .f32⟩
  | 89 => ⟨S511x32x64, .f32⟩
  | 90 => ⟨S511x32x64, .f32⟩
  | 91 => ⟨S511x32x64, .f32⟩
  | 92 => ⟨S511x32x64, .f32⟩
  | 93 => ⟨S511x32x64, .f32⟩
  | 94 => ⟨S511x32x64, .f32⟩
  | 95 => ⟨S511x32x64, .f32⟩
  | 96 => ⟨S511x32x64, .f32⟩
  | 97 => ⟨S511x32x64, .f32⟩
  | 98 => ⟨S511x32x64, .f32⟩
  | 99 => ⟨S511x32x64, .f32⟩
  | 100 => ⟨S511x32x64, .f32⟩
  | 101 => ⟨S511x32x64, .f32⟩
  | 102 => ⟨S511x32x64, .f32⟩
  | 103 => ⟨S511x32x64, .f32⟩
  | 104 => ⟨S511x32x64, .f32⟩
  | 105 => ⟨S511x32x64, .f32⟩
  | 106 => ⟨S511x32x64, .f32⟩
  | 107 => ⟨S1x32x64, .f32⟩
  | 108 => ⟨S512x32x64, .f32⟩
  | 109 => ⟨S1x32x64, .f32⟩
  | 110 => ⟨S512x32x64, .f32⟩
  | 111 => ⟨S1x32x64, .f32⟩
  | 112 => ⟨S512x32x64, .f32⟩
  | 113 => ⟨S1x32x64, .f32⟩
  | 114 => ⟨S512x32x64, .f32⟩
  | 115 => ⟨S_, .f32⟩
  | 116 => ⟨S1024x32x64, .f32⟩
  | 117 => ⟨S_, .f32⟩
  | 118 => ⟨S1024x32x64, .f32⟩
  | 119 => ⟨S1024x32x64, .f32⟩
  | 120 => ⟨S_, .f32⟩
  | 121 => ⟨S1024x32x64, .f32⟩
  | 122 => ⟨S_, .f32⟩
  | 123 => ⟨S1024x32x64, .f32⟩
  | 124 => ⟨S1024x32x64, .f32⟩
  | 125 => ⟨S_, .f32⟩
  | 126 => ⟨S1024x32x64, .f32⟩
  | 127 => ⟨S_, .f32⟩
  | _ => ⟨S2048x512, .f32⟩

abbrev hbmTy0_6 (i : Nat) : BufTy := match i % 128 with
  | 0 => ⟨S1024x32x64, .f32⟩
  | 1 => ⟨S1024x32x64, .f32⟩
  | 2 => ⟨S_, .f32⟩
  | 3 => ⟨S1024x32x64, .f32⟩
  | 4 => ⟨S_, .f32⟩
  | 5 => ⟨S1024x32x64, .f32⟩
  | 6 => ⟨S1024x32x64, .f32⟩
  | 7 => ⟨S1023x32x64, .f32⟩
  | 8 => ⟨S1023x32x64, .f32⟩
  | 9 => ⟨S1023x32x64, .f32⟩
  | 10 => ⟨S1023x32x64, .f32⟩
  | 11 => ⟨S1023x32x64, .f32⟩
  | 12 => ⟨S1023x32x64, .f32⟩
  | 13 => ⟨S1023x32x64, .f32⟩
  | 14 => ⟨S1023x32x64, .f32⟩
  | 15 => ⟨S1023x32x64, .f32⟩
  | 16 => ⟨S1023x32x64, .f32⟩
  | 17 => ⟨S1023x32x64, .f32⟩
  | 18 => ⟨S1023x32x64, .f32⟩
  | 19 => ⟨S1023x32x64, .f32⟩
  | 20 => ⟨S1023x32x64, .f32⟩
  | 21 => ⟨S1023x32x64, .f32⟩
  | 22 => ⟨S1023x32x64, .f32⟩
  | 23 => ⟨S1023x32x64, .f32⟩
  | 24 => ⟨S1023x32x64, .f32⟩
  | 25 => ⟨S1023x32x64, .f32⟩
  | 26 => ⟨S1023x32x64, .f32⟩
  | 27 => ⟨S1023x32x64, .f32⟩
  | 28 => ⟨S1023x32x64, .f32⟩
  | 29 => ⟨S1x32x64, .f32⟩
  | 30 => ⟨S1024x32x64, .f32⟩
  | 31 => ⟨S1x32x64, .f32⟩
  | 32 => ⟨S1024x32x64, .f32⟩
  | 33 => ⟨S1x32x64, .f32⟩
  | 34 => ⟨S1024x32x64, .f32⟩
  | 35 => ⟨S1x32x64, .f32⟩
  | 36 => ⟨S1024x32x64, .f32⟩
  | 37 => ⟨S_, .f32⟩
  | 38 => ⟨S2048x32x64, .f32⟩
  | 39 => ⟨S_, .f32⟩
  | 40 => ⟨S2048x32x64, .f32⟩
  | 41 => ⟨S2048x32x64, .f32⟩
  | 42 => ⟨S_, .f32⟩
  | 43 => ⟨S2048x32x64, .f32⟩
  | 44 => ⟨S_, .f32⟩
  | 45 => ⟨S2048x32x64, .f32⟩
  | 46 => ⟨S2048x32x64, .f32⟩
  | 47 => ⟨S_, .f32⟩
  | 48 => ⟨S2048x32x64, .f32⟩
  | 49 => ⟨S_, .f32⟩
  | 50 => ⟨S2048x32x64, .f32⟩
  | 51 => ⟨S2048x32x64, .f32⟩
  | 52 => ⟨S_, .f32⟩
  | 53 => ⟨S2048x32x64, .f32⟩
  | 54 => ⟨S_, .f32⟩
  | 55 => ⟨S2048x32x64, .f32⟩
  | 56 => ⟨S2048x32x64, .f32⟩
  | 57 => ⟨S2048x2048, .bf16⟩
  | 58 => ⟨S2048x2048, .bf16⟩
  | 59 => ⟨S2048x2048, .f32⟩
  | 60 => ⟨S2048x2048, .bf16⟩
  | 61 => ⟨S2048x2048, .f32⟩
  | 62 => ⟨S2048x2048, .bf16⟩
  | 63 => ⟨S2048x512, .bf16⟩
  | 64 => ⟨S2048x512, .bf16⟩
  | 65 => ⟨S1x2048, .f32⟩
  | 66 => ⟨S1x2048, .f32⟩
  | 67 => ⟨S2048x512, .f32⟩
  | 68 => ⟨S16x128x128, .f32⟩
  | 69 => ⟨S16x128x128, .f32⟩
  | 70 => ⟨S16x128x128, .f32⟩
  | 71 => ⟨S16x128x128, .f32⟩
  | 72 => ⟨S1x2048, .f32⟩
  | 73 => ⟨S1x2048, .f32⟩
  | _ => ⟨S2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x512, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2048x128, .f32⟩
  | .local _ .vmem, ⟨21, _⟩ => ⟨S2048x128, .f32⟩
  | .local _ .vmem, ⟨22, _⟩ => ⟨S1x128x128, .f32⟩
  | .local _ .vmem, ⟨23, _⟩ => ⟨S1x128x128, .f32⟩
  | .local _ .vmem, ⟨24, _⟩ => ⟨S1x128x128, .f32⟩
  | .local _ .vmem, ⟨25, _⟩ => ⟨S1x128x128, .f32⟩
  | .local _ .vmem, ⟨26, _⟩ => ⟨S1x128x128, .f32⟩
  | .local _ .vmem, ⟨27, _⟩ => ⟨S1x128x128, .f32⟩
  | .local _ .vmem, ⟨28, _⟩ => ⟨S1x128x128, .f32⟩
  | .local _ .vmem, ⟨29, _⟩ => ⟨S1x128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S2064x128, .f32⟩
  | .local _ .vmem, ⟨35, _⟩ => ⟨S2064x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_v279 : Ref sig .tc := ⟨.hbm, 289, rfl⟩
abbrev main_v280 : Ref sig .tc := ⟨.hbm, 290, rfl⟩
abbrev main_v281 : Ref sig .tc := ⟨.hbm, 291, rfl⟩
abbrev main_v282 : Ref sig .tc := ⟨.hbm, 292, rfl⟩
abbrev main_v283 : Ref sig .tc := ⟨.hbm, 293, rfl⟩
abbrev main_v284 : Ref sig .tc := ⟨.hbm, 294, rfl⟩
abbrev main_v285 : Ref sig .tc := ⟨.hbm, 295, rfl⟩
abbrev main_v286 : Ref sig .tc := ⟨.hbm, 296, rfl⟩
abbrev main_v287 : Ref sig .tc := ⟨.hbm, 297, rfl⟩
abbrev main_v288 : Ref sig .tc := ⟨.hbm, 298, rfl⟩
abbrev main_v289 : Ref sig .tc := ⟨.hbm, 299, rfl⟩
abbrev main_v290 : Ref sig .tc := ⟨.hbm, 300, rfl⟩
abbrev main_v291 : Ref sig .tc := ⟨.hbm, 301, rfl⟩
abbrev main_v292 : Ref sig .tc := ⟨.hbm, 302, rfl⟩
abbrev main_v293 : Ref sig .tc := ⟨.hbm, 303, rfl⟩
abbrev main_v294 : Ref sig .tc := ⟨.hbm, 304, rfl⟩
abbrev main_cst_1 : Ref sig .tc := ⟨.hbm, 305, rfl⟩
abbrev main_v295 : Ref sig .tc := ⟨.hbm, 306, rfl⟩
abbrev main_cst_2 : Ref sig .tc := ⟨.hbm, 307, rfl⟩
abbrev main_v296 : Ref sig .tc := ⟨.hbm, 308, rfl⟩
abbrev main_v297 : Ref sig .tc := ⟨.hbm, 309, rfl⟩
abbrev main_cst_3 : Ref sig .tc := ⟨.hbm, 310, rfl⟩
abbrev main_v298 : Ref sig .tc := ⟨.hbm, 311, rfl⟩
abbrev main_cst_4 : Ref sig .tc := ⟨.hbm, 312, rfl⟩
abbrev main_v299 : Ref sig .tc := ⟨.hbm, 313, rfl⟩
abbrev main_v300 : Ref sig .tc := ⟨.hbm, 314, rfl⟩
abbrev main_cst_5 : Ref sig .tc := ⟨.hbm, 315, rfl⟩
abbrev main_v301 : Ref sig .tc := ⟨.hbm, 316, rfl⟩
abbrev main_cst_6 : Ref sig .tc := ⟨.hbm, 317, rfl⟩
abbrev main_v302 : Ref sig .tc := ⟨.hbm, 318, rfl⟩
abbrev main_v303 : Ref sig .tc := ⟨.hbm, 319, rfl⟩
abbrev main_cst_7 : Ref sig .tc := ⟨.hbm, 320, rfl⟩
abbrev main_v304 : Ref sig .tc := ⟨.hbm, 321, rfl⟩
abbrev main_cst_8 : Ref sig .tc := ⟨.hbm, 322, rfl⟩
abbrev main_v305 : Ref sig .tc := ⟨.hbm, 323, rfl⟩
abbrev main_v306 : Ref sig .tc := ⟨.hbm, 324, rfl⟩
abbrev main_v307 : Ref sig .tc := ⟨.hbm, 325, rfl⟩
abbrev main_v308 : Ref sig .tc := ⟨.hbm, 326, rfl⟩
abbrev main_v309 : Ref sig .tc := ⟨.hbm, 327, rfl⟩
abbrev main_v310 : Ref sig .tc := ⟨.hbm, 328, rfl⟩
abbrev main_v311 : Ref sig .tc := ⟨.hbm, 329, rfl⟩
abbrev main_v312 : Ref sig .tc := ⟨.hbm, 330, rfl⟩
abbrev main_v313 : Ref sig .tc := ⟨.hbm, 331, rfl⟩
abbrev main_v314 : Ref sig .tc := ⟨.hbm, 332, rfl⟩
abbrev main_v315 : Ref sig .tc := ⟨.hbm, 333, rfl⟩
abbrev main_v316 : Ref sig .tc := ⟨.hbm, 334, rfl⟩
abbrev main_v317 : Ref sig .tc := ⟨.hbm, 335, rfl⟩
abbrev main_v318 : Ref sig .tc := ⟨.hbm, 336, rfl⟩
abbrev main_v319 : Ref sig .tc := ⟨.hbm, 337, rfl⟩
abbrev main_v320 : Ref sig .tc := ⟨.hbm, 338, rfl⟩
abbrev main_v321 : Ref sig .tc := ⟨.hbm, 339, rfl⟩
abbrev main_v322 : Ref sig .tc := ⟨.hbm, 340, rfl⟩
abbrev main_v323 : Ref sig .tc := ⟨.hbm, 341, rfl⟩
abbrev main_v324 : Ref sig .tc := ⟨.hbm, 342, rfl⟩
abbrev main_v325 : Ref sig .tc := ⟨.hbm, 343, rfl⟩
abbrev main_v326 : Ref sig .tc := ⟨.hbm, 344, rfl⟩
abbrev main_v327 : Ref sig .tc := ⟨.hbm, 345, rfl⟩
abbrev main_v328 : Ref sig .tc := ⟨.hbm, 346, rfl⟩
abbrev main_v329 : Ref sig .tc := ⟨.hbm, 347, rfl⟩
abbrev main_v330 : Ref sig .tc := ⟨.hbm, 348, rfl⟩
abbrev main_v331 : Ref sig .tc := ⟨.hbm, 349, rfl⟩
abbrev main_v332 : Ref sig .tc := ⟨.hbm, 350, rfl⟩
abbrev main_v333 : Ref sig .tc := ⟨.hbm, 351, rfl⟩
abbrev main_v334 : Ref sig .tc := ⟨.hbm, 352, rfl⟩
abbrev main_v335 : Ref sig .tc := ⟨.hbm, 353, rfl⟩
abbrev main_v336 : Ref sig .tc := ⟨.hbm, 354, rfl⟩
abbrev main_cst_9 : Ref sig .tc := ⟨.hbm, 355, rfl⟩
abbrev main_v337 : Ref sig .tc := ⟨.hbm, 356, rfl⟩
abbrev main_cst_10 : Ref sig .tc := ⟨.hbm, 357, rfl⟩
abbrev main_v338 : Ref sig .tc := ⟨.hbm, 358, rfl⟩
abbrev main_v339 : Ref sig .tc := ⟨.hbm, 359, rfl⟩
abbrev main_cst_11 : Ref sig .tc := ⟨.hbm, 360, rfl⟩
abbrev main_v340 : Ref sig .tc := ⟨.hbm, 361, rfl⟩
abbrev main_cst_12 : Ref sig .tc := ⟨.hbm, 362, rfl⟩
abbrev main_v341 : Ref sig .tc := ⟨.hbm, 363, rfl⟩
abbrev main_v342 : Ref sig .tc := ⟨.hbm, 364, rfl⟩
abbrev main_cst_13 : Ref sig .tc := ⟨.hbm, 365, rfl⟩
abbrev main_v343 : Ref sig .tc := ⟨.hbm, 366, rfl⟩
abbrev main_cst_14 : Ref sig .tc := ⟨.hbm, 367, rfl⟩
abbrev main_v344 : Ref sig .tc := ⟨.hbm, 368, rfl⟩
abbrev main_v345 : Ref sig .tc := ⟨.hbm, 369, rfl⟩
abbrev main_cst_15 : Ref sig .tc := ⟨.hbm, 370, rfl⟩
abbrev main_v346 : Ref sig .tc := ⟨.hbm, 371, rfl⟩
abbrev main_cst_16 : Ref sig .tc := ⟨.hbm, 372, rfl⟩
abbrev main_v347 : Ref sig .tc := ⟨.hbm, 373, rfl⟩
abbrev main_v348 : Ref sig .tc := ⟨.hbm, 374, rfl⟩
abbrev main_v349 : Ref sig .tc := ⟨.hbm, 375, rfl⟩
abbrev main_v350 : Ref sig .tc := ⟨.hbm, 376, rfl⟩
abbrev main_v351 : Ref sig .tc := ⟨.hbm, 377, rfl⟩
abbrev main_v352 : Ref sig .tc := ⟨.hbm, 378, rfl⟩
abbrev main_v353 : Ref sig .tc := ⟨.hbm, 379, rfl⟩
abbrev main_v354 : Ref sig .tc := ⟨.hbm, 380, rfl⟩
abbrev main_v355 : Ref sig .tc := ⟨.hbm, 381, rfl⟩
abbrev main_v356 : Ref sig .tc := ⟨.hbm, 382, rfl⟩
abbrev main_v357 : Ref sig .tc := ⟨.hbm, 383, rfl⟩
abbrev main_v358 : Ref sig .tc := ⟨.hbm, 384, rfl⟩
abbrev main_v359 : Ref sig .tc := ⟨.hbm, 385, rfl⟩
abbrev main_v360 : Ref sig .tc := ⟨.hbm, 386, rfl⟩
abbrev main_v361 : Ref sig .tc := ⟨.hbm, 387, rfl⟩
abbrev main_v362 : Ref sig .tc := ⟨.hbm, 388, rfl⟩
abbrev main_v363 : Ref sig .tc := ⟨.hbm, 389, rfl⟩
abbrev main_v364 : Ref sig .tc := ⟨.hbm, 390, rfl⟩
abbrev main_v365 : Ref sig .tc := ⟨.hbm, 391, rfl⟩
abbrev main_v366 : Ref sig .tc := ⟨.hbm, 392, rfl⟩
abbrev main_v367 : Ref sig .tc := ⟨.hbm, 393, rfl⟩
abbrev main_v368 : Ref sig .tc := ⟨.hbm, 394, rfl⟩
abbrev main_v369 : Ref sig .tc := ⟨.hbm, 395, rfl⟩
abbrev main_v370 : Ref sig .tc := ⟨.hbm, 396, rfl⟩
abbrev main_v371 : Ref sig .tc := ⟨.hbm, 397, rfl⟩
abbrev main_v372 : Ref sig .tc := ⟨.hbm, 398, rfl⟩
abbrev main_v373 : Ref sig .tc := ⟨.hbm, 399, rfl⟩
abbrev main_v374 : Ref sig .tc := ⟨.hbm, 400, rfl⟩
abbrev main_v375 : Ref sig .tc := ⟨.hbm, 401, rfl⟩
abbrev main_v376 : Ref sig .tc := ⟨.hbm, 402, rfl⟩
abbrev main_v377 : Ref sig .tc := ⟨.hbm, 403, rfl⟩
abbrev main_v378 : Ref sig .tc := ⟨.hbm, 404, rfl⟩
abbrev main_cst_17 : Ref sig .tc := ⟨.hbm, 405, rfl⟩
abbrev main_v379 : Ref sig .tc := ⟨.hbm, 406, rfl⟩
abbrev main_cst_18 : Ref sig .tc := ⟨.hbm, 407, rfl⟩
abbrev main_v380 : Ref sig .tc := ⟨.hbm, 408, rfl⟩
abbrev main_v381 : Ref sig .tc := ⟨.hbm, 409, rfl⟩
abbrev main_cst_19 : Ref sig .tc := ⟨.hbm, 410, rfl⟩
abbrev main_v382 : Ref sig .tc := ⟨.hbm, 411, rfl⟩
abbrev main_cst_20 : Ref sig .tc := ⟨.hbm, 412, rfl⟩
abbrev main_v383 : Ref sig .tc := ⟨.hbm, 413, rfl⟩
abbrev main_v384 : Ref sig .tc := ⟨.hbm, 414, rfl⟩
abbrev main_cst_21 : Ref sig .tc := ⟨.hbm, 415, rfl⟩
abbrev main_v385 : Ref sig .tc := ⟨.hbm, 416, rfl⟩
abbrev main_cst_22 : Ref sig .tc := ⟨.hbm, 417, rfl⟩
abbrev main_v386 : Ref sig .tc := ⟨.hbm, 418, rfl⟩
abbrev main_v387 : Ref sig .tc := ⟨.hbm, 419, rfl⟩
abbrev main_cst_23 : Ref sig .tc := ⟨.hbm, 420, rfl⟩
abbrev main_v388 : Ref sig .tc := ⟨.hbm, 421, rfl⟩
abbrev main_cst_24 : Ref sig .tc := ⟨.hbm, 422, rfl⟩
abbrev main_v389 : Ref sig .tc := ⟨.hbm, 423, rfl⟩
abbrev main_v390 : Ref sig .tc := ⟨.hbm, 424, rfl⟩
abbrev main_v391 : Ref sig .tc := ⟨.hbm, 425, rfl⟩
abbrev main_v392 : Ref sig .tc := ⟨.hbm, 426, rfl⟩
abbrev main_v393 : Ref sig .tc := ⟨.hbm, 427, rfl⟩
abbrev main_v394 : Ref sig .tc := ⟨.hbm, 428, rfl⟩
abbrev main_v395 : Ref sig .tc := ⟨.hbm, 429, rfl⟩
abbrev main_v396 : Ref sig .tc := ⟨.hbm, 430, rfl⟩
abbrev main_v397 : Ref sig .tc := ⟨.hbm, 431, rfl⟩
abbrev main_v398 : Ref sig .tc := ⟨.hbm, 432, rfl⟩
abbrev main_v399 : Ref sig .tc := ⟨.hbm, 433, rfl⟩
abbrev main_v400 : Ref sig .tc := ⟨.hbm, 434, rfl⟩
abbrev main_v401 : Ref sig .tc := ⟨.hbm, 435, rfl⟩
abbrev main_v402 : Ref sig .tc := ⟨.hbm, 436, rfl⟩
abbrev main_v403 : Ref sig .tc := ⟨.hbm, 437, rfl⟩
abbrev main_v404 : Ref sig .tc := ⟨.hbm, 438, rfl⟩
abbrev main_v405 : Ref sig .tc := ⟨.hbm, 439, rfl⟩
abbrev main_v406 : Ref sig .tc := ⟨.hbm, 440, rfl⟩
abbrev main_v407 : Ref sig .tc := ⟨.hbm, 441, rfl⟩
abbrev main_v408 : Ref sig .tc := ⟨.hbm, 442, rfl⟩
abbrev main_v409 : Ref sig .tc := ⟨.hbm, 443, rfl⟩
abbrev main_v410 : Ref sig .tc := ⟨.hbm, 444, rfl⟩
abbrev main_v411 : Ref sig .tc := ⟨.hbm, 445, rfl⟩
abbrev main_v412 : Ref sig .tc := ⟨.hbm, 446, rfl⟩
abbrev main_v413 : Ref sig .tc := ⟨.hbm, 447, rfl⟩
abbrev main_v414 : Ref sig .tc := ⟨.hbm, 448, rfl⟩
abbrev main_v415 : Ref sig .tc := ⟨.hbm, 449, rfl⟩
abbrev main_v416 : Ref sig .tc := ⟨.hbm, 450, rfl⟩
abbrev main_v417 : Ref sig .tc := ⟨.hbm, 451, rfl⟩
abbrev main_v418 : Ref sig .tc := ⟨.hbm, 452, rfl⟩
abbrev main_v419 : Ref sig .tc := ⟨.hbm, 453, rfl⟩
abbrev main_v420 : Ref sig .tc := ⟨.hbm, 454, rfl⟩
abbrev main_cst_25 : Ref sig .tc := ⟨.hbm, 455, rfl⟩
abbrev main_v421 : Ref sig .tc := ⟨.hbm, 456, rfl⟩
abbrev main_cst_26 : Ref sig .tc := ⟨.hbm, 457, rfl⟩
abbrev main_v422 : Ref sig .tc := ⟨.hbm, 458, rfl⟩
abbrev main_v423 : Ref sig .tc := ⟨.hbm, 459, rfl⟩
abbrev main_cst_27 : Ref sig .tc := ⟨.hbm, 460, rfl⟩
abbrev main_v424 : Ref sig .tc := ⟨.hbm, 461, rfl⟩
abbrev main_cst_28 : Ref sig .tc := ⟨.hbm, 462, rfl⟩
abbrev main_v425 : Ref sig .tc := ⟨.hbm, 463, rfl⟩
abbrev main_v426 : Ref sig .tc := ⟨.hbm, 464, rfl⟩
abbrev main_cst_29 : Ref sig .tc := ⟨.hbm, 465, rfl⟩
abbrev main_v427 : Ref sig .tc := ⟨.hbm, 466, rfl⟩
abbrev main_cst_30 : Ref sig .tc := ⟨.hbm, 467, rfl⟩
abbrev main_v428 : Ref sig .tc := ⟨.hbm, 468, rfl⟩
abbrev main_v429 : Ref sig .tc := ⟨.hbm, 469, rfl⟩
abbrev main_cst_31 : Ref sig .tc := ⟨.hbm, 470, rfl⟩
abbrev main_v430 : Ref sig .tc := ⟨.hbm, 471, rfl⟩
abbrev main_cst_32 : Ref sig .tc := ⟨.hbm, 472, rfl⟩
abbrev main_v431 : Ref sig .tc := ⟨.hbm, 473, rfl⟩
abbrev main_v432 : Ref sig .tc := ⟨.hbm, 474, rfl⟩
abbrev main_v433 : Ref sig .tc := ⟨.hbm, 475, rfl⟩
abbrev main_v434 : Ref sig .tc := ⟨.hbm, 476, rfl⟩
abbrev main_v435 : Ref sig .tc := ⟨.hbm, 477, rfl⟩
abbrev main_v436 : Ref sig .tc := ⟨.hbm, 478, rfl⟩
abbrev main_v437 : Ref sig .tc := ⟨.hbm, 479, rfl⟩
abbrev main_v438 : Ref sig .tc := ⟨.hbm, 480, rfl⟩
abbrev main_v439 : Ref sig .tc := ⟨.hbm, 481, rfl⟩
abbrev main_v440 : Ref sig .tc := ⟨.hbm, 482, rfl⟩
abbrev main_v441 : Ref sig .tc := ⟨.hbm, 483, rfl⟩
abbrev main_v442 : Ref sig .tc := ⟨.hbm, 484, rfl⟩
abbrev main_v443 : Ref sig .tc := ⟨.hbm, 485, rfl⟩
abbrev main_v444 : Ref sig .tc := ⟨.hbm, 486, rfl⟩
abbrev main_v445 : Ref sig .tc := ⟨.hbm, 487, rfl⟩
abbrev main_v446 : Ref sig .tc := ⟨.hbm, 488, rfl⟩
abbrev main_v447 : Ref sig .tc := ⟨.hbm, 489, rfl⟩
abbrev main_v448 : Ref sig .tc := ⟨.hbm, 490, rfl⟩
abbrev main_v449 : Ref sig .tc := ⟨.hbm, 491, rfl⟩
abbrev main_v450 : Ref sig .tc := ⟨.hbm, 492, rfl⟩
abbrev main_v451 : Ref sig .tc := ⟨.hbm, 493, rfl⟩
abbrev main_v452 : Ref sig .tc := ⟨.hbm, 494, rfl⟩
abbrev main_v453 : Ref sig .tc := ⟨.hbm, 495, rfl⟩
abbrev main_v454 : Ref sig .tc := ⟨.hbm, 496, rfl⟩
abbrev main_v455 : Ref sig .tc := ⟨.hbm, 497, rfl⟩
abbrev main_v456 : Ref sig .tc := ⟨.hbm, 498, rfl⟩
abbrev main_v457 : Ref sig .tc := ⟨.hbm, 499, rfl⟩
abbrev main_v458 : Ref sig .tc := ⟨.hbm, 500, rfl⟩
abbrev main_v459 : Ref sig .tc := ⟨.hbm, 501, rfl⟩
abbrev main_v460 : Ref sig .tc := ⟨.hbm, 502, rfl⟩
abbrev main_v461 : Ref sig .tc := ⟨.hbm, 503, rfl⟩
abbrev main_v462 : Ref sig .tc := ⟨.hbm, 504, rfl⟩
abbrev main_cst_33 : Ref sig .tc := ⟨.hbm, 505, rfl⟩
abbrev main_v463 : Ref sig .tc := ⟨.hbm, 506, rfl⟩
abbrev main_cst_34 : Ref sig .tc := ⟨.hbm, 507, rfl⟩
abbrev main_v464 : Ref sig .tc := ⟨.hbm, 508, rfl⟩
abbrev main_v465 : Ref sig .tc := ⟨.hbm, 509, rfl⟩
abbrev main_cst_35 : Ref sig .tc := ⟨.hbm, 510, rfl⟩
abbrev main_v466 : Ref sig .tc := ⟨.hbm, 511, rfl⟩
abbrev main_cst_36 : Ref sig .tc := ⟨.hbm, 512, rfl⟩
abbrev main_v467 : Ref sig .tc := ⟨.hbm, 513, rfl⟩
abbrev main_v468 : Ref sig .tc := ⟨.hbm, 514, rfl⟩
abbrev main_cst_37 : Ref sig .tc := ⟨.hbm, 515, rfl⟩
abbrev main_v469 : Ref sig .tc := ⟨.hbm, 516, rfl⟩
abbrev main_cst_38 : Ref sig .tc := ⟨.hbm, 517, rfl⟩
abbrev main_v470 : Ref sig .tc := ⟨.hbm, 518, rfl⟩
abbrev main_v471 : Ref sig .tc := ⟨.hbm, 519, rfl⟩
abbrev main_cst_39 : Ref sig .tc := ⟨.hbm, 520, rfl⟩
abbrev main_v472 : Ref sig .tc := ⟨.hbm, 521, rfl⟩
abbrev main_cst_40 : Ref sig .tc := ⟨.hbm, 522, rfl⟩
abbrev main_v473 : Ref sig .tc := ⟨.hbm, 523, rfl⟩
abbrev main_v474 : Ref sig .tc := ⟨.hbm, 524, rfl⟩
abbrev main_v475 : Ref sig .tc := ⟨.hbm, 525, rfl⟩
abbrev main_v476 : Ref sig .tc := ⟨.hbm, 526, rfl⟩
abbrev main_v477 : Ref sig .tc := ⟨.hbm, 527, rfl⟩
abbrev main_v478 : Ref sig .tc := ⟨.hbm, 528, rfl⟩
abbrev main_v479 : Ref sig .tc := ⟨.hbm, 529, rfl⟩
abbrev main_v480 : Ref sig .tc := ⟨.hbm, 530, rfl⟩
abbrev main_v481 : Ref sig .tc := ⟨.hbm, 531, rfl⟩
abbrev main_v482 : Ref sig .tc := ⟨.hbm, 532, rfl⟩
abbrev main_v483 : Ref sig .tc := ⟨.hbm, 533, rfl⟩
abbrev main_v484 : Ref sig .tc := ⟨.hbm, 534, rfl⟩
abbrev main_v485 : Ref sig .tc := ⟨.hbm, 535, rfl⟩
abbrev main_v486 : Ref sig .tc := ⟨.hbm, 536, rfl⟩
abbrev main_v487 : Ref sig .tc := ⟨.hbm, 537, rfl⟩
abbrev main_v488 : Ref sig .tc := ⟨.hbm, 538, rfl⟩
abbrev main_v489 : Ref sig .tc := ⟨.hbm, 539, rfl⟩
abbrev main_v490 : Ref sig .tc := ⟨.hbm, 540, rfl⟩
abbrev main_v491 : Ref sig .tc := ⟨.hbm, 541, rfl⟩
abbrev main_v492 : Ref sig .tc := ⟨.hbm, 542, rfl⟩
abbrev main_v493 : Ref sig .tc := ⟨.hbm, 543, rfl⟩
abbrev main_v494 : Ref sig .tc := ⟨.hbm, 544, rfl⟩
abbrev main_v495 : Ref sig .tc := ⟨.hbm, 545, rfl⟩
abbrev main_v496 : Ref sig .tc := ⟨.hbm, 546, rfl⟩
abbrev main_v497 : Ref sig .tc := ⟨.hbm, 547, rfl⟩
abbrev main_v498 : Ref sig .tc := ⟨.hbm, 548, rfl⟩
abbrev main_v499 : Ref sig .tc := ⟨.hbm, 549, rfl⟩
abbrev main_v500 : Ref sig .tc := ⟨.hbm, 550, rfl⟩
abbrev main_v501 : Ref sig .tc := ⟨.hbm, 551, rfl⟩
abbrev main_v502 : Ref sig .tc := ⟨.hbm, 552, rfl⟩
abbrev main_v503 : Ref sig .tc := ⟨.hbm, 553, rfl⟩
abbrev main_v504 : Ref sig .tc := ⟨.hbm, 554, rfl⟩
abbrev main_cst_41 : Ref sig .tc := ⟨.hbm, 555, rfl⟩
abbrev main_v505 : Ref sig .tc := ⟨.hbm, 556, rfl⟩
abbrev main_cst_42 : Ref sig .tc := ⟨.hbm, 557, rfl⟩
abbrev main_v506 : Ref sig .tc := ⟨.hbm, 558, rfl⟩
abbrev main_v507 : Ref sig .tc := ⟨.hbm, 559, rfl⟩
abbrev main_cst_43 : Ref sig .tc := ⟨.hbm, 560, rfl⟩
abbrev main_v508 : Ref sig .tc := ⟨.hbm, 561, rfl⟩
abbrev main_cst_44 : Ref sig .tc := ⟨.hbm, 562, rfl⟩
abbrev main_v509 : Ref sig .tc := ⟨.hbm, 563, rfl⟩
abbrev main_v510 : Ref sig .tc := ⟨.hbm, 564, rfl⟩
abbrev main_cst_45 : Ref sig .tc := ⟨.hbm, 565, rfl⟩
abbrev main_v511 : Ref sig .tc := ⟨.hbm, 566, rfl⟩
abbrev main_cst_46 : Ref sig .tc := ⟨.hbm, 567, rfl⟩
abbrev main_v512 : Ref sig .tc := ⟨.hbm, 568, rfl⟩
abbrev main_v513 : Ref sig .tc := ⟨.hbm, 569, rfl⟩
abbrev main_cst_47 : Ref sig .tc := ⟨.hbm, 570, rfl⟩
abbrev main_v514 : Ref sig .tc := ⟨.hbm, 571, rfl⟩
abbrev main_cst_48 : Ref sig .tc := ⟨.hbm, 572, rfl⟩
abbrev main_v515 : Ref sig .tc := ⟨.hbm, 573, rfl⟩
abbrev main_v516 : Ref sig .tc := ⟨.hbm, 574, rfl⟩
abbrev main_v517 : Ref sig .tc := ⟨.hbm, 575, rfl⟩
abbrev main_v518 : Ref sig .tc := ⟨.hbm, 576, rfl⟩
abbrev main_v519 : Ref sig .tc := ⟨.hbm, 577, rfl⟩
abbrev main_v520 : Ref sig .tc := ⟨.hbm, 578, rfl⟩
abbrev main_v521 : Ref sig .tc := ⟨.hbm, 579, rfl⟩
abbrev main_v522 : Ref sig .tc := ⟨.hbm, 580, rfl⟩
abbrev main_v523 : Ref sig .tc := ⟨.hbm, 581, rfl⟩
abbrev main_v524 : Ref sig .tc := ⟨.hbm, 582, rfl⟩
abbrev main_v525 : Ref sig .tc := ⟨.hbm, 583, rfl⟩
abbrev main_v526 : Ref sig .tc := ⟨.hbm, 584, rfl⟩
abbrev main_v527 : Ref sig .tc := ⟨.hbm, 585, rfl⟩
abbrev main_v528 : Ref sig .tc := ⟨.hbm, 586, rfl⟩
abbrev main_v529 : Ref sig .tc := ⟨.hbm, 587, rfl⟩
abbrev main_v530 : Ref sig .tc := ⟨.hbm, 588, rfl⟩
abbrev main_v531 : Ref sig .tc := ⟨.hbm, 589, rfl⟩
abbrev main_v532 : Ref sig .tc := ⟨.hbm, 590, rfl⟩
abbrev main_v533 : Ref sig .tc := ⟨.hbm, 591, rfl⟩
abbrev main_v534 : Ref sig .tc := ⟨.hbm, 592, rfl⟩
abbrev main_v535 : Ref sig .tc := ⟨.hbm, 593, rfl⟩
abbrev main_v536 : Ref sig .tc := ⟨.hbm, 594, rfl⟩
abbrev main_v537 : Ref sig .tc := ⟨.hbm, 595, rfl⟩
abbrev main_v538 : Ref sig .tc := ⟨.hbm, 596, rfl⟩
abbrev main_v539 : Ref sig .tc := ⟨.hbm, 597, rfl⟩
abbrev main_v540 : Ref sig .tc := ⟨.hbm, 598, rfl⟩
abbrev main_v541 : Ref sig .tc := ⟨.hbm, 599, rfl⟩
abbrev main_v542 : Ref sig .tc := ⟨.hbm, 600, rfl⟩
abbrev main_v543 : Ref sig .tc := ⟨.hbm, 601, rfl⟩
abbrev main_v544 : Ref sig .tc := ⟨.hbm, 602, rfl⟩
abbrev main_v545 : Ref sig .tc := ⟨.hbm, 603, rfl⟩
abbrev main_v546 : Ref sig .tc := ⟨.hbm, 604, rfl⟩
abbrev main_cst_49 : Ref sig .tc := ⟨.hbm, 605, rfl⟩
abbrev main_v547 : Ref sig .tc := ⟨.hbm, 606, rfl⟩
abbrev main_cst_50 : Ref sig .tc := ⟨.hbm, 607, rfl⟩
abbrev main_v548 : Ref sig .tc := ⟨.hbm, 608, rfl⟩
abbrev main_v549 : Ref sig .tc := ⟨.hbm, 609, rfl⟩
abbrev main_cst_51 : Ref sig .tc := ⟨.hbm, 610, rfl⟩
abbrev main_v550 : Ref sig .tc := ⟨.hbm, 611, rfl⟩
abbrev main_cst_52 : Ref sig .tc := ⟨.hbm, 612, rfl⟩
abbrev main_v551 : Ref sig .tc := ⟨.hbm, 613, rfl⟩
abbrev main_v552 : Ref sig .tc := ⟨.hbm, 614, rfl⟩
abbrev main_cst_53 : Ref sig .tc := ⟨.hbm, 615, rfl⟩
abbrev main_v553 : Ref sig .tc := ⟨.hbm, 616, rfl⟩
abbrev main_cst_54 : Ref sig .tc := ⟨.hbm, 617, rfl⟩
abbrev main_v554 : Ref sig .tc := ⟨.hbm, 618, rfl⟩
abbrev main_v555 : Ref sig .tc := ⟨.hbm, 619, rfl⟩
abbrev main_cst_55 : Ref sig .tc := ⟨.hbm, 620, rfl⟩
abbrev main_v556 : Ref sig .tc := ⟨.hbm, 621, rfl⟩
abbrev main_cst_56 : Ref sig .tc := ⟨.hbm, 622, rfl⟩
abbrev main_v557 : Ref sig .tc := ⟨.hbm, 623, rfl⟩
abbrev main_v558 : Ref sig .tc := ⟨.hbm, 624, rfl⟩
abbrev main_v559 : Ref sig .tc := ⟨.hbm, 625, rfl⟩
abbrev main_v560 : Ref sig .tc := ⟨.hbm, 626, rfl⟩
abbrev main_v561 : Ref sig .tc := ⟨.hbm, 627, rfl⟩
abbrev main_v562 : Ref sig .tc := ⟨.hbm, 628, rfl⟩
abbrev main_v563 : Ref sig .tc := ⟨.hbm, 629, rfl⟩
abbrev main_v564 : Ref sig .tc := ⟨.hbm, 630, rfl⟩
abbrev main_v565 : Ref sig .tc := ⟨.hbm, 631, rfl⟩
abbrev main_v566 : Ref sig .tc := ⟨.hbm, 632, rfl⟩
abbrev main_v567 : Ref sig .tc := ⟨.hbm, 633, rfl⟩
abbrev main_v568 : Ref sig .tc := ⟨.hbm, 634, rfl⟩
abbrev main_v569 : Ref sig .tc := ⟨.hbm, 635, rfl⟩
abbrev main_v570 : Ref sig .tc := ⟨.hbm, 636, rfl⟩
abbrev main_v571 : Ref sig .tc := ⟨.hbm, 637, rfl⟩
abbrev main_v572 : Ref sig .tc := ⟨.hbm, 638, rfl⟩
abbrev main_v573 : Ref sig .tc := ⟨.hbm, 639, rfl⟩
abbrev main_v574 : Ref sig .tc := ⟨.hbm, 640, rfl⟩
abbrev main_v575 : Ref sig .tc := ⟨.hbm, 641, rfl⟩
abbrev main_v576 : Ref sig .tc := ⟨.hbm, 642, rfl⟩
abbrev main_v577 : Ref sig .tc := ⟨.hbm, 643, rfl⟩
abbrev main_v578 : Ref sig .tc := ⟨.hbm, 644, rfl⟩
abbrev main_v579 : Ref sig .tc := ⟨.hbm, 645, rfl⟩
abbrev main_v580 : Ref sig .tc := ⟨.hbm, 646, rfl⟩
abbrev main_v581 : Ref sig .tc := ⟨.hbm, 647, rfl⟩
abbrev main_v582 : Ref sig .tc := ⟨.hbm, 648, rfl⟩
abbrev main_v583 : Ref sig .tc := ⟨.hbm, 649, rfl⟩
abbrev main_v584 : Ref sig .tc := ⟨.hbm, 650, rfl⟩
abbrev main_v585 : Ref sig .tc := ⟨.hbm, 651, rfl⟩
abbrev main_v586 : Ref sig .tc := ⟨.hbm, 652, rfl⟩
abbrev main_v587 : Ref sig .tc := ⟨.hbm, 653, rfl⟩
abbrev main_v588 : Ref sig .tc := ⟨.hbm, 654, rfl⟩
abbrev main_cst_57 : Ref sig .tc := ⟨.hbm, 655, rfl⟩
abbrev main_v589 : Ref sig .tc := ⟨.hbm, 656, rfl⟩
abbrev main_cst_58 : Ref sig .tc := ⟨.hbm, 657, rfl⟩
abbrev main_v590 : Ref sig .tc := ⟨.hbm, 658, rfl⟩
abbrev main_v591 : Ref sig .tc := ⟨.hbm, 659, rfl⟩
abbrev main_cst_59 : Ref sig .tc := ⟨.hbm, 660, rfl⟩
abbrev main_v592 : Ref sig .tc := ⟨.hbm, 661, rfl⟩
abbrev main_cst_60 : Ref sig .tc := ⟨.hbm, 662, rfl⟩
abbrev main_v593 : Ref sig .tc := ⟨.hbm, 663, rfl⟩
abbrev main_v594 : Ref sig .tc := ⟨.hbm, 664, rfl⟩
abbrev main_cst_61 : Ref sig .tc := ⟨.hbm, 665, rfl⟩
abbrev main_v595 : Ref sig .tc := ⟨.hbm, 666, rfl⟩
abbrev main_cst_62 : Ref sig .tc := ⟨.hbm, 667, rfl⟩
abbrev main_v596 : Ref sig .tc := ⟨.hbm, 668, rfl⟩
abbrev main_v597 : Ref sig .tc := ⟨.hbm, 669, rfl⟩
abbrev main_cst_63 : Ref sig .tc := ⟨.hbm, 670, rfl⟩
abbrev main_v598 : Ref sig .tc := ⟨.hbm, 671, rfl⟩
abbrev main_cst_64 : Ref sig .tc := ⟨.hbm, 672, rfl⟩
abbrev main_v599 : Ref sig .tc := ⟨.hbm, 673, rfl⟩
abbrev main_v600 : Ref sig .tc := ⟨.hbm, 674, rfl⟩
abbrev main_v601 : Ref sig .tc := ⟨.hbm, 675, rfl⟩
abbrev main_v602 : Ref sig .tc := ⟨.hbm, 676, rfl⟩
abbrev main_v603 : Ref sig .tc := ⟨.hbm, 677, rfl⟩
abbrev main_v604 : Ref sig .tc := ⟨.hbm, 678, rfl⟩
abbrev main_v605 : Ref sig .tc := ⟨.hbm, 679, rfl⟩
abbrev main_v606 : Ref sig .tc := ⟨.hbm, 680, rfl⟩
abbrev main_v607 : Ref sig .tc := ⟨.hbm, 681, rfl⟩
abbrev main_v608 : Ref sig .tc := ⟨.hbm, 682, rfl⟩
abbrev main_v609 : Ref sig .tc := ⟨.hbm, 683, rfl⟩
abbrev main_v610 : Ref sig .tc := ⟨.hbm, 684, rfl⟩
abbrev main_v611 : Ref sig .tc := ⟨.hbm, 685, rfl⟩
abbrev main_v612 : Ref sig .tc := ⟨.hbm, 686, rfl⟩
abbrev main_v613 : Ref sig .tc := ⟨.hbm, 687, rfl⟩
abbrev main_v614 : Ref sig .tc := ⟨.hbm, 688, rfl⟩
abbrev main_v615 : Ref sig .tc := ⟨.hbm, 689, rfl⟩
abbrev main_v616 : Ref sig .tc := ⟨.hbm, 690, rfl⟩
abbrev main_v617 : Ref sig .tc := ⟨.hbm, 691, rfl⟩
abbrev main_v618 : Ref sig .tc := ⟨.hbm, 692, rfl⟩
abbrev main_v619 : Ref sig .tc := ⟨.hbm, 693, rfl⟩
abbrev main_v620 : Ref sig .tc := ⟨.hbm, 694, rfl⟩
abbrev main_v621 : Ref sig .tc := ⟨.hbm, 695, rfl⟩
abbrev main_v622 : Ref sig .tc := ⟨.hbm, 696, rfl⟩
abbrev main_v623 : Ref sig .tc := ⟨.hbm, 697, rfl⟩
abbrev main_v624 : Ref sig .tc := ⟨.hbm, 698, rfl⟩
abbrev main_v625 : Ref sig .tc := ⟨.hbm, 699, rfl⟩
abbrev main_v626 : Ref sig .tc := ⟨.hbm, 700, rfl⟩
abbrev main_v627 : Ref sig .tc := ⟨.hbm, 701, rfl⟩
abbrev main_v628 : Ref sig .tc := ⟨.hbm, 702, rfl⟩
abbrev main_v629 : Ref sig .tc := ⟨.hbm, 703, rfl⟩
abbrev main_v630 : Ref sig .tc := ⟨.hbm, 704, rfl⟩
abbrev main_cst_65 : Ref sig .tc := ⟨.hbm, 705, rfl⟩
abbrev main_v631 : Ref sig .tc := ⟨.hbm, 706, rfl⟩
abbrev main_cst_66 : Ref sig .tc := ⟨.hbm, 707, rfl⟩
abbrev main_v632 : Ref sig .tc := ⟨.hbm, 708, rfl⟩
abbrev main_v633 : Ref sig .tc := ⟨.hbm, 709, rfl⟩
abbrev main_cst_67 : Ref sig .tc := ⟨.hbm, 710, rfl⟩
abbrev main_v634 : Ref sig .tc := ⟨.hbm, 711, rfl⟩
abbrev main_cst_68 : Ref sig .tc := ⟨.hbm, 712, rfl⟩
abbrev main_v635 : Ref sig .tc := ⟨.hbm, 713, rfl⟩
abbrev main_v636 : Ref sig .tc := ⟨.hbm, 714, rfl⟩
abbrev main_cst_69 : Ref sig .tc := ⟨.hbm, 715, rfl⟩
abbrev main_v637 : Ref sig .tc := ⟨.hbm, 716, rfl⟩
abbrev main_cst_70 : Ref sig .tc := ⟨.hbm, 717, rfl⟩
abbrev main_v638 : Ref sig .tc := ⟨.hbm, 718, rfl⟩
abbrev main_v639 : Ref sig .tc := ⟨.hbm, 719, rfl⟩
abbrev main_cst_71 : Ref sig .tc := ⟨.hbm, 720, rfl⟩
abbrev main_v640 : Ref sig .tc := ⟨.hbm, 721, rfl⟩
abbrev main_cst_72 : Ref sig .tc := ⟨.hbm, 722, rfl⟩
abbrev main_v641 : Ref sig .tc := ⟨.hbm, 723, rfl⟩
abbrev main_v642 : Ref sig .tc := ⟨.hbm, 724, rfl⟩
abbrev main_v643 : Ref sig .tc := ⟨.hbm, 725, rfl⟩
abbrev main_v644 : Ref sig .tc := ⟨.hbm, 726, rfl⟩
abbrev main_v645 : Ref sig .tc := ⟨.hbm, 727, rfl⟩
abbrev main_v646 : Ref sig .tc := ⟨.hbm, 728, rfl⟩
abbrev main_v647 : Ref sig .tc := ⟨.hbm, 729, rfl⟩
abbrev main_v648 : Ref sig .tc := ⟨.hbm, 730, rfl⟩
abbrev main_v649 : Ref sig .tc := ⟨.hbm, 731, rfl⟩
abbrev main_v650 : Ref sig .tc := ⟨.hbm, 732, rfl⟩
abbrev main_v651 : Ref sig .tc := ⟨.hbm, 733, rfl⟩
abbrev main_v652 : Ref sig .tc := ⟨.hbm, 734, rfl⟩
abbrev main_v653 : Ref sig .tc := ⟨.hbm, 735, rfl⟩
abbrev main_v654 : Ref sig .tc := ⟨.hbm, 736, rfl⟩
abbrev main_v655 : Ref sig .tc := ⟨.hbm, 737, rfl⟩
abbrev main_v656 : Ref sig .tc := ⟨.hbm, 738, rfl⟩
abbrev main_v657 : Ref sig .tc := ⟨.hbm, 739, rfl⟩
abbrev main_v658 : Ref sig .tc := ⟨.hbm, 740, rfl⟩
abbrev main_v659 : Ref sig .tc := ⟨.hbm, 741, rfl⟩
abbrev main_v660 : Ref sig .tc := ⟨.hbm, 742, rfl⟩
abbrev main_v661 : Ref sig .tc := ⟨.hbm, 743, rfl⟩
abbrev main_v662 : Ref sig .tc := ⟨.hbm, 744, rfl⟩
abbrev main_v663 : Ref sig .tc := ⟨.hbm, 745, rfl⟩
abbrev main_v664 : Ref sig .tc := ⟨.hbm, 746, rfl⟩
abbrev main_v665 : Ref sig .tc := ⟨.hbm, 747, rfl⟩
abbrev main_v666 : Ref sig .tc := ⟨.hbm, 748, rfl⟩
abbrev main_v667 : Ref sig .tc := ⟨.hbm, 749, rfl⟩
abbrev main_v668 : Ref sig .tc := ⟨.hbm, 750, rfl⟩
abbrev main_v669 : Ref sig .tc := ⟨.hbm, 751, rfl⟩
abbrev main_v670 : Ref sig .tc := ⟨.hbm, 752, rfl⟩
abbrev main_v671 : Ref sig .tc := ⟨.hbm, 753, rfl⟩
abbrev main_v672 : Ref sig .tc := ⟨.hbm, 754, rfl⟩
abbrev main_cst_73 : Ref sig .tc := ⟨.hbm, 755, rfl⟩
abbrev main_v673 : Ref sig .tc := ⟨.hbm, 756, rfl⟩
abbrev main_cst_74 : Ref sig .tc := ⟨.hbm, 757, rfl⟩
abbrev main_v674 : Ref sig .tc := ⟨.hbm, 758, rfl⟩
abbrev main_v675 : Ref sig .tc := ⟨.hbm, 759, rfl⟩
abbrev main_cst_75 : Ref sig .tc := ⟨.hbm, 760, rfl⟩
abbrev main_v676 : Ref sig .tc := ⟨.hbm, 761, rfl⟩
abbrev main_cst_76 : Ref sig .tc := ⟨.hbm, 762, rfl⟩
abbrev main_v677 : Ref sig .tc := ⟨.hbm, 763, rfl⟩
abbrev main_v678 : Ref sig .tc := ⟨.hbm, 764, rfl⟩
abbrev main_cst_77 : Ref sig .tc := ⟨.hbm, 765, rfl⟩
abbrev main_v679 : Ref sig .tc := ⟨.hbm, 766, rfl⟩
abbrev main_cst_78 : Ref sig .tc := ⟨.hbm, 767, rfl⟩
abbrev main_v680 : Ref sig .tc := ⟨.hbm, 768, rfl⟩
abbrev main_v681 : Ref sig .tc := ⟨.hbm, 769, rfl⟩
abbrev main_cst_79 : Ref sig .tc := ⟨.hbm, 770, rfl⟩
abbrev main_v682 : Ref sig .tc := ⟨.hbm, 771, rfl⟩
abbrev main_cst_80 : Ref sig .tc := ⟨.hbm, 772, rfl⟩
abbrev main_v683 : Ref sig .tc := ⟨.hbm, 773, rfl⟩
abbrev main_v684 : Ref sig .tc := ⟨.hbm, 774, rfl⟩
abbrev main_v685 : Ref sig .tc := ⟨.hbm, 775, rfl⟩
abbrev main_v686 : Ref sig .tc := ⟨.hbm, 776, rfl⟩
abbrev main_v687 : Ref sig .tc := ⟨.hbm, 777, rfl⟩
abbrev main_v688 : Ref sig .tc := ⟨.hbm, 778, rfl⟩
abbrev main_v689 : Ref sig .tc := ⟨.hbm, 779, rfl⟩
abbrev main_v690 : Ref sig .tc := ⟨.hbm, 780, rfl⟩
abbrev main_v691 : Ref sig .tc := ⟨.hbm, 781, rfl⟩
abbrev main_v692 : Ref sig .tc := ⟨.hbm, 782, rfl⟩
abbrev main_v693 : Ref sig .tc := ⟨.hbm, 783, rfl⟩
abbrev main_v694 : Ref sig .tc := ⟨.hbm, 784, rfl⟩
abbrev main_v695 : Ref sig .tc := ⟨.hbm, 785, rfl⟩
abbrev main_v696 : Ref sig .tc := ⟨.hbm, 786, rfl⟩
abbrev main_v697 : Ref sig .tc := ⟨.hbm, 787, rfl⟩
abbrev main_v698 : Ref sig .tc := ⟨.hbm, 788, rfl⟩
abbrev main_v699 : Ref sig .tc := ⟨.hbm, 789, rfl⟩
abbrev main_v700 : Ref sig .tc := ⟨.hbm, 790, rfl⟩
abbrev main_v701 : Ref sig .tc := ⟨.hbm, 791, rfl⟩
abbrev main_v702 : Ref sig .tc := ⟨.hbm, 792, rfl⟩
abbrev main_v703 : Ref sig .tc := ⟨.hbm, 793, rfl⟩
abbrev main_v704 : Ref sig .tc := ⟨.hbm, 794, rfl⟩
abbrev main_v705 : Ref sig .tc := ⟨.hbm, 795, rfl⟩
abbrev main_v706 : Ref sig .tc := ⟨.hbm, 796, rfl⟩
abbrev main_v707 : Ref sig .tc := ⟨.hbm, 797, rfl⟩
abbrev main_v708 : Ref sig .tc := ⟨.hbm, 798, rfl⟩
abbrev main_v709 : Ref sig .tc := ⟨.hbm, 799, rfl⟩
abbrev main_v710 : Ref sig .tc := ⟨.hbm, 800, rfl⟩
abbrev main_v711 : Ref sig .tc := ⟨.hbm, 801, rfl⟩
abbrev main_v712 : Ref sig .tc := ⟨.hbm, 802, rfl⟩
abbrev main_v713 : Ref sig .tc := ⟨.hbm, 803, rfl⟩
abbrev main_v714 : Ref sig .tc := ⟨.hbm, 804, rfl⟩
abbrev main_cst_81 : Ref sig .tc := ⟨.hbm, 805, rfl⟩
abbrev main_v715 : Ref sig .tc := ⟨.hbm, 806, rfl⟩
abbrev main_cst_82 : Ref sig .tc := ⟨.hbm, 807, rfl⟩
abbrev main_v716 : Ref sig .tc := ⟨.hbm, 808, rfl⟩
abbrev main_v717 : Ref sig .tc := ⟨.hbm, 809, rfl⟩
abbrev main_cst_83 : Ref sig .tc := ⟨.hbm, 810, rfl⟩
abbrev main_v718 : Ref sig .tc := ⟨.hbm, 811, rfl⟩
abbrev main_cst_84 : Ref sig .tc := ⟨.hbm, 812, rfl⟩
abbrev main_v719 : Ref sig .tc := ⟨.hbm, 813, rfl⟩
abbrev main_v720 : Ref sig .tc := ⟨.hbm, 814, rfl⟩
abbrev main_cst_85 : Ref sig .tc := ⟨.hbm, 815, rfl⟩
abbrev main_v721 : Ref sig .tc := ⟨.hbm, 816, rfl⟩
abbrev main_cst_86 : Ref sig .tc := ⟨.hbm, 817, rfl⟩
abbrev main_v722 : Ref sig .tc := ⟨.hbm, 818, rfl⟩
abbrev main_v723 : Ref sig .tc := ⟨.hbm, 819, rfl⟩
abbrev main_cst_87 : Ref sig .tc := ⟨.hbm, 820, rfl⟩
abbrev main_v724 : Ref sig .tc := ⟨.hbm, 821, rfl⟩
abbrev main_cst_88 : Ref sig .tc := ⟨.hbm, 822, rfl⟩
abbrev main_v725 : Ref sig .tc := ⟨.hbm, 823, rfl⟩
abbrev main_v726 : Ref sig .tc := ⟨.hbm, 824, rfl⟩
abbrev main_v727 : Ref sig .tc := ⟨.hbm, 825, rfl⟩
abbrev main_v728 : Ref sig .tc := ⟨.hbm, 826, rfl⟩
abbrev main_v729 : Ref sig .tc := ⟨.hbm, 827, rfl⟩
abbrev main_v730 : Ref sig .tc := ⟨.hbm, 828, rfl⟩
abbrev main_v731 : Ref sig .tc := ⟨.hbm, 829, rfl⟩
abbrev main_v732 : Ref sig .tc := ⟨.hbm, 830, rfl⟩
abbrev main_v733 : Ref sig .tc := ⟨.hbm, 831, rfl⟩
abbrev main_v734 : Ref sig .tc := ⟨.hbm, 832, rfl⟩
abbrev main_v735 : Ref sig .tc := ⟨.hbm, 833, rfl⟩
abbrev main_v736 : Ref sig .tc := ⟨.hbm, 834, rfl⟩
abbrev main_v737_0 : Ref sig .tc := ⟨.hbm, 835, rfl⟩
abbrev main_v737_1 : Ref sig .tc := ⟨.hbm, 836, rfl⟩
abbrev main_v737_2 : Ref sig .tc := ⟨.hbm, 837, rfl⟩
abbrev main_v737_3 : Ref sig .tc := ⟨.hbm, 838, rfl⟩
abbrev main_v737_4 : Ref sig .tc := ⟨.hbm, 839, rfl⟩
abbrev main_v737_5 : Ref sig .tc := ⟨.hbm, 840, rfl⟩
abbrev main_v737_6 : Ref sig .tc := ⟨.hbm, 841, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v92 : BitVec 32 := Scalar.addi c0_i32 c8_i32
  let c1_i32 : BitVec 32 := 1#32
  ⟨c0_i32, v92, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32 : BitVec 32 := 256#32
  let v713 : BitVec 32 := Scalar.muli arg20 c256_i32
  v713
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32 : BitVec 32 := 256#32
  let v713 : BitVec 32 := Scalar.muli arg20 c256_i32
  let v714 : BitVec 32 := v713
  let v715 : Index := Scalar.indexCast v714
  let c0_251 : Index := 0#32
  ![v715.toNat, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32 : BitVec 32 := 256#32
  let v713 : BitVec 32 := Scalar.muli arg20 c256_i32
  let v714 : BitVec 32 := v713
  let c8_i32_259 : BitVec 32 := 8#32
  let v768 : BitVec 32 := Scalar.addi v714 c8_i32_259
  let v769 : Index := Scalar.indexCast v768
  let c0_260 : Index := 0#32
  ![v769.toNat, 0]
def k0_cond1 (i : grid0.Coords) : BitVec 1 :=
  let arg0 : BitVec 32 := BitVec.ofNat 32 (i 0).val
  let c4_i32_139 : BitVec 32 := 4#32
  let c0_i32_140 : BitVec 32 := 0#32
  let v495 : BitVec 1 := Scalar.cmpi .eq c4_i32_139 c0_i32_140
  let c1_i32_141 : BitVec 32 := 1#32
  let v496 : BitVec 32 := Scalar.select v495 c1_i32_141 c4_i32_139
  let v497 : BitVec 32 := Scalar.remsi arg0 v496
  let c0_i32_143 : BitVec 32 := 0#32
  let v499 : BitVec 1 := Scalar.cmpi .slt v497 c0_i32_143
  let c0_i32_144 : BitVec 32 := 0#32
  let v500 : BitVec 1 := Scalar.cmpi .slt v496 c0_i32_144
  let v501 : BitVec 1 := Scalar.xori v499 v500
  let c0_i32_142 : BitVec 32 := 0#32
  let v498 : BitVec 1 := Scalar.cmpi .ne v497 c0_i32_142
  let v502 : BitVec 1 := Scalar.andi v501 v498
  let v503 : BitVec 32 := Scalar.addi v497 v496
  let v504 : BitVec 32 := Scalar.select v502 v503 v497
  let c0_i32_145 : BitVec 32 := 0#32
  let v505 : BitVec 1 := Scalar.cmpi .eq v504 c0_i32_145
  let v506 : BitVec 32 := Scalar.extui v505
  let c0_i32_146 : BitVec 32 := 0#32
  let v507 : BitVec 1 := Scalar.cmpi .ne v506 c0_i32_146
  v507

def k0_cond2 (i : grid0.Coords) : BitVec 1 :=
  let arg0 : BitVec 32 := BitVec.ofNat 32 (i 0).val
  let c4_i32_147 : BitVec 32 := 4#32
  let c0_i32_148 : BitVec 32 := 0#32
  let v508 : BitVec 1 := Scalar.cmpi .eq c4_i32_147 c0_i32_148
  let c1_i32_149 : BitVec 32 := 1#32
  let v509 : BitVec 32 := Scalar.select v508 c1_i32_149 c4_i32_147
  let v510 : BitVec 32 := Scalar.remsi arg0 v509
  let c0_i32_151 : BitVec 32 := 0#32
  let v512 : BitVec 1 := Scalar.cmpi .slt v510 c0_i32_151
  let c0_i32_152 : BitVec 32 := 0#32
  let v513 : BitVec 1 := Scalar.cmpi .slt v509 c0_i32_152
  let v514 : BitVec 1 := Scalar.xori v512 v513
  let c0_i32_150 : BitVec 32 := 0#32
  let v511 : BitVec 1 := Scalar.cmpi .ne v510 c0_i32_150
  let v515 : BitVec 1 := Scalar.andi v514 v511
  let v516 : BitVec 32 := Scalar.addi v510 v509
  let v517 : BitVec 32 := Scalar.select v515 v516 v510
  let c0_i32_153 : BitVec 32 := 0#32
  let v518 : BitVec 1 := Scalar.cmpi .sgt v517 c0_i32_153
  let v519 : BitVec 32 := Scalar.extui v518
  let c0_i32_154 : BitVec 32 := 0#32
  let v520 : BitVec 1 := Scalar.cmpi .ne v519 c0_i32_154
  v520

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_5 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RefS5Ideal.lean ====
abbrev S2048x512 : Shape := ⟨2, ![2048, 512]⟩
abbrev S32x64 : Shape := ⟨2, ![32, 64]⟩
abbrev S32x64x16 : Shape := ⟨3, ![32, 64, 16]⟩
abbrev S2048x2048 : Shape := ⟨2, ![2048, 2048]⟩
abbrev S2048x32x16 : Shape := ⟨3, ![2048, 32, 16]⟩
abbrev S32x64x2048 : Shape := ⟨3, ![32, 64, 2048]⟩
abbrev S2048x32x64 : Shape := ⟨3, ![2048, 32, 64]⟩
abbrev S1024x32x64 : Shape := ⟨3, ![1024, 32, 64]⟩
abbrev S512x32x64 : Shape := ⟨3, ![512, 32, 64]⟩
abbrev S256x32x64 : Shape := ⟨3, ![256, 32, 64]⟩
abbrev S128x32x64 : Shape := ⟨3, ![128, 32, 64]⟩
abbrev S64x32x64 : Shape := ⟨3, ![64, 32, 64]⟩
abbrev S32x32x64 : Shape := ⟨3, ![32, 32, 64]⟩
abbrev S16x32x64 : Shape := ⟨3, ![16, 32, 64]⟩
abbrev S8x32x64 : Shape := ⟨3, ![8, 32, 64]⟩
abbrev S4x32x64 : Shape := ⟨3, ![4, 32, 64]⟩
abbrev S2x32x64 : Shape := ⟨3, ![2, 32, 64]⟩
abbrev S1x32x64 : Shape := ⟨3, ![1, 32, 64]⟩
abbrev S0x32x64 : Shape := ⟨3, ![0, 32, 64]⟩
abbrev S_ : Shape := ⟨0, ![]⟩
abbrev S3x32x64 : Shape := ⟨3, ![3, 32, 64]⟩
abbrev S7x32x64 : Shape := ⟨3, ![7, 32, 64]⟩
abbrev S15x32x64 : Shape := ⟨3, ![15, 32, 64]⟩
abbrev S31x32x64 : Shape := ⟨3, ![31, 32, 64]⟩
abbrev S63x32x64 : Shape := ⟨3, ![63, 32, 64]⟩
abbrev S127x32x64 : Shape := ⟨3, ![127, 32, 64]⟩
abbrev S255x32x64 : Shape := ⟨3, ![255, 32, 64]⟩
abbrev S511x32x64 : Shape := ⟨3, ![511, 32, 64]⟩
abbrev S1023x32x64 : Shape := ⟨3, ![1023, 32, 64]⟩
abbrev S32x16x64 : Shape := ⟨3, ![32, 16, 64]⟩
abbrev S32x2048x16 : Shape := ⟨3, ![32, 2048, 16]⟩
abbrev S16x128x1x16 : Shape := ⟨4, ![16, 128, 1, 16]⟩
abbrev S16x128x8x16 : Shape := ⟨4, ![16, 128, 8, 16]⟩
abbrev S16x128x128 : Shape := ⟨3, ![16, 128, 128]⟩

abbrev nBuf : Space → Nat
  | .hbm => 828
  | .vmem => 0
  | .smem => 0
  | _ => 0

abbrev hbmTy0_0 (i : Nat) : BufTy := match i % 128 with
  | 0 => ⟨S2048x512, .f32⟩
  | 1 => ⟨S32x64, .f32⟩
  | 2 => ⟨S32x64, .f32⟩
  | 3 => ⟨S32x64x16, .f32⟩
  | 4 => ⟨S32x64x16, .f32⟩
  | 5 => ⟨S2048x512, .f32⟩
  | 6 => ⟨S2048x2048, .f32⟩
  | 7 => ⟨S2048x2048, .f32⟩
  | 8 => ⟨S2048x32x16, .f32⟩
  | 9 => ⟨S32x64x2048, .f32⟩
  | 10 => ⟨S2048x32x64, .f32⟩
  | 11 => ⟨S32x64x2048, .f32⟩
  | 12 => ⟨S2048x32x64, .f32⟩
  | 13 => ⟨S2048x32x64, .f32⟩
  | 14 => ⟨S2048x32x64, .f32⟩
  | 15 => ⟨S1024x32x64, .f32⟩
  | 16 => ⟨S1024x32x64, .f32⟩
  | 17 => ⟨S1024x32x64, .f32⟩
  | 18 => ⟨S1024x32x64, .f32⟩
  | 19 => ⟨S1024x32x64, .f32⟩
  | 20 => ⟨S1024x32x64, .f32⟩
  | 21 => ⟨S1024x32x64, .f32⟩
  | 22 => ⟨S1024x32x64, .f32⟩
  | 23 => ⟨S1024x32x64, .f32⟩
  | 24 => ⟨S1024x32x64, .f32⟩
  | 25 => ⟨S1024x32x64, .f32⟩
  | 26 => ⟨S1024x32x64, .f32⟩
  | 27 => ⟨S1024x32x64, .f32⟩
  | 28 => ⟨S1024x32x64, .f32⟩
  | 29 => ⟨S1024x32x64, .f32⟩
  | 30 => ⟨S1024x32x64, .f32⟩
  | 31 => ⟨S1024x32x64, .f32⟩
  | 32 => ⟨S1024x32x64, .f32⟩
  | 33 => ⟨S1024x32x64, .f32⟩
  | 34 => ⟨S1024x32x64, .f32⟩
  | 35 => ⟨S1024x32x64, .f32⟩
  | 36 => ⟨S1024x32x64, .f32⟩
  | 37 => ⟨S512x32x64, .f32⟩
  | 38 => ⟨S512x32x64, .f32⟩
  | 39 => ⟨S512x32x64, .f32⟩
  | 40 => ⟨S512x32x64, .f32⟩
  | 41 => ⟨S512x32x64, .f32⟩
  | 42 => ⟨S512x32x64, .f32⟩
  | 43 => ⟨S512x32x64, .f32⟩
  | 44 => ⟨S512x32x64, .f32⟩
  | 45 => ⟨S512x32x64, .f32⟩
  | 46 => ⟨S512x32x64, .f32⟩
  | 47 => ⟨S512x32x64, .f32⟩
  | 48 => ⟨S512x32x64, .f32⟩
  | 49 => ⟨S512x32x64, .f32⟩
  | 50 => ⟨S512x32x64, .f32⟩
  | 51 => ⟨S512x32x64, .f32⟩
  | 52 => ⟨S512x32x64, .f32⟩
  | 53 => ⟨S512x32x64, .f32⟩
  | 54 => ⟨S512x32x64, .f32⟩
  | 55 => ⟨S512x32x64, .f32⟩
  | 56 => ⟨S512x32x64, .f32⟩
  | 57 => ⟨S512x32x64, .f32⟩
  | 58 => ⟨S512x32x64, .f32⟩
  | 59 => ⟨S256x32x64, .f32⟩
  | 60 => ⟨S256x32x64, .f32⟩
  | 61 => ⟨S256x32x64, .f32⟩
  | 62 => ⟨S256x32x64, .f32⟩
  | 63 => ⟨S256x32x64, .f32⟩
  | 64 => ⟨S256x32x64, .f32⟩
  | 65 => ⟨S256x32x64, .f32⟩
  | 66 => ⟨S256x32x64, .f32⟩
  | 67 => ⟨S256x32x64, .f32⟩
  | 68 => ⟨S256x32x64, .f32⟩
  | 69 => ⟨S256x32x64, .f32⟩
  | 70 => ⟨S256x32x64, .f32⟩
  | 71 => ⟨S256x32x64, .f32⟩
  | 72 => ⟨S256x32x64, .f32⟩
  | 73 => ⟨S256x32x64, .f32⟩
  | 74 => ⟨S256x32x64, .f32⟩
  | 75 => ⟨S256x32x64, .f32⟩
  | 76 => ⟨S256x32x64, .f32⟩
  | 77 => ⟨S256x32x64, .f32⟩
  | 78 => ⟨S256x32x64, .f32⟩
  | 79 => ⟨S256x32x64, .f32⟩
  | 80 => ⟨S256x32x64, .f32⟩
  | 81 => ⟨S128x32x64, .f32⟩
  | 82 => ⟨S128x32x64, .f32⟩
  | 83 => ⟨S128x32x64, .f32⟩
  | 84 => ⟨S128x32x64, .f32⟩
  | 85 => ⟨S128x32x64, .f32⟩
  | 86 => ⟨S128x32x64, .f32⟩
  | 87 => ⟨S128x32x64, .f32⟩
  | 88 => ⟨S128x32x64, .f32⟩
  | 89 => ⟨S128x32x64, .f32⟩
  | 90 => ⟨S128x32x64, .f32⟩
  | 91 => ⟨S128x32x64, .f32⟩
  | 92 => ⟨S128x32x64, .f32⟩
  | 93 => ⟨S128x32x64, .f32⟩
  | 94 => ⟨S128x32x64, .f32⟩
  | 95 => ⟨S128x32x64, .f32⟩
  | 96 => ⟨S128x32x64, .f32⟩
  | 97 => ⟨S128x32x64, .f32⟩
  | 98 => ⟨S128x32x64, .f32⟩
  | 99 => ⟨S128x32x64, .f32⟩
  | 100 => ⟨S128x32x64, .f32⟩
  | 101 => ⟨S128x32x64, .f32⟩
  | 102 => ⟨S128x32x64, .f32⟩
  | 103 => ⟨S64x32x64, .f32⟩
  | 104 => ⟨S64x32x64, .f32⟩
  | 105 => ⟨S64x32x64, .f32⟩
  | 106 => ⟨S64x32x64, .f32⟩
  | 107 => ⟨S64x32x64, .f32⟩
  | 108 => ⟨S64x32x64, .f32⟩
  | 109 => ⟨S64x32x64, .f32⟩
  | 110 => ⟨S64x32x64, .f32⟩
  | 111 => ⟨S64x32x64, .f32⟩
  | 112 => ⟨S64x32x64, .f32⟩
  | 113 => ⟨S64x32x64, .f32⟩
  | 114 => ⟨S64x32x64, .f32⟩
  | 115 => ⟨S64x32x64, .f32⟩
  | 116 => ⟨S64x32x64, .f32⟩
  | 117 => ⟨S64x32x64, .f32⟩
  | 118 => ⟨S64x32x64, .f32⟩
  | 119 => ⟨S64x32x64, .f32⟩
  | 120 => ⟨S64x32x64, .f32⟩
  | 121 => ⟨S64x32x64, .f32⟩
  | 122 => ⟨S64x32x64, .f32⟩
  | 123 => ⟨S64x32x64, .f32⟩
  | 124 => ⟨S64x32x64, .f32⟩
  | 125 => ⟨S32x32x64, .f32⟩
  | 126 => ⟨S32x32x64, .f32⟩
  | 127 => ⟨S32x32x64, .f32⟩
  | _ => ⟨S2048x512, .f32⟩

abbrev hbmTy0_1 (i : Nat) : BufTy := match i % 128 with
  | 0 => ⟨S32x32x64, .f32⟩
  | 1 => ⟨S32x32x64, .f32⟩
  | 2 => ⟨S32x32x64, .f32⟩
  | 3 => ⟨S32x32x64, .f32⟩
  | 4 => ⟨S32x32x64, .f32⟩
  | 5 => ⟨S32x32x64, .f32⟩
  | 6 => ⟨S32x32x64, .f32⟩
  | 7 => ⟨S32x32x64, .f32⟩
  | 8 => ⟨S32x32x64, .f32⟩
  | 9 => ⟨S32x32x64, .f32⟩
  | 10 => ⟨S32x32x64, .f32⟩
  | 11 => ⟨S32x32x64, .f32⟩
  | 12 => ⟨S32x32x64, .f32⟩
  | 13 => ⟨S32x32x64, .f32⟩
  | 14 => ⟨S32x32x64, .f32⟩
  | 15 => ⟨S32x32x64, .f32⟩
  | 16 => ⟨S32x32x64, .f32⟩
  | 17 => ⟨S32x32x64, .f32⟩
  | 18 => ⟨S32x32x64, .f32⟩
  | 19 => ⟨S16x32x64, .f32⟩
  | 20 => ⟨S16x32x64, .f32⟩
  | 21 => ⟨S16x32x64, .f32⟩
  | 22 => ⟨S16x32x64, .f32⟩
  | 23 => ⟨S16x32x64, .f32⟩
  | 24 => ⟨S16x32x64, .f32⟩
  | 25 => ⟨S16x32x64, .f32⟩
  | 26 => ⟨S16x32x64, .f32⟩
  | 27 => ⟨S16x32x64, .f32⟩
  | 28 => ⟨S16x32x64, .f32⟩
  | 29 => ⟨S16x32x64, .f32⟩
  | 30 => ⟨S16x32x64, .f32⟩
  | 31 => ⟨S16x32x64, .f32⟩
  | 32 => ⟨S16x32x64, .f32⟩
  | 33 => ⟨S16x32x64, .f32⟩
  | 34 => ⟨S16x32x64, .f32⟩
  | 35 => ⟨S16x32x64, .f32⟩
  | 36 => ⟨S16x32x64, .f32⟩
  | 37 => ⟨S16x32x64, .f32⟩
  | 38 => ⟨S16x32x64, .f32⟩
  | 39 => ⟨S16x32x64, .f32⟩
  | 40 => ⟨S16x32x64, .f32⟩
  | 41 => ⟨S8x32x64, .f32⟩
  | 42 => ⟨S8x32x64, .f32⟩
  | 43 => ⟨S8x32x64, .f32⟩
  | 44 => ⟨S8x32x64, .f32⟩
  | 45 => ⟨S8x32x64, .f32⟩
  | 46 => ⟨S8x32x64, .f32⟩
  | 47 => ⟨S8x32x64, .f32⟩
  | 48 => ⟨S8x32x64, .f32⟩
  | 49 => ⟨S8x32x64, .f32⟩
  | 50 => ⟨S8x32x64, .f32⟩
  | 51 => ⟨S8x32x64, .f32⟩
  | 52 => ⟨S8x32x64, .f32⟩
  | 53 => ⟨S8x32x64, .f32⟩
  | 54 => ⟨S8x32x64, .f32⟩
  | 55 => ⟨S8x32x64, .f32⟩
  | 56 => ⟨S8x32x64, .f32⟩
  | 57 => ⟨S8x32x64, .f32⟩
  | 58 => ⟨S8x32x64, .f32⟩
  | 59 => ⟨S8x32x64, .f32⟩
  | 60 => ⟨S8x32x64, .f32⟩
  | 61 => ⟨S8x32x64, .f32⟩
  | 62 => ⟨S8x32x64, .f32⟩
  | 63 => ⟨S4x32x64, .f32⟩
  | 64 => ⟨S4x32x64, .f32⟩
  | 65 => ⟨S4x32x64, .f32⟩
  | 66 => ⟨S4x32x64, .f32⟩
  | 67 => ⟨S4x32x64, .f32⟩
  | 68 => ⟨S4x32x64, .f32⟩
  | 69 => ⟨S4x32x64, .f32⟩
  | 70 => ⟨S4x32x64, .f32⟩
  | 71 => ⟨S4x32x64, .f32⟩
  | 72 => ⟨S4x32x64, .f32⟩
  | 73 => ⟨S4x32x64, .f32⟩
  | 74 => ⟨S4x32x64, .f32⟩
  | 75 => ⟨S4x32x64, .f32⟩
  | 76 => ⟨S4x32x64, .f32⟩
  | 77 => ⟨S4x32x64, .f32⟩
  | 78 => ⟨S4x32x64, .f32⟩
  | 79 => ⟨S4x32x64, .f32⟩
  | 80 => ⟨S4x32x64, .f32⟩
  | 81 => ⟨S4x32x64, .f32⟩
  | 82 => ⟨S4x32x64, .f32⟩
  | 83 => ⟨S4x32x64, .f32⟩
  | 84 => ⟨S4x32x64, .f32⟩
  | 85 => ⟨S2x32x64, .f32⟩
  | 86 => ⟨S2x32x64, .f32⟩
  | 87 => ⟨S2x32x64, .f32⟩
  | 88 => ⟨S2x32x64, .f32⟩
  | 89 => ⟨S2x32x64, .f32⟩
  | 90 => ⟨S2x32x64, .f32⟩
  | 91 => ⟨S2x32x64, .f32⟩
  | 92 => ⟨S2x32x64, .f32⟩
  | 93 => ⟨S2x32x64, .f32⟩
  | 94 => ⟨S2x32x64, .f32⟩
  | 95 => ⟨S2x32x64, .f32⟩
  | 96 => ⟨S2x32x64, .f32⟩
  | 97 => ⟨S2x32x64, .f32⟩
  | 98 => ⟨S2x32x64, .f32⟩
  | 99 => ⟨S2x32x64, .f32⟩
  | 100 => ⟨S2x32x64, .f32⟩
  | 101 => ⟨S2x32x64, .f32⟩
  | 102 => ⟨S2x32x64, .f32⟩
  | 103 => ⟨S2x32x64, .f32⟩
  | 104 => ⟨S2x32x64, .f32⟩
  | 105 => ⟨S2x32x64, .f32⟩
  | 106 => ⟨S2x32x64, .f32⟩
  | 107 => ⟨S1x32x64, .f32⟩
  | 108 => ⟨S1x32x64, .f32⟩
  | 109 => ⟨S1x32x64, .f32⟩
  | 110 => ⟨S1x32x64, .f32⟩
  | 111 => ⟨S1x32x64, .f32⟩
  | 112 => ⟨S1x32x64, .f32⟩
  | 113 => ⟨S1x32x64, .f32⟩
  | 114 => ⟨S1x32x64, .f32⟩
  | 115 => ⟨S1x32x64, .f32⟩
  | 116 => ⟨S1x32x64, .f32⟩
  | 117 => ⟨S1x32x64, .f32⟩
  | 118 => ⟨S1x32x64, .f32⟩
  | 119 => ⟨S1x32x64, .f32⟩
  | 120 => ⟨S1x32x64, .f32⟩
  | 121 => ⟨S1x32x64, .f32⟩
  | 122 => ⟨S1x32x64, .f32⟩
  | 123 => ⟨S1x32x64, .f32⟩
  | 124 => ⟨S1x32x64, .f32⟩
  | 125 => ⟨S1x32x64, .f32⟩
  | 126 => ⟨S1x32x64, .f32⟩
  | 127 => ⟨S1x32x64, .f32⟩
  | _ => ⟨S2048x512, .f32⟩

abbrev hbmTy0_2 (i : Nat) : BufTy := match i % 128 with
  | 0 => ⟨S1x32x64, .f32⟩
  | 1 => ⟨S0x32x64, .f32⟩
  | 2 => ⟨S0x32x64, .f32⟩
  | 3 => ⟨S0x32x64, .f32⟩
  | 4 => ⟨S0x32x64, .f32⟩
  | 5 => ⟨S0x32x64, .f32⟩
  | 6 => ⟨S0x32x64, .f32⟩
  | 7 => ⟨S0x32x64, .f32⟩
  | 8 => ⟨S0x32x64, .f32⟩
  | 9 => ⟨S0x32x64, .f32⟩
  | 10 => ⟨S0x32x64, .f32⟩
  | 11 => ⟨S0x32x64, .f32⟩
  | 12 => ⟨S0x32x64, .f32⟩
  | 13 => ⟨S0x32x64, .f32⟩
  | 14 => ⟨S0x32x64, .f32⟩
  | 15 => ⟨S0x32x64, .f32⟩
  | 16 => ⟨S0x32x64, .f32⟩
  | 17 => ⟨S0x32x64, .f32⟩
  | 18 => ⟨S0x32x64, .f32⟩
  | 19 => ⟨S0x32x64, .f32⟩
  | 20 => ⟨S0x32x64, .f32⟩
  | 21 => ⟨S0x32x64, .f32⟩
  | 22 => ⟨S0x32x64, .f32⟩
  | 23 => ⟨S1x32x64, .f32⟩
  | 24 => ⟨S1x32x64, .f32⟩
  | 25 => ⟨S1x32x64, .f32⟩
  | 26 => ⟨S1x32x64, .f32⟩
  | 27 => ⟨S1x32x64, .f32⟩
  | 28 => ⟨S1x32x64, .f32⟩
  | 29 => ⟨S1x32x64, .f32⟩
  | 30 => ⟨S1x32x64, .f32⟩
  | 31 => ⟨S_, .f32⟩
  | 32 => ⟨S2x32x64, .f32⟩
  | 33 => ⟨S_, .f32⟩
  | 34 => ⟨S2x32x64, .f32⟩
  | 35 => ⟨S2x32x64, .f32⟩
  | 36 => ⟨S_, .f32⟩
  | 37 => ⟨S2x32x64, .f32⟩
  | 38 => ⟨S_, .f32⟩
  | 39 => ⟨S2x32x64, .f32⟩
  | 40 => ⟨S2x32x64, .f32⟩
  | 41 => ⟨S_, .f32⟩
  | 42 => ⟨S2x32x64, .f32⟩
  | 43 => ⟨S_, .f32⟩
  | 44 => ⟨S2x32x64, .f32⟩
  | 45 => ⟨S2x32x64, .f32⟩
  | 46 => ⟨S_, .f32⟩
  | 47 => ⟨S2x32x64, .f32⟩
  | 48 => ⟨S_, .f32⟩
  | 49 => ⟨S2x32x64, .f32⟩
  | 50 => ⟨S2x32x64, .f32⟩
  | 51 => ⟨S1x32x64, .f32⟩
  | 52 => ⟨S1x32x64, .f32⟩
  | 53 => ⟨S1x32x64, .f32⟩
  | 54 => ⟨S1x32x64, .f32⟩
  | 55 => ⟨S1x32x64, .f32⟩
  | 56 => ⟨S1x32x64, .f32⟩
  | 57 => ⟨S1x32x64, .f32⟩
  | 58 => ⟨S1x32x64, .f32⟩
  | 59 => ⟨S1x32x64, .f32⟩
  | 60 => ⟨S1x32x64, .f32⟩
  | 61 => ⟨S1x32x64, .f32⟩
  | 62 => ⟨S1x32x64, .f32⟩
  | 63 => ⟨S1x32x64, .f32⟩
  | 64 => ⟨S1x32x64, .f32⟩
  | 65 => ⟨S1x32x64, .f32⟩
  | 66 => ⟨S1x32x64, .f32⟩
  | 67 => ⟨S1x32x64, .f32⟩
  | 68 => ⟨S1x32x64, .f32⟩
  | 69 => ⟨S1x32x64, .f32⟩
  | 70 => ⟨S1x32x64, .f32⟩
  | 71 => ⟨S1x32x64, .f32⟩
  | 72 => ⟨S1x32x64, .f32⟩
  | 73 => ⟨S1x32x64, .f32⟩
  | 74 => ⟨S2x32x64, .f32⟩
  | 75 => ⟨S1x32x64, .f32⟩
  | 76 => ⟨S2x32x64, .f32⟩
  | 77 => ⟨S1x32x64, .f32⟩
  | 78 => ⟨S2x32x64, .f32⟩
  | 79 => ⟨S1x32x64, .f32⟩
  | 80 => ⟨S2x32x64, .f32⟩
  | 81 => ⟨S_, .f32⟩
  | 82 => ⟨S4x32x64, .f32⟩
  | 83 => ⟨S_, .f32⟩
  | 84 => ⟨S4x32x64, .f32⟩
  | 85 => ⟨S4x32x64, .f32⟩
  | 86 => ⟨S_, .f32⟩
  | 87 => ⟨S4x32x64, .f32⟩
  | 88 => ⟨S_, .f32⟩
  | 89 => ⟨S4x32x64, .f32⟩
  | 90 => ⟨S4x32x64, .f32⟩
  | 91 => ⟨S_, .f32⟩
  | 92 => ⟨S4x32x64, .f32⟩
  | 93 => ⟨S_, .f32⟩
  | 94 => ⟨S4x32x64, .f32⟩
  | 95 => ⟨S4x32x64, .f32⟩
  | 96 => ⟨S_, .f32⟩
  | 97 => ⟨S4x32x64, .f32⟩
  | 98 => ⟨S_, .f32⟩
  | 99 => ⟨S4x32x64, .f32⟩
  | 100 => ⟨S4x32x64, .f32⟩
  | 101 => ⟨S3x32x64, .f32⟩
  | 102 => ⟨S3x32x64, .f32⟩
  | 103 => ⟨S3x32x64, .f32⟩
  | 104 => ⟨S3x32x64, .f32⟩
  | 105 => ⟨S3x32x64, .f32⟩
  | 106 => ⟨S3x32x64, .f32⟩
  | 107 => ⟨S3x32x64, .f32⟩
  | 108 => ⟨S3x32x64, .f32⟩
  | 109 => ⟨S3x32x64, .f32⟩
  | 110 => ⟨S3x32x64, .f32⟩
  | 111 => ⟨S3x32x64, .f32⟩
  | 112 => ⟨S3x32x64, .f32⟩
  | 113 => ⟨S3x32x64, .f32⟩
  | 114 => ⟨S3x32x64, .f32⟩
  | 115 => ⟨S3x32x64, .f32⟩
  | 116 => ⟨S3x32x64, .f32⟩
  | 117 => ⟨S3x32x64, .f32⟩
  | 118 => ⟨S3x32x64, .f32⟩
  | 119 => ⟨S3x32x64, .f32⟩
  | 120 => ⟨S3x32x64, .f32⟩
  | 121 => ⟨S3x32x64, .f32⟩
  | 122 => ⟨S3x32x64, .f32⟩
  | 123 => ⟨S1x32x64, .f32⟩
  | 124 => ⟨S4x32x64, .f32⟩
  | 125 => ⟨S1x32x64, .f32⟩
  | 126 => ⟨S4x32x64, .f32⟩
  | 127 => ⟨S1x32x64, .f32⟩
  | _ => ⟨S2048x512, .f32⟩

abbrev hbmTy0_3 (i : Nat) : BufTy := match i % 128 with
  | 0 => ⟨S4x32x64, .f32⟩
  | 1 => ⟨S1x32x64, .f32⟩
  | 2 => ⟨S4x32x64, .f32⟩
  | 3 => ⟨S_, .f32⟩
  | 4 => ⟨S8x32x64, .f32⟩
  | 5 => ⟨S_, .f32⟩
  | 6 => ⟨S8x32x64, .f32⟩
  | 7 => ⟨S8x32x64, .f32⟩
  | 8 => ⟨S_, .f32⟩
  | 9 => ⟨S8x32x64, .f32⟩
  | 10 => ⟨S_, .f32⟩
  | 11 => ⟨S8x32x64, .f32⟩
  | 12 => ⟨S8x32x64, .f32⟩
  | 13 => ⟨S_, .f32⟩
  | 14 => ⟨S8x32x64, .f32⟩
  | 15 => ⟨S_, .f32⟩
  | 16 => ⟨S8x32x64, .f32⟩
  | 17 => ⟨S8x32x64, .f32⟩
  | 18 => ⟨S_, .f32⟩
  | 19 => ⟨S8x32x64, .f32⟩
  | 20 => ⟨S_, .f32⟩
  | 21 => ⟨S8x32x64, .f32⟩
  | 22 => ⟨S8x32x64, .f32⟩
  | 23 => ⟨S7x32x64, .f32⟩
  | 24 => ⟨S7x32x64, .f32⟩
  | 25 => ⟨S7x32x64, .f32⟩
  | 26 => ⟨S7x32x64, .f32⟩
  | 27 => ⟨S7x32x64, .f32⟩
  | 28 => ⟨S7x32x64, .f32⟩
  | 29 => ⟨S7x32x64, .f32⟩
  | 30 => ⟨S7x32x64, .f32⟩
  | 31 => ⟨S7x32x64, .f32⟩
  | 32 => ⟨S7x32x64, .f32⟩
  | 33 => ⟨S7x32x64, .f32⟩
  | 34 => ⟨S7x32x64, .f32⟩
  | 35 => ⟨S7x32x64, .f32⟩
  | 36 => ⟨S7x32x64, .f32⟩
  | 37 => ⟨S7x32x64, .f32⟩
  | 38 => ⟨S7x32x64, .f32⟩
  | 39 => ⟨S7x32x64, .f32⟩
  | 40 => ⟨S7x32x64, .f32⟩
  | 41 => ⟨S7x32x64, .f32⟩
  | 42 => ⟨S7x32x64, .f32⟩
  | 43 => ⟨S7x32x64, .f32⟩
  | 44 => ⟨S7x32x64, .f32⟩
  | 45 => ⟨S1x32x64, .f32⟩
  | 46 => ⟨S8x32x64, .f32⟩
  | 47 => ⟨S1x32x64, .f32⟩
  | 48 => ⟨S8x32x64, .f32⟩
  | 49 => ⟨S1x32x64, .f32⟩
  | 50 => ⟨S8x32x64, .f32⟩
  | 51 => ⟨S1x32x64, .f32⟩
  | 52 => ⟨S8x32x64, .f32⟩
  | 53 => ⟨S_, .f32⟩
  | 54 => ⟨S16x32x64, .f32⟩
  | 55 => ⟨S_, .f32⟩
  | 56 => ⟨S16x32x64, .f32⟩
  | 57 => ⟨S16x32x64, .f32⟩
  | 58 => ⟨S_, .f32⟩
  | 59 => ⟨S16x32x64, .f32⟩
  | 60 => ⟨S_, .f32⟩
  | 61 => ⟨S16x32x64, .f32⟩
  | 62 => ⟨S16x32x64, .f32⟩
  | 63 => ⟨S_, .f32⟩
  | 64 => ⟨S16x32x64, .f32⟩
  | 65 => ⟨S_, .f32⟩
  | 66 => ⟨S16x32x64, .f32⟩
  | 67 => ⟨S16x32x64, .f32⟩
  | 68 => ⟨S_, .f32⟩
  | 69 => ⟨S16x32x64, .f32⟩
  | 70 => ⟨S_, .f32⟩
  | 71 => ⟨S16x32x64, .f32⟩
  | 72 => ⟨S16x32x64, .f32⟩
  | 73 => ⟨S15x32x64, .f32⟩
  | 74 => ⟨S15x32x64, .f32⟩
  | 75 => ⟨S15x32x64, .f32⟩
  | 76 => ⟨S15x32x64, .f32⟩
  | 77 => ⟨S15x32x64, .f32⟩
  | 78 => ⟨S15x32x64, .f32⟩
  | 79 => ⟨S15x32x64, .f32⟩
  | 80 => ⟨S15x32x64, .f32⟩
  | 81 => ⟨S15x32x64, .f32⟩
  | 82 => ⟨S15x32x64, .f32⟩
  | 83 => ⟨S15x32x64, .f32⟩
  | 84 => ⟨S15x32x64, .f32⟩
  | 85 => ⟨S15x32x64, .f32⟩
  | 86 => ⟨S15x32x64, .f32⟩
  | 87 => ⟨S15x32x64, .f32⟩
  | 88 => ⟨S15x32x64, .f32⟩
  | 89 => ⟨S15x32x64, .f32⟩
  | 90 => ⟨S15x32x64, .f32⟩
  | 91 => ⟨S15x32x64, .f32⟩
  | 92 => ⟨S15x32x64, .f32⟩
  | 93 => ⟨S15x32x64, .f32⟩
  | 94 => ⟨S15x32x64, .f32⟩
  | 95 => ⟨S1x32x64, .f32⟩
  | 96 => ⟨S16x32x64, .f32⟩
  | 97 => ⟨S1x32x64, .f32⟩
  | 98 => ⟨S16x32x64, .f32⟩
  | 99 => ⟨S1x32x64, .f32⟩
  | 100 => ⟨S16x32x64, .f32⟩
  | 101 => ⟨S1x32x64, .f32⟩
  | 102 => ⟨S16x32x64, .f32⟩
  | 103 => ⟨S_, .f32⟩
  | 104 => ⟨S32x32x64, .f32⟩
  | 105 => ⟨S_, .f32⟩
  | 106 => ⟨S32x32x64, .f32⟩
  | 107 => ⟨S32x32x64, .f32⟩
  | 108 => ⟨S_, .f32⟩
  | 109 => ⟨S32x32x64, .f32⟩
  | 110 => ⟨S_, .f32⟩
  | 111 => ⟨S32x32x64, .f32⟩
  | 112 => ⟨S32x32x64, .f32⟩
  | 113 => ⟨S_, .f32⟩
  | 114 => ⟨S32x32x64, .f32⟩
  | 115 => ⟨S_, .f32⟩
  | 116 => ⟨S32x32x64, .f32⟩
  | 117 => ⟨S32x32x64, .f32⟩
  | 118 => ⟨S_, .f32⟩
  | 119 => ⟨S32x32x64, .f32⟩
  | 120 => ⟨S_, .f32⟩
  | 121 => ⟨S32x32x64, .f32⟩
  | 122 => ⟨S32x32x64, .f32⟩
  | 123 => ⟨S31x32x64, .f32⟩
  | 124 => ⟨S31x32x64, .f32⟩
  | 125 => ⟨S31x32x64, .f32⟩
  | 126 => ⟨S31x32x64, .f32⟩
  | 127 => ⟨S31x32x64, .f32⟩
  | _ => ⟨S2048x512, .f32⟩

abbrev hbmTy0_4 (i : Nat) : BufTy := match i % 128 with
  | 0 => ⟨S31x32x64, .f32⟩
  | 1 => ⟨S31x32x64, .f32⟩
  | 2 => ⟨S31x32x64, .f32⟩
  | 3 => ⟨S31x32x64, .f32⟩
  | 4 => ⟨S31x32x64, .f32⟩
  | 5 => ⟨S31x32x64, .f32⟩
  | 6 => ⟨S31x32x64, .f32⟩
  | 7 => ⟨S31x32x64, .f32⟩
  | 8 => ⟨S31x32x64, .f32⟩
  | 9 => ⟨S31x32x64, .f32⟩
  | 10 => ⟨S31x32x64, .f32⟩
  | 11 => ⟨S31x32x64, .f32⟩
  | 12 => ⟨S31x32x64, .f32⟩
  | 13 => ⟨S31x32x64, .f32⟩
  | 14 => ⟨S31x32x64, .f32⟩
  | 15 => ⟨S31x32x64, .f32⟩
  | 16 => ⟨S31x32x64, .f32⟩
  | 17 => ⟨S1x32x64, .f32⟩
  | 18 => ⟨S32x32x64, .f32⟩
  | 19 => ⟨S1x32x64, .f32⟩
  | 20 => ⟨S32x32x64, .f32⟩
  | 21 => ⟨S1x32x64, .f32⟩
  | 22 => ⟨S32x32x64, .f32⟩
  | 23 => ⟨S1x32x64, .f32⟩
  | 24 => ⟨S32x32x64, .f32⟩
  | 25 => ⟨S_, .f32⟩
  | 26 => ⟨S64x32x64, .f32⟩
  | 27 => ⟨S_, .f32⟩
  | 28 => ⟨S64x32x64, .f32⟩
  | 29 => ⟨S64x32x64, .f32⟩
  | 30 => ⟨S_, .f32⟩
  | 31 => ⟨S64x32x64, .f32⟩
  | 32 => ⟨S_, .f32⟩
  | 33 => ⟨S64x32x64, .f32⟩
  | 34 => ⟨S64x32x64, .f32⟩
  | 35 => ⟨S_, .f32⟩
  | 36 => ⟨S64x32x64, .f32⟩
  | 37 => ⟨S_, .f32⟩
  | 38 => ⟨S64x32x64, .f32⟩
  | 39 => ⟨S64x32x64, .f32⟩
  | 40 => ⟨S_, .f32⟩
  | 41 => ⟨S64x32x64, .f32⟩
  | 42 => ⟨S_, .f32⟩
  | 43 => ⟨S64x32x64, .f32⟩
  | 44 => ⟨S64x32x64, .f32⟩
  | 45 => ⟨S63x32x64, .f32⟩
  | 46 => ⟨S63x32x64, .f32⟩
  | 47 => ⟨S63x32x64, .f32⟩
  | 48 => ⟨S63x32x64, .f32⟩
  | 49 => ⟨S63x32x64, .f32⟩
  | 50 => ⟨S63x32x64, .f32⟩
  | 51 => ⟨S63x32x64, .f32⟩
  | 52 => ⟨S63x32x64, .f32⟩
  | 53 => ⟨S63x32x64, .f32⟩
  | 54 => ⟨S63x32x64, .f32⟩
  | 55 => ⟨S63x32x64, .f32⟩
  | 56 => ⟨S63x32x64, .f32⟩
  | 57 => ⟨S63x32x64, .f32⟩
  | 58 => ⟨S63x32x64, .f32⟩
  | 59 => ⟨S63x32x64, .f32⟩
  | 60 => ⟨S63x32x64, .f32⟩
  | 61 => ⟨S63x32x64, .f32⟩
  | 62 => ⟨S63x32x64, .f32⟩
  | 63 => ⟨S63x32x64, .f32⟩
  | 64 => ⟨S63x32x64, .f32⟩
  | 65 => ⟨S63x32x64, .f32⟩
  | 66 => ⟨S63x32x64, .f32⟩
  | 67 => ⟨S1x32x64, .f32⟩
  | 68 => ⟨S64x32x64, .f32⟩
  | 69 => ⟨S1x32x64, .f32⟩
  | 70 => ⟨S64x32x64, .f32⟩
  | 71 => ⟨S1x32x64, .f32⟩
  | 72 => ⟨S64x32x64, .f32⟩
  | 73 => ⟨S1x32x64, .f32⟩
  | 74 => ⟨S64x32x64, .f32⟩
  | 75 => ⟨S_, .f32⟩
  | 76 => ⟨S128x32x64, .f32⟩
  | 77 => ⟨S_, .f32⟩
  | 78 => ⟨S128x32x64, .f32⟩
  | 79 => ⟨S128x32x64, .f32⟩
  | 80 => ⟨S_, .f32⟩
  | 81 => ⟨S128x32x64, .f32⟩
  | 82 => ⟨S_, .f32⟩
  | 83 => ⟨S128x32x64, .f32⟩
  | 84 => ⟨S128x32x64, .f32⟩
  | 85 => ⟨S_, .f32⟩
  | 86 => ⟨S128x32x64, .f32⟩
  | 87 => ⟨S_, .f32⟩
  | 88 => ⟨S128x32x64, .f32⟩
  | 89 => ⟨S128x32x64, .f32⟩
  | 90 => ⟨S_, .f32⟩
  | 91 => ⟨S128x32x64, .f32⟩
  | 92 => ⟨S_, .f32⟩
  | 93 => ⟨S128x32x64, .f32⟩
  | 94 => ⟨S128x32x64, .f32⟩
  | 95 => ⟨S127x32x64, .f32⟩
  | 96 => ⟨S127x32x64, .f32⟩
  | 97 => ⟨S127x32x64, .f32⟩
  | 98 => ⟨S127x32x64, .f32⟩
  | 99 => ⟨S127x32x64, .f32⟩
  | 100 => ⟨S127x32x64, .f32⟩
  | 101 => ⟨S127x32x64, .f32⟩
  | 102 => ⟨S127x32x64, .f32⟩
  | 103 => ⟨S127x32x64, .f32⟩
  | 104 => ⟨S127x32x64, .f32⟩
  | 105 => ⟨S127x32x64, .f32⟩
  | 106 => ⟨S127x32x64, .f32⟩
  | 107 => ⟨S127x32x64, .f32⟩
  | 108 => ⟨S127x32x64, .f32⟩
  | 109 => ⟨S127x32x64, .f32⟩
  | 110 => ⟨S127x32x64, .f32⟩
  | 111 => ⟨S127x32x64, .f32⟩
  | 112 => ⟨S127x32x64, .f32⟩
  | 113 => ⟨S127x32x64, .f32⟩
  | 114 => ⟨S127x32x64, .f32⟩
  | 115 => ⟨S127x32x64, .f32⟩
  | 116 => ⟨S127x32x64, .f32⟩
  | 117 => ⟨S1x32x64, .f32⟩
  | 118 => ⟨S128x32x64, .f32⟩
  | 119 => ⟨S1x32x64, .f32⟩
  | 120 => ⟨S128x32x64, .f32⟩
  | 121 => ⟨S1x32x64, .f32⟩
  | 122 => ⟨S128x32x64, .f32⟩
  | 123 => ⟨S1x32x64, .f32⟩
  | 124 => ⟨S128x32x64, .f32⟩
  | 125 => ⟨S_, .f32⟩
  | 126 => ⟨S256x32x64, .f32⟩
  | 127 => ⟨S_, .f32⟩
  | _ => ⟨S2048x512, .f32⟩

abbrev hbmTy0_5 (i : Nat) : BufTy := match i % 128 with
  | 0 => ⟨S256x32x64, .f32⟩
  | 1 => ⟨S256x32x64, .f32⟩
  | 2 => ⟨S_, .f32⟩
  | 3 => ⟨S256x32x64, .f32⟩
  | 4 => ⟨S_, .f32⟩
  | 5 => ⟨S256x32x64, .f32⟩
  | 6 => ⟨S256x32x64, .f32⟩
  | 7 => ⟨S_, .f32⟩
  | 8 => ⟨S256x32x64, .f32⟩
  | 9 => ⟨S_, .f32⟩
  | 10 => ⟨S256x32x64, .f32⟩
  | 11 => ⟨S256x32x64, .f32⟩
  | 12 => ⟨S_, .f32⟩
  | 13 => ⟨S256x32x64, .f32⟩
  | 14 => ⟨S_, .f32⟩
  | 15 => ⟨S256x32x64, .f32⟩
  | 16 => ⟨S256x32x64, .f32⟩
  | 17 => ⟨S255x32x64, .f32⟩
  | 18 => ⟨S255x32x64, .f32⟩
  | 19 => ⟨S255x32x64, .f32⟩
  | 20 => ⟨S255x32x64, .f32⟩
  | 21 => ⟨S255x32x64, .f32⟩
  | 22 => ⟨S255x32x64, .f32⟩
  | 23 => ⟨S255x32x64, .f32⟩
  | 24 => ⟨S255x32x64, .f32⟩
  | 25 => ⟨S255x32x64, .f32⟩
  | 26 => ⟨S255x32x64, .f32⟩
  | 27 => ⟨S255x32x64, .f32⟩
  | 28 => ⟨S255x32x64, .f32⟩
  | 29 => ⟨S255x32x64, .f32⟩
  | 30 => ⟨S255x32x64, .f32⟩
  | 31 => ⟨S255x32x64, .f32⟩
  | 32 => ⟨S255x32x64, .f32⟩
  | 33 => ⟨S255x32x64, .f32⟩
  | 34 => ⟨S255x32x64, .f32⟩
  | 35 => ⟨S255x32x64, .f32⟩
  | 36 => ⟨S255x32x64, .f32⟩
  | 37 => ⟨S255x32x64, .f32⟩
  | 38 => ⟨S255x32x64, .f32⟩
  | 39 => ⟨S1x32x64, .f32⟩
  | 40 => ⟨S256x32x64, .f32⟩
  | 41 => ⟨S1x32x64, .f32⟩
  | 42 => ⟨S256x32x64, .f32⟩
  | 43 => ⟨S1x32x64, .f32⟩
  | 44 => ⟨S256x32x64, .f32⟩
  | 45 => ⟨S1x32x64, .f32⟩
  | 46 => ⟨S256x32x64, .f32⟩
  | 47 => ⟨S_, .f32⟩
  | 48 => ⟨S512x32x64, .f32⟩
  | 49 => ⟨S_, .f32⟩
  | 50 => ⟨S512x32x64, .f32⟩
  | 51 => ⟨S512x32x64, .f32⟩
  | 52 => ⟨S_, .f32⟩
  | 53 => ⟨S512x32x64, .f32⟩
  | 54 => ⟨S_, .f32⟩
  | 55 => ⟨S512x32x64, .f32⟩
  | 56 => ⟨S512x32x64, .f32⟩
  | 57 => ⟨S_, .f32⟩
  | 58 => ⟨S512x32x64, .f32⟩
  | 59 => ⟨S_, .f32⟩
  | 60 => ⟨S512x32x64, .f32⟩
  | 61 => ⟨S512x32x64, .f32⟩
  | 62 => ⟨S_, .f32⟩
  | 63 => ⟨S512x32x64, .f32⟩
  | 64 => ⟨S_, .f32⟩
  | 65 => ⟨S512x32x64, .f32⟩
  | 66 => ⟨S512x32x64, .f32⟩
  | 67 => ⟨S511x32x64, .f32⟩
  | 68 => ⟨S511x32x64, .f32⟩
  | 69 => ⟨S511x32x64, .f32⟩
  | 70 => ⟨S511x32x64, .f32⟩
  | 71 => ⟨S511x32x64, .f32⟩
  | 72 => ⟨S511x32x64, .f32⟩
  | 73 => ⟨S511x32x64, .f32⟩
  | 74 => ⟨S511x32x64, .f32⟩
  | 75 => ⟨S511x32x64, .f32⟩
  | 76 => ⟨S511x32x64, .f32⟩
  | 77 => ⟨S511x32x64, .f32⟩
  | 78 => ⟨S511x32x64, .f32⟩
  | 79 => ⟨S511x32x64, .f32⟩
  | 80 => ⟨S511x32x64, .f32⟩
  | 81 => ⟨S511x32x64, .f32⟩
  | 82 => ⟨S511x32x64, .f32⟩
  | 83 => ⟨S511x32x64, .f32⟩
  | 84 => ⟨S511x32x64, .f32⟩
  | 85 => ⟨S511x32x64, .f32⟩
  | 86 => ⟨S511x32x64, .f32⟩
  | 87 => ⟨S511x32x64, .f32⟩
  | 88 => ⟨S511x32x64, .f32⟩
  | 89 => ⟨S1x32x64, .f32⟩
  | 90 => ⟨S512x32x64, .f32⟩
  | 91 => ⟨S1x32x64, .f32⟩
  | 92 => ⟨S512x32x64, .f32⟩
  | 93 => ⟨S1x32x64, .f32⟩
  | 94 => ⟨S512x32x64, .f32⟩
  | 95 => ⟨S1x32x64, .f32⟩
  | 96 => ⟨S512x32x64, .f32⟩
  | 97 => ⟨S_, .f32⟩
  | 98 => ⟨S1024x32x64, .f32⟩
  | 99 => ⟨S_, .f32⟩
  | 100 => ⟨S1024x32x64, .f32⟩
  | 101 => ⟨S1024x32x64, .f32⟩
  | 102 => ⟨S_, .f32⟩
  | 103 => ⟨S1024x32x64, .f32⟩
  | 104 => ⟨S_, .f32⟩
  | 105 => ⟨S1024x32x64, .f32⟩
  | 106 => ⟨S1024x32x64, .f32⟩
  | 107 => ⟨S_, .f32⟩
  | 108 => ⟨S1024x32x64, .f32⟩
  | 109 => ⟨S_, .f32⟩
  | 110 => ⟨S1024x32x64, .f32⟩
  | 111 => ⟨S1024x32x64, .f32⟩
  | 112 => ⟨S_, .f32⟩
  | 113 => ⟨S1024x32x64, .f32⟩
  | 114 => ⟨S_, .f32⟩
  | 115 => ⟨S1024x32x64, .f32⟩
  | 116 => ⟨S1024x32x64, .f32⟩
  | 117 => ⟨S1023x32x64, .f32⟩
  | 118 => ⟨S1023x32x64, .f32⟩
  | 119 => ⟨S1023x32x64, .f32⟩
  | 120 => ⟨S1023x32x64, .f32⟩
  | 121 => ⟨S1023x32x64, .f32⟩
  | 122 => ⟨S1023x32x64, .f32⟩
  | 123 => ⟨S1023x32x64, .f32⟩
  | 124 => ⟨S1023x32x64, .f32⟩
  | 125 => ⟨S1023x32x64, .f32⟩
  | 126 => ⟨S1023x32x64, .f32⟩
  | 127 => ⟨S1023x32x64, .f32⟩
  | _ => ⟨S2048x512, .f32⟩

abbrev hbmTy0_6 (i : Nat) : BufTy := match i % 128 with
  | 0 => ⟨S1023x32x64, .f32⟩
  | 1 => ⟨S1023x32x64, .f32⟩
  | 2 => ⟨S1023x32x64, .f32⟩
  | 3 => ⟨S1023x32x64, .f32⟩
  | 4 => ⟨S1023x32x64, .f32⟩
  | 5 => ⟨S1023x32x64, .f32⟩
  | 6 => ⟨S1023x32x64, .f32⟩
  | 7 => ⟨S1023x32x64, .f32⟩
  | 8 => ⟨S1023x32x64, .f32⟩
  | 9 => ⟨S1023x32x64, .f32⟩
  | 10 => ⟨S1023x32x64, .f32⟩
  | 11 => ⟨S1x32x64, .f32⟩
  | 12 => ⟨S1024x32x64, .f32⟩
  | 13 => ⟨S1x32x64, .f32⟩
  | 14 => ⟨S1024x32x64, .f32⟩
  | 15 => ⟨S1x32x64, .f32⟩
  | 16 => ⟨S1024x32x64, .f32⟩
  | 17 => ⟨S1x32x64, .f32⟩
  | 18 => ⟨S1024x32x64, .f32⟩
  | 19 => ⟨S_, .f32⟩
  | 20 => ⟨S2048x32x64, .f32⟩
  | 21 => ⟨S_, .f32⟩
  | 22 => ⟨S2048x32x64, .f32⟩
  | 23 => ⟨S2048x32x64, .f32⟩
  | 24 => ⟨S_, .f32⟩
  | 25 => ⟨S2048x32x64, .f32⟩
  | 26 => ⟨S_, .f32⟩
  | 27 => ⟨S2048x32x64, .f32⟩
  | 28 => ⟨S2048x32x64, .f32⟩
  | 29 => ⟨S_, .f32⟩
  | 30 => ⟨S2048x32x64, .f32⟩
  | 31 => ⟨S_, .f32⟩
  | 32 => ⟨S2048x32x64, .f32⟩
  | 33 => ⟨S2048x32x64, .f32⟩
  | 34 => ⟨S_, .f32⟩
  | 35 => ⟨S2048x32x64, .f32⟩
  | 36 => ⟨S_, .f32⟩
  | 37 => ⟨S2048x32x64, .f32⟩
  | 38 => ⟨S2048x32x64, .f32⟩
  | 39 => ⟨S_, .f32⟩
  | 40 => ⟨S32x16x64, .f32⟩
  | 41 => ⟨S32x2048x16, .f32⟩
  | 42 => ⟨S2048x32x16, .f32⟩
  | 43 => ⟨S32x2048x16, .f32⟩
  | 44 => ⟨S2048x32x16, .f32⟩
  | 45 => ⟨S2048x32x16, .f32⟩
  | 46 => ⟨S2048x512, .f32⟩
  | 47 => ⟨S2048x32x16, .f32⟩
  | 48 => ⟨S32x2048x16, .f32⟩
  | 49 => ⟨S32x16x64, .f32⟩
  | 50 => ⟨S32x2048x16, .f32⟩
  | 51 => ⟨S32x16x64, .f32⟩
  | 52 => ⟨S32x64x16, .f32⟩
  | 53 => ⟨S16x128x1x16, .f32⟩
  | 54 => ⟨S16x128x8x16, .f32⟩
  | 55 => ⟨S16x128x128, .f32⟩
  | 56 => ⟨S32x64x16, .f32⟩
  | 57 => ⟨S16x128x1x16, .f32⟩
  | 58 => ⟨S16x128x8x16, .f32⟩
  | 59 => ⟨S16x128x128, .f32⟩
  | _ => ⟨S2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩
abbrev main_v261 : Ref sig .tc := ⟨.hbm, 269, rfl⟩
abbrev main_v262 : Ref sig .tc := ⟨.hbm, 270, rfl⟩
abbrev main_v263 : Ref sig .tc := ⟨.hbm, 271, rfl⟩
abbrev main_v264 : Ref sig .tc := ⟨.hbm, 272, rfl⟩
abbrev main_v265 : Ref sig .tc := ⟨.hbm, 273, rfl⟩
abbrev main_v266 : Ref sig .tc := ⟨.hbm, 274, rfl⟩
abbrev main_v267 : Ref sig .tc := ⟨.hbm, 275, rfl⟩
abbrev main_v268 : Ref sig .tc := ⟨.hbm, 276, rfl⟩
abbrev main_v269 : Ref sig .tc := ⟨.hbm, 277, rfl⟩
abbrev main_v270 : Ref sig .tc := ⟨.hbm, 278, rfl⟩
abbrev main_v271 : Ref sig .tc := ⟨.hbm, 279, rfl⟩
abbrev main_v272 : Ref sig .tc := ⟨.hbm, 280, rfl⟩
abbrev main_v273 : Ref sig .tc := ⟨.hbm, 281, rfl⟩
abbrev main_v274 : Ref sig .tc := ⟨.hbm, 282, rfl⟩
abbrev main_v275 : Ref sig .tc := ⟨.hbm, 283, rfl⟩
abbrev main_v276 : Ref sig .tc := ⟨.hbm, 284, rfl⟩
abbrev main_v277 : Ref sig .tc := ⟨.hbm, 285, rfl⟩
abbrev main_v278 : Ref sig .tc := ⟨.hbm, 286, rfl⟩
abbrev main_cst : Ref sig .tc := ⟨.hbm, 287, rfl⟩
abbrev main_v279 : Ref sig .tc := ⟨.hbm, 288, rfl⟩
abbrev main_cst_0 : Ref sig .tc := ⟨.hbm, 289, rfl⟩
abbrev main_v280 : Ref sig .tc := ⟨.hbm, 290, rfl⟩
abbrev main_v281 : Ref sig .tc := ⟨.hbm, 291, rfl⟩
abbrev main_cst_1 : Ref sig .tc := ⟨.hbm, 292, rfl⟩
abbrev main_v282 : Ref sig .tc := ⟨.hbm, 293, rfl⟩
abbrev main_cst_2 : Ref sig .tc := ⟨.hbm, 294, rfl⟩
abbrev main_v283 : Ref sig .tc := ⟨.hbm, 295, rfl⟩
abbrev main_v284 : Ref sig .tc := ⟨.hbm, 296, rfl⟩
abbrev main_cst_3 : Ref sig .tc := ⟨.hbm, 297, rfl⟩
abbrev main_v285 : Ref sig .tc := ⟨.hbm, 298, rfl⟩
abbrev main_cst_4 : Ref sig .tc := ⟨.hbm, 299, rfl⟩
abbrev main_v286 : Ref sig .tc := ⟨.hbm, 300, rfl⟩
abbrev main_v287 : Ref sig .tc := ⟨.hbm, 301, rfl⟩
abbrev main_cst_5 : Ref sig .tc := ⟨.hbm, 302, rfl⟩
abbrev main_v288 : Ref sig .tc := ⟨.hbm, 303, rfl⟩
abbrev main_cst_6 : Ref sig .tc := ⟨.hbm, 304, rfl⟩
abbrev main_v289 : Ref sig .tc := ⟨.hbm, 305, rfl⟩
abbrev main_v290 : Ref sig .tc := ⟨.hbm, 306, rfl⟩
abbrev main_v291 : Ref sig .tc := ⟨.hbm, 307, rfl⟩
abbrev main_v292 : Ref sig .tc := ⟨.hbm, 308, rfl⟩
abbrev main_v293 : Ref sig .tc := ⟨.hbm, 309, rfl⟩
abbrev main_v294 : Ref sig .tc := ⟨.hbm, 310, rfl⟩
abbrev main_v295 : Ref sig .tc := ⟨.hbm, 311, rfl⟩
abbrev main_v296 : Ref sig .tc := ⟨.hbm, 312, rfl⟩
abbrev main_v297 : Ref sig .tc := ⟨.hbm, 313, rfl⟩
abbrev main_v298 : Ref sig .tc := ⟨.hbm, 314, rfl⟩
abbrev main_v299 : Ref sig .tc := ⟨.hbm, 315, rfl⟩
abbrev main_v300 : Ref sig .tc := ⟨.hbm, 316, rfl⟩
abbrev main_v301 : Ref sig .tc := ⟨.hbm, 317, rfl⟩
abbrev main_v302 : Ref sig .tc := ⟨.hbm, 318, rfl⟩
abbrev main_v303 : Ref sig .tc := ⟨.hbm, 319, rfl⟩
abbrev main_v304 : Ref sig .tc := ⟨.hbm, 320, rfl⟩
abbrev main_v305 : Ref sig .tc := ⟨.hbm, 321, rfl⟩
abbrev main_v306 : Ref sig .tc := ⟨.hbm, 322, rfl⟩
abbrev main_v307 : Ref sig .tc := ⟨.hbm, 323, rfl⟩
abbrev main_v308 : Ref sig .tc := ⟨.hbm, 324, rfl⟩
abbrev main_v309 : Ref sig .tc := ⟨.hbm, 325, rfl⟩
abbrev main_v310 : Ref sig .tc := ⟨.hbm, 326, rfl⟩
abbrev main_v311 : Ref sig .tc := ⟨.hbm, 327, rfl⟩
abbrev main_v312 : Ref sig .tc := ⟨.hbm, 328, rfl⟩
abbrev main_v313 : Ref sig .tc := ⟨.hbm, 329, rfl⟩
abbrev main_v314 : Ref sig .tc := ⟨.hbm, 330, rfl⟩
abbrev main_v315 : Ref sig .tc := ⟨.hbm, 331, rfl⟩
abbrev main_v316 : Ref sig .tc := ⟨.hbm, 332, rfl⟩
abbrev main_v317 : Ref sig .tc := ⟨.hbm, 333, rfl⟩
abbrev main_v318 : Ref sig .tc := ⟨.hbm, 334, rfl⟩
abbrev main_v319 : Ref sig .tc := ⟨.hbm, 335, rfl⟩
abbrev main_v320 : Ref sig .tc := ⟨.hbm, 336, rfl⟩
abbrev main_cst_7 : Ref sig .tc := ⟨.hbm, 337, rfl⟩
abbrev main_v321 : Ref sig .tc := ⟨.hbm, 338, rfl⟩
abbrev main_cst_8 : Ref sig .tc := ⟨.hbm, 339, rfl⟩
abbrev main_v322 : Ref sig .tc := ⟨.hbm, 340, rfl⟩
abbrev main_v323 : Ref sig .tc := ⟨.hbm, 341, rfl⟩
abbrev main_cst_9 : Ref sig .tc := ⟨.hbm, 342, rfl⟩
abbrev main_v324 : Ref sig .tc := ⟨.hbm, 343, rfl⟩
abbrev main_cst_10 : Ref sig .tc := ⟨.hbm, 344, rfl⟩
abbrev main_v325 : Ref sig .tc := ⟨.hbm, 345, rfl⟩
abbrev main_v326 : Ref sig .tc := ⟨.hbm, 346, rfl⟩
abbrev main_cst_11 : Ref sig .tc := ⟨.hbm, 347, rfl⟩
abbrev main_v327 : Ref sig .tc := ⟨.hbm, 348, rfl⟩
abbrev main_cst_12 : Ref sig .tc := ⟨.hbm, 349, rfl⟩
abbrev main_v328 : Ref sig .tc := ⟨.hbm, 350, rfl⟩
abbrev main_v329 : Ref sig .tc := ⟨.hbm, 351, rfl⟩
abbrev main_cst_13 : Ref sig .tc := ⟨.hbm, 352, rfl⟩
abbrev main_v330 : Ref sig .tc := ⟨.hbm, 353, rfl⟩
abbrev main_cst_14 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_v354 : Ref sig .tc := ⟨.hbm, 378, rfl⟩
abbrev main_v355 : Ref sig .tc := ⟨.hbm, 379, rfl⟩
abbrev main_v356 : Ref sig .tc := ⟨.hbm, 380, rfl⟩
abbrev main_v357 : Ref sig .tc := ⟨.hbm, 381, rfl⟩
abbrev main_v358 : Ref sig .tc := ⟨.hbm, 382, rfl⟩
abbrev main_v359 : Ref sig .tc := ⟨.hbm, 383, rfl⟩
abbrev main_v360 : Ref sig .tc := ⟨.hbm, 384, rfl⟩
abbrev main_v361 : Ref sig .tc := ⟨.hbm, 385, rfl⟩
abbrev main_v362 : Ref sig .tc := ⟨.hbm, 386, rfl⟩
abbrev main_cst_15 : Ref sig .tc := ⟨.hbm, 387, rfl⟩
abbrev main_v363 : Ref sig .tc := ⟨.hbm, 388, rfl⟩
abbrev main_cst_16 : Ref sig .tc := ⟨.hbm, 389, rfl⟩
abbrev main_v364 : Ref sig .tc := ⟨.hbm, 390, rfl⟩
abbrev main_v365 : Ref sig .tc := ⟨.hbm, 391, rfl⟩
abbrev main_cst_17 : Ref sig .tc := ⟨.hbm, 392, rfl⟩
abbrev main_v366 : Ref sig .tc := ⟨.hbm, 393, rfl⟩
abbrev main_cst_18 : Ref sig .tc := ⟨.hbm, 394, rfl⟩
abbrev main_v367 : Ref sig .tc := ⟨.hbm, 395, rfl⟩
abbrev main_v368 : Ref sig .tc := ⟨.hbm, 396, rfl⟩
abbrev main_cst_19 : Ref sig .tc := ⟨.hbm, 397, rfl⟩
abbrev main_v369 : Ref sig .tc := ⟨.hbm, 398, rfl⟩
abbrev main_cst_20 : Ref sig .tc := ⟨.hbm, 399, rfl⟩
abbrev main_v370 : Ref sig .tc := ⟨.hbm, 400, rfl⟩
abbrev main_v371 : Ref sig .tc := ⟨.hbm, 401, rfl⟩
abbrev main_cst_21 : Ref sig .tc := ⟨.hbm, 402, rfl⟩
abbrev main_v372 : Ref sig .tc := ⟨.hbm, 403, rfl⟩
abbrev main_cst_22 : Ref sig .tc := ⟨.hbm, 404, rfl⟩
abbrev main_v373 : Ref sig .tc := ⟨.hbm, 405, rfl⟩
abbrev main_v374 : Ref sig .tc := ⟨.hbm, 406, rfl⟩
abbrev main_v375 : Ref sig .tc := ⟨.hbm, 407, rfl⟩
abbrev main_v376 : Ref sig .tc := ⟨.hbm, 408, rfl⟩
abbrev main_v377 : Ref sig .tc := ⟨.hbm, 409, rfl⟩
abbrev main_v378 : Ref sig .tc := ⟨.hbm, 410, rfl⟩
abbrev main_v379 : Ref sig .tc := ⟨.hbm, 411, rfl⟩
abbrev main_v380 : Ref sig .tc := ⟨.hbm, 412, rfl⟩
abbrev main_v381 : Ref sig .tc := ⟨.hbm, 413, rfl⟩
abbrev main_v382 : Ref sig .tc := ⟨.hbm, 414, rfl⟩
abbrev main_v383 : Ref sig .tc := ⟨.hbm, 415, rfl⟩
abbrev main_v384 : Ref sig .tc := ⟨.hbm, 416, rfl⟩
abbrev main_v385 : Ref sig .tc := ⟨.hbm, 417, rfl⟩
abbrev main_v386 : Ref sig .tc := ⟨.hbm, 418, rfl⟩
abbrev main_v387 : Ref sig .tc := ⟨.hbm, 419, rfl⟩
abbrev main_v388 : Ref sig .tc := ⟨.hbm, 420, rfl⟩
abbrev main_v389 : Ref sig .tc := ⟨.hbm, 421, rfl⟩
abbrev main_v390 : Ref sig .tc := ⟨.hbm, 422, rfl⟩
abbrev main_v391 : Ref sig .tc := ⟨.hbm, 423, rfl⟩
abbrev main_v392 : Ref sig .tc := ⟨.hbm, 424, rfl⟩
abbrev main_v393 : Ref sig .tc := ⟨.hbm, 425, rfl⟩
abbrev main_v394 : Ref sig .tc := ⟨.hbm, 426, rfl⟩
abbrev main_v395 : Ref sig .tc := ⟨.hbm, 427, rfl⟩
abbrev main_v396 : Ref sig .tc := ⟨.hbm, 428, rfl⟩
abbrev main_v397 : Ref sig .tc := ⟨.hbm, 429, rfl⟩
abbrev main_v398 : Ref sig .tc := ⟨.hbm, 430, rfl⟩
abbrev main_v399 : Ref sig .tc := ⟨.hbm, 431, rfl⟩
abbrev main_v400 : Ref sig .tc := ⟨.hbm, 432, rfl⟩
abbrev main_v401 : Ref sig .tc := ⟨.hbm, 433, rfl⟩
abbrev main_v402 : Ref sig .tc := ⟨.hbm, 434, rfl⟩
abbrev main_v403 : Ref sig .tc := ⟨.hbm, 435, rfl⟩
abbrev main_v404 : Ref sig .tc := ⟨.hbm, 436, rfl⟩
abbrev main_cst_23 : Ref sig .tc := ⟨.hbm, 437, rfl⟩
abbrev main_v405 : Ref sig .tc := ⟨.hbm, 438, rfl⟩
abbrev main_cst_24 : Ref sig .tc := ⟨.hbm, 439, rfl⟩
abbrev main_v406 : Ref sig .tc := ⟨.hbm, 440, rfl⟩
abbrev main_v407 : Ref sig .tc := ⟨.hbm, 441, rfl⟩
abbrev main_cst_25 : Ref sig .tc := ⟨.hbm, 442, rfl⟩
abbrev main_v408 : Ref sig .tc := ⟨.hbm, 443, rfl⟩
abbrev main_cst_26 : Ref sig .tc := ⟨.hbm, 444, rfl⟩
abbrev main_v409 : Ref sig .tc := ⟨.hbm, 445, rfl⟩
abbrev main_v410 : Ref sig .tc := ⟨.hbm, 446, rfl⟩
abbrev main_cst_27 : Ref sig .tc := ⟨.hbm, 447, rfl⟩
abbrev main_v411 : Ref sig .tc := ⟨.hbm, 448, rfl⟩
abbrev main_cst_28 : Ref sig .tc := ⟨.hbm, 449, rfl⟩
abbrev main_v412 : Ref sig .tc := ⟨.hbm, 450, rfl⟩
abbrev main_v413 : Ref sig .tc := ⟨.hbm, 451, rfl⟩
abbrev main_cst_29 : Ref sig .tc := ⟨.hbm, 452, rfl⟩
abbrev main_v414 : Ref sig .tc := ⟨.hbm, 453, rfl⟩
abbrev main_cst_30 : Ref sig .tc := ⟨.hbm, 454, rfl⟩
abbrev main_v415 : Ref sig .tc := ⟨.hbm, 455, rfl⟩
abbrev main_v416 : Ref sig .tc := ⟨.hbm, 456, rfl⟩
abbrev main_v417 : Ref sig .tc := ⟨.hbm, 457, rfl⟩
abbrev main_v418 : Ref sig .tc := ⟨.hbm, 458, rfl⟩
abbrev main_v419 : Ref sig .tc := ⟨.hbm, 459, rfl⟩
abbrev main_v420 : Ref sig .tc := ⟨.hbm, 460, rfl⟩
abbrev main_v421 : Ref sig .tc := ⟨.hbm, 461, rfl⟩
abbrev main_v422 : Ref sig .tc := ⟨.hbm, 462, rfl⟩
abbrev main_v423 : Ref sig .tc := ⟨.hbm, 463, rfl⟩
abbrev main_v424 : Ref sig .tc := ⟨.hbm, 464, rfl⟩
abbrev main_v425 : Ref sig .tc := ⟨.hbm, 465, rfl⟩
abbrev main_v426 : Ref sig .tc := ⟨.hbm, 466, rfl⟩
abbrev main_v427 : Ref sig .tc := ⟨.hbm, 467, rfl⟩
abbrev main_v428 : Ref sig .tc := ⟨.hbm, 468, rfl⟩
abbrev main_v429 : Ref sig .tc := ⟨.hbm, 469, rfl⟩
abbrev main_v430 : Ref sig .tc := ⟨.hbm, 470, rfl⟩
abbrev main_v431 : Ref sig .tc := ⟨.hbm, 471, rfl⟩
abbrev main_v432 : Ref sig .tc := ⟨.hbm, 472, rfl⟩
abbrev main_v433 : Ref sig .tc := ⟨.hbm, 473, rfl⟩
abbrev main_v434 : Ref sig .tc := ⟨.hbm, 474, rfl⟩
abbrev main_v435 : Ref sig .tc := ⟨.hbm, 475, rfl⟩
abbrev main_v436 : Ref sig .tc := ⟨.hbm, 476, rfl⟩
abbrev main_v437 : Ref sig .tc := ⟨.hbm, 477, rfl⟩
abbrev main_v438 : Ref sig .tc := ⟨.hbm, 478, rfl⟩
abbrev main_v439 : Ref sig .tc := ⟨.hbm, 479, rfl⟩
abbrev main_v440 : Ref sig .tc := ⟨.hbm, 480, rfl⟩
abbrev main_v441 : Ref sig .tc := ⟨.hbm, 481, rfl⟩
abbrev main_v442 : Ref sig .tc := ⟨.hbm, 482, rfl⟩
abbrev main_v443 : Ref sig .tc := ⟨.hbm, 483, rfl⟩
abbrev main_v444 : Ref sig .tc := ⟨.hbm, 484, rfl⟩
abbrev main_v445 : Ref sig .tc := ⟨.hbm, 485, rfl⟩
abbrev main_v446 : Ref sig .tc := ⟨.hbm, 486, rfl⟩
abbrev main_cst_31 : Ref sig .tc := ⟨.hbm, 487, rfl⟩
abbrev main_v447 : Ref sig .tc := ⟨.hbm, 488, rfl⟩
abbrev main_cst_32 : Ref sig .tc := ⟨.hbm, 489, rfl⟩
abbrev main_v448 : Ref sig .tc := ⟨.hbm, 490, rfl⟩
abbrev main_v449 : Ref sig .tc := ⟨.hbm, 491, rfl⟩
abbrev main_cst_33 : Ref sig .tc := ⟨.hbm, 492, rfl⟩
abbrev main_v450 : Ref sig .tc := ⟨.hbm, 493, rfl⟩
abbrev main_cst_34 : Ref sig .tc := ⟨.hbm, 494, rfl⟩
abbrev main_v451 : Ref sig .tc := ⟨.hbm, 495, rfl⟩
abbrev main_v452 : Ref sig .tc := ⟨.hbm, 496, rfl⟩
abbrev main_cst_35 : Ref sig .tc := ⟨.hbm, 497, rfl⟩
abbrev main_v453 : Ref sig .tc := ⟨.hbm, 498, rfl⟩
abbrev main_cst_36 : Ref sig .tc := ⟨.hbm, 499, rfl⟩
abbrev main_v454 : Ref sig .tc := ⟨.hbm, 500, rfl⟩
abbrev main_v455 : Ref sig .tc := ⟨.hbm, 501, rfl⟩
abbrev main_cst_37 : Ref sig .tc := ⟨.hbm, 502, rfl⟩
abbrev main_v456 : Ref sig .tc := ⟨.hbm, 503, rfl⟩
abbrev main_cst_38 : Ref sig .tc := ⟨.hbm, 504, rfl⟩
abbrev main_v457 : Ref sig .tc := ⟨.hbm, 505, rfl⟩
abbrev main_v458 : Ref sig .tc := ⟨.hbm, 506, rfl⟩
abbrev main_v459 : Ref sig .tc := ⟨.hbm, 507, rfl⟩
abbrev main_v460 : Ref sig .tc := ⟨.hbm, 508, rfl⟩
abbrev main_v461 : Ref sig .tc := ⟨.hbm, 509, rfl⟩
abbrev main_v462 : Ref sig .tc := ⟨.hbm, 510, rfl⟩
abbrev main_v463 : Ref sig .tc := ⟨.hbm, 511, rfl⟩
abbrev main_v464 : Ref sig .tc := ⟨.hbm, 512, rfl⟩
abbrev main_v465 : Ref sig .tc := ⟨.hbm, 513, rfl⟩
abbrev main_v466 : Ref sig .tc := ⟨.hbm, 514, rfl⟩
abbrev main_v467 : Ref sig .tc := ⟨.hbm, 515, rfl⟩
abbrev main_v468 : Ref sig .tc := ⟨.hbm, 516, rfl⟩
abbrev main_v469 : Ref sig .tc := ⟨.hbm, 517, rfl⟩
abbrev main_v470 : Ref sig .tc := ⟨.hbm, 518, rfl⟩
abbrev main_v471 : Ref sig .tc := ⟨.hbm, 519, rfl⟩
abbrev main_v472 : Ref sig .tc := ⟨.hbm, 520, rfl⟩
abbrev main_v473 : Ref sig .tc := ⟨.hbm, 521, rfl⟩
abbrev main_v474 : Ref sig .tc := ⟨.hbm, 522, rfl⟩
abbrev main_v475 : Ref sig .tc := ⟨.hbm, 523, rfl⟩
abbrev main_v476 : Ref sig .tc := ⟨.hbm, 524, rfl⟩
abbrev main_v477 : Ref sig .tc := ⟨.hbm, 525, rfl⟩
abbrev main_v478 : Ref sig .tc := ⟨.hbm, 526, rfl⟩
abbrev main_v479 : Ref sig .tc := ⟨.hbm, 527, rfl⟩
abbrev main_v480 : Ref sig .tc := ⟨.hbm, 528, rfl⟩
abbrev main_v481 : Ref sig .tc := ⟨.hbm, 529, rfl⟩
abbrev main_v482 : Ref sig .tc := ⟨.hbm, 530, rfl⟩
abbrev main_v483 : Ref sig .tc := ⟨.hbm, 531, rfl⟩
abbrev main_v484 : Ref sig .tc := ⟨.hbm, 532, rfl⟩
abbrev main_v485 : Ref sig .tc := ⟨.hbm, 533, rfl⟩
abbrev main_v486 : Ref sig .tc := ⟨.hbm, 534, rfl⟩
abbrev main_v487 : Ref sig .tc := ⟨.hbm, 535, rfl⟩
abbrev main_v488 : Ref sig .tc := ⟨.hbm, 536, rfl⟩
abbrev main_cst_39 : Ref sig .tc := ⟨.hbm, 537, rfl⟩
abbrev main_v489 : Ref sig .tc := ⟨.hbm, 538, rfl⟩
abbrev main_cst_40 : Ref sig .tc := ⟨.hbm, 539, rfl⟩
abbrev main_v490 : Ref sig .tc := ⟨.hbm, 540, rfl⟩
abbrev main_v491 : Ref sig .tc := ⟨.hbm, 541, rfl⟩
abbrev main_cst_41 : Ref sig .tc := ⟨.hbm, 542, rfl⟩
abbrev main_v492 : Ref sig .tc := ⟨.hbm, 543, rfl⟩
abbrev main_cst_42 : Ref sig .tc := ⟨.hbm, 544, rfl⟩
abbrev main_v493 : Ref sig .tc := ⟨.hbm, 545, rfl⟩
abbrev main_v494 : Ref sig .tc := ⟨.hbm, 546, rfl⟩
abbrev main_cst_43 : Ref sig .tc := ⟨.hbm, 547, rfl⟩
abbrev main_v495 : Ref sig .tc := ⟨.hbm, 548, rfl⟩
abbrev main_cst_44 : Ref sig .tc := ⟨.hbm, 549, rfl⟩
abbrev main_v496 : Ref sig .tc := ⟨.hbm, 550, rfl⟩
abbrev main_v497 : Ref sig .tc := ⟨.hbm, 551, rfl⟩
abbrev main_cst_45 : Ref sig .tc := ⟨.hbm, 552, rfl⟩
abbrev main_v498 : Ref sig .tc := ⟨.hbm, 553, rfl⟩
abbrev main_cst_46 : Ref sig .tc := ⟨.hbm, 554, rfl⟩
abbrev main_v499 : Ref sig .tc := ⟨.hbm, 555, rfl⟩
abbrev main_v500 : Ref sig .tc := ⟨.hbm, 556, rfl⟩
abbrev main_v501 : Ref sig .tc := ⟨.hbm, 557, rfl⟩
abbrev main_v502 : Ref sig .tc := ⟨.hbm, 558, rfl⟩
abbrev main_v503 : Ref sig .tc := ⟨.hbm, 559, rfl⟩
abbrev main_v504 : Ref sig .tc := ⟨.hbm, 560, rfl⟩
abbrev main_v505 : Ref sig .tc := ⟨.hbm, 561, rfl⟩
abbrev main_v506 : Ref sig .tc := ⟨.hbm, 562, rfl⟩
abbrev main_v507 : Ref sig .tc := ⟨.hbm, 563, rfl⟩
abbrev main_v508 : Ref sig .tc := ⟨.hbm, 564, rfl⟩
abbrev main_v509 : Ref sig .tc := ⟨.hbm, 565, rfl⟩
abbrev main_v510 : Ref sig .tc := ⟨.hbm, 566, rfl⟩
abbrev main_v511 : Ref sig .tc := ⟨.hbm, 567, rfl⟩
abbrev main_v512 : Ref sig .tc := ⟨.hbm, 568, rfl⟩
abbrev main_v513 : Ref sig .tc := ⟨.hbm, 569, rfl⟩
abbrev main_v514 : Ref sig .tc := ⟨.hbm, 570, rfl⟩
abbrev main_v515 : Ref sig .tc := ⟨.hbm, 571, rfl⟩
abbrev main_v516 : Ref sig .tc := ⟨.hbm, 572, rfl⟩
abbrev main_v517 : Ref sig .tc := ⟨.hbm, 573, rfl⟩
abbrev main_v518 : Ref sig .tc := ⟨.hbm, 574, rfl⟩
abbrev main_v519 : Ref sig .tc := ⟨.hbm, 575, rfl⟩
abbrev main_v520 : Ref sig .tc := ⟨.hbm, 576, rfl⟩
abbrev main_v521 : Ref sig .tc := ⟨.hbm, 577, rfl⟩
abbrev main_v522 : Ref sig .tc := ⟨.hbm, 578, rfl⟩
abbrev main_v523 : Ref sig .tc := ⟨.hbm, 579, rfl⟩
abbrev main_v524 : Ref sig .tc := ⟨.hbm, 580, rfl⟩
abbrev main_v525 : Ref sig .tc := ⟨.hbm, 581, rfl⟩
abbrev main_v526 : Ref sig .tc := ⟨.hbm, 582, rfl⟩
abbrev main_v527 : Ref sig .tc := ⟨.hbm, 583, rfl⟩
abbrev main_v528 : Ref sig .tc := ⟨.hbm, 584, rfl⟩
abbrev main_v529 : Ref sig .tc := ⟨.hbm, 585, rfl⟩
abbrev main_v530 : Ref sig .tc := ⟨.hbm, 586, rfl⟩
abbrev main_cst_47 : Ref sig .tc := ⟨.hbm, 587, rfl⟩
abbrev main_v531 : Ref sig .tc := ⟨.hbm, 588, rfl⟩
abbrev main_cst_48 : Ref sig .tc := ⟨.hbm, 589, rfl⟩
abbrev main_v532 : Ref sig .tc := ⟨.hbm, 590, rfl⟩
abbrev main_v533 : Ref sig .tc := ⟨.hbm, 591, rfl⟩
abbrev main_cst_49 : Ref sig .tc := ⟨.hbm, 592, rfl⟩
abbrev main_v534 : Ref sig .tc := ⟨.hbm, 593, rfl⟩
abbrev main_cst_50 : Ref sig .tc := ⟨.hbm, 594, rfl⟩
abbrev main_v535 : Ref sig .tc := ⟨.hbm, 595, rfl⟩
abbrev main_v536 : Ref sig .tc := ⟨.hbm, 596, rfl⟩
abbrev main_cst_51 : Ref sig .tc := ⟨.hbm, 597, rfl⟩
abbrev main_v537 : Ref sig .tc := ⟨.hbm, 598, rfl⟩
abbrev main_cst_52 : Ref sig .tc := ⟨.hbm, 599, rfl⟩
abbrev main_v538 : Ref sig .tc := ⟨.hbm, 600, rfl⟩
abbrev main_v539 : Ref sig .tc := ⟨.hbm, 601, rfl⟩
abbrev main_cst_53 : Ref sig .tc := ⟨.hbm, 602, rfl⟩
abbrev main_v540 : Ref sig .tc := ⟨.hbm, 603, rfl⟩
abbrev main_cst_54 : Ref sig .tc := ⟨.hbm, 604, rfl⟩
abbrev main_v541 : Ref sig .tc := ⟨.hbm, 605, rfl⟩
abbrev main_v542 : Ref sig .tc := ⟨.hbm, 606, rfl⟩
abbrev main_v543 : Ref sig .tc := ⟨.hbm, 607, rfl⟩
abbrev main_v544 : Ref sig .tc := ⟨.hbm, 608, rfl⟩
abbrev main_v545 : Ref sig .tc := ⟨.hbm, 609, rfl⟩
abbrev main_v546 : Ref sig .tc := ⟨.hbm, 610, rfl⟩
abbrev main_v547 : Ref sig .tc := ⟨.hbm, 611, rfl⟩
abbrev main_v548 : Ref sig .tc := ⟨.hbm, 612, rfl⟩
abbrev main_v549 : Ref sig .tc := ⟨.hbm, 613, rfl⟩
abbrev main_v550 : Ref sig .tc := ⟨.hbm, 614, rfl⟩
abbrev main_v551 : Ref sig .tc := ⟨.hbm, 615, rfl⟩
abbrev main_v552 : Ref sig .tc := ⟨.hbm, 616, rfl⟩
abbrev main_v553 : Ref sig .tc := ⟨.hbm, 617, rfl⟩
abbrev main_v554 : Ref sig .tc := ⟨.hbm, 618, rfl⟩
abbrev main_v555 : Ref sig .tc := ⟨.hbm, 619, rfl⟩
abbrev main_v556 : Ref sig .tc := ⟨.hbm, 620, rfl⟩
abbrev main_v557 : Ref sig .tc := ⟨.hbm, 621, rfl⟩
abbrev main_v558 : Ref sig .tc := ⟨.hbm, 622, rfl⟩
abbrev main_v559 : Ref sig .tc := ⟨.hbm, 623, rfl⟩
abbrev main_v560 : Ref sig .tc := ⟨.hbm, 624, rfl⟩
abbrev main_v561 : Ref sig .tc := ⟨.hbm, 625, rfl⟩
abbrev main_v562 : Ref sig .tc := ⟨.hbm, 626, rfl⟩
abbrev main_v563 : Ref sig .tc := ⟨.hbm, 627, rfl⟩
abbrev main_v564 : Ref sig .tc := ⟨.hbm, 628, rfl⟩
abbrev main_v565 : Ref sig .tc := ⟨.hbm, 629, rfl⟩
abbrev main_v566 : Ref sig .tc := ⟨.hbm, 630, rfl⟩
abbrev main_v567 : Ref sig .tc := ⟨.hbm, 631, rfl⟩
abbrev main_v568 : Ref sig .tc := ⟨.hbm, 632, rfl⟩
abbrev main_v569 : Ref sig .tc := ⟨.hbm, 633, rfl⟩
abbrev main_v570 : Ref sig .tc := ⟨.hbm, 634, rfl⟩
abbrev main_v571 : Ref sig .tc := ⟨.hbm, 635, rfl⟩
abbrev main_v572 : Ref sig .tc := ⟨.hbm, 636, rfl⟩
abbrev main_cst_55 : Ref sig .tc := ⟨.hbm, 637, rfl⟩
abbrev main_v573 : Ref sig .tc := ⟨.hbm, 638, rfl⟩
abbrev main_cst_56 : Ref sig .tc := ⟨.hbm, 639, rfl⟩
abbrev main_v574 : Ref sig .tc := ⟨.hbm, 640, rfl⟩
abbrev main_v575 : Ref sig .tc := ⟨.hbm, 641, rfl⟩
abbrev main_cst_57 : Ref sig .tc := ⟨.hbm, 642, rfl⟩
abbrev main_v576 : Ref sig .tc := ⟨.hbm, 643, rfl⟩
abbrev main_cst_58 : Ref sig .tc := ⟨.hbm, 644, rfl⟩
abbrev main_v577 : Ref sig .tc := ⟨.hbm, 645, rfl⟩
abbrev main_v578 : Ref sig .tc := ⟨.hbm, 646, rfl⟩
abbrev main_cst_59 : Ref sig .tc := ⟨.hbm, 647, rfl⟩
abbrev main_v579 : Ref sig .tc := ⟨.hbm, 648, rfl⟩
abbrev main_cst_60 : Ref sig .tc := ⟨.hbm, 649, rfl⟩
abbrev main_v580 : Ref sig .tc := ⟨.hbm, 650, rfl⟩
abbrev main_v581 : Ref sig .tc := ⟨.hbm, 651, rfl⟩
abbrev main_cst_61 : Ref sig .tc := ⟨.hbm, 652, rfl⟩
abbrev main_v582 : Ref sig .tc := ⟨.hbm, 653, rfl⟩
abbrev main_cst_62 : Ref sig .tc := ⟨.hbm, 654, rfl⟩
abbrev main_v583 : Ref sig .tc := ⟨.hbm, 655, rfl⟩
abbrev main_v584 : Ref sig .tc := ⟨.hbm, 656, rfl⟩
abbrev main_v585 : Ref sig .tc := ⟨.hbm, 657, rfl⟩
abbrev main_v586 : Ref sig .tc := ⟨.hbm, 658, rfl⟩
abbrev main_v587 : Ref sig .tc := ⟨.hbm, 659, rfl⟩
abbrev main_v588 : Ref sig .tc := ⟨.hbm, 660, rfl⟩
abbrev main_v589 : Ref sig .tc := ⟨.hbm, 661, rfl⟩
abbrev main_v590 : Ref sig .tc := ⟨.hbm, 662, rfl⟩
abbrev main_v591 : Ref sig .tc := ⟨.hbm, 663, rfl⟩
abbrev main_v592 : Ref sig .tc := ⟨.hbm, 664, rfl⟩
abbrev main_v593 : Ref sig .tc := ⟨.hbm, 665, rfl⟩
abbrev main_v594 : Ref sig .tc := ⟨.hbm, 666, rfl⟩
abbrev main_v595 : Ref sig .tc := ⟨.hbm, 667, rfl⟩
abbrev main_v596 : Ref sig .tc := ⟨.hbm, 668, rfl⟩
abbrev main_v597 : Ref sig .tc := ⟨.hbm, 669, rfl⟩
abbrev main_v598 : Ref sig .tc := ⟨.hbm, 670, rfl⟩
abbrev main_v599 : Ref sig .tc := ⟨.hbm, 671, rfl⟩
abbrev main_v600 : Ref sig .tc := ⟨.hbm, 672, rfl⟩
abbrev main_v601 : Ref sig .tc := ⟨.hbm, 673, rfl⟩
abbrev main_v602 : Ref sig .tc := ⟨.hbm, 674, rfl⟩
abbrev main_v603 : Ref sig .tc := ⟨.hbm, 675, rfl⟩
abbrev main_v604 : Ref sig .tc := ⟨.hbm, 676, rfl⟩
abbrev main_v605 : Ref sig .tc := ⟨.hbm, 677, rfl⟩
abbrev main_v606 : Ref sig .tc := ⟨.hbm, 678, rfl⟩
abbrev main_v607 : Ref sig .tc := ⟨.hbm, 679, rfl⟩
abbrev main_v608 : Ref sig .tc := ⟨.hbm, 680, rfl⟩
abbrev main_v609 : Ref sig .tc := ⟨.hbm, 681, rfl⟩
abbrev main_v610 : Ref sig .tc := ⟨.hbm, 682, rfl⟩
abbrev main_v611 : Ref sig .tc := ⟨.hbm, 683, rfl⟩
abbrev main_v612 : Ref sig .tc := ⟨.hbm, 684, rfl⟩
abbrev main_v613 : Ref sig .tc := ⟨.hbm, 685, rfl⟩
abbrev main_v614 : Ref sig .tc := ⟨.hbm, 686, rfl⟩
abbrev main_cst_63 : Ref sig .tc := ⟨.hbm, 687, rfl⟩
abbrev main_v615 : Ref sig .tc := ⟨.hbm, 688, rfl⟩
abbrev main_cst_64 : Ref sig .tc := ⟨.hbm, 689, rfl⟩
abbrev main_v616 : Ref sig .tc := ⟨.hbm, 690, rfl⟩
abbrev main_v617 : Ref sig .tc := ⟨.hbm, 691, rfl⟩
abbrev main_cst_65 : Ref sig .tc := ⟨.hbm, 692, rfl⟩
abbrev main_v618 : Ref sig .tc := ⟨.hbm, 693, rfl⟩
abbrev main_cst_66 : Ref sig .tc := ⟨.hbm, 694, rfl⟩
abbrev main_v619 : Ref sig .tc := ⟨.hbm, 695, rfl⟩
abbrev main_v620 : Ref sig .tc := ⟨.hbm, 696, rfl⟩
abbrev main_cst_67 : Ref sig .tc := ⟨.hbm, 697, rfl⟩
abbrev main_v621 : Ref sig .tc := ⟨.hbm, 698, rfl⟩
abbrev main_cst_68 : Ref sig .tc := ⟨.hbm, 699, rfl⟩
abbrev main_v622 : Ref sig .tc := ⟨.hbm, 700, rfl⟩
abbrev main_v623 : Ref sig .tc := ⟨.hbm, 701, rfl⟩
abbrev main_cst_69 : Ref sig .tc := ⟨.hbm, 702, rfl⟩
abbrev main_v624 : Ref sig .tc := ⟨.hbm, 703, rfl⟩
abbrev main_cst_70 : Ref sig .tc := ⟨.hbm, 704, rfl⟩
abbrev main_v625 : Ref sig .tc := ⟨.hbm, 705, rfl⟩
abbrev main_v626 : Ref sig .tc := ⟨.hbm, 706, rfl⟩
abbrev main_v627 : Ref sig .tc := ⟨.hbm, 707, rfl⟩
abbrev main_v628 : Ref sig .tc := ⟨.hbm, 708, rfl⟩
abbrev main_v629 : Ref sig .tc := ⟨.hbm, 709, rfl⟩
abbrev main_v630 : Ref sig .tc := ⟨.hbm, 710, rfl⟩
abbrev main_v631 : Ref sig .tc := ⟨.hbm, 711, rfl⟩
abbrev main_v632 : Ref sig .tc := ⟨.hbm, 712, rfl⟩
abbrev main_v633 : Ref sig .tc := ⟨.hbm, 713, rfl⟩
abbrev main_v634 : Ref sig .tc := ⟨.hbm, 714, rfl⟩
abbrev main_v635 : Ref sig .tc := ⟨.hbm, 715, rfl⟩
abbrev main_v636 : Ref sig .tc := ⟨.hbm, 716, rfl⟩
abbrev main_v637 : Ref sig .tc := ⟨.hbm, 717, rfl⟩
abbrev main_v638 : Ref sig .tc := ⟨.hbm, 718, rfl⟩
abbrev main_v639 : Ref sig .tc := ⟨.hbm, 719, rfl⟩
abbrev main_v640 : Ref sig .tc := ⟨.hbm, 720, rfl⟩
abbrev main_v641 : Ref sig .tc := ⟨.hbm, 721, rfl⟩
abbrev main_v642 : Ref sig .tc := ⟨.hbm, 722, rfl⟩
abbrev main_v643 : Ref sig .tc := ⟨.hbm, 723, rfl⟩
abbrev main_v644 : Ref sig .tc := ⟨.hbm, 724, rfl⟩
abbrev main_v645 : Ref sig .tc := ⟨.hbm, 725, rfl⟩
abbrev main_v646 : Ref sig .tc := ⟨.hbm, 726, rfl⟩
abbrev main_v647 : Ref sig .tc := ⟨.hbm, 727, rfl⟩
abbrev main_v648 : Ref sig .tc := ⟨.hbm, 728, rfl⟩
abbrev main_v649 : Ref sig .tc := ⟨.hbm, 729, rfl⟩
abbrev main_v650 : Ref sig .tc := ⟨.hbm, 730, rfl⟩
abbrev main_v651 : Ref sig .tc := ⟨.hbm, 731, rfl⟩
abbrev main_v652 : Ref sig .tc := ⟨.hbm, 732, rfl⟩
abbrev main_v653 : Ref sig .tc := ⟨.hbm, 733, rfl⟩
abbrev main_v654 : Ref sig .tc := ⟨.hbm, 734, rfl⟩
abbrev main_v655 : Ref sig .tc := ⟨.hbm, 735, rfl⟩
abbrev main_v656 : Ref sig .tc := ⟨.hbm, 736, rfl⟩
abbrev main_cst_71 : Ref sig .tc := ⟨.hbm, 737, rfl⟩
abbrev main_v657 : Ref sig .tc := ⟨.hbm, 738, rfl⟩
abbrev main_cst_72 : Ref sig .tc := ⟨.hbm, 739, rfl⟩
abbrev main_v658 : Ref sig .tc := ⟨.hbm, 740, rfl⟩
abbrev main_v659 : Ref sig .tc := ⟨.hbm, 741, rfl⟩
abbrev main_cst_73 : Ref sig .tc := ⟨.hbm, 742, rfl⟩
abbrev main_v660 : Ref sig .tc := ⟨.hbm, 743, rfl⟩
abbrev main_cst_74 : Ref sig .tc := ⟨.hbm, 744, rfl⟩
abbrev main_v661 : Ref sig .tc := ⟨.hbm, 745, rfl⟩
abbrev main_v662 : Ref sig .tc := ⟨.hbm, 746, rfl⟩
abbrev main_cst_75 : Ref sig .tc := ⟨.hbm, 747, rfl⟩
abbrev main_v663 : Ref sig .tc := ⟨.hbm, 748, rfl⟩
abbrev main_cst_76 : Ref sig .tc := ⟨.hbm, 749, rfl⟩
abbrev main_v664 : Ref sig .tc := ⟨.hbm, 750, rfl⟩
abbrev main_v665 : Ref sig .tc := ⟨.hbm, 751, rfl⟩
abbrev main_cst_77 : Ref sig .tc := ⟨.hbm, 752, rfl⟩
abbrev main_v666 : Ref sig .tc := ⟨.hbm, 753, rfl⟩
abbrev main_cst_78 : Ref sig .tc := ⟨.hbm, 754, rfl⟩
abbrev main_v667 : Ref sig .tc := ⟨.hbm, 755, rfl⟩
abbrev main_v668 : Ref sig .tc := ⟨.hbm, 756, rfl⟩
abbrev main_v669 : Ref sig .tc := ⟨.hbm, 757, rfl⟩
abbrev main_v670 : Ref sig .tc := ⟨.hbm, 758, rfl⟩
abbrev main_v671 : Ref sig .tc := ⟨.hbm, 759, rfl⟩
abbrev main_v672 : Ref sig .tc := ⟨.hbm, 760, rfl⟩
abbrev main_v673 : Ref sig .tc := ⟨.hbm, 761, rfl⟩
abbrev main_v674 : Ref sig .tc := ⟨.hbm, 762, rfl⟩
abbrev main_v675 : Ref sig .tc := ⟨.hbm, 763, rfl⟩
abbrev main_v676 : Ref sig .tc := ⟨.hbm, 764, rfl⟩
abbrev main_v677 : Ref sig .tc := ⟨.hbm, 765, rfl⟩
abbrev main_v678 : Ref sig .tc := ⟨.hbm, 766, rfl⟩
abbrev main_v679 : Ref sig .tc := ⟨.hbm, 767, rfl⟩
abbrev main_v680 : Ref sig .tc := ⟨.hbm, 768, rfl⟩
abbrev main_v681 : Ref sig .tc := ⟨.hbm, 769, rfl⟩
abbrev main_v682 : Ref sig .tc := ⟨.hbm, 770, rfl⟩
abbrev main_v683 : Ref sig .tc := ⟨.hbm, 771, rfl⟩
abbrev main_v684 : Ref sig .tc := ⟨.hbm, 772, rfl⟩
abbrev main_v685 : Ref sig .tc := ⟨.hbm, 773, rfl⟩
abbrev main_v686 : Ref sig .tc := ⟨.hbm, 774, rfl⟩
abbrev main_v687 : Ref sig .tc := ⟨.hbm, 775, rfl⟩
abbrev main_v688 : Ref sig .tc := ⟨.hbm, 776, rfl⟩
abbrev main_v689 : Ref sig .tc := ⟨.hbm, 777, rfl⟩
abbrev main_v690 : Ref sig .tc := ⟨.hbm, 778, rfl⟩
abbrev main_v691 : Ref sig .tc := ⟨.hbm, 779, rfl⟩
abbrev main_v692 : Ref sig .tc := ⟨.hbm, 780, rfl⟩
abbrev main_v693 : Ref sig .tc := ⟨.hbm, 781, rfl⟩
abbrev main_v694 : Ref sig .tc := ⟨.hbm, 782, rfl⟩
abbrev main_v695 : Ref sig .tc := ⟨.hbm, 783, rfl⟩
abbrev main_v696 : Ref sig .tc := ⟨.hbm, 784, rfl⟩
abbrev main_v697 : Ref sig .tc := ⟨.hbm, 785, rfl⟩
abbrev main_v698 : Ref sig .tc := ⟨.hbm, 786, rfl⟩
abbrev main_cst_79 : Ref sig .tc := ⟨.hbm, 787, rfl⟩
abbrev main_v699 : Ref sig .tc := ⟨.hbm, 788, rfl⟩
abbrev main_cst_80 : Ref sig .tc := ⟨.hbm, 789, rfl⟩
abbrev main_v700 : Ref sig .tc := ⟨.hbm, 790, rfl⟩
abbrev main_v701 : Ref sig .tc := ⟨.hbm, 791, rfl⟩
abbrev main_cst_81 : Ref sig .tc := ⟨.hbm, 792, rfl⟩
abbrev main_v702 : Ref sig .tc := ⟨.hbm, 793, rfl⟩
abbrev main_cst_82 : Ref sig .tc := ⟨.hbm, 794, rfl⟩
abbrev main_v703 : Ref sig .tc := ⟨.hbm, 795, rfl⟩
abbrev main_v704 : Ref sig .tc := ⟨.hbm, 796, rfl⟩
abbrev main_cst_83 : Ref sig .tc := ⟨.hbm, 797, rfl⟩
abbrev main_v705 : Ref sig .tc := ⟨.hbm, 798, rfl⟩
abbrev main_cst_84 : Ref sig .tc := ⟨.hbm, 799, rfl⟩
abbrev main_v706 : Ref sig .tc := ⟨.hbm, 800, rfl⟩
abbrev main_v707 : Ref sig .tc := ⟨.hbm, 801, rfl⟩
abbrev main_cst_85 : Ref sig .tc := ⟨.hbm, 802, rfl⟩
abbrev main_v708 : Ref sig .tc := ⟨.hbm, 803, rfl⟩
abbrev main_cst_86 : Ref sig .tc := ⟨.hbm, 804, rfl⟩
abbrev main_v709 : Ref sig .tc := ⟨.hbm, 805, rfl⟩
abbrev main_v710 : Ref sig .tc := ⟨.hbm, 806, rfl⟩
abbrev main_cst_87 : Ref sig .tc := ⟨.hbm, 807, rfl⟩
abbrev main_v711 : Ref sig .tc := ⟨.hbm, 808, rfl⟩
abbrev main_v712 : Ref sig .tc := ⟨.hbm, 809, rfl⟩
abbrev main_v713 : Ref sig .tc := ⟨.hbm, 810, rfl⟩
abbrev main_v714 : Ref sig .tc := ⟨.hbm, 811, rfl⟩
abbrev main_v715 : Ref sig .tc := ⟨.hbm, 812, rfl⟩
abbrev main_v716 : Ref sig .tc := ⟨.hbm, 813, rfl⟩
abbrev main_v717 : Ref sig .tc := ⟨.hbm, 814, rfl⟩
abbrev main_v718 : Ref sig .tc := ⟨.hbm, 815, rfl⟩
abbrev main_v719 : Ref sig .tc := ⟨.hbm, 816, rfl⟩
abbrev main_v720 : Ref sig .tc := ⟨.hbm, 817, rfl⟩
abbrev main_v721 : Ref sig .tc := ⟨.hbm, 818, rfl⟩
abbrev main_v722 : Ref sig .tc := ⟨.hbm, 819, rfl⟩
abbrev main_v723 : Ref sig .tc := ⟨.hbm, 820, rfl⟩
abbrev main_v724 : Ref sig .tc := ⟨.hbm, 821, rfl⟩
abbrev main_v725 : Ref sig .tc := ⟨.hbm, 822, rfl⟩
abbrev main_v726 : Ref sig .tc := ⟨.hbm, 823, rfl⟩
abbrev main_v727 : Ref sig .tc := ⟨.hbm, 824, rfl⟩
abbrev main_v728 : Ref sig .tc := ⟨.hbm, 825, rfl⟩
abbrev main_v729 : Ref sig .tc := ⟨.hbm, 826, rfl⟩
abbrev main_v730 : Ref sig .tc := ⟨.hbm, 827, rfl⟩

abbrev nD : Nat := 1
abbrev τ : Topo := Topo.v7x

variable {F : FTy → Type} [FloatOps F]
-- ==== Fwd.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S2048x5632 : Shape := ⟨2, ![2048, 5632]⟩
abbrev S256x1024 : Shape := ⟨2, ![256, 1024]⟩
abbrev S256x5632 : Shape := ⟨2, ![256, 5632]⟩
abbrev S1x1024x1408 : Shape := ⟨3, ![1, 1024, 1408]⟩
abbrev S1024x1408 : Shape := ⟨2, ![1024, 1408]⟩
abbrev S256x1408 : Shape := ⟨2, ![256, 1408]⟩
abbrev S1x1408x1024 : Shape := ⟨3, ![1, 1408, 1024]⟩
abbrev S1408x1024 : Shape := ⟨2, ![1408, 1024]⟩
abbrev S256 : Shape := ⟨1, ![256]⟩
abbrev S256x1 : Shape := ⟨2, ![256, 1]⟩

abbrev nBuf : Space → Nat
  | .hbm => 15
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2x1408x1024, .bf16⟩
  | .hbm, ⟨10, _⟩ => ⟨S2048x5632, .bf16⟩
  | .hbm, ⟨11, _⟩ => ⟨S2048x1024, .f32⟩
  | .hbm, ⟨12, _⟩ => ⟨S2048x1024, .f32⟩
  | .hbm, ⟨13, _⟩ => ⟨S2048x1024, .bf16⟩
  | .hbm, ⟨14, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S4x1024x1408, .bf16⟩
  | .local _ .vmem, ⟨3, _⟩ => ⟨S2x1408x1024, .bf16⟩
  | .local _ .vmem, ⟨4, _⟩ => ⟨S1x1024, .f32⟩
  | .local _ .vmem, ⟨5, _⟩ => ⟨S1x1024, .f32⟩
  | .local _ .vmem, ⟨6, _⟩ => ⟨S256x5632, .bf16⟩
  | .local _ .vmem, ⟨7, _⟩ => ⟨S256x5632, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefFwdIdeal.lean ====
abbrev S2048x1024 : Shape := ⟨2, ![2048, 1024]⟩
abbrev S1024x5632 : Shape := ⟨2, ![1024, 5632]⟩
abbrev S2816x1024 : Shape := ⟨2, ![2816, 1024]⟩
abbrev S1x1024 : Shape := ⟨2, ![1, 1024]⟩
abbrev S2048x5632 : Shape := ⟨2, ![2048, 5632]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S2048x1408 : Shape := ⟨2, ![2048, 1408]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S1x1024, .f32⟩
  | .hbm, ⟨4, _⟩ => ⟨S1x1024, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1408, .f32⟩
  | .hbm, ⟨52, _⟩ => ⟨S2048x1408, .f32⟩
  | .hbm, ⟨53, _⟩ => ⟨S2048x1408, .f32⟩
  | .hbm, ⟨54, _⟩ => ⟨S2048x1408, .f32⟩
  | .hbm, ⟨55, _⟩ => ⟨S2048x5632, .f32⟩
  | .hbm, ⟨56, _⟩ => ⟨S2048x5632, .bf16⟩
  | .hbm, ⟨57, _⟩ => ⟨S2048x1024, .bf16⟩
  | .hbm, ⟨58, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== MixF.lean ====
abbrev S2048x1024 : Shape := ⟨2, ![2048, 1024]⟩
abbrev S2048x2048 : Shape := ⟨2, ![2048, 2048]⟩
abbrev S2048x512 : Shape := ⟨2, ![2048, 512]⟩
abbrev S32x16 : Shape := ⟨2, ![32, 16]⟩
abbrev S32x16x64 : Shape := ⟨3, ![32, 16, 64]⟩
abbrev S512x2048 : Shape := ⟨2, ![512, 2048]⟩
abbrev S1024x1024 : Shape := ⟨2, ![1024, 1024]⟩
abbrev S1x1024 : Shape := ⟨2, ![1, 1024]⟩
abbrev S8x8 : Shape := ⟨2, ![8, 8]⟩
abbrev S1x8x1x8x1 : Shape := ⟨5, ![1, 8, 1, 8, 1]⟩
abbrev S512x4x512 : Shape := ⟨3, ![512, 4, 512]⟩
abbrev S4x512x512 : Shape := ⟨3, ![4, 512, 512]⟩
abbrev S32x64x16 : Shape := ⟨3, ![32, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x512 : Shape := ⟨2, ![1, 512]⟩
abbrev S256x2048 : Shape := ⟨2, ![256, 2048]⟩
abbrev S256x512 : Shape := ⟨2, ![256, 512]⟩
abbrev S256x1024 : Shape := ⟨2, ![256, 1024]⟩
abbrev S1x512x128 : Shape := ⟨3, ![1, 512, 128]⟩
abbrev S512x128 : Shape := ⟨2, ![512, 128]⟩
abbrev S256x128 : Shape := ⟨2, ![256, 128]⟩
abbrev S1x512x512 : Shape := ⟨3, ![1, 512, 512]⟩
abbrev S512x512 : Shape := ⟨2, ![512, 512]⟩
abbrev S256 : Shape := ⟨1, ![256]⟩
abbrev S256x1 : Shape := ⟨2, ![256, 1]⟩

abbrev nBuf : Space → Nat
  | .hbm => 50
  | .vmem => 35
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .f32⟩
  | .hbm, ⟨3, _⟩ => ⟨S2048x512, .f32⟩
  | .hbm, ⟨4, _⟩ => ⟨S32x16, .f32⟩
  | .hbm, ⟨5, _⟩ => ⟨S32x16x64, .f32⟩
  | .hbm, ⟨6, _⟩ => ⟨S32x16x64, .f32⟩
  | .hbm, ⟨7, _⟩ => ⟨S512x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1024x1024, .f32⟩
  | .hbm, ⟨12, _⟩ => ⟨S1x1024, .f32⟩
  | .hbm, ⟨13, _⟩ => ⟨S1x1024, .f32⟩
  | .hbm, ⟨14, _⟩ => ⟨S8x8, .f32⟩
  | .hbm, ⟨15, _⟩ => ⟨S1x8x1x8x1, .f32⟩
  | .hbm, ⟨16, _⟩ => ⟨S8x8, .f32⟩
  | .hbm, ⟨17, _⟩ => ⟨S1x8x1x8x1, .f32⟩
  | .hbm, ⟨18, _⟩ => ⟨S512x2048, .bf16⟩
  | .hbm, ⟨19, _⟩ => ⟨S512x4x512, .bf16⟩
  | .hbm, ⟨20, _⟩ => ⟨S4x512x512, .bf16⟩
  | .hbm, ⟨21, _⟩ => ⟨S2048x2048, .bf16⟩
  | .hbm, ⟨22, _⟩ => ⟨S2048x2048, .bf16⟩
  | .hbm, ⟨23, _⟩ => ⟨S32x64x16, .f32⟩
  | .hbm, ⟨24, _⟩ => ⟨S4x8x64x1x16, .f32⟩
  | .hbm, ⟨25, _⟩ => ⟨S4x8x64x8x16, .f32⟩
  | .hbm, ⟨26, _⟩ => ⟨S4x8x64x8x16, .f32⟩
  | .hbm, ⟨27, _⟩ => ⟨S4x8x64x8x16, .f32⟩
  | .hbm, ⟨28, _⟩ => ⟨S4x512x128, .f32⟩
  | .hbm, ⟨29, _⟩ => ⟨S4x512x128, .bf16⟩
  | .hbm, ⟨30, _⟩ => ⟨S32x16x64, .f32⟩
  | .hbm, ⟨31, _⟩ => ⟨S32x64x16, .f32⟩
  | .hbm, ⟨32, _⟩ => ⟨S4x8x64x1x16, .f32⟩
  | .hbm, ⟨33, _⟩ => ⟨S4x8x64x8x16, .f32⟩
  | .hbm, ⟨34, _⟩ => ⟨S4x8x64x8x16, .f32⟩
  | .hbm, ⟨35, _⟩ => ⟨S4x8x64x8x16, .f32⟩
  | .hbm, ⟨36, _⟩ => ⟨S4x512x128, .f32⟩
  | .hbm, ⟨37, _⟩ => ⟨S4x512x128, .bf16⟩
  | .hbm, ⟨38, _⟩ => ⟨S1x512, .f32⟩
  | .hbm, ⟨39, _⟩ => ⟨S2048x1024, .bf16⟩
  | .hbm, ⟨40, _⟩ => ⟨S2048x1024, .bf16⟩
  | .hbm, ⟨41, _⟩ => ⟨S2048x1024, .bf16⟩
  | .hbm, ⟨42, _⟩ => ⟨S1024x1024, .bf16⟩
  | .hbm, ⟨43, _⟩ => ⟨S2048x512, .f32⟩
  | .hbm, ⟨44, _⟩ => ⟨S2048x512, .bf16⟩
  | .hbm, ⟨45, _⟩ => ⟨S2048x1024, .bf16⟩
  | .hbm, ⟨46, _⟩ => ⟨S2048x1024, .bf16⟩
  | .hbm, ⟨47, _⟩ => ⟨S2048x1024, .bf16⟩
  | .hbm, ⟨48, _⟩ => ⟨S2048x1024, .f32⟩
  | .hbm, ⟨49, _⟩ => ⟨S2048x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S4x512x128, .bf16⟩
  | .local _ .vmem, ⟨5, _⟩ => ⟨S4x512x128, .bf16⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S4x512x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1024x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S1x1024, .f32⟩
  | .local _ .vmem, ⟨21, _⟩ => ⟨S256x512, .f32⟩
  | .local _ .vmem, ⟨22, _⟩ => ⟨S256x512, .f32⟩
  | .local _ .vmem, ⟨23, _⟩ => ⟨S256x512, .bf16⟩
  | .local _ .vmem, ⟨24, _⟩ => ⟨S256x512, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v27_3 : Ref sig .tc := ⟨.hbm, 46, rfl⟩
abbrev main_v27_4 : Ref sig .tc := ⟨.hbm, 47, rfl⟩
abbrev main_v27_5 : Ref sig .tc := ⟨.hbm, 48, rfl⟩
abbrev main_v27_6 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MixFIdeal.lean ====
variable {F : FTy → Type} [FloatOps F] [Named F]
def κ : String → Option EReal := fun
  | "cube" => some ((8943 / 200000 : ℝ) : EReal)
  | _ => none
-- ==== RefMixFIdeal.lean ====
abbrev S2048x1024 : Shape := ⟨2, ![2048, 1024]⟩
abbrev S2048x2048 : Shape := ⟨2, ![2048, 2048]⟩
abbrev S2048x512 : Shape := ⟨2, ![2048, 512]⟩
abbrev S32x16 : Shape := ⟨2, ![32, 16]⟩
abbrev S32x16x64 : Shape := ⟨3, ![32, 16, 64]⟩
abbrev S512x2048 : Shape := ⟨2, ![512, 2048]⟩
abbrev S1024x1024 : Shape := ⟨2, ![1024, 1024]⟩
abbrev S1x1024 : Shape := ⟨2, ![1, 1024]⟩
abbrev S2048x32x64 : Shape := ⟨3, ![2048, 32, 64]⟩
abbrev S32x2048x16 : Shape := ⟨3, ![32, 2048, 16]⟩
abbrev S2048x32x16 : Shape := ⟨3, ![2048, 32, 16]⟩
abbrev S1x512 : Shape := ⟨2, ![1, 512]⟩
abbrev S_ : Shape := ⟨0, ![]⟩
abbrev S2048 : Shape := ⟨1, ![2048]⟩
abbrev S2048x1 : Shape := ⟨2, ![2048, 1]⟩

abbrev nBuf : Space → Nat
  | .hbm => 110
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x2048, .f32⟩
  | .hbm, ⟨3, _⟩ => ⟨S2048x512, .f32⟩
  | .hbm, ⟨4, _⟩ => ⟨S32x16, .f32⟩
  | .hbm, ⟨5, _⟩ => ⟨S32x16x64, .f32⟩
  | .hbm, ⟨6, _⟩ => ⟨S32x16x64, .f32⟩
  | .hbm, ⟨7, _⟩ => ⟨S512x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1024x1024, .f32⟩
  | .hbm, ⟨12, _⟩ => ⟨S1x1024, .f32⟩
  | .hbm, ⟨13, _⟩ => ⟨S1x1024, .f32⟩
  | .hbm, ⟨14, _⟩ => ⟨S2048x32x64, .f32⟩
  | .hbm, ⟨15, _⟩ => ⟨S2048x32x64, .f32⟩
  | .hbm, ⟨16, _⟩ => ⟨S32x2048x16, .f32⟩
  | .hbm, ⟨17, _⟩ => ⟨S2048x32x16, .f32⟩
  | .hbm, ⟨18, _⟩ => ⟨S32x2048x16, .f32⟩
  | .hbm, ⟨19, _⟩ => ⟨S2048x32x16, .f32⟩
  | .hbm, ⟨20, _⟩ => ⟨S2048x32x16, .f32⟩
  | .hbm, ⟨21, _⟩ => ⟨S2048x512, .f32⟩
  | .hbm, ⟨22, _⟩ => ⟨S1x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x512, .bf16⟩
  | .hbm, ⟨82, _⟩ => ⟨S2048x1024, .bf16⟩
  | .hbm, ⟨83, _⟩ => ⟨S2048x1024, .bf16⟩
  | .hbm, ⟨84, _⟩ => ⟨S2048x1024, .bf16⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S_, .f32⟩
  | .hbm, ⟨95, _⟩ => ⟨S2048, .f32⟩
  | .hbm, ⟨96, _⟩ => ⟨S2048x1, .f32⟩
  | .hbm, ⟨97, _⟩ => ⟨S_, .f32⟩
  | .hbm, ⟨98, _⟩ => ⟨S2048x1, .f32⟩
  | .hbm, ⟨99, _⟩ => ⟨S2048x1, .f32⟩
  | .hbm, ⟨100, _⟩ => ⟨S_, .f32⟩
  | .hbm, ⟨101, _⟩ => ⟨S2048x1, .f32⟩
  | .hbm, ⟨102, _⟩ => ⟨S2048x1, .f32⟩
  | .hbm, ⟨103, _⟩ => ⟨S2048x1, .f32⟩
  | .hbm, ⟨104, _⟩ => ⟨S2048x1024, .f32⟩
  | .hbm, ⟨105, _⟩ => ⟨S2048x1024, .f32⟩
  | .hbm, ⟨106, _⟩ => ⟨S2048x1024, .f32⟩
  | .hbm, ⟨107, _⟩ => ⟨S2048x1024, .f32⟩
  | .hbm, ⟨108, _⟩ => ⟨S2048x1024, .f32⟩
  | .hbm, ⟨109, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_cst_14 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Proof.Reals.lean ====
/- Finite extended reals: the constants of the programs as reals, and the operations that keep an
   extended real finite. -/
module

public import Idealize.ShloMosaic.PureOps.Ideal
public import Idealize.ShloMosaic.PureOps.Ideal.Laws
public import Idealize.ShloMosaic.Lib.IdealHost

@[expose] public section

noncomputable section

namespace Cert.Step

open Idealize.ShloMosaic
open scoped BigOperators

/-- An `a` by `b` array. -/
abbrev Mat (a b : ℕ) := Fin a → Fin b → EReal

/-- A sum over four stretches of equal length. -/
theorem sum_four (n : ℕ) (f : Fin (n + n + n + n) → EReal) :
    (∑ k : Fin n, f ⟨k, by omega⟩) + (∑ k : Fin n, f ⟨n + k, by omega⟩) + (∑ k : Fin n, f ⟨n + n + k, by omega⟩)
      + (∑ k : Fin n, f ⟨n + n + n + k, by omega⟩) = ∑ k, f k := by
  rw [Fin.sum_univ_add, Fin.sum_univ_add, Fin.sum_univ_add]
  rfl

/-! ### Constants -/

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

/-- The root of two over pi, as the programs round it. -/
def geluR : ℝ := 13386282 * 2 ^ (-24 : ℤ)

theorem ofBits_gelu : Ideal.ofBits .f32 0x3F4C422A#32 = ((geluR : ℝ) : EReal) := by
  simp [Ideal.ofBits, Ideal.ieee, -EReal.coe_mul, geluR]

/-- The quotient that stands for 0.044715. -/
theorem cube_quotient : Ideal.div (Ideal.ofBits .f32 0x472EAB00#32) (Ideal.ofBits .f32 0x49742400#32) = ((8943 / 200000 : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, Ideal.div_coe (by norm_num), ← EReal.coe_mul]
  norm_num

theorem ofBits_top : Ideal.ofBits .f32 0x7F800000#32 = ⊤ := by
  simp [Ideal.ofBits, Ideal.ieee]

/-- The small number added to a variance. -/
def epsR : ℝ := 10995116 * 2 ^ (-40 : ℤ)

theorem epsR_pos : 0 < epsR := by unfold epsR; positivity

theorem ofBits_eps : Ideal.ofBits .f32 0x3727C5AC#32 = ((epsR : ℝ) : EReal) := by
  simp [Ideal.ofBits, Ideal.ieee, -EReal.coe_mul, epsR]

/-- The residual scale. -/
def alphaR : ℝ := 9975792 * 2 ^ (-23 : ℤ)

theorem ofBits_alpha : Ideal.ofBits .f32 0x3F9837F0#32 = ((alphaR : ℝ) : EReal) := by
  simp [Ideal.ofBits, Ideal.ieee, -EReal.coe_mul, alphaR]

/-! ### Finite values -/

/-- An extended real that is a real. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {x y : EReal} : IsR x → IsR y → IsR (x + y)
  | ⟨a, ha⟩, ⟨b, hb⟩ => ⟨a + b, by rw [ha, hb, EReal.coe_add]⟩

theorem IsR.sub {x y : EReal} : IsR x → IsR y → IsR (x - y)
  | ⟨a, ha⟩, ⟨b, hb⟩ => ⟨a - b, by rw [ha, hb, EReal.coe_sub]⟩

theorem IsR.mul {x y : EReal} : IsR x → IsR y → IsR (x * y)
  | ⟨a, ha⟩, ⟨b, hb⟩ => ⟨a * b, by rw [ha, hb, EReal.coe_mul]⟩

theorem IsR.neg {x : EReal} : IsR x → IsR (-x)
  | ⟨a, ha⟩ => ⟨-a, by rw [ha, EReal.coe_neg]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A function all of whose values are finite is a real function. -/
theorem IsR.fun {ι : Type} {f : ι → EReal} (h : ∀ i, IsR (f i)) : ∃ g : ι → ℝ, f = fun i => (g i : EReal) :=
  ⟨fun i => (h i).choose, funext fun i => (h i).choose_spec⟩

theorem IsR.sum {ι : Type} (s : Finset ι) {f : ι → EReal} (h : ∀ i, IsR (f i)) : IsR (∑ i ∈ s, f i) := by
  obtain ⟨g, rfl⟩ := IsR.fun h
  exact ⟨∑ i ∈ s, g i, (coe_sum s g).symm⟩

theorem IsR.div {x y : EReal} : IsR x → IsR y → y ≠ 0 → IsR (Ideal.div x y)
  | ⟨a, ha⟩, ⟨b, hb⟩, h => ⟨a * (1 / b), by
      have hb' : b ≠ 0 := fun h0 => h (by rw [hb, h0]; rfl)
      rw [ha, hb, Ideal.div_coe hb', EReal.coe_mul]⟩

/-- A value below plus infinity in absolute value is finite. -/
theorem IsR.of_abs_lt {x : EReal} (h : max x (-x) < ⊤) : IsR x := by
  induction x using EReal.rec with
  | bot => simp at h
  | coe r => exact ⟨r, rfl⟩
  | top => simp at h

/-- The same, as a comparison with plus infinity reads. -/
theorem IsR.of_cmp {x : EReal} (h : Ideal.cmp .olt (max x (-x)) (Ideal.ofBits .f32 0x7F800000#32) = 1#1) : IsR x := by
  rw [ofBits_top] at h
  refine IsR.of_abs_lt (x := x) ?_
  by_contra hn
  have : decide (max x (-x) < ⊤) = false := decide_eq_false hn
  have h' : BitVec.ofBool (decide (max x (-x) < ⊤)) = 1#1 := h
  rw [this] at h'
  exact absurd h' (by decide)

theorem IsR.div1024 {x : EReal} : IsR x → IsR (Ideal.div x (Ideal.ofBits .f32 0x44800000#32))
  | ⟨a, ha⟩ => ⟨a * (1 / 1024), by rw [ha, ofBits_1024, Ideal.div_coe (by norm_num), EReal.coe_mul]⟩

theorem IsR.tanh {x : EReal} : IsR x → IsR (Ideal.tanh x)
  | ⟨a, ha⟩ => ⟨Real.tanh a, by rw [ha]; rfl⟩

/-- The sigmoid of anything is finite. -/
theorem IsR.sigmoid (x : EReal) : IsR (Ideal.div 1 (1 + Ideal.exp (-x))) := by
  induction x using EReal.rec with
  | bot => exact ⟨0, by
      have h : (1 : EReal) + ⊤ = ⊤ := EReal.add_top_of_ne_bot (EReal.coe_ne_bot 1)
      simp [Ideal.div, h]⟩
  | coe r =>
      refine IsR.div IsR.one ⟨1 + Real.exp (-r), ?_⟩ ?_
      · rw [← EReal.coe_neg, Ideal.exp_coe, EReal.coe_add, EReal.coe_one]
      · rw [← EReal.coe_neg, Ideal.exp_coe, ← EReal.coe_one, ← EReal.coe_add]
        exact_mod_cast (by positivity : (1 + Real.exp (-r)) ≠ 0)
  | top => exact ⟨1, by simp [Ideal.div]⟩

/-- A real factor goes into a sum of finite values. -/
theorem mul_sum_fin {ι : Type} (s : Finset ι) {c : EReal} (hc : IsR c) {f : ι → EReal} (h : ∀ i, IsR (f i)) :
    c * ∑ i ∈ s, f i = ∑ i ∈ s, c * f i := by
  obtain ⟨g, rfl⟩ := IsR.fun h
  obtain ⟨r, rfl⟩ := hc
  simp only [← coe_sum, ← EReal.coe_mul, Finset.mul_sum]

/-- Half the derivative of a square, over the number of columns. -/
theorem half_two_mean (x : EReal) : Ideal.div (Ideal.ofBits .f32 0x3F000000#32) (Ideal.ofBits .f32 0x44800000#32)
    * (Ideal.ofBits .f32 0x40000000#32 * x) = x * Ideal.ofBits .f32 0x3A800000#32 := by
  rw [ofBits_half, ofBits_1024, ofBits_two, ofBits_inv1024, Ideal.div_coe (by norm_num), ← mul_assoc, mul_comm,
    ← EReal.coe_mul, ← EReal.coe_mul]
  norm_num

end Cert.Step

end
-- ==== Proof.LayerNorm.lean ====
/- The backward pass of a layer norm over 1024 columns, one row at a time: the short form a kernel
   computes, and the form reverse differentiation of the mean, the variance and the reciprocal root
   gives. They agree on rows of finite values. -/
module

public import proofs.«01_k».proof.Proof.Reals

@[expose] public section

noncomputable section

namespace Cert.Step

open Idealize.ShloMosaic
open scoped BigOperators

abbrev Row := Fin 1024 → EReal

/-- The mean of a row. -/
def mean (r : Row) : EReal := Ideal.div (∑ k, r k) (Ideal.ofBits .f32 0x44800000#32)

/-- The row less its mean. -/
def cen (r : Row) : Row := fun j => r j - mean r

/-- The variance of a row and the small number. -/
def vareps (r : Row) : EReal :=
  Ideal.div (∑ k, cen r k * cen r k) (Ideal.ofBits .f32 0x44800000#32) + Ideal.ofBits .f32 0x3727C5AC#32

/-- The reciprocal of the standard deviation. -/
def rstd (r : Row) : EReal := Ideal.rsqrt (vareps r)

/-- The normalised row. -/
def xhat (r : Row) : Row := fun j => cen r j * rstd r

/-- The gradient with respect to the row, in the short form. -/
def bwdK (r d : Row) : Row := fun j =>
  rstd r * (d j - Ideal.div (∑ k, d k) (Ideal.ofBits .f32 0x44800000#32)
    - xhat r j * Ideal.div (∑ k, d k * xhat r k) (Ideal.ofBits .f32 0x44800000#32))

/-- The gradient that reaches the squares of the centred row. -/
def sqG (r d : Row) : EReal :=
  Ideal.div ((∑ k, cen r k * d k) * (Ideal.ofBits .f32 0xBF000000#32 * Ideal.div (rstd r) (vareps r)))
    (Ideal.ofBits .f32 0x44800000#32)

/-- The gradient that reaches the centred row. -/
def cenG (r d : Row) : Row := fun j => d j * rstd r + cen r j * sqG r d + sqG r d * cen r j

/-- The gradient with respect to the row, by reverse differentiation. -/
def bwdR (r d : Row) : Row := fun j =>
  cenG r d j + Ideal.div (∑ k, -cenG r d k) (Ideal.ofBits .f32 0x44800000#32)

/-! ### On real rows -/

section
variable (r d : Fin 1024 → ℝ)

def meanR : ℝ := (∑ k, r k) * (1 / 1024)
def cenR (j : Fin 1024) : ℝ := r j - meanR r
def varepsR : ℝ := (∑ k, cenR r k * cenR r k) * (1 / 1024) + epsR
def rstdR : ℝ := (Real.sqrt (varepsR r))⁻¹
def sqGR : ℝ := ((∑ k, cenR r k * d k) * (-(1 / 2) * (rstdR r * (1 / varepsR r)))) * (1 / 1024)
def cenGR (j : Fin 1024) : ℝ := d j * rstdR r + cenR r j * sqGR r d + sqGR r d * cenR r j

theorem varepsR_pos : 0 < varepsR r := by
  have h : 0 ≤ ∑ k, cenR r k * cenR r k := Finset.sum_nonneg fun k _ => mul_self_nonneg _
  have := epsR_pos
  unfold varepsR; positivity

theorem div1024 (x : ℝ) : Ideal.div (x : EReal) (Ideal.ofBits .f32 0x44800000#32) = ((x * (1 / 1024) : ℝ) : EReal) := by
  rw [ofBits_1024, Ideal.div_coe (by norm_num), EReal.coe_mul]

theorem mean_coe : mean (fun k => (r k : EReal)) = (meanR r : EReal) := by
  rw [mean, ← coe_sum, div1024, meanR]

theorem cen_coe (j : Fin 1024) : cen (fun k => (r k : EReal)) j = (cenR r j : EReal) := by
  rw [cen, mean_coe, cenR, EReal.coe_sub]

theorem vareps_coe : vareps (fun k => (r k : EReal)) = (varepsR r : EReal) := by
  simp only [vareps, cen_coe, ← EReal.coe_mul]
  rw [← coe_sum, div1024, ofBits_eps, varepsR, EReal.coe_add]

theorem rstd_coe : rstd (fun k => (r k : EReal)) = (rstdR r : EReal) := by
  rw [rstd, vareps_coe, Ideal.rsqrt_coe, if_neg (varepsR_pos r).le.not_gt, if_neg (varepsR_pos r).ne', rstdR]

theorem xhat_coe (j : Fin 1024) : xhat (fun k => (r k : EReal)) j = ((cenR r j * rstdR r : ℝ) : EReal) := by
  rw [xhat, cen_coe, rstd_coe, EReal.coe_mul]

theorem sqG_coe : sqG (fun k => (r k : EReal)) (fun k => (d k : EReal)) = (sqGR r d : EReal) := by
  simp only [sqG, cen_coe, rstd_coe, vareps_coe, ofBits_neg_half, Ideal.div_coe (varepsR_pos r).ne', ← EReal.coe_mul, ← coe_sum]
  rw [div1024, sqGR]

theorem cenG_coe (j : Fin 1024) : cenG (fun k => (r k : EReal)) (fun k => (d k : EReal)) j = (cenGR r d j : EReal) := by
  simp only [cenG, cen_coe, rstd_coe, sqG_coe, ← EReal.coe_mul, ← EReal.coe_add, cenGR]

theorem sum_cenR : ∑ k, cenR r k = 0 := by
  simp only [cenR, Finset.sum_sub_distrib, Finset.sum_const, Finset.card_univ, Fintype.card_fin, meanR]
  simp; ring

theorem rstdR_sq : rstdR r * rstdR r = 1 / varepsR r := by
  rw [rstdR, ← mul_inv, Real.mul_self_sqrt (varepsR_pos r).le, one_div]

theorem sum_cenGR : ∑ k, cenGR r d k = (∑ k, d k) * rstdR r := by
  simp only [cenGR, Finset.sum_add_distrib, ← Finset.sum_mul, ← Finset.mul_sum, sum_cenR]; ring

theorem bwdK_coe (j : Fin 1024) : bwdK (fun k => (r k : EReal)) (fun k => (d k : EReal)) j
    = ((rstdR r * (d j - (∑ k, d k) * (1 / 1024) - cenR r j * rstdR r * ((∑ k, d k * (cenR r k * rstdR r)) * (1 / 1024))) : ℝ) : EReal) := by
  simp only [bwdK, rstd_coe, xhat_coe, ← EReal.coe_mul, ← coe_sum, div1024, ← EReal.coe_sub]

theorem bwdR_coe (j : Fin 1024) : bwdR (fun k => (r k : EReal)) (fun k => (d k : EReal)) j
    = ((cenGR r d j + (∑ k, -cenGR r d k) * (1 / 1024) : ℝ) : EReal) := by
  simp only [bwdR, cenG_coe, ← EReal.coe_neg, ← coe_sum, div1024, ← EReal.coe_add]

theorem bwd_real (j : Fin 1024) :
    rstdR r * (d j - (∑ k, d k) * (1 / 1024) - cenR r j * rstdR r * ((∑ k, d k * (cenR r k * rstdR r)) * (1 / 1024)))
      = cenGR r d j + (∑ k, -cenGR r d k) * (1 / 1024) := by
  have h1 : ∑ k, d k * (cenR r k * rstdR r) = (∑ k, cenR r k * d k) * rstdR r := by
    rw [Finset.sum_mul]; exact Finset.sum_congr rfl fun k _ => by ring
  rw [Finset.sum_neg_distrib, sum_cenGR, h1, cenGR, sqGR, ← rstdR_sq]
  ring

end

/-- On finite rows the two forms of the gradient agree. -/
theorem bwdK_eq_bwdR {r d : Row} (hr : ∀ k, IsR (r k)) (hd : ∀ k, IsR (d k)) : bwdK r d = bwdR r d := by
  obtain ⟨r', rfl⟩ := IsR.fun hr
  obtain ⟨d', rfl⟩ := IsR.fun hd
  funext j
  rw [bwdK_coe, bwdR_coe, bwd_real]

theorem xhat_fin {r : Row} (hr : ∀ k, IsR (r k)) (j : Fin 1024) : IsR (xhat r j) := by
  obtain ⟨r', rfl⟩ := IsR.fun hr
  rw [xhat_coe]; exact IsR.coe _

theorem bwdK_fin {r d : Row} (hr : ∀ k, IsR (r k)) (hd : ∀ k, IsR (d k)) (j : Fin 1024) : IsR (bwdK r d j) := by
  obtain ⟨r', rfl⟩ := IsR.fun hr
  obtain ⟨d', rfl⟩ := IsR.fun hd
  rw [bwdK_coe]; exact IsR.coe _

end Cert.Step

end
-- ==== Proof.PlePay.lean ====
/- The last layer norm's kernel, payload by payload, read at an index. -/
module

public import proofs.«01_k».proof.Proof.LayerNorm
public import proofs.«01_k».proof.Proof.Gen.PleIdeal.Value
public import Idealize.ShloMosaic.Lib.Pipeline.ValueKit
public import Idealize.ShloMosaic.Lib.Pointwise

@[expose] public section

set_option maxRecDepth 16384

noncomputable section

namespace Cert.PleIdeal.Gen

open Cert.PleIdeal Idealize.ShloMosaic Idealize.ShloMosaic.TcCoe Idealize.SL.Sem
open Idealize.ShloMosaic.Pipeline
open Cert.Step
open scoped BigOperators

/-- A row of a block. -/
def row (v : FVec Ideal S256x1024 .f32) (i : Fin 256) : Row := fun k => v (ix2 i k)

abbrev c1024 : Ideal .f32 := Ideal.ofBits .f32 0x44800000#32

section
variable (v25 : FVec Ideal S256x1024 .f32) (v28 : FVec Ideal S256x1 .f32)
  (h28 : ∀ i, v28 (ix2 i 0) = ∑ k, v25 (ix2 i k)) (i : Fin 256) (j : Fin 1024)

include h28 in
theorem pay7_at : k0_pay7 v25 v28 c1024 (ix2 i j) = cen (row v25 i) j := by
  pointwise [k0_pay7]
  rw [h28]; rfl

include h28 in
theorem pay8_at : k0_pay8 v25 v28 c1024 (ix2 i 0) = rstd (row v25 i) := by
  pointwise [k0_pay8]
  simp only [pay7_at v25 v28 h28]; rfl

include h28 in
theorem pay9_at : k0_pay9 v25 v28 c1024 (ix2 i j) = xhat (row v25 i) j := by
  pointwise [k0_pay9]
  rw [pay7_at v25 v28 h28, pay8_at v25 v28 h28]; rfl

variable (v26 v45 : FVec Ideal S1x1024 .f32) (v48 : FVec Ideal S256x1024 .f32)

/-- The difference of the normalised, scaled and shifted row from the target. -/
def errB (i : Fin 256) : Row := fun j => xhat (row v25 i) j * v26 (ix2 0 j) + v45 (ix2 0 j) - v48 (ix2 i j)

include h28 in
theorem pay10_at : k0_pay10 v25 v26 v28 c1024 v45 v48 (ix2 i j) = errB v25 v26 v45 v48 i j := by
  pointwise [k0_pay10]
  rw [pay9_at v25 v28 h28]; rfl

include h28 in
theorem pay11_at (l : Fin 128) : k0_pay11 v25 v26 v28 c1024 v45 v48 (ix2 0 l)
    = Ideal.ofBits .f32 0x3F000000#32 * ∑ i, Ideal.div (∑ k, errB v25 v26 v45 v48 i k * errB v25 v26 v45 v48 i k) (Ideal.ofBits .f32 0x44800000#32) := by
  pointwise [k0_pay11]
  simp only [pay10_at v25 v28 h28, Fin.sum_univ_one]

include h28 in
theorem pay12_at : k0_pay12 v25 v26 v28 c1024 v45 v48 (ix2 i j) = errB v25 v26 v45 v48 i j * Ideal.ofBits .f32 0x3A800000#32 := by
  pointwise [k0_pay12]
  rw [pay10_at v25 v28 h28]

/-- The gradient of the normalised row. -/
def dxhB (i : Fin 256) : Row := fun j => errB v25 v26 v45 v48 i j * Ideal.ofBits .f32 0x3A800000#32 * v26 (ix2 0 j)

include h28 in
theorem pay13_at : k0_pay13 v25 v26 v28 c1024 v45 v48 (ix2 i j) = dxhB v25 v26 v45 v48 i j := by
  pointwise [k0_pay13]
  rw [pay12_at v25 v28 h28]; rfl

include h28 in
theorem pay14_at : k0_pay14 v25 v26 v28 c1024 v45 v48 (ix2 i 0) = Ideal.div (∑ k, dxhB v25 v26 v45 v48 i k) (Ideal.ofBits .f32 0x44800000#32) := by
  pointwise [k0_pay14]
  simp only [pay13_at v25 v28 h28]

include h28 in
theorem pay15_at : k0_pay15 v25 v26 v28 c1024 v45 v48 (ix1 i) = ∑ k, dxhB v25 v26 v45 v48 i k * xhat (row v25 i) k := by
  pointwise [k0_pay15]
  simp only [pay13_at v25 v28 h28, pay9_at v25 v28 h28]

include h28 in
theorem pay16_at : k0_pay16 (k0_pay8 v25 v28 c1024) (k0_pay9 v25 v28 c1024) (k0_pay13 v25 v26 v28 c1024 v45 v48)
    (k0_pay14 v25 v26 v28 c1024 v45 v48) (k0_pay15 v25 v26 v28 c1024 v45 v48) (ix2 i j)
    = bwdK (row v25 i) (dxhB v25 v26 v45 v48 i) j := by
  pointwise [k0_pay16]
  rw [pay8_at v25 v28 h28, pay9_at v25 v28 h28, pay13_at v25 v28 h28, pay14_at v25 v28 h28, pay15_at v25 v28 h28]; rfl
end

section
variable (v40 : FVec Ideal S256x1 .f32) (v14 v20 v42 v64 v66 : FVec Ideal S256x1024 .f32) (v70 : FVec Ideal S256x1 .f32)
  (v72 : FVec Ideal S256 .f32) (i : Fin 256) (j : Fin 1024)

theorem pay20_at : k0_pay20 v42 v64 (ix2 0 j) = ∑ i, v64 (ix2 i j) * v42 (ix2 i j) := by pointwise [k0_pay20, k0_pay17]
theorem pay21_at : k0_pay21 v64 (ix2 0 j) = ∑ i, v64 (ix2 i j) := by pointwise [k0_pay21, k0_pay18]
theorem pay23_at (a : FVec Ideal S1x1024 .f32) : k0_pay23 v42 v64 a (ix2 0 j) = a (ix2 0 j) + ∑ i, v64 (ix2 i j) * v42 (ix2 i j) := by
  pointwise [k0_pay23, k0_pay17]
theorem pay24_at (a : FVec Ideal S1x1024 .f32) : k0_pay24 v64 a (ix2 0 j) = a (ix2 0 j) + ∑ i, v64 (ix2 i j) := by
  pointwise [k0_pay24, k0_pay18]
theorem pay25_at : k0_pay25 v14 v20 v40 v42 v66 v70 v72 (ix2 i j)
    = k0_pay16 v40 v42 v66 v70 v72 (ix2 i j) * v14 (ix2 i j) * v20 (ix2 i j) * (1 - v20 (ix2 i j)) := by
  pointwise [k0_pay25]
theorem pay28_at : k0_pay28 v14 v20 v40 v42 v66 v70 v72 (ix2 i j)
    = k0_pay16 v40 v42 v66 v70 v72 (ix2 i j) * v14 (ix2 i j) * v20 (ix2 i j) * (1 - v20 (ix2 i j)) := by
  pointwise [k0_pay28, k0_pay25]
theorem pay27_at : k0_pay27 v20 v40 v42 v66 v70 v72 (ix2 i j) = k0_pay16 v40 v42 v66 v70 v72 (ix2 i j) * v20 (ix2 i j) := by
  pointwise [k0_pay27]
theorem pay29_at : k0_pay29 v40 v42 v66 v70 v72 (ix2 i j) = Ideal.ofBits .f32 0x3F9837F0#32 * k0_pay16 v40 v42 v66 v70 v72 (ix2 i j) := by
  pointwise [k0_pay29]
theorem pay1_at (v99 : FVec Ideal S256x1024 .bf16) (v112 : FVec Ideal S256x1024 .f32) (w : FVec Ideal S1024x1024 .bf16) :
    k0_pay1 v99 v112 w (ix2 i j) = v112 (ix2 i j) + ∑ k : Fin 1024, v99 (ix2 i k) * w (ix2 j k) := by
  pointwise [k0_pay1]
theorem pay4_at (x : FVec Ideal S256x1024 .bf16) (w : FVec Ideal S1024x1024 .bf16) :
    k0_pay4 (F := Ideal) x w (ix2 i j) = Ideal.div 1 (1 + Ideal.exp (-(∑ k : Fin 1024, x (ix2 i k) * w (ix2 k j)))) := by
  pointwise [k0_pay4]
  rfl
theorem pay3_at (p : FVec Ideal S256x256 .f32) (w : Vec Ideal S4x256x256 .bf16) :
    k0_pay3 (F := Ideal) p (View.ld w (Rect.unit ![0, 0, 0] ![1, 256, 256] inb_S4x256x256_S1x256x256_0_0_0))
            (View.ld w (Rect.unit ![1, 0, 0] ![1, 256, 256] inb_S4x256x256_S1x256x256_1_0_0))
            (View.ld w (Rect.unit ![2, 0, 0] ![1, 256, 256] inb_S4x256x256_S1x256x256_2_0_0))
            (View.ld w (Rect.unit ![3, 0, 0] ![1, 256, 256] inb_S4x256x256_S1x256x256_3_0_0)) (ix2 i j)
      = ∑ k : Fin 256, p (ix2 i k) * w (ix3 ⟨j / 256, by omega⟩ k ⟨j % 256, by omega⟩) := by
  pointwise [k0_pay3, k0_pay2]
  blk_point []

theorem pay6_at (a b c d e f g h) : k0_pay6 (F := Ideal) a b c d e f g h (ix2 i 0) = ∑ k, k0_pay5 a b c d e f g h (ix2 i k) := by
  pointwise [k0_pay6]

theorem pay5_at (a b c d e f g h) : k0_pay5 (F := Ideal) a b c d e f g h (ix2 i j)
    = Ideal.ofBits .f32 0x3F9837F0#32 * h (ix2 i j) + k0_pay3 a b c d e (ix2 i j) * k0_pay4 f g (ix2 i j) := by
  pointwise [k0_pay5]

end

end Cert.PleIdeal.Gen

end
-- ==== Proof.PleMath.lean ====
/- The last layer of the step as formulas over extended reals: the gated embedding added to the scaled
   residual, its layer norm, the mean squared error against the target, and the gradients. -/
module

public import proofs.«01_k».proof.Proof.LayerNorm

@[expose] public section

noncomputable section

namespace Cert.Step.Ple

open Idealize.ShloMosaic Cert.Step
open scoped BigOperators

section
variable (x : Mat 2048 1024) (p : Mat 2048 256) (w : Mat 256 1024) (wg : Mat 1024 1024) (g b : Row) (tg : Mat 2048 1024)

def pw : Mat 2048 1024 := fun i j => ∑ k, p i k * w k j
def sg : Mat 2048 1024 := fun i j => Ideal.div 1 (1 + Ideal.exp (-(∑ k, x i k * wg k j)))
def res : Mat 2048 1024 := fun i j => Ideal.ofBits .f32 0x3F9837F0#32 * x i j + pw p w i j * sg x wg i j
def err : Mat 2048 1024 := fun i j => xhat (res x p w wg i) j * g j + b j - tg i j
def loss : EReal := Ideal.ofBits .f32 0x3F000000#32
  * ∑ i, Ideal.div (∑ k, err x p w wg g b tg i k * err x p w wg g b tg i k) (Ideal.ofBits .f32 0x44800000#32)
def dy : Mat 2048 1024 := fun i j => err x p w wg g b tg i j * Ideal.ofBits .f32 0x3A800000#32
def dxh : Mat 2048 1024 := fun i j => dy x p w wg g b tg i j * g j
def dr : Mat 2048 1024 := fun i => bwdK (res x p w wg i) (dxh x p w wg g b tg i)
def dpw : Mat 2048 1024 := fun i j => dr x p w wg g b tg i j * sg x wg i j
def dgt : Mat 2048 1024 := fun i j => dr x p w wg g b tg i j * pw p w i j * sg x wg i j * (1 - sg x wg i j)
def dx : Mat 2048 1024 := fun i j => Ideal.ofBits .f32 0x3F9837F0#32 * dr x p w wg g b tg i j
  + ∑ k, dgt x p w wg g b tg i k * wg j k
def dg : Row := fun j => ∑ i, dy x p w wg g b tg i j * xhat (res x p w wg i) j
def db : Row := fun j => ∑ i, dy x p w wg g b tg i j

variable (hx : ∀ i j, IsR (x i j)) (hp : ∀ i j, IsR (p i j)) (hw : ∀ i j, IsR (w i j)) (hg : ∀ j, IsR (g j))
  (hb : ∀ j, IsR (b j)) (ht : ∀ i j, IsR (tg i j)) (i : Fin 2048) (j : Fin 1024)

include hp hw in
theorem pw_isR : IsR (pw p w i j) := IsR.sum _ fun k => (hp i k).mul (hw k j)

include hx hp hw in
theorem res_isR : IsR (res x p w wg i j) :=
  ((ofBits_alpha ▸ IsR.coe _ : IsR (Ideal.ofBits .f32 0x3F9837F0#32)).mul (hx i j)).add
    ((pw_isR p w hp hw i j).mul (IsR.sigmoid _))

include hx hp hw hg hb ht in
theorem err_isR : IsR (err x p w wg g b tg i j) :=
  (((xhat_fin (res_isR x p w wg hx hp hw i) j).mul (hg j)).add (hb j)).sub (ht i j)

include hx hp hw hg hb ht in
theorem dxh_isR : IsR (dxh x p w wg g b tg i j) :=
  ((err_isR x p w wg g b tg hx hp hw hg hb ht i j).mul (ofBits_inv1024 ▸ IsR.coe _)).mul (hg j)

include hx hp hw hg hb ht in
theorem dr_eq : dr x p w wg g b tg i j = bwdR (res x p w wg i) (dxh x p w wg g b tg i) j := by
  rw [dr, bwdK_eq_bwdR (res_isR x p w wg hx hp hw i) (dxh_isR x p w wg g b tg hx hp hw hg hb ht i)]

end

end Cert.Step.Ple

end
-- ==== Proof.PleValue.lean ====
/- The last layer norm's kernel: what its seven results hold after the grid. -/
module

public import proofs.«01_k».proof.Proof.PlePay
public import proofs.«01_k».proof.Proof.PleMath
public import Idealize.ShloMosaic.Lib.Claim

@[expose] public section

set_option maxRecDepth 16384

noncomputable section

namespace Cert.PleIdeal.Gen

open Cert.PleIdeal Idealize.ShloMosaic Idealize.ShloMosaic.TcCoe Idealize.SL.Sem
open Idealize.ShloMosaic.Pipeline
open Cert.Step Cert.Step.Ple
open scoped BigOperators

variable (m : (ℓ : Loc nD τ sig) → Buf (Elt Ideal) ℓ) (c : Dev nD)

def aX : Mat 2048 1024 := fun i j => (m ((c : Thread nD τ).loc main_arg0) : FVec Ideal S2048x1024 .f32) (ix2 i j)
def aP : Mat 2048 256 := fun i j => (m ((c : Thread nD τ).loc main_arg1) : FVec Ideal S2048x256 .f32) (ix2 i j)
def aW : Mat 256 1024 := fun i j => (m ((c : Thread nD τ).loc main_arg2) : FVec Ideal S256x1024 .f32) (ix2 i j)
def aWg : Mat 1024 1024 := fun i j => (m ((c : Thread nD τ).loc main_arg3) : FVec Ideal S1024x1024 .f32) (ix2 i j)
def aG : Row := fun j => (m ((c : Thread nD τ).loc main_arg4) : FVec Ideal S1x1024 .f32) (ix2 0 j)
def aB : Row := fun j => (m ((c : Thread nD τ).loc main_arg5) : FVec Ideal S1x1024 .f32) (ix2 0 j)
def aT : Mat 2048 1024 := fun i j => (m ((c : Thread nD τ).loc main_arg6) : FVec Ideal S2048x1024 .f32) (ix2 i j)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0]
    ∧ win0_7.index t = ![t.val, 0] ∧ win0_9.index t = ![t.val, 0] ∧ win0_10.index t = ![t.val, 0] ∧ win0_11.index t = ![t.val, 0]
    ∧ win0_12.index t = ![t.val, 0] := (by decide +kernel : ∀ t : Fin grid0.N, _)

/-- The array's row under a block's row. -/
def up (t : Fin cfg0.N) (i : Fin 256) : Fin 2048 := ⟨t.val * 256 + i, by have := lt_of_lt_of_eq t.isLt N_0; omega⟩

variable (t : Fin cfg0.N) (i : Fin 256) (j : Fin 1024)

theorem blk0 : (iblk m c 0 t : FVec Ideal S256x1024 .f32) (ix2 i j) = aX m c (up t i) j := by
  unfold aX up; blk_point [iblk, V, idx t]
theorem blk1 : (iblk m c 1 t : FVec Ideal S256x1024 .bf16) (ix2 i j) = aX m c (up t i) j := by
  unfold aX up; unfold iblk; entry_read; blk_point [idx t]
theorem blk2 (j : Fin 256) : (iblk m c 2 t : FVec Ideal S256x256 .f32) (ix2 i j) = aP m c (up t i) j := by
  unfold aP up; blk_point [iblk, V, idx t]
theorem blk3 (a : Fin 4) (i j : Fin 256) : (iblk m c 3 t : FVec Ideal S4x256x256 .bf16) (ix3 a i j) = aW m c i ⟨a * 256 + j, by omega⟩ := by
  have e : ((View.whole main_v2).slice (win0_3.rect t)).emb (ix3 a i j) = ix3 a i j := by blk_ext [idx t]
  unfold aW; unfold iblk; entry_read
  show truncf (F := Ideal) .bf16 _ _ (((View.whole main_v2).slice (win0_3.rect t)).emb (ix3 a i j)) = _
  rw [e]
  pointwise
theorem blk4 (i : Fin 1024) : (iblk m c 4 t : FVec Ideal S1024x1024 .bf16) (ix2 i j) = aWg m c i j := by
  unfold aWg; unfold iblk; entry_read; blk_point [idx t]
theorem blk5 : (iblk m c 5 t : FVec Ideal S1x1024 .f32) (ix2 0 j) = aG m c j := by
  unfold aG; blk_point [iblk, V, idx t]
theorem blk6 : (iblk m c 6 t : FVec Ideal S1x1024 .f32) (ix2 0 j) = aB m c j := by
  unfold aB; blk_point [iblk, V, idx t]
theorem blk7 : (iblk m c 7 t : FVec Ideal S256x1024 .f32) (ix2 i j) = aT m c (up t i) j := by
  unfold aT up; blk_point [iblk, V, idx t]

/-- The block of the residual with the gated embedding added, and its row sums. -/
abbrev pR : FVec Ideal S256x1024 .f32 :=
  k0_pay5 (iblk m c 2 t) (View.ld (iblk m c 3 t) (Rect.unit ![0, 0, 0] ![1, 256, 256] inb_S4x256x256_S1x256x256_0_0_0))
    (View.ld (iblk m c 3 t) (Rect.unit ![1, 0, 0] ![1, 256, 256] inb_S4x256x256_S1x256x256_1_0_0))
    (View.ld (iblk m c 3 t) (Rect.unit ![2, 0, 0] ![1, 256, 256] inb_S4x256x256_S1x256x256_2_0_0))
    (View.ld (iblk m c 3 t) (Rect.unit ![3, 0, 0] ![1, 256, 256] inb_S4x256x256_S1x256x256_3_0_0))
    (iblk m c 1 t) (iblk m c 4 t) (iblk m c 0 t)
abbrev pS : FVec Ideal S256x1 .f32 :=
  k0_pay6 (iblk m c 2 t) (View.ld (iblk m c 3 t) (Rect.unit ![0, 0, 0] ![1, 256, 256] inb_S4x256x256_S1x256x256_0_0_0))
    (View.ld (iblk m c 3 t) (Rect.unit ![1, 0, 0] ![1, 256, 256] inb_S4x256x256_S1x256x256_1_0_0))
    (View.ld (iblk m c 3 t) (Rect.unit ![2, 0, 0] ![1, 256, 256] inb_S4x256x256_S1x256x256_2_0_0))
    (View.ld (iblk m c 3 t) (Rect.unit ![3, 0, 0] ![1, 256, 256] inb_S4x256x256_S1x256x256_3_0_0))
    (iblk m c 1 t) (iblk m c 4 t) (iblk m c 0 t)
/-- The block of the embedding's projection. -/
abbrev pW : FVec Ideal S256x1024 .f32 :=
  k0_pay3 (iblk m c 2 t) (View.ld (iblk m c 3 t) (Rect.unit ![0, 0, 0] ![1, 256, 256] inb_S4x256x256_S1x256x256_0_0_0))
    (View.ld (iblk m c 3 t) (Rect.unit ![1, 0, 0] ![1, 256, 256] inb_S4x256x256_S1x256x256_1_0_0))
    (View.ld (iblk m c 3 t) (Rect.unit ![2, 0, 0] ![1, 256, 256] inb_S4x256x256_S1x256x256_2_0_0))
    (View.ld (iblk m c 3 t) (Rect.unit ![3, 0, 0] ![1, 256, 256] inb_S4x256x256_S1x256x256_3_0_0))
abbrev pG : FVec Ideal S1x1024 .f32 := iblk m c 5 t
abbrev pB : FVec Ideal S1x1024 .f32 := iblk m c 6 t
abbrev pT : FVec Ideal S256x1024 .f32 := iblk m c 7 t

theorem pG_at : pG m c t (ix2 0 j) = aG m c j := blk5 m c t j
theorem pB_at : pB m c t (ix2 0 j) = aB m c j := blk6 m c t j
theorem pT_at : pT m c t (ix2 i j) = aT m c (up t i) j := blk7 m c t i j

theorem h28 : ∀ i, pS m c t (ix2 i 0) = ∑ k, pR m c t (ix2 i k) := fun i => pay6_at i _ _ _ _ _ _ _ _

theorem pw_at : pW m c t (ix2 i j) = pw (aP m c) (aW m c) (up t i) j := by
  refine (pay3_at i j (iblk m c 2 t) (iblk m c 3 t)).trans ?_
  rw [pw]
  refine Finset.sum_congr rfl fun k _ => ?_
  rw [blk2, blk3]
  congr 2
  exact Fin.ext (by simp only []; omega)

theorem sg_at : k0_pay4 (F := Ideal) (iblk m c 1 t) (iblk m c 4 t) (ix2 i j) = sg (aX m c) (aWg m c) (up t i) j := by
  rw [pay4_at, sg]
  simp only [blk1, blk4]

theorem row_eq : row (pR m c t) i = res (aX m c) (aP m c) (aW m c) (aWg m c) (up t i) := by
  funext j
  exact (pay5_at i j _ _ _ _ _ _ _ _).trans (congrArg₂ (· + ·) (congrArg _ (blk0 m c t i j))
    (congrArg₂ (· * ·) (pw_at m c t i j) (sg_at m c t i j)))

theorem err_eq : errB (pR m c t) (pG m c t) (pB m c t) (pT m c t) i
    = err (aX m c) (aP m c) (aW m c) (aWg m c) (aG m c) (aB m c) (aT m c) (up t i) := by
  funext j
  rw [errB, row_eq, pG_at, pB_at, pT_at, err]

theorem dxh_eq : dxhB (pR m c t) (pG m c t) (pB m c t) (pT m c t) i
    = dxh (aX m c) (aP m c) (aW m c) (aWg m c) (aG m c) (aB m c) (aT m c) (up t i) := by
  funext j
  rw [dxhB, err_eq, pG_at, dxh, dy]

theorem dy_at : k0_pay12 (pR m c t) (pG m c t) (pS m c t) c1024 (pB m c t) (pT m c t) (ix2 i j)
    = dy (aX m c) (aP m c) (aW m c) (aWg m c) (aG m c) (aB m c) (aT m c) (up t i) j := by
  rw [pay12_at _ _ (h28 m c t), err_eq, dy]

theorem xhat_at : k0_pay9 (pR m c t) (pS m c t) c1024 (ix2 i j)
    = xhat (res (aX m c) (aP m c) (aW m c) (aWg m c) (up t i)) j := by
  rw [pay9_at _ _ (h28 m c t), row_eq]

theorem dr_at : k0_pay16 (k0_pay8 (pR m c t) (pS m c t) c1024) (k0_pay9 (pR m c t) (pS m c t) c1024)
    (k0_pay13 (pR m c t) (pG m c t) (pS m c t) c1024 (pB m c t) (pT m c t))
    (k0_pay14 (pR m c t) (pG m c t) (pS m c t) c1024 (pB m c t) (pT m c t))
    (k0_pay15 (pR m c t) (pG m c t) (pS m c t) c1024 (pB m c t) (pT m c t)) (ix2 i j)
    = dr (aX m c) (aP m c) (aW m c) (aWg m c) (aG m c) (aB m c) (aT m c) (up t i) j := by
  rw [pay16_at _ _ (h28 m c t), row_eq, dxh_eq, dr]

theorem emb9 (y : S256x1024.Idx) : ((View.whole main_v5_1).slice (win0_9.rect t)).emb y = ix2 (up t (y 0)) (y 1) := by
  unfold up; blk_ext [idx t]
theorem emb10 (y : S256x256.Idx) : ((View.whole main_v5_2).slice (win0_10.rect t)).emb y = ix2 (up t (y 0)) (y 1) := by
  unfold up; blk_ext [idx t]
theorem emb11 (y : S256x1024.Idx) : ((View.whole main_v5_3).slice (win0_11.rect t)).emb y = ix2 (up t (y 0)) (y 1) := by
  unfold up; blk_ext [idx t]
theorem emb12 (y : S256x1024.Idx) : ((View.whole main_v5_4).slice (win0_12.rect t)).emb y = ix2 (up t (y 0)) (y 1) := by
  unfold up; blk_ext [idx t]

theorem point_or (t : Fin cfg0.N) : (t.val % 8 = 0 ∧ ¬1 ≤ t.val) ∨ (¬t.val % 8 = 0 ∧ 1 ≤ t.val) := by
  have := lt_of_lt_of_eq t.isLt N_0
  omega

/-! ### The stored blocks at an index -/

theorem gate_at : k0_pay25 (pW m c t) (k0_pay4 (F := Ideal) (iblk m c 1 t) (iblk m c 4 t)) (k0_pay8 (pR m c t) (pS m c t) c1024) (k0_pay9 (pR m c t) (pS m c t) c1024)
    (k0_pay13 (pR m c t) (pG m c t) (pS m c t) c1024 (pB m c t) (pT m c t))
    (k0_pay14 (pR m c t) (pG m c t) (pS m c t) c1024 (pB m c t) (pT m c t))
    (k0_pay15 (pR m c t) (pG m c t) (pS m c t) c1024 (pB m c t) (pT m c t)) (ix2 i j)
    = dgt (aX m c) (aP m c) (aW m c) (aWg m c) (aG m c) (aB m c) (aT m c) (up t i) j := by
  rw [pay25_at, dr_at, pw_at, sg_at, dgt]

theorem point9 : k0_pay1 (k0_pay25 (pW m c t) (k0_pay4 (F := Ideal) (iblk m c 1 t) (iblk m c 4 t)) (k0_pay8 (pR m c t) (pS m c t) c1024) (k0_pay9 (pR m c t) (pS m c t) c1024)
    (k0_pay13 (pR m c t) (pG m c t) (pS m c t) c1024 (pB m c t) (pT m c t))
    (k0_pay14 (pR m c t) (pG m c t) (pS m c t) c1024 (pB m c t) (pT m c t))
    (k0_pay15 (pR m c t) (pG m c t) (pS m c t) c1024 (pB m c t) (pT m c t)))
    (k0_pay29 (k0_pay8 (pR m c t) (pS m c t) c1024) (k0_pay9 (pR m c t) (pS m c t) c1024)
    (k0_pay13 (pR m c t) (pG m c t) (pS m c t) c1024 (pB m c t) (pT m c t))
    (k0_pay14 (pR m c t) (pG m c t) (pS m c t) c1024 (pB m c t) (pT m c t))
    (k0_pay15 (pR m c t) (pG m c t) (pS m c t) c1024 (pB m c t) (pT m c t))) (iblk m c 4 t) (ix2 i j) = dx (aX m c) (aP m c) (aW m c) (aWg m c) (aG m c) (aB m c) (aT m c) (up t i) j := by
  rw [pay1_at, pay29_at, dr_at, dx]
  simp only [gate_at, blk4]

theorem point10 (j : Fin 256) : k0_pay26 (k0_pay2 (F := Ideal) (iblk m c 2 t)) (ix2 i j) = aP m c (up t i) j := by
  pointwise [k0_pay26, k0_pay2]
  exact blk2 m c t i j

theorem point11 : k0_pay27 (k0_pay4 (F := Ideal) (iblk m c 1 t) (iblk m c 4 t)) (k0_pay8 (pR m c t) (pS m c t) c1024) (k0_pay9 (pR m c t) (pS m c t) c1024)
    (k0_pay13 (pR m c t) (pG m c t) (pS m c t) c1024 (pB m c t) (pT m c t))
    (k0_pay14 (pR m c t) (pG m c t) (pS m c t) c1024 (pB m c t) (pT m c t))
    (k0_pay15 (pR m c t) (pG m c t) (pS m c t) c1024 (pB m c t) (pT m c t)) (ix2 i j) = dpw (aX m c) (aP m c) (aW m c) (aWg m c) (aG m c) (aB m c) (aT m c) (up t i) j := by
  rw [pay27_at, dr_at, sg_at, dpw]

theorem point12 : k0_pay28 (pW m c t) (k0_pay4 (F := Ideal) (iblk m c 1 t) (iblk m c 4 t)) (k0_pay8 (pR m c t) (pS m c t) c1024) (k0_pay9 (pR m c t) (pS m c t) c1024)
    (k0_pay13 (pR m c t) (pG m c t) (pS m c t) c1024 (pB m c t) (pT m c t))
    (k0_pay14 (pR m c t) (pG m c t) (pS m c t) c1024 (pB m c t) (pT m c t))
    (k0_pay15 (pR m c t) (pG m c t) (pS m c t) c1024 (pB m c t) (pT m c t)) (ix2 i j)
    = dgt (aX m c) (aP m c) (aW m c) (aWg m c) (aG m c) (aB m c) (aT m c) (up t i) j := by
  rw [pay28_at, dr_at, pw_at, sg_at, dgt]

/-- What a point adds to the gradient of the scale. -/
def dgT (t : Fin cfg0.N) (y : S1x1024.Idx) : EReal := ∑ i : Fin 256, dy (aX m c) (aP m c) (aW m c) (aWg m c) (aG m c) (aB m c) (aT m c) (up t i) (y 1)
    * xhat (res (aX m c) (aP m c) (aW m c) (aWg m c) (up t i)) (y 1)
/-- What a point adds to the gradient of the shift. -/
def dbT (t : Fin cfg0.N) (y : S1x1024.Idx) : EReal := ∑ i : Fin 256, dy (aX m c) (aP m c) (aW m c) (aWg m c) (aG m c) (aB m c) (aT m c) (up t i) (y 1)
/-- What a point adds to the loss. -/
def lossT (t : Fin cfg0.N) : EReal := Ideal.ofBits .f32 0x3F000000#32
  * ∑ i : Fin 256, Ideal.div (∑ k, err (aX m c) (aP m c) (aW m c) (aWg m c) (aG m c) (aB m c) (aT m c) (up t i) k * err (aX m c) (aP m c) (aW m c) (aWg m c) (aG m c) (aB m c) (aT m c) (up t i) k) (Ideal.ofBits .f32 0x44800000#32)

theorem point13A (y) : k0_pay20 (k0_pay9 (pR m c t) (pS m c t) c1024) (k0_pay12 (pR m c t) (pG m c t) (pS m c t) c1024 (pB m c t) (pT m c t)) y = 0 + dgT m c t y := by
  obtain ⟨z, j, rfl⟩ : ∃ (z : Fin 1) (j : Fin 1024), y = ix2 z j := ⟨y 0, y 1, eq_ix2 y⟩
  obtain rfl : z = 0 := Subsingleton.elim _ _
  rw [pay20_at, zero_add]
  simp only [dy_at, xhat_at]; rfl

theorem point13B (a : FVec Ideal S1x1024 .f32) (y) : k0_pay23 (k0_pay9 (pR m c t) (pS m c t) c1024) (k0_pay12 (pR m c t) (pG m c t) (pS m c t) c1024 (pB m c t) (pT m c t)) a y = a y + dgT m c t y := by
  obtain ⟨z, j, rfl⟩ : ∃ (z : Fin 1) (j : Fin 1024), y = ix2 z j := ⟨y 0, y 1, eq_ix2 y⟩
  obtain rfl : z = 0 := Subsingleton.elim _ _
  rw [pay23_at]
  simp only [dy_at, xhat_at]; rfl

theorem point14A (y) : k0_pay21 (k0_pay12 (pR m c t) (pG m c t) (pS m c t) c1024 (pB m c t) (pT m c t)) y = 0 + dbT m c t y := by
  obtain ⟨z, j, rfl⟩ : ∃ (z : Fin 1) (j : Fin 1024), y = ix2 z j := ⟨y 0, y 1, eq_ix2 y⟩
  obtain rfl : z = 0 := Subsingleton.elim _ _
  rw [pay21_at, zero_add]
  simp only [dy_at]; rfl

theorem point14B (a : FVec Ideal S1x1024 .f32) (y) : k0_pay24 (k0_pay12 (pR m c t) (pG m c t) (pS m c t) c1024 (pB m c t) (pT m c t)) a y = a y + dbT m c t y := by
  obtain ⟨z, j, rfl⟩ : ∃ (z : Fin 1) (j : Fin 1024), y = ix2 z j := ⟨y 0, y 1, eq_ix2 y⟩
  obtain rfl : z = 0 := Subsingleton.elim _ _
  rw [pay24_at]
  simp only [dy_at]; rfl

theorem loss_at (l : Fin 128) : k0_pay11 (pR m c t) (pG m c t) (pS m c t) c1024 (pB m c t) (pT m c t) (ix2 0 l) = lossT m c t := by
  rw [pay11_at _ _ (h28 m c t)]
  simp only [err_eq]; rfl

theorem point8A (y) : k0_pay19 (k0_pay11 (pR m c t) (pG m c t) (pS m c t) c1024 (pB m c t) (pT m c t)) y = 0 + lossT m c t := by
  obtain ⟨z, l, rfl⟩ : ∃ (z : Fin 1) (l : Fin 128), y = ix2 z l := ⟨y 0, y 1, eq_ix2 y⟩
  obtain rfl : z = 0 := Subsingleton.elim _ _
  pointwise [k0_pay19]
  rw [loss_at]

theorem point8B (a : FVec Ideal S1x128 .f32) (y) :
    k0_pay22 (k0_pay11 (pR m c t) (pG m c t) (pS m c t) c1024 (pB m c t) (pT m c t)) a y = a y + lossT m c t := by
  obtain ⟨z, l, rfl⟩ : ∃ (z : Fin 1) (l : Fin 128), y = ix2 z l := ⟨y 0, y 1, eq_ix2 y⟩
  obtain rfl : z = 0 := Subsingleton.elim _ _
  pointwise [k0_pay22]
  rw [loss_at]

/-! ### The results after the grid -/

theorem final9 : (dats m 0 c).arrAt 9 (cfgs 0).N = fun z : S2048x1024.Idx => dx (aX m c) (aP m c) (aW m c) (aWg m c) (aG m c) (aB m c) (aT m c) (z 0) (z 1) := by
  refine (dats m 0 c).arrAt_eq_of_covers 9 _ (by decide +kernel) fun t hf y => ?_
  blk_simp
  rw [after0_9, emb9]
  obtain ⟨i, j, rfl⟩ : ∃ i j, y = ix2 i j := ⟨y 0, y 1, eq_ix2 y⟩
  rcases point_or t with ⟨h, h1⟩ | ⟨h, h1⟩ <;> first | rw [outsAt0_A m c t h h1] | rw [outsAt0_B m c t h h1]
  all_goals
    frame_out
    exact point9 m c t i j

theorem final10 : (dats m 0 c).arrAt 10 (cfgs 0).N = fun z : S2048x256.Idx => aP m c (z 0) (z 1) := by
  refine (dats m 0 c).arrAt_eq_of_covers 10 _ (by decide +kernel) fun t hf y => ?_
  blk_simp
  rw [after0_10, emb10]
  obtain ⟨i, j, rfl⟩ : ∃ i j, y = ix2 i j := ⟨y 0, y 1, eq_ix2 y⟩
  rcases point_or t with ⟨h, h1⟩ | ⟨h, h1⟩ <;> first | rw [outsAt0_A m c t h h1] | rw [outsAt0_B m c t h h1]
  all_goals
    frame_out
    exact point10 m c t i j

theorem final11 : (dats m 0 c).arrAt 11 (cfgs 0).N = fun z : S2048x1024.Idx => dpw (aX m c) (aP m c) (aW m c) (aWg m c) (aG m c) (aB m c) (aT m c) (z 0) (z 1) := by
  refine (dats m 0 c).arrAt_eq_of_covers 11 _ (by decide +kernel) fun t hf y => ?_
  blk_simp
  rw [after0_11, emb11]
  obtain ⟨i, j, rfl⟩ : ∃ i j, y = ix2 i j := ⟨y 0, y 1, eq_ix2 y⟩
  rcases point_or t with ⟨h, h1⟩ | ⟨h, h1⟩ <;> first | rw [outsAt0_A m c t h h1] | rw [outsAt0_B m c t h h1]
  all_goals
    frame_out
    exact point11 m c t i j

theorem final12 : (dats m 0 c).arrAt 12 (cfgs 0).N = fun z : S2048x1024.Idx => dgt (aX m c) (aP m c) (aW m c) (aWg m c) (aG m c) (aB m c) (aT m c) (z 0) (z 1) := by
  refine (dats m 0 c).arrAt_eq_of_covers 12 _ (by decide +kernel) fun t hf y => ?_
  blk_simp
  rw [after0_12, emb12]
  obtain ⟨i, j, rfl⟩ : ∃ i j, y = ix2 i j := ⟨y 0, y 1, eq_ix2 y⟩
  rcases point_or t with ⟨h, h1⟩ | ⟨h, h1⟩ <;> first | rw [outsAt0_A m c t h h1] | rw [outsAt0_B m c t h h1]
  all_goals
    frame_out
    exact point12 m c t i j

/-- A sum over the eight blocks' rows is a sum over all rows. -/
theorem sum_rows (f : Fin 2048 → EReal) : ∑ t : Fin cfg0.N, ∑ i : Fin 256, f (up t i) = ∑ r, f r := by
  rw [← Fin.sum_univ_one (fun _ : Fin 1 => ∑ r, f r)]
  refine Fin.sum_points_lanes_congr 8 fun t k ha hl => ?_
  have := lt_of_lt_of_eq t.isLt N_0
  exact congrArg f (Fin.ext (by simp only [up]; omega))

theorem final13 : (dats m 0 c).arrAt 13 (cfgs 0).N = fun z : S1x1024.Idx => dg (aX m c) (aP m c) (aW m c) (aWg m c) (aG m c) (aB m c) (aT m c) (z 1) := by
  refine (dats m 0 c).arrAt_eq_of_after_last 13 t0_7 (by decide +kernel) _ fun y => ?_
  blk_simp
  rw [after0_13, Pipeline.eq_sum_fin_of_reset_step_apply_last (fun n h => (outsAt0 m c n h).2.2.2.2.2.1) 8 (fun _ => 0) (dgT m c)
    (fun t h y => ?_) (fun t h y => ?_) (le_of_eq N_0) t0_7 rfl y, zero_add]
  · exact sum_rows fun r => dy (aX m c) (aP m c) (aW m c) (aWg m c) (aG m c) (aB m c) (aT m c) r (y 1) * xhat (res (aX m c) (aP m c) (aW m c) (aWg m c) r) (y 1)
  · have h1 : ¬1 ≤ t.val := by have := point_or t; omega
    rw [outsAt0_A m c t h h1]
    frame_out
    exact point13A m c t y
  · have h1 : 1 ≤ t.val := by have := point_or t; omega
    rw [outsAt0_B m c t h h1]
    frame_out
    exact point13B m c t _ y

theorem final14 : (dats m 0 c).arrAt 14 (cfgs 0).N = fun z : S1x1024.Idx => db (aX m c) (aP m c) (aW m c) (aWg m c) (aG m c) (aB m c) (aT m c) (z 1) := by
  refine (dats m 0 c).arrAt_eq_of_after_last 14 t0_7 (by decide +kernel) _ fun y => ?_
  blk_simp
  rw [after0_14, Pipeline.eq_sum_fin_of_reset_step_apply_last (fun n h => (outsAt0 m c n h).2.2.2.2.2.2) 8 (fun _ => 0) (dbT m c)
    (fun t h y => ?_) (fun t h y => ?_) (le_of_eq N_0) t0_7 rfl y, zero_add]
  · exact sum_rows fun r => dy (aX m c) (aP m c) (aW m c) (aWg m c) (aG m c) (aB m c) (aT m c) r (y 1)
  · have h1 : ¬1 ≤ t.val := by have := point_or t; omega
    rw [outsAt0_A m c t h h1]
    frame_out
    exact point14A m c t y
  · have h1 : 1 ≤ t.val := by have := point_or t; omega
    rw [outsAt0_B m c t h h1]
    frame_out
    exact point14B m c t _ y

theorem final8 : (dats m 0 c).arrAt 8 (cfgs 0).N = fun z : S1x128.Idx => ∑ t, lossT m c t := by
  refine (dats m 0 c).arrAt_eq_of_after_last 8 t0_7 (by decide +kernel) _ fun y => ?_
  blk_simp
  rw [after0_8, Pipeline.eq_sum_fin_of_reset_step_apply_last (fun n h => (outsAt0 m c n h).1) 8 (fun _ => 0) (fun t _ => lossT m c t)
    (fun t h y => ?_) (fun t h y => ?_) (le_of_eq N_0) t0_7 rfl y, zero_add]

  · have h1 : ¬1 ≤ t.val := by have := point_or t; omega
    rw [outsAt0_A m c t h h1]
    frame_out
    exact point8A m c t y
  · have h1 : 1 ≤ t.val := by have := point_or t; omega
    rw [outsAt0_B m c t h h1]
    frame_out
    exact point8B m c t _ y

end Cert.PleIdeal.Gen

end
-- ==== Proof.PleRef.lean ====
/- The reference for the last layer norm: its results read at an index. -/
module

public import proofs.«01_k».proof.Proof.PleMath
public import proofs.«01_k».proof.Proof.Gen.RefPleIdeal.Run
public import Idealize.ShloMosaic.Lib.Pointwise

@[expose] public section

set_option maxRecDepth 16384

noncomputable section

namespace Cert.RefPleIdeal.Value

open Cert.RefPleIdeal Cert.RefPleIdeal.Gen Idealize.ShloMosaic Idealize.ShloMosaic.TcCoe Idealize.SL.Sem
open Cert.Step Cert.Step.Ple
open scoped BigOperators

variable (V0 : Valuation τ sig (Elt Ideal))

def aX : Mat 2048 1024 := fun i j => (V0 (Proc.devRef .tc main_arg0) : FVec Ideal S2048x1024 .f32) (ix2 i j)
def aP : Mat 2048 256 := fun i j => (V0 (Proc.devRef .tc main_arg1) : FVec Ideal S2048x256 .f32) (ix2 i j)
def aW : Mat 256 1024 := fun i j => (V0 (Proc.devRef .tc main_arg2) : FVec Ideal S256x1024 .f32) (ix2 i j)
def aWg : Mat 1024 1024 := fun i j => (V0 (Proc.devRef .tc main_arg3) : FVec Ideal S1024x1024 .f32) (ix2 i j)
def aG : Row := fun j => (V0 (Proc.devRef .tc main_arg4) : FVec Ideal S1x1024 .f32) (ix2 0 j)
def aB : Row := fun j => (V0 (Proc.devRef .tc main_arg5) : FVec Ideal S1x1024 .f32) (ix2 0 j)
def aT : Mat 2048 1024 := fun i j => (V0 (Proc.devRef .tc main_arg6) : FVec Ideal S2048x1024 .f32) (ix2 i j)

variable (i : Fin 2048) (j : Fin 1024)

theorem v2_at : (res_main_v2 V0 : FVec Ideal S2048x1024 .f32) (ix2 i j) = pw (aP V0) (aW V0) i j := by
  pointwise [res_main_v2, res_main_v0]
  rfl

theorem v10_at : (res_main_v10 V0 : FVec Ideal S2048x1024 .f32) (ix2 i j) = sg (aX V0) (aWg V0) i j := by
  pointwise [res_main_v10, res_main_v0]
  rfl

theorem v17_at : (res_main_v17 V0 : FVec Ideal S2048x1024 .f32) (ix2 i j) = res (aX V0) (aP V0) (aW V0) (aWg V0) i j := by
  pointwise [res_main_v17]
  rw [v2_at, v10_at]; rfl

theorem v23_at : (res_main_v23 V0 : FVec Ideal S2048x1024 .f32) (ix2 i j) = cen (res (aX V0) (aP V0) (aW V0) (aWg V0) i) j := by
  pointwise [res_main_v23]
  simp only [v17_at]; rfl

theorem v30_at : (res_main_v30 V0 : FVec Ideal S2048x1 .f32) (ix2 i 0) = vareps (res (aX V0) (aP V0) (aW V0) (aWg V0) i) := by
  pointwise [res_main_v30]
  simp only [v23_at]; rfl

theorem v31_at : (res_main_v31 V0 : FVec Ideal S2048x1 .f32) (ix2 i 0) = rstd (res (aX V0) (aP V0) (aW V0) (aWg V0) i) := by
  pointwise [res_main_v31]
  rw [v30_at]; rfl

theorem v36_at : (res_main_v36 V0 : FVec Ideal S2048x1024 .f32) (ix2 i j) = xhat (res (aX V0) (aP V0) (aW V0) (aWg V0) i) j := by
  pointwise [res_main_v36]
  rw [v23_at, v31_at]; rfl

theorem v41_at : (res_main_v41 V0 : FVec Ideal S2048x1024 .f32) (ix2 i j) = err (aX V0) (aP V0) (aW V0) (aWg V0) (aG V0) (aB V0) (aT V0) i j := by
  pointwise [res_main_v41]
  rw [v36_at]; rfl

theorem v55_at : (res_main_v55 V0 : FVec Ideal S2048x1024 .f32) (ix2 i j) = dy (aX V0) (aP V0) (aW V0) (aWg V0) (aG V0) (aB V0) (aT V0) i j := by
  pointwise [res_main_v55]
  rw [v41_at]
  exact half_two_mean _

theorem v62_at : (res_main_v62 V0 : FVec Ideal S2048x1024 .f32) (ix2 i j) = dxh (aX V0) (aP V0) (aW V0) (aWg V0) (aG V0) (aB V0) (aT V0) i j := by
  pointwise [res_main_v62]
  rw [v55_at]; rfl

theorem v72_at : (res_main_v72 V0 : FVec Ideal S2048x1024 .f32) (ix2 i j) = sqG (res (aX V0) (aP V0) (aW V0) (aWg V0) i) (dxh (aX V0) (aP V0) (aW V0) (aWg V0) (aG V0) (aB V0) (aT V0) i) := by
  pointwise [res_main_v72]
  rw [Fin.sum_univ_one]
  simp only [v23_at, v62_at, v31_at, v30_at]
  rfl

theorem v76_at : (res_main_v76 V0 : FVec Ideal S2048x1024 .f32) (ix2 i j) = cenG (res (aX V0) (aP V0) (aW V0) (aWg V0) i) (dxh (aX V0) (aP V0) (aW V0) (aWg V0) (aG V0) (aB V0) (aT V0) i) j := by
  pointwise [res_main_v76]
  rw [v62_at, v31_at, v23_at, v72_at]; rfl

theorem v84_at : (res_main_v84 V0 : FVec Ideal S2048x1024 .f32) (ix2 i j) = bwdR (res (aX V0) (aP V0) (aW V0) (aWg V0) i) (dxh (aX V0) (aP V0) (aW V0) (aWg V0) (aG V0) (aB V0) (aT V0) i) j := by
  pointwise [res_main_v84]
  rw [Fin.sum_univ_one]
  simp only [v76_at]
  rfl

/-! ### The results -/

theorem loss_eq : broadcastInDim S1x128 ![] bcast_S_S1x128 (mulf (constant S_ .f32 0x3F000000#32) (Host.reduceAdd (Host.divf (Host.reduceAdd (mulf (res_main_v41 V0) (res_main_v41 V0)) (constant S_ .f32 0x00000000#32) reducesTo_S2048x1024_S2048_d1 h_S_) (broadcastInDim S2048 ![] bcast_S_S2048 (constant S_ .f32 0x44800000#32))) (constant S_ .f32 0x00000000#32) reducesTo_S2048_S_d0 h_S_)) = fun _ : S1x128.Idx => loss (aX V0) (aP V0) (aW V0) (aWg V0) (aG V0) (aB V0) (aT V0) := by
  funext z
  pointwise
  simp only [v41_at]
  rfl

theorem pb_eq : truncf (F := Ideal) .bf16 (φ := .f32) (V0 (Proc.devRef .tc main_arg1)) bitsLt_bf16_f32 = fun z : S2048x256.Idx => aP V0 (z 0) (z 1) := by
  funext z
  obtain ⟨i, j, rfl⟩ : ∃ i j, z = ix2 i j := ⟨z 0, z 1, eq_ix2 z⟩
  pointwise
  rfl

theorem dg_eq : shapeCast _ (Host.reduceAdd (mulf (res_main_v36 V0) (res_main_v55 V0)) (constant S_ .f32 0x00000000#32) reducesTo_S2048x1024_S1024_d0 h_S_) shapeCasts_S1024_S1x1024 = fun z : S1x1024.Idx => dg (aX V0) (aP V0) (aW V0) (aWg V0) (aG V0) (aB V0) (aT V0) (z 1) := by
  funext z
  obtain ⟨z, j, rfl⟩ : ∃ (i : Fin 1) (j : Fin 1024), z = ix2 i j := ⟨z 0, z 1, eq_ix2 z⟩
  pointwise
  simp only [v36_at, v55_at]
  exact Finset.sum_congr rfl fun _ _ => mul_comm _ _

theorem db_eq : shapeCast _ (Host.reduceAdd (res_main_v55 V0) (constant S_ .f32 0x00000000#32) reducesTo_S2048x1024_S1024_d0 h_S_) shapeCasts_S1024_S1x1024 = fun z : S1x1024.Idx => db (aX V0) (aP V0) (aW V0) (aWg V0) (aG V0) (aB V0) (aT V0) (z 1) := by
  funext z
  obtain ⟨z, j, rfl⟩ : ∃ (i : Fin 1) (j : Fin 1024), z = ix2 i j := ⟨z 0, z 1, eq_ix2 z⟩
  pointwise
  simp only [v55_at]
  rfl

section
variable (hx : ∀ i j, IsR (aX V0 i j)) (hp : ∀ i j, IsR (aP V0 i j)) (hw : ∀ i j, IsR (aW V0 i j)) (hg : ∀ j, IsR (aG V0 j))
  (hb : ∀ j, IsR (aB V0 j)) (ht : ∀ i j, IsR (aT V0 i j))

include hx hp hw hg hb ht

theorem v84_dr : (res_main_v84 V0 : FVec Ideal S2048x1024 .f32) (ix2 i j) = dr (aX V0) (aP V0) (aW V0) (aWg V0) (aG V0) (aB V0) (aT V0) i j := by
  rw [v84_at, dr_eq _ _ _ _ _ _ _ hx hp hw hg hb ht]

theorem v89_dgt : (res_main_v89 V0 : FVec Ideal S2048x1024 .f32) (ix2 i j) = dgt (aX V0) (aP V0) (aW V0) (aWg V0) (aG V0) (aB V0) (aT V0) i j := by
  pointwise [res_main_v89]
  rw [v2_at, v10_at, v84_dr V0 i j hx hp hw hg hb ht, dgt, mul_comm (pw _ _ _ _), mul_assoc, mul_assoc, mul_assoc]

theorem dpw_eq : truncf .bf16 (mulf (res_main_v84 V0) (res_main_v10 V0)) bitsLt_bf16_f32 = fun z : S2048x1024.Idx => dpw (aX V0) (aP V0) (aW V0) (aWg V0) (aG V0) (aB V0) (aT V0) (z 0) (z 1) := by
  funext z
  obtain ⟨i, j, rfl⟩ : ∃ i j, z = ix2 i j := ⟨z 0, z 1, eq_ix2 z⟩
  pointwise
  rw [v84_dr V0 i j hx hp hw hg hb ht, v10_at]
  rfl

theorem dgt_eq : truncf .bf16 (res_main_v89 V0) bitsLt_bf16_f32 = fun z : S2048x1024.Idx => dgt (aX V0) (aP V0) (aW V0) (aWg V0) (aG V0) (aB V0) (aT V0) (z 0) (z 1) := by
  funext z
  obtain ⟨i, j, rfl⟩ : ∃ i j, z = ix2 i j := ⟨z 0, z 1, eq_ix2 z⟩
  pointwise
  exact v89_dgt V0 i j hx hp hw hg hb ht

theorem dx_eq : addf (mulf (broadcastInDim S2048x1024 ![] bcast_S_S2048x1024 (constant S_ .f32 0x3F9837F0#32)) (res_main_v84 V0)) (Host.dotGeneral (φ₁ := .f32) (φ₂ := .f32) dot_S2048x1024_S1024x1024_S2048x1024_1_1_0_0_n_n none (res_main_v89 V0) (V0 (Proc.devRef .tc main_arg3))) = fun z : S2048x1024.Idx => dx (aX V0) (aP V0) (aW V0) (aWg V0) (aG V0) (aB V0) (aT V0) (z 0) (z 1) := by
  funext z
  obtain ⟨i, j, rfl⟩ : ∃ i j, z = ix2 i j := ⟨z 0, z 1, eq_ix2 z⟩
  pointwise
  simp only [v84_dr V0 _ _ hx hp hw hg hb ht, v89_dgt V0 _ _ hx hp hw hg hb ht]
  rfl

end

end Cert.RefPleIdeal.Value

end
-- ==== Proof.PlePair.lean ====
/- The last layer norm's kernel and its reference leave the same results. -/
module

public import proofs.«01_k».proof.Defs
public import proofs.«01_k».proof.Proof.PleValue
public import proofs.«01_k».proof.Proof.PleRef
public import proofs.«01_k».proof.Proof.Gen.Pre_finite_ple
public import Idealize.ShloMosaic.Lib.Quiescent

@[expose] public section

set_option maxRecDepth 16384

noncomputable section

namespace Cert.Proof.Ple

open Idealize.ShloMosaic Idealize.ShloMosaic.TcCoe Idealize.SL.Sem
open Cert.Step Cert.Step.Ple
open scoped BigOperators

variable (m : (ℓ : Loc Cert.PleIdeal.nD Cert.PleIdeal.τ Cert.PleIdeal.sig) → Buf (Elt Ideal) ℓ) (c : Dev Cert.PleIdeal.nD)

section
variable (h : Cert.Pre_PleIdeal_finite_ple m)
include h

theorem fin_x (i : Fin 2048) (j : Fin 1024) : IsR (Cert.PleIdeal.Gen.aX m c i j) := by
  have := congrFun (h c).1 (ix2 i j)
  exact IsR.of_cmp this
theorem fin_p (i : Fin 2048) (j : Fin 256) : IsR (Cert.PleIdeal.Gen.aP m c i j) :=
  IsR.of_cmp (congrFun (h c).2.1 (ix2 i j))
theorem fin_w (i : Fin 256) (j : Fin 1024) : IsR (Cert.PleIdeal.Gen.aW m c i j) :=
  IsR.of_cmp (congrFun (h c).2.2.1 (ix2 i j))
theorem fin_g (j : Fin 1024) : IsR (Cert.PleIdeal.Gen.aG m c j) :=
  IsR.of_cmp (congrFun (h c).2.2.2.1 (ix2 0 j))
theorem fin_b (j : Fin 1024) : IsR (Cert.PleIdeal.Gen.aB m c j) :=
  IsR.of_cmp (congrFun (h c).2.2.2.2.1 (ix2 0 j))
theorem fin_t (i : Fin 2048) (j : Fin 1024) : IsR (Cert.PleIdeal.Gen.aT m c i j) :=
  IsR.of_cmp (congrFun (h c).2.2.2.2.2 (ix2 i j))
end

/-- The kernel's loss, summed block by block, is the loss. -/
theorem loss_eq (h : Cert.Pre_PleIdeal_finite_ple m) : ∑ t, Cert.PleIdeal.Gen.lossT m c t
    = loss (Cert.PleIdeal.Gen.aX m c) (Cert.PleIdeal.Gen.aP m c) (Cert.PleIdeal.Gen.aW m c) (Cert.PleIdeal.Gen.aWg m c)
        (Cert.PleIdeal.Gen.aG m c) (Cert.PleIdeal.Gen.aB m c) (Cert.PleIdeal.Gen.aT m c) := by
  have he : ∀ i j, IsR (err (Cert.PleIdeal.Gen.aX m c) (Cert.PleIdeal.Gen.aP m c) (Cert.PleIdeal.Gen.aW m c)
      (Cert.PleIdeal.Gen.aWg m c) (Cert.PleIdeal.Gen.aG m c) (Cert.PleIdeal.Gen.aB m c) (Cert.PleIdeal.Gen.aT m c) i j) :=
    err_isR _ _ _ _ _ _ _ (fin_x m c h) (fin_p m c h) (fin_w m c h) (fin_g m c h) (fin_b m c h) (fin_t m c h)
  have hq : ∀ i, IsR (Ideal.div (∑ k, err (Cert.PleIdeal.Gen.aX m c) (Cert.PleIdeal.Gen.aP m c) (Cert.PleIdeal.Gen.aW m c)
      (Cert.PleIdeal.Gen.aWg m c) (Cert.PleIdeal.Gen.aG m c) (Cert.PleIdeal.Gen.aB m c) (Cert.PleIdeal.Gen.aT m c) i k
      * err (Cert.PleIdeal.Gen.aX m c) (Cert.PleIdeal.Gen.aP m c) (Cert.PleIdeal.Gen.aW m c)
      (Cert.PleIdeal.Gen.aWg m c) (Cert.PleIdeal.Gen.aG m c) (Cert.PleIdeal.Gen.aB m c) (Cert.PleIdeal.Gen.aT m c) i k)
      (Ideal.ofBits .f32 0x44800000#32)) := fun i => IsR.div1024 (IsR.sum _ fun k => (he i k).mul (he i k))
  rw [loss, ← Cert.PleIdeal.Gen.sum_rows, mul_sum_fin _ (ofBits_half ▸ IsR.coe _) fun t => IsR.sum _ fun i => hq _]
  rfl

theorem frame_ref : Cert.quiescent_RefPleIdeal :=
  fun m g _ => (θ_run _ _ _).mono (fun _ h => ⟨fun c => (h c).2.2.2.2.2.2.2, sem_eq_zero_of_no_sems rfl _⟩)
    (Cert.RefPleIdeal.Value.run m g)

theorem algebraic : Cert.algebraic_PleIdeal_RefPleIdeal_pre_finite_ple := by
  intro m g m' g' hpre hagree
  refine ⟨fun c _ => loss (Cert.PleIdeal.Gen.aX m c) (Cert.PleIdeal.Gen.aP m c) (Cert.PleIdeal.Gen.aW m c) (Cert.PleIdeal.Gen.aWg m c) (Cert.PleIdeal.Gen.aG m c) (Cert.PleIdeal.Gen.aB m c) (Cert.PleIdeal.Gen.aT m c),
    fun c (z : Cert.PleIdeal.S2048x1024.Idx) => dx (Cert.PleIdeal.Gen.aX m c) (Cert.PleIdeal.Gen.aP m c) (Cert.PleIdeal.Gen.aW m c) (Cert.PleIdeal.Gen.aWg m c) (Cert.PleIdeal.Gen.aG m c) (Cert.PleIdeal.Gen.aB m c) (Cert.PleIdeal.Gen.aT m c) (z 0) (z 1),
    fun c (z : Cert.PleIdeal.S2048x256.Idx) => Cert.PleIdeal.Gen.aP m c (z 0) (z 1),
    fun c (z : Cert.PleIdeal.S2048x1024.Idx) => dpw (Cert.PleIdeal.Gen.aX m c) (Cert.PleIdeal.Gen.aP m c) (Cert.PleIdeal.Gen.aW m c) (Cert.PleIdeal.Gen.aWg m c) (Cert.PleIdeal.Gen.aG m c) (Cert.PleIdeal.Gen.aB m c) (Cert.PleIdeal.Gen.aT m c) (z 0) (z 1),
    fun c (z : Cert.PleIdeal.S2048x1024.Idx) => dgt (Cert.PleIdeal.Gen.aX m c) (Cert.PleIdeal.Gen.aP m c) (Cert.PleIdeal.Gen.aW m c) (Cert.PleIdeal.Gen.aWg m c) (Cert.PleIdeal.Gen.aG m c) (Cert.PleIdeal.Gen.aB m c) (Cert.PleIdeal.Gen.aT m c) (z 0) (z 1),
    fun c (z : Cert.PleIdeal.S1x1024.Idx) => dg (Cert.PleIdeal.Gen.aX m c) (Cert.PleIdeal.Gen.aP m c) (Cert.PleIdeal.Gen.aW m c) (Cert.PleIdeal.Gen.aWg m c) (Cert.PleIdeal.Gen.aG m c) (Cert.PleIdeal.Gen.aB m c) (Cert.PleIdeal.Gen.aT m c) (z 1),
    fun c (z : Cert.PleIdeal.S1x1024.Idx) => db (Cert.PleIdeal.Gen.aX m c) (Cert.PleIdeal.Gen.aP m c) (Cert.PleIdeal.Gen.aW m c) (Cert.PleIdeal.Gen.aWg m c) (Cert.PleIdeal.Gen.aG m c) (Cert.PleIdeal.Gen.aB m c) (Cert.PleIdeal.Gen.aT m c) (z 1),
    (θ_run _ _ _).mono (fun r h c => ?_) (Cert.PleIdeal.Value.run_blocks m g),
    (θ_run _ _ _).mono (fun r h c => ?_) (Cert.RefPleIdeal.Value.run m' g')⟩
  · obtain ⟨h0, h1, h2, h3, h4, h5, h6, hr⟩ := h c
    exact ⟨h0.trans ((Cert.PleIdeal.Gen.final8 m c).trans (funext fun _ => loss_eq m c hpre)), h1.trans (Cert.PleIdeal.Gen.final9 m c),
      h2.trans (Cert.PleIdeal.Gen.final10 m c), h3.trans (Cert.PleIdeal.Gen.final11 m c),
      h4.trans (Cert.PleIdeal.Gen.final12 m c), h5.trans (Cert.PleIdeal.Gen.final13 m c), h6.trans (Cert.PleIdeal.Gen.final14 m c), hr⟩
  · obtain ⟨h0, h1, h2, h3, h4, h5, h6, hr⟩ := h c
    have eX : Cert.RefPleIdeal.Value.aX (StableHlo.launchContents m' c) = Cert.PleIdeal.Gen.aX m c :=
      funext fun i => funext fun j => congrFun (hagree c).1 (ix2 i j)
    have eP : Cert.RefPleIdeal.Value.aP (StableHlo.launchContents m' c) = Cert.PleIdeal.Gen.aP m c :=
      funext fun i => funext fun j => congrFun (hagree c).2.1 (ix2 i j)
    have eW : Cert.RefPleIdeal.Value.aW (StableHlo.launchContents m' c) = Cert.PleIdeal.Gen.aW m c :=
      funext fun i => funext fun j => congrFun (hagree c).2.2.1 (ix2 i j)
    have eWg : Cert.RefPleIdeal.Value.aWg (StableHlo.launchContents m' c) = Cert.PleIdeal.Gen.aWg m c :=
      funext fun i => funext fun j => congrFun (hagree c).2.2.2.1 (ix2 i j)
    have eG : Cert.RefPleIdeal.Value.aG (StableHlo.launchContents m' c) = Cert.PleIdeal.Gen.aG m c :=
      funext fun j => congrFun (hagree c).2.2.2.2.1 (ix2 0 j)
    have eB : Cert.RefPleIdeal.Value.aB (StableHlo.launchContents m' c) = Cert.PleIdeal.Gen.aB m c :=
      funext fun j => congrFun (hagree c).2.2.2.2.2.1 (ix2 0 j)
    have eT : Cert.RefPleIdeal.Value.aT (StableHlo.launchContents m' c) = Cert.PleIdeal.Gen.aT m c :=
      funext fun i => funext fun j => congrFun (hagree c).2.2.2.2.2.2 (ix2 i j)
    have k0 := Cert.RefPleIdeal.Value.loss_eq (StableHlo.launchContents m' c)
    have k2 := Cert.RefPleIdeal.Value.pb_eq (StableHlo.launchContents m' c)
    have k5 := Cert.RefPleIdeal.Value.dg_eq (StableHlo.launchContents m' c)
    have k6 := Cert.RefPleIdeal.Value.db_eq (StableHlo.launchContents m' c)
    have k1 := Cert.RefPleIdeal.Value.dx_eq (StableHlo.launchContents m' c)
    have k3 := Cert.RefPleIdeal.Value.dpw_eq (StableHlo.launchContents m' c)
    have k4 := Cert.RefPleIdeal.Value.dgt_eq (StableHlo.launchContents m' c)
    rw [eX, eP, eW, eWg, eG, eB, eT] at k0 k1 k3 k4 k5 k6
    rw [eP] at k2
    have f1 := k1 (fin_x m c hpre) (fin_p m c hpre) (fin_w m c hpre) (fin_g m c hpre) (fin_b m c hpre) (fin_t m c hpre)
    have f3 := k3 (fin_x m c hpre) (fin_p m c hpre) (fin_w m c hpre) (fin_g m c hpre) (fin_b m c hpre) (fin_t m c hpre)
    have f4 := k4 (fin_x m c hpre) (fin_p m c hpre) (fin_w m c hpre) (fin_g m c hpre) (fin_b m c hpre) (fin_t m c hpre)
    exact ⟨h0.trans k0, h1.trans f1, h2.trans k2, h3.trans f3, h4.trans f4, h5.trans k5, h6.trans k6, hr⟩

end Cert.Proof.Ple

end
-- ==== Proof.ConvMath.lean ====
/- The gated short convolution over the positions and its gradients, as plain formulas. -/
module

public import proofs.«01_k».proof.Proof.Reals

@[expose] public section

noncomputable section

namespace Cert.Step.Conv

open Idealize.ShloMosaic Cert.Step
open scoped BigOperators

variable (x : Mat 2048 1024) (w : Mat 1024 4096) (cw : Mat 3 512) (cb : Fin 512 → EReal) (wo : Mat 512 1024)
  (dyc : Mat 2048 1024) (dsu dud : Mat 2048 512) (g : Mat 2048 2048) (res : Mat 2048 1024)

/-- The projection, of which three stretches of columns drive the convolution. -/
def pj : Mat 2048 4096 := fun t n => ∑ d, x t d * w d n
def cB : Mat 2048 512 := fun t k => pj x w t ⟨k, by omega⟩
def cC : Mat 2048 512 := fun t k => pj x w t ⟨512 + k, by omega⟩
def cH : Mat 2048 512 := fun t k => pj x w t ⟨1024 + k, by omega⟩
def q : Mat 2048 512 := fun t k => cC x w t k * cH x w t k
/-- The product `n` positions before, zero in front of the first. -/
def qb (n : ℕ) : Mat 2048 512 := fun t k => if t.val < n then 0 else q x w ⟨t.val - n, by omega⟩ k
def z : Mat 2048 512 := fun t k => cw 0 k * qb x w 2 t k + cw 1 k * qb x w 1 t k + cw 2 k * q x w t k + cb k

def dyin : Mat 2048 512 := fun t k => ∑ e, dyc t e * wo k e
def dz : Mat 2048 512 := fun t k => dyin wo dyc t k * cB x w t k
/-- The gradient `n` positions after, zero behind the last. -/
def dzl (n : ℕ) : Mat 2048 512 := fun t k => if h : n + t.val < 2048 then dz x w wo dyc ⟨n + t.val, h⟩ k else 0
def dq : Mat 2048 512 := fun t k =>
  cw 2 k * dz x w wo dyc t k + cw 1 k * dzl x w wo dyc 1 t k + cw 0 k * dzl x w wo dyc 2 t k

/-- The projection's gradient: four stretches of 512 columns from the convolution, then the gates'. -/
def dp : Mat 2048 4096 := fun t n =>
  if h0 : n.val < 512 then dyin wo dyc t ⟨n, h0⟩ * z x w cw cb t ⟨n, h0⟩
  else if h1 : n.val < 1024 then dq x w cw wo dyc t ⟨n - 512, by omega⟩ * cH x w t ⟨n - 512, by omega⟩
  else if h2 : n.val < 1536 then dq x w cw wo dyc t ⟨n - 1024, by omega⟩ * cC x w t ⟨n - 1024, by omega⟩
  else if h3 : n.val < 2048 then dsu t ⟨n - 1536, by omega⟩ + dud t ⟨n - 1536, by omega⟩
  else g t ⟨n - 2048, by omega⟩

def dx : Mat 2048 1024 := fun t j => res t j + ∑ n, dp x w cw cb wo dyc dsu dud g t n * w j n

/-- The gradient of the three taps, below them zeros. -/
def dcw : Mat 8 512 := fun r k =>
  if r.val = 0 then ∑ t, dz x w wo dyc t k * qb x w 2 t k
  else if r.val = 1 then ∑ t, dz x w wo dyc t k * qb x w 1 t k
  else if r.val = 2 then ∑ t, dz x w wo dyc t k * q x w t k
  else 0

def dcb : Fin 512 → EReal := fun k => ∑ t, dz x w wo dyc t k

end Cert.Step.Conv

end
-- ==== Proof.ConvPay.lean ====
/- The convolution's backward kernel: each block it computes, at an index. -/
module

public import proofs.«01_k».proof.Proof.Gen.ConvIdeal.Value
public import proofs.«01_k».proof.Proof.ConvMath
public import Idealize.ShloMosaic.Lib.Pipeline.ValueKit
public import Idealize.ShloMosaic.Lib.Pointwise

@[expose] public section

set_option maxRecDepth 16384

noncomputable section

namespace Cert.ConvIdeal.Gen

open Cert.ConvIdeal Idealize.ShloMosaic Idealize.ShloMosaic.TcCoe Idealize.SL.Sem
open Idealize.ShloMosaic.Pipeline
open Cert.Step
open scoped BigOperators

variable (i k : Fin 512) (j : Fin 1024)

theorem pay3_at (d : FVec Ideal S512x1024 .bf16) (w : Vec Ideal S4x512x256 .bf16) :
    k0_pay3 (F := Ideal) d (View.ld w (Rect.unit ![0, 0, 0] ![1, 512, 256] inb_S4x512x256_S1x512x256_0_0_0))
            (View.ld w (Rect.unit ![1, 0, 0] ![1, 512, 256] inb_S4x512x256_S1x512x256_1_0_0))
            (View.ld w (Rect.unit ![2, 0, 0] ![1, 512, 256] inb_S4x512x256_S1x512x256_2_0_0))
            (View.ld w (Rect.unit ![3, 0, 0] ![1, 512, 256] inb_S4x512x256_S1x512x256_3_0_0)) (ix2 i k)
      = ∑ e : Fin 1024, d (ix2 i e) * w (ix3 ⟨e / 256, by omega⟩ k ⟨e % 256, by omega⟩) := by
  refine Eq.trans ?_ (sum_four 256 fun e => d (ix2 i e) * w (ix3 ⟨e / 256, by omega⟩ k ⟨e % 256, by omega⟩))
  pointwise [k0_pay3]
  blk_point []

theorem pay8_at (a b) : k0_pay8 (F := Ideal) a b (ix2 i k) = a (ix2 i k) * b (ix2 i k) := by
  pointwise [k0_pay8]

theorem pay9_at (a b) : k0_pay9 (F := Ideal) a b (ix2 i k) = a (ix2 i k) * b (ix2 i k) := by
  pointwise [k0_pay9, k0_pay8]

theorem pay11_at (r : Fin 8) (a b) : k0_pay11 (F := Ideal) a b (ix2 r k)
    = a (ix2 ⟨r, by omega⟩ k) * b (ix2 ⟨r, by omega⟩ k) := by
  pointwise [k0_pay11, k0_pay8]

theorem pay7_at (a b) : k0_pay7 (F := Ideal) a b (ix2 i k) = a (ix2 i k) * b (ix2 i k) := by
  pointwise [k0_pay7]

theorem pay10_at (a b) (cw : FVec Ideal S3x512 .f32) (u v) : k0_pay10 (F := Ideal) a b cw u v (ix2 i k)
    = cw (ix2 2 k) * (a (ix2 i k) * b (ix2 i k)) + cw (ix2 1 k) * u (ix2 i k) + cw (ix2 0 k) * v (ix2 i k) := by
  pointwise [k0_pay10, k0_pay8]

theorem pay12_at (a b) : k0_pay12 (F := Ideal) a b (ix2 i k) = a (ix2 i k) * b (ix2 i k) := by
  pointwise [k0_pay12, k0_pay6]

theorem pay15_at (a) : k0_pay15 (F := Ideal) a (ix2 i k) = a (ix2 i k) := by
  pointwise [k0_pay15]

theorem pay4_at (a) : k0_pay4 (F := Ideal) a (ix2 i k) = a (ix2 i k) := by
  pointwise [k0_pay4]

theorem pay5_at (a) : k0_pay5 (F := Ideal) a (ix2 i k) = a (ix2 i k) := by
  pointwise [k0_pay5]

theorem pay6_at (a) : k0_pay6 (F := Ideal) a (ix2 i k) = a (ix2 i k) := by
  pointwise [k0_pay6]

theorem pay2_at (r : Fin 8) : k0_pay2 (F := Ideal) (ix2 r k) = 0 := by
  pointwise [k0_pay2]

theorem pay14_at (r : Fin 8) (v : BitVec 32) (a b) : k0_pay14 (F := Ideal) (k0_pay13 v a b) (ix2 r k)
    = if Scalar.cmpi .sgt v 0#32 = 1 then a (ix2 r k) * b (ix2 r k) else 0 := by
  pointwise [k0_pay14, k0_pay13, Scalar.select]
  split_ifs <;> rfl

theorem pay16_at (r : Fin 8) (a b u v) : k0_pay16 (F := Ideal) a b u v (ix2 r k)
    = if r.val = 0 then ∑ i, a (ix2 i k) * u (ix2 i k)
      else if r.val = 1 then ∑ i, a (ix2 i k) * v (ix2 i k)
      else if r.val = 2 then ∑ i, a (ix2 i k) * b (ix2 i k) else 0 := by
  pointwise [k0_pay16]
  split_ifs <;> first | rfl | omega

theorem pay17_at (a) : k0_pay17 (F := Ideal) a (ix2 0 k) = ∑ i, a (ix2 i k) := by
  pointwise [k0_pay17]

theorem pay18_at (r : Fin 8) (a b u v) : k0_pay18 (F := Ideal) a b u v (ix2 r k) = k0_pay16 a b u v (ix2 r k) := by
  pointwise [k0_pay18]

theorem pay20_at (r : Fin 8) (a b u v s) : k0_pay20 (F := Ideal) a b u v s (ix2 r k)
    = s (ix2 r k) + k0_pay16 a b u v (ix2 r k) := by
  pointwise [k0_pay20]

theorem pay19_at (a) : k0_pay19 (F := Ideal) a (ix2 0 k) = ∑ i, a (ix2 i k) := by
  pointwise [k0_pay19, k0_pay17]

theorem pay21_at (a s) : k0_pay21 (F := Ideal) a s (ix2 0 k) = s (ix2 0 k) + ∑ i, a (ix2 i k) := by
  pointwise [k0_pay21, k0_pay17]

theorem pay22_at (h p d) : k0_pay22 (F := Ideal) h p d (ix2 i j)
    = if l : j.val < 512 then p (ix2 i ⟨j, l⟩) else d (ix2 i ⟨j - 512, by omega⟩) * h (ix2 i ⟨j - 512, by omega⟩) := by
  pointwise [k0_pay22]

theorem pay25_at (a) : k0_pay25 (F := Ideal) a (ix2 i j) = a (ix2 i j) := by
  pointwise [k0_pay25]

theorem pay23_at (h d a b) : k0_pay23 (F := Ideal) h d a b (ix2 i j)
    = if l : j.val < 512 then d (ix2 i ⟨j, l⟩) * h (ix2 i ⟨j, l⟩)
      else a (ix2 i ⟨j - 512, by omega⟩) + b (ix2 i ⟨j - 512, by omega⟩) := by
  pointwise [k0_pay23]

theorem pay26_at (a) : k0_pay26 (F := Ideal) a (ix2 i j) = a (ix2 i j) := by
  pointwise [k0_pay26, k0_pay24]

theorem pay27_at (a : FVec Ideal S512x1024 .bf16) (b s : FVec Ideal S512x1024 .f32) (w : Vec Ideal S4x1024x1024 .bf16)
    (u v : FVec Ideal S512x1024 .bf16) :
    k0_pay1 (k0_pay27 (F := Ideal) a b s (View.ld w (Rect.unit ![0, 0, 0] ![1, 1024, 1024] inb_S4x1024x1024_S1x1024x1024_0_0_0))
      (View.ld w (Rect.unit ![1, 0, 0] ![1, 1024, 1024] inb_S4x1024x1024_S1x1024x1024_1_0_0)) u
      (View.ld w (Rect.unit ![2, 0, 0] ![1, 1024, 1024] inb_S4x1024x1024_S1x1024x1024_2_0_0)) v
      (View.ld w (Rect.unit ![3, 0, 0] ![1, 1024, 1024] inb_S4x1024x1024_S1x1024x1024_3_0_0))) (ix2 i j)
    = s (ix2 i j) + ((∑ n : Fin 1024, a (ix2 i n) * w (ix3 0 j n)) + (∑ n : Fin 1024, b (ix2 i n) * w (ix3 1 j n))
      + (∑ n : Fin 1024, u (ix2 i n) * w (ix3 2 j n)) + ∑ n : Fin 1024, v (ix2 i n) * w (ix3 3 j n)) := by
  simp only [← add_assoc]
  pointwise [k0_pay1, k0_pay27, k0_pay24]

end Cert.ConvIdeal.Gen

end
-- ==== Proof.ConvBlk.lean ====
/- The convolution's backward kernel: what its staged operands hold. -/
module

public import proofs.«01_k».proof.Proof.ConvPay
public import Idealize.ShloMosaic.Lib.Claim

@[expose] public section

set_option maxRecDepth 16384

noncomputable section

namespace Cert.ConvIdeal.Gen

open Cert.ConvIdeal Idealize.ShloMosaic Idealize.ShloMosaic.TcCoe Idealize.SL.Sem
open Idealize.ShloMosaic.Pipeline
open Cert.Step Cert.Step.Conv
open scoped BigOperators

variable (m : (ℓ : Loc nD τ sig) → Buf (Elt Ideal) ℓ) (c : Dev nD)

def aX : Mat 2048 1024 := fun i j => (m ((c : Thread nD τ).loc main_arg0) : FVec Ideal S2048x1024 .f32) (ix2 i j)
def aW : Mat 1024 4096 := fun i j => (m ((c : Thread nD τ).loc main_arg1) : FVec Ideal S1024x4096 .f32) (ix2 i j)
def aC : Mat 3 512 := fun i j => (m ((c : Thread nD τ).loc main_arg2) : FVec Ideal S3x512 .f32) (ix2 i j)
def aO : Mat 512 1024 := fun i j => (m ((c : Thread nD τ).loc main_arg4) : FVec Ideal S512x1024 .f32) (ix2 i j)
def aDy : Mat 2048 1024 := fun i j => (m ((c : Thread nD τ).loc main_arg5) : FVec Ideal S2048x1024 .f32) (ix2 i j)
def aSu : Mat 2048 512 := fun i j => (m ((c : Thread nD τ).loc main_arg6) : FVec Ideal S2048x512 .f32) (ix2 i j)
def aUd : Mat 2048 512 := fun i j => (m ((c : Thread nD τ).loc main_arg7) : FVec Ideal S2048x512 .f32) (ix2 i j)
def aG : Mat 2048 2048 := fun i j => (m ((c : Thread nD τ).loc main_arg8) : FVec Ideal S2048x2048 .f32) (ix2 i j)
def aR : Mat 2048 1024 := fun i j => (m ((c : Thread nD τ).loc main_arg9) : FVec Ideal S2048x1024 .f32) (ix2 i j)
def aB : Fin 512 → EReal := fun j => (m ((c : Thread nD τ).loc main_arg3) : FVec Ideal S1x512 .f32) (ix2 0 j)

theorem idx : ∀ t : Fin cfg0.N, win0_0.index t = ![3 - t.val, 0] ∧ win0_1.index t = ![0, 0, 0] ∧ win0_2.index t = ![3 - t.val, 0]
    ∧ win0_3.index t = ![(3 - t.val) * 64 - 1, 0] ∧ win0_4.index t = ![3 - t.val, 0] ∧ win0_5.index t = ![0, 0]
    ∧ win0_6.index t = ![3 - t.val, 0] ∧ win0_7.index t = ![3 - t.val, 0] ∧ win0_8.index t = ![3 - t.val, 1]
    ∧ win0_9.index t = ![3 - t.val, 0] ∧ win0_10.index t = ![0, 0, 0] ∧ win0_11.index t = ![3 - t.val, 0]
    ∧ win0_12.index t = ![3 - t.val, 0] := (by decide +kernel : ∀ t : Fin grid0.N, _)

/-- The array's row under a block's row: the blocks are walked from the last to the first. -/
def up (t : Fin cfg0.N) (i : Fin 512) : Fin 2048 := ⟨(3 - t.val) * 512 + i, by omega⟩
/-- The rows just before a block. -/
def upH (t : Fin cfg0.N) (r : Fin 8) : Fin 2048 := ⟨((3 - t.val) * 64 - 1) * 8 + r, by omega⟩

variable (t : Fin cfg0.N) (i k : Fin 512) (j : Fin 1024)

theorem blk0 : (iblk m c 0 t : FVec Ideal S512x1024 .bf16) (ix2 i j) = aDy m c (up t i) j := by
  unfold aDy up; unfold iblk; entry_read; blk_point [idx t]
theorem wo_at (a : Fin 4) (j : Fin 256) : (V m c main_v4 : FVec Ideal S4x512x256 .bf16) (ix3 a i j) = aO m c i ⟨a * 256 + j, by omega⟩ := by
  entry_read
  unfold aO
  pointwise
theorem blk1 (a : Fin 4) (j : Fin 256) : (iblk m c 1 t : FVec Ideal S4x512x256 .bf16) (ix3 a i j) = aO m c i ⟨a * 256 + j, by omega⟩ := by
  have e : ((View.whole main_v4).slice (win0_1.rect t)).emb (ix3 a i j) = ix3 a i j := by blk_ext [idx t]
  exact (congrArg (V m c main_v4 : FVec Ideal S4x512x256 .bf16) e).trans (wo_at m c i a j)
theorem wi_at (a : Fin 4) (i j : Fin 1024) : (V m c main_v6 : FVec Ideal S4x1024x1024 .bf16) (ix3 a i j) = aW m c i ⟨a * 1024 + j, by omega⟩ := by
  entry_read
  unfold aW
  pointwise
theorem blk10 (a : Fin 4) (i j : Fin 1024) : (iblk m c 10 t : FVec Ideal S4x1024x1024 .bf16) (ix3 a i j) = aW m c i ⟨a * 1024 + j, by omega⟩ := by
  have e : ((View.whole main_v6).slice (win0_10.rect t)).emb (ix3 a i j) = ix3 a i j := by blk_ext [idx t]
  exact (congrArg (V m c main_v6 : FVec Ideal S4x1024x1024 .bf16) e).trans (wi_at m c a i j)
theorem pc_at (t : Fin 2048) (n : Fin 1536) : (V m c main_v29 : FVec Ideal S2048x1536 .bf16) (ix2 t n)
    = pj (aX m c) (aW m c) t ⟨n, by omega⟩ := by
  entry_read
  unfold pj aX aW
  pointwise
theorem blk2 (n : Fin 1536) : (iblk m c 2 t : FVec Ideal S512x1536 .bf16) (ix2 i n) = pj (aX m c) (aW m c) (up t i) ⟨n, by omega⟩ := by
  have e : ((View.whole main_v29).slice (win0_2.rect t)).emb (ix2 i n) = ix2 (up t i) n := by unfold up; blk_ext [idx t]
  exact (congrArg (V m c main_v29 : FVec Ideal S2048x1536 .bf16) e).trans (pc_at m c _ n)
theorem blk3 (r : Fin 8) (n : Fin 1536) : (iblk m c 3 t : FVec Ideal S8x1536 .bf16) (ix2 r n) = pj (aX m c) (aW m c) (upH t r) ⟨n, by omega⟩ := by
  have e : ((View.whole main_v29).slice (win0_3.rect t)).emb (ix2 r n) = ix2 (upH t r) n := by unfold upH; blk_ext [idx t]
  exact (congrArg (V m c main_v29 : FVec Ideal S2048x1536 .bf16) e).trans (pc_at m c _ n)
theorem z_at (t : Fin 2048) : (V m c main_v34 : FVec Ideal S2048x512 .bf16) (ix2 t k)
    = z (aX m c) (aW m c) (aC m c) (aB m c) t k := by
  entry_read
  pointwise
  simp only [show 1 + t.val - 2 = t.val - 1 from by omega]
  refine congrArg₂ (· + ·) (congrArg₂ (· + ·) (congrArg₂ (· + ·)
    (congrArg (fun y : EReal => aC m c 0 k * y) ?_) (congrArg (fun y : EReal => aC m c 1 k * y) ?_)) rfl) rfl
  · unfold qb
    by_cases h : t.val < 2
    · rw [if_pos h, dif_pos h]
    · rw [if_neg h, dif_neg h]; rfl
  · unfold qb
    by_cases h : t.val < 1
    · rw [if_pos h, dif_pos (by omega)]
    · rw [if_neg h, dif_neg (by omega)]; rfl
theorem blk4 : (iblk m c 4 t : FVec Ideal S512x512 .bf16) (ix2 i k) = z (aX m c) (aW m c) (aC m c) (aB m c) (up t i) k := by
  have e : ((View.whole main_v34).slice (win0_4.rect t)).emb (ix2 i k) = ix2 (up t i) k := by unfold up; blk_ext [idx t]
  exact (congrArg (V m c main_v34 : FVec Ideal S2048x512 .bf16) e).trans (z_at m c k _)
theorem blk5 (r : Fin 3) : (iblk m c 5 t : FVec Ideal S3x512 .f32) (ix2 r k) = aC m c r k := by
  unfold aC; blk_point [iblk, V, idx t]
theorem blk6 : (iblk m c 6 t : FVec Ideal S512x512 .f32) (ix2 i k) = aSu m c (up t i) k := by
  unfold aSu up; blk_point [iblk, V, idx t]
theorem blk7 : (iblk m c 7 t : FVec Ideal S512x512 .f32) (ix2 i k) = aUd m c (up t i) k := by
  unfold aUd up; blk_point [iblk, V, idx t]
theorem blk8 (n : Fin 2048) : (iblk m c 8 t : FVec Ideal S512x2048 .bf16) (ix2 i n) = aG m c (up t i) n := by
  have e : ((View.whole main_v32).slice (win0_8.rect t)).emb (ix2 i n) = ix2 (up t i) ⟨2048 + n, by omega⟩ := by
    unfold up; blk_ext [idx t]
  unfold aG; unfold iblk; entry_read
  show truncf (F := Ideal) .bf16 _ _ (((View.whole main_v32).slice (win0_8.rect t)).emb (ix2 i n)) = _
  rw [e]
  pointwise
theorem blk9 : (iblk m c 9 t : FVec Ideal S512x1024 .f32) (ix2 i j) = aR m c (up t i) j := by
  unfold aR up; blk_point [iblk, V, idx t]

end Cert.ConvIdeal.Gen

end
-- ==== Proof.ConvValue.lean ====
/- The convolution's backward kernel: what its four results hold after the grid. -/
module

public import proofs.«01_k».proof.Proof.ConvBlk
public import Idealize.ShloMosaic.Lib.WritesUnit
public import Idealize.ShloMosaic.Lib.Pipeline.ReadBack

@[expose] public section

set_option maxRecDepth 16384

noncomputable section

namespace Cert.ConvIdeal.Gen

open Cert.ConvIdeal Idealize.ShloMosaic Idealize.ShloMosaic.TcCoe Idealize.SL.Sem
open Idealize.ShloMosaic.Pipeline
open Cert.Step Cert.Step.Conv
open scoped BigOperators

variable (m : (ℓ : Loc nD τ sig) → Buf (Elt Ideal) ℓ) (c : Dev nD)
variable (t : Fin cfg0.N) (i k : Fin 512) (j : Fin 1024)

/-! ### The blocks of a point -/

abbrev bD : FVec Ideal S512x512 .f32 := k0_pay3 (iblk m c 0 t) (View.ld (iblk m c 1 t) (Rect.unit ![0, 0, 0] ![1, 512, 256] inb_S4x512x256_S1x512x256_0_0_0)) (View.ld (iblk m c 1 t) (Rect.unit ![1, 0, 0] ![1, 512, 256] inb_S4x512x256_S1x512x256_1_0_0)) (View.ld (iblk m c 1 t) (Rect.unit ![2, 0, 0] ![1, 512, 256] inb_S4x512x256_S1x512x256_2_0_0)) (View.ld (iblk m c 1 t) (Rect.unit ![3, 0, 0] ![1, 512, 256] inb_S4x512x256_S1x512x256_3_0_0))
abbrev bB : FVec Ideal S512x512 .f32 := k0_pay4 (View.ld (iblk m c 2 t) (Rect.unit ![0, 0] ![512, 512] inb_S512x1536_S512x512_0_0))
abbrev bC : FVec Ideal S512x512 .f32 := k0_pay5 (View.ld (iblk m c 2 t) (Rect.unit ![0, 512] ![512, 512] inb_S512x1536_S512x512_0_512))
abbrev bH : FVec Ideal S512x512 .f32 := k0_pay6 (View.ld (iblk m c 2 t) (Rect.unit ![0, 1024] ![512, 512] inb_S512x1536_S512x512_0_1024))
abbrev bQ : FVec Ideal S512x512 .f32 := k0_pay12 (bC m c t) (View.ld (iblk m c 2 t) (Rect.unit ![0, 1024] ![512, 512] inb_S512x1536_S512x512_0_1024))
abbrev bHalo : FVec Ideal S8x512 .f32 := k0_pay14 (k0_pay13 (Scalar.subi (3#32) (BitVec.ofNat 32 ↑(grid0.coords t 0))) (View.ld (iblk m c 3 t) (Rect.unit ![0, 512] ![8, 512] inb_S8x1536_S8x512_0_512)) (View.ld (iblk m c 3 t) (Rect.unit ![0, 1024] ![8, 512] inb_S8x1536_S8x512_0_1024)))

abbrev vDz := dz (aX m c) (aW m c) (aO m c) (aDy m c)
abbrev vDzl (n : ℕ) := dzl (aX m c) (aW m c) (aO m c) (aDy m c) n
abbrev vQb (n : ℕ) := qb (aX m c) (aW m c) n
abbrev vDp := dp (aX m c) (aW m c) (aC m c) (aB m c) (aO m c) (aDy m c) (aSu m c) (aUd m c) (aG m c)

theorem bD_at : bD m c t (ix2 i k) = dyin (aO m c) (aDy m c) (up t i) k := by
  refine (pay3_at i k (iblk m c 0 t) (iblk m c 1 t)).trans ?_
  rw [dyin]
  refine Finset.sum_congr rfl fun e _ => ?_
  rw [blk0, blk1]
  congr 2
  exact Fin.ext (by simp only []; omega)

theorem bB_at : bB m c t (ix2 i k) = cB (aX m c) (aW m c) (up t i) k := by
  refine (pay4_at i k _).trans ((View.ld_unit_apply_of _ _ _ _ _ _
    (by refine Fin.forall_fin_two.mpr ⟨?_, ?_⟩ <;> first | rfl | exact (Nat.zero_add _).symm)).trans (blk2 m c t i ⟨k, by omega⟩))
theorem bC_at : bC m c t (ix2 i k) = cC (aX m c) (aW m c) (up t i) k := by
  refine (pay5_at i k _).trans ((View.ld_unit_apply_of _ _ _ _ _ _
    (by refine Fin.forall_fin_two.mpr ⟨?_, ?_⟩ <;> first | rfl | exact (Nat.zero_add _).symm)).trans (blk2 m c t i ⟨512 + k, by omega⟩))
theorem bH_at : bH m c t (ix2 i k) = cH (aX m c) (aW m c) (up t i) k := by
  refine (pay6_at i k _).trans ((View.ld_unit_apply_of _ _ _ _ _ _
    (by refine Fin.forall_fin_two.mpr ⟨?_, ?_⟩ <;> first | rfl | exact (Nat.zero_add _).symm)).trans (blk2 m c t i ⟨1024 + k, by omega⟩))

theorem bQ_at : bQ m c t (ix2 i k) = q (aX m c) (aW m c) (up t i) k := by
  refine (pay12_at i k _ _).trans (congrArg₂ (· * ·) (bC_at m c t i k) ?_)
  refine (View.ld_unit_apply_of _ _ _ _ _ _ (by refine Fin.forall_fin_two.mpr ⟨?_, ?_⟩ <;> first | rfl | exact (Nat.zero_add _).symm)).trans
    (blk2 m c t i ⟨1024 + k, by omega⟩)

theorem after_zero : ∀ t : Fin cfg0.N, Scalar.cmpi .sgt (Scalar.subi (3#32) (BitVec.ofNat 32 ↑(grid0.coords t 0))) 0#32 = 1 ↔ t.val < 3 :=
  (by decide +kernel : ∀ t : Fin grid0.N, _)

theorem bHalo_at (r : Fin 8) : bHalo m c t (ix2 r k) = if t.val < 3 then q (aX m c) (aW m c) (upH t r) k else 0 := by
  refine (pay14_at k r _ _ _).trans ?_
  simp only [after_zero]
  refine if_congr Iff.rfl (congrArg₂ (· * ·) ?_ ?_) rfl
  · refine (View.ld_unit_apply_of _ _ _ _ _ _ (by refine Fin.forall_fin_two.mpr ⟨?_, ?_⟩ <;> first | rfl | exact (Nat.zero_add _).symm)).trans
      (blk3 m c t r ⟨512 + k, by omega⟩)
  · refine (View.ld_unit_apply_of _ _ _ _ _ _ (by refine Fin.forall_fin_two.mpr ⟨?_, ?_⟩ <;> first | rfl | exact (Nat.zero_add _).symm)).trans
      (blk3 m c t r ⟨1024 + k, by omega⟩)

theorem dz_at : k0_pay8 (bD m c t) (bB m c t) (ix2 i k) = vDz m c (up t i) k := by
  rw [pay8_at, bD_at, bB_at]; rfl
theorem dz9_at : k0_pay9 (bD m c t) (bB m c t) (ix2 i k) = vDz m c (up t i) k := by
  rw [pay9_at, bD_at, bB_at]; rfl
theorem dz11_at (r : Fin 8) : k0_pay11 (bD m c t) (bB m c t) (ix2 r k) = vDz m c (up t ⟨r, by omega⟩) k := by
  rw [pay11_at, bD_at, bB_at]; rfl

/-- The blocks of the projection's gradient, from the two shifted loads. -/
theorem dq_at (u v : FVec Ideal S512x512 .f32) (hu : ∀ i k, u (ix2 i k) = vDzl m c 1 (up t i) k) (hv : ∀ i k, v (ix2 i k) = vDzl m c 2 (up t i) k) :
    k0_pay10 (bD m c t) (bB m c t) (iblk m c 5 t) u v (ix2 i k) = dq (aX m c) (aW m c) (aC m c) (aO m c) (aDy m c) (up t i) k := by
  rw [pay10_at, blk5, blk5, blk5, hu, hv, bD_at, bB_at]; rfl

theorem left_at (u v : FVec Ideal S512x512 .f32) (hu : ∀ i k, u (ix2 i k) = vDzl m c 1 (up t i) k) (hv : ∀ i k, v (ix2 i k) = vDzl m c 2 (up t i) k) :
    k0_pay22 (bH m c t) (k0_pay7 (bD m c t) (iblk m c 4 t)) (k0_pay10 (bD m c t) (bB m c t) (iblk m c 5 t) u v) (ix2 i j)
      = vDp m c (up t i) ⟨j, by omega⟩ := by
  rw [pay22_at, vDp, dp]
  refine dite_congr rfl (fun h => ?_) fun h => ?_
  · rw [pay7_at, bD_at, blk4]
  · rw [dif_pos (by exact j.isLt), dq_at m c t _ _ u v hu hv, bH_at]

theorem right_at (u v : FVec Ideal S512x512 .f32) (hu : ∀ i k, u (ix2 i k) = vDzl m c 1 (up t i) k) (hv : ∀ i k, v (ix2 i k) = vDzl m c 2 (up t i) k) :
    k0_pay23 (bC m c t) (k0_pay10 (bD m c t) (bB m c t) (iblk m c 5 t) u v) (iblk m c 6 t) (iblk m c 7 t) (ix2 i j)
      = vDp m c (up t i) ⟨1024 + j, by omega⟩ := by
  rw [pay23_at, vDp, dp]
  have e : (⟨1024 + j, by omega⟩ : Fin 4096).val = 1024 + j := rfl
  by_cases h : j.val < 512
  · rw [dif_pos h, dif_neg (by omega), dif_neg (by omega), dif_pos (by omega), dq_at m c t _ _ u v hu hv, bC_at]
    simp only [Nat.add_sub_cancel_left]
  · rw [dif_neg h, dif_neg (by omega), dif_neg (by omega), dif_neg (by omega), dif_pos (by omega), blk6, blk7]
    simp only [show 1024 + j.val - 1536 = j.val - 512 from by omega]

/-! ### The shifted loads -/

/-- A row read after a store of 512 rows: the stored row where it lies among them. -/
theorem read_rows {κ : Kind} {sp : Space} (w : View sig κ sp S520x512 .f32) (f : w.ty.Contents (Elt Ideal))
    (L : List (View.Piece (Elt Ideal) S520x512 .f32)) (o : ℕ) (ho : ∀ a, (![o, 0] : Fin 2 → ℕ) a + ![512, 512] a ≤ S520x512.size a)
    (p : FVec Ideal S512x512 .f32) (r : Fin 520) :
    w.read (Elt Ideal) (w.writes (Elt Ideal) f (⟨Rect.unit ![o, 0] ![512, 512] ho, p⟩ :: L)) (ix2 r k)
      = if h : o ≤ r.val ∧ r.val < o + 512 then p (ix2 ⟨r - o, by omega⟩ k)
        else w.read (Elt Ideal) (w.writes (Elt Ideal) f L) (ix2 r k) := by
  by_cases h : o ≤ r.val ∧ r.val < o + 512
  · rw [dif_pos h]
    exact View.read_writes_cons_rows_of_mem w f ho p L _ (ix2 ⟨r - o, by omega⟩ k) rfl (by show r.val = o + (r.val - o); omega) rfl
  · rw [dif_neg h]
    exact View.read_writes_cons_rows_of_not_mem w f ho p L _ rfl rfl (by show r.val < o ∨ o + 512 ≤ r.val; omega)

theorem point_or (t : Fin cfg0.N) : (t.val % 4 = 0 ∧ ¬1 ≤ t.val) ∨ (¬t.val % 4 = 0 ∧ 1 ≤ t.val) := by
  have := lt_of_lt_of_eq t.isLt N_0
  omega

/-- What a point leaves for the one after it: the gradient's first eight rows. -/
theorem carried (t : Fin cfg0.N) (r : Fin 8) :
    (outsAt0 m c t.val t.isLt).2.2.2.2 (ix2 ⟨512 + r, by omega⟩ k) = vDz m c (up t ⟨r, by omega⟩) k := by
  rcases point_or t with ⟨h, h1⟩ | ⟨h, h1⟩ <;> first | rw [outsAt0_A m c t h h h1] | rw [outsAt0_B m c t h h h1]
  all_goals
    frame_out
    have e : (ix2 ⟨512 + r, by omega⟩ k : S520x512.Idx) = (Rect.unit ![512, 0] ![8, 512] inb_S520x512_S8x512_512_0).emb (ix2 r k) := by blk_ext []
    rw [e, View.canon_cons_emb]
    exact dz11_at m c t k r

theorem up_add (n : ℕ) (h : n + i.val < 512) : up t ⟨n + i, h⟩ = ⟨n + up t i, by unfold up; simp only []; omega⟩ :=
  Fin.ext (by unfold up; simp only []; omega)

/-- A load of rows reads the buffer `n` rows on. -/
theorem idx_rows (n : ℕ) (hn : ∀ a, (![n, 0] : Fin 2 → ℕ) a + ![512, 512] a ≤ S520x512.size a) :
    (Rect.unit (s := S520x512) ![n, 0] ![512, 512] hn).idx (ix2 i k) = ix2 ⟨n + i, by have := hn 0; simp at this; omega⟩ k :=
  funext fun a => Fin.ext ((Rect.idx_unit_val _ _ hn (ix2 i k) a).trans
    (by revert a; refine Fin.forall_fin_two.mpr ⟨?_, ?_⟩ <;> first | rfl | exact Nat.zero_add _))

/-- The gradient's block loaded `n` rows on, at the first point: zeros behind the last row. -/
theorem ldA (n : ℕ) (hn : ∀ a, (![n, 0] : Fin 2 → ℕ) a + ![512, 512] a ≤ S520x512.size a) (hn8 : n ≤ 8) (h : ¬1 ≤ t.val) (f) :
    ((View.whole cc0_scratch0).readAt (Elt Ideal) (Rect.unit (s := S520x512) ![n, 0] ![512, 512] hn).toLoadRect
      ((View.whole cc0_scratch0).writes (Elt Ideal) f
      [⟨Rect.unit ![0, 0] ![512, 512] inb_S520x512_S512x512_0_0, k0_pay9 (bD m c t) (bB m c t)⟩,
       ⟨Rect.unit ![512, 0] ![8, 512] inb_S520x512_S8x512_512_0, k0_pay2 (F := Ideal)⟩]) : FVec Ideal S512x512 .f32) (ix2 i k) = vDzl m c n (up t i) k := by
  show (View.whole cc0_scratch0).read (Elt Ideal) _ ((Rect.unit (s := S520x512) ![n, 0] ![512, 512] hn).idx (ix2 i k)) = _
  rw [idx_rows, read_rows, vDzl, dzl]
  by_cases h2 : n + i.val < 512
  · rw [dif_pos ⟨Nat.zero_le _, by simp only []; omega⟩, dif_pos (by unfold up; simp only []; omega), dz9_at]
    exact congrArg (vDz m c · k) (up_add t i n h2)
  · rw [dif_neg (by simp only []; omega), dif_neg (by unfold up; simp only []; omega)]
    refine (View.read_writes_cons_rows_of_mem _ _ inb_S520x512_S8x512_512_0 _ _ _ (ix2 ⟨n + i - 512, by omega⟩ k) rfl ?_ rfl).trans (pay2_at k _)
    show n + i.val = 512 + (n + i.val - 512); omega

/-- At any other point: behind the block's last row what the point before left. -/
theorem ldB (n : ℕ) (hn : ∀ a, (![n, 0] : Fin 2 → ℕ) a + ![512, 512] a ≤ S520x512.size a) (hn8 : n ≤ 8) (h : 1 ≤ t.val) (hw) (hl) :
    ((View.whole cc0_scratch0).readAt (Elt Ideal) (Rect.unit (s := S520x512) ![n, 0] ![512, 512] hn).toLoadRect
      ((View.whole cc0_scratch0).writes (Elt Ideal) (Memref.IsWhole.unread (m := Memref.whole cc0_scratch0) hw (outsAt0 m c (t.val - 1) hl).2.2.2.2)
      [⟨Rect.unit ![0, 0] ![512, 512] inb_S520x512_S512x512_0_0, k0_pay9 (bD m c t) (bB m c t)⟩]) : FVec Ideal S512x512 .f32) (ix2 i k) = vDzl m c n (up t i) k := by
  show (View.whole cc0_scratch0).read (Elt Ideal) _ ((Rect.unit (s := S520x512) ![n, 0] ![512, 512] hn).idx (ix2 i k)) = _
  have hN := lt_of_lt_of_eq t.isLt N_0
  have hb : n + (up t i).val < 2048 := by unfold up; simp only []; omega
  rw [idx_rows, read_rows, vDzl, dzl, dif_pos hb]
  by_cases h2 : n + i.val < 512
  · rw [dif_pos ⟨Nat.zero_le _, by simp only []; omega⟩, dz9_at]
    exact congrArg (vDz m c · k) (up_add t i n h2)
  · rw [dif_neg (by simp only []; omega), View.writes_nil, read_unread_whole]
    have e : (⟨n + i, by omega⟩ : Fin 520) = ⟨512 + (⟨n + i - 512, by omega⟩ : Fin 8), by omega⟩ := Fin.ext (by simp only []; omega)
    rw [e]
    refine (carried m c k ⟨t.val - 1, hl⟩ ⟨n + i - 512, by omega⟩).trans (congrArg (vDz m c · k) (Fin.ext ?_))
    unfold up; simp only []; omega

/-- The product's block loaded from `8 - n` rows on: the rows just before the block in front. -/
theorem ldQ (n : ℕ) (hn : ∀ a, (![8 - n, 0] : Fin 2 → ℕ) a + ![512, 512] a ≤ S520x512.size a) (hn8 : n ≤ 8) (hn0 : 0 < n) (f) :
    ((View.whole cc0_scratch1).readAt (Elt Ideal) (Rect.unit (s := S520x512) ![8 - n, 0] ![512, 512] hn).toLoadRect
      ((View.whole cc0_scratch1).writes (Elt Ideal) f
      [⟨Rect.unit ![8, 0] ![512, 512] inb_S520x512_S512x512_8_0, k0_pay15 (bQ m c t)⟩,
       ⟨Rect.unit ![0, 0] ![8, 512] inb_S520x512_S8x512_0_0, bHalo m c t⟩]) : FVec Ideal S512x512 .f32) (ix2 i k) = vQb m c n (up t i) k := by
  have hN := lt_of_lt_of_eq t.isLt N_0
  show (View.whole cc0_scratch1).read (Elt Ideal) _ ((Rect.unit (s := S520x512) ![8 - n, 0] ![512, 512] hn).idx (ix2 i k)) = _
  rw [idx_rows, read_rows, vQb, qb]
  by_cases h2 : n ≤ i.val
  · rw [dif_pos ⟨by simp only []; omega, by simp only []; omega⟩, if_neg (by unfold up; simp only []; omega), pay15_at, bQ_at]
    exact congrArg (q _ _ · k) (Fin.ext (by unfold up; simp only []; omega))
  · rw [dif_neg (by simp only []; omega)]
    refine (View.read_writes_cons_rows_of_mem _ _ inb_S520x512_S8x512_0_0 _ _ _ (ix2 ⟨8 - n + i, by omega⟩ k) rfl
      (Nat.zero_add _).symm rfl).trans ((bHalo_at m c t k _).trans ?_)
    by_cases h3 : t.val < 3
    · rw [if_pos h3, if_neg (by unfold up; simp only []; omega)]
      exact congrArg (q _ _ · k) (Fin.ext (by unfold up upH; simp only []; omega))
    · rw [if_neg h3, if_pos (by unfold up; simp only []; omega)]

/-! ### The results after the grid -/

theorem gate_at (r : Fin 2048) (n : Fin 2048) : vDp m c r ⟨2048 + n, by omega⟩ = aG m c r n := by
  have e : (⟨2048 + n, by omega⟩ : Fin 4096).val = 2048 + n := rfl
  rw [vDp, dp, dif_neg (by omega), dif_neg (by omega), dif_neg (by omega), dif_neg (by omega)]
  simp only [Nat.add_sub_cancel_left]

theorem g0_at : (View.ld (iblk m c 8 t) (Rect.unit ![0, 0] ![512, 1024] inb_S512x2048_S512x1024_0_0) : FVec Ideal S512x1024 .bf16) (ix2 i j)
    = vDp m c (up t i) ⟨2048 + j, by omega⟩ :=
  (View.ld_unit_apply_of _ _ _ _ _ _ (by refine Fin.forall_fin_two.mpr ⟨?_, ?_⟩ <;> first | rfl | exact (Nat.zero_add _).symm)).trans
    ((blk8 m c t i ⟨j, by omega⟩).trans (gate_at m c _ ⟨j, by omega⟩).symm)
theorem g1_at : (View.ld (iblk m c 8 t) (Rect.unit ![0, 1024] ![512, 1024] inb_S512x2048_S512x1024_0_1024) : FVec Ideal S512x1024 .bf16) (ix2 i j)
    = vDp m c (up t i) ⟨3072 + j, by omega⟩ :=
  (View.ld_unit_apply_of _ _ _ _ _ _ (by refine Fin.forall_fin_two.mpr ⟨?_, ?_⟩ <;> first | rfl | exact (Nat.zero_add _).symm)).trans
    ((blk8 m c t i ⟨1024 + j, by omega⟩).trans ((gate_at m c _ ⟨1024 + j, by omega⟩).symm.trans
      (congrArg (vDp m c _) (Fin.ext (by simp only []; omega)))))

theorem dx_at (u v : FVec Ideal S512x512 .f32) (hu : ∀ i k, u (ix2 i k) = vDzl m c 1 (up t i) k) (hv : ∀ i k, v (ix2 i k) = vDzl m c 2 (up t i) k) :
    k0_pay1 (k0_pay27 (k0_pay22 (bH m c t) (k0_pay7 (bD m c t) (iblk m c 4 t)) (k0_pay10 (bD m c t) (bB m c t) (iblk m c 5 t) u v))
      (k0_pay23 (bC m c t) (k0_pay10 (bD m c t) (bB m c t) (iblk m c 5 t) u v) (iblk m c 6 t) (iblk m c 7 t)) (iblk m c 9 t)
      (View.ld (iblk m c 10 t) (Rect.unit ![0, 0, 0] ![1, 1024, 1024] inb_S4x1024x1024_S1x1024x1024_0_0_0))
      (View.ld (iblk m c 10 t) (Rect.unit ![1, 0, 0] ![1, 1024, 1024] inb_S4x1024x1024_S1x1024x1024_1_0_0))
      (View.ld (iblk m c 8 t) (Rect.unit ![0, 0] ![512, 1024] inb_S512x2048_S512x1024_0_0)) (View.ld (iblk m c 10 t) (Rect.unit ![2, 0, 0] ![1, 1024, 1024] inb_S4x1024x1024_S1x1024x1024_2_0_0))
      (View.ld (iblk m c 8 t) (Rect.unit ![0, 1024] ![512, 1024] inb_S512x2048_S512x1024_0_1024)) (View.ld (iblk m c 10 t) (Rect.unit ![3, 0, 0] ![1, 1024, 1024] inb_S4x1024x1024_S1x1024x1024_3_0_0))
     ) (ix2 i j)
      = dx (aX m c) (aW m c) (aC m c) (aB m c) (aO m c) (aDy m c) (aSu m c) (aUd m c) (aG m c) (aR m c) (up t i) j := by
  refine (pay27_at i j _ _ _ (iblk m c 10 t) _ _).trans ?_
  rw [dx, blk9, ← sum_four 1024]
  refine congrArg (_ + ·) (congrArg₂ (· + ·) (congrArg₂ (· + ·) (congrArg₂ (· + ·) ?_ ?_) ?_) ?_) <;>
    refine Finset.sum_congr rfl fun n _ => congrArg₂ (· * ·) ?_ ((blk10 m c t _ j n).trans (congrArg (aW m c j) (Fin.ext ?_)))
  · exact left_at m c t i n u v hu hv
  · simp
  · exact right_at m c t i n u v hu hv
  · simp
  · exact g0_at m c t i n
  · simp
  · exact g1_at m c t i n
  · simp

theorem emb11 (y : S512x2048.Idx) : ((View.whole main_v35_0).slice (win0_11.rect t)).emb y = ix2 (up t (y 0)) ⟨(y 1).val, lt_of_lt_of_le (y 1).isLt (by decide)⟩ := by
  unfold up; blk_ext [idx t]
theorem emb12 (y : S512x1024.Idx) : ((View.whole main_v35_1).slice (win0_12.rect t)).emb y = ix2 (up t (y 0)) (y 1) := by
  unfold up; blk_ext [idx t]

theorem final12 : (dats m 0 c).arrAt 12 (cfgs 0).N = fun z : S2048x1024.Idx =>
    dx (aX m c) (aW m c) (aC m c) (aB m c) (aO m c) (aDy m c) (aSu m c) (aUd m c) (aG m c) (aR m c) (z 0) (z 1) := by
  refine (dats m 0 c).arrAt_eq_of_covers 12 _ (by decide +kernel) fun t hf y => ?_
  blk_simp
  rw [after0_12, emb12]
  obtain ⟨i, j, rfl⟩ : ∃ i j, y = ix2 i j := ⟨y 0, y 1, eq_ix2 y⟩
  rcases point_or t with ⟨h, h1⟩ | ⟨h, h1⟩ <;> first | rw [outsAt0_A m c t h h h1] | rw [outsAt0_B m c t h h h1]
  · frame_out
    exact dx_at m c t i j _ _ (fun i k => ldA m c t i k 1 _ (by norm_num) h1 _) (fun i k => ldA m c t i k 2 _ (by norm_num) h1 _)
  · frame_out
    exact dx_at m c t i j _ _ (fun i k => ldB m c t i k 1 _ (by norm_num) h1 _ _) (fun i k => ldB m c t i k 2 _ (by norm_num) h1 _ _)

/-- A row of the stored half of the projection's gradient: two stretches of columns, stored one after the other. -/
theorem half_at (a b : FVec Ideal S512x1024 .bf16) (n : Fin 2048) (G : Fin 4096 → EReal) (ha : ∀ j, a (ix2 i j) = G ⟨1024 + j, by omega⟩)
    (hb : ∀ j, b (ix2 i j) = G ⟨j, by omega⟩) :
    View.canon (Val := Elt Ideal) [(⟨Rect.unit ![0, 1024] ![512, 1024] inb_S512x2048_S512x1024_0_1024, a⟩ : View.Piece (Elt Ideal) S512x2048 .bf16),
      ⟨Rect.unit ![0, 0] ![512, 1024] inb_S512x2048_S512x1024_0_0, b⟩] (ix2 i n) = G ⟨n, by omega⟩ := by
  canon_tiles x h
  all_goals
    obtain ⟨r, j, rfl⟩ : ∃ (r : Fin 512) (j : Fin 1024), x = ix2 r j := ⟨x 0, x 1, eq_ix2 x⟩
    obtain rfl : i = r := Fin.ext h0
  · exact (ha j).trans (congrArg G (Fin.ext h1.symm))
  · exact (hb j).trans (congrArg G (Fin.ext h1.symm))

theorem final11 : ∀ (r : Fin 2048) (n : Fin 4096), n.val < 2048 →
    ((dats m 0 c).arrAt 11 (cfgs 0).N : FVec Ideal S2048x4096 .bf16) (ix2 r n) = vDp m c r n := by
  intro r n hn
  refine ((dats m 0 c).arrAt_apply_of_coversWhere 11 (fun z : S2048x4096.Idx => vDp m c (z 0) (z 1)) (P := fun z : S2048x4096.Idx => (z 1).val < 2048) (fun β => β 1 < 1)
    (by decide +kernel) (fun t hf y => ?_) (fun j => ?_) (ix2 r n)).trans (if_pos hn)
  · blk_simp
    rw [after0_11, emb11]
    obtain ⟨i, j, rfl⟩ : ∃ i j, y = ix2 i j := ⟨y 0, y 1, eq_ix2 y⟩
    rcases point_or t with ⟨h, h1⟩ | ⟨h, h1⟩ <;> first | rw [outsAt0_A m c t h h h1] | rw [outsAt0_B m c t h h h1]
    · frame_out
      refine half_at i _ _ j (vDp m c (up t i)) (fun j => (pay26_at i j _).trans (right_at m c t i j _ _ ?_ ?_)) (fun j => (pay25_at i j _).trans (left_at m c t i j _ _ ?_ ?_))
      exacts [fun i k => ldA m c t i k 1 _ (by norm_num) h1 _, fun i k => ldA m c t i k 2 _ (by norm_num) h1 _,
        fun i k => ldA m c t i k 1 _ (by norm_num) h1 _, fun i k => ldA m c t i k 2 _ (by norm_num) h1 _]
    · frame_out
      refine half_at i _ _ j (vDp m c (up t i)) (fun j => (pay26_at i j _).trans (right_at m c t i j _ _ ?_ ?_)) (fun j => (pay25_at i j _).trans (left_at m c t i j _ _ ?_ ?_))
      exacts [fun i k => ldB m c t i k 1 _ (by norm_num) h1 _ _, fun i k => ldB m c t i k 2 _ (by norm_num) h1 _ _,
        fun i k => ldB m c t i k 1 _ (by norm_num) h1 _ _, fun i k => ldB m c t i k 2 _ (by norm_num) h1 _ _]
  · blk_simp [Pipeline.Window.cell_apply]
    omega

/-- A sum over the four blocks' rows is a sum over all rows. -/
theorem sum_rows (f : Fin 2048 → EReal) : ∑ t : Fin cfg0.N, ∑ i : Fin 512, f (up t i) = ∑ r, f r := by
  rw [← sum_four 512, ← Fin.sum_congr' (fun t => ∑ i : Fin 512, f (up t i)) N_0.symm, Fin.sum_univ_four]
  have h0 : ∑ i : Fin 512, f (up (Fin.cast N_0.symm 0) i) = ∑ k : Fin 512, f ⟨512 + 512 + 512 + k, by omega⟩ :=
    Finset.sum_congr rfl fun i _ => congrArg f (Fin.ext (by simp [up]))
  have h1 : ∑ i : Fin 512, f (up (Fin.cast N_0.symm 1) i) = ∑ k : Fin 512, f ⟨512 + 512 + k, by omega⟩ :=
    Finset.sum_congr rfl fun i _ => congrArg f (Fin.ext (by simp [up]))
  have h2 : ∑ i : Fin 512, f (up (Fin.cast N_0.symm 2) i) = ∑ k : Fin 512, f ⟨512 + k, by omega⟩ :=
    Finset.sum_congr rfl fun i _ => congrArg f (Fin.ext (by simp [up]))
  have h3 : ∑ i : Fin 512, f (up (Fin.cast N_0.symm 3) i) = ∑ k : Fin 512, f ⟨k, by omega⟩ :=
    Finset.sum_congr rfl fun i _ => congrArg f (Fin.ext (by simp [up]))
  rw [h0, h1, h2, h3]
  ac_rfl

/-- What a point adds to the gradient of the taps. -/
def dcwT (t : Fin cfg0.N) (y : S8x512.Idx) : EReal :=
  if (y 0).val = 0 then ∑ i : Fin 512, vDz m c (up t i) (y 1) * vQb m c 2 (up t i) (y 1)
  else if (y 0).val = 1 then ∑ i : Fin 512, vDz m c (up t i) (y 1) * vQb m c 1 (up t i) (y 1)
  else if (y 0).val = 2 then ∑ i : Fin 512, vDz m c (up t i) (y 1) * q (aX m c) (aW m c) (up t i) (y 1)
  else 0

theorem dcw_at (u v : FVec Ideal S512x512 .f32) (hu : ∀ i k, u (ix2 i k) = vQb m c 2 (up t i) k) (hv : ∀ i k, v (ix2 i k) = vQb m c 1 (up t i) k) (r : Fin 8) :
    k0_pay16 (k0_pay8 (bD m c t) (bB m c t)) (bQ m c t) u v (ix2 r k) = dcwT m c t (ix2 r k) := by
  rw [pay16_at, dcwT]
  simp only [dz_at, hu, hv, bQ_at]
  rfl

theorem final13 : (dats m 0 c).arrAt 13 (cfgs 0).N = fun z : S8x512.Idx => dcw (aX m c) (aW m c) (aO m c) (aDy m c) (z 0) (z 1) := by
  refine (dats m 0 c).arrAt_eq_of_after_last 13 t0_3 (by decide +kernel) _ fun y => ?_
  blk_simp
  rw [after0_13, Pipeline.eq_sum_fin_of_reset_step_apply_last (fun n h => (outsAt0 m c n h).2.2.1) 4 (fun _ => 0) (dcwT m c)
    (fun t h y => ?_) (fun t h y => ?_) (le_of_eq N_0) t0_3 rfl y, zero_add]
  · simp only [dcwT, dcw]
    split_ifs
    · exact sum_rows fun r => vDz m c r (y 1) * vQb m c 2 r (y 1)
    · exact sum_rows fun r => vDz m c r (y 1) * vQb m c 1 r (y 1)
    · exact sum_rows fun r => vDz m c r (y 1) * q (aX m c) (aW m c) r (y 1)
    · exact (Finset.sum_const_zero : ∑ _ : Fin cfg0.N, (0 : EReal) = 0)
  · have h1 : ¬1 ≤ t.val := by have := point_or t; omega
    rw [outsAt0_A m c t h h h1]
    obtain ⟨r, k, rfl⟩ : ∃ r k, y = ix2 r k := ⟨y 0, y 1, eq_ix2 y⟩
    frame_out
    rw [zero_add, pay18_at]
    exact dcw_at m c t k _ _ (fun i k => ldQ m c t i k 2 _ (by norm_num) (by norm_num) _) (fun i k => ldQ m c t i k 1 _ (by norm_num) (by norm_num) _) r
  · have h1 : 1 ≤ t.val := by have := point_or t; omega
    rw [outsAt0_B m c t h h h1]
    obtain ⟨r, k, rfl⟩ : ∃ r k, y = ix2 r k := ⟨y 0, y 1, eq_ix2 y⟩
    frame_out
    refine (pay20_at k r _ _ _ _ _).trans (congrArg (_ + ·) ?_)
    exact dcw_at m c t k _ _ (fun i k => ldQ m c t i k 2 _ (by norm_num) (by norm_num) _) (fun i k => ldQ m c t i k 1 _ (by norm_num) (by norm_num) _) r

/-- What a point adds to the gradient of the convolution's shift. -/
def dcbT (t : Fin cfg0.N) (y : S1x512.Idx) : EReal := ∑ i : Fin 512, vDz m c (up t i) (y 1)

theorem final14 : (dats m 0 c).arrAt 14 (cfgs 0).N = fun z : S1x512.Idx => dcb (aX m c) (aW m c) (aO m c) (aDy m c) (z 1) := by
  refine (dats m 0 c).arrAt_eq_of_after_last 14 t0_3 (by decide +kernel) _ fun y => ?_
  blk_simp
  rw [after0_14, Pipeline.eq_sum_fin_of_reset_step_apply_last (fun n h => (outsAt0 m c n h).2.2.2.1) 4 (fun _ => 0) (dcbT m c)
    (fun t h y => ?_) (fun t h y => ?_) (le_of_eq N_0) t0_3 rfl y, zero_add]
  · exact sum_rows fun r => vDz m c r (y 1)
  · have h1 : ¬1 ≤ t.val := by have := point_or t; omega
    rw [outsAt0_A m c t h h h1]
    obtain ⟨z, k, rfl⟩ : ∃ (z : Fin 1) (k : Fin 512), y = ix2 z k := ⟨y 0, y 1, eq_ix2 y⟩
    obtain rfl : z = 0 := Subsingleton.elim _ _
    frame_out
    rw [zero_add]
    refine (pay19_at k _).trans (Finset.sum_congr rfl fun i _ => dz_at m c t i k)
  · have h1 : 1 ≤ t.val := by have := point_or t; omega
    rw [outsAt0_B m c t h h h1]
    obtain ⟨z, k, rfl⟩ : ∃ (z : Fin 1) (k : Fin 512), y = ix2 z k := ⟨y 0, y 1, eq_ix2 y⟩
    obtain rfl : z = 0 := Subsingleton.elim _ _
    frame_out
    refine (pay21_at k _ _).trans (congrArg (_ + ·) (Finset.sum_congr rfl fun i _ => dz_at m c t i k))

end Cert.ConvIdeal.Gen

end
-- ==== Proof.ConvRef.lean ====
/- The reference for the gated short convolution: its results read at an index. -/
module

public import proofs.«01_k».proof.Proof.ConvMath
public import proofs.«01_k».proof.Proof.Gen.RefConvIdeal.Run
public import Idealize.ShloMosaic.Lib.Pointwise

@[expose] public section

set_option maxRecDepth 16384

noncomputable section

namespace Cert.RefConvIdeal.Value

open Cert.RefConvIdeal Cert.RefConvIdeal.Gen Idealize.ShloMosaic Idealize.ShloMosaic.TcCoe Idealize.SL.Sem
open Cert.Step Cert.Step.Conv
open scoped BigOperators

/-! ### The reference's lines, by name -/

section
variable (X : FVec Ideal S2048x1024 .f32) (W : FVec Ideal S1024x4096 .f32) (CW : FVec Ideal S3x512 .f32) (CB : FVec Ideal S1x512 .f32)
  (WO : FVec Ideal S512x1024 .f32) (DYC : FVec Ideal S2048x1024 .f32) (DSU DUD : FVec Ideal S2048x512 .f32) (G : FVec Ideal S2048x2048 .f32)
  (RES : FVec Ideal S2048x1024 .f32)

def rP : FVec Ideal S2048x4096 .f32 := addf (Host.dotGeneral (φ₁ := .f32) (φ₂ := .f32) dot_S2048x1024_S1024x4096_S2048x4096_1_0_0_1_n_n none X W) (broadcastInDim S2048x4096 ![] bcast_S_S2048x4096 (constant S_ .f32 0x00000000#32))
def rB : FVec Ideal S2048x512 .f32 := extractStridedSlice S2048x512 ![0, 0] (rP X W) slices_S2048x4096_S2048x512_0_0
def rC : FVec Ideal S2048x512 .f32 := extractStridedSlice S2048x512 ![0, 512] (rP X W) slices_S2048x4096_S2048x512_0_512
def rH : FVec Ideal S2048x512 .f32 := extractStridedSlice S2048x512 ![0, 1024] (rP X W) slices_S2048x4096_S2048x512_0_1024
def rQ : FVec Ideal S2048x512 .f32 := mulf (rC X W) (rH X W)
def rQ2 : FVec Ideal S2048x512 .f32 := concatenate S2048x512 0 [⟨S2x512, (broadcastInDim S2x512 ![] bcast_S_S2x512 (constant S_ .f32 0x00000000#32))⟩, ⟨S2046x512, (extractStridedSlice S2046x512 ![0, 0] (rQ X W) slices_S2048x512_S2046x512_0_0)⟩] concatenates_S2x512_S2046x512_S2048x512_d0
def rQ1 : FVec Ideal S2048x512 .f32 := concatenate S2048x512 0 [⟨S1x512, (broadcastInDim S1x512 ![] bcast_S_S1x512 (constant S_ .f32 0x00000000#32))⟩, ⟨S2047x512, (extractStridedSlice S2047x512 ![0, 0] (rQ X W) slices_S2048x512_S2047x512_0_0)⟩] concatenates_S1x512_S2047x512_S2048x512_d0
def rT0 : FVec Ideal S2048x512 .f32 := broadcastInDim S2048x512 ![0, 1] bcast_S1x512_S2048x512_0_1 (extractStridedSlice S1x512 ![0, 0] CW slices_S3x512_S1x512_0_0)
def rT1 : FVec Ideal S2048x512 .f32 := broadcastInDim S2048x512 ![0, 1] bcast_S1x512_S2048x512_0_1 (extractStridedSlice S1x512 ![1, 0] CW slices_S3x512_S1x512_1_0)
def rT2 : FVec Ideal S2048x512 .f32 := broadcastInDim S2048x512 ![0, 1] bcast_S1x512_S2048x512_0_1 (extractStridedSlice S1x512 ![2, 0] CW slices_S3x512_S1x512_2_0)
def rZ : FVec Ideal S2048x512 .f32 := addf (addf (addf (mulf (rT0 CW) (rQ2 X W)) (mulf (rT1 CW) (rQ1 X W))) (mulf (rT2 CW) (rQ X W))) (broadcastInDim S2048x512 ![0, 1] bcast_S1x512_S2048x512_0_1 CB)
def rD : FVec Ideal S2048x512 .f32 := Host.dotGeneral (φ₁ := .f32) (φ₂ := .f32) dot_S2048x1024_S512x1024_S2048x512_1_1_0_0_n_n none DYC WO
def rDz : FVec Ideal S2048x512 .f32 := mulf (rB X W) (rD WO DYC)
def rDq : FVec Ideal S2048x512 .f32 := addf (addf (mulf (rT2 CW) (rDz X W WO DYC)) (pad S2048x512 ![0, 0] ![1, 0] ![0, 0] (extractStridedSlice S2047x512 ![1, 0] (mulf (rT1 CW) (rDz X W WO DYC)) slices_S2048x512_S2047x512_1_0) (constant S_ .f32 0x00000000#32) pads_S2047x512_S2048x512_010_000 h_S_)) (pad S2048x512 ![0, 0] ![2, 0] ![0, 0] (extractStridedSlice S2046x512 ![2, 0] (mulf (rT0 CW) (rDz X W WO DYC)) slices_S2048x512_S2046x512_2_0) (constant S_ .f32 0x00000000#32) pads_S2046x512_S2048x512_020_000 h_S_)
def rDp : FVec Ideal S2048x4096 .f32 := concatenate S2048x4096 1 [⟨S2048x512, mulf (rD WO DYC) (rZ X W CW CB)⟩, ⟨S2048x512, mulf (rDq X W CW WO DYC) (rH X W)⟩, ⟨S2048x512, mulf (rC X W) (rDq X W CW WO DYC)⟩, ⟨S2048x512, addf DSU DUD⟩, ⟨S2048x2048, G⟩] concatenates_S2048x512_S2048x512_S2048x512_S2048x512_S2048x2048_S2048x4096_d1
def rDx : FVec Ideal S2048x1024 .f32 := addf RES (Host.dotGeneral (φ₁ := .f32) (φ₂ := .f32) dot_S2048x4096_S1024x4096_S2048x1024_1_1_0_0_n_n none (rDp X W CW CB WO DYC DSU DUD G) W)
def rS (a : FVec Ideal S2048x512 .f32) : FVec Ideal S1x512 .f32 := shapeCast _ (Host.reduceAdd a (constant S_ .f32 0x00000000#32) reducesTo_S2048x512_S512_d0 h_S_) shapeCasts_S512_S1x512
def rDcw : FVec Ideal S8x512 .f32 := concatenate S8x512 0 [⟨S3x512, addf (addf (pad S3x512 ![2, 0] ![0, 0] ![0, 0] (rS (mulf (rDz X W WO DYC) (rQ X W))) (constant S_ .f32 0x00000000#32) pads_S1x512_S3x512_200_000 h_S_) (pad S3x512 ![1, 0] ![1, 0] ![0, 0] (rS (mulf (rDz X W WO DYC) (rQ1 X W))) (constant S_ .f32 0x00000000#32) pads_S1x512_S3x512_110_000 h_S_)) (pad S3x512 ![0, 0] ![2, 0] ![0, 0] (rS (mulf (rDz X W WO DYC) (rQ2 X W))) (constant S_ .f32 0x00000000#32) pads_S1x512_S3x512_020_000 h_S_)⟩, ⟨S5x512, broadcastInDim S5x512 ![] bcast_S_S5x512 (constant S_ .f32 0x00000000#32)⟩] concatenates_S3x512_S5x512_S8x512_d0

/-- A matrix read at its index. -/
abbrev rd {a b : ℕ} (A : FVec Ideal ⟨2, ![a, b]⟩ .f32) : Mat a b := fun i j => A (ix2 i j)

variable (i : Fin 2048) (k : Fin 512)

theorem rP_at (n : Fin 4096) : rP X W (ix2 i n) = pj (rd X) (rd W) i n := by
  pointwise [rP]
  rfl
theorem rB_at : rB X W (ix2 i k) = cB (rd X) (rd W) i k := by
  pointwise [rB]
  exact (rP_at ..).trans (congrArg _ (Fin.ext (by simp)))
theorem rC_at : rC X W (ix2 i k) = cC (rd X) (rd W) i k := by
  pointwise [rC]
  exact rP_at ..
theorem rH_at : rH X W (ix2 i k) = cH (rd X) (rd W) i k := by
  pointwise [rH]
  exact rP_at ..
theorem rQ_at : rQ X W (ix2 i k) = q (rd X) (rd W) i k := by
  pointwise [rQ]
  rw [rC_at, rH_at]; rfl
theorem rQ2_at : rQ2 X W (ix2 i k) = qb (rd X) (rd W) 2 i k := by
  pointwise [rQ2]
  simp only [rQ_at, qb]
  split_ifs <;> rfl
theorem rQ1_at : rQ1 X W (ix2 i k) = qb (rd X) (rd W) 1 i k := by
  pointwise [rQ1]
  simp only [rQ_at, qb]
  split_ifs <;> rfl
theorem rT0_at : rT0 CW (ix2 i k) = rd CW 0 k := by pointwise [rT0]
theorem rT1_at : rT1 CW (ix2 i k) = rd CW 1 k := by pointwise [rT1]
theorem rT2_at : rT2 CW (ix2 i k) = rd CW 2 k := by pointwise [rT2]
theorem rZ_at : rZ X W CW CB (ix2 i k) = z (rd X) (rd W) (rd CW) (rd CB 0) i k := by
  pointwise [rZ]
  rw [rT0_at, rT1_at, rT2_at, rQ2_at, rQ1_at, rQ_at]; rfl
theorem rD_at : rD WO DYC (ix2 i k) = dyin (rd WO) (rd DYC) i k := by
  pointwise [rD]
  rfl
theorem rDz_at : rDz X W WO DYC (ix2 i k) = dz (rd X) (rd W) (rd WO) (rd DYC) i k := by
  pointwise [rDz]
  rw [rB_at, rD_at]; exact mul_comm _ _
theorem rDq_at : rDq X W CW WO DYC (ix2 i k) = dq (rd X) (rd W) (rd CW) (rd WO) (rd DYC) i k := by
  pointwise [rDq]
  simp only [rT0_at, rT1_at, rT2_at, rDz_at, dq, dzl]
  have e1 : i.val < 2047 ↔ 1 + i.val < 2048 := by omega
  have e2 : i.val < 2046 ↔ 2 + i.val < 2048 := by omega
  simp only [e1, e2]
  split_ifs <;> simp only [mul_zero]
theorem rDp_at (n : Fin 4096) : rDp X W CW CB WO DYC DSU DUD G (ix2 i n) = dp (rd X) (rd W) (rd CW) (rd CB 0) (rd WO) (rd DYC) (rd DSU) (rd DUD) (rd G) i n := by
  pointwise [rDp]
  simp only [rD_at, rZ_at, rDq_at, rH_at, rC_at, dp]
  have e1 : n.val - 512 < 512 ↔ n.val < 1024 := by omega
  have e2 : n.val - 512 - 512 < 512 ↔ n.val < 1536 := by omega
  have e3 : n.val - 512 - 512 - 512 < 512 ↔ n.val < 2048 := by omega
  simp only [e1, e2, e3]
  simp only [Nat.sub_sub, Nat.reduceAdd]
  by_cases h0 : n.val < 512
  · simp only [h0, ↓reduceDIte]
  by_cases h1 : n.val < 1024
  · simp only [h0, h1, ↓reduceDIte]
  by_cases h2 : n.val < 1536
  · simp only [h0, h1, h2, ↓reduceDIte]; exact EReal.mul_comm _ _
  by_cases h3 : n.val < 2048
  · simp only [h0, h1, h2, h3, ↓reduceDIte]
  · simp only [h0, h1, h2, h3, ↓reduceDIte]
theorem rDx_at (j : Fin 1024) : rDx X W CW CB WO DYC DSU DUD G RES (ix2 i j) = dx (rd X) (rd W) (rd CW) (rd CB 0) (rd WO) (rd DYC) (rd DSU) (rd DUD) (rd G) (rd RES) i j := by
  pointwise [rDx]
  simp only [rDp_at]
  rfl
theorem rS_at (a : FVec Ideal S2048x512 .f32) (u : Fin 1) : rS a (ix2 u k) = ∑ t, a (ix2 t k) := by
  pointwise [rS]
theorem rDcw_at (r : Fin 8) : rDcw X W WO DYC (ix2 r k) = dcw (rd X) (rd W) (rd WO) (rd DYC) r k := by
  pointwise [rDcw]
  have e (a b : FVec Ideal S2048x512 .f32) (t : Fin 2048) : mulf a b (ix2 t k) = a (ix2 t k) * b (ix2 t k) := rfl
  simp only [rS_at, dcw, e, rDz_at, rQ_at, rQ1_at, rQ2_at]
  split_ifs <;> first
    | omega
    | simp only [zero_add, add_zero]
theorem rDcb_at (u : Fin 1) : rS (rDz X W WO DYC) (ix2 u k) = dcb (rd X) (rd W) (rd WO) (rd DYC) k := by
  simp only [rS_at, rDz_at]
  rfl
end

variable (m : (ℓ : Loc nD τ sig) → Buf (Elt Ideal) ℓ) (c : Dev nD)

theorem out0 : res_main_v71 m c = truncf (F := Ideal) .bf16 (φ := .f32) (rDp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) bitsLt_bf16_f32 := rfl
theorem out1 : res_main_v70 m c = rDx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl
theorem out2 : res_main_v73 m c = rDcw (m ((c.tc : Thread nD τ).loc main_arg0)) (m ((c.tc : Thread nD τ).loc main_arg1)) (m ((c.tc : Thread nD τ).loc main_arg4)) (m ((c.tc : Thread nD τ).loc main_arg5)) := rfl
theorem out3 : shapeCast _ (Host.reduceAdd (mulf (extractStridedSlice S2048x512 ![0, 0] (addf (Host.dotGeneral (φ₁ := .f32) (φ₂ := .f32) dot_S2048x1024_S1024x4096_S2048x4096_1_0_0_1_n_n none (m ((c.tc : Thread nD τ).loc main_arg0)) (m ((c.tc : Thread nD τ).loc main_arg1))) (broadcastInDim S2048x4096 ![] bcast_S_S2048x4096 (constant S_ .f32 0x00000000#32))) slices_S2048x4096_S2048x512_0_0) (Host.dotGeneral (φ₁ := .f32) (φ₂ := .f32) dot_S2048x1024_S512x1024_S2048x512_1_1_0_0_n_n none (m ((c.tc : Thread nD τ).loc main_arg5)) (m ((c.tc : Thread nD τ).loc main_arg4)))) (constant S_ .f32 0x00000000#32) reducesTo_S2048x512_S512_d0 h_S_) shapeCasts_S512_S1x512 = rS (rDz (m ((c.tc : Thread nD τ).loc main_arg0)) (m ((c.tc : Thread nD τ).loc main_arg1)) (m ((c.tc : Thread nD τ).loc main_arg4)) (m ((c.tc : Thread nD τ).loc main_arg5))) := rfl

end Cert.RefConvIdeal.Value

end
-- ==== Proof.ConvPair.lean ====
/- The gated short convolution's kernel and its reference leave the same results where the kernel writes them. -/
module

public import proofs.«01_k».proof.Defs
public import proofs.«01_k».proof.Proof.ConvValue
public import proofs.«01_k».proof.Proof.ConvRef
public import proofs.«01_k».proof.Proof.Gen.On_written_conv
public import Idealize.ShloMosaic.Lib.Quiescent

@[expose] public section

set_option maxRecDepth 16384

noncomputable section

namespace Cert.Proof.Conv

open Idealize.ShloMosaic Idealize.ShloMosaic.TcCoe Idealize.SL.Sem
open Cert.Step Cert.Step.Conv
open scoped BigOperators

/-- The rows' entries the comparison is about are those of the left half. -/
theorem mask (a0 : FVec Ideal ⟨2, ![2048, 1024]⟩ .f32) (a1 : FVec Ideal ⟨2, ![1024, 4096]⟩ .f32) (a2 : FVec Ideal ⟨2, ![3, 512]⟩ .f32)
    (a3 : FVec Ideal ⟨2, ![1, 512]⟩ .f32) (a4 : FVec Ideal ⟨2, ![512, 1024]⟩ .f32) (a5 : FVec Ideal ⟨2, ![2048, 1024]⟩ .f32)
    (a6 a7 : FVec Ideal ⟨2, ![2048, 512]⟩ .f32) (a8 : FVec Ideal ⟨2, ![2048, 2048]⟩ .f32) (a9 : FVec Ideal ⟨2, ![2048, 1024]⟩ .f32)
    (r : Fin 2048) (n : Fin 4096) (h : (Cert.On_written_conv.fn (F := Ideal) a0 a1 a2 a3 a4 a5 a6 a7 a8 a9).1 (ix2 r n) = 1#1) : n.val < 2048 := by
  have e : (Cert.On_written_conv.fn (F := Ideal) a0 a1 a2 a3 a4 a5 a6 a7 a8 a9).1 (ix2 r n) = BitVec.ofBool ((BitVec.ofNat 32 n.val).slt 2048#32) := rfl
  rw [e] at h
  have h2 : (BitVec.ofNat 32 n.val).slt 2048#32 = true := by
    revert h; cases (BitVec.ofNat 32 n.val).slt 2048#32 <;> simp
  rw [BitVec.slt_eq_decide, decide_eq_true_eq, BitVec.toInt_eq_toNat_cond, BitVec.toNat_ofNat] at h2
  have := n.isLt
  have e3 : (2048#32).toInt = 2048 := by decide
  rw [e3] at h2
  split_ifs at h2 <;> omega

variable (m : (ℓ : Loc Cert.ConvIdeal.nD Cert.ConvIdeal.τ Cert.ConvIdeal.sig) → Buf (Elt Ideal) ℓ) (c : Dev Cert.ConvIdeal.nD)

theorem frame_ref : Cert.quiescent_RefConvIdeal :=
  fun m g _ => (θ_run _ _ _).mono (fun _ h => ⟨fun c => (h c).2.2.2.2, sem_eq_zero_of_no_sems rfl _⟩)
    (Cert.RefConvIdeal.Value.run m g)

theorem algebraic : Cert.algebraic_ConvIdeal_RefConvIdeal_on_written_conv := by
  intro m g m' g' hpre hagree
  refine ⟨fun c (z : Cert.ConvIdeal.S2048x4096.Idx) => Cert.ConvIdeal.Gen.vDp m c (z 0) (z 1),
    fun c (z : Cert.ConvIdeal.S2048x1024.Idx) => dx (Cert.ConvIdeal.Gen.aX m c) (Cert.ConvIdeal.Gen.aW m c) (Cert.ConvIdeal.Gen.aC m c) (Cert.ConvIdeal.Gen.aB m c) (Cert.ConvIdeal.Gen.aO m c) (Cert.ConvIdeal.Gen.aDy m c) (Cert.ConvIdeal.Gen.aSu m c) (Cert.ConvIdeal.Gen.aUd m c) (Cert.ConvIdeal.Gen.aG m c) (Cert.ConvIdeal.Gen.aR m c) (z 0) (z 1),
    fun c (z : Cert.ConvIdeal.S8x512.Idx) => dcw (Cert.ConvIdeal.Gen.aX m c) (Cert.ConvIdeal.Gen.aW m c) (Cert.ConvIdeal.Gen.aO m c) (Cert.ConvIdeal.Gen.aDy m c) (z 0) (z 1),
    fun c (z : Cert.ConvIdeal.S1x512.Idx) => dcb (Cert.ConvIdeal.Gen.aX m c) (Cert.ConvIdeal.Gen.aW m c) (Cert.ConvIdeal.Gen.aO m c) (Cert.ConvIdeal.Gen.aDy m c) (z 1),
    (θ_run _ _ _).mono (fun r h c => ?_) (Cert.ConvIdeal.Value.run_blocks m g),
    (θ_run _ _ _).mono (fun r h c => ?_) (Cert.RefConvIdeal.Value.run m' g')⟩
  · obtain ⟨h0, h1, h2, h3, hr⟩ := h c
    refine ⟨fun i hi => ?_, fun i _ => congrFun (h1.trans (Cert.ConvIdeal.Gen.final12 m c)) i,
      fun i _ => congrFun (h2.trans (Cert.ConvIdeal.Gen.final13 m c)) i, fun i _ => congrFun (h3.trans (Cert.ConvIdeal.Gen.final14 m c)) i, hr⟩
    obtain ⟨t, n, rfl⟩ : ∃ (t : Fin 2048) (n : Fin 4096), i = ix2 t n := ⟨i 0, i 1, eq_ix2 i⟩
    exact (congrFun h0 _).trans (Cert.ConvIdeal.Gen.final11 m c t n (mask _ _ _ _ _ _ _ _ _ _ t n hi))
  · obtain ⟨h0, h1, h2, h3, hr⟩ := h c
    obtain ⟨a0, a1, a2, a3, a4, a5, a6, a7, a8, a9⟩ := hagree c
    refine ⟨fun i _ => ?_, fun i _ => ?_, fun i _ => ?_, fun i _ => ?_, hr⟩
    · obtain ⟨t, n, rfl⟩ : ∃ (t : Fin 2048) (n : Fin 4096), i = ix2 t n := ⟨i 0, i 1, eq_ix2 i⟩
      refine (congrFun (h0.trans (Cert.RefConvIdeal.Value.out0 m' c)) _).trans ?_
      rw [a0, a1, a2, a3, a4, a5, a6, a7, a8]
      exact Cert.RefConvIdeal.Value.rDp_at _ _ _ _ _ _ _ _ _ t n
    · obtain ⟨t, n, rfl⟩ : ∃ (t : Fin 2048) (n : Fin 1024), i = ix2 t n := ⟨i 0, i 1, eq_ix2 i⟩
      refine (congrFun (h1.trans (Cert.RefConvIdeal.Value.out1 m' c)) _).trans ?_
      rw [a0, a1, a2, a3, a4, a5, a6, a7, a8, a9]
      exact Cert.RefConvIdeal.Value.rDx_at _ _ _ _ _ _ _ _ _ _ t n
    · obtain ⟨t, n, rfl⟩ : ∃ (t : Fin 8) (n : Fin 512), i = ix2 t n := ⟨i 0, i 1, eq_ix2 i⟩
      refine (congrFun (h2.trans (Cert.RefConvIdeal.Value.out2 m' c)) _).trans ?_
      rw [a0, a1, a4, a5]
      exact Cert.RefConvIdeal.Value.rDcw_at _ _ _ _ n t
    · obtain ⟨t, n, rfl⟩ : ∃ (t : Fin 1) (n : Fin 512), i = ix2 t n := ⟨i 0, i 1, eq_ix2 i⟩
      refine (congrFun (h3.trans (Cert.RefConvIdeal.Value.out3 m' c)) _).trans ?_
      rw [a0, a1, a4, a5]
      exact Cert.RefConvIdeal.Value.rDcb_at _ _ _ _ n t

end Cert.Proof.Conv

end
-- ==== Proof.MixBMath.lean ====
/- The mixing layer's backward pass as formulas over extended reals: the read-out and the two gated
   branches recomputed, the layer norm's gradient, and what flows back through the gates, the gated linear
   unit, the activation and the read-out. -/
module

public import proofs.«01_k».proof.Proof.LayerNorm

@[expose] public section

noncomputable section

namespace Cert.Step.MixB

open Idealize.ShloMosaic Cert.Step
open scoped BigOperators

/-- The arguments. -/
structure Args where
  x : Mat 2048 1024
  sr : Mat 2048 2048
  si : Mat 2048 2048
  su : Mat 2048 512
  sk : Mat 32 16
  cr : Fin 32 → Mat 16 64
  ci : Fin 32 → Mat 16 64
  wg : Mat 512 2048
  gc : Mat 2048 1024
  gs : Mat 2048 1024
  yc : Mat 2048 1024
  wo : Mat 1024 1024
  g : Row
  dy : Mat 2048 1024

/-- The arguments that have to be finite are. -/
structure Args.Finite (a : Args) : Prop where
  x : ∀ i j, IsR (a.x i j)
  sr : ∀ i j, IsR (a.sr i j)
  si : ∀ i j, IsR (a.si i j)
  su : ∀ i j, IsR (a.su i j)
  sk : ∀ i j, IsR (a.sk i j)
  cr : ∀ i j k, IsR (a.cr i j k)
  ci : ∀ i j k, IsR (a.ci i j k)
  wg : ∀ i j, IsR (a.wg i j)
  yc : ∀ i j, IsR (a.yc i j)
  wo : ∀ i j, IsR (a.wo i j)
  g : ∀ j, IsR (a.g j)
  dy : ∀ i j, IsR (a.dy i j)

abbrev sgm (x : EReal) : EReal := Ideal.div 1 (1 + Ideal.exp (-x))
abbrev half : EReal := Ideal.ofBits .f32 0x3F000000#32
abbrev alpha : EReal := Ideal.ofBits .f32 0x3F9837F0#32
abbrev root : EReal := Ideal.ofBits .f32 0x3F4C422A#32
abbrev cube : EReal := ((8943 / 200000 : ℝ) : EReal)
abbrev cube3 : EReal := ((26829 / 200000 : ℝ) : EReal)

/-- A column of a state, by group and entry. -/
abbrev lane (u : Fin 32) (k : Fin 64) : Fin 2048 := ⟨u * 64 + k, by omega⟩
/-- A column of the read-out, by group and entry. -/
abbrev chan (u : Fin 32) (k : Fin 16) : Fin 512 := ⟨u * 16 + k, by omega⟩
abbrev gp (n : Fin 512) : Fin 32 := ⟨n / 16, by omega⟩
abbrev en (n : Fin 512) : Fin 16 := ⟨n % 16, by omega⟩
abbrev fst (j : Fin 1024) : Fin 2048 := ⟨j, by omega⟩
abbrev snd (j : Fin 1024) : Fin 2048 := ⟨1024 + j, by omega⟩

namespace Args
variable (a : Args)

def s : Mat 2048 512 := fun i n =>
  ((∑ k, a.sr i (lane (gp n) k) * a.cr (gp n) (en n) k) - ∑ k, a.si i (lane (gp n) k) * a.ci (gp n) (en n) k)
    + a.sk (gp n) (en n) * a.su i n
def th : Mat 2048 512 := fun i n => Ideal.tanh (root * (a.s i n + cube * a.s i n * a.s i n * a.s i n))
def act : Mat 2048 512 := fun i n => half * a.s i n * (1 + a.th i n)
def gl : Mat 2048 2048 := fun i j => ∑ n, a.act i n * a.wg n j
def ga : Mat 2048 1024 := fun i j => a.gl i (fst j)
def gb : Mat 2048 1024 := fun i j => sgm (a.gl i (snd j))
def mg : Mat 2048 1024 := fun i j => sgm (a.gc i j) * a.yc i j + sgm (a.gs i j) * (a.ga i j * a.gb i j)
def res : Mat 2048 1024 := fun i j => alpha * a.x i j + ∑ k, a.mg i k * a.wo k j
def dxh : Mat 2048 1024 := fun i j => a.dy i j * a.g j
def dr : Mat 2048 1024 := fun i => bwdK (a.res i) (a.dxh i)
def dm : Mat 2048 1024 := fun i j => ∑ k, a.dr i k * a.wo j k
def dss : Mat 2048 1024 := fun i j => a.dm i j * sgm (a.gs i j)
def dgl : Mat 2048 2048 := fun i j =>
  if h : j.val < 1024 then a.dss i ⟨j, h⟩ * a.gb i ⟨j, h⟩
  else a.dss i ⟨j - 1024, by omega⟩ * a.ga i ⟨j - 1024, by omega⟩ * a.gb i ⟨j - 1024, by omega⟩ * (1 - a.gb i ⟨j - 1024, by omega⟩)
def dact : Mat 2048 512 := fun i n => ∑ j, a.dgl i j * a.wg n j
def slope : Mat 2048 512 := fun i n => half * (1 + a.th i n)
  + half * a.s i n * (1 - a.th i n * a.th i n) * root * (1 + cube3 * a.s i n * a.s i n)
def ds : Mat 2048 512 := fun i n => a.dact i n * a.slope i n
def dres : Mat 2048 1024 := fun i j => alpha * a.dr i j
def dud : Mat 2048 512 := fun i n => a.ds i n * a.sk (gp n) (en n)
def gsr : Mat 2048 2048 := fun i l => ∑ k : Fin 16, a.ds i (chan ⟨l / 64, by omega⟩ k) * a.cr ⟨l / 64, by omega⟩ k ⟨l % 64, by omega⟩
def gsi : Mat 2048 2048 := fun i l => ∑ k : Fin 16, a.ds i (chan ⟨l / 64, by omega⟩ k) * -a.ci ⟨l / 64, by omega⟩ k ⟨l % 64, by omega⟩
def dyc : Mat 2048 1024 := fun i j => a.dm i j * sgm (a.gc i j)
def dg : Row := fun j => ∑ i, a.dy i j * xhat (a.res i) j
def db : Row := fun j => ∑ i, a.dy i j
def dd : Fin 512 → EReal := fun n => ∑ i, a.ds i n * a.su i n

/-- The activation's slope as reverse differentiation finds it, on the gradient that reaches it. -/
def inner : Mat 2048 512 := fun i n =>
  root * (half * (a.s i n * a.dact i n) * ((1 + a.th i n) * (1 - a.th i n)))
def dsR : Mat 2048 512 := fun i n =>
  a.dact i n * (half * (1 + a.th i n)) + a.inner i n
    + Ideal.div (Ideal.ofBits .f32 0x472EAB00#32) (Ideal.ofBits .f32 0x49742400#32) * a.inner i n
      * (Ideal.ofBits .f32 0x40400000#32 * (a.s i n * a.s i n))

variable {a} (h : a.Finite) (i : Fin 2048)
include h

theorem half_isR : IsR half := ⟨_, ofBits_half⟩
theorem alpha_isR : IsR alpha := ⟨_, ofBits_alpha⟩
theorem root_isR : IsR root := ⟨_, ofBits_gelu⟩

theorem s_isR (n) : IsR (a.s i n) :=
  ((IsR.sum _ fun k => (h.sr _ _).mul (h.cr _ _ _)).sub (IsR.sum _ fun k => (h.si _ _).mul (h.ci _ _ _))).add
    ((h.sk _ _).mul (h.su _ _))

theorem th_isR (n) : IsR (a.th i n) :=
  ((root_isR h).mul ((s_isR h i n).add ((((IsR.coe _).mul (s_isR h i n)).mul (s_isR h i n)).mul (s_isR h i n)))).tanh

theorem gl_isR (j) : IsR (a.gl i j) :=
  IsR.sum _ fun n => (((half_isR h).mul (s_isR h i n)).mul (IsR.one.add (th_isR h i n))).mul (h.wg _ _)

theorem res_isR (j) : IsR (a.res i j) :=
  ((alpha_isR h).mul (h.x i j)).add (IsR.sum _ fun k =>
    (((IsR.sigmoid _).mul (h.yc i k)).add ((IsR.sigmoid _).mul ((gl_isR h i _).mul (IsR.sigmoid _)))).mul (h.wo _ _))

theorem dxh_isR (j) : IsR (a.dxh i j) := (h.dy i j).mul (h.g j)

theorem dr_eq : a.dr i = bwdR (a.res i) (a.dxh i) := bwdK_eq_bwdR (res_isR h i) (dxh_isR h i)

theorem dm_isR (j) : IsR (a.dm i j) := IsR.sum _ fun k => (bwdK_fin (res_isR h i) (dxh_isR h i) k).mul (h.wo _ _)

theorem dss_isR (j) : IsR (a.dss i j) := (dm_isR h i j).mul (IsR.sigmoid _)

theorem dgl_isR (j) : IsR (a.dgl i j) := by
  unfold dgl
  split
  · exact (dss_isR h i _).mul (IsR.sigmoid _)
  · exact (((dss_isR h i _).mul (gl_isR h i _)).mul (IsR.sigmoid _)).mul (IsR.one.sub (IsR.sigmoid _))

theorem dact_isR (n) : IsR (a.dact i n) := IsR.sum _ fun j => (dgl_isR h i j).mul (h.wg _ _)

theorem ds_eq (n) : a.dsR i n = a.ds i n := by
  obtain ⟨s, hs⟩ := s_isR h i n
  obtain ⟨t, ht⟩ := th_isR h i n
  obtain ⟨d, hd⟩ := dact_isR h i n
  rw [dsR, ds, inner, slope, hs, ht, hd, cube_quotient, ofBits_three, half, root, ofBits_half, ofBits_gelu,
    ← EReal.coe_one]
  simp only [← EReal.coe_mul, ← EReal.coe_add, ← EReal.coe_sub]
  congr 1
  ring

theorem ds_isR (n) : IsR (a.ds i n) := by
  refine (dact_isR h i n).mul (((half_isR h).mul (IsR.one.add (th_isR h i n))).add
    (((((half_isR h).mul (s_isR h i n)).mul (IsR.one.sub ((th_isR h i n).mul (th_isR h i n)))).mul (root_isR h)).mul
      (IsR.one.add (((IsR.coe _).mul (s_isR h i n)).mul (s_isR h i n)))))

end Args

end Cert.Step.MixB

end
-- ==== Proof.MixBRunA.lean ====
module

public import proofs.«01_k».proof.Proof.Gen.MixBIdeal.Frame.Runs

@[expose] public section

set_option maxRecDepth 16384

noncomputable section

namespace Cert.MixB.Run

open Cert.MixBIdeal Cert.MixBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the body is long
set_option maxHeartbeats 8000000 in
/-- The body at the first point, which writes the three sums over the rows: on whole staging buffers holding the inputs' blocks it runs to its end, leaving the inputs
    as they were and each result's buffer at a list of stored pieces, which the run finds. -/
def runA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x512 .f32) (harg11 : arg11.IsWhole) (arg12 : Memref sig .tc .vmem S1x512 .f32) (harg12 : arg12.IsWhole) (arg13 : Memref sig .tc .vmem S4x512x512 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x2048 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x2048 .bf16) (harg21 : arg21.IsWhole) (arg22 : Memref sig .tc .vmem S256x2048 .bf16) (harg22 : arg22.IsWhole) (arg23 : Memref sig .tc .vmem S256x1024 .bf16) (harg23 : arg23.IsWhole) (arg24 : Memref sig .tc .vmem S256x2048 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x512 .f32) (harg27 : arg27.IsWhole) (hc0 : cond0_0 i) (hc1 : ¬cond0_1 i)
    (x0 : Vec F S256x1024 .f32) (x1 : Vec F S256x1024 .f32) (x2 : Vec F S1x1024 .f32) (x3 : Vec F S1024x1024 .bf16) (x4 : Vec F S256x1024 .bf16) (x5 : Vec F S256x1024 .bf16) (x6 : Vec F S256x1024 .bf16) (x7 : Vec F S256x1024 .bf16) (x8 : Vec F S256x1024 .bf16) (x9 : Vec F S256x512 .f32) (x10 : Vec F S256x512 .f32) (x11 : Vec F S1x512 .f32) (x12 : Vec F S4x512x512 .bf16) (x13 : Vec F S4x512x128 .bf16) (x14 : Vec F S4x512x128 .bf16) :
    Σ' (L15 : List (View.Piece (Elt F) S256x1024 .f32)), Σ' (L16 : List (View.Piece (Elt F) S256x1024 .bf16)), Σ' (L17 : List (View.Piece (Elt F) S256x2048 .bf16)), Σ' (L18 : List (View.Piece (Elt F) S256x512 .bf16)), Σ' (L19 : List (View.Piece (Elt F) S256x512 .f32)), Σ' (L20 : List (View.Piece (Elt F) S256x2048 .bf16)), Σ' (L21 : List (View.Piece (Elt F) S256x2048 .bf16)), Σ' (L22 : List (View.Piece (Elt F) S256x1024 .bf16)), Σ' (L23 : List (View.Piece (Elt F) S256x2048 .bf16)), Σ' (L24 : List (View.Piece (Elt F) S1x1024 .f32)), Σ' (L25 : List (View.Piece (Elt F) S1x1024 .f32)), { L26 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26)) -∗ K ⟨⟩))
          ⊢ wp frame (wpE (defs₀ (F := F)) Variants.none c none) E (cc0_mix_bwd_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, fun E K => ?run⟩
  case run =>
    simp only [cc0_mix_bwd_b_eq_skeleton]; unfold cc0_mix_bwd_b_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.MixB.Run

end
-- ==== Proof.MixBRunB.lean ====
module

public import proofs.«01_k».proof.Proof.Gen.MixBIdeal.Frame.Runs

@[expose] public section

set_option maxRecDepth 16384

noncomputable section

namespace Cert.MixB.Run

open Cert.MixBIdeal Cert.MixBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the body is long
set_option maxHeartbeats 8000000 in
/-- The body at a later point, which adds its rows to the three sums: on whole staging buffers holding the inputs' blocks it runs to its end, leaving the inputs
    as they were and each result's buffer at a list of stored pieces, which the run finds. -/
def runB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x512 .f32) (harg10 : arg10.IsWhole) (arg11 : Memref sig .tc .vmem S256x512 .f32) (harg11 : arg11.IsWhole) (arg12 : Memref sig .tc .vmem S1x512 .f32) (harg12 : arg12.IsWhole) (arg13 : Memref sig .tc .vmem S4x512x512 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x2048 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x2048 .bf16) (harg21 : arg21.IsWhole) (arg22 : Memref sig .tc .vmem S256x2048 .bf16) (harg22 : arg22.IsWhole) (arg23 : Memref sig .tc .vmem S256x1024 .bf16) (harg23 : arg23.IsWhole) (arg24 : Memref sig .tc .vmem S256x2048 .bf16) (harg24 : arg24.IsWhole) (arg25 : Memref sig .tc .vmem S1x1024 .f32) (harg25 : arg25.IsWhole) (arg26 : Memref sig .tc .vmem S1x1024 .f32) (harg26 : arg26.IsWhole) (arg27 : Memref sig .tc .vmem S1x512 .f32) (harg27 : arg27.IsWhole) (hc0 : ¬cond0_0 i) (hc1 : cond0_1 i)
    (x0 : Vec F S256x1024 .f32) (x1 : Vec F S256x1024 .f32) (x2 : Vec F S1x1024 .f32) (x3 : Vec F S1024x1024 .bf16) (x4 : Vec F S256x1024 .bf16) (x5 : Vec F S256x1024 .bf16) (x6 : Vec F S256x1024 .bf16) (x7 : Vec F S256x1024 .bf16) (x8 : Vec F S256x1024 .bf16) (x9 : Vec F S256x512 .f32) (x10 : Vec F S256x512 .f32) (x11 : Vec F S1x512 .f32) (x12 : Vec F S4x512x512 .bf16) (x13 : Vec F S4x512x128 .bf16) (x14 : Vec F S4x512x128 .bf16) (xo24 : Vec F S1x1024 .f32) (xo25 : Vec F S1x1024 .f32) (xo26 : Vec F S1x512 .f32) :
    Σ' (L15 : List (View.Piece (Elt F) S256x1024 .f32)), Σ' (L16 : List (View.Piece (Elt F) S256x1024 .bf16)), Σ' (L17 : List (View.Piece (Elt F) S256x2048 .bf16)), Σ' (L18 : List (View.Piece (Elt F) S256x512 .bf16)), Σ' (L19 : List (View.Piece (Elt F) S256x512 .f32)), Σ' (L20 : List (View.Piece (Elt F) S256x2048 .bf16)), Σ' (L21 : List (View.Piece (Elt F) S256x2048 .bf16)), Σ' (L22 : List (View.Piece (Elt F) S256x1024 .bf16)), Σ' (L23 : List (View.Piece (Elt F) S256x2048 .bf16)), Σ' (L24 : List (View.Piece (Elt F) S1x1024 .f32)), Σ' (L25 : List (View.Piece (Elt F) S1x1024 .f32)), { L26 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare xo24 ∗ owns (c : Thread nD τ) arg26 fullShare xo25 ∗ owns (c : Thread nD τ) arg27 fullShare xo26
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26)) -∗ K ⟨⟩))
          ⊢ wp frame (wpE (defs₀ (F := F)) Variants.none c none) E (cc0_mix_bwd_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, ?_, ?_, ?_, fun E K => ?run⟩
  case run =>
    simp only [cc0_mix_bwd_b_eq_skeleton]; unfold cc0_mix_bwd_b_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%f24, %hf24, H24⟩, ⟨%f25, %hf25, H25⟩, ⟨%f26, %hf26, H26⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    obtain rfl := harg25.eq_unread hf24
    obtain rfl := harg26.eq_unread hf25
    obtain rfl := harg27.eq_unread hf26
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

end Cert.MixB.Run

end
-- ==== Proof.MixBFrame.lean ====
module

public import proofs.«01_k».proof.Proof.MixBRunA
public import proofs.«01_k».proof.Proof.MixBRunB
public import Idealize.ShloMosaic.Lib.Quiescent
public import Idealize.ShloMosaic.Lib.Claim

@[expose] public section

set_option maxRecDepth 16384

noncomputable section

namespace Cert.MixB.Run

open Cert.MixBIdeal Cert.MixBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two kinds of points -/

theorem first_of {t : Fin cfg0.N} (h : t.val = 0) : cond0_0 (grid0.coords t) ∧ ¬cond0_1 (grid0.coords t) :=
  ⟨(hcond0_0 t).mpr (by rw [h]), fun h' => absurd ((hcond0_1 t).mp h') (by omega)⟩

theorem later_of {t : Fin cfg0.N} (h : t.val ≠ 0) : ¬cond0_0 (grid0.coords t) ∧ cond0_1 (grid0.coords t) := by
  have hN : t.val < 8 := lt_of_lt_of_eq t.isLt (show cfg0.N = 8 from N_0)
  exact ⟨fun h' => h (by have := (hcond0_0 t).mp h'; omega), (hcond0_1 t).mpr (by omega)⟩

/-- The body's run at the first point, on the pipeline's own buffers and blocks, -/
def atA (c : Dev nD) (t : Fin cfg0.N) (h : t.val = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t)
    (first_of h).1 (first_of h).2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- and at a later point, over the three sums as they then are. -/
def atB (c : Dev nD) (t : Fin cfg0.N) (h : t.val ≠ 0) (y24 y25 : Vec F S1x1024 .f32) (y26 : Vec F S1x512 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t)
    (later_of h).1 (later_of h).2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y24 y25 y26

/-! The pieces stored at the first point fill each result's block. -/

theorem coverA_15 (c : Dev nD) (t : Fin cfg0.N) (h : t.val = 0) (y : S256x1024.Idx) :
    ∃ pc ∈ (atA m c t h).1, y ∈ pc.1.set :=
  View.cover_of_tiledL (atA m c t h).1 S256x1024.size (by sl_kernel_rfl) y
theorem coverA_16 (c : Dev nD) (t : Fin cfg0.N) (h : t.val = 0) (y : S256x1024.Idx) :
    ∃ pc ∈ (atA m c t h).2.1, y ∈ pc.1.set :=
  View.cover_of_tiledL (atA m c t h).2.1 S256x1024.size (by sl_kernel_rfl) y
theorem coverA_17 (c : Dev nD) (t : Fin cfg0.N) (h : t.val = 0) (y : S256x2048.Idx) :
    ∃ pc ∈ (atA m c t h).2.2.1, y ∈ pc.1.set :=
  View.cover_of_tiledL (atA m c t h).2.2.1 S256x2048.size (by sl_kernel_rfl) y
theorem coverA_18 (c : Dev nD) (t : Fin cfg0.N) (h : t.val = 0) (y : S256x512.Idx) :
    ∃ pc ∈ (atA m c t h).2.2.2.1, y ∈ pc.1.set :=
  View.cover_of_tiledL (atA m c t h).2.2.2.1 S256x512.size (by sl_kernel_rfl) y
theorem coverA_19 (c : Dev nD) (t : Fin cfg0.N) (h : t.val = 0) (y : S256x512.Idx) :
    ∃ pc ∈ (atA m c t h).2.2.2.2.1, y ∈ pc.1.set :=
  View.cover_of_tiledL (atA m c t h).2.2.2.2.1 S256x512.size (by sl_kernel_rfl) y
theorem coverA_20 (c : Dev nD) (t : Fin cfg0.N) (h : t.val = 0) (y : S256x2048.Idx) :
    ∃ pc ∈ (atA m c t h).2.2.2.2.2.1, y ∈ pc.1.set :=
  View.cover_of_tiledL (atA m c t h).2.2.2.2.2.1 S256x512.size (by sl_kernel_rfl) y
theorem coverA_21 (c : Dev nD) (t : Fin cfg0.N) (h : t.val = 0) (y : S256x2048.Idx) :
    ∃ pc ∈ (atA m c t h).2.2.2.2.2.2.1, y ∈ pc.1.set :=
  View.cover_of_tiledL (atA m c t h).2.2.2.2.2.2.1 S256x512.size (by sl_kernel_rfl) y
theorem coverA_22 (c : Dev nD) (t : Fin cfg0.N) (h : t.val = 0) (y : S256x1024.Idx) :
    ∃ pc ∈ (atA m c t h).2.2.2.2.2.2.2.1, y ∈ pc.1.set :=
  View.cover_of_tiledL (atA m c t h).2.2.2.2.2.2.2.1 S256x1024.size (by sl_kernel_rfl) y
theorem coverA_23 (c : Dev nD) (t : Fin cfg0.N) (h : t.val = 0) (y : S256x2048.Idx) :
    ∃ pc ∈ (atA m c t h).2.2.2.2.2.2.2.2.1, y ∈ pc.1.set :=
  View.cover_of_tiledL (atA m c t h).2.2.2.2.2.2.2.2.1 S256x1024.size (by sl_kernel_rfl) y
theorem coverA_24 (c : Dev nD) (t : Fin cfg0.N) (h : t.val = 0) (y : S1x1024.Idx) :
    ∃ pc ∈ (atA m c t h).2.2.2.2.2.2.2.2.2.1, y ∈ pc.1.set :=
  View.cover_of_tiledL (atA m c t h).2.2.2.2.2.2.2.2.2.1 S1x1024.size (by sl_kernel_rfl) y
theorem coverA_25 (c : Dev nD) (t : Fin cfg0.N) (h : t.val = 0) (y : S1x1024.Idx) :
    ∃ pc ∈ (atA m c t h).2.2.2.2.2.2.2.2.2.2.1, y ∈ pc.1.set :=
  View.cover_of_tiledL (atA m c t h).2.2.2.2.2.2.2.2.2.2.1 S1x1024.size (by sl_kernel_rfl) y
theorem coverA_26 (c : Dev nD) (t : Fin cfg0.N) (h : t.val = 0) (y : S1x512.Idx) :
    ∃ pc ∈ (atA m c t h).2.2.2.2.2.2.2.2.2.2.2.1, y ∈ pc.1.set :=
  View.cover_of_tiledL (atA m c t h).2.2.2.2.2.2.2.2.2.2.2.1 S1x512.size (by sl_kernel_rfl) y

/-! The pieces stored at a later point fill each result's block. -/

theorem coverB_15 (c : Dev nD) (t : Fin cfg0.N) (h : t.val ≠ 0) (y24 y25 : Vec F S1x1024 .f32) (y26 : Vec F S1x512 .f32) (y : S256x1024.Idx) :
    ∃ pc ∈ (atB m c t h y24 y25 y26).1, y ∈ pc.1.set :=
  View.cover_of_tiledL (atB m c t h y24 y25 y26).1 S256x1024.size (by sl_kernel_rfl) y
theorem coverB_16 (c : Dev nD) (t : Fin cfg0.N) (h : t.val ≠ 0) (y24 y25 : Vec F S1x1024 .f32) (y26 : Vec F S1x512 .f32) (y : S256x1024.Idx) :
    ∃ pc ∈ (atB m c t h y24 y25 y26).2.1, y ∈ pc.1.set :=
  View.cover_of_tiledL (atB m c t h y24 y25 y26).2.1 S256x1024.size (by sl_kernel_rfl) y
theorem coverB_17 (c : Dev nD) (t : Fin cfg0.N) (h : t.val ≠ 0) (y24 y25 : Vec F S1x1024 .f32) (y26 : Vec F S1x512 .f32) (y : S256x2048.Idx) :
    ∃ pc ∈ (atB m c t h y24 y25 y26).2.2.1, y ∈ pc.1.set :=
  View.cover_of_tiledL (atB m c t h y24 y25 y26).2.2.1 S256x2048.size (by sl_kernel_rfl) y
theorem coverB_18 (c : Dev nD) (t : Fin cfg0.N) (h : t.val ≠ 0) (y24 y25 : Vec F S1x1024 .f32) (y26 : Vec F S1x512 .f32) (y : S256x512.Idx) :
    ∃ pc ∈ (atB m c t h y24 y25 y26).2.2.2.1, y ∈ pc.1.set :=
  View.cover_of_tiledL (atB m c t h y24 y25 y26).2.2.2.1 S256x512.size (by sl_kernel_rfl) y
theorem coverB_19 (c : Dev nD) (t : Fin cfg0.N) (h : t.val ≠ 0) (y24 y25 : Vec F S1x1024 .f32) (y26 : Vec F S1x512 .f32) (y : S256x512.Idx) :
    ∃ pc ∈ (atB m c t h y24 y25 y26).2.2.2.2.1, y ∈ pc.1.set :=
  View.cover_of_tiledL (atB m c t h y24 y25 y26).2.2.2.2.1 S256x512.size (by sl_kernel_rfl) y
theorem coverB_20 (c : Dev nD) (t : Fin cfg0.N) (h : t.val ≠ 0) (y24 y25 : Vec F S1x1024 .f32) (y26 : Vec F S1x512 .f32) (y : S256x2048.Idx) :
    ∃ pc ∈ (atB m c t h y24 y25 y26).2.2.2.2.2.1, y ∈ pc.1.set :=
  View.cover_of_tiledL (atB m c t h y24 y25 y26).2.2.2.2.2.1 S256x512.size (by sl_kernel_rfl) y
theorem coverB_21 (c : Dev nD) (t : Fin cfg0.N) (h : t.val ≠ 0) (y24 y25 : Vec F S1x1024 .f32) (y26 : Vec F S1x512 .f32) (y : S256x2048.Idx) :
    ∃ pc ∈ (atB m c t h y24 y25 y26).2.2.2.2.2.2.1, y ∈ pc.1.set :=
  View.cover_of_tiledL (atB m c t h y24 y25 y26).2.2.2.2.2.2.1 S256x512.size (by sl_kernel_rfl) y
theorem coverB_22 (c : Dev nD) (t : Fin cfg0.N) (h : t.val ≠ 0) (y24 y25 : Vec F S1x1024 .f32) (y26 : Vec F S1x512 .f32) (y : S256x1024.Idx) :
    ∃ pc ∈ (atB m c t h y24 y25 y26).2.2.2.2.2.2.2.1, y ∈ pc.1.set :=
  View.cover_of_tiledL (atB m c t h y24 y25 y26).2.2.2.2.2.2.2.1 S256x1024.size (by sl_kernel_rfl) y
theorem coverB_23 (c : Dev nD) (t : Fin cfg0.N) (h : t.val ≠ 0) (y24 y25 : Vec F S1x1024 .f32) (y26 : Vec F S1x512 .f32) (y : S256x2048.Idx) :
    ∃ pc ∈ (atB m c t h y24 y25 y26).2.2.2.2.2.2.2.2.1, y ∈ pc.1.set :=
  View.cover_of_tiledL (atB m c t h y24 y25 y26).2.2.2.2.2.2.2.2.1 S256x1024.size (by sl_kernel_rfl) y
theorem coverB_24 (c : Dev nD) (t : Fin cfg0.N) (h : t.val ≠ 0) (y24 y25 : Vec F S1x1024 .f32) (y26 : Vec F S1x512 .f32) (y : S1x1024.Idx) :
    ∃ pc ∈ (atB m c t h y24 y25 y26).2.2.2.2.2.2.2.2.2.1, y ∈ pc.1.set :=
  View.cover_of_tiledL (atB m c t h y24 y25 y26).2.2.2.2.2.2.2.2.2.1 S1x1024.size (by sl_kernel_rfl) y
theorem coverB_25 (c : Dev nD) (t : Fin cfg0.N) (h : t.val ≠ 0) (y24 y25 : Vec F S1x1024 .f32) (y26 : Vec F S1x512 .f32) (y : S1x1024.Idx) :
    ∃ pc ∈ (atB m c t h y24 y25 y26).2.2.2.2.2.2.2.2.2.2.1, y ∈ pc.1.set :=
  View.cover_of_tiledL (atB m c t h y24 y25 y26).2.2.2.2.2.2.2.2.2.2.1 S1x1024.size (by sl_kernel_rfl) y
theorem coverB_26 (c : Dev nD) (t : Fin cfg0.N) (h : t.val ≠ 0) (y24 y25 : Vec F S1x1024 .f32) (y26 : Vec F S1x512 .f32) (y : S1x512.Idx) :
    ∃ pc ∈ (atB m c t h y24 y25 y26).2.2.2.2.2.2.2.2.2.2.2.1, y ∈ pc.1.set :=
  View.cover_of_tiledL (atB m c t h y24 y25 y26).2.2.2.2.2.2.2.2.2.2.2.1 S1x512.size (by sl_kernel_rfl) y

/-- What the twelve results' buffers hold after a point. -/
structure Left (F : FTy → Type) where
  o15 : Vec F S256x1024 .f32
  o16 : Vec F S256x1024 .bf16
  o17 : Vec F S256x2048 .bf16
  o18 : Vec F S256x512 .bf16
  o19 : Vec F S256x512 .f32
  o20 : Vec F S256x2048 .bf16
  o21 : Vec F S256x2048 .bf16
  o22 : Vec F S256x1024 .bf16
  o23 : Vec F S256x2048 .bf16
  o24 : Vec F S1x1024 .f32
  o25 : Vec F S1x1024 .f32
  o26 : Vec F S1x512 .f32

/-- After the first point: its pieces, read back. -/
def leftA (c : Dev nD) (t : Fin cfg0.N) (h : t.val = 0) : Left F where
  o15 := VO0_15.read (Elt F) (VO0_15.writes (Elt F) VO0_15.junk (atA m c t h).1)
  o16 := VO0_16.read (Elt F) (VO0_16.writes (Elt F) VO0_16.junk (atA m c t h).2.1)
  o17 := VO0_17.read (Elt F) (VO0_17.writes (Elt F) VO0_17.junk (atA m c t h).2.2.1)
  o18 := VO0_18.read (Elt F) (VO0_18.writes (Elt F) VO0_18.junk (atA m c t h).2.2.2.1)
  o19 := VO0_19.read (Elt F) (VO0_19.writes (Elt F) VO0_19.junk (atA m c t h).2.2.2.2.1)
  o20 := VO0_20.read (Elt F) (VO0_20.writes (Elt F) VO0_20.junk (atA m c t h).2.2.2.2.2.1)
  o21 := VO0_21.read (Elt F) (VO0_21.writes (Elt F) VO0_21.junk (atA m c t h).2.2.2.2.2.2.1)
  o22 := VO0_22.read (Elt F) (VO0_22.writes (Elt F) VO0_22.junk (atA m c t h).2.2.2.2.2.2.2.1)
  o23 := VO0_23.read (Elt F) (VO0_23.writes (Elt F) VO0_23.junk (atA m c t h).2.2.2.2.2.2.2.2.1)
  o24 := VO0_24.read (Elt F) (VO0_24.writes (Elt F) VO0_24.junk (atA m c t h).2.2.2.2.2.2.2.2.2.1)
  o25 := VO0_25.read (Elt F) (VO0_25.writes (Elt F) VO0_25.junk (atA m c t h).2.2.2.2.2.2.2.2.2.2.1)
  o26 := VO0_26.read (Elt F) (VO0_26.writes (Elt F) VO0_26.junk (atA m c t h).2.2.2.2.2.2.2.2.2.2.2.1)

/-- After a later point: its pieces, read back. -/
def leftB (c : Dev nD) (t : Fin cfg0.N) (h : t.val ≠ 0) (y24 y25 : Vec F S1x1024 .f32) (y26 : Vec F S1x512 .f32) : Left F where
  o15 := VO0_15.read (Elt F) (VO0_15.writes (Elt F) VO0_15.junk (atB m c t h y24 y25 y26).1)
  o16 := VO0_16.read (Elt F) (VO0_16.writes (Elt F) VO0_16.junk (atB m c t h y24 y25 y26).2.1)
  o17 := VO0_17.read (Elt F) (VO0_17.writes (Elt F) VO0_17.junk (atB m c t h y24 y25 y26).2.2.1)
  o18 := VO0_18.read (Elt F) (VO0_18.writes (Elt F) VO0_18.junk (atB m c t h y24 y25 y26).2.2.2.1)
  o19 := VO0_19.read (Elt F) (VO0_19.writes (Elt F) VO0_19.junk (atB m c t h y24 y25 y26).2.2.2.2.1)
  o20 := VO0_20.read (Elt F) (VO0_20.writes (Elt F) VO0_20.junk (atB m c t h y24 y25 y26).2.2.2.2.2.1)
  o21 := VO0_21.read (Elt F) (VO0_21.writes (Elt F) VO0_21.junk (atB m c t h y24 y25 y26).2.2.2.2.2.2.1)
  o22 := VO0_22.read (Elt F) (VO0_22.writes (Elt F) VO0_22.junk (atB m c t h y24 y25 y26).2.2.2.2.2.2.2.1)
  o23 := VO0_23.read (Elt F) (VO0_23.writes (Elt F) VO0_23.junk (atB m c t h y24 y25 y26).2.2.2.2.2.2.2.2.1)
  o24 := VO0_24.read (Elt F) (VO0_24.writes (Elt F) VO0_24.junk (atB m c t h y24 y25 y26).2.2.2.2.2.2.2.2.2.1)
  o25 := VO0_25.read (Elt F) (VO0_25.writes (Elt F) VO0_25.junk (atB m c t h y24 y25 y26).2.2.2.2.2.2.2.2.2.2.1)
  o26 := VO0_26.read (Elt F) (VO0_26.writes (Elt F) VO0_26.junk (atB m c t h y24 y25 y26).2.2.2.2.2.2.2.2.2.2.2.1)

/-- After each point, over what the point before left. -/
def outs (c : Dev nD) : (n : ℕ) → n < cfg0.N → Left F
  | 0, h => leftA m c ⟨0, h⟩ rfl
  | n + 1, h =>
    let p := outs c n (Nat.lt_of_succ_lt h)
    leftB m c ⟨n + 1, h⟩ (Nat.succ_ne_zero n) p.o24 p.o25 p.o26

theorem outs_A (c : Dev nD) (t : Fin cfg0.N) (h : t.val = 0) : outs m c t.val t.isLt = leftA m c t h := by
  obtain ⟨n, hn⟩ := t
  cases n with
  | zero => rfl
  | succ n => exact absurd h (Nat.succ_ne_zero n)

/-- The point before a later one. -/
theorem prev_lt (t : Fin cfg0.N) : t.val - 1 < cfg0.N := Nat.lt_of_le_of_lt (Nat.sub_le _ _) t.isLt

theorem outs_B (c : Dev nD) (t : Fin cfg0.N) (h : t.val ≠ 0) :
    outs m c t.val t.isLt = leftB m c t h (outs m c (t.val - 1) (prev_lt t)).o24 (outs m c (t.val - 1) (prev_lt t)).o25
      (outs m c (t.val - 1) (prev_lt t)).o26 := by
  obtain ⟨n, hn⟩ := t
  cases n with
  | zero => exact absurd rfl h
  | succ n => rfl

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outs m c t.val t.isLt).o15
    | ⟨16, _⟩ => (outs m c t.val t.isLt).o16
    | ⟨17, _⟩ => (outs m c t.val t.isLt).o17
    | ⟨18, _⟩ => (outs m c t.val t.isLt).o18
    | ⟨19, _⟩ => (outs m c t.val t.isLt).o19
    | ⟨20, _⟩ => (outs m c t.val t.isLt).o20
    | ⟨21, _⟩ => (outs m c t.val t.isLt).o21
    | ⟨22, _⟩ => (outs m c t.val t.isLt).o22
    | ⟨23, _⟩ => (outs m c t.val t.isLt).o23
    | ⟨24, _⟩ => (outs m c t.val t.isLt).o24
    | ⟨25, _⟩ => (outs m c t.val t.isLt).o25
    | ⟨26, _⟩ => (outs m c t.val t.isLt).o26
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = (outs m c t.val t.isLt).o15 := by dsimp only [dats]
theorem after_16 (c : Dev nD) (t : Fin cfg0.N) : (dats m 0 c).after 16 t = (outs m c t.val t.isLt).o16 := by dsimp only [dats]
theorem after_17 (c : Dev nD) (t : Fin cfg0.N) : (dats m 0 c).after 17 t = (outs m c t.val t.isLt).o17 := by dsimp only [dats]
theorem after_18 (c : Dev nD) (t : Fin cfg0.N) : (dats m 0 c).after 18 t = (outs m c t.val t.isLt).o18 := by dsimp only [dats]
theorem after_19 (c : Dev nD) (t : Fin cfg0.N) : (dats m 0 c).after 19 t = (outs m c t.val t.isLt).o19 := by dsimp only [dats]
theorem after_20 (c : Dev nD) (t : Fin cfg0.N) : (dats m 0 c).after 20 t = (outs m c t.val t.isLt).o20 := by dsimp only [dats]
theorem after_21 (c : Dev nD) (t : Fin cfg0.N) : (dats m 0 c).after 21 t = (outs m c t.val t.isLt).o21 := by dsimp only [dats]
theorem after_22 (c : Dev nD) (t : Fin cfg0.N) : (dats m 0 c).after 22 t = (outs m c t.val t.isLt).o22 := by dsimp only [dats]
theorem after_23 (c : Dev nD) (t : Fin cfg0.N) : (dats m 0 c).after 23 t = (outs m c t.val t.isLt).o23 := by dsimp only [dats]
theorem after_24 (c : Dev nD) (t : Fin cfg0.N) : (dats m 0 c).after 24 t = (outs m c t.val t.isLt).o24 := by dsimp only [dats]
theorem after_25 (c : Dev nD) (t : Fin cfg0.N) : (dats m 0 c).after 25 t = (outs m c t.val t.isLt).o25 := by dsimp only [dats]
theorem after_26 (c : Dev nD) (t : Fin cfg0.N) : (dats m 0 c).after 26 t = (outs m c t.val t.isLt).o26 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

theorem live_24 : ∀ t : Fin cfg0.N, cfg0.idle 24 (grid0.coords t) = false := by decide +kernel

theorem before_24 (c : Dev nD) (t : Fin cfg0.N) (h : t.val ≠ 0) (d) :
    (dats m 0 c).before 24 t d = (outs m c (t.val - 1) (prev_lt t)).o24 := by
  rw [Dat.before_out_traj _ 24 rfl (fun _ _ => rfl)
      (fun t _ hi _ => absurd ((live_24 t).symm.trans hi) Bool.false_ne_true) t.val t rfl d,
    if_neg (by rw [notFresh0_24_B t (later_of h).1 (later_of h).2]; exact Bool.false_ne_true)]
  dsimp only [dats]

theorem live_25 : ∀ t : Fin cfg0.N, cfg0.idle 25 (grid0.coords t) = false := by decide +kernel

theorem before_25 (c : Dev nD) (t : Fin cfg0.N) (h : t.val ≠ 0) (d) :
    (dats m 0 c).before 25 t d = (outs m c (t.val - 1) (prev_lt t)).o25 := by
  rw [Dat.before_out_traj _ 25 rfl (fun _ _ => rfl)
      (fun t _ hi _ => absurd ((live_25 t).symm.trans hi) Bool.false_ne_true) t.val t rfl d,
    if_neg (by rw [notFresh0_25_B t (later_of h).1 (later_of h).2]; exact Bool.false_ne_true)]
  dsimp only [dats]

theorem live_26 : ∀ t : Fin cfg0.N, cfg0.idle 26 (grid0.coords t) = false := by decide +kernel

theorem before_26 (c : Dev nD) (t : Fin cfg0.N) (h : t.val ≠ 0) (d) :
    (dats m 0 c).before 26 t d = (outs m c (t.val - 1) (prev_lt t)).o26 := by
  rw [Dat.before_out_traj _ 26 rfl (fun _ _ => rfl)
      (fun t _ hi _ => absurd ((live_26 t).symm.trans hi) Bool.false_ne_true) t.val t rfl d,
    if_neg (by rw [notFresh0_26_B t (later_of h).1 (later_of h).2]; exact Bool.false_ne_true)]
  dsimp only [dats]

/-! ## The body at a point -/

theorem leaves_0 (c : Dev nD) (t : Fin cfg0.N) :
    (dats m 0 c).leavesExact 0 t = owns (c : Thread nD τ) (ms0_0 t) fullShare (iblk m c 0 t) := by
  unfold Dat.leavesExact; rw [liveAt0_0 t, after_0]
theorem leaves_1 (c : Dev nD) (t : Fin cfg0.N) :
    (dats m 0 c).leavesExact 1 t = owns (c : Thread nD τ) (ms0_1 t) fullShare (iblk m c 1 t) := by
  unfold Dat.leavesExact; rw [liveAt0_1 t, after_1]
theorem leaves_2 (c : Dev nD) (t : Fin cfg0.N) :
    (dats m 0 c).leavesExact 2 t = owns (c : Thread nD τ) (ms0_2 t) fullShare (iblk m c 2 t) := by
  unfold Dat.leavesExact; rw [liveAt0_2 t, after_2]
theorem leaves_3 (c : Dev nD) (t : Fin cfg0.N) :
    (dats m 0 c).leavesExact 3 t = owns (c : Thread nD τ) (ms0_3 t) fullShare (iblk m c 3 t) := by
  unfold Dat.leavesExact; rw [liveAt0_3 t, after_3]
theorem leaves_4 (c : Dev nD) (t : Fin cfg0.N) :
    (dats m 0 c).leavesExact 4 t = owns (c : Thread nD τ) (ms0_4 t) fullShare (iblk m c 4 t) := by
  unfold Dat.leavesExact; rw [liveAt0_4 t, after_4]
theorem leaves_5 (c : Dev nD) (t : Fin cfg0.N) :
    (dats m 0 c).leavesExact 5 t = owns (c : Thread nD τ) (ms0_5 t) fullShare (iblk m c 5 t) := by
  unfold Dat.leavesExact; rw [liveAt0_5 t, after_5]
theorem leaves_6 (c : Dev nD) (t : Fin cfg0.N) :
    (dats m 0 c).leavesExact 6 t = owns (c : Thread nD τ) (ms0_6 t) fullShare (iblk m c 6 t) := by
  unfold Dat.leavesExact; rw [liveAt0_6 t, after_6]
theorem leaves_7 (c : Dev nD) (t : Fin cfg0.N) :
    (dats m 0 c).leavesExact 7 t = owns (c : Thread nD τ) (ms0_7 t) fullShare (iblk m c 7 t) := by
  unfold Dat.leavesExact; rw [liveAt0_7 t, after_7]
theorem leaves_8 (c : Dev nD) (t : Fin cfg0.N) :
    (dats m 0 c).leavesExact 8 t = owns (c : Thread nD τ) (ms0_8 t) fullShare (iblk m c 8 t) := by
  unfold Dat.leavesExact; rw [liveAt0_8 t, after_8]
theorem leaves_9 (c : Dev nD) (t : Fin cfg0.N) :
    (dats m 0 c).leavesExact 9 t = owns (c : Thread nD τ) (ms0_9 t) fullShare (iblk m c 9 t) := by
  unfold Dat.leavesExact; rw [liveAt0_9 t, after_9]
theorem leaves_10 (c : Dev nD) (t : Fin cfg0.N) :
    (dats m 0 c).leavesExact 10 t = owns (c : Thread nD τ) (ms0_10 t) fullShare (iblk m c 10 t) := by
  unfold Dat.leavesExact; rw [liveAt0_10 t, after_10]
theorem leaves_11 (c : Dev nD) (t : Fin cfg0.N) :
    (dats m 0 c).leavesExact 11 t = owns (c : Thread nD τ) (ms0_11 t) fullShare (iblk m c 11 t) := by
  unfold Dat.leavesExact; rw [liveAt0_11 t, after_11]
theorem leaves_12 (c : Dev nD) (t : Fin cfg0.N) :
    (dats m 0 c).leavesExact 12 t = owns (c : Thread nD τ) (ms0_12 t) fullShare (iblk m c 12 t) := by
  unfold Dat.leavesExact; rw [liveAt0_12 t, after_12]
theorem leaves_13 (c : Dev nD) (t : Fin cfg0.N) :
    (dats m 0 c).leavesExact 13 t = owns (c : Thread nD τ) (ms0_13 t) fullShare (iblk m c 13 t) := by
  unfold Dat.leavesExact; rw [liveAt0_13 t, after_13]
theorem leaves_14 (c : Dev nD) (t : Fin cfg0.N) :
    (dats m 0 c).leavesExact 14 t = owns (c : Thread nD τ) (ms0_14 t) fullShare (iblk m c 14 t) := by
  unfold Dat.leavesExact; rw [liveAt0_14 t, after_14]
theorem leaves_15 (c : Dev nD) (t : Fin cfg0.N) :
    (dats m 0 c).leavesExact 15 t = owns (c : Thread nD τ) (ms0_15 t) fullShare ((outs m c t.val t.isLt).o15) := by
  unfold Dat.leavesExact; rw [liveAt0_15 t, after_15]
theorem leaves_16 (c : Dev nD) (t : Fin cfg0.N) :
    (dats m 0 c).leavesExact 16 t = owns (c : Thread nD τ) (ms0_16 t) fullShare ((outs m c t.val t.isLt).o16) := by
  unfold Dat.leavesExact; rw [liveAt0_16 t, after_16]
theorem leaves_17 (c : Dev nD) (t : Fin cfg0.N) :
    (dats m 0 c).leavesExact 17 t = owns (c : Thread nD τ) (ms0_17 t) fullShare ((outs m c t.val t.isLt).o17) := by
  unfold Dat.leavesExact; rw [liveAt0_17 t, after_17]
theorem leaves_18 (c : Dev nD) (t : Fin cfg0.N) :
    (dats m 0 c).leavesExact 18 t = owns (c : Thread nD τ) (ms0_18 t) fullShare ((outs m c t.val t.isLt).o18) := by
  unfold Dat.leavesExact; rw [liveAt0_18 t, after_18]
theorem leaves_19 (c : Dev nD) (t : Fin cfg0.N) :
    (dats m 0 c).leavesExact 19 t = owns (c : Thread nD τ) (ms0_19 t) fullShare ((outs m c t.val t.isLt).o19) := by
  unfold Dat.leavesExact; rw [liveAt0_19 t, after_19]
theorem leaves_20 (c : Dev nD) (t : Fin cfg0.N) :
    (dats m 0 c).leavesExact 20 t = owns (c : Thread nD τ) (ms0_20 t) fullShare ((outs m c t.val t.isLt).o20) := by
  unfold Dat.leavesExact; rw [liveAt0_20 t, after_20]
theorem leaves_21 (c : Dev nD) (t : Fin cfg0.N) :
    (dats m 0 c).leavesExact 21 t = owns (c : Thread nD τ) (ms0_21 t) fullShare ((outs m c t.val t.isLt).o21) := by
  unfold Dat.leavesExact; rw [liveAt0_21 t, after_21]
theorem leaves_22 (c : Dev nD) (t : Fin cfg0.N) :
    (dats m 0 c).leavesExact 22 t = owns (c : Thread nD τ) (ms0_22 t) fullShare ((outs m c t.val t.isLt).o22) := by
  unfold Dat.leavesExact; rw [liveAt0_22 t, after_22]
theorem leaves_23 (c : Dev nD) (t : Fin cfg0.N) :
    (dats m 0 c).leavesExact 23 t = owns (c : Thread nD τ) (ms0_23 t) fullShare ((outs m c t.val t.isLt).o23) := by
  unfold Dat.leavesExact; rw [liveAt0_23 t, after_23]
theorem leaves_24 (c : Dev nD) (t : Fin cfg0.N) :
    (dats m 0 c).leavesExact 24 t = owns (c : Thread nD τ) (ms0_24 t) fullShare ((outs m c t.val t.isLt).o24) := by
  unfold Dat.leavesExact; rw [live_24 t, after_24]
theorem leaves_25 (c : Dev nD) (t : Fin cfg0.N) :
    (dats m 0 c).leavesExact 25 t = owns (c : Thread nD τ) (ms0_25 t) fullShare ((outs m c t.val t.isLt).o25) := by
  unfold Dat.leavesExact; rw [live_25 t, after_25]
theorem leaves_26 (c : Dev nD) (t : Fin cfg0.N) :
    (dats m 0 c).leavesExact 26 t = owns (c : Thread nD τ) (ms0_26 t) fullShare ((outs m c t.val t.isLt).o26) := by
  unfold Dat.leavesExact; rw [live_26 t, after_26]

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it gives back. -/
def back (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t)

set_option maxHeartbeats 8000000 in
/-- The body at any point runs from the one to the other. -/
theorem sound_body (c : Dev nD) (t : Fin cfg0.N) :
    given m c t ⊢ wp frame (wpE (defs₀ (F := F)) Variants.none c none) Set.univ (bodyAt0 t) (fun _ => back m c t) := by
  unfold given back bodyAt0
  simp only [before_0, before_1, before_2, before_3, before_4, before_5, before_6, before_7, before_8, before_9, before_10, before_11, before_12, before_13, before_14]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21, leaves_22, leaves_23, leaves_24, leaves_25, leaves_26]
  rw [show (dats m 0 c).Φ t.succ = (dats m 0 c).Φ t.castSucc from rfl,
    show (dats m 0 c).owesAt () t.succ = (dats m 0 c).owesAt () t.castSucc from rfl]
  by_cases h : t.val = 0
  · rw [outs_A m c t h]
    unfold leftA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((atA m c t h).2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr; swap; · iexact H15
      ipureintro; exact View.read_writes_of_cover _ _ _ _ _ (coverA_15 m c t h)
    isplitl [H16]
    · unfold owns; iexists _; isplitr; swap; · iexact H16
      ipureintro; exact View.read_writes_of_cover _ _ _ _ _ (coverA_16 m c t h)
    isplitl [H17]
    · unfold owns; iexists _; isplitr; swap; · iexact H17
      ipureintro; exact View.read_writes_of_cover _ _ _ _ _ (coverA_17 m c t h)
    isplitl [H18]
    · unfold owns; iexists _; isplitr; swap; · iexact H18
      ipureintro; exact View.read_writes_of_cover _ _ _ _ _ (coverA_18 m c t h)
    isplitl [H19]
    · unfold owns; iexists _; isplitr; swap; · iexact H19
      ipureintro; exact View.read_writes_of_cover _ _ _ _ _ (coverA_19 m c t h)
    isplitl [H20]
    · unfold owns; iexists _; isplitr; swap; · iexact H20
      ipureintro; exact View.read_writes_of_cover _ _ _ _ _ (coverA_20 m c t h)
    isplitl [H21]
    · unfold owns; iexists _; isplitr; swap; · iexact H21
      ipureintro; exact View.read_writes_of_cover _ _ _ _ _ (coverA_21 m c t h)
    isplitl [H22]
    · unfold owns; iexists _; isplitr; swap; · iexact H22
      ipureintro; exact View.read_writes_of_cover _ _ _ _ _ (coverA_22 m c t h)
    isplitl [H23]
    · unfold owns; iexists _; isplitr; swap; · iexact H23
      ipureintro; exact View.read_writes_of_cover _ _ _ _ _ (coverA_23 m c t h)
    isplitl [H24]
    · unfold owns; iexists _; isplitr; swap; · iexact H24
      ipureintro; exact View.read_writes_of_cover _ _ _ _ _ (coverA_24 m c t h)
    isplitl [H25]
    · unfold owns; iexists _; isplitr; swap; · iexact H25
      ipureintro; exact View.read_writes_of_cover _ _ _ _ _ (coverA_25 m c t h)
    unfold owns; iexists _; isplitr; swap; · iexact H26
    ipureintro; exact View.read_writes_of_cover _ _ _ _ _ (coverA_26 m c t h)
  · rw [outs_B m c t h]
    simp only [before_24 m c t h, before_25 m c t h, before_26 m c t h]
    unfold leftB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
    iapply ((atB m c t h _ _ _).2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexact H24
    isplitl [H25]; · iexact H25
    isplitl [H26]; · iexact H26
    iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr; swap; · iexact H15
      ipureintro; exact View.read_writes_of_cover _ _ _ _ _ (coverB_15 m c t h _ _ _)
    isplitl [H16]
    · unfold owns; iexists _; isplitr; swap; · iexact H16
      ipureintro; exact View.read_writes_of_cover _ _ _ _ _ (coverB_16 m c t h _ _ _)
    isplitl [H17]
    · unfold owns; iexists _; isplitr; swap; · iexact H17
      ipureintro; exact View.read_writes_of_cover _ _ _ _ _ (coverB_17 m c t h _ _ _)
    isplitl [H18]
    · unfold owns; iexists _; isplitr; swap; · iexact H18
      ipureintro; exact View.read_writes_of_cover _ _ _ _ _ (coverB_18 m c t h _ _ _)
    isplitl [H19]
    · unfold owns; iexists _; isplitr; swap; · iexact H19
      ipureintro; exact View.read_writes_of_cover _ _ _ _ _ (coverB_19 m c t h _ _ _)
    isplitl [H20]
    · unfold owns; iexists _; isplitr; swap; · iexact H20
      ipureintro; exact View.read_writes_of_cover _ _ _ _ _ (coverB_20 m c t h _ _ _)
    isplitl [H21]
    · unfold owns; iexists _; isplitr; swap; · iexact H21
      ipureintro; exact View.read_writes_of_cover _ _ _ _ _ (coverB_21 m c t h _ _ _)
    isplitl [H22]
    · unfold owns; iexists _; isplitr; swap; · iexact H22
      ipureintro; exact View.read_writes_of_cover _ _ _ _ _ (coverB_22 m c t h _ _ _)
    isplitl [H23]
    · unfold owns; iexists _; isplitr; swap; · iexact H23
      ipureintro; exact View.read_writes_of_cover _ _ _ _ _ (coverB_23 m c t h _ _ _)
    isplitl [H24]
    · unfold owns; iexists _; isplitr; swap; · iexact H24
      ipureintro; exact View.read_writes_of_cover _ _ _ _ _ (coverB_24 m c t h _ _ _)
    isplitl [H25]
    · unfold owns; iexists _; isplitr; swap; · iexact H25
      ipureintro; exact View.read_writes_of_cover _ _ _ _ _ (coverB_25 m c t h _ _ _)
    unfold owns; iexists _; isplitr; swap; · iexact H26
    ipureintro; exact View.read_writes_of_cover _ _ _ _ _ (coverB_26 m c t h _ _ _)

theorem row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
/-- Every execution ends, with each array of the call at what the pipeline's data say, every other buffer as the call
    found it, and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What the frame says, of any float format. -/
def Quiet (F : FTy → Type) [FloatOps F] [Named F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)

theorem quiet (F : FTy → Type) [FloatOps F] [Named F] : Quiet F := fun m ρ _ =>
  θ_run_and (frame_of m ρ (dats m) (A_eq m) ((θ_run defs _ _).mono (fun _ h => h.1) (run_main m ρ)))
    ((θ_run defs _ _).mono (fun _ h => h.2) (run_main m ρ))

end Cert.MixB.Run

end
-- ==== Proof.MixBHost.lean ====
/- The mixing layer's backward kernel: what the host hands it. -/
module

public import proofs.«01_k».proof.Proof.MixBMath
public import proofs.«01_k».proof.Proof.MixBFrame
public import Idealize.ShloMosaic.Lib.Pipeline.ValueKit
public import Idealize.ShloMosaic.Lib.Pointwise
public import Idealize.ShloMosaic.Lib.Claim

@[expose] public section

set_option maxRecDepth 16384

noncomputable section

namespace Cert.MixB.Run

open Cert.MixBIdeal Cert.MixBIdeal.Gen Idealize.ShloMosaic Idealize.ShloMosaic.TcCoe Idealize.SL.Sem
open Idealize.ShloMosaic.Pipeline
open Cert.Step Cert.Step.MixB
open scoped BigOperators

section
variable (sr si : FVec Ideal S2048x2048 .f32) (cr ci : FVec Ideal S32x16x64 .f32) (sk : FVec Ideal S32x16 .f32) (su s : FVec Ideal S2048x512 .f32)
  (w : FVec Ideal S512x2048 .f32) (gl : FVec Ideal S2048x2048 .f32) (ga gc gs yc x mg : FVec Ideal S2048x1024 .f32) (wo : FVec Ideal S1024x1024 .f32)

/-! The host's lines, by name. -/

def hDot (sr : FVec Ideal S2048x2048 .f32) (cr : FVec Ideal S32x16x64 .f32) : FVec Ideal S32x2048x16 .f32 :=
  Host.dotGeneral (φ₁ := .f32) (φ₂ := .f32) dot_S2048x32x64_S32x16x64_S32x2048x16_2_2_0_1_1_0 none (shapeCast S2048x32x64 sr shapeCasts_S2048x2048_S2048x32x64) cr
def hS : FVec Ideal S2048x512 .f32 := addf (shapeCast S2048x512 (transpose S2048x32x16 [1, 0, 2] (subf (hDot sr cr) (hDot si ci)) transposes_S32x2048x16_S2048x32x16_1_0_2) shapeCasts_S2048x32x16_S2048x512) (mulf (broadcastInDim S2048x512 ![0, 1] bcast_S1x512_S2048x512_0_1 (shapeCast S1x512 sk shapeCasts_S32x16_S1x512)) su)
def hTh : FVec Ideal S2048x512 .f32 := Host.tanh (mulf (broadcastInDim S2048x512 ![] bcast_S_S2048x512 (constant S_ .f32 0x3F4C422A#32)) (addf s (mulf (mulf (mulf (broadcastInDim S2048x512 ![] bcast_S_S2048x512 (Host.divf (constant S_ .f32 0x472EAB00#32) (constant S_ .f32 0x49742400#32))) s) s) s)))
def hAct : FVec Ideal S2048x512 .f32 := mulf (mulf (broadcastInDim S2048x512 ![] bcast_S_S2048x512 (constant S_ .f32 0x3F000000#32)) s) (addf (broadcastInDim S2048x512 ![] bcast_S_S2048x512 (constant S_ .f32 0x3F800000#32)) (hTh s))
def hGl : FVec Ideal S2048x2048 .f32 := Host.dotGeneral (φ₁ := .bf16) (φ₂ := .bf16) dot_S2048x512_S512x2048_S2048x2048_1_0_0_1_n_n none (truncf .bf16 (hAct s) bitsLt_bf16_f32) (truncf .bf16 w bitsLt_bf16_f32)
def hGa : FVec Ideal S2048x1024 .f32 := extractStridedSlice S2048x1024 ![0, 0] gl slices_S2048x2048_S2048x1024_0_0
def hGb : FVec Ideal S2048x1024 .f32 := extractStridedSlice S2048x1024 ![0, 1024] gl slices_S2048x2048_S2048x1024_0_1024
def hSig : FVec Ideal S2048x1024 .f32 := Host.divf (broadcastInDim S2048x1024 ![] bcast_S_S2048x1024 (constant S_ .f32 0x3F800000#32)) (addf (broadcastInDim S2048x1024 ![] bcast_S_S2048x1024 (constant S_ .f32 0x3F800000#32)) (Host.exp (Host.negf ga)))
def hMg : FVec Ideal S2048x1024 .f32 := addf (mulf (hSig gc) yc) (mulf (hSig gs) (mulf (hGa gl) (hSig (hGb gl))))
def hRes : FVec Ideal S2048x1024 .f32 := addf (mulf (broadcastInDim S2048x1024 ![] bcast_S_S2048x1024 (constant S_ .f32 0x3F9837F0#32)) x) (Host.dotGeneral (φ₁ := .bf16) (φ₂ := .bf16) dot_S2048x1024_S1024x1024_S2048x1024_1_0_0_1_n_n none (truncf .bf16 mg bitsLt_bf16_f32) (truncf .bf16 wo bitsLt_bf16_f32))

end

variable (m : (ℓ : Loc nD τ sig) → Buf (Elt Ideal) ℓ) (c : Dev nD)

/-- The kernel's arguments, read at their indices. -/
def args : Args where
  x i j := (m ((c : Thread nD τ).loc main_arg0) : FVec Ideal S2048x1024 .f32) (ix2 i j)
  sr i j := (m ((c : Thread nD τ).loc main_arg1) : FVec Ideal S2048x2048 .f32) (ix2 i j)
  si i j := (m ((c : Thread nD τ).loc main_arg2) : FVec Ideal S2048x2048 .f32) (ix2 i j)
  su i j := (m ((c : Thread nD τ).loc main_arg3) : FVec Ideal S2048x512 .f32) (ix2 i j)
  sk i j := (m ((c : Thread nD τ).loc main_arg4) : FVec Ideal S32x16 .f32) (ix2 i j)
  cr u i j := (m ((c : Thread nD τ).loc main_arg5) : FVec Ideal S32x16x64 .f32) (ix3 u i j)
  ci u i j := (m ((c : Thread nD τ).loc main_arg6) : FVec Ideal S32x16x64 .f32) (ix3 u i j)
  wg i j := (m ((c : Thread nD τ).loc main_arg7) : FVec Ideal S512x2048 .f32) (ix2 i j)
  gc i j := (m ((c : Thread nD τ).loc main_arg8) : FVec Ideal S2048x1024 .f32) (ix2 i j)
  gs i j := (m ((c : Thread nD τ).loc main_arg9) : FVec Ideal S2048x1024 .f32) (ix2 i j)
  yc i j := (m ((c : Thread nD τ).loc main_arg10) : FVec Ideal S2048x1024 .f32) (ix2 i j)
  wo i j := (m ((c : Thread nD τ).loc main_arg11) : FVec Ideal S1024x1024 .f32) (ix2 i j)
  g j := (m ((c : Thread nD τ).loc main_arg12) : FVec Ideal S1x1024 .f32) (ix2 0 j)
  dy i j := (m ((c : Thread nD τ).loc main_arg13) : FVec Ideal S2048x1024 .f32) (ix2 i j)

variable (i : Fin 2048) (j : Fin 1024) (n : Fin 512) (l : Fin 2048)

/-! ### The host lines -/

abbrev kS : FVec Ideal S2048x512 .f32 := hS (m ((c : Thread nD τ).loc main_arg1)) (m ((c : Thread nD τ).loc main_arg2)) (m ((c : Thread nD τ).loc main_arg5))
  (m ((c : Thread nD τ).loc main_arg6)) (m ((c : Thread nD τ).loc main_arg4)) (m ((c : Thread nD τ).loc main_arg3))
abbrev kGl : FVec Ideal S2048x2048 .f32 := hGl (kS m c) (m ((c : Thread nD τ).loc main_arg7))
abbrev kMg : FVec Ideal S2048x1024 .f32 := hMg (kGl m c) (m ((c : Thread nD τ).loc main_arg8)) (m ((c : Thread nD τ).loc main_arg9)) (m ((c : Thread nD τ).loc main_arg10))

theorem kS_at : kS m c (ix2 i n) = (args m c).s i n := by
  pointwise [hS, hDot]
  rfl

theorem kGl_at : kGl m c (ix2 i l) = (args m c).gl i l := by
  pointwise [hGl, hAct, hTh]
  simp only [kS_at, cube_quotient]
  rfl

theorem kGa_at : hGa (kGl m c) (ix2 i j) = (args m c).ga i j := by
  pointwise [hGa]
  exact kGl_at m c i (fst j)

theorem kGb_at : hSig (hGb (kGl m c)) (ix2 i j) = (args m c).gb i j := by
  pointwise [hSig, hGb]
  exact congrArg sgm (kGl_at m c i (snd j))

theorem kMg_at : kMg m c (ix2 i j) = (args m c).mg i j := by
  pointwise [hMg]
  rw [kGa_at, kGb_at]
  pointwise [hSig]
  rfl

theorem s_at : (V m c main_v30 : FVec Ideal S2048x512 .f32) (ix2 i n) = (args m c).s i n := by
  entry_read
  exact kS_at m c i n

theorem ga_at : (V m c main_v82 : FVec Ideal S2048x1024 .bf16) (ix2 i j) = (args m c).ga i j := by
  entry_read
  exact kGa_at m c i j

theorem gb_at : (V m c main_v83 : FVec Ideal S2048x1024 .bf16) (ix2 i j) = (args m c).gl i (snd j) := by
  entry_read
  refine Eq.trans ?_ (kGl_at m c i (snd j))
  exact (by pointwise [hGb] : hGb (kGl m c) (ix2 i j) = kGl m c (ix2 i (snd j)))

theorem res_eq : (V m c main_v77 : FVec Ideal S2048x1024 .f32) = hRes (m ((c : Thread nD τ).loc main_arg0)) (kMg m c) (m ((c : Thread nD τ).loc main_arg11)) := by
  entry_read
  rfl

theorem res_at : (V m c main_v77 : FVec Ideal S2048x1024 .f32) (ix2 i j) = (args m c).res i j := by
  rw [res_eq]
  pointwise [hRes]
  simp only [kMg_at]
  rfl

theorem eye0 : ∀ a b : Fin 8, lit0 (S8x8.rowMajor (ix2 a b)) = if a = b then 0x3F800000#32 else 0x00000000#32 := by
  decide +kernel
theorem eye1 : ∀ a b : Fin 8, lit1 (S8x8.rowMajor (ix2 a b)) = if a = b then 0x3F800000#32 else 0x00000000#32 := by
  decide +kernel

theorem ofBits_one : Ideal.ofBits .f32 0x3F800000#32 = 1 := by
  simp [Ideal.ofBits, Ideal.ieee, -EReal.coe_mul]; norm_num
theorem ofBits_zero : Ideal.ofBits .f32 0x00000000#32 = 0 := by
  simp [Ideal.ofBits, Ideal.ieee, -EReal.coe_mul]

/-- A product with an entry of the table of ones and zeros. -/
theorem mul_eye (x : EReal) {l : Fin 64 → BitVec 32} (e : ∀ a b : Fin 8, l (S8x8.rowMajor (ix2 a b)) = if a = b then 0x3F800000#32 else 0x00000000#32)
    (a b : Fin 8) : x * Ideal.ofBits .f32 (l (S8x8.rowMajor (ix2 a b))) = if a.val = b.val then x else 0 := by
  rw [e]
  by_cases h : a = b
  · rw [if_pos h, if_pos (congrArg Fin.val h), ofBits_one, mul_one]
  · rw [if_neg h, if_neg (fun h' => h (Fin.ext h')), ofBits_zero, mul_zero]

/-- A block of the read-out's table: the groups' own blocks, zero off the diagonal. -/
theorem wcr_at (J : Fin 4) (r : Fin 512) (q : Fin 128) : (V m c main_v9 : FVec Ideal S4x512x128 .bf16) (ix3 J r q)
    = if r.val / 64 = q.val / 16 then (args m c).cr ⟨J * 8 + r / 64, by omega⟩ ⟨q % 16, by omega⟩ ⟨r % 64, by omega⟩ else 0 := by
  entry_read
  pointwise
  exact mul_eye _ eye0 _ _

theorem wci_at (J : Fin 4) (r : Fin 512) (q : Fin 128) : (V m c main_v17 : FVec Ideal S4x512x128 .bf16) (ix3 J r q)
    = if r.val / 64 = q.val / 16 then -(args m c).ci ⟨J * 8 + r / 64, by omega⟩ ⟨q % 16, by omega⟩ ⟨r % 64, by omega⟩ else 0 := by
  entry_read
  pointwise
  exact mul_eye _ eye1 _ _

theorem wg_at (a : Fin 4) (k : Fin 512) : (V m c main_v20 : FVec Ideal S4x512x512 .bf16) (ix3 a n k) = (args m c).wg n ⟨a * 512 + k, by omega⟩ := by
  entry_read
  pointwise
  rfl

theorem sk_at : (V m c main_v2 : FVec Ideal S1x512 .f32) (ix2 0 n) = (args m c).sk (gp n) (en n) := by
  entry_read
  pointwise
  rfl

end Cert.MixB.Run

end
-- ==== Proof.MixBBlk.lean ====
/- The mixing layer's backward kernel: what its staged operands hold. -/
module

public import proofs.«01_k».proof.Proof.MixBHost
public import Idealize.ShloMosaic.Lib.Pipeline.ValueKit
public import Idealize.ShloMosaic.Lib.Pointwise
public import Idealize.ShloMosaic.Lib.Claim

@[expose] public section

set_option maxRecDepth 16384

noncomputable section

namespace Cert.MixB.Run

open Cert.MixBIdeal Cert.MixBIdeal.Gen Idealize.ShloMosaic Idealize.ShloMosaic.TcCoe Idealize.SL.Sem
open Idealize.ShloMosaic.Pipeline
open Cert.Step Cert.Step.MixB
open scoped BigOperators

variable (m : (ℓ : Loc nD τ sig) → Buf (Elt Ideal) ℓ) (c : Dev nD)
variable (j : Fin 1024) (n : Fin 512)

/-! ### The blocks -/

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0, 0] ∧ win0_13.index t = ![0, 0, 0] ∧ win0_14.index t = ![0, 0, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0] :=
  (by decide +kernel : ∀ t : Fin grid0.N, _)

/-- The array's row under a block's row. -/
def up (t : Fin cfg0.N) (i : Fin 256) : Fin 2048 := ⟨t.val * 256 + i, by have := lt_of_lt_of_eq t.isLt N_0; omega⟩

variable (t : Fin cfg0.N) (i : Fin 256)

theorem blk0 : (iblk m c 0 t : FVec Ideal S256x1024 .f32) (ix2 i j) = (args m c).dy (up t i) j := by
  unfold args up; blk_point [iblk, V, idx t]
theorem blk2 : (iblk m c 2 t : FVec Ideal S1x1024 .f32) (ix2 0 j) = (args m c).g j := by
  unfold args; blk_point [iblk, V, idx t]
theorem blk3 (i : Fin 1024) : (iblk m c 3 t : FVec Ideal S1024x1024 .bf16) (ix2 i j) = (args m c).wo i j := by
  unfold args; unfold iblk; entry_read; blk_point [idx t]
theorem blk4 : (iblk m c 4 t : FVec Ideal S256x1024 .bf16) (ix2 i j) = (args m c).gc (up t i) j := by
  unfold args up; unfold iblk; entry_read; blk_point [idx t]
theorem blk5 : (iblk m c 5 t : FVec Ideal S256x1024 .bf16) (ix2 i j) = (args m c).gs (up t i) j := by
  unfold args up; unfold iblk; entry_read; blk_point [idx t]
theorem blk10 : (iblk m c 10 t : FVec Ideal S256x512 .f32) (ix2 i n) = (args m c).su (up t i) n := by
  unfold args up; blk_point [iblk, V, idx t]
theorem read1 (A : FVec Ideal S2048x1024 .f32) : (((cfg0.win 1).blk t).view.read (Elt Ideal) A : FVec Ideal S256x1024 .f32) (ix2 i j) = A (ix2 (up t i) j) := by
  have e : ((View.whole main_v77).slice (win0_1.rect t)).emb (ix2 i j) = ix2 (up t i) j := by unfold up; blk_ext [idx t]
  exact congrArg A e
theorem blk1 : (iblk m c 1 t : FVec Ideal S256x1024 .f32) (ix2 i j) = (args m c).res (up t i) j := by
  unfold iblk
  exact (read1 j t i (V m c main_v77)).trans (res_at m c (up t i) j)
theorem read7 (A : FVec Ideal S2048x1024 .bf16) : (((cfg0.win 7).blk t).view.read (Elt Ideal) A : FVec Ideal S256x1024 .bf16) (ix2 i j) = A (ix2 (up t i) j) := by
  have e : ((View.whole main_v82).slice (win0_7.rect t)).emb (ix2 i j) = ix2 (up t i) j := by unfold up; blk_ext [idx t]
  exact congrArg A e
theorem blk7 : (iblk m c 7 t : FVec Ideal S256x1024 .bf16) (ix2 i j) = (args m c).ga (up t i) j := by
  unfold iblk
  exact (read7 j t i (V m c main_v82)).trans (ga_at m c (up t i) j)
theorem read8 (A : FVec Ideal S2048x1024 .bf16) : (((cfg0.win 8).blk t).view.read (Elt Ideal) A : FVec Ideal S256x1024 .bf16) (ix2 i j) = A (ix2 (up t i) j) := by
  have e : ((View.whole main_v83).slice (win0_8.rect t)).emb (ix2 i j) = ix2 (up t i) j := by unfold up; blk_ext [idx t]
  exact congrArg A e
theorem blk8 : (iblk m c 8 t : FVec Ideal S256x1024 .bf16) (ix2 i j) = (args m c).gl (up t i) (snd j) := by
  unfold iblk
  exact (read8 j t i (V m c main_v83)).trans (gb_at m c (up t i) j)
theorem read9 (A : FVec Ideal S2048x512 .f32) : (((cfg0.win 9).blk t).view.read (Elt Ideal) A : FVec Ideal S256x512 .f32) (ix2 i n) = A (ix2 (up t i) n) := by
  have e : ((View.whole main_v30).slice (win0_9.rect t)).emb (ix2 i n) = ix2 (up t i) n := by unfold up; blk_ext [idx t]
  exact congrArg A e
theorem blk9 : (iblk m c 9 t : FVec Ideal S256x512 .f32) (ix2 i n) = (args m c).s (up t i) n := by
  unfold iblk
  exact (read9 n t i (V m c main_v30)).trans (s_at m c (up t i) n)
theorem read11 (A : FVec Ideal S1x512 .f32) : (((cfg0.win 11).blk t).view.read (Elt Ideal) A : FVec Ideal S1x512 .f32) (ix2 0 n) = A (ix2 0 n) := by
  have e : ((View.whole main_v2).slice (win0_11.rect t)).emb (ix2 0 n) = ix2 0 n := by blk_ext [idx t]
  exact congrArg A e
theorem blk11 : (iblk m c 11 t : FVec Ideal S1x512 .f32) (ix2 0 n) = (args m c).sk (gp n) (en n) := by
  unfold iblk
  exact (read11 n t (V m c main_v2)).trans (sk_at m c n)
theorem read12 (a : Fin 4) (k : Fin 512) (A : FVec Ideal S4x512x512 .bf16) : (((cfg0.win 12).blk t).view.read (Elt Ideal) A : FVec Ideal S4x512x512 .bf16) (ix3 a n k) = A (ix3 a n k) := by
  have e : ((View.whole main_v20).slice (win0_12.rect t)).emb (ix3 a n k) = ix3 a n k := by blk_ext [idx t]
  exact congrArg A e
theorem blk12 (a : Fin 4) (k : Fin 512) : (iblk m c 12 t : FVec Ideal S4x512x512 .bf16) (ix3 a n k) = (args m c).wg n ⟨a * 512 + k, by omega⟩ := by
  unfold iblk
  exact (read12 n t a k (V m c main_v20)).trans (wg_at m c n a k)
theorem read13 (J : Fin 4) (r : Fin 512) (q : Fin 128) (A : FVec Ideal S4x512x128 .bf16) : (((cfg0.win 13).blk t).view.read (Elt Ideal) A : FVec Ideal S4x512x128 .bf16) (ix3 J r q) = A (ix3 J r q) := by
  have e : ((View.whole main_v9).slice (win0_13.rect t)).emb (ix3 J r q) = ix3 J r q := by blk_ext [idx t]
  exact congrArg A e
theorem blk13 (J : Fin 4) (r : Fin 512) (q : Fin 128) : (iblk m c 13 t : FVec Ideal S4x512x128 .bf16) (ix3 J r q) = if r.val / 64 = q.val / 16 then (args m c).cr ⟨J * 8 + r / 64, by omega⟩ ⟨q % 16, by omega⟩ ⟨r % 64, by omega⟩ else 0 := by
  unfold iblk
  exact (read13 t J r q (V m c main_v9)).trans (wcr_at m c J r q)
theorem read14 (J : Fin 4) (r : Fin 512) (q : Fin 128) (A : FVec Ideal S4x512x128 .bf16) : (((cfg0.win 14).blk t).view.read (Elt Ideal) A : FVec Ideal S4x512x128 .bf16) (ix3 J r q) = A (ix3 J r q) := by
  have e : ((View.whole main_v17).slice (win0_14.rect t)).emb (ix3 J r q) = ix3 J r q := by blk_ext [idx t]
  exact congrArg A e
theorem blk14 (J : Fin 4) (r : Fin 512) (q : Fin 128) : (iblk m c 14 t : FVec Ideal S4x512x128 .bf16) (ix3 J r q) = if r.val / 64 = q.val / 16 then -(args m c).ci ⟨J * 8 + r / 64, by omega⟩ ⟨q % 16, by omega⟩ ⟨r % 64, by omega⟩ else 0 := by
  unfold iblk
  exact (read14 t J r q (V m c main_v17)).trans (wci_at m c J r q)

end Cert.MixB.Run

end
-- ==== Proof.MixBPay.lean ====
/- The mixing layer's backward kernel, payload by payload, read at an index of a block whose operands hold
   one row of the arguments. -/
module

public import proofs.«01_k».proof.Proof.MixBMath
public import proofs.«01_k».proof.Proof.Gen.MixBIdeal.Skeleton
public import Idealize.ShloMosaic.Lib.Pipeline.ValueKit
public import Idealize.ShloMosaic.Lib.Pointwise
public import Idealize.ShloMosaic.Lib.Claim

@[expose] public section

set_option maxRecDepth 16384

noncomputable section

namespace Cert.MixB.Pay

open Cert.MixBIdeal Cert.MixBIdeal.Gen Idealize.ShloMosaic Idealize.ShloMosaic.TcCoe Idealize.SL.Sem
open Idealize.ShloMosaic.Pipeline
open Cert.Step Cert.Step.MixB
open scoped BigOperators

/-- A row of a block. -/
def row (v : FVec Ideal S256x1024 .f32) (i : Fin 256) : Row := fun k => v (ix2 i k)

section
variable (v0 v1 : FVec Ideal S256x1024 .f32) (v3 : FVec Ideal S1x1024 .f32) (i : Fin 256) (j : Fin 1024)

theorem pay5_at : k0_pay5 (F := Ideal) v1 (ix2 i j) = cen (row v1 i) j := by
  pointwise [k0_pay5]
  rfl
theorem pay6_at : k0_pay6 (F := Ideal) v1 (ix2 i 0) = rstd (row v1 i) := by
  pointwise [k0_pay6]
  simp only [pay5_at]; rfl
theorem pay7_at : k0_pay7 (F := Ideal) v1 (ix2 i j) = xhat (row v1 i) j := by
  pointwise [k0_pay7]
  rw [pay5_at, pay6_at]; rfl
theorem pay8_at : k0_pay8 (F := Ideal) v0 v1 v3 (ix2 i j) = bwdK (row v1 i) (fun k => v0 (ix2 i k) * v3 (ix2 0 k)) j := by
  pointwise [k0_pay8]
  simp only [pay6_at, pay7_at]; rfl
theorem pay28_at (v : FVec Ideal S256x1024 .f32) : k0_pay28 (F := Ideal) v0 v (ix2 0 j) = ∑ i, v0 (ix2 i j) * v (ix2 i j) := by
  pointwise [k0_pay28]
theorem pay29_at : k0_pay29 (F := Ideal) v0 (ix2 0 j) = ∑ i, v0 (ix2 i j) := by
  pointwise [k0_pay29]
theorem pay31_at (v : FVec Ideal S256x1024 .f32) : k0_pay31 (F := Ideal) v0 v (ix2 0 j) = ∑ i, v0 (ix2 i j) * v (ix2 i j) := by
  pointwise [k0_pay31]; exact pay28_at v0 j v
theorem pay32_at : k0_pay32 (F := Ideal) v0 (ix2 0 j) = ∑ i, v0 (ix2 i j) := by
  pointwise [k0_pay32]; exact pay29_at v0 j
theorem pay34_at (v : FVec Ideal S256x1024 .f32) (w : FVec Ideal S1x1024 .f32) :
    k0_pay34 (F := Ideal) v0 v w (ix2 0 j) = w (ix2 0 j) + ∑ i, v0 (ix2 i j) * v (ix2 i j) := by
  pointwise [k0_pay34]; rw [pay28_at]
theorem pay35_at (w : FVec Ideal S1x1024 .f32) : k0_pay35 (F := Ideal) v0 w (ix2 0 j) = w (ix2 0 j) + ∑ i, v0 (ix2 i j) := by
  pointwise [k0_pay35]; rw [pay29_at]
end

/-- What one row of the operands holds. -/
structure Holds (a : Args) (r : Fin 2048) (i : Fin 256) (v0 v1 : FVec Ideal S256x1024 .f32) (v3 : FVec Ideal S1x1024 .f32)
    (wo : FVec Ideal S1024x1024 .bf16) (gc gs ga gb : FVec Ideal S256x1024 .bf16) (s su : FVec Ideal S256x512 .f32) : Prop where
  dy : ∀ j, v0 (ix2 i j) = a.dy r j
  res : ∀ j, v1 (ix2 i j) = a.res r j
  g : ∀ j, v3 (ix2 0 j) = a.g j
  wo : ∀ k j, wo (ix2 k j) = a.wo k j
  gc : ∀ j, gc (ix2 i j) = a.gc r j
  gs : ∀ j, gs (ix2 i j) = a.gs r j
  ga : ∀ j, ga (ix2 i j) = a.ga r j
  gb : ∀ j, gb (ix2 i j) = a.gl r (snd j)
  s : ∀ n, s (ix2 i n) = a.s r n
  su : ∀ n, su (ix2 i n) = a.su r n

section
variable {a : Args} {r : Fin 2048} {i : Fin 256} {v0 v1 : FVec Ideal S256x1024 .f32} {v3 : FVec Ideal S1x1024 .f32}
  {wo : FVec Ideal S1024x1024 .bf16} {gc gs ga gb : FVec Ideal S256x1024 .bf16} {s su : FVec Ideal S256x512 .f32}
  (h : Holds a r i v0 v1 v3 wo gc gs ga gb s su) (j : Fin 1024)
include h

theorem row_eq : row v1 i = a.res r := funext h.res

theorem xh_at : k0_pay7 (F := Ideal) v1 (ix2 i j) = xhat (a.res r) j := by rw [pay7_at, row_eq h]

theorem dr_at : k0_pay8 (F := Ideal) v0 v1 v3 (ix2 i j) = a.dr r j := by
  rw [pay8_at, row_eq h]
  exact congrArg (fun d => bwdK (a.res r) d j) (funext fun k => by rw [h.dy, h.g]; rfl)

theorem drb_at : k0_pay9 (F := Ideal) v0 v1 v3 (ix2 i j) = a.dr r j := dr_at h j

theorem dres_at : k0_pay37 (F := Ideal) (k0_pay8 (F := Ideal) v0 v1 v3) (ix2 i j) = a.dres r j := by
  pointwise [k0_pay37]
  rw [dr_at h]; rfl

theorem dmix_at : k0_pay38 (F := Ideal) (k0_pay9 (F := Ideal) v0 v1 v3) (ix2 i j) = a.dr r j := by
  pointwise [k0_pay38]
  exact drb_at h j

theorem dm_at : k0_pay11 (F := Ideal) (k0_pay9 (F := Ideal) v0 v1 v3) (k0_pay10 (F := Ideal) wo) (constant S256x1024 .f32 0x00000000#32) (ix2 i j) = a.dm r j := by
  pointwise [k0_pay11, k0_pay10]
  simp only [drb_at h, h.wo]; rfl

theorem sgc_at : k0_pay12 (F := Ideal) gc (ix2 i j) = sgm (a.gc r j) := by
  pointwise [k0_pay12]
  rw [h.gc]; rfl
theorem sgs_at : k0_pay13 (F := Ideal) gs (ix2 i j) = sgm (a.gs r j) := by
  pointwise [k0_pay13]
  rw [h.gs]; rfl
theorem sgb_at : k0_pay14 (F := Ideal) gb (ix2 i j) = a.gb r j := by
  pointwise [k0_pay14]
  rw [h.gb]; rfl
theorem ga_at : k0_pay15 (F := Ideal) ga (ix2 i j) = a.ga r j := by
  pointwise [k0_pay15]
  exact h.ga j

theorem dyc_at : k0_pay2 (F := Ideal) (k0_pay11 (F := Ideal) (k0_pay9 (F := Ideal) v0 v1 v3) (k0_pay10 (F := Ideal) wo) (constant S256x1024 .f32 0x00000000#32)) (k0_pay12 (F := Ideal) gc) (ix2 i j) = a.dyc r j := by
  pointwise [k0_pay2]
  rw [dm_at h, sgc_at h]; rfl

theorem dgl_at (j : Fin 2048) : k0_pay18 (F := Ideal) (k0_pay9 (F := Ideal) v0 v1 v3) (k0_pay10 (F := Ideal) wo) (constant S256x1024 .f32 0x00000000#32) gs gb ga (ix2 i j) = a.dgl r j := by
  pointwise [k0_pay18]
  unfold Args.dgl
  by_cases hj : j.val < 1024
  · simp only [hj, ↓reduceDIte, dm_at h, sgs_at h, sgb_at h]; rfl
  · simp only [hj, ↓reduceDIte, dm_at h, sgs_at h, sgb_at h, ga_at h]; rfl
end

/-! ### The activation -/

abbrev third (v : FVec Ideal S1x512x512 .bf16) (n : Fin 512) (k : Fin 512) : EReal := v (ix3 0 n k)

/-- Four products over blocks of 512 columns are one product over all columns. -/
theorem pay20_at (v79 : FVec Ideal S256x2048 .bf16) (v83 : FVec Ideal S256x512 .f32) (w1 w2 w3 : FVec Ideal S1x512x512 .bf16)
    (i : Fin 256) (n : Fin 512) (G W : Fin 2048 → EReal) (hv : ∀ j, v79 (ix2 i j) = G j)
    (h0 : v83 (ix2 i n) = ∑ k : Fin 512, G ⟨k, by omega⟩ * W ⟨k, by omega⟩)
    (h1 : ∀ k : Fin 512, w1 (ix3 0 n k) = W ⟨512 + k, by omega⟩) (h2 : ∀ k : Fin 512, w2 (ix3 0 n k) = W ⟨512 + 512 + k, by omega⟩)
    (h3 : ∀ k : Fin 512, w3 (ix3 0 n k) = W ⟨512 + 512 + 512 + k, by omega⟩) :
    k0_pay20 (F := Ideal) v79 v83 w1 w2 w3 (ix2 i n) = ∑ j, G j * W j := by
  pointwise [k0_pay20]
  rw [h0]
  simp only [hv, h1, h2, h3]
  exact sum_four 512 fun j => G j * W j

section
variable {a : Args} {r : Fin 2048} {i : Fin 256} {v0 v1 : FVec Ideal S256x1024 .f32} {v3 : FVec Ideal S1x1024 .f32}
  {wo : FVec Ideal S1024x1024 .bf16} {gc gs ga gb : FVec Ideal S256x1024 .bf16} {s su : FVec Ideal S256x512 .f32}
  (h : Holds a r i v0 v1 v3 wo gc gs ga gb s su) {w0 w1 w2 w3 : FVec Ideal S1x512x512 .bf16}

/-- What the four blocks of the gated unit's matrix hold. -/
structure Blocks (a : Args) (w0 w1 w2 w3 : FVec Ideal S1x512x512 .bf16) : Prop where
  h0 : ∀ n k : Fin 512, w0 (ix3 0 n k) = a.wg n ⟨k, by omega⟩
  h1 : ∀ n k : Fin 512, w1 (ix3 0 n k) = a.wg n ⟨512 + k, by omega⟩
  h2 : ∀ n k : Fin 512, w2 (ix3 0 n k) = a.wg n ⟨512 + 512 + k, by omega⟩
  h3 : ∀ n k : Fin 512, w3 (ix3 0 n k) = a.wg n ⟨512 + 512 + 512 + k, by omega⟩

/-- The gradient at the gated unit, as the kernel forms it. -/
abbrev gG (v0 v1 : FVec Ideal S256x1024 .f32) (v3 : FVec Ideal S1x1024 .f32) (wo : FVec Ideal S1024x1024 .bf16)
    (gs ga gb : FVec Ideal S256x1024 .bf16) : FVec Ideal S256x2048 .bf16 :=
  k0_pay18 (F := Ideal) (k0_pay9 (F := Ideal) v0 v1 v3) (k0_pay10 (F := Ideal) wo) (constant S256x1024 .f32 0x00000000#32) gs gb ga

/-- The gradient at the activation, as the kernel forms it. -/
abbrev gA (v0 v1 : FVec Ideal S256x1024 .f32) (v3 : FVec Ideal S1x1024 .f32) (wo : FVec Ideal S1024x1024 .bf16)
    (gs ga gb : FVec Ideal S256x1024 .bf16) (w0 w1 w2 w3 : FVec Ideal S1x512x512 .bf16) : FVec Ideal S256x512 .f32 :=
  k0_pay20 (F := Ideal) (gG v0 v1 v3 wo gs ga gb)
    (k0_pay19 (F := Ideal) (k0_pay9 (F := Ideal) v0 v1 v3) (k0_pay10 (F := Ideal) wo) (constant S256x1024 .f32 0x00000000#32) gs gb ga w0) w1 w2 w3

include h in
theorem dact_at (hw : Blocks a w0 w1 w2 w3) (n : Fin 512) : gA v0 v1 v3 wo gs ga gb w0 w1 w2 w3 (ix2 i n) = a.dact r n := by
  refine pay20_at _ _ _ _ _ i n (a.dgl r) (a.wg n) (dgl_at h) ?_ (hw.h1 n) (hw.h2 n) (hw.h3 n)
  pointwise [k0_pay19]
  simp only [dgl_at h, hw.h0]

theorem cube_eq : Named.named (F := Ideal) Cert.MixBIdeal.κ "cube" (φ := .f32) 0x3D372713#32 = cube :=
  IdealRules.named_const.ideal_named_scalar _ _ _ _ rfl
theorem cube3_eq : Named.named (F := Ideal) Cert.MixBIdeal.κ "cube3" (φ := .f32) 0x3E095D4F#32 = cube3 :=
  IdealRules.named_const.ideal_named_scalar _ _ _ _ rfl

include h in
theorem th_at (n : Fin 512) : k0_pay22 (F := Ideal) s (ix2 i n) = a.th r n := by
  pointwise [k0_pay22, k0_pay21]
  rw [cube_eq, h.s]; rfl
include h in
theorem wide_at (n : Fin 512) : k0_pay23 (F := Ideal) s (ix2 i n) = half * (1 + a.th r n) := by
  pointwise [k0_pay23]
  rw [th_at h]
include h in
theorem steep_at (n : Fin 512) : k0_pay24 (F := Ideal) s (ix2 i n) = half * a.s r n * (1 - a.th r n * a.th r n) * root := by
  pointwise [k0_pay24, k0_pay21]
  rw [th_at h, h.s]

/-- The gradient at the read-out, as the kernel forms it. -/
abbrev gS (f : FVec Ideal S256x512 .f32) (s : FVec Ideal S256x512 .f32) : FVec Ideal S256x512 .f32 :=
  k0_pay26 (F := Ideal) f (k0_pay21 (F := Ideal) s) (k0_pay23 (F := Ideal) s) (k0_pay24 (F := Ideal) s) k0_pay25

include h in
theorem ds_at (hw : Blocks a w0 w1 w2 w3) (n : Fin 512) : gS (gA v0 v1 v3 wo gs ga gb w0 w1 w2 w3) s (ix2 i n) = a.ds r n := by
  pointwise [k0_pay26, k0_pay21, k0_pay25]
  rw [dact_at h hw, wide_at h, steep_at h, cube3_eq, h.s]; rfl

include h in
theorem dud_at (hw : Blocks a w0 w1 w2 w3) (n : Fin 512) (sk : FVec Ideal S1x512 .f32) (hk : sk (ix2 0 n) = a.sk (gp n) (en n)) :
    k0_pay41 (F := Ideal) (gS (gA v0 v1 v3 wo gs ga gb w0 w1 w2 w3) s) sk (ix2 i n) = a.dud r n := by
  pointwise [k0_pay41]
  rw [ds_at h hw, hk]; rfl
end

theorem pay39_at (v : FVec Ideal S256x2048 .bf16) (i : Fin 256) (j : Fin 2048) : k0_pay39 (F := Ideal) v (ix2 i j) = v (ix2 i j) := by
  pointwise [k0_pay39]
theorem pay40_at (v : FVec Ideal S256x512 .bf16) (i : Fin 256) (n : Fin 512) : k0_pay40 (F := Ideal) v (ix2 i n) = v (ix2 i n) := by
  pointwise [k0_pay40]

section
variable (v98 v100 v112 v120 v121 u : FVec Ideal S256x512 .f32) (n : Fin 512)

theorem pay30_at : k0_pay30 (F := Ideal) v98 v100 v112 v120 v121 u (ix2 0 n) = ∑ i, k0_pay26 (F := Ideal) v98 v100 v112 v120 v121 (ix2 i n) * u (ix2 i n) := by
  pointwise [k0_pay30]
theorem pay33_at : k0_pay33 (F := Ideal) v98 v100 v112 v120 v121 u (ix2 0 n) = ∑ i, k0_pay26 (F := Ideal) v98 v100 v112 v120 v121 (ix2 i n) * u (ix2 i n) := by
  pointwise [k0_pay33]; exact pay30_at v98 v100 v112 v120 v121 u n
theorem pay36_at (w : FVec Ideal S1x512 .f32) :
    k0_pay36 (F := Ideal) v98 v100 v112 v120 v121 u w (ix2 0 n) = w (ix2 0 n) + ∑ i, k0_pay26 (F := Ideal) v98 v100 v112 v120 v121 (ix2 i n) * u (ix2 i n) := by
  pointwise [k0_pay36]; rw [pay30_at]
end

/-! ### The state's gradient -/

/-- A sum over the 128 columns of eight groups, of which one counts, is a sum over that group. -/
theorem one_group (f : Fin 128 → EReal) (u : Fin 8) (g : Fin 16 → EReal) :
    ∑ q : Fin 128, f q * (if u.val = q.val / 16 then g ⟨q % 16, by omega⟩ else 0) = ∑ k : Fin 16, f ⟨u * 16 + k, by omega⟩ * g k := by
  rw [← Equiv.sum_comp (finProdFinEquiv (m := 8) (n := 16)), Fintype.sum_prod_type, Finset.sum_eq_single u]
  · refine Finset.sum_congr rfl fun k _ => ?_
    have hq : (finProdFinEquiv (u, k) : Fin (8 * 16)).val = k + 16 * u := rfl
    rw [if_pos (by omega)]
    exact congrArg₂ (fun (x : Fin 128) (y : Fin 16) => f x * g y) (Fin.ext (by show k.val + 16 * u.val = u.val * 16 + k.val; omega)) (Fin.ext (by show (k.val + 16 * u.val) % 16 = k.val; omega))
  · intro v _ hv
    refine Finset.sum_eq_zero fun k _ => ?_
    have hq : (finProdFinEquiv (v, k) : Fin (8 * 16)).val = k + 16 * v := rfl
    rw [if_neg (fun e => hv (Fin.ext (by omega))), mul_zero]
  · exact fun hu => absurd (Finset.mem_univ u) hu

section
variable (v : FVec Ideal S256x512 .bf16) (w : FVec Ideal S1x512x128 .bf16) (i : Fin 256) (l : Fin 512) (d : Fin 512 → EReal)
  (C : Fin 32 → Mat 16 64) (hv : ∀ n, v (ix2 i n) = d n)

/-- A column of the state's gradient. -/
def back (d : Fin 512 → EReal) (C : Fin 32 → Mat 16 64) (l : Fin 2048) : EReal :=
  ∑ k : Fin 16, d (chan ⟨l / 64, by omega⟩ k) * C ⟨l / 64, by omega⟩ k ⟨l % 64, by omega⟩

theorem part (J : Fin 4) (hw : ∀ q : Fin 128, w (ix3 0 l q) = if l.val / 64 = q.val / 16 then C ⟨J * 8 + l / 64, by omega⟩ ⟨q % 16, by omega⟩ ⟨l % 64, by omega⟩ else 0)
    (f : Fin 128 → EReal) (hf : ∀ q, f q = d ⟨J * 128 + q, by omega⟩) :
    ∑ q : Fin 128, f q * w (ix3 0 l q) = back d C ⟨J * 512 + l, by omega⟩ := by
  have e := one_group f ⟨l / 64, by omega⟩ fun k => C ⟨J * 8 + l / 64, by omega⟩ k ⟨l % 64, by omega⟩
  refine (Finset.sum_congr rfl fun q _ => by rw [hw]).trans (e.trans (Finset.sum_congr rfl fun k _ => ?_))
  rw [hf]
  have h1 : (J.val * 512 + l.val) / 64 = J * 8 + l / 64 := by omega
  have h2 : (J.val * 512 + l.val) % 64 = l % 64 := by omega
  exact congrArg₂ (· * ·) (congrArg d (Fin.ext (by simp only [h1]; omega)))
    (congrArg₂ (fun a b => C a k b) (Fin.ext h1.symm) (Fin.ext h2.symm))

variable (hv : ∀ n, v (ix2 i n) = d n)
include hv

theorem pay42_at (hw : ∀ q : Fin 128, w (ix3 0 l q) = if l.val / 64 = q.val / 16 then C ⟨0 * 8 + l / 64, by omega⟩ ⟨q % 16, by omega⟩ ⟨l % 64, by omega⟩ else 0) :
    k0_pay42 (F := Ideal) v w (ix2 i l) = back d C ⟨0 * 512 + l, by omega⟩ := by
  pointwise [k0_pay42]
  refine Eq.trans ?_ ((part w l d C 0 hw _ fun q => rfl).trans (congrArg (back d C) (Fin.ext (by simp))))
  exact Finset.sum_congr rfl fun q _ => congrArg (· * _) ((hv _).trans (congrArg d (Fin.ext (by simp))))
theorem pay44_at (hw : ∀ q : Fin 128, w (ix3 0 l q) = if l.val / 64 = q.val / 16 then C ⟨1 * 8 + l / 64, by omega⟩ ⟨q % 16, by omega⟩ ⟨l % 64, by omega⟩ else 0) :
    k0_pay44 (F := Ideal) v w (ix2 i l) = back d C ⟨1 * 512 + l, by omega⟩ := by
  pointwise [k0_pay44]
  refine part w l d C 1 hw _ ?_
  exact fun q => (hv _).trans (congrArg d (Fin.ext (by simp)))
theorem pay47_at (hw : ∀ q : Fin 128, w (ix3 0 l q) = if l.val / 64 = q.val / 16 then C ⟨2 * 8 + l / 64, by omega⟩ ⟨q % 16, by omega⟩ ⟨l % 64, by omega⟩ else 0) :
    k0_pay47 (F := Ideal) v w (ix2 i l) = back d C ⟨2 * 512 + l, by omega⟩ := by
  pointwise [k0_pay47]
  refine part w l d C 2 hw _ ?_
  exact fun q => (hv _).trans (congrArg d (Fin.ext (by simp)))
theorem pay49_at (hw : ∀ q : Fin 128, w (ix3 0 l q) = if l.val / 64 = q.val / 16 then C ⟨3 * 8 + l / 64, by omega⟩ ⟨q % 16, by omega⟩ ⟨l % 64, by omega⟩ else 0) :
    k0_pay49 (F := Ideal) v w (ix2 i l) = back d C ⟨3 * 512 + l, by omega⟩ := by
  pointwise [k0_pay49]
  refine part w l d C 3 hw _ ?_
  exact fun q => (hv _).trans (congrArg d (Fin.ext (by simp)))
omit hv in
theorem pay43_eq : k0_pay43 (F := Ideal) v w = k0_pay42 (F := Ideal) v w := rfl
omit hv in
theorem pay46_eq : k0_pay46 (F := Ideal) (k0_pay45 (F := Ideal) v) w = k0_pay44 (F := Ideal) v w := rfl
omit hv in
theorem pay48_eq : k0_pay48 (F := Ideal) v w = k0_pay47 (F := Ideal) v w := rfl
omit hv in
theorem pay1_eq : k0_pay1 (F := Ideal) (k0_pay50 (F := Ideal) v) w = k0_pay49 (F := Ideal) v w := rfl
end

end Cert.MixB.Pay

end
-- ==== Proof.MixBValue.lean ====
/- The mixing layer's backward kernel: the arrays it leaves. -/
module

public import proofs.«01_k».proof.Proof.MixBBlk
public import proofs.«01_k».proof.Proof.MixBPay
public import Idealize.ShloMosaic.Lib.Pipeline.ReadBack

@[expose] public section

set_option maxRecDepth 16384

noncomputable section

namespace Cert.MixB.Run

open Cert.MixBIdeal Cert.MixBIdeal.Gen Idealize.ShloMosaic Idealize.ShloMosaic.TcCoe Idealize.SL.Sem
open Idealize.ShloMosaic.Pipeline
open Cert.Step Cert.Step.MixB Cert.MixB.Pay
open scoped BigOperators

variable (m : (ℓ : Loc nD τ sig) → Buf (Elt Ideal) ℓ) (c : Dev nD) (t : Fin cfg0.N) (i : Fin 256)

theorem holds : Holds (args m c) (up t i) i (iblk m c 0 t) (iblk m c 1 t) (iblk m c 2 t) (iblk m c 3 t) (iblk m c 4 t) (iblk m c 5 t)
    (iblk m c 7 t) (iblk m c 8 t) (iblk m c 9 t) (iblk m c 10 t) where
  dy j := blk0 m c j t i
  res j := blk1 m c j t i
  g j := blk2 m c j t
  wo k j := blk3 m c j t k
  gc j := blk4 m c j t i
  gs j := blk5 m c j t i
  ga j := blk7 m c j t i
  gb j := blk8 m c j t i
  s n := blk9 m c n t i
  su n := blk10 m c n t i

theorem inb12 : ∀ (J : Fin 4) a, (![J.val, 0, 0] : Fin 3 → ℕ) a + (![1, 512, 512] : Fin 3 → ℕ) a ≤ S4x512x512.size a := by decide
theorem inb13 : ∀ (J : Fin 4) a, (![J.val, 0, 0] : Fin 3 → ℕ) a + (![1, 512, 128] : Fin 3 → ℕ) a ≤ S4x512x128.size a := by decide

abbrev w12 (J : Fin 4) : FVec Ideal S1x512x512 .bf16 :=
  View.ld (iblk m c 12 t : Vec Ideal S4x512x512 .bf16) (Rect.unit (s := S4x512x512) ![J.val, 0, 0] ![1, 512, 512] (inb12 J))
abbrev w13 (J : Fin 4) : FVec Ideal S1x512x128 .bf16 :=
  View.ld (iblk m c 13 t : Vec Ideal S4x512x128 .bf16) (Rect.unit (s := S4x512x128) ![J.val, 0, 0] ![1, 512, 128] (inb13 J))
abbrev w14 (J : Fin 4) : FVec Ideal S1x512x128 .bf16 :=
  View.ld (iblk m c 14 t : Vec Ideal S4x512x128 .bf16) (Rect.unit (s := S4x512x128) ![J.val, 0, 0] ![1, 512, 128] (inb13 J))

theorem w12_at (J : Fin 4) (n k : Fin 512) : w12 m c t J (ix3 0 n k) = (args m c).wg n ⟨J * 512 + k, by omega⟩ :=
  (View.ld_unit_apply_of _ _ _ _ _ _ (by refine Fin.forall_fin_succ.mpr ⟨rfl, Fin.forall_fin_two.mpr ⟨?_, ?_⟩⟩ <;> exact (Nat.zero_add _).symm)).trans (blk12 m c n t J k)
theorem w13_at (J : Fin 4) (r : Fin 512) (q : Fin 128) : w13 m c t J (ix3 0 r q)
    = if r.val / 64 = q.val / 16 then (args m c).cr ⟨J * 8 + r / 64, by omega⟩ ⟨q % 16, by omega⟩ ⟨r % 64, by omega⟩ else 0 :=
  (View.ld_unit_apply_of _ _ _ _ _ _ (by refine Fin.forall_fin_succ.mpr ⟨rfl, Fin.forall_fin_two.mpr ⟨?_, ?_⟩⟩ <;> exact (Nat.zero_add _).symm)).trans (blk13 m c t J r q)
theorem w14_at (J : Fin 4) (r : Fin 512) (q : Fin 128) : w14 m c t J (ix3 0 r q)
    = if r.val / 64 = q.val / 16 then -(args m c).ci ⟨J * 8 + r / 64, by omega⟩ ⟨q % 16, by omega⟩ ⟨r % 64, by omega⟩ else 0 :=
  (View.ld_unit_apply_of _ _ _ _ _ _ (by refine Fin.forall_fin_succ.mpr ⟨rfl, Fin.forall_fin_two.mpr ⟨?_, ?_⟩⟩ <;> exact (Nat.zero_add _).symm)).trans (blk14 m c t J r q)

theorem blocks : Blocks (args m c) (w12 m c t 0) (w12 m c t 1) (w12 m c t 2) (w12 m c t 3) where
  h0 n k := (w12_at m c t 0 n k).trans (congrArg ((args m c).wg n) (Fin.ext (by simp)))
  h1 n k := (w12_at m c t 1 n k).trans (congrArg ((args m c).wg n) (Fin.ext (by simp)))
  h2 n k := (w12_at m c t 2 n k).trans (congrArg ((args m c).wg n) (Fin.ext (by simp)))
  h3 n k := (w12_at m c t 3 n k).trans (congrArg ((args m c).wg n) (Fin.ext (by simp)))

/-- The gradient at the read-out, on a block. -/
abbrev bS : FVec Ideal S256x512 .f32 :=
  gS (gA (iblk m c 0 t) (iblk m c 1 t) (iblk m c 2 t) (iblk m c 3 t) (iblk m c 5 t) (iblk m c 7 t) (iblk m c 8 t)
    (w12 m c t 0) (w12 m c t 1) (w12 m c t 2) (w12 m c t 3)) (iblk m c 9 t)
theorem bS_at (n : Fin 512) : bS m c t (ix2 i n) = (args m c).ds (up t i) n := ds_at (holds m c t i) (blocks m c t) n

theorem bound (J : Fin 4) (l : Fin 512) : (J : ℕ) * 512 + l < 2048 := by omega

/-- Four stretches of columns, stored one after the other. -/
theorem quarters (p q r s : FVec Ideal S256x512 .bf16) (n : Fin 2048) (G : Fin 2048 → EReal) (hp : ∀ l : Fin 512, p (ix2 i l) = G ⟨((3 : Fin 4) : ℕ) * 512 + l, bound 3 l⟩)
    (hq : ∀ l : Fin 512, q (ix2 i l) = G ⟨((2 : Fin 4) : ℕ) * 512 + l, bound 2 l⟩) (hr : ∀ l : Fin 512, r (ix2 i l) = G ⟨((1 : Fin 4) : ℕ) * 512 + l, bound 1 l⟩)
    (hs : ∀ l : Fin 512, s (ix2 i l) = G ⟨((0 : Fin 4) : ℕ) * 512 + l, bound 0 l⟩) :
    View.canon (Val := Elt Ideal) [(⟨Rect.unit ![0, 1536] ![256, 512] inb_S256x2048_S256x512_0_1536, p⟩ : View.Piece (Elt Ideal) S256x2048 .bf16),
      ⟨Rect.unit ![0, 1024] ![256, 512] inb_S256x2048_S256x512_0_1024, q⟩, ⟨Rect.unit ![0, 512] ![256, 512] inb_S256x2048_S256x512_0_512, r⟩,
      ⟨Rect.unit ![0, 0] ![256, 512] inb_S256x2048_S256x512_0_0, s⟩] (ix2 i n) = G n := by
  canon_tiles x h
  all_goals
    obtain ⟨k, l, rfl⟩ : ∃ (k : Fin 256) (l : Fin 512), x = ix2 k l := ⟨x 0, x 1, eq_ix2 x⟩
    obtain rfl : i = k := Fin.ext h0
  · exact (hp l).trans (congrArg G (Fin.ext h1.symm))
  · exact (hq l).trans (congrArg G (Fin.ext h1.symm))
  · exact (hr l).trans (congrArg G (Fin.ext h1.symm))
  · exact (hs l).trans (congrArg G (Fin.ext ((by simp : ((0 : Fin 4) : ℕ) * 512 + l = (l : ℕ)).trans h1.symm)))

/-! ### The outputs that are written block by block -/

theorem emb15 (y : S256x1024.Idx) : ((View.whole main_v84_0).slice (win0_15.rect t)).emb y = ix2 (up t (y 0)) (y 1) := by
  unfold up; blk_ext [idx t]
theorem out15 (j) : (outs m c t.val t.isLt).o15 (ix2 i j) = (args m c).dres (up t i) j := by
  by_cases h : t.val = 0
  · rw [outs_A m c t h]
    unfold leftA; dsimp only; unfold atA
    frame_out
    exact dres_at (holds m c t i) j
  · rw [outs_B m c t h]
    unfold leftB; dsimp only; unfold atB
    frame_out
    exact dres_at (holds m c t i) j
theorem final15 : (dats m 0 c).arrAt 15 (cfgs 0).N = fun z : S2048x1024.Idx => (args m c).dres (z 0) (z 1) := by
  refine (dats m 0 c).arrAt_eq_of_covers 15 _ (by decide +kernel) fun t hf y => ?_
  blk_simp
  rw [after_15, emb15]
  obtain ⟨i, j, rfl⟩ : ∃ i j, y = ix2 i j := ⟨y 0, y 1, eq_ix2 y⟩
  exact out15 m c t i j

theorem emb16 (y : S256x1024.Idx) : ((View.whole main_v84_1).slice (win0_16.rect t)).emb y = ix2 (up t (y 0)) (y 1) := by
  unfold up; blk_ext [idx t]
theorem out16 (j) : (outs m c t.val t.isLt).o16 (ix2 i j) = (args m c).dr (up t i) j := by
  by_cases h : t.val = 0
  · rw [outs_A m c t h]
    unfold leftA; dsimp only; unfold atA
    frame_out
    exact dmix_at (holds m c t i) j
  · rw [outs_B m c t h]
    unfold leftB; dsimp only; unfold atB
    frame_out
    exact dmix_at (holds m c t i) j
theorem final16 : (dats m 0 c).arrAt 16 (cfgs 0).N = fun z : S2048x1024.Idx => (args m c).dr (z 0) (z 1) := by
  refine (dats m 0 c).arrAt_eq_of_covers 16 _ (by decide +kernel) fun t hf y => ?_
  blk_simp
  rw [after_16, emb16]
  obtain ⟨i, j, rfl⟩ : ∃ i j, y = ix2 i j := ⟨y 0, y 1, eq_ix2 y⟩
  exact out16 m c t i j

theorem emb17 (y : S256x2048.Idx) : ((View.whole main_v84_2).slice (win0_17.rect t)).emb y = ix2 (up t (y 0)) (y 1) := by
  unfold up; blk_ext [idx t]
theorem out17 (j) : (outs m c t.val t.isLt).o17 (ix2 i j) = (args m c).dgl (up t i) j := by
  by_cases h : t.val = 0
  · rw [outs_A m c t h]
    unfold leftA; dsimp only; unfold atA
    frame_out
    exact (pay39_at _ i j).trans (dgl_at (holds m c t i) j)
  · rw [outs_B m c t h]
    unfold leftB; dsimp only; unfold atB
    frame_out
    exact (pay39_at _ i j).trans (dgl_at (holds m c t i) j)
theorem final17 : (dats m 0 c).arrAt 17 (cfgs 0).N = fun z : S2048x2048.Idx => (args m c).dgl (z 0) (z 1) := by
  refine (dats m 0 c).arrAt_eq_of_covers 17 _ (by decide +kernel) fun t hf y => ?_
  blk_simp
  rw [after_17, emb17]
  obtain ⟨i, j, rfl⟩ : ∃ i j, y = ix2 i j := ⟨y 0, y 1, eq_ix2 y⟩
  exact out17 m c t i j

theorem emb18 (y : S256x512.Idx) : ((View.whole main_v84_3).slice (win0_18.rect t)).emb y = ix2 (up t (y 0)) (y 1) := by
  unfold up; blk_ext [idx t]
theorem out18 (j) : (outs m c t.val t.isLt).o18 (ix2 i j) = (args m c).ds (up t i) j := by
  by_cases h : t.val = 0
  · rw [outs_A m c t h]
    unfold leftA; dsimp only; unfold atA
    frame_out
    exact (pay40_at _ i j).trans (bS_at m c t i j)
  · rw [outs_B m c t h]
    unfold leftB; dsimp only; unfold atB
    frame_out
    exact (pay40_at _ i j).trans (bS_at m c t i j)
theorem final18 : (dats m 0 c).arrAt 18 (cfgs 0).N = fun z : S2048x512.Idx => (args m c).ds (z 0) (z 1) := by
  refine (dats m 0 c).arrAt_eq_of_covers 18 _ (by decide +kernel) fun t hf y => ?_
  blk_simp
  rw [after_18, emb18]
  obtain ⟨i, j, rfl⟩ : ∃ i j, y = ix2 i j := ⟨y 0, y 1, eq_ix2 y⟩
  exact out18 m c t i j

theorem emb19 (y : S256x512.Idx) : ((View.whole main_v84_4).slice (win0_19.rect t)).emb y = ix2 (up t (y 0)) (y 1) := by
  unfold up; blk_ext [idx t]
theorem out19 (j) : (outs m c t.val t.isLt).o19 (ix2 i j) = (args m c).dud (up t i) j := by
  by_cases h : t.val = 0
  · rw [outs_A m c t h]
    unfold leftA; dsimp only; unfold atA
    frame_out
    exact dud_at (holds m c t i) (blocks m c t) j _ (blk11 m c j t)
  · rw [outs_B m c t h]
    unfold leftB; dsimp only; unfold atB
    frame_out
    exact dud_at (holds m c t i) (blocks m c t) j _ (blk11 m c j t)
theorem final19 : (dats m 0 c).arrAt 19 (cfgs 0).N = fun z : S2048x512.Idx => (args m c).dud (z 0) (z 1) := by
  refine (dats m 0 c).arrAt_eq_of_covers 19 _ (by decide +kernel) fun t hf y => ?_
  blk_simp
  rw [after_19, emb19]
  obtain ⟨i, j, rfl⟩ : ∃ i j, y = ix2 i j := ⟨y 0, y 1, eq_ix2 y⟩
  exact out19 m c t i j

theorem emb20 (y : S256x2048.Idx) : ((View.whole main_v84_5).slice (win0_20.rect t)).emb y = ix2 (up t (y 0)) (y 1) := by
  unfold up; blk_ext [idx t]
theorem out20 (j) : (outs m c t.val t.isLt).o20 (ix2 i j) = (args m c).gsr (up t i) j := by
  by_cases h : t.val = 0
  · rw [outs_A m c t h]
    unfold leftA; dsimp only; unfold atA
    frame_out
    refine quarters i _ _ _ _ j ((args m c).gsr (up t i)) (fun l => ?_) (fun l => ?_) (fun l => ?_) (fun l => ?_)
    exacts [pay49_at _ _ i l _ (args m c).cr (bS_at m c t i) (w13_at m c t 3 l), pay47_at _ _ i l _ (args m c).cr (bS_at m c t i) (w13_at m c t 2 l), pay44_at _ _ i l _ (args m c).cr (bS_at m c t i) (w13_at m c t 1 l), pay42_at _ _ i l _ (args m c).cr (bS_at m c t i) (w13_at m c t 0 l)]
  · rw [outs_B m c t h]
    unfold leftB; dsimp only; unfold atB
    frame_out
    refine quarters i _ _ _ _ j ((args m c).gsr (up t i)) (fun l => ?_) (fun l => ?_) (fun l => ?_) (fun l => ?_)
    exacts [pay49_at _ _ i l _ (args m c).cr (bS_at m c t i) (w13_at m c t 3 l), pay47_at _ _ i l _ (args m c).cr (bS_at m c t i) (w13_at m c t 2 l), pay44_at _ _ i l _ (args m c).cr (bS_at m c t i) (w13_at m c t 1 l), pay42_at _ _ i l _ (args m c).cr (bS_at m c t i) (w13_at m c t 0 l)]
theorem final20 : (dats m 0 c).arrAt 20 (cfgs 0).N = fun z : S2048x2048.Idx => (args m c).gsr (z 0) (z 1) := by
  refine (dats m 0 c).arrAt_eq_of_covers 20 _ (by decide +kernel) fun t hf y => ?_
  blk_simp
  rw [after_20, emb20]
  obtain ⟨i, j, rfl⟩ : ∃ i j, y = ix2 i j := ⟨y 0, y 1, eq_ix2 y⟩
  exact out20 m c t i j

theorem emb21 (y : S256x2048.Idx) : ((View.whole main_v84_6).slice (win0_21.rect t)).emb y = ix2 (up t (y 0)) (y 1) := by
  unfold up; blk_ext [idx t]
theorem out21 (j) : (outs m c t.val t.isLt).o21 (ix2 i j) = (args m c).gsi (up t i) j := by
  by_cases h : t.val = 0
  · rw [outs_A m c t h]
    unfold leftA; dsimp only; unfold atA
    frame_out
    refine quarters i _ _ _ _ j ((args m c).gsi (up t i)) (fun l => ?_) (fun l => ?_) (fun l => ?_) (fun l => ?_)
    exacts [pay49_at _ _ i l _ (fun u k e => -(args m c).ci u k e) (bS_at m c t i) (w14_at m c t 3 l), pay47_at _ _ i l _ (fun u k e => -(args m c).ci u k e) (bS_at m c t i) (w14_at m c t 2 l), pay44_at _ _ i l _ (fun u k e => -(args m c).ci u k e) (bS_at m c t i) (w14_at m c t 1 l), pay42_at _ _ i l _ (fun u k e => -(args m c).ci u k e) (bS_at m c t i) (w14_at m c t 0 l)]
  · rw [outs_B m c t h]
    unfold leftB; dsimp only; unfold atB
    frame_out
    refine quarters i _ _ _ _ j ((args m c).gsi (up t i)) (fun l => ?_) (fun l => ?_) (fun l => ?_) (fun l => ?_)
    exacts [pay49_at _ _ i l _ (fun u k e => -(args m c).ci u k e) (bS_at m c t i) (w14_at m c t 3 l), pay47_at _ _ i l _ (fun u k e => -(args m c).ci u k e) (bS_at m c t i) (w14_at m c t 2 l), pay44_at _ _ i l _ (fun u k e => -(args m c).ci u k e) (bS_at m c t i) (w14_at m c t 1 l), pay42_at _ _ i l _ (fun u k e => -(args m c).ci u k e) (bS_at m c t i) (w14_at m c t 0 l)]
theorem final21 : (dats m 0 c).arrAt 21 (cfgs 0).N = fun z : S2048x2048.Idx => (args m c).gsi (z 0) (z 1) := by
  refine (dats m 0 c).arrAt_eq_of_covers 21 _ (by decide +kernel) fun t hf y => ?_
  blk_simp
  rw [after_21, emb21]
  obtain ⟨i, j, rfl⟩ : ∃ i j, y = ix2 i j := ⟨y 0, y 1, eq_ix2 y⟩
  exact out21 m c t i j

theorem emb22 (y : S256x1024.Idx) : ((View.whole main_v84_7).slice (win0_22.rect t)).emb y = ix2 (up t (y 0)) (y 1) := by
  unfold up; blk_ext [idx t]
theorem out22 (j) : (outs m c t.val t.isLt).o22 (ix2 i j) = (args m c).dyc (up t i) j := by
  by_cases h : t.val = 0
  · rw [outs_A m c t h]
    unfold leftA; dsimp only; unfold atA
    frame_out
    exact dyc_at (holds m c t i) j
  · rw [outs_B m c t h]
    unfold leftB; dsimp only; unfold atB
    frame_out
    exact dyc_at (holds m c t i) j
theorem final22 : (dats m 0 c).arrAt 22 (cfgs 0).N = fun z : S2048x1024.Idx => (args m c).dyc (z 0) (z 1) := by
  refine (dats m 0 c).arrAt_eq_of_covers 22 _ (by decide +kernel) fun t hf y => ?_
  blk_simp
  rw [after_22, emb22]
  obtain ⟨i, j, rfl⟩ : ∃ i j, y = ix2 i j := ⟨y 0, y 1, eq_ix2 y⟩
  exact out22 m c t i j

/-! ### The outputs that add up over the blocks -/

/-- A sum over the eight blocks' rows is a sum over all rows. -/
theorem sum_rows (f : Fin 2048 → EReal) : ∑ t : Fin cfg0.N, ∑ i : Fin 256, f (up t i) = ∑ r, f r := by
  rw [← Fin.sum_univ_one (fun _ : Fin 1 => ∑ r, f r)]
  refine Fin.sum_points_lanes_congr 8 fun t k ha hl => ?_
  have := lt_of_lt_of_eq t.isLt N_0
  exact congrArg f (Fin.ext (by simp only [up]; omega))

theorem final24 : (dats m 0 c).arrAt 24 (cfgs 0).N = fun z : S1x1024.Idx => (args m c).dg (z 1) := by
  refine (dats m 0 c).arrAt_eq_of_after_last 24 t0_7 (by decide +kernel) _ fun y => ?_
  blk_simp
  rw [after_24, Pipeline.eq_sum_fin_of_reset_step_apply_last (fun n h => (outs m c n h).o24) 8 (fun _ => 0)
    (fun t y => ∑ i : Fin 256, (fun r => (args m c).dy r (y 1) * xhat ((args m c).res r) (y 1)) (up t i)) (fun t h y => ?_) (fun t h y => ?_) (le_of_eq N_0) t0_7 rfl y, zero_add]
  · exact sum_rows fun r => (args m c).dy r (y 1) * xhat ((args m c).res r) (y 1)
  · have h1 : t.val = 0 := by have := lt_of_lt_of_eq t.isLt N_0; omega
    rw [outs_A m c t h1]
    unfold leftA; dsimp only; unfold atA
    frame_out
    obtain ⟨j, rfl⟩ : ∃ j, y = ix2 0 j := ⟨y 1, (eq_ix2 y).trans (congrArg (ix2 · _) (Subsingleton.elim _ _))⟩
    exact ((pay31_at _ _ _).trans (Finset.sum_congr rfl fun i _ => congrArg₂ (· * ·) (blk0 m c _ t i) (xh_at (holds m c t i) _))).trans (zero_add _).symm
  · have h1 : t.val ≠ 0 := by omega
    rw [outs_B m c t h1]
    unfold leftB; dsimp only; unfold atB
    frame_out
    obtain ⟨j, rfl⟩ : ∃ j, y = ix2 0 j := ⟨y 1, (eq_ix2 y).trans (congrArg (ix2 · _) (Subsingleton.elim _ _))⟩
    exact (pay34_at _ _ _ _).trans (congrArg (_ + ·) (Finset.sum_congr rfl fun i _ => congrArg₂ (· * ·) (blk0 m c _ t i) (xh_at (holds m c t i) _)))

theorem final25 : (dats m 0 c).arrAt 25 (cfgs 0).N = fun z : S1x1024.Idx => (args m c).db (z 1) := by
  refine (dats m 0 c).arrAt_eq_of_after_last 25 t0_7 (by decide +kernel) _ fun y => ?_
  blk_simp
  rw [after_25, Pipeline.eq_sum_fin_of_reset_step_apply_last (fun n h => (outs m c n h).o25) 8 (fun _ => 0)
    (fun t y => ∑ i : Fin 256, (fun r => (args m c).dy r (y 1)) (up t i)) (fun t h y => ?_) (fun t h y => ?_) (le_of_eq N_0) t0_7 rfl y, zero_add]
  · exact sum_rows fun r => (args m c).dy r (y 1)
  · have h1 : t.val = 0 := by have := lt_of_lt_of_eq t.isLt N_0; omega
    rw [outs_A m c t h1]
    unfold leftA; dsimp only; unfold atA
    frame_out
    obtain ⟨j, rfl⟩ : ∃ j, y = ix2 0 j := ⟨y 1, (eq_ix2 y).trans (congrArg (ix2 · _) (Subsingleton.elim _ _))⟩
    exact ((pay32_at _ _).trans (Finset.sum_congr rfl fun i _ => blk0 m c _ t i)).trans (zero_add _).symm
  · have h1 : t.val ≠ 0 := by omega
    rw [outs_B m c t h1]
    unfold leftB; dsimp only; unfold atB
    frame_out
    obtain ⟨j, rfl⟩ : ∃ j, y = ix2 0 j := ⟨y 1, (eq_ix2 y).trans (congrArg (ix2 · _) (Subsingleton.elim _ _))⟩
    exact (pay35_at _ _ _).trans (congrArg (_ + ·) (Finset.sum_congr rfl fun i _ => blk0 m c _ t i))

theorem final26 : (dats m 0 c).arrAt 26 (cfgs 0).N = fun z : S1x512.Idx => (args m c).dd (z 1) := by
  refine (dats m 0 c).arrAt_eq_of_after_last 26 t0_7 (by decide +kernel) _ fun y => ?_
  blk_simp
  rw [after_26, Pipeline.eq_sum_fin_of_reset_step_apply_last (fun n h => (outs m c n h).o26) 8 (fun _ => 0)
    (fun t y => ∑ i : Fin 256, (fun r => (args m c).ds r (y 1) * (args m c).su r (y 1)) (up t i)) (fun t h y => ?_) (fun t h y => ?_) (le_of_eq N_0) t0_7 rfl y, zero_add]
  · exact sum_rows fun r => (args m c).ds r (y 1) * (args m c).su r (y 1)
  · have h1 : t.val = 0 := by have := lt_of_lt_of_eq t.isLt N_0; omega
    rw [outs_A m c t h1]
    unfold leftA; dsimp only; unfold atA
    frame_out
    obtain ⟨j, rfl⟩ : ∃ j, y = ix2 0 j := ⟨y 1, (eq_ix2 y).trans (congrArg (ix2 · _) (Subsingleton.elim _ _))⟩
    exact ((pay33_at _ _ _ _ _ _ _).trans (Finset.sum_congr rfl fun i _ => congrArg₂ (· * ·) (bS_at m c t i _) (blk10 m c _ t i))).trans (zero_add _).symm
  · have h1 : t.val ≠ 0 := by omega
    rw [outs_B m c t h1]
    unfold leftB; dsimp only; unfold atB
    frame_out
    obtain ⟨j, rfl⟩ : ∃ j, y = ix2 0 j := ⟨y 1, (eq_ix2 y).trans (congrArg (ix2 · _) (Subsingleton.elim _ _))⟩
    exact (pay36_at _ _ _ _ _ _ _ _).trans (congrArg (_ + ·) (Finset.sum_congr rfl fun i _ => congrArg₂ (· * ·) (bS_at m c t i _) (blk10 m c _ t i)))

end Cert.MixB.Run

end
-- ==== Proof.MixBRef.lean ====
/- The reference for the mixing layer: its results read at an index. -/
module

public import proofs.«01_k».proof.Proof.MixBMath
public import proofs.«01_k».proof.Proof.Gen.RefMixBIdeal.Run
public import Idealize.ShloMosaic.Lib.Pointwise

@[expose] public section

set_option maxRecDepth 16384

noncomputable section

namespace Cert.RefMixBIdeal.Value

open Cert.RefMixBIdeal Cert.RefMixBIdeal.Gen Idealize.ShloMosaic Idealize.ShloMosaic.TcCoe Idealize.SL.Sem
open Cert.Step Cert.Step.MixB
open scoped BigOperators

variable (V0 : Valuation τ sig (Elt Ideal))

/-- The reference's arguments, read at their indices. -/
def args : Args where
  x i j := (V0 (Proc.devRef .tc main_arg0) : FVec Ideal S2048x1024 .f32) (ix2 i j)
  sr i j := (V0 (Proc.devRef .tc main_arg1) : FVec Ideal S2048x2048 .f32) (ix2 i j)
  si i j := (V0 (Proc.devRef .tc main_arg2) : FVec Ideal S2048x2048 .f32) (ix2 i j)
  su i j := (V0 (Proc.devRef .tc main_arg3) : FVec Ideal S2048x512 .f32) (ix2 i j)
  sk i j := (V0 (Proc.devRef .tc main_arg4) : FVec Ideal S32x16 .f32) (ix2 i j)
  cr u i j := (V0 (Proc.devRef .tc main_arg5) : FVec Ideal S32x16x64 .f32) (ix3 u i j)
  ci u i j := (V0 (Proc.devRef .tc main_arg6) : FVec Ideal S32x16x64 .f32) (ix3 u i j)
  wg i j := (V0 (Proc.devRef .tc main_arg7) : FVec Ideal S512x2048 .f32) (ix2 i j)
  gc i j := (V0 (Proc.devRef .tc main_arg8) : FVec Ideal S2048x1024 .f32) (ix2 i j)
  gs i j := (V0 (Proc.devRef .tc main_arg9) : FVec Ideal S2048x1024 .f32) (ix2 i j)
  yc i j := (V0 (Proc.devRef .tc main_arg10) : FVec Ideal S2048x1024 .f32) (ix2 i j)
  wo i j := (V0 (Proc.devRef .tc main_arg11) : FVec Ideal S1024x1024 .f32) (ix2 i j)
  g j := (V0 (Proc.devRef .tc main_arg12) : FVec Ideal S1x1024 .f32) (ix2 0 j)
  dy i j := (V0 (Proc.devRef .tc main_arg13) : FVec Ideal S2048x1024 .f32) (ix2 i j)

variable (i : Fin 2048) (j : Fin 1024) (n : Fin 512) (l : Fin 2048)

/-! ### The forward lines -/

theorem v12_at : (res_main_v12 V0 : FVec Ideal S1x512 .f32) (ix2 0 n) = (args V0).sk (gp n) (en n) := by
  pointwise [res_main_v12]
  rfl

theorem v16_at : (res_main_v16 V0 : FVec Ideal S2048x512 .f32) (ix2 i n) = (args V0).s i n := by
  pointwise [res_main_v16]
  rw [v12_at]
  rfl

theorem v17_at (z : S_.Idx) : (res_main_v17 V0 : FVec Ideal S_ .f32) z = Ideal.div (Ideal.ofBits .f32 0x472EAB00#32) (Ideal.ofBits .f32 0x49742400#32) := rfl

theorem v28_at : (res_main_v28 V0 : FVec Ideal S2048x512 .f32) (ix2 i n) = (args V0).th i n := by
  pointwise [res_main_v28]
  rw [v16_at, v17_at, cube_quotient, Args.th]
  simp only [mul_assoc]

theorem v37_at : (res_main_v37 V0 : FVec Ideal S2048x512 .f32) (ix2 i n) = half * (1 + (args V0).th i n) := by
  pointwise [res_main_v37]
  rw [v28_at]

theorem v40_at : (res_main_v40 V0 : FVec Ideal S2048x2048 .f32) (ix2 i l) = (args V0).gl i l := by
  pointwise [res_main_v40]
  simp only [v16_at, v37_at]
  exact congrArg (fun f : Fin 512 → EReal => ∑ k, f k) (funext fun k => congrArg (· * (args V0).wg k l) (by rw [Args.act, mul_left_comm, mul_assoc]))

theorem v41_at : (res_main_v41 V0 : FVec Ideal S2048x1024 .f32) (ix2 i j) = (args V0).ga i j := by
  pointwise [res_main_v41]
  exact v40_at V0 i (fst j)

theorem v48_at : (res_main_v48 V0 : FVec Ideal S2048x1024 .f32) (ix2 i j) = (args V0).gb i j := by
  pointwise [res_main_v48]
  exact congrArg sgm (v40_at V0 i (snd j))

theorem v58_at : (res_main_v58 V0 : FVec Ideal S2048x1024 .f32) (ix2 i j) = sgm ((args V0).gc i j) := by
  pointwise [res_main_v58]
  rfl

theorem v68_at : (res_main_v68 V0 : FVec Ideal S2048x1024 .f32) (ix2 i j) = sgm ((args V0).gs i j) := by
  pointwise [res_main_v68]
  rfl

theorem v78_at : (res_main_v78 V0 : FVec Ideal S2048x1024 .f32) (ix2 i j) = (args V0).res i j := by
  pointwise [res_main_v78, res_main_v52]
  simp only [v58_at, v68_at, v41_at, v48_at]
  rfl

/-! ### The layer norm's gradient -/

theorem v84_at : (res_main_v84 V0 : FVec Ideal S2048x1024 .f32) (ix2 i j) = cen ((args V0).res i) j := by
  pointwise [res_main_v84]
  simp only [v78_at]; rfl

theorem v91_at : (res_main_v91 V0 : FVec Ideal S2048x1 .f32) (ix2 i 0) = vareps ((args V0).res i) := by
  pointwise [res_main_v91]
  simp only [v84_at]; rfl

theorem v92_at : (res_main_v92 V0 : FVec Ideal S2048x1 .f32) (ix2 i 0) = rstd ((args V0).res i) := by
  pointwise [res_main_v92]
  rw [v91_at]; rfl

theorem v97_at : (res_main_v97 V0 : FVec Ideal S2048x1024 .f32) (ix2 i j) = xhat ((args V0).res i) j := by
  pointwise [res_main_v97]
  rw [v84_at, v92_at]; rfl

theorem v102_at : (res_main_v102 V0 : FVec Ideal S2048x1024 .f32) (ix2 i j) = (args V0).dy i j := by
  pointwise [res_main_v102]
  rfl

theorem v109_at : (res_main_v109 V0 : FVec Ideal S2048x1024 .f32) (ix2 i j) = (args V0).dxh i j := by
  pointwise [res_main_v109]
  rw [v102_at]; rfl

theorem v119_at : (res_main_v119 V0 : FVec Ideal S2048x1024 .f32) (ix2 i j) = sqG ((args V0).res i) ((args V0).dxh i) := by
  pointwise [res_main_v119]
  rw [Fin.sum_univ_one]
  simp only [v84_at, v109_at, v92_at, v91_at]
  rfl

theorem v123_at : (res_main_v123 V0 : FVec Ideal S2048x1024 .f32) (ix2 i j) = cenG ((args V0).res i) ((args V0).dxh i) j := by
  pointwise [res_main_v123]
  rw [v109_at, v92_at, v84_at, v119_at]; rfl

theorem v131_at : (res_main_v131 V0 : FVec Ideal S2048x1024 .f32) (ix2 i j) = bwdR ((args V0).res i) ((args V0).dxh i) j := by
  pointwise [res_main_v131]
  rw [Fin.sum_univ_one]
  simp only [v123_at]
  rfl

/-! ### The gradients -/

section
variable {V0} (h : (args V0).Finite)
include h

theorem v131_dr : (res_main_v131 V0 : FVec Ideal S2048x1024 .f32) (ix2 i j) = (args V0).dr i j := by
  rw [v131_at, Args.dr_eq h]

theorem v132_at : (res_main_v132 V0 : FVec Ideal S2048x1024 .f32) (ix2 i j) = (args V0).dm i j := by
  pointwise [res_main_v132]
  simp only [v131_dr _ _ h]
  rfl

theorem v135_at : (res_main_v135 V0 : FVec Ideal S2048x1024 .f32) (ix2 i j) = (args V0).dss i j := by
  pointwise [res_main_v135]
  rw [v68_at, v132_at i j h]
  exact EReal.mul_comm _ _

theorem v144_at : (res_main_v144 V0 : FVec Ideal S2048x2048 .f32) (ix2 i l) = (args V0).dgl i l := by
  unfold Args.dgl
  pointwise [res_main_v144]
  by_cases hl : l.val < 1024
  · simp only [hl, ↓reduceDIte]
    rw [v48_at, v135_at _ _ h]
  · simp only [hl, ↓reduceDIte]
    rw [v48_at, v135_at _ _ h, v41_at, mul_comm ((args V0).ga _ _), ← mul_assoc]

theorem v145_at : (res_main_v145 V0 : FVec Ideal S2048x512 .f32) (ix2 i n) = (args V0).dact i n := by
  pointwise [res_main_v145]
  simp only [v144_at _ _ h]
  rfl

theorem v152_at : (res_main_v152 V0 : FVec Ideal S2048x512 .f32) (ix2 i n) = (args V0).inner i n := by
  pointwise [res_main_v152]
  rw [v16_at, v145_at _ _ h, v28_at]
  rfl

theorem v157_at : (res_main_v157 V0 : FVec Ideal S2048x512 .f32) (ix2 i n) = (args V0).ds i n := by
  pointwise [res_main_v157]
  rw [v145_at _ _ h, v152_at _ _ h, v37_at, v16_at, v17_at, ← Args.ds_eq h]
  rfl

theorem v164_at (u : Fin 32) (k : Fin 16) : (res_main_v164 V0 : FVec Ideal S2048x32x16 .f32) (ix3 i u k) = (args V0).ds i (chan u k) := by
  pointwise [res_main_v164]
  exact v157_at i (chan u k) h

theorem dres_eq : mulf (broadcastInDim S2048x1024 ![] bcast_S_S2048x1024 (constant S_ .f32 0x3F9837F0#32)) (res_main_v131 V0) = fun z : S2048x1024.Idx => (args V0).dres (z 0) (z 1) := by
  funext z
  obtain ⟨i, j, rfl⟩ : ∃ i j, z = ix2 i j := ⟨z 0, z 1, eq_ix2 z⟩
  pointwise
  rw [v131_dr _ _ h]
  rfl

theorem dmix_eq : truncf (F := Ideal) .bf16 (φ := .f32) (res_main_v131 V0) bitsLt_bf16_f32 = fun z : S2048x1024.Idx => (args V0).dr (z 0) (z 1) := by
  funext z
  obtain ⟨i, j, rfl⟩ : ∃ i j, z = ix2 i j := ⟨z 0, z 1, eq_ix2 z⟩
  pointwise
  exact v131_dr _ _ h

theorem dgl_eq : truncf (F := Ideal) .bf16 (φ := .f32) (res_main_v144 V0) bitsLt_bf16_f32 = fun z : S2048x2048.Idx => (args V0).dgl (z 0) (z 1) := by
  funext z
  obtain ⟨i, j, rfl⟩ : ∃ i j, z = ix2 i j := ⟨z 0, z 1, eq_ix2 z⟩
  pointwise
  exact v144_at _ _ h

theorem dsb_eq : truncf (F := Ideal) .bf16 (φ := .f32) (res_main_v157 V0) bitsLt_bf16_f32 = fun z : S2048x512.Idx => (args V0).ds (z 0) (z 1) := by
  funext z
  obtain ⟨i, j, rfl⟩ : ∃ i j, z = ix2 i j := ⟨z 0, z 1, eq_ix2 z⟩
  pointwise
  exact v157_at _ _ h

theorem dud_eq : mulf (broadcastInDim S2048x512 ![0, 1] bcast_S1x512_S2048x512_0_1 (res_main_v12 V0)) (res_main_v157 V0) = fun z : S2048x512.Idx => (args V0).dud (z 0) (z 1) := by
  funext z
  obtain ⟨i, j, rfl⟩ : ∃ i j, z = ix2 i j := ⟨z 0, z 1, eq_ix2 z⟩
  pointwise
  rw [v157_at _ _ h, v12_at]
  exact EReal.mul_comm _ _

theorem gsr_eq : truncf (F := Ideal) .bf16 (φ := .f32) (shapeCast _ (transpose S2048x32x64 [1, 0, 2] (Host.dotGeneral (φ₁ := .f32) (φ₂ := .f32) dot_S32x2048x16_S32x16x64_S32x2048x64_2_1_1_2_0_0 none (transpose S32x2048x16 [1, 0, 2] (res_main_v164 V0) transposes_S2048x32x16_S32x2048x16_1_0_2) (V0 (Proc.devRef .tc main_arg5))) transposes_S32x2048x64_S2048x32x64_1_0_2) shapeCasts_S2048x32x64_S2048x2048) bitsLt_bf16_f32 = fun z : S2048x2048.Idx => (args V0).gsr (z 0) (z 1) := by
  funext z
  obtain ⟨i, j, rfl⟩ : ∃ i j, z = ix2 i j := ⟨z 0, z 1, eq_ix2 z⟩
  pointwise
  simp only [v164_at _ h]
  rfl

theorem gsi_eq : truncf (F := Ideal) .bf16 (φ := .f32) (shapeCast _ (transpose S2048x32x64 [1, 0, 2] (Host.dotGeneral (φ₁ := .f32) (φ₂ := .f32) dot_S32x2048x16_S32x16x64_S32x2048x64_2_1_1_2_0_0 none (transpose S32x2048x16 [1, 0, 2] (Host.negf (res_main_v164 V0)) transposes_S2048x32x16_S32x2048x16_1_0_2) (V0 (Proc.devRef .tc main_arg6))) transposes_S32x2048x64_S2048x32x64_1_0_2) shapeCasts_S2048x32x64_S2048x2048) bitsLt_bf16_f32 = fun z : S2048x2048.Idx => (args V0).gsi (z 0) (z 1) := by
  funext z
  obtain ⟨i, j, rfl⟩ : ∃ i j, z = ix2 i j := ⟨z 0, z 1, eq_ix2 z⟩
  pointwise
  simp only [v164_at _ h]
  exact Finset.sum_congr rfl fun k _ => neg_mul_comm _ _

theorem dyc_eq : truncf (F := Ideal) .bf16 (φ := .f32) (mulf (res_main_v58 V0) (res_main_v132 V0)) bitsLt_bf16_f32 = fun z : S2048x1024.Idx => (args V0).dyc (z 0) (z 1) := by
  funext z
  obtain ⟨i, j, rfl⟩ : ∃ i j, z = ix2 i j := ⟨z 0, z 1, eq_ix2 z⟩
  pointwise
  rw [v58_at, v132_at _ _ h]
  exact EReal.mul_comm _ _

theorem dd_eq : shapeCast _ (shapeCast _ (shapeCast _ (Host.reduceAdd (mulf (res_main_v157 V0) (V0 (Proc.devRef .tc main_arg3))) (constant S_ .f32 0x00000000#32) reducesTo_S2048x512_S512_d0 h_S_) shapeCasts_S512_S1x512) shapeCasts_S1x512_S32x16) shapeCasts_S32x16_S1x512 = fun z : S1x512.Idx => (args V0).dd (z 1) := by
  funext z
  obtain ⟨z, j, rfl⟩ : ∃ (i : Fin 1) (j : Fin 512), z = ix2 i j := ⟨z 0, z 1, eq_ix2 z⟩
  pointwise
  simp only [v157_at _ _ h]
  rfl

end

theorem dg_eq : shapeCast _ (Host.reduceAdd (mulf (res_main_v97 V0) (res_main_v102 V0)) (constant S_ .f32 0x00000000#32) reducesTo_S2048x1024_S1024_d0 h_S_) shapeCasts_S1024_S1x1024 = fun z : S1x1024.Idx => (args V0).dg (z 1) := by
  funext z
  obtain ⟨z, j, rfl⟩ : ∃ (i : Fin 1) (j : Fin 1024), z = ix2 i j := ⟨z 0, z 1, eq_ix2 z⟩
  pointwise
  simp only [v97_at, v102_at]
  exact Finset.sum_congr rfl fun _ _ => mul_comm _ _

theorem db_eq : shapeCast _ (Host.reduceAdd (F := Ideal) (φ := .f32) (V0 (Proc.devRef .tc main_arg13)) (constant S_ .f32 0x00000000#32) reducesTo_S2048x1024_S1024_d0 h_S_) shapeCasts_S1024_S1x1024 = fun z : S1x1024.Idx => (args V0).db (z 1) := by
  funext z
  obtain ⟨z, j, rfl⟩ : ∃ (i : Fin 1) (j : Fin 1024), z = ix2 i j := ⟨z 0, z 1, eq_ix2 z⟩
  pointwise
  rfl

end Cert.RefMixBIdeal.Value

end
-- ==== Proof.MixBPair.lean ====
/- The mixing layer's backward kernel and its reference leave the same results. -/
module

public import proofs.«01_k».proof.Defs
public import proofs.«01_k».proof.Proof.MixBValue
public import proofs.«01_k».proof.Proof.MixBRef
public import proofs.«01_k».proof.Proof.Gen.MixB
public import proofs.«01_k».proof.Proof.Gen.Pre_finite_mixb
public import Idealize.ShloMosaic.Lib.Quiescent
public import Idealize.ShloMosaic.Lib.Tactic

@[expose] public section

set_option maxRecDepth 16384

noncomputable section

namespace Cert.Proof.MixB

open Cert.MixBIdeal Cert.MixBIdeal.Gen Idealize.ShloMosaic Idealize.ShloMosaic.TcCoe Idealize.SL.Sem
open Cert.Step Cert.Step.MixB Cert.MixB.Run
open scoped BigOperators

/-! ### The frames -/

/-- A named literal read as its bits. -/
@[reducible] def plain (F : FTy → Type) [FloatOps F] : Named F := ⟨fun _ _ {φ} b => Scalar.ofBits φ b⟩

theorem bits_eq : Cert.quiescent_MixB = (letI := plain Bits; Quiet Bits) := by sl_kernel_rfl

theorem frame : Cert.quiescent_MixB := bits_eq ▸ (letI := plain Bits; quiet Bits)

theorem frame_ref : Cert.quiescent_RefMixBIdeal :=
  fun m g _ => (θ_run _ _ _).mono (fun _ h => ⟨fun c => (h c).2.2.2.2.2.2.2.2.2.2.2, sem_eq_zero_of_no_sems rfl _⟩)
    (Cert.RefMixBIdeal.Value.run m g)

/-! ### The values -/

theorem preserves : Cert.preserves_MixB_MixBIdeal :=
  ⟨IdealRules.named_const.statement Cert.MixBIdeal.κ "cube" .f32 0x3D372713#32 cube rfl,
    IdealRules.named_const.statement Cert.MixBIdeal.κ "cube3" .f32 0x3E095D4F#32 cube3 rfl⟩

variable (m : (ℓ : Loc Cert.MixBIdeal.nD Cert.MixBIdeal.τ Cert.MixBIdeal.sig) → Buf (Elt Ideal) ℓ) (c : Dev Cert.MixBIdeal.nD)

theorem finite (h : Cert.Pre_MixBIdeal_finite_mixb m) : (args m c).Finite where
  x i j := IsR.of_cmp (congrFun (h c).1 (ix2 i j))
  sr i j := IsR.of_cmp (congrFun (h c).2.1 (ix2 i j))
  si i j := IsR.of_cmp (congrFun (h c).2.2.1 (ix2 i j))
  su i j := IsR.of_cmp (congrFun (h c).2.2.2.1 (ix2 i j))
  sk i j := IsR.of_cmp (congrFun (h c).2.2.2.2.1 (ix2 i j))
  cr u i j := IsR.of_cmp (congrFun (h c).2.2.2.2.2.1 (ix3 u i j))
  ci u i j := IsR.of_cmp (congrFun (h c).2.2.2.2.2.2.1 (ix3 u i j))
  wg i j := IsR.of_cmp (congrFun (h c).2.2.2.2.2.2.2.1 (ix2 i j))
  yc i j := IsR.of_cmp (congrFun (h c).2.2.2.2.2.2.2.2.1 (ix2 i j))
  wo i j := IsR.of_cmp (congrFun (h c).2.2.2.2.2.2.2.2.2.1 (ix2 i j))
  g j := IsR.of_cmp (congrFun (h c).2.2.2.2.2.2.2.2.2.2.1 (ix2 0 j))
  dy i j := IsR.of_cmp (congrFun (h c).2.2.2.2.2.2.2.2.2.2.2 (ix2 i j))

theorem Args.ext' {a b : Args} (h0 : a.x = b.x) (h1 : a.sr = b.sr) (h2 : a.si = b.si) (h3 : a.su = b.su) (h4 : a.sk = b.sk) (h5 : a.cr = b.cr)
    (h6 : a.ci = b.ci) (h7 : a.wg = b.wg) (h8 : a.gc = b.gc) (h9 : a.gs = b.gs) (h10 : a.yc = b.yc) (h11 : a.wo = b.wo) (h12 : a.g = b.g)
    (h13 : a.dy = b.dy) : a = b := by
  cases a; cases b
  simp only [Args.mk.injEq]
  exact ⟨h0, h1, h2, h3, h4, h5, h6, h7, h8, h9, h10, h11, h12, h13⟩

theorem agree (m' : (ℓ : Loc Cert.RefMixBIdeal.nD Cert.RefMixBIdeal.τ Cert.RefMixBIdeal.sig) → Buf (Elt Ideal) ℓ)
    (h : (∀ c : Dev nD, m' ((c.tc : Thread Cert.RefMixBIdeal.nD Cert.RefMixBIdeal.τ).loc Cert.RefMixBIdeal.main_arg0) = m ((c.tc : Thread nD τ).loc main_arg0) ∧ m' ((c.tc : Thread Cert.RefMixBIdeal.nD Cert.RefMixBIdeal.τ).loc Cert.RefMixBIdeal.main_arg1) = m ((c.tc : Thread nD τ).loc main_arg1) ∧ m' ((c.tc : Thread Cert.RefMixBIdeal.nD Cert.RefMixBIdeal.τ).loc Cert.RefMixBIdeal.main_arg2) = m ((c.tc : Thread nD τ).loc main_arg2) ∧ m' ((c.tc : Thread Cert.RefMixBIdeal.nD Cert.RefMixBIdeal.τ).loc Cert.RefMixBIdeal.main_arg3) = m ((c.tc : Thread nD τ).loc main_arg3) ∧ m' ((c.tc : Thread Cert.RefMixBIdeal.nD Cert.RefMixBIdeal.τ).loc Cert.RefMixBIdeal.main_arg4) = m ((c.tc : Thread nD τ).loc main_arg4) ∧ m' ((c.tc : Thread Cert.RefMixBIdeal.nD Cert.RefMixBIdeal.τ).loc Cert.RefMixBIdeal.main_arg5) = m ((c.tc : Thread nD τ).loc main_arg5) ∧ m' ((c.tc : Thread Cert.RefMixBIdeal.nD Cert.RefMixBIdeal.τ).loc Cert.RefMixBIdeal.main_arg6) = m ((c.tc : Thread nD τ).loc main_arg6) ∧ m' ((c.tc : Thread Cert.RefMixBIdeal.nD Cert.RefMixBIdeal.τ).loc Cert.RefMixBIdeal.main_arg7) = m ((c.tc : Thread nD τ).loc main_arg7) ∧ m' ((c.tc : Thread Cert.RefMixBIdeal.nD Cert.RefMixBIdeal.τ).loc Cert.RefMixBIdeal.main_arg8) = m ((c.tc : Thread nD τ).loc main_arg8) ∧ m' ((c.tc : Thread Cert.RefMixBIdeal.nD Cert.RefMixBIdeal.τ).loc Cert.RefMixBIdeal.main_arg9) = m ((c.tc : Thread nD τ).loc main_arg9) ∧ m' ((c.tc : Thread Cert.RefMixBIdeal.nD Cert.RefMixBIdeal.τ).loc Cert.RefMixBIdeal.main_arg10) = m ((c.tc : Thread nD τ).loc main_arg10) ∧ m' ((c.tc : Thread Cert.RefMixBIdeal.nD Cert.RefMixBIdeal.τ).loc Cert.RefMixBIdeal.main_arg11) = m ((c.tc : Thread nD τ).loc main_arg11) ∧ m' ((c.tc : Thread Cert.RefMixBIdeal.nD Cert.RefMixBIdeal.τ).loc Cert.RefMixBIdeal.main_arg12) = m ((c.tc : Thread nD τ).loc main_arg12) ∧ m' ((c.tc : Thread Cert.RefMixBIdeal.nD Cert.RefMixBIdeal.τ).loc Cert.RefMixBIdeal.main_arg13) = m ((c.tc : Thread nD τ).loc main_arg13))) :
    Cert.RefMixBIdeal.Value.args (StableHlo.launchContents m' c) = args m c :=
  Args.ext'
    (funext fun i => funext fun j => congrFun (h c).1 (ix2 i j))
    (funext fun i => funext fun j => congrFun (h c).2.1 (ix2 i j))
    (funext fun i => funext fun j => congrFun (h c).2.2.1 (ix2 i j))
    (funext fun i => funext fun j => congrFun (h c).2.2.2.1 (ix2 i j))
    (funext fun i => funext fun j => congrFun (h c).2.2.2.2.1 (ix2 i j))
    (funext fun u => funext fun i => funext fun j => congrFun (h c).2.2.2.2.2.1 (ix3 u i j))
    (funext fun u => funext fun i => funext fun j => congrFun (h c).2.2.2.2.2.2.1 (ix3 u i j))
    (funext fun i => funext fun j => congrFun (h c).2.2.2.2.2.2.2.1 (ix2 i j))
    (funext fun i => funext fun j => congrFun (h c).2.2.2.2.2.2.2.2.1 (ix2 i j))
    (funext fun i => funext fun j => congrFun (h c).2.2.2.2.2.2.2.2.2.1 (ix2 i j))
    (funext fun i => funext fun j => congrFun (h c).2.2.2.2.2.2.2.2.2.2.1 (ix2 i j))
    (funext fun i => funext fun j => congrFun (h c).2.2.2.2.2.2.2.2.2.2.2.1 (ix2 i j))
    (funext fun j => congrFun (h c).2.2.2.2.2.2.2.2.2.2.2.2.1 (ix2 0 j))
    (funext fun i => funext fun j => congrFun (h c).2.2.2.2.2.2.2.2.2.2.2.2.2 (ix2 i j))

theorem post15 (r : PUnit × MemSt nD τ sig (Elt Ideal)) (h : Pipeline.FramePost cfgs (dats m) 0 (V m) r) :
    r.2.mem ((c : Thread nD τ).loc main_v84_0) = fun z : S2048x1024.Idx => (args m c).dres (z 0) (z 1) :=
  ((h c).1 15).trans (final15 m c)
theorem post16 (r : PUnit × MemSt nD τ sig (Elt Ideal)) (h : Pipeline.FramePost cfgs (dats m) 0 (V m) r) :
    r.2.mem ((c : Thread nD τ).loc main_v84_1) = fun z : S2048x1024.Idx => (args m c).dr (z 0) (z 1) :=
  ((h c).1 16).trans (final16 m c)
theorem post17 (r : PUnit × MemSt nD τ sig (Elt Ideal)) (h : Pipeline.FramePost cfgs (dats m) 0 (V m) r) :
    r.2.mem ((c : Thread nD τ).loc main_v84_2) = fun z : S2048x2048.Idx => (args m c).dgl (z 0) (z 1) :=
  ((h c).1 17).trans (final17 m c)
theorem post18 (r : PUnit × MemSt nD τ sig (Elt Ideal)) (h : Pipeline.FramePost cfgs (dats m) 0 (V m) r) :
    r.2.mem ((c : Thread nD τ).loc main_v84_3) = fun z : S2048x512.Idx => (args m c).ds (z 0) (z 1) :=
  ((h c).1 18).trans (final18 m c)
theorem post19 (r : PUnit × MemSt nD τ sig (Elt Ideal)) (h : Pipeline.FramePost cfgs (dats m) 0 (V m) r) :
    r.2.mem ((c : Thread nD τ).loc main_v84_4) = fun z : S2048x512.Idx => (args m c).dud (z 0) (z 1) :=
  ((h c).1 19).trans (final19 m c)
theorem post20 (r : PUnit × MemSt nD τ sig (Elt Ideal)) (h : Pipeline.FramePost cfgs (dats m) 0 (V m) r) :
    r.2.mem ((c : Thread nD τ).loc main_v84_5) = fun z : S2048x2048.Idx => (args m c).gsr (z 0) (z 1) :=
  ((h c).1 20).trans (final20 m c)
theorem post21 (r : PUnit × MemSt nD τ sig (Elt Ideal)) (h : Pipeline.FramePost cfgs (dats m) 0 (V m) r) :
    r.2.mem ((c : Thread nD τ).loc main_v84_6) = fun z : S2048x2048.Idx => (args m c).gsi (z 0) (z 1) :=
  ((h c).1 21).trans (final21 m c)
theorem post22 (r : PUnit × MemSt nD τ sig (Elt Ideal)) (h : Pipeline.FramePost cfgs (dats m) 0 (V m) r) :
    r.2.mem ((c : Thread nD τ).loc main_v84_7) = fun z : S2048x1024.Idx => (args m c).dyc (z 0) (z 1) :=
  ((h c).1 22).trans (final22 m c)
theorem post24 (r : PUnit × MemSt nD τ sig (Elt Ideal)) (h : Pipeline.FramePost cfgs (dats m) 0 (V m) r) :
    r.2.mem ((c : Thread nD τ).loc main_v84_9) = fun z : S1x1024.Idx => (args m c).dg (z 1) :=
  ((h c).1 24).trans (final24 m c)
theorem post25 (r : PUnit × MemSt nD τ sig (Elt Ideal)) (h : Pipeline.FramePost cfgs (dats m) 0 (V m) r) :
    r.2.mem ((c : Thread nD τ).loc main_v84_10) = fun z : S1x1024.Idx => (args m c).db (z 1) :=
  ((h c).1 25).trans (final25 m c)
theorem post26 (r : PUnit × MemSt nD τ sig (Elt Ideal)) (h : Pipeline.FramePost cfgs (dats m) 0 (V m) r) :
    r.2.mem ((c : Thread nD τ).loc main_v84_11) = fun z : S1x512.Idx => (args m c).dd (z 1) :=
  ((h c).1 26).trans (final26 m c)

theorem algebraic : Cert.algebraic_MixBIdeal_RefMixBIdeal_pre_finite_mixb := by
  intro m g m' g' hpre hagree
  refine ⟨fun c (z : S2048x1024.Idx) => (args m c).dres (z 0) (z 1),
    fun c (z : S2048x1024.Idx) => (args m c).dr (z 0) (z 1),
    fun c (z : S2048x2048.Idx) => (args m c).dgl (z 0) (z 1),
    fun c (z : S2048x512.Idx) => (args m c).ds (z 0) (z 1),
    fun c (z : S2048x512.Idx) => (args m c).dud (z 0) (z 1),
    fun c (z : S2048x2048.Idx) => (args m c).gsr (z 0) (z 1),
    fun c (z : S2048x2048.Idx) => (args m c).gsi (z 0) (z 1),
    fun c (z : S2048x1024.Idx) => (args m c).dyc (z 0) (z 1),
    fun c (z : S1x1024.Idx) => (args m c).dg (z 1),
    fun c (z : S1x1024.Idx) => (args m c).db (z 1),
    fun c (z : S1x512.Idx) => (args m c).dd (z 1),
    (θ_run _ _ _).mono (fun r h c => ?_) (θ_run_and ((θ_run defs _ _).mono (fun _ h => h.1) (run_main m g)) (quiet Ideal m g trivial)),
    (θ_run _ _ _).mono (fun r h c => ?_) (Cert.RefMixBIdeal.Value.run m' g')⟩
  · exact ⟨post15 m c r h.1, post16 m c r h.1, post17 m c r h.1, post18 m c r h.1, post19 m c r h.1, post20 m c r h.1, post21 m c r h.1, post22 m c r h.1, post24 m c r h.1, post25 m c r h.1, post26 m c r h.1, h.2.1 c⟩
  · obtain ⟨h0, h1, h2, h3, h4, h5, h6, h7, h8, h9, h10, hr⟩ := h c
    have e : Cert.RefMixBIdeal.Value.args (StableHlo.launchContents m' c) = args m c := agree m c m' hagree
    have hf : (Cert.RefMixBIdeal.Value.args (StableHlo.launchContents m' c)).Finite := e ▸ finite m c hpre
    exact ⟨h0.trans ((Cert.RefMixBIdeal.Value.dres_eq hf).trans (by rw [e])),
      h1.trans ((Cert.RefMixBIdeal.Value.dmix_eq hf).trans (by rw [e])),
      h2.trans ((Cert.RefMixBIdeal.Value.dgl_eq hf).trans (by rw [e])),
      h3.trans ((Cert.RefMixBIdeal.Value.dsb_eq hf).trans (by rw [e])),
      h4.trans ((Cert.RefMixBIdeal.Value.dud_eq hf).trans (by rw [e])),
      h5.trans ((Cert.RefMixBIdeal.Value.gsr_eq hf).trans (by rw [e])),
      h6.trans ((Cert.RefMixBIdeal.Value.gsi_eq hf).trans (by rw [e])),
      h7.trans ((Cert.RefMixBIdeal.Value.dyc_eq hf).trans (by rw [e])),
      h8.trans ((Cert.RefMixBIdeal.Value.dg_eq _).trans (by rw [e])),
      h9.trans ((Cert.RefMixBIdeal.Value.db_eq _).trans (by rw [e])),
      h10.trans ((Cert.RefMixBIdeal.Value.dd_eq hf).trans (by rw [e])), hr⟩

end Cert.Proof.MixB

end
-- ==== Proof.FfnMath.lean ====
/- The gated feed-forward layer's backward pass as formulas over extended reals: the gate and the value
   recomputed, the layer norm's gradient, and what flows back through the product of the two. -/
module

public import proofs.«01_k».proof.Proof.LayerNorm

@[expose] public section

noncomputable section

namespace Cert.Step.Ffn

open Idealize.ShloMosaic Cert.Step
open scoped BigOperators

/-- The arguments. -/
structure Args where
  x : Mat 2048 1024
  wi : Mat 1024 5632
  wo : Mat 2816 1024
  g : Row
  dy : Mat 2048 1024

/-- The arguments are finite. -/
structure Args.Finite (a : Args) : Prop where
  x : ∀ i j, IsR (a.x i j)
  wi : ∀ i j, IsR (a.wi i j)
  wo : ∀ i j, IsR (a.wo i j)
  g : ∀ j, IsR (a.g j)
  dy : ∀ i j, IsR (a.dy i j)

abbrev sgm (x : EReal) : EReal := Ideal.div 1 (1 + Ideal.exp (-x))
abbrev half : EReal := Ideal.ofBits .f32 0x3F000000#32
abbrev alpha : EReal := Ideal.ofBits .f32 0x3F9837F0#32

/-- A column of the gate among the columns of the first product. -/
abbrev fst (j : Fin 2816) : Fin 5632 := ⟨j, by omega⟩
/-- A column of the value among them. -/
abbrev snd (j : Fin 2816) : Fin 5632 := ⟨2816 + j, by omega⟩

/-- A column of the first stretch, and of the second. -/
abbrev lo (k : Fin 1408) : Fin 2816 := ⟨k, by omega⟩
abbrev hi (k : Fin 1408) : Fin 2816 := ⟨1408 + k, by omega⟩

/-- Two arrays side by side, a stretch of each in turn. -/
def inter (p q : Mat 2048 2816) : Mat 2048 5632 := fun i l =>
  if h : l.val < 1408 then p i (lo ⟨l, h⟩)
  else if h : l.val - 1408 < 1408 then q i (lo ⟨l - 1408, h⟩)
  else if h : l.val - 1408 - 1408 < 1408 then p i (hi ⟨l - 1408 - 1408, h⟩)
  else q i (hi ⟨l - 1408 - 1408 - 1408, by omega⟩)

section
variable (p q : Mat 2048 2816) (i : Fin 2048) (k : Fin 1408)
theorem inter_0 (l : Fin 5632) (h : l.val = k) : inter p q i l = p i (lo k) := by
  rw [inter, dif_pos (by omega)]; exact congrArg (p i) (Fin.ext h)
theorem inter_1 (l : Fin 5632) (h : l.val = 1408 + k) : inter p q i l = q i (lo k) := by
  rw [inter, dif_neg (by omega), dif_pos (by omega)]; exact congrArg (q i) (Fin.ext (by show l.val - 1408 = k; omega))
theorem inter_2 (l : Fin 5632) (h : l.val = 2816 + k) : inter p q i l = p i (hi k) := by
  rw [inter, dif_neg (by omega), dif_neg (by omega), dif_pos (by omega)]
  exact congrArg (p i) (Fin.ext (by show 1408 + (l.val - 1408 - 1408) = 1408 + k; omega))
theorem inter_3 (l : Fin 5632) (h : l.val = 4224 + k) : inter p q i l = q i (hi k) := by
  rw [inter, dif_neg (by omega), dif_neg (by omega), dif_neg (by omega)]
  exact congrArg (q i) (Fin.ext (by show 1408 + (l.val - 1408 - 1408 - 1408) = 1408 + k; omega))
end

/-- A sum over the columns of the gate, by stretches. -/
theorem halves (f : Fin 2816 → EReal) : ∑ l, f l = (∑ k, f (lo k)) + ∑ k, f (hi k) :=
  Fin.sum_univ_add (a := 1408) (b := 1408) f

namespace Args
variable (a : Args)

def gu : Mat 2048 5632 := fun i l => ∑ k, a.x i k * a.wi k l
def gate : Mat 2048 2816 := fun i j => a.gu i (fst j)
def up : Mat 2048 2816 := fun i j => a.gu i (snd j)
def act : Mat 2048 2816 := fun i j => a.gate i j * sgm (a.gate i j) * a.up i j
def res : Mat 2048 1024 := fun i j => alpha * a.x i j + half * ∑ k, a.act i k * a.wo k j
def dxh : Mat 2048 1024 := fun i j => a.dy i j * a.g j
def dr : Mat 2048 1024 := fun i => bwdK (a.res i) (a.dxh i)
def df : Mat 2048 1024 := fun i j => half * a.dr i j
def da : Mat 2048 2816 := fun i j => ∑ k, a.df i k * a.wo j k
def dgate : Mat 2048 2816 := fun i j =>
  a.da i j * a.up i j * (sgm (a.gate i j) * (1 + a.gate i j * (1 - sgm (a.gate i j))))
def dup : Mat 2048 2816 := fun i j => a.da i j * (a.gate i j * sgm (a.gate i j))
/-- Both gradients, a stretch of each in turn. -/
def dh : Mat 2048 5632 := inter a.dgate a.dup
/-- The gate and the value, a stretch of each in turn. -/
def h : Mat 2048 5632 := inter a.gate a.up
def dx : Mat 2048 1024 := fun i j => alpha * a.dr i j
  + ((∑ l, a.dgate i l * a.wi j (fst l)) + ∑ l, a.dup i l * a.wi j (snd l))
def dg : Row := fun j => ∑ i, a.dy i j * xhat (a.res i) j
def db : Row := fun j => ∑ i, a.dy i j

/-- The four stretches in the order a tile adds them. -/
theorem dx_eq (i : Fin 2048) (j : Fin 1024) :
    alpha * a.dr i j + (∑ k, a.dgate i (lo k) * a.wi j (fst (lo k))) + (∑ k, a.dup i (lo k) * a.wi j (snd (lo k)))
      + (∑ k, a.dgate i (hi k) * a.wi j (fst (hi k))) + (∑ k, a.dup i (hi k) * a.wi j (snd (hi k))) = a.dx i j := by
  rw [dx, halves, halves fun l => a.dup i l * a.wi j (snd l)]
  simp only [add_assoc]
  rw [add_left_comm (∑ k, a.dup i (lo k) * a.wi j (snd (lo k)))]

variable {a} (f : a.Finite) (i : Fin 2048)
include f

theorem gu_isR (l) : IsR (a.gu i l) := IsR.sum _ fun k => (f.x _ _).mul (f.wi _ _)

theorem act_isR (j) : IsR (a.act i j) := ((gu_isR f i _).mul (IsR.sigmoid _)).mul (gu_isR f i _)

omit f in
theorem half_isR : IsR half := ⟨_, ofBits_half⟩
omit f in
theorem alpha_isR : IsR alpha := ⟨_, ofBits_alpha⟩

theorem res_isR (j) : IsR (a.res i j) :=
  (alpha_isR.mul (f.x i j)).add (half_isR.mul (IsR.sum _ fun k => (act_isR f i k).mul (f.wo _ _)))

theorem dxh_isR (j) : IsR (a.dxh i j) := (f.dy i j).mul (f.g j)

theorem dr_eq : a.dr i = bwdR (a.res i) (a.dxh i) := bwdK_eq_bwdR (res_isR f i) (dxh_isR f i)

theorem da_isR (j) : IsR (a.da i j) := IsR.sum _ fun k => (half_isR.mul (bwdK_fin (res_isR f i) (dxh_isR f i) k)).mul (f.wo _ _)

/-- The gate's gradient as reverse differentiation finds it. -/
theorem dgate_eq (j) : a.da i j * a.up i j * sgm (a.gate i j)
    + a.gate i j * (a.da i j * a.up i j) * (sgm (a.gate i j) * (1 - sgm (a.gate i j))) = a.dgate i j := by
  obtain ⟨g, hg⟩ : IsR (a.gate i j) := gu_isR f i _
  obtain ⟨u, hu⟩ : IsR (a.up i j) := gu_isR f i _
  obtain ⟨d, hd⟩ := da_isR f i j
  obtain ⟨s, hs⟩ := IsR.sigmoid (a.gate i j)
  rw [dgate, sgm, hs, hg, hu, hd, ← EReal.coe_one]
  simp only [← EReal.coe_mul, ← EReal.coe_add, ← EReal.coe_sub]
  congr 1
  ring

end Args

end Cert.Step.Ffn

end
-- ==== Proof.FfnRun.lean ====
module

public import proofs.«01_k».proof.Proof.Gen.FfnIdeal.Skeleton
public import proofs.«01_k».proof.Proof.Gen.FfnIdeal.Frame

@[expose] public section

set_option maxRecDepth 16384

noncomputable section

namespace Cert.Ffn.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a point: on whole staging buffers holding the inputs' blocks, and anything at all in the two row sums'
    buffers, it runs to its end, leaving the inputs as they were and each result's buffer at a list of stored pieces,
    which the run finds. -/
def run (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x5632 .bf16) (harg4 : arg4.IsWhole) (arg5 : Memref sig .tc .vmem S4x1024x1408 .bf16) (harg5 : arg5.IsWhole) (arg6 : Memref sig .tc .vmem S2x1408x1024 .bf16) (harg6 : arg6.IsWhole) (arg7 : Memref sig .tc .vmem S256x1024 .f32) (harg7 : arg7.IsWhole) (arg8 : Memref sig .tc .vmem S256x5632 .bf16) (harg8 : arg8.IsWhole) (arg9 : Memref sig .tc .vmem S256x2816 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024 .f32) (harg12 : arg12.IsWhole)
    (x0 : Vec F S256x1024 .f32) (x1 : Vec F S256x1024 .f32) (x2 : Vec F S1x1024 .f32) (x3 : Vec F S256x5632 .bf16) (x4 : Vec F S4x1024x1408 .bf16) (x5 : Vec F S2x1408x1024 .bf16) (y10 y11 : Vec F S1x1024 .f32) :
    Σ' (L6 : List (View.Piece (Elt F) S256x1024 .f32)), Σ' (L7 : List (View.Piece (Elt F) S256x5632 .bf16)), Σ' (L8 : List (View.Piece (Elt F) S256x2816 .bf16)), Σ' (L9 : List (View.Piece (Elt F) S256x1024 .bf16)), Σ' (L10 : List (View.Piece (Elt F) S1x1024 .f32)), { L11 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare y10 ∗ owns (c : Thread nD τ) arg12 fullShare y11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_ffn_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg11.eq_unread hf10
    obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

end Cert.Ffn.Run

end
-- ==== Proof.FfnFrame.lean ====
module

public import proofs.«01_k».proof.Proof.FfnRun
public import Idealize.ShloMosaic.Lib.Quiescent
public import Idealize.ShloMosaic.Lib.Claim
public import Idealize.ShloMosaic.Lib.Pipeline.TableIdle
public import Idealize.ShloMosaic.Lib.Pipeline.ValueKit
public import Idealize.ShloMosaic.Lib.Pipeline.ReadBack

@[expose] public section

set_option maxRecDepth 16384

noncomputable section

namespace Cert.Ffn.Run

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging buffers at a point, as the pipeline passes them. -/

abbrev ms0 (t : Fin cfg0.N) : Memref sig .tc .vmem S256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x5632 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024x1408 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x1408x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x5632 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x2816 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1024 .f32 := win0_11.stage (cfg0.slots t 11)
abbrev hs11 (t : Fin cfg0.N) : (ms11 t).IsWhole := hstage0_11 ((cfg0.slots t 11).cast nbuf0_11)
abbrev VO6 : View sig .tc .vmem S256x1024 .f32 := (Memref.whole cc0_stg6_0 : Memref sig .tc .vmem S256x1024 .f32).view
abbrev VO7 : View sig .tc .vmem S256x5632 .bf16 := (Memref.whole cc0_stg7_0 : Memref sig .tc .vmem S256x5632 .bf16).view
abbrev VO8 : View sig .tc .vmem S256x2816 .bf16 := (Memref.whole cc0_stg8_0 : Memref sig .tc .vmem S256x2816 .bf16).view
abbrev VO9 : View sig .tc .vmem S256x1024 .bf16 := (Memref.whole cc0_stg9_0 : Memref sig .tc .vmem S256x1024 .bf16).view
abbrev VO10 : View sig .tc .vmem S1x1024 .f32 := (Memref.whole cc0_stg10_0 : Memref sig .tc .vmem S1x1024 .f32).view
abbrev VO11 : View sig .tc .vmem S1x1024 .f32 := (Memref.whole cc0_stg11_0 : Memref sig .tc .vmem S1x1024 .f32).view

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl

/-- The row sums' buffers hold nothing of the body's before the first point and after the last. -/
def freshAt : ℕ → Bool
  | 0 => true
  | n + 1 => n == 7

theorem freshAt_step_10 : ∀ t : Fin cfg0.N,
    freshAt (t.val + 1) = ((cfg0.win 10).flush t || (cfg0.idle 10 (cfg0.grid.coords t) && freshAt t.val)) := by decide +kernel

theorem kept_10 (t : Fin cfg0.N) (h : t.val ≠ 0) : cfg0.fresh 10 t.val = false := by
  rw [Pipeline.Cfg.fresh_tab cfg0 10 freshAt rfl freshAt_step_10 t.val (Nat.le_of_lt t.isLt)]
  revert t; decide +kernel

theorem freshAt_step_11 : ∀ t : Fin cfg0.N,
    freshAt (t.val + 1) = ((cfg0.win 11).flush t || (cfg0.idle 11 (cfg0.grid.coords t) && freshAt t.val)) := by decide +kernel

theorem kept_11 (t : Fin cfg0.N) (h : t.val ≠ 0) : cfg0.fresh 11 t.val = false := by
  rw [Pipeline.Cfg.fresh_tab cfg0 11 freshAt rfl freshAt_step_11 t.val (Nat.le_of_lt t.isLt)]
  revert t; decide +kernel

/-- The body's run at a point, on the pipeline's own buffers and blocks, over the two row sums as they then are. -/
def point (c : Dev nD) (t : Fin cfg0.N) (y10 y11 : Vec F S1x1024 .f32) :=
  run (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)
    (iblk m c 0 t) (iblk m c 1 t) (iblk m c 2 t) (iblk m c 3 t) (iblk m c 4 t) (iblk m c 5 t) y10 y11

/-! The pieces stored at a point fill each result's block. -/

theorem cover_6 (c : Dev nD) (t : Fin cfg0.N) (y10 y11 : Vec F S1x1024 .f32) (y : S256x1024.Idx) :
    ∃ pc ∈ (point m c t y10 y11).1, y ∈ pc.1.set :=
  View.cover_of_tiledL (point m c t y10 y11).1 S256x1024.size (by sl_kernel_rfl) y
theorem cover_7 (c : Dev nD) (t : Fin cfg0.N) (y10 y11 : Vec F S1x1024 .f32) (y : S256x5632.Idx) :
    ∃ pc ∈ (point m c t y10 y11).2.1, y ∈ pc.1.set :=
  View.cover_of_tiledL (point m c t y10 y11).2.1 S256x1408.size (by sl_kernel_rfl) y
theorem cover_8 (c : Dev nD) (t : Fin cfg0.N) (y10 y11 : Vec F S1x1024 .f32) (y : S256x2816.Idx) :
    ∃ pc ∈ (point m c t y10 y11).2.2.1, y ∈ pc.1.set :=
  View.cover_of_tiledL (point m c t y10 y11).2.2.1 S256x1408.size (by sl_kernel_rfl) y
theorem cover_9 (c : Dev nD) (t : Fin cfg0.N) (y10 y11 : Vec F S1x1024 .f32) (y : S256x1024.Idx) :
    ∃ pc ∈ (point m c t y10 y11).2.2.2.1, y ∈ pc.1.set :=
  View.cover_of_tiledL (point m c t y10 y11).2.2.2.1 S256x1024.size (by sl_kernel_rfl) y
theorem cover_10 (c : Dev nD) (t : Fin cfg0.N) (y10 y11 : Vec F S1x1024 .f32) (y : S1x1024.Idx) :
    ∃ pc ∈ (point m c t y10 y11).2.2.2.2.1, y ∈ pc.1.set :=
  View.cover_of_tiledL (point m c t y10 y11).2.2.2.2.1 S1x1024.size (by sl_kernel_rfl) y
theorem cover_11 (c : Dev nD) (t : Fin cfg0.N) (y10 y11 : Vec F S1x1024 .f32) (y : S1x1024.Idx) :
    ∃ pc ∈ (point m c t y10 y11).2.2.2.2.2.1, y ∈ pc.1.set :=
  View.cover_of_tiledL (point m c t y10 y11).2.2.2.2.2.1 S1x1024.size (by sl_kernel_rfl) y

/-- What the six results' buffers hold after a point. -/
structure Left (F : FTy → Type) where
  o6 : Vec F S256x1024 .f32
  o7 : Vec F S256x5632 .bf16
  o8 : Vec F S256x2816 .bf16
  o9 : Vec F S256x1024 .bf16
  o10 : Vec F S1x1024 .f32
  o11 : Vec F S1x1024 .f32

/-- After a point: its pieces, read back. -/
def left (c : Dev nD) (t : Fin cfg0.N) (y10 y11 : Vec F S1x1024 .f32) : Left F where
  o6 := VO6.read (Elt F) (VO6.writes (Elt F) VO6.junk (point m c t y10 y11).1)
  o7 := VO7.read (Elt F) (VO7.writes (Elt F) VO7.junk (point m c t y10 y11).2.1)
  o8 := VO8.read (Elt F) (VO8.writes (Elt F) VO8.junk (point m c t y10 y11).2.2.1)
  o9 := VO9.read (Elt F) (VO9.writes (Elt F) VO9.junk (point m c t y10 y11).2.2.2.1)
  o10 := VO10.read (Elt F) (VO10.writes (Elt F) VO10.junk (point m c t y10 y11).2.2.2.2.1)
  o11 := VO11.read (Elt F) (VO11.writes (Elt F) VO11.junk (point m c t y10 y11).2.2.2.2.2.1)

/-! ## The first point takes nothing from the row sums' buffers -/

theorem left_10 (c : Dev nD) (t : Fin cfg0.N) (y10 y11 : Vec F S1x1024 .f32) :
    (left m c t y10 y11).o10 = k0_pay6 (iblk m c 0 t) (k0_pay4 (iblk m c 1 t))
      (Scalar.cmpi .eq (BitVec.ofNat 32 (grid0.coords t 0).val) 0#32) y10 (Scalar.ofBits .f32 0x00000000#32) := by
  unfold left; dsimp only; unfold point; frame_out

theorem left_11 (c : Dev nD) (t : Fin cfg0.N) (y10 y11 : Vec F S1x1024 .f32) :
    (left m c t y10 y11).o11 = k0_pay7 (BitVec.ofNat 32 (grid0.coords t 0).val) (iblk m c 0 t) y11 := by
  unfold left; dsimp only; unfold point; frame_out

theorem first_point (t : Fin cfg0.N) (h : t.val = 0) : (Scalar.cmpi .eq (BitVec.ofNat 32 (grid0.coords t 0).val) 0#32 : BitVec 1) = 1#1 := by
  revert t; decide +kernel

theorem first_10 (c : Dev nD) (t : Fin cfg0.N) (h : t.val = 0) (y10 y11 z10 z11 : Vec F S1x1024 .f32) :
    (left m c t y10 y11).o10 = (left m c t z10 z11).o10 := by
  rw [left_10, left_10]; unfold k0_pay6; rw [first_point t h]; rfl

theorem first_11 (c : Dev nD) (t : Fin cfg0.N) (h : t.val = 0) (y10 y11 z10 z11 : Vec F S1x1024 .f32) :
    (left m c t y10 y11).o11 = (left m c t z10 z11).o11 := by
  rw [left_11, left_11]; unfold k0_pay7; rw [first_point t h]; rfl

theorem free_6 (c : Dev nD) (t : Fin cfg0.N) (y10 y11 z10 z11 : Vec F S1x1024 .f32) :
    (left m c t y10 y11).o6 = (left m c t z10 z11).o6 := rfl
theorem free_7 (c : Dev nD) (t : Fin cfg0.N) (y10 y11 z10 z11 : Vec F S1x1024 .f32) :
    (left m c t y10 y11).o7 = (left m c t z10 z11).o7 := rfl
theorem free_8 (c : Dev nD) (t : Fin cfg0.N) (y10 y11 z10 z11 : Vec F S1x1024 .f32) :
    (left m c t y10 y11).o8 = (left m c t z10 z11).o8 := rfl
theorem free_9 (c : Dev nD) (t : Fin cfg0.N) (y10 y11 z10 z11 : Vec F S1x1024 .f32) :
    (left m c t y10 y11).o9 = (left m c t z10 z11).o9 := rfl

/-- After each point, over what the point before left. -/
def outs (c : Dev nD) : (n : ℕ) → n < cfg0.N → Left F
  | 0, h => left m c ⟨0, h⟩ (VO10.read (Elt F) VO10.junk) (VO11.read (Elt F) VO11.junk)
  | n + 1, h =>
    let p := outs c n (Nat.lt_of_succ_lt h)
    left m c ⟨n + 1, h⟩ p.o10 p.o11

/-- The point before a later one. -/
theorem prev_lt (t : Fin cfg0.N) : t.val - 1 < cfg0.N := Nat.lt_of_le_of_lt (Nat.sub_le _ _) t.isLt

theorem outs_first (c : Dev nD) (t : Fin cfg0.N) (h : t.val = 0) :
    outs m c t.val t.isLt = left m c t (VO10.read (Elt F) VO10.junk) (VO11.read (Elt F) VO11.junk) := by
  obtain ⟨n, hn⟩ := t
  cases n with
  | zero => rfl
  | succ n => exact absurd h (Nat.succ_ne_zero n)

theorem outs_later (c : Dev nD) (t : Fin cfg0.N) (h : t.val ≠ 0) :
    outs m c t.val t.isLt = left m c t (outs m c (t.val - 1) (prev_lt t)).o10 (outs m c (t.val - 1) (prev_lt t)).o11 := by
  obtain ⟨n, hn⟩ := t
  cases n with
  | zero => exact absurd rfl h
  | succ n => rfl

/-- What a point leaves, over any two contents of the row sums' buffers that are the point before's where there is one. -/
theorem outs_eq (c : Dev nD) (t : Fin cfg0.N) (y10 y11 : Vec F S1x1024 .f32)
    (h10 : t.val ≠ 0 → y10 = (outs m c (t.val - 1) (prev_lt t)).o10)
    (h11 : t.val ≠ 0 → y11 = (outs m c (t.val - 1) (prev_lt t)).o11) :
    outs m c t.val t.isLt = left m c t y10 y11 := by
  by_cases h : t.val = 0
  · rw [outs_first m c t h]
    have e10 := first_10 m c t h (VO10.read (Elt F) VO10.junk) (VO11.read (Elt F) VO11.junk) y10 y11
    have e11 := first_11 m c t h (VO10.read (Elt F) VO10.junk) (VO11.read (Elt F) VO11.junk) y10 y11
    have e6 := free_6 m c t (VO10.read (Elt F) VO10.junk) (VO11.read (Elt F) VO11.junk) y10 y11
    have e7 := free_7 m c t (VO10.read (Elt F) VO10.junk) (VO11.read (Elt F) VO11.junk) y10 y11
    have e8 := free_8 m c t (VO10.read (Elt F) VO10.junk) (VO11.read (Elt F) VO11.junk) y10 y11
    have e9 := free_9 m c t (VO10.read (Elt F) VO10.junk) (VO11.read (Elt F) VO11.junk) y10 y11
    generalize left m c t (VO10.read (Elt F) VO10.junk) (VO11.read (Elt F) VO11.junk) = a at *
    generalize left m c t y10 y11 = b at *
    obtain ⟨⟩ := a
    obtain ⟨⟩ := b
    simp only at e6 e7 e8 e9 e10 e11
    simp only [e6, e7, e8, e9, e10, e11]
  · rw [outs_later m c t h, ← h10 h, ← h11 h]

/-! ## The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).o6
    | ⟨7, _⟩ => (outs m c t.val t.isLt).o7
    | ⟨8, _⟩ => (outs m c t.val t.isLt).o8
    | ⟨9, _⟩ => (outs m c t.val t.isLt).o9
    | ⟨10, _⟩ => (outs m c t.val t.isLt).o10
    | ⟨11, _⟩ => (outs m c t.val t.isLt).o11
    | ⟨_ + 12, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outs m c t.val t.isLt).o6 := by dsimp only [dats]
theorem after_7 (c : Dev nD) (t : Fin cfg0.N) : (dats m 0 c).after 7 t = (outs m c t.val t.isLt).o7 := by dsimp only [dats]
theorem after_8 (c : Dev nD) (t : Fin cfg0.N) : (dats m 0 c).after 8 t = (outs m c t.val t.isLt).o8 := by dsimp only [dats]
theorem after_9 (c : Dev nD) (t : Fin cfg0.N) : (dats m 0 c).after 9 t = (outs m c t.val t.isLt).o9 := by dsimp only [dats]
theorem after_10 (c : Dev nD) (t : Fin cfg0.N) : (dats m 0 c).after 10 t = (outs m c t.val t.isLt).o10 := by dsimp only [dats]
theorem after_11 (c : Dev nD) (t : Fin cfg0.N) : (dats m 0 c).after 11 t = (outs m c t.val t.isLt).o11 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

theorem before_10 (c : Dev nD) (t : Fin cfg0.N) (d) (h : t.val ≠ 0) :
    (dats m 0 c).before 10 t d = (outs m c (t.val - 1) (prev_lt t)).o10 := by
  rw [Dat.before_out_traj _ 10 rfl (fun _ _ => rfl)
      (fun t _ hi _ => absurd ((live_10 t).symm.trans hi) Bool.false_ne_true) t.val t rfl d,
    if_neg (by rw [kept_10 t h]; exact Bool.false_ne_true)]
  dsimp only [dats]

theorem before_11 (c : Dev nD) (t : Fin cfg0.N) (d) (h : t.val ≠ 0) :
    (dats m 0 c).before 11 t d = (outs m c (t.val - 1) (prev_lt t)).o11 := by
  rw [Dat.before_out_traj _ 11 rfl (fun _ _ => rfl)
      (fun t _ hi _ => absurd ((live_11 t).symm.trans hi) Bool.false_ne_true) t.val t rfl d,
    if_neg (by rw [kept_11 t h]; exact Bool.false_ne_true)]
  dsimp only [dats]

/-! ## The body at a point -/

theorem leaves_0 (c : Dev nD) (t : Fin cfg0.N) :
    (dats m 0 c).leavesExact 0 t = owns (c : Thread nD τ) (ms0 t) fullShare (iblk m c 0 t) := by
  unfold Dat.leavesExact; rw [live_0 t, after_0]
theorem leaves_1 (c : Dev nD) (t : Fin cfg0.N) :
    (dats m 0 c).leavesExact 1 t = owns (c : Thread nD τ) (ms1 t) fullShare (iblk m c 1 t) := by
  unfold Dat.leavesExact; rw [live_1 t, after_1]
theorem leaves_2 (c : Dev nD) (t : Fin cfg0.N) :
    (dats m 0 c).leavesExact 2 t = owns (c : Thread nD τ) (ms2 t) fullShare (iblk m c 2 t) := by
  unfold Dat.leavesExact; rw [live_2 t, after_2]
theorem leaves_3 (c : Dev nD) (t : Fin cfg0.N) :
    (dats m 0 c).leavesExact 3 t = owns (c : Thread nD τ) (ms3 t) fullShare (iblk m c 3 t) := by
  unfold Dat.leavesExact; rw [live_3 t, after_3]
theorem leaves_4 (c : Dev nD) (t : Fin cfg0.N) :
    (dats m 0 c).leavesExact 4 t = owns (c : Thread nD τ) (ms4 t) fullShare (iblk m c 4 t) := by
  unfold Dat.leavesExact; rw [live_4 t, after_4]
theorem leaves_5 (c : Dev nD) (t : Fin cfg0.N) :
    (dats m 0 c).leavesExact 5 t = owns (c : Thread nD τ) (ms5 t) fullShare (iblk m c 5 t) := by
  unfold Dat.leavesExact; rw [live_5 t, after_5]
theorem leaves_6 (c : Dev nD) (t : Fin cfg0.N) :
    (dats m 0 c).leavesExact 6 t = owns (c : Thread nD τ) (ms6 t) fullShare ((outs m c t.val t.isLt).o6) := by
  unfold Dat.leavesExact; rw [live_6 t, after_6]
theorem leaves_7 (c : Dev nD) (t : Fin cfg0.N) :
    (dats m 0 c).leavesExact 7 t = owns (c : Thread nD τ) (ms7 t) fullShare ((outs m c t.val t.isLt).o7) := by
  unfold Dat.leavesExact; rw [live_7 t, after_7]
theorem leaves_8 (c : Dev nD) (t : Fin cfg0.N) :
    (dats m 0 c).leavesExact 8 t = owns (c : Thread nD τ) (ms8 t) fullShare ((outs m c t.val t.isLt).o8) := by
  unfold Dat.leavesExact; rw [live_8 t, after_8]
theorem leaves_9 (c : Dev nD) (t : Fin cfg0.N) :
    (dats m 0 c).leavesExact 9 t = owns (c : Thread nD τ) (ms9 t) fullShare ((outs m c t.val t.isLt).o9) := by
  unfold Dat.leavesExact; rw [live_9 t, after_9]
theorem leaves_10 (c : Dev nD) (t : Fin cfg0.N) :
    (dats m 0 c).leavesExact 10 t = owns (c : Thread nD τ) (ms10 t) fullShare ((outs m c t.val t.isLt).o10) := by
  unfold Dat.leavesExact; rw [live_10 t, after_10]
theorem leaves_11 (c : Dev nD) (t : Fin cfg0.N) :
    (dats m 0 c).leavesExact 11 t = owns (c : Thread nD τ) (ms11 t) fullShare ((outs m c t.val t.isLt).o11) := by
  unfold Dat.leavesExact; rw [live_11 t, after_11]

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it gives back. -/
def back (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any point runs from the one to the other. -/
theorem sound_body (c : Dev nD) (t : Fin cfg0.N) :
    given m c t ⊢ wp frame (wpE (defs₀ (F := F)) Variants.none c none) Set.univ (bodyAt0 t) (fun _ => back m c t) := by
  unfold given back bodyAt0
  simp only [before_0, before_1, before_2, before_3, before_4, before_5]
  rw [leaves_0, leaves_1, leaves_2, leaves_3, leaves_4, leaves_5, leaves_6, leaves_7, leaves_8, leaves_9, leaves_10, leaves_11]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [outs_eq m c t _ _ (before_10 m c t d10) (before_11 m c t d11)]
  unfold left; dsimp only
  iapply ((point m c t _ _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexact H10
  isplitl [H11]; · iexact H11
  iintro ⟨H0, H1, H2, H3, H4, H5, ⟨%e6, H6⟩, ⟨%e7, H7⟩, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact View.read_writes_of_cover _ _ _ _ _ (cover_6 m c t _ _)
  isplitl [H7]
  · unfold owns; iexists _; isplitr; swap; · iexact H7
    ipureintro; exact View.read_writes_of_cover _ _ _ _ _ (cover_7 m c t _ _)
  isplitl [H8]
  · unfold owns; iexists _; isplitr; swap; · iexact H8
    ipureintro; exact View.read_writes_of_cover _ _ _ _ _ (cover_8 m c t _ _)
  isplitl [H9]
  · unfold owns; iexists _; isplitr; swap; · iexact H9
    ipureintro; exact View.read_writes_of_cover _ _ _ _ _ (cover_9 m c t _ _)
  isplitl [H10]
  · unfold owns; iexists _; isplitr; swap; · iexact H10
    ipureintro; exact View.read_writes_of_cover _ _ _ _ _ (cover_10 m c t _ _)
  unfold owns; iexists _; isplitr; swap; · iexact H11
  ipureintro; exact View.read_writes_of_cover _ _ _ _ _ (cover_11 m c t _ _)

theorem row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

set_option backward.isDefEq.respectTransparency.types false in
/-- Every execution ends, with each array of the call at what the pipeline's data say, every other buffer as the call
    found it, and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- What the frame says, of any float format. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem quiet (F : FTy → Type) [FloatOps F] : Quiet F := fun m ρ _ =>
  θ_run_and (frame_of m ρ (dats m) (A_eq m) ((θ_run defs _ _).mono (fun _ h => h.1) (run_main m ρ)))
    ((θ_run defs _ _).mono (fun _ h => h.2) (run_main m ρ))

end Cert.Ffn.Run

end
-- ==== Proof.FfnBlk.lean ====
/- The feed-forward layer's backward kernel: what the host hands it, and what its staged operands hold. -/
module

public import proofs.«01_k».proof.Proof.FfnMath
public import proofs.«01_k».proof.Proof.FfnFrame
public import Idealize.ShloMosaic.Lib.Pipeline.ValueKit
public import Idealize.ShloMosaic.Lib.Pointwise
public import Idealize.ShloMosaic.Lib.Claim

@[expose] public section

set_option maxRecDepth 16384

noncomputable section

namespace Cert.Ffn.Run

open Cert.FfnIdeal Cert.FfnIdeal.Gen Idealize.ShloMosaic Idealize.ShloMosaic.TcCoe Idealize.SL.Sem
open Idealize.ShloMosaic.Pipeline
open Cert.Step Cert.Step.Ffn
open scoped BigOperators

section
variable (x : FVec Ideal S2048x1024 .f32) (wi : FVec Ideal S1024x5632 .f32) (wo : FVec Ideal S2816x1024 .f32)
  (p q : FVec Ideal S2048x2816 .f32) (gu : FVec Ideal S2048x5632 .f32)

/-! The host's lines, by name. -/

def hGu : FVec Ideal S2048x5632 .f32 :=
  Host.dotGeneral (φ₁ := .bf16) (φ₂ := .bf16) dot_S2048x1024_S1024x5632_S2048x5632_1_0_0_1_n_n none (truncf .bf16 x bitsLt_bf16_f32) (truncf .bf16 wi bitsLt_bf16_f32)
def hGate : FVec Ideal S2048x2816 .f32 := extractStridedSlice S2048x2816 ![0, 0] gu slices_S2048x5632_S2048x2816_0_0
def hUp : FVec Ideal S2048x2816 .f32 := extractStridedSlice S2048x2816 ![0, 2816] gu slices_S2048x5632_S2048x2816_0_2816
def hAct : FVec Ideal S2048x2816 .f32 := mulf (mulf p (Host.divf (broadcastInDim S2048x2816 ![] bcast_S_S2048x2816 (constant S_ .f32 0x3F800000#32)) (addf (broadcastInDim S2048x2816 ![] bcast_S_S2048x2816 (constant S_ .f32 0x3F800000#32)) (Host.exp (Host.negf p))))) q
def hRes : FVec Ideal S2048x1024 .f32 := addf (mulf (broadcastInDim S2048x1024 ![] bcast_S_S2048x1024 (constant S_ .f32 0x3F9837F0#32)) x)
  (mulf (broadcastInDim S2048x1024 ![] bcast_S_S2048x1024 (constant S_ .f32 0x3F000000#32)) (Host.dotGeneral (φ₁ := .bf16) (φ₂ := .bf16) dot_S2048x2816_S2816x1024_S2048x1024_1_0_0_1_n_n none (truncf .bf16 p bitsLt_bf16_f32) (truncf .bf16 wo bitsLt_bf16_f32)))
/-- A stretch of each, side by side: the first stretches, and the second. -/
def hFirst : FVec Ideal S2048x2816 .f32 := concatenate S2048x2816 1 [⟨S2048x1408, extractStridedSlice S2048x1408 ![0, 0] p slices_S2048x2816_S2048x1408_0_0⟩,
    ⟨S2048x1408, extractStridedSlice S2048x1408 ![0, 0] q slices_S2048x2816_S2048x1408_0_0⟩] concatenates_S2048x1408_S2048x1408_S2048x2816_d1
def hSecond : FVec Ideal S2048x2816 .f32 := concatenate S2048x2816 1 [⟨S2048x1408, extractStridedSlice S2048x1408 ![0, 1408] p slices_S2048x2816_S2048x1408_0_1408⟩,
    ⟨S2048x1408, extractStridedSlice S2048x1408 ![0, 1408] q slices_S2048x2816_S2048x1408_0_1408⟩] concatenates_S2048x1408_S2048x1408_S2048x2816_d1
def hH : FVec Ideal S2048x5632 .bf16 := truncf .bf16 (φ := .f32) (concatenate S2048x5632 1 [⟨S2048x2816, hFirst p q⟩, ⟨S2048x2816, hSecond p q⟩]
  concatenates_S2048x2816_S2048x2816_S2048x5632_d1) bitsLt_bf16_f32
end

variable (m : (ℓ : Loc nD τ sig) → Buf (Elt Ideal) ℓ) (c : Dev nD)

/-- The kernel's arguments, read at their indices. -/
def args : Args where
  x i j := (m ((c : Thread nD τ).loc main_arg0) : FVec Ideal S2048x1024 .f32) (ix2 i j)
  wi i j := (m ((c : Thread nD τ).loc main_arg1) : FVec Ideal S1024x5632 .f32) (ix2 i j)
  wo i j := (m ((c : Thread nD τ).loc main_arg2) : FVec Ideal S2816x1024 .f32) (ix2 i j)
  g j := (m ((c : Thread nD τ).loc main_arg3) : FVec Ideal S1x1024 .f32) (ix2 0 j)
  dy i j := (m ((c : Thread nD τ).loc main_arg4) : FVec Ideal S2048x1024 .f32) (ix2 i j)

section
variable (i : Fin 2048) (j : Fin 1024) (n : Fin 2816) (l : Fin 5632) (k : Fin 1408)

/-! ### The host lines -/

abbrev kGu : FVec Ideal S2048x5632 .f32 := hGu (m ((c : Thread nD τ).loc main_arg0)) (m ((c : Thread nD τ).loc main_arg1))

theorem kGu_at : kGu m c (ix2 i l) = (args m c).gu i l := by
  pointwise [hGu]
  rfl
theorem kGate_at : hGate (kGu m c) (ix2 i n) = (args m c).gate i n := by
  pointwise [hGate]
  exact kGu_at m c i (fst n)
theorem kUp_at : hUp (kGu m c) (ix2 i n) = (args m c).up i n := by
  pointwise [hUp]
  exact kGu_at m c i (snd n)
theorem kAct_at : hAct (hGate (kGu m c)) (hUp (kGu m c)) (ix2 i n) = (args m c).act i n := by
  pointwise [hAct]
  rw [kGate_at, kUp_at]
  rfl

theorem res_eq : (V m c main_v23 : FVec Ideal S2048x1024 .f32)
    = hRes (m ((c : Thread nD τ).loc main_arg0)) (m ((c : Thread nD τ).loc main_arg2)) (hAct (hGate (kGu m c)) (hUp (kGu m c))) := by
  entry_read
  rfl
theorem h_eq : (V m c main_v31 : FVec Ideal S2048x5632 .bf16) = hH (hGate (kGu m c)) (hUp (kGu m c)) := by
  entry_read
  rfl

theorem res_at : (V m c main_v23 : FVec Ideal S2048x1024 .f32) (ix2 i j) = (args m c).res i j := by
  rw [res_eq]
  pointwise [hRes]
  simp only [kAct_at]
  rfl
theorem h_at : (V m c main_v31 : FVec Ideal S2048x5632 .bf16) (ix2 i l) = (args m c).h i l := by
  rw [h_eq]
  pointwise [hH]
  pointwise [hFirst, hSecond]
  simp only [kGate_at, kUp_at]
  unfold Args.h
  by_cases h0 : l.val < 1408
  · rw [dif_pos (by omega), dif_pos h0]
    exact (inter_0 _ _ i ⟨l, h0⟩ l rfl).symm
  by_cases h1 : l.val < 2816
  · rw [dif_pos h1, dif_neg h0]
    exact (inter_1 _ _ i ⟨l - 1408, by omega⟩ l (by show l.val = 1408 + (l - 1408); omega)).symm
  by_cases h2 : l.val < 4224
  · rw [dif_neg h1, dif_pos (by omega)]
    exact (inter_2 _ _ i ⟨l - 2816, by omega⟩ l (by show l.val = 2816 + (l - 2816); omega)).symm
  · rw [dif_neg h1, dif_neg (by omega)]
    refine (inter_3 _ _ i ⟨l - 2816 - 1408, by omega⟩ l ?_).symm
    show l.val = 4224 + (l - 2816 - 1408); omega
theorem win_at (J : Fin 4) : (V m c main_v4 : FVec Ideal S4x1024x1408 .bf16) (ix3 J j k) = (args m c).wi j ⟨J * 1408 + k, by omega⟩ := by
  entry_read
  pointwise
  rfl
theorem wout_at (K : Fin 2) : (V m c main_v5 : FVec Ideal S2x1408x1024 .bf16) (ix3 K k j) = (args m c).wo ⟨K * 1408 + k, by omega⟩ j := by
  entry_read
  pointwise
  rfl
end

/-! ### The blocks -/

variable (j : Fin 1024) (l : Fin 5632) (k : Fin 1408)

theorem idx : ∀ t : Fin cfg0.N, win0_0.index t = ![t.val, 0] ∧ win0_1.index t = ![t.val, 0] ∧ win0_2.index t = ![0, 0]
    ∧ win0_3.index t = ![t.val, 0] ∧ win0_4.index t = ![0, 0, 0] ∧ win0_5.index t = ![0, 0, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The array's row under a block's row. -/
def up (t : Fin cfg0.N) (i : Fin 256) : Fin 2048 := ⟨t.val * 256 + i, by have := lt_of_lt_of_eq t.isLt N_0; omega⟩

variable (t : Fin cfg0.N) (i : Fin 256)

theorem blk0 : (iblk m c 0 t : FVec Ideal S256x1024 .f32) (ix2 i j) = (args m c).dy (up t i) j := by
  unfold args up; blk_point [iblk, V, idx t]
theorem blk2 : (iblk m c 2 t : FVec Ideal S1x1024 .f32) (ix2 0 j) = (args m c).g j := by
  unfold args; blk_point [iblk, V, idx t]
theorem read1 (A : FVec Ideal S2048x1024 .f32) : (((cfg0.win 1).blk t).view.read (Elt Ideal) A : FVec Ideal S256x1024 .f32) (ix2 i j) = A (ix2 (up t i) j) := by
  have e : ((View.whole main_v23).slice (win0_1.rect t)).emb (ix2 i j) = ix2 (up t i) j := by unfold up; blk_ext [idx t]
  exact congrArg A e
theorem blk1 : (iblk m c 1 t : FVec Ideal S256x1024 .f32) (ix2 i j) = (args m c).res (up t i) j := by
  unfold iblk
  exact (read1 j t i (V m c main_v23)).trans (res_at m c (up t i) j)
theorem read3 (A : FVec Ideal S2048x5632 .bf16) : (((cfg0.win 3).blk t).view.read (Elt Ideal) A : FVec Ideal S256x5632 .bf16) (ix2 i l) = A (ix2 (up t i) l) := by
  have e : ((View.whole main_v31).slice (win0_3.rect t)).emb (ix2 i l) = ix2 (up t i) l := by unfold up; blk_ext [idx t]
  exact congrArg A e
theorem blk3 : (iblk m c 3 t : FVec Ideal S256x5632 .bf16) (ix2 i l) = (args m c).h (up t i) l := by
  unfold iblk
  exact (read3 l t i (V m c main_v31)).trans (h_at m c (up t i) l)
theorem read4 (J : Fin 4) (A : FVec Ideal S4x1024x1408 .bf16) : (((cfg0.win 4).blk t).view.read (Elt Ideal) A : FVec Ideal S4x1024x1408 .bf16) (ix3 J j k) = A (ix3 J j k) := by
  have e : ((View.whole main_v4).slice (win0_4.rect t)).emb (ix3 J j k) = ix3 J j k := by blk_ext [idx t]
  exact congrArg A e
theorem blk4 (J : Fin 4) : (iblk m c 4 t : FVec Ideal S4x1024x1408 .bf16) (ix3 J j k) = (args m c).wi j ⟨J * 1408 + k, by omega⟩ := by
  unfold iblk
  exact (read4 j k t J (V m c main_v4)).trans (win_at m c j k J)
theorem read5 (K : Fin 2) (A : FVec Ideal S2x1408x1024 .bf16) : (((cfg0.win 5).blk t).view.read (Elt Ideal) A : FVec Ideal S2x1408x1024 .bf16) (ix3 K k j) = A (ix3 K k j) := by
  have e : ((View.whole main_v5).slice (win0_5.rect t)).emb (ix3 K k j) = ix3 K k j := by blk_ext [idx t]
  exact congrArg A e
theorem blk5 (K : Fin 2) : (iblk m c 5 t : FVec Ideal S2x1408x1024 .bf16) (ix3 K k j) = (args m c).wo ⟨K * 1408 + k, by omega⟩ j := by
  unfold iblk
  exact (read5 j k t K (V m c main_v5)).trans (wout_at m c j k K)

end Cert.Ffn.Run

end
-- ==== Proof.FfnPay.lean ====
/- The feed-forward layer's backward kernel, payload by payload, read at an index of a block whose operands
   hold one row of the arguments. -/
module

public import proofs.«01_k».proof.Proof.FfnMath
public import proofs.«01_k».proof.Proof.Gen.FfnIdeal.Skeleton
public import Idealize.ShloMosaic.Lib.Pipeline.ValueKit
public import Idealize.ShloMosaic.Lib.Pointwise
public import Idealize.ShloMosaic.Lib.Claim

@[expose] public section

set_option maxRecDepth 16384

noncomputable section

namespace Cert.Ffn.Pay

open Cert.FfnIdeal Cert.FfnIdeal.Gen Idealize.ShloMosaic Idealize.ShloMosaic.TcCoe Idealize.SL.Sem
open Idealize.ShloMosaic.Pipeline
open Cert.Step Cert.Step.Ffn
open scoped BigOperators

/-- A row of a block. -/
def line (v : FVec Ideal S256x1024 .f32) (i : Fin 256) : Row := fun k => v (ix2 i k)

section
variable (v0 v1 : FVec Ideal S256x1024 .f32) (v3 : FVec Ideal S1x1024 .f32) (i : Fin 256) (j : Fin 1024)

theorem pay2_at : k0_pay2 (F := Ideal) v1 (ix2 i j) = cen (line v1 i) j := by
  pointwise [k0_pay2]
  rfl
theorem pay3_at : k0_pay3 (F := Ideal) v1 (ix2 i 0) = rstd (line v1 i) := by
  pointwise [k0_pay3]
  simp only [pay2_at]; rfl
theorem pay4_at : k0_pay4 (F := Ideal) v1 (ix2 i j) = xhat (line v1 i) j := by
  pointwise [k0_pay4]
  rw [pay2_at, pay3_at]; rfl
theorem pay5_at : k0_pay5 (F := Ideal) v0 v1 v3 (ix2 i j) = bwdK (line v1 i) (fun k => v0 (ix2 i k) * v3 (ix2 0 k)) j := by
  pointwise [k0_pay5]
  simp only [pay3_at, pay4_at]; rfl

variable (v w : FVec Ideal S256x1024 .f32) (z : FVec Ideal S1x1024 .f32) (q : EReal)

/-- The row sums of a product, over what the buffer held or over nothing. -/
theorem pay6_at (b : BitVec 1) : k0_pay6 (F := Ideal) v w b z (Scalar.ofBits .f32 0x00000000#32) (ix2 0 j)
    = (if b = 1#1 then 0 else z (ix2 0 j)) + ∑ i, v (ix2 i j) * w (ix2 i j) := by
  pointwise [k0_pay6]
  rfl
theorem pay7_at (n : BitVec 32) : k0_pay7 (F := Ideal) n v z (ix2 0 j)
    = (if Scalar.cmpi .eq n 0#32 = (1#1 : BitVec 1) then 0 else z (ix2 0 j)) + ∑ i, v (ix2 i j) := by
  pointwise [k0_pay7]
  rfl
end

/-- What one row of the operands holds. -/
structure Holds (a : Args) (r : Fin 2048) (i : Fin 256) (v0 v1 : FVec Ideal S256x1024 .f32) (v3 : FVec Ideal S1x1024 .f32)
    (g0 u0 g1 u1 : FVec Ideal S256x1408 .bf16) (o0 o1 : FVec Ideal S1x1408x1024 .bf16) (w0 w1 w2 w3 : FVec Ideal S1x1024x1408 .bf16) : Prop where
  dy : ∀ j, v0 (ix2 i j) = a.dy r j
  res : ∀ j, v1 (ix2 i j) = a.res r j
  g : ∀ j, v3 (ix2 0 j) = a.g j
  g0 : ∀ k, g0 (ix2 i k) = a.gate r (lo k)
  u0 : ∀ k, u0 (ix2 i k) = a.up r (lo k)
  g1 : ∀ k, g1 (ix2 i k) = a.gate r (hi k)
  u1 : ∀ k, u1 (ix2 i k) = a.up r (hi k)
  o0 : ∀ k j, o0 (ix3 0 k j) = a.wo (lo k) j
  o1 : ∀ k j, o1 (ix3 0 k j) = a.wo (hi k) j
  w0 : ∀ j k, w0 (ix3 0 j k) = a.wi j (fst (lo k))
  w1 : ∀ j k, w1 (ix3 0 j k) = a.wi j (fst (hi k))
  w2 : ∀ j k, w2 (ix3 0 j k) = a.wi j (snd (lo k))
  w3 : ∀ j k, w3 (ix3 0 j k) = a.wi j (snd (hi k))

section
variable {a : Args} {r : Fin 2048} {i : Fin 256} {v0 v1 : FVec Ideal S256x1024 .f32} {v3 : FVec Ideal S1x1024 .f32}
  {g0 u0 g1 u1 : FVec Ideal S256x1408 .bf16} {o0 o1 : FVec Ideal S1x1408x1024 .bf16} {w0 w1 w2 w3 : FVec Ideal S1x1024x1408 .bf16}
  (h : Holds a r i v0 v1 v3 g0 u0 g1 u1 o0 o1 w0 w1 w2 w3) (j : Fin 1024) (k : Fin 1408)
include h

theorem line_eq : line v1 i = a.res r := funext h.res

theorem xh_at : k0_pay4 (F := Ideal) v1 (ix2 i j) = xhat (a.res r) j := by rw [pay4_at, line_eq h]

theorem dr_at : k0_pay5 (F := Ideal) v0 v1 v3 (ix2 i j) = a.dr r j := by
  rw [pay5_at, line_eq h]
  exact congrArg (fun d => bwdK (a.res r) d j) (funext fun k => by rw [h.dy, h.g]; rfl)

theorem dfb_at : k0_pay8 (F := Ideal) (k0_pay5 (F := Ideal) v0 v1 v3) (ix2 i j) = a.df r j := by
  pointwise [k0_pay8]
  rw [dr_at h]; rfl

theorem df_at : k0_pay9 (F := Ideal) (k0_pay5 (F := Ideal) v0 v1 v3) (ix2 i j) = a.df r j := by
  pointwise [k0_pay9]
  exact dfb_at h j

theorem adr_at : k0_pay10 (F := Ideal) (k0_pay5 (F := Ideal) v0 v1 v3) (ix2 i j) = alpha * a.dr r j := by
  pointwise [k0_pay10]
  rw [dr_at h]

/-! ### The first stretch -/

theorem da0_at : k0_pay11 (F := Ideal) (k0_pay5 (F := Ideal) v0 v1 v3) o0 (ix2 i k) = a.da r (lo k) := by
  pointwise [k0_pay11]
  simp only [dfb_at h, h.o0]; rfl

theorem gt0_at : k0_pay12 (F := Ideal) g0 (ix2 i k) = a.gate r (lo k) := by
  pointwise [k0_pay12]
  exact h.g0 k
theorem up0_at : k0_pay14 (F := Ideal) (k0_pay13 (F := Ideal) u0) (ix2 i k) = a.up r (lo k) := by
  pointwise [k0_pay14, k0_pay13]
  exact h.u0 k
theorem sg0_at : k0_pay15 (F := Ideal) (k0_pay12 (F := Ideal) g0) (ix2 i k) = sgm (a.gate r (lo k)) := by
  pointwise [k0_pay15]
  rw [gt0_at h]; rfl
theorem silu0_at : k0_pay16 (F := Ideal) (k0_pay12 (F := Ideal) g0) (ix2 i k) = a.gate r (lo k) * sgm (a.gate r (lo k)) := by
  pointwise [k0_pay16]
  rw [gt0_at h, sg0_at h]

theorem dgate0_at : k0_pay17 (F := Ideal) (k0_pay11 (F := Ideal) (k0_pay5 (F := Ideal) v0 v1 v3) o0) (k0_pay12 (F := Ideal) g0) (k0_pay13 (F := Ideal) u0) (ix2 i k) = a.dgate r (lo k) := by
  pointwise [k0_pay17]
  rw [da0_at h, up0_at h, sg0_at h, gt0_at h]; rfl
theorem dup0_at : k0_pay18 (F := Ideal) (k0_pay11 (F := Ideal) (k0_pay5 (F := Ideal) v0 v1 v3) o0) (k0_pay12 (F := Ideal) g0) (ix2 i k) = a.dup r (lo k) := by
  pointwise [k0_pay18]
  rw [da0_at h, silu0_at h]; rfl
theorem act0_at : k0_pay19 (F := Ideal) (k0_pay12 (F := Ideal) g0) (k0_pay13 (F := Ideal) u0) (ix2 i k) = a.act r (lo k) := by
  pointwise [k0_pay19]
  rw [up0_at h, silu0_at h]; rfl
theorem dgs0_at : k0_pay20 (F := Ideal) (k0_pay11 (F := Ideal) (k0_pay5 (F := Ideal) v0 v1 v3) o0) (k0_pay12 (F := Ideal) g0) (k0_pay13 (F := Ideal) u0) (ix2 i k) = a.dgate r (lo k) := by
  pointwise [k0_pay20]
  exact dgate0_at h k
theorem dus0_at : k0_pay21 (F := Ideal) (k0_pay11 (F := Ideal) (k0_pay5 (F := Ideal) v0 v1 v3) o0) (k0_pay12 (F := Ideal) g0) (ix2 i k) = a.dup r (lo k) := by
  pointwise [k0_pay21]
  exact dup0_at h k

theorem acc0_at : k0_pay22 (F := Ideal) (k0_pay10 (F := Ideal) (k0_pay5 (F := Ideal) v0 v1 v3)) (k0_pay11 (F := Ideal) (k0_pay5 (F := Ideal) v0 v1 v3) o0) (k0_pay12 (F := Ideal) g0) (k0_pay13 (F := Ideal) u0) w0 w2 (ix2 i j)
    = alpha * a.dr r j + (∑ k, a.dgate r (lo k) * a.wi j (fst (lo k))) + (∑ k, a.dup r (lo k) * a.wi j (snd (lo k))) := by
  pointwise [k0_pay22]
  simp only [adr_at h, dgate0_at h, dup0_at h, h.w0, h.w2]

/-! ### The second stretch -/

theorem da1_at : k0_pay23 (F := Ideal) (k0_pay8 (F := Ideal) (k0_pay5 (F := Ideal) v0 v1 v3)) o1 (ix2 i k) = a.da r (hi k) := by
  pointwise [k0_pay23]
  simp only [dfb_at h, h.o1]; rfl

theorem gt1_at : k0_pay24 (F := Ideal) g1 (ix2 i k) = a.gate r (hi k) := by
  pointwise [k0_pay24]
  exact h.g1 k
theorem up1_at : k0_pay25 (F := Ideal) u1 (ix2 i k) = a.up r (hi k) := by
  pointwise [k0_pay25]
  exact h.u1 k
theorem sg1_at : k0_pay26 (F := Ideal) g1 (ix2 i k) = sgm (a.gate r (hi k)) := by
  pointwise [k0_pay26]
  rw [gt1_at h]; rfl
theorem silu1_at : k0_pay27 (F := Ideal) g1 (ix2 i k) = a.gate r (hi k) * sgm (a.gate r (hi k)) := by
  pointwise [k0_pay27]
  rw [gt1_at h, sg1_at h]

theorem dgate1_at : k0_pay28 (F := Ideal) (k0_pay23 (F := Ideal) (k0_pay8 (F := Ideal) (k0_pay5 (F := Ideal) v0 v1 v3)) o1) g1 u1 (ix2 i k) = a.dgate r (hi k) := by
  pointwise [k0_pay28]
  rw [da1_at h, up1_at h, sg1_at h, gt1_at h]; rfl
theorem dup1_at : k0_pay29 (F := Ideal) (k0_pay23 (F := Ideal) (k0_pay8 (F := Ideal) (k0_pay5 (F := Ideal) v0 v1 v3)) o1) g1 (ix2 i k) = a.dup r (hi k) := by
  pointwise [k0_pay29]
  rw [da1_at h, silu1_at h]; rfl
theorem act1_at : k0_pay30 (F := Ideal) g1 u1 (ix2 i k) = a.act r (hi k) := by
  pointwise [k0_pay30]
  rw [up1_at h, silu1_at h]; rfl
theorem dgs1_at : k0_pay31 (F := Ideal) (k0_pay23 (F := Ideal) (k0_pay8 (F := Ideal) (k0_pay5 (F := Ideal) v0 v1 v3)) o1) g1 u1 (ix2 i k) = a.dgate r (hi k) := by
  pointwise [k0_pay31]
  exact dgate1_at h k
theorem dus1_at : k0_pay32 (F := Ideal) (k0_pay23 (F := Ideal) (k0_pay8 (F := Ideal) (k0_pay5 (F := Ideal) v0 v1 v3)) o1) g1 (ix2 i k) = a.dup r (hi k) := by
  pointwise [k0_pay32]
  exact dup1_at h k

theorem dx_at : k0_pay1 (F := Ideal) (k0_pay33 (F := Ideal) (k0_pay22 (F := Ideal) (k0_pay10 (F := Ideal) (k0_pay5 (F := Ideal) v0 v1 v3)) (k0_pay11 (F := Ideal) (k0_pay5 (F := Ideal) v0 v1 v3) o0) (k0_pay12 (F := Ideal) g0) (k0_pay13 (F := Ideal) u0) w0 w2)
    (k0_pay23 (F := Ideal) (k0_pay8 (F := Ideal) (k0_pay5 (F := Ideal) v0 v1 v3)) o1) g1 u1 w1 w3) (ix2 i j) = a.dx r j := by
  pointwise [k0_pay1, k0_pay33]
  simp only [acc0_at h, dgate1_at h, dup1_at h, h.w1, h.w3]
  exact a.dx_eq r j
end

end Cert.Ffn.Pay

end
-- ==== Proof.FfnValue.lean ====
/- The feed-forward layer's backward kernel: the arrays it leaves. -/
module

public import proofs.«01_k».proof.Proof.FfnBlk
public import proofs.«01_k».proof.Proof.FfnPay
public import Idealize.ShloMosaic.Lib.Pipeline.ReadBack

@[expose] public section

set_option maxRecDepth 16384

noncomputable section

namespace Cert.Ffn.Run

open Cert.FfnIdeal Cert.FfnIdeal.Gen Idealize.ShloMosaic Idealize.ShloMosaic.TcCoe Idealize.SL.Sem
open Idealize.ShloMosaic.Pipeline
open Cert.Step Cert.Step.Ffn Cert.Ffn.Pay
open scoped BigOperators

variable (m : (ℓ : Loc nD τ sig) → Buf (Elt Ideal) ℓ) (c : Dev nD) (t : Fin cfg0.N) (i : Fin 256)

theorem inb3 : ∀ (S : Fin 4) a, (![0, S.val * 1408] : Fin 2 → ℕ) a + (![256, 1408] : Fin 2 → ℕ) a ≤ S256x5632.size a := by decide
theorem inb4 : ∀ (J : Fin 4) a, (![J.val, 0, 0] : Fin 3 → ℕ) a + (![1, 1024, 1408] : Fin 3 → ℕ) a ≤ S4x1024x1408.size a := by decide
theorem inb5 : ∀ (K : Fin 2) a, (![K.val, 0, 0] : Fin 3 → ℕ) a + (![1, 1408, 1024] : Fin 3 → ℕ) a ≤ S2x1408x1024.size a := by decide

/-- A stretch of the saved gate and value; a block of each matrix. -/
abbrev w3 (S : Fin 4) : FVec Ideal S256x1408 .bf16 :=
  View.ld (iblk m c 3 t : Vec Ideal S256x5632 .bf16) (Rect.unit (s := S256x5632) ![0, S.val * 1408] ![256, 1408] (inb3 S))
abbrev w4 (J : Fin 4) : FVec Ideal S1x1024x1408 .bf16 :=
  View.ld (iblk m c 4 t : Vec Ideal S4x1024x1408 .bf16) (Rect.unit (s := S4x1024x1408) ![J.val, 0, 0] ![1, 1024, 1408] (inb4 J))
abbrev w5 (K : Fin 2) : FVec Ideal S1x1408x1024 .bf16 :=
  View.ld (iblk m c 5 t : Vec Ideal S2x1408x1024 .bf16) (Rect.unit (s := S2x1408x1024) ![K.val, 0, 0] ![1, 1408, 1024] (inb5 K))

theorem w3_at (S : Fin 4) (k : Fin 1408) : w3 m c t S (ix2 i k) = (args m c).h (up t i) ⟨S * 1408 + k, by omega⟩ :=
  (View.ld_unit_apply_of _ _ _ _ _ (ix2 i (⟨S * 1408 + k, by omega⟩ : Fin 5632)) (by refine Fin.forall_fin_two.mpr ⟨(Nat.zero_add _).symm, rfl⟩)).trans (blk3 m c _ t i)
theorem w4_at (J : Fin 4) (j : Fin 1024) (k : Fin 1408) : w4 m c t J (ix3 0 j k) = (args m c).wi j ⟨J * 1408 + k, by omega⟩ :=
  (View.ld_unit_apply_of _ _ _ _ _ _ (by refine Fin.forall_fin_succ.mpr ⟨rfl, Fin.forall_fin_two.mpr ⟨?_, ?_⟩⟩ <;> exact (Nat.zero_add _).symm)).trans (blk4 m c j k t J)
theorem w5_at (K : Fin 2) (j : Fin 1024) (k : Fin 1408) : w5 m c t K (ix3 0 k j) = (args m c).wo ⟨K * 1408 + k, by omega⟩ j :=
  (View.ld_unit_apply_of _ _ _ _ _ _ (by refine Fin.forall_fin_succ.mpr ⟨rfl, Fin.forall_fin_two.mpr ⟨?_, ?_⟩⟩ <;> exact (Nat.zero_add _).symm)).trans (blk5 m c j k t K)

theorem holds : Holds (args m c) (up t i) i (iblk m c 0 t) (iblk m c 1 t) (iblk m c 2 t) (w3 m c t 0) (w3 m c t 1) (w3 m c t 2) (w3 m c t 3)
    (w5 m c t 0) (w5 m c t 1) (w4 m c t 0) (w4 m c t 1) (w4 m c t 2) (w4 m c t 3) where
  dy j := blk0 m c j t i
  res j := blk1 m c j t i
  g j := blk2 m c j t
  g0 k := (w3_at m c t i 0 k).trans (inter_0 _ _ _ k _ (by simp))
  u0 k := (w3_at m c t i 1 k).trans (inter_1 _ _ _ k _ (by simp))
  g1 k := (w3_at m c t i 2 k).trans (inter_2 _ _ _ k _ (by simp))
  u1 k := (w3_at m c t i 3 k).trans (inter_3 _ _ _ k _ (by simp))
  o0 k j := (w5_at m c t 0 j k).trans (congrArg (fun q => (args m c).wo q j) (Fin.ext (by simp)))
  o1 k j := (w5_at m c t 1 j k).trans (congrArg (fun q => (args m c).wo q j) (Fin.ext (by simp)))
  w0 j k := (w4_at m c t 0 j k).trans (congrArg ((args m c).wi j) (Fin.ext (by simp)))
  w1 j k := (w4_at m c t 1 j k).trans (congrArg ((args m c).wi j) (Fin.ext (by simp)))
  w2 j k := (w4_at m c t 2 j k).trans (congrArg ((args m c).wi j) (Fin.ext (by simp)))
  w3 j k := (w4_at m c t 3 j k).trans (congrArg ((args m c).wi j) (Fin.ext (by simp; omega)))

/-- Two stretches of columns, stored one after the other. -/
theorem halves_stored (p q : FVec Ideal S256x1408 .bf16) (n : Fin 2816) (G : Fin 2816 → EReal)
    (hp : ∀ k, p (ix2 i k) = G (hi k)) (hq : ∀ k, q (ix2 i k) = G (lo k)) :
    View.canon (Val := Elt Ideal) [(⟨Rect.unit ![0, 1408] ![256, 1408] inb_S256x2816_S256x1408_0_1408, p⟩ : View.Piece (Elt Ideal) S256x2816 .bf16),
      ⟨Rect.unit ![0, 0] ![256, 1408] inb_S256x2816_S256x1408_0_0, q⟩] (ix2 i n) = G n := by
  canon_tiles x h
  all_goals
    obtain ⟨k, l, rfl⟩ : ∃ (k : Fin 256) (l : Fin 1408), x = ix2 k l := ⟨x 0, x 1, eq_ix2 x⟩
    obtain rfl : i = k := Fin.ext h0
  · exact (hp l).trans (congrArg G (Fin.ext h1.symm))
  · exact (hq l).trans (congrArg G (Fin.ext h1.symm))

/-- Four stretches of columns, stored one after the other. -/
theorem quarters (p q r s : FVec Ideal S256x1408 .bf16) (n : Fin 5632) (u v : Mat 2048 2816) (R : Fin 2048) (hp : ∀ k, p (ix2 i k) = v R (hi k))
    (hq : ∀ k, q (ix2 i k) = u R (hi k)) (hr : ∀ k, r (ix2 i k) = v R (lo k)) (hs : ∀ k, s (ix2 i k) = u R (lo k)) :
    View.canon (Val := Elt Ideal) [(⟨Rect.unit ![0, 4224] ![256, 1408] inb_S256x5632_S256x1408_0_4224, p⟩ : View.Piece (Elt Ideal) S256x5632 .bf16),
      ⟨Rect.unit ![0, 2816] ![256, 1408] inb_S256x5632_S256x1408_0_2816, q⟩, ⟨Rect.unit ![0, 1408] ![256, 1408] inb_S256x5632_S256x1408_0_1408, r⟩,
      ⟨Rect.unit ![0, 0] ![256, 1408] inb_S256x5632_S256x1408_0_0, s⟩] (ix2 i n) = inter u v R n := by
  canon_tiles x h
  all_goals
    obtain ⟨k, l, rfl⟩ : ∃ (k : Fin 256) (l : Fin 1408), x = ix2 k l := ⟨x 0, x 1, eq_ix2 x⟩
    obtain rfl : i = k := Fin.ext h0
  · exact (hp l).trans (inter_3 u v R l n h1).symm
  · exact (hq l).trans (inter_2 u v R l n h1).symm
  · exact (hr l).trans (inter_1 u v R l n h1).symm
  · exact (hs l).trans (inter_0 u v R l n h1).symm

/-- What a point leaves, whatever the row sums' buffers held. -/
theorem at_point : ∃ y10 y11, outs m c t.val t.isLt = left m c t y10 y11 := by
  by_cases h : t.val = 0
  · exact ⟨_, _, outs_first m c t h⟩
  · exact ⟨_, _, outs_later m c t h⟩

/-! ### The outputs that are written block by block -/

theorem emb6 (y : S256x1024.Idx) : ((View.whole main_v32_0).slice (win0_6.rect t)).emb y = ix2 (up t (y 0)) (y 1) := by
  unfold up; blk_ext [idx t]
theorem out6 (j) : (outs m c t.val t.isLt).o6 (ix2 i j) = (args m c).dx (up t i) j := by
  obtain ⟨y10, y11, e⟩ := at_point m c t
  rw [e]
  unfold left; dsimp only; unfold point
  frame_out
  exact dx_at (holds m c t i) j
theorem final6 : (dats m 0 c).arrAt 6 (cfgs 0).N = fun z : S2048x1024.Idx => (args m c).dx (z 0) (z 1) := by
  refine (dats m 0 c).arrAt_eq_of_covers 6 _ (by decide +kernel) fun t hf y => ?_
  blk_simp
  rw [after_6, emb6]
  obtain ⟨i, j, rfl⟩ : ∃ i j, y = ix2 i j := ⟨y 0, y 1, eq_ix2 y⟩
  exact out6 m c t i j

theorem emb7 (y : S256x5632.Idx) : ((View.whole main_v32_1).slice (win0_7.rect t)).emb y = ix2 (up t (y 0)) (y 1) := by
  unfold up; blk_ext [idx t]
theorem out7 (j) : (outs m c t.val t.isLt).o7 (ix2 i j) = (args m c).dh (up t i) j := by
  obtain ⟨y10, y11, e⟩ := at_point m c t
  rw [e]
  unfold left; dsimp only; unfold point
  frame_out
  exact quarters i _ _ _ _ j (args m c).dgate (args m c).dup (up t i) (dus1_at (holds m c t i)) (dgs1_at (holds m c t i)) (dus0_at (holds m c t i)) (dgs0_at (holds m c t i))
theorem final7 : (dats m 0 c).arrAt 7 (cfgs 0).N = fun z : S2048x5632.Idx => (args m c).dh (z 0) (z 1) := by
  refine (dats m 0 c).arrAt_eq_of_covers 7 _ (by decide +kernel) fun t hf y => ?_
  blk_simp
  rw [after_7, emb7]
  obtain ⟨i, j, rfl⟩ : ∃ i j, y = ix2 i j := ⟨y 0, y 1, eq_ix2 y⟩
  exact out7 m c t i j

theorem emb8 (y : S256x2816.Idx) : ((View.whole main_v32_2).slice (win0_8.rect t)).emb y = ix2 (up t (y 0)) (y 1) := by
  unfold up; blk_ext [idx t]
theorem out8 (j) : (outs m c t.val t.isLt).o8 (ix2 i j) = (args m c).act (up t i) j := by
  obtain ⟨y10, y11, e⟩ := at_point m c t
  rw [e]
  unfold left; dsimp only; unfold point
  frame_out
  exact halves_stored i _ _ j ((args m c).act (up t i)) (act1_at (holds m c t i)) (act0_at (holds m c t i))
theorem final8 : (dats m 0 c).arrAt 8 (cfgs 0).N = fun z : S2048x2816.Idx => (args m c).act (z 0) (z 1) := by
  refine (dats m 0 c).arrAt_eq_of_covers 8 _ (by decide +kernel) fun t hf y => ?_
  blk_simp
  rw [after_8, emb8]
  obtain ⟨i, j, rfl⟩ : ∃ i j, y = ix2 i j := ⟨y 0, y 1, eq_ix2 y⟩
  exact out8 m c t i j

theorem emb9 (y : S256x1024.Idx) : ((View.whole main_v32_3).slice (win0_9.rect t)).emb y = ix2 (up t (y 0)) (y 1) := by
  unfold up; blk_ext [idx t]
theorem out9 (j) : (outs m c t.val t.isLt).o9 (ix2 i j) = (args m c).df (up t i) j := by
  obtain ⟨y10, y11, e⟩ := at_point m c t
  rw [e]
  unfold left; dsimp only; unfold point
  frame_out
  exact df_at (holds m c t i) j
theorem final9 : (dats m 0 c).arrAt 9 (cfgs 0).N = fun z : S2048x1024.Idx => (args m c).df (z 0) (z 1) := by
  refine (dats m 0 c).arrAt_eq_of_covers 9 _ (by decide +kernel) fun t hf y => ?_
  blk_simp
  rw [after_9, emb9]
  obtain ⟨i, j, rfl⟩ : ∃ i j, y = ix2 i j := ⟨y 0, y 1, eq_ix2 y⟩
  exact out9 m c t i j

/-! ### The outputs that add up over the blocks -/

/-- A sum over the eight blocks' rows is a sum over all rows. -/
theorem sum_rows (f : Fin 2048 → EReal) : ∑ t : Fin cfg0.N, ∑ i : Fin 256, f (up t i) = ∑ r, f r := by
  rw [← Fin.sum_univ_one (fun _ : Fin 1 => ∑ r, f r)]
  refine Fin.sum_points_lanes_congr 8 fun t k ha hl => ?_
  have := lt_of_lt_of_eq t.isLt N_0
  exact congrArg f (Fin.ext (by simp only [up]; omega))

theorem later_point (t : Fin cfg0.N) (h : t.val ≠ 0) : (Scalar.cmpi .eq (BitVec.ofNat 32 (grid0.coords t 0).val) 0#32 : BitVec 1) ≠ 1#1 := by
  revert t; decide +kernel

theorem final10 : (dats m 0 c).arrAt 10 (cfgs 0).N = fun z : S1x1024.Idx => (args m c).dg (z 1) := by
  refine (dats m 0 c).arrAt_eq_of_after_last 10 t0_7 (by decide +kernel) _ fun y => ?_
  blk_simp
  rw [after_10, Pipeline.eq_sum_fin_of_reset_step_apply_last (fun n h => (outs m c n h).o10) 8 (fun _ => 0)
    (fun t y => ∑ i : Fin 256, (fun r => (args m c).dy r (y 1) * xhat ((args m c).res r) (y 1)) (up t i)) (fun t h y => ?_) (fun t h y => ?_) (le_of_eq N_0) t0_7 rfl y, zero_add]
  · exact sum_rows fun r => (args m c).dy r (y 1) * xhat ((args m c).res r) (y 1)
  · have h1 : t.val = 0 := by have := lt_of_lt_of_eq t.isLt N_0; omega
    obtain ⟨j, rfl⟩ : ∃ j, y = ix2 0 j := ⟨y 1, (eq_ix2 y).trans (congrArg (ix2 · _) (Subsingleton.elim _ _))⟩
    rw [outs_first m c t h1, left_10, pay6_at, if_pos (first_point t h1)]
    exact congrArg (0 + ·) (Finset.sum_congr rfl fun i _ => congrArg₂ (· * ·) (blk0 m c _ t i) (xh_at (holds m c t i) _))
  · have h1 : t.val ≠ 0 := by omega
    obtain ⟨j, rfl⟩ : ∃ j, y = ix2 0 j := ⟨y 1, (eq_ix2 y).trans (congrArg (ix2 · _) (Subsingleton.elim _ _))⟩
    rw [outs_later m c t h1, left_10, pay6_at, if_neg (later_point t h1)]
    exact congrArg (_ + ·) (Finset.sum_congr rfl fun i _ => congrArg₂ (· * ·) (blk0 m c _ t i) (xh_at (holds m c t i) _))

theorem final11 : (dats m 0 c).arrAt 11 (cfgs 0).N = fun z : S1x1024.Idx => (args m c).db (z 1) := by
  refine (dats m 0 c).arrAt_eq_of_after_last 11 t0_7 (by decide +kernel) _ fun y => ?_
  blk_simp
  rw [after_11, Pipeline.eq_sum_fin_of_reset_step_apply_last (fun n h => (outs m c n h).o11) 8 (fun _ => 0)
    (fun t y => ∑ i : Fin 256, (fun r => (args m c).dy r (y 1)) (up t i)) (fun t h y => ?_) (fun t h y => ?_) (le_of_eq N_0) t0_7 rfl y, zero_add]
  · exact sum_rows fun r => (args m c).dy r (y 1)
  · have h1 : t.val = 0 := by have := lt_of_lt_of_eq t.isLt N_0; omega
    obtain ⟨j, rfl⟩ : ∃ j, y = ix2 0 j := ⟨y 1, (eq_ix2 y).trans (congrArg (ix2 · _) (Subsingleton.elim _ _))⟩
    rw [outs_first m c t h1, left_11, pay7_at, if_pos (first_point t h1)]
    exact congrArg (0 + ·) (Finset.sum_congr rfl fun i _ => blk0 m c _ t i)
  · have h1 : t.val ≠ 0 := by omega
    obtain ⟨j, rfl⟩ : ∃ j, y = ix2 0 j := ⟨y 1, (eq_ix2 y).trans (congrArg (ix2 · _) (Subsingleton.elim _ _))⟩
    rw [outs_later m c t h1, left_11, pay7_at, if_neg (later_point t h1)]
    exact congrArg (_ + ·) (Finset.sum_congr rfl fun i _ => blk0 m c _ t i)

end Cert.Ffn.Run

end
-- ==== Proof.FfnRef.lean ====
/- The reference for the feed-forward layer: its results read at an index. -/
module

public import proofs.«01_k».proof.Proof.FfnMath
public import proofs.«01_k».proof.Proof.Gen.RefFfnIdeal.Run
public import Idealize.ShloMosaic.Lib.Pointwise

@[expose] public section

set_option maxRecDepth 16384

noncomputable section

namespace Cert.RefFfnIdeal.Value

open Cert.RefFfnIdeal Cert.RefFfnIdeal.Gen Idealize.ShloMosaic Idealize.ShloMosaic.TcCoe Idealize.SL.Sem
open Cert.Step Cert.Step.Ffn
open scoped BigOperators

variable (V0 : Valuation τ sig (Elt Ideal))

/-- The reference's arguments, read at their indices. -/
def args : Args where
  x i j := (V0 (Proc.devRef .tc main_arg0) : FVec Ideal S2048x1024 .f32) (ix2 i j)
  wi i j := (V0 (Proc.devRef .tc main_arg1) : FVec Ideal S1024x5632 .f32) (ix2 i j)
  wo i j := (V0 (Proc.devRef .tc main_arg2) : FVec Ideal S2816x1024 .f32) (ix2 i j)
  g j := (V0 (Proc.devRef .tc main_arg3) : FVec Ideal S1x1024 .f32) (ix2 0 j)
  dy i j := (V0 (Proc.devRef .tc main_arg4) : FVec Ideal S2048x1024 .f32) (ix2 i j)

variable (i : Fin 2048) (j : Fin 1024) (n : Fin 2816) (l : Fin 5632)

/-! ### The forward lines -/

theorem v3_at : (res_main_v3 V0 : FVec Ideal S2048x5632 .f32) (ix2 i l) = (args V0).gu i l := by
  pointwise [res_main_v3]
  rfl

theorem v6_at : (res_main_v6 V0 : FVec Ideal S2048x2816 .f32) (ix2 i n) = (args V0).gate i n := by
  pointwise [res_main_v6, res_main_v0]
  exact v3_at V0 i (fst n)

theorem v7_at : (res_main_v7 V0 : FVec Ideal S2048x2816 .f32) (ix2 i n) = (args V0).up i n := by
  pointwise [res_main_v7, res_main_v0]
  exact v3_at V0 i (snd n)

theorem v8_2_at : (res_main_v8_2 V0 : FVec Ideal S2048x2816 .f32) (ix2 i n) = sgm ((args V0).gate i n) := by
  pointwise [res_main_v8_2]
  rw [v6_at]

theorem v40_2_at : (res_main_v40_2 V0 : FVec Ideal S2048x2816 .f32) (ix2 i n) = sgm ((args V0).gate i n) := by
  pointwise [res_main_v40_2]
  rw [v6_at]

theorem v8_0_at : (res_main_v8_0 V0 : FVec Ideal S2048x2816 .f32) (ix2 i n) = (args V0).gate i n * sgm ((args V0).gate i n) := by
  pointwise [res_main_v8_0]
  rw [v6_at, v8_2_at]

theorem v40_0_at : (res_main_v40_0 V0 : FVec Ideal S2048x2816 .f32) (ix2 i n) = (args V0).gate i n * sgm ((args V0).gate i n) := by
  pointwise [res_main_v40_0]
  rw [v6_at, v40_2_at]

theorem v16_at : (res_main_v16 V0 : FVec Ideal S2048x1024 .f32) (ix2 i j) = (args V0).res i j := by
  pointwise [res_main_v16]
  simp only [v8_0_at, v7_at]
  rfl

/-! ### The layer norm's gradient -/

theorem v22_at : (res_main_v22 V0 : FVec Ideal S2048x1024 .f32) (ix2 i j) = cen ((args V0).res i) j := by
  pointwise [res_main_v22]
  simp only [v16_at]; rfl

theorem v29_at : (res_main_v29 V0 : FVec Ideal S2048x1 .f32) (ix2 i 0) = vareps ((args V0).res i) := by
  pointwise [res_main_v29]
  simp only [v22_at]; rfl

theorem v30_at : (res_main_v30 V0 : FVec Ideal S2048x1 .f32) (ix2 i 0) = rstd ((args V0).res i) := by
  pointwise [res_main_v30]
  rw [v29_at]; rfl

theorem v35_at : (res_main_v35 V0 : FVec Ideal S2048x1024 .f32) (ix2 i j) = xhat ((args V0).res i) j := by
  pointwise [res_main_v35]
  rw [v22_at, v30_at]; rfl

theorem v46_at : (res_main_v46 V0 : FVec Ideal S2048x1024 .f32) (ix2 i j) = (args V0).dy i j := by
  pointwise [res_main_v46]
  rfl

theorem v53_at : (res_main_v53 V0 : FVec Ideal S2048x1024 .f32) (ix2 i j) = (args V0).dxh i j := by
  pointwise [res_main_v53]
  rw [v46_at]; rfl

theorem v63_at : (res_main_v63 V0 : FVec Ideal S2048x1024 .f32) (ix2 i j) = sqG ((args V0).res i) ((args V0).dxh i) := by
  pointwise [res_main_v63]
  rw [Fin.sum_univ_one]
  simp only [v22_at, v53_at, v30_at, v29_at]
  rfl

theorem v67_at : (res_main_v67 V0 : FVec Ideal S2048x1024 .f32) (ix2 i j) = cenG ((args V0).res i) ((args V0).dxh i) j := by
  pointwise [res_main_v67]
  rw [v53_at, v30_at, v22_at, v63_at]; rfl

theorem v75_at : (res_main_v75 V0 : FVec Ideal S2048x1024 .f32) (ix2 i j) = bwdR ((args V0).res i) ((args V0).dxh i) j := by
  pointwise [res_main_v75]
  rw [Fin.sum_univ_one]
  simp only [v67_at]
  rfl

/-! ### The gradients -/

theorem v42_at : @Eq EReal ((res_main_v42 V0 : FVec Ideal S2048x2816 .f32) (ix2 i n)) 0 := by
  pointwise [res_main_v42]

theorem v44_at : @Eq EReal ((res_main_v44 V0 : FVec Ideal S2048x2816 .f32) (ix2 i n)) 0 := by
  pointwise [res_main_v44]
  rw [v42_at]
  exact zero_mul _

section
variable {V0} (h : (args V0).Finite)
include h

theorem v75_dr : (res_main_v75 V0 : FVec Ideal S2048x1024 .f32) (ix2 i j) = (args V0).dr i j := by
  rw [v75_at, Args.dr_eq h]

theorem v77_at : (res_main_v77 V0 : FVec Ideal S2048x1024 .f32) (ix2 i j) = (args V0).df i j := by
  pointwise [res_main_v77]
  rw [v75_dr _ _ h]; rfl

theorem v80_at : (res_main_v80 V0 : FVec Ideal S2048x2816 .f32) (ix2 i n) = (args V0).da i n := by
  pointwise [res_main_v80]
  simp only [v77_at _ _ h]
  rfl

theorem v82_at : (res_main_v82 V0 : FVec Ideal S2048x2816 .f32) (ix2 i n) = (args V0).dup i n := by
  pointwise [res_main_v82]
  rw [v42_at, v8_0_at, v80_at _ _ h, mul_zero, zero_add]
  exact EReal.mul_comm _ _

theorem v83_at : (res_main_v83 V0 : FVec Ideal S2048x2816 .f32) (ix2 i n) = (args V0).da i n * (args V0).up i n := by
  pointwise [res_main_v83]
  rw [v80_at _ _ h, v7_at]

theorem v85_at : (res_main_v85 V0 : FVec Ideal S2048x2816 .f32) (ix2 i n) = (args V0).dgate i n := by
  pointwise [res_main_v85]
  rw [v44_at, v83_at _ _ h, v8_2_at, v6_at, zero_mul, mul_zero, zero_mul, zero_add, zero_add]
  exact Args.dgate_eq h i n

theorem dx_eq : addf (mulf (broadcastInDim S2048x1024 ![] bcast_S_S2048x1024 (constant S_ .f32 0x3F9837F0#32)) (res_main_v75 V0)) (Host.dotGeneral (φ₁ := .f32) (φ₂ := .f32) dot_S2048x5632_S1024x5632_S2048x1024_1_1_0_0_n_n none (concatenate S2048x5632 1 [⟨S2048x2816, (res_main_v85 V0 : FVec Ideal S2048x2816 .f32)⟩, ⟨S2048x2816, (res_main_v82 V0 : FVec Ideal S2048x2816 .f32)⟩] concatenates_S2048x2816_S2048x2816_S2048x5632_d1) (V0 (Proc.devRef .tc main_arg1)))
    = fun z : S2048x1024.Idx => (args V0).dx (z 0) (z 1) := by
  funext z
  obtain ⟨i, j, rfl⟩ : ∃ i j, z = ix2 i j := ⟨z 0, z 1, eq_ix2 z⟩
  pointwise
  simp only [v75_dr _ _ h, v85_at _ _ h, v82_at _ _ h]
  rfl

theorem dh_eq : truncf (F := Ideal) .bf16 ((concatenate S2048x5632 1 [⟨S2048x1408, ((extractStridedSlice S2048x1408 ![0, 0] (res_main_v85 V0) slices_S2048x2816_S2048x1408_0_0) : (⟨S2048x1408, .f32⟩ : BufTy).Contents (Elt Ideal))⟩, ⟨S2048x1408, ((extractStridedSlice S2048x1408 ![0, 0] (res_main_v82 V0) slices_S2048x2816_S2048x1408_0_0) : (⟨S2048x1408, .f32⟩ : BufTy).Contents (Elt Ideal))⟩, ⟨S2048x1408, ((extractStridedSlice S2048x1408 ![0, 1408] (res_main_v85 V0) slices_S2048x2816_S2048x1408_0_1408) : (⟨S2048x1408, .f32⟩ : BufTy).Contents (Elt Ideal))⟩, ⟨S2048x1408, ((extractStridedSlice S2048x1408 ![0, 1408] (res_main_v82 V0) slices_S2048x2816_S2048x1408_0_1408) : (⟨S2048x1408, .f32⟩ : BufTy).Contents (Elt Ideal))⟩] concatenates_S2048x1408_S2048x1408_S2048x1408_S2048x1408_S2048x5632_d1 : (⟨S2048x5632, .f32⟩ : BufTy).Contents (Elt Ideal))) bitsLt_bf16_f32
    = fun z : S2048x5632.Idx => (args V0).dh (z 0) (z 1) := by
  funext z
  obtain ⟨i, l, rfl⟩ : ∃ i l, z = ix2 i l := ⟨z 0, z 1, eq_ix2 z⟩
  pointwise
  simp only [v85_at _ _ h, v82_at _ _ h]
  rfl

theorem a_eq : truncf (F := Ideal) .bf16 (φ := .f32) (mulf (res_main_v40_0 V0) (res_main_v7 V0)) bitsLt_bf16_f32 = fun z : S2048x2816.Idx => (args V0).act (z 0) (z 1) := by
  funext z
  obtain ⟨i, n, rfl⟩ : ∃ i n, z = ix2 i n := ⟨z 0, z 1, eq_ix2 z⟩
  pointwise
  rw [v40_0_at, v7_at]
  rfl

theorem df_eq : truncf (F := Ideal) .bf16 (φ := .f32) (res_main_v77 V0) bitsLt_bf16_f32 = fun z : S2048x1024.Idx => (args V0).df (z 0) (z 1) := by
  funext z
  obtain ⟨i, j, rfl⟩ : ∃ i j, z = ix2 i j := ⟨z 0, z 1, eq_ix2 z⟩
  pointwise
  exact v77_at _ _ h
end

theorem dg_eq : shapeCast _ (Host.reduceAdd (mulf (res_main_v35 V0) (res_main_v46 V0)) (constant S_ .f32 0x00000000#32) reducesTo_S2048x1024_S1024_d0 h_S_) shapeCasts_S1024_S1x1024 = fun z : S1x1024.Idx => (args V0).dg (z 1) := by
  funext z
  obtain ⟨z, j, rfl⟩ : ∃ (i : Fin 1) (j : Fin 1024), z = ix2 i j := ⟨z 0, z 1, eq_ix2 z⟩
  pointwise
  simp only [v35_at, v46_at]
  exact Finset.sum_congr rfl fun _ _ => mul_comm _ _

theorem db_eq : shapeCast _ (Host.reduceAdd (F := Ideal) (φ := .f32) (V0 (Proc.devRef .tc main_arg4)) (constant S_ .f32 0x00000000#32) reducesTo_S2048x1024_S1024_d0 h_S_) shapeCasts_S1024_S1x1024 = fun z : S1x1024.Idx => (args V0).db (z 1) := by
  funext z
  obtain ⟨z, j, rfl⟩ : ∃ (i : Fin 1) (j : Fin 1024), z = ix2 i j := ⟨z 0, z 1, eq_ix2 z⟩
  pointwise
  rfl

end Cert.RefFfnIdeal.Value

end
-- ==== Proof.FfnPair.lean ====
/- The feed-forward layer's backward kernel and its reference leave the same results. -/
module

public import proofs.«01_k».proof.Defs
public import proofs.«01_k».proof.Proof.FfnValue
public import proofs.«01_k».proof.Proof.FfnRef
public import proofs.«01_k».proof.Proof.Gen.Ffn
public import proofs.«01_k».proof.Proof.Gen.Pre_finite_ffn
public import Idealize.ShloMosaic.Lib.Quiescent
public import Idealize.ShloMosaic.Lib.Tactic

@[expose] public section

set_option maxRecDepth 16384

noncomputable section

namespace Cert.Proof.Ffn

open Cert.FfnIdeal Cert.FfnIdeal.Gen Idealize.ShloMosaic Idealize.ShloMosaic.TcCoe Idealize.SL.Sem
open Cert.Step Cert.Step.Ffn Cert.Ffn.Run
open scoped BigOperators

/-! ### The frames -/

/-- A named literal read as its bits. -/
@[reducible] def plain (F : FTy → Type) [FloatOps F] : Named F := ⟨fun _ _ {φ} b => Scalar.ofBits φ b⟩

theorem bits_eq : Cert.quiescent_Ffn = (letI := plain Bits; Quiet Bits) := by sl_kernel_rfl

theorem frame : Cert.quiescent_Ffn := bits_eq ▸ (letI := plain Bits; quiet Bits)

theorem frame_ref : Cert.quiescent_RefFfnIdeal :=
  fun m g _ => (θ_run _ _ _).mono (fun _ h => ⟨fun c => (h c).2.2.2.2.2.2, sem_eq_zero_of_no_sems rfl _⟩)
    (Cert.RefFfnIdeal.Value.run m g)

/-! ### The values -/

variable (m : (ℓ : Loc Cert.FfnIdeal.nD Cert.FfnIdeal.τ Cert.FfnIdeal.sig) → Buf (Elt Ideal) ℓ) (c : Dev Cert.FfnIdeal.nD)

theorem finite (h : Cert.Pre_FfnIdeal_finite_ffn m) : (args m c).Finite where
  x i j := IsR.of_cmp (congrFun (h c).1 (ix2 i j))
  wi i j := IsR.of_cmp (congrFun (h c).2.1 (ix2 i j))
  wo i j := IsR.of_cmp (congrFun (h c).2.2.1 (ix2 i j))
  g j := IsR.of_cmp (congrFun (h c).2.2.2.1 (ix2 0 j))
  dy i j := IsR.of_cmp (congrFun (h c).2.2.2.2 (ix2 i j))

theorem Args.ext' {a b : Args} (h0 : a.x = b.x) (h1 : a.wi = b.wi) (h2 : a.wo = b.wo) (h3 : a.g = b.g) (h4 : a.dy = b.dy) : a = b := by
  cases a; cases b
  simp only [Args.mk.injEq]
  exact ⟨h0, h1, h2, h3, h4⟩

theorem agree (m' : (ℓ : Loc Cert.RefFfnIdeal.nD Cert.RefFfnIdeal.τ Cert.RefFfnIdeal.sig) → Buf (Elt Ideal) ℓ)
    (h : ∀ c : Dev Cert.FfnIdeal.nD, m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0) ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1) ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2) ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3) ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)) :
    Cert.RefFfnIdeal.Value.args (StableHlo.launchContents m' c) = args m c :=
  Args.ext'
    (funext fun i => funext fun j => congrFun (h c).1 (ix2 i j))
    (funext fun i => funext fun j => congrFun (h c).2.1 (ix2 i j))
    (funext fun i => funext fun j => congrFun (h c).2.2.1 (ix2 i j))
    (funext fun j => congrFun (h c).2.2.2.1 (ix2 0 j))
    (funext fun i => funext fun j => congrFun (h c).2.2.2.2 (ix2 i j))

theorem post6 (r : PUnit × MemSt nD τ sig (Elt Ideal)) (h : Pipeline.FramePost cfgs (dats m) 0 (V m) r) :
    r.2.mem ((c : Thread nD τ).loc main_v32_0) = fun z : S2048x1024.Idx => (args m c).dx (z 0) (z 1) :=
  ((h c).1 6).trans (final6 m c)
theorem post7 (r : PUnit × MemSt nD τ sig (Elt Ideal)) (h : Pipeline.FramePost cfgs (dats m) 0 (V m) r) :
    r.2.mem ((c : Thread nD τ).loc main_v32_1) = fun z : S2048x5632.Idx => (args m c).dh (z 0) (z 1) :=
  ((h c).1 7).trans (final7 m c)
theorem post8 (r : PUnit × MemSt nD τ sig (Elt Ideal)) (h : Pipeline.FramePost cfgs (dats m) 0 (V m) r) :
    r.2.mem ((c : Thread nD τ).loc main_v32_2) = fun z : S2048x2816.Idx => (args m c).act (z 0) (z 1) :=
  ((h c).1 8).trans (final8 m c)
theorem post9 (r : PUnit × MemSt nD τ sig (Elt Ideal)) (h : Pipeline.FramePost cfgs (dats m) 0 (V m) r) :
    r.2.mem ((c : Thread nD τ).loc main_v32_3) = fun z : S2048x1024.Idx => (args m c).df (z 0) (z 1) :=
  ((h c).1 9).trans (final9 m c)
theorem post10 (r : PUnit × MemSt nD τ sig (Elt Ideal)) (h : Pipeline.FramePost cfgs (dats m) 0 (V m) r) :
    r.2.mem ((c : Thread nD τ).loc main_v32_4) = fun z : S1x1024.Idx => (args m c).dg (z 1) :=
  ((h c).1 10).trans (final10 m c)
theorem post11 (r : PUnit × MemSt nD τ sig (Elt Ideal)) (h : Pipeline.FramePost cfgs (dats m) 0 (V m) r) :
    r.2.mem ((c : Thread nD τ).loc main_v32_5) = fun z : S1x1024.Idx => (args m c).db (z 1) :=
  ((h c).1 11).trans (final11 m c)

theorem algebraic : Cert.algebraic_FfnIdeal_RefFfnIdeal_pre_finite_ffn := by
  intro m g m' g' hpre hagree
  refine ⟨fun c (z : S2048x1024.Idx) => (args m c).dx (z 0) (z 1),
    fun c (z : S2048x5632.Idx) => (args m c).dh (z 0) (z 1),
    fun c (z : S2048x2816.Idx) => (args m c).act (z 0) (z 1),
    fun c (z : S2048x1024.Idx) => (args m c).df (z 0) (z 1),
    fun c (z : S1x1024.Idx) => (args m c).dg (z 1),
    fun c (z : S1x1024.Idx) => (args m c).db (z 1),
    (θ_run _ _ _).mono (fun r h c => ?_) (θ_run_and ((θ_run defs _ _).mono (fun _ h => h.1) (run_main m g)) (quiet Ideal m g trivial)),
    (θ_run _ _ _).mono (fun r h c => ?_) (Cert.RefFfnIdeal.Value.run m' g')⟩
  · exact ⟨post6 m c r h.1, post7 m c r h.1, post8 m c r h.1, post9 m c r h.1, post10 m c r h.1, post11 m c r h.1, h.2.1 c⟩
  · obtain ⟨h0, h1, h2, h3, h4, h5, hr⟩ := h c
    have e : Cert.RefFfnIdeal.Value.args (StableHlo.launchContents m' c) = args m c := agree m c m' hagree
    have hf : (Cert.RefFfnIdeal.Value.args (StableHlo.launchContents m' c)).Finite := e ▸ finite m c hpre
    exact ⟨h0.trans ((Cert.RefFfnIdeal.Value.dx_eq hf).trans (by rw [e])),
      h1.trans ((Cert.RefFfnIdeal.Value.dh_eq hf).trans (by rw [e])),
      h2.trans ((Cert.RefFfnIdeal.Value.a_eq hf).trans (by rw [e])),
      h3.trans ((Cert.RefFfnIdeal.Value.df_eq hf).trans (by rw [e])),
      h4.trans ((Cert.RefFfnIdeal.Value.dg_eq _).trans (by rw [e])),
      h5.trans ((Cert.RefFfnIdeal.Value.db_eq _).trans (by rw [e])), hr⟩

end Cert.Proof.Ffn

end
-- ==== Proof.S5Run.lean ====
module

public import proofs.«01_k».proof.Proof.Gen.S5Ideal.Loops
public import proofs.«01_k».proof.Proof.Gen.S5Ideal.Points
public import Idealize.ShloMosaic.Lib.Pipeline.FrameBody
public import Idealize.ShloMosaic.Lib.Pipeline.Covers
public import Idealize.ShloMosaic.Lib.Ring
public import Idealize.ShloMosaic.Lib.WordCmp

@[expose] public section

set_option maxRecDepth 65536

noncomputable section

namespace Cert.S5.Run

open Cert.S5Ideal Cert.S5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- At every point exactly one of the kernel's two conditions holds: the first point of each block of results starts it,
    the others add to it. -/
theorem cond_cases (i : grid0.Coords) :
    (k0_cond1 i = 1#1 ∧ ¬ k0_cond2 i = 1#1) ∨ (¬ k0_cond1 i = 1#1 ∧ k0_cond2 i = 1#1) := by
  obtain ⟨t, rfl⟩ := grid0.coords_surjective i
  revert t; decide +kernel

/-- A whole staging buffer at some contents, read as the vector it then holds. -/
theorem some_owns (c : Dev nD) {S : Shape} {e : EltTy} (a : Memref sig .tc .vmem S e) (f) :
    iprop(a.view.loc (c : Thread nD τ) ↦[a.view.set]{fullShare} f)
      ⊢ (iprop(∃ d, ∃ f, ⌜a.view.read (Elt F) f = d⌝ ∗ (a.view.loc (c : Thread nD τ) ↦[a.view.set]{fullShare} f)) : sProp 𝕄) := by
  iintro H
  iexists (a.view.read (Elt F) f); iexists f
  isplitr
  · ipureintro; rfl
  iexact H

set_option maxHeartbeats 16000000 in
/-- The body at a point: on whole staging buffers holding the inputs' blocks, and anything at all in the results' buffers
    and in the two scratch buffers, it runs to its end and leaves the inputs as they were; the two buffers of the read-out
    matrix's gradient end at lists of stored pieces, which the run finds. -/
def run (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1x128x128 .bf16) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S2048x128 .f32) (harg11 : arg11.IsWhole) (arg12 : Memref sig .tc .vmem S1x128x128 .f32) (harg12 : arg12.IsWhole) (arg13 : Memref sig .tc .vmem S1x128x128 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S2064x128 .f32) (harg18 : arg18.IsWhole) (arg19 : Memref sig .tc .vmem S2064x128 .f32) (harg19 : arg19.IsWhole)
    (x0 : Vec F S2048x128 .bf16) (x1 : Vec F S2048x128 .bf16) (x2 : Vec F S2048x128 .bf16) (x3 : Vec F S2048x128 .bf16) (x4 : Vec F S2048x128 .bf16) (x5 : Vec F S2048x128 .bf16) (x6 : Vec F S1x128x128 .bf16) (x7 : Vec F S1x128x128 .bf16) (x8 : Vec F S1x128 .f32) (x9 : Vec F S1x128 .f32) :
    Σ' (L13 : List (View.Piece (Elt F) S1x128x128 .f32)), { L14 : List (View.Piece (Elt F) S1x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ f, arg18.view.loc (c : Thread nD τ) ↦[arg18.view.set]{fullShare} f) ∗ (∃ f, arg19.view.loc (c : Thread nD τ) ↦[arg19.view.set]{fullShare} f)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ d, owns (c : Thread nD τ) arg16 fullShare d) ∗ (∃ d, owns (c : Thread nD τ) arg17 fullShare d) ∗ (∃ f, arg18.view.loc (c : Thread nD τ) ↦[arg18.view.set]{fullShare} f) ∗ (∃ f, arg19.view.loc (c : Thread nD τ) ↦[arg19.view.set]{fullShare} f)) -∗ K ⟨⟩))
          ⊢ wp frame (wpE (defs₀ (F := F)) Variants.none c none) E (cc0_s5_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_s5_scan_bwd_eq_skeleton]; unfold cc0_s5_scan_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, H17⟩, ⟨%f18, H18⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    rcases cond_cases i with ⟨hc1, hc2⟩ | ⟨hc1, hc2⟩
    all_goals
      sl_exec (disch := first | sl_exact hc1 | sl_exact hc2)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; · ipureintro; exact harg10.read_unread _
        iexact H9
      isplitl [H10]; · iapply (some_owns c arg11); iexact H10
      isplitl [H11]; · iapply (some_owns c arg12); iexact H11
      isplitl [H12]; · iapply (some_owns c arg13); iexact H12
      isplitl [H13]; · iexists _; iexact H13
      isplitl [H14]; · iexists _; iexact H14
      isplitl [H15]; · iapply (some_owns c arg16); iexact H15
      isplitl [H16]; · iapply (some_owns c arg17); iexact H16
      isplitl [H17]; · iexists _; iexact H17
      iexists _; iexact H18

end Cert.S5.Run

end
-- ==== Proof.S5Host.lean ====
module

public import proofs.«01_k».proof.Proof.Gen.S5Ideal.Points
public import proofs.«01_k».proof.Proof.Gen.S5Ideal.Launch
public import Idealize.ShloMosaic.Lib.Pipeline.FrameBody
public import Idealize.ShloMosaic.Lib.StableHlo.RunRead
public import Idealize.ShloMosaic.Lib.Tactic

@[expose] public section

set_option maxRecDepth 65536

noncomputable section

namespace Cert.S5.Run

open Cert.S5Ideal Cert.S5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ)

/-- A core's buffers when the call is reached: what the host's operations make of the launch contents. -/
def V (c : Dev nD) (b : Ref sig .tc) : Buf (Elt F) ((c : Thread nD τ).loc b) :=
  StableHlo.after hostOps0 (fun b => m (c, b)) b

/-- The `k`-th array of the host's program: the eight arguments first, then one for every operation, in order. -/
def arr (k : Fin 835) : Ref sig .tc := ⟨.hbm, ⟨k.val, lt_of_lt_of_le k.isLt (by decide)⟩, rfl⟩

/-- The operations write the arrays after the eighth, one each. -/
theorem writes_eq : (hostOps0 : List (HloOp τ sig (Elt F))).map HloOp.writes
    = ((List.finRange 827).map fun k => arr ⟨k.val + 8, Nat.add_lt_add_right k.isLt 8⟩).map fun w => {Proc.devRef (τ := τ) .tc w} := by
  sl_kernel_rfl

theorem fresh_all : (hostOps0 : List (HloOp τ sig (Elt F))).Forall fun op => op.fresh = ∅ :=
  StableHlo.forall_fresh_of_map (by sl_kernel_rfl)

/-- So an argument is as it was launched. -/
theorem V_arg (c : Dev nD) (k : Fin 8) : V m c (arr ⟨k.val, lt_of_lt_of_le k.isLt (by decide)⟩)
    = m ((c : Thread nD τ).loc (arr ⟨k.val, lt_of_lt_of_le k.isLt (by decide)⟩)) :=
  StableHlo.after_unwritten _ writes_eq (fun h => by
    obtain ⟨j, -, hj⟩ := List.mem_map.mp h
    have := congrArg (fun r : Ref sig .tc => r.idx.val) hj
    simp only [arr] at this
    omega) _

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh_all main_chain

end Cert.S5.Run

end
-- ==== Proof.S5Frame.lean ====
module

public import proofs.«01_k».proof.Proof.S5Run
public import proofs.«01_k».proof.Proof.S5Host
public import Idealize.ShloMosaic.Lib.Quiescent
public import Idealize.ShloMosaic.Lib.Claim
public import Idealize.ShloMosaic.Lib.Pipeline.ValueKit
public import Idealize.ShloMosaic.Lib.Pipeline.ReadBack

@[expose] public section

set_option maxRecDepth 16384

noncomputable section

namespace Cert.S5.Run

open Cert.S5Ideal Cert.S5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The staging buffers at a point, as the pipeline passes them. -/

abbrev ms0 (t : Fin cfg0.N) : Memref sig .tc .vmem S2048x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S2048x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x128x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S1x128x128 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S1x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S1x128 .f32 := win0_16.stage (cfg0.slots t 16)
abbrev hs16 (t : Fin cfg0.N) : (ms16 t).IsWhole := hstage0_16 ((cfg0.slots t 16).cast nbuf0_16)
abbrev VO13 : View sig .tc .vmem S1x128x128 .f32 := (Memref.whole cc0_stg13_0 : Memref sig .tc .vmem S1x128x128 .f32).view
abbrev VO14 : View sig .tc .vmem S1x128x128 .f32 := (Memref.whole cc0_stg14_0 : Memref sig .tc .vmem S1x128x128 .f32).view
abbrev sc0 : Memref sig .tc .vmem S2064x128 .f32 := Memref.whole cc0_scratch0
abbrev sc1 : Memref sig .tc .vmem S2064x128 .f32 := Memref.whole cc0_scratch1

/-- A window's block of its array at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's run at a point, on the pipeline's own buffers and blocks. -/
def point (c : Dev nD) (t : Fin cfg0.N) :=
  run (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) sc0 (Memref.isWhole_whole _) sc1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)

/-! The pieces stored at a point fill the two blocks of the read-out matrix's gradient. -/

theorem cover_13 (c : Dev nD) (t : Fin cfg0.N) (y : S1x128x128.Idx) : ∃ pc ∈ (point m c t).1, y ∈ pc.1.set :=
  View.cover_of_tiledL (point m c t).1 S1x128x128.size (by sl_kernel_rfl) y
theorem cover_14 (c : Dev nD) (t : Fin cfg0.N) (y : S1x128x128.Idx) : ∃ pc ∈ (point m c t).2.1, y ∈ pc.1.set :=
  View.cover_of_tiledL (point m c t).2.1 S1x128x128.size (by sl_kernel_rfl) y

/-- The real part's block after a point: its pieces, read back; -/
def left_13 (c : Dev nD) (t : Fin cfg0.N) : Vec F S1x128x128 .f32 :=
  VO13.read (Elt F) (VO13.writes (Elt F) VO13.junk (point m c t).1)
/-- and the imaginary part's. -/
def left_14 (c : Dev nD) (t : Fin cfg0.N) : Vec F S1x128x128 .f32 :=
  VO14.read (Elt F) (VO14.writes (Elt F) VO14.junk (point m c t).2.1)

/-! ## The pipeline's data -/

/-- The results nothing is said of: what is asked of them is that they are stored somehow. -/
def unsaid (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => false
  | ⟨14, _⟩ => false
  | ⟨15, _⟩ => true
  | ⟨16, _⟩ => true
  | ⟨_ + 17, h⟩ => absurd h (Nat.not_lt.2 (Nat.le_add_left _ _))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => left_13 m c t
    | ⟨14, _⟩ => left_14 m c t
    | ⟨15, _⟩ => Pipeline.Dat.unnamed (cfg := cfg0) 15 t
    | ⟨16, _⟩ => Pipeline.Dat.unnamed (cfg := cfg0) 16 t
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_13 (c : Dev nD) (t : Fin cfg0.N) : (dats m 0 c).after 13 t = left_13 m c t := by dsimp only [dats]
theorem after_14 (c : Dev nD) (t : Fin cfg0.N) : (dats m 0 c).after 14 t = left_14 m c t := by dsimp only [dats]

/-! An input's buffer holds its block at every point. -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]) t d).trans
    (by unfold Dat.fetched Dat.blockOf iblk; rw [A_eq]; rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]) t d).trans
    (by unfold Dat.fetched Dat.blockOf iblk; rw [A_eq]; rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]) t d).trans
    (by unfold Dat.fetched Dat.blockOf iblk; rw [A_eq]; rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]) t d).trans
    (by unfold Dat.fetched Dat.blockOf iblk; rw [A_eq]; rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]) t d).trans
    (by unfold Dat.fetched Dat.blockOf iblk; rw [A_eq]; rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]) t d).trans
    (by unfold Dat.fetched Dat.blockOf iblk; rw [A_eq]; rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]) t d).trans
    (by unfold Dat.fetched Dat.blockOf iblk; rw [A_eq]; rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]) t d).trans
    (by unfold Dat.fetched Dat.blockOf iblk; rw [A_eq]; rfl)

/-! ## The body at a point -/

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare d)
    ∗ (∃ d, owns (c : Thread nD τ) (ms11 t) fullShare d)
    ∗ (∃ d, owns (c : Thread nD τ) (ms12 t) fullShare d)
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare d)
    ∗ (∃ d, owns (c : Thread nD τ) (ms16 t) fullShare d))

/-- and what it gives back. -/
def back (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ (∃ d, owns (c : Thread nD τ) (ms10 t) fullShare d)
    ∗ (∃ d, owns (c : Thread nD τ) (ms11 t) fullShare d)
    ∗ (∃ d, owns (c : Thread nD τ) (ms12 t) fullShare d)
    ∗ owns (c : Thread nD τ) (ms13 t) fullShare ((dats m 0 c).after 13 t)
    ∗ owns (c : Thread nD τ) (ms14 t) fullShare ((dats m 0 c).after 14 t)
    ∗ (∃ d, owns (c : Thread nD τ) (ms15 t) fullShare d)
    ∗ (∃ d, owns (c : Thread nD τ) (ms16 t) fullShare d))

/-- A scratch buffer, said as the body's run says it. -/
theorem scratch_eq (c : Dev nD) (b : Ref sig .tc) (f : Buf (Elt F) ((c : Thread nD τ).loc b)) :
    (iprop(((c : Thread nD τ).loc b) ↦{fullShare} f) : sProp 𝕄)
      = iprop((Memref.whole b).view.loc (c : Thread nD τ) ↦[(Memref.whole b).view.set]{fullShare} f) := by
  rw [show (Memref.whole b).view.set = Finset.univ from View.set_whole b]

set_option maxHeartbeats 8000000 in
/-- The body at any point runs from the one to the other. -/
theorem sound_body (c : Dev nD) (t : Fin cfg0.N) :
    given m c t ⊢ wp frame (wpE (defs₀ (F := F)) Variants.none c none) Set.univ (bodyAt0 t) (fun _ => back m c t) := by
  unfold given back bodyAt0
  simp only [before_0, before_1, before_2, before_3, before_4, before_5, before_6, before_7, before_8, before_9]
  rw [after_0, after_1, after_2, after_3, after_4, after_5, after_6, after_7, after_8, after_9, after_13, after_14]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  simp only [scratch_eq]
  iintro ⟨⟨⟨⟨%g0, G0⟩, ⟨%g1, G1⟩⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((point m c t).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [G0]; · iexists _; iexact G0
  isplitl [G1]; · iexists _; iexact G1
  iintro ⟨H0, H1, H2, H3, H4, H5, H6, H7, H8, H9, H10, H11, H12, ⟨%e13, H13⟩, ⟨%e14, H14⟩, H15, H16, G0, G1⟩
  isplitl [HΦ G0 G1]
  · isplitl [G0 G1]
    · isplitl [G0]; · iexact G0
      iexact G1
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact View.read_writes_of_cover _ _ _ _ _ (cover_13 m c t)
  isplitl [H14]
  · unfold owns; iexists _; isplitr; swap; · iexact H14
    ipureintro; exact View.read_writes_of_cover _ _ _ _ _ (cover_14 m c t)
  isplitl [H15]; · iexact H15
  iexact H16

theorem row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : BodyObligationLoose (dats (F := F) m 0 c) (defs₀ (F := F)) Variants.none () Set.univ unsaid := fun t => by
  rw [bigSep_W0, bigSep_W0, row]
  exact triple_restated (sound_body m c t) rfl .rfl fun _ => .rfl

/-! ## The run and the frame -/

/-- What every execution ends in: the two arrays of the read-out matrix's gradient as the pipeline's data say, the other
    results as they may be, every other buffer as the call found it. -/
abbrev Ends (r : PUnit × MemSt nD τ sig (Elt F)) : Prop :=
  RDat.FramePost cfg0 (fun c => (dats m 0 c).toRForget unsaid) (V m) r

set_option backward.isDefEq.respectTransparency.types false in
theorem run_main : θ_run defs (onTc (τ := τ) (main (F := F))) (s₀ m ρ) (fun r => Ends m r ∧ r.2.sem = fun _ => 0) :=
  Pipeline.θ_run_frame_forget (Q' := _) cfgs (dats m) (0 : Fin 1) launch0 defs₀ Variants.none unsaid m ρ main
    (hbody := fun c => body_obligation m c) (hshare := fun c => (dats m 0 c).share_full fun _ => rfl)
    (howed := fun _ _ => rfl) (V := V m) (hmain := hmain m Variants.none) (hA := A_eq m) (hΦ := fun _ _ => rfl)

/-- An argument is no window's array, and no scoped buffer. -/
theorem arg_rest : ∀ k : Fin 8, arr ⟨k.val, lt_of_lt_of_le k.isLt (by decide)⟩ ∈ Pipeline.restRefs sig spec0 := fun k =>
  Pipeline.mem_restRefs_of _ (by revert k; decide) (by revert k; decide)

theorem arg_same {r : PUnit × MemSt nD τ sig (Elt F)} (h : Ends m r) (c : Dev nD) (k : Fin 8) :
    r.2.mem ((c : Thread nD τ).loc (arr ⟨k.val, lt_of_lt_of_le k.isLt (by decide)⟩))
      = m ((c : Thread nD τ).loc (arr ⟨k.val, lt_of_lt_of_le k.isLt (by decide)⟩)) :=
  ((h c).2 _ (arg_rest k)).trans (V_arg m c k)

/-- What the frame says, of any float format. -/
def Quiet (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem quiet (F : FTy → Type) [FloatOps F] : Quiet F := fun m ρ _ =>
  (θ_run defs _ _).mono (fun _ h => ⟨fun c => ⟨arg_same m h.1 c 0, arg_same m h.1 c 1, arg_same m h.1 c 2, arg_same m h.1 c 3, arg_same m h.1 c 4, arg_same m h.1 c 5, arg_same m h.1 c 6, arg_same m h.1 c 7⟩, h.2⟩) (run_main m ρ)

end Cert.S5.Run

end
-- ==== Proof.S5Value.lean ====
/- The state-space scan's backward kernel: the read-out matrix's gradient it leaves. -/
module

public import proofs.«01_k».proof.Proof.S5Frame
public import Idealize.ShloMosaic.Lib.Pointwise

@[expose] public section

set_option maxRecDepth 16384

noncomputable section

namespace Cert.S5.Run

open Cert.S5Ideal Cert.S5Ideal.Gen Idealize.ShloMosaic Idealize.ShloMosaic.TcCoe Idealize.ShloMosaic.Tactic Idealize.SL.Sem
open Idealize.ShloMosaic.Pipeline
open scoped BigOperators

section
variable {F : FTy → Type} [FloatOps F] (m : (ℓ : Loc nD τ sig) → Buf (Elt F) ℓ) (c : Dev nD)

/-! ### The host's last lines -/

/-- The lines after the states are made. -/
def rest : List (HloOp τ sig (Elt F)) :=
  StableHlo.unary main_arg6 main_v727 ((truncf .bf16 · bitsLt_bf16_f32) : (⟨S2048x2048, .f32⟩ : BufTy).Contents (Elt F) → (⟨S2048x2048, .bf16⟩ : BufTy).Contents (Elt F))
  :: StableHlo.unary main_arg7 main_v728 ((truncf .bf16 · bitsLt_bf16_f32) : (⟨S2048x2048, .f32⟩ : BufTy).Contents (Elt F) → (⟨S2048x2048, .bf16⟩ : BufTy).Contents (Elt F))
  :: StableHlo.reshape main_v723 main_v729 (rfl : (.f32 : EltTy) = .f32) shapeCasts_S2048x32x64_S2048x2048
  :: StableHlo.unary main_v729 main_v730 ((truncf .bf16 · bitsLt_bf16_f32) : (⟨S2048x2048, .f32⟩ : BufTy).Contents (Elt F) → (⟨S2048x2048, .bf16⟩ : BufTy).Contents (Elt F))
  :: StableHlo.reshape main_v726 main_v731 (rfl : (.f32 : EltTy) = .f32) shapeCasts_S2048x32x64_S2048x2048
  :: StableHlo.unary main_v731 main_v732 ((truncf .bf16 · bitsLt_bf16_f32) : (⟨S2048x2048, .f32⟩ : BufTy).Contents (Elt F) → (⟨S2048x2048, .bf16⟩ : BufTy).Contents (Elt F))
  :: StableHlo.unary main_arg0 main_v733 ((truncf .bf16 · bitsLt_bf16_f32) : (⟨S2048x512, .f32⟩ : BufTy).Contents (Elt F) → (⟨S2048x512, .bf16⟩ : BufTy).Contents (Elt F))
  :: StableHlo.unary main_arg5 main_v734 ((truncf .bf16 · bitsLt_bf16_f32) : (⟨S2048x512, .f32⟩ : BufTy).Contents (Elt F) → (⟨S2048x512, .bf16⟩ : BufTy).Contents (Elt F))
  :: StableHlo.reshape main_arg1 main_v735 (rfl : (.f32 : EltTy) = .f32) shapeCasts_S32x64_S1x2048
  :: StableHlo.reshape main_arg2 main_v736 (rfl : (.f32 : EltTy) = .f32) shapeCasts_S32x64_S1x2048
  :: []

theorem rest_eq : (hostOps0 : List (HloOp τ sig (Elt F))).drop 817 = rest := by sl_kernel_rfl

/-- The buffers when the states have been made. -/
def made : Valuation τ sig (Elt F) := StableHlo.after (hostOps0.take 817) (fun b => m (c, b))

theorem V_rest (b : Ref sig .tc) : V m c b = StableHlo.after rest (made m c) (Proc.devRef .tc b) := by
  unfold V made
  rw [← rest_eq, ← StableHlo.after_append, List.take_append_drop]

theorem states_re : (V m c main_v730 : FVec F S2048x2048 .bf16)
    = truncf .bf16 (shapeCast S2048x2048 (V m c main_v723 : FVec F S2048x32x64 .f32) shapeCasts_S2048x32x64_S2048x2048) bitsLt_bf16_f32 := by
  rw [V_rest, V_rest]
  unfold rest
  after_results_simp
  rfl
theorem states_im : (V m c main_v732 : FVec F S2048x2048 .bf16)
    = truncf .bf16 (shapeCast S2048x2048 (V m c main_v726 : FVec F S2048x32x64 .f32) shapeCasts_S2048x32x64_S2048x2048) bitsLt_bf16_f32 := by
  rw [V_rest, V_rest]
  unfold rest
  after_results_simp
  rfl
theorem given_ds : (V m c main_v734 : FVec F S2048x512 .bf16)
    = truncf .bf16 (m ((c : Thread nD τ).loc main_arg5) : FVec F S2048x512 .f32) bitsLt_bf16_f32 := by
  have h : V m c main_arg5 = m ((c : Thread nD τ).loc main_arg5) := V_arg m c 5
  rw [← h, V_rest, V_rest]
  unfold rest
  after_results_simp
end

variable (m : (ℓ : Loc nD τ sig) → Buf (Elt Ideal) ℓ) (c : Dev nD)

/-! ### The blocks -/

attribute [local irreducible] V

/-- The states against the gradient of what is read out of them: the kernel's block `j`, at its row `a` and column `b`. -/
def grad (st : FVec Ideal S2048x32x64 .f32) (ds : FVec Ideal S2048x512 .f32) (j : Fin 16) (a b : Fin 128) : EReal :=
  ∑ t : Fin 2048, st (ix3 t ⟨2 * j.val + a.val / 64, by omega⟩ ⟨a.val % 64, by omega⟩) * ds (ix2 t ⟨128 * (j.val / 4) + b.val, by omega⟩)

/-- The grid's points are the sixteen blocks. -/
def bl (t : Fin cfg0.N) : Fin 16 := ⟨t.val, lt_of_lt_of_eq t.isLt N_0⟩

theorem idx : ∀ t : Fin cfg0.N, win0_2.index t = ![0, t.val] ∧ win0_3.index t = ![0, t.val] ∧ win0_5.index t = ![0, t.val / 4]
    ∧ win0_13.index t = ![t.val, 0, 0] ∧ win0_14.index t = ![t.val, 0, 0] :=
  (by decide +kernel : ∀ t : Fin grid0.N, _)

variable (t : Fin cfg0.N) (k : Fin 2048) (a b : Fin 128)

theorem read2 (A : FVec Ideal S2048x2048 .bf16) : (((cfg0.win 2).blk t).view.read (Elt Ideal) A : FVec Ideal S2048x128 .bf16) (ix2 k a)
    = A (ix2 k ⟨(bl t).val * 128 + a.val, by omega⟩) := by
  have e : ((View.whole main_v730).slice (win0_2.rect t)).emb (ix2 k a) = ix2 k ⟨(bl t).val * 128 + a.val, by omega⟩ := by unfold bl; blk_ext [idx t]
  exact congrArg A e
theorem read3 (A : FVec Ideal S2048x2048 .bf16) : (((cfg0.win 3).blk t).view.read (Elt Ideal) A : FVec Ideal S2048x128 .bf16) (ix2 k a)
    = A (ix2 k ⟨(bl t).val * 128 + a.val, by omega⟩) := by
  have e : ((View.whole main_v732).slice (win0_3.rect t)).emb (ix2 k a) = ix2 k ⟨(bl t).val * 128 + a.val, by omega⟩ := by unfold bl; blk_ext [idx t]
  exact congrArg A e
theorem read5 (A : FVec Ideal S2048x512 .bf16) : (((cfg0.win 5).blk t).view.read (Elt Ideal) A : FVec Ideal S2048x128 .bf16) (ix2 k b)
    = A (ix2 k ⟨(bl t).val / 4 * 128 + b.val, by omega⟩) := by
  have e : ((View.whole main_v734).slice (win0_5.rect t)).emb (ix2 k b) = ix2 k ⟨(bl t).val / 4 * 128 + b.val, by omega⟩ := by unfold bl; blk_ext [idx t]
  exact congrArg A e

theorem flat_at (st : FVec Ideal S2048x32x64 .f32) (j : Fin 16) :
    shapeCast S2048x2048 st shapeCasts_S2048x32x64_S2048x2048 (ix2 k ⟨j.val * 128 + a.val, by omega⟩)
      = st (ix3 k ⟨2 * j.val + a.val / 64, by omega⟩ ⟨a.val % 64, by omega⟩) := by
  pointwise
  exact congrArg₂ (fun p q => st (ix3 k p q)) (Fin.ext (by simp only; omega)) (Fin.ext (by simp only; omega))

theorem blk2 : (iblk m c 2 t : FVec Ideal S2048x128 .bf16) (ix2 k a)
    = (V m c main_v723 : FVec Ideal S2048x32x64 .f32) (ix3 k ⟨2 * (bl t).val + a.val / 64, by omega⟩ ⟨a.val % 64, by omega⟩) := by
  have e : (V m c main_v730 : FVec Ideal S2048x2048 .bf16) (ix2 k ⟨(bl t).val * 128 + a.val, by omega⟩)
      = (V m c main_v723 : FVec Ideal S2048x32x64 .f32) (ix3 k ⟨2 * (bl t).val + a.val / 64, by omega⟩ ⟨a.val % 64, by omega⟩) := by
    rw [states_re]
    exact flat_at k a _ (bl t)
  exact (read2 t k a (V m c main_v730)).trans e
theorem blk3 : (iblk m c 3 t : FVec Ideal S2048x128 .bf16) (ix2 k a)
    = (V m c main_v726 : FVec Ideal S2048x32x64 .f32) (ix3 k ⟨2 * (bl t).val + a.val / 64, by omega⟩ ⟨a.val % 64, by omega⟩) := by
  have e : (V m c main_v732 : FVec Ideal S2048x2048 .bf16) (ix2 k ⟨(bl t).val * 128 + a.val, by omega⟩)
      = (V m c main_v726 : FVec Ideal S2048x32x64 .f32) (ix3 k ⟨2 * (bl t).val + a.val / 64, by omega⟩ ⟨a.val % 64, by omega⟩) := by
    rw [states_im]
    exact flat_at k a _ (bl t)
  exact (read3 t k a (V m c main_v732)).trans e
theorem blk5 : (iblk m c 5 t : FVec Ideal S2048x128 .bf16) (ix2 k b)
    = (m ((c : Thread nD τ).loc main_arg5) : FVec Ideal S2048x512 .f32) (ix2 k ⟨128 * ((bl t).val / 4) + b.val, by omega⟩) := by
  unfold iblk
  refine ((read5 t k b (V m c main_v734)).trans (congrFun (given_ds m c) _)).trans ?_
  exact congrArg (fun q => (m ((c : Thread nD τ).loc main_arg5) : FVec Ideal S2048x512 .f32) (ix2 k q)) (Fin.ext (by simp only; omega))

/-! ### The products -/

theorem pay132_at (x y : FVec Ideal S2048x128 .bf16) : k0_pay132 (F := Ideal) x y (ix3 0 a b) = ∑ k : Fin 2048, y (ix2 k a) * x (ix2 k b) := by
  pointwise [k0_pay132, k0_pay131]
theorem pay133_at (x y : FVec Ideal S2048x128 .bf16) : k0_pay133 (F := Ideal) x y (ix3 0 a b) = ∑ k : Fin 2048, y (ix2 k a) * x (ix2 k b) := by
  pointwise [k0_pay133, k0_pay131]

theorem out13 : left_13 m c t (ix3 0 a b) = grad (V m c main_v723) (m ((c : Thread nD τ).loc main_arg5)) (bl t) a b := by
  have e : left_13 m c t (ix3 0 a b) = k0_pay132 (F := Ideal) (iblk m c 5 t) (iblk m c 2 t) (ix3 0 a b) := by
    unfold left_13; dsimp only; unfold point
    frame_out
  rw [e, pay132_at]
  exact Finset.sum_congr rfl fun k _ => congrArg₂ (· * ·) (blk2 m c t k a) (blk5 m c t k b)
theorem out14 : left_14 m c t (ix3 0 a b) = grad (V m c main_v726) (m ((c : Thread nD τ).loc main_arg5)) (bl t) a b := by
  have e : left_14 m c t (ix3 0 a b) = k0_pay133 (F := Ideal) (iblk m c 5 t) (iblk m c 3 t) (ix3 0 a b) := by
    unfold left_14; dsimp only; unfold point
    frame_out
  rw [e, pay133_at]
  exact Finset.sum_congr rfl fun k _ => congrArg₂ (· * ·) (blk3 m c t k a) (blk5 m c t k b)

theorem emb13 (y : S1x128x128.Idx) : ((View.whole main_v737_3).slice (win0_13.rect t)).emb y = ix3 (bl t) (y 1) (y 2) := by
  unfold bl; blk_ext [idx t]
theorem emb14 (y : S1x128x128.Idx) : ((View.whole main_v737_4).slice (win0_14.rect t)).emb y = ix3 (bl t) (y 1) (y 2) := by
  unfold bl; blk_ext [idx t]

theorem final13 : (dats m 0 c).arrAt 13 (cfgs 0).N
    = fun z : S16x128x128.Idx => grad (V m c main_v723) (m ((c : Thread nD τ).loc main_arg5)) (z 0) (z 1) (z 2) := by
  refine (dats m 0 c).arrAt_eq_of_covers 13 _ (by decide +kernel) fun t hf y => ?_
  blk_simp
  rw [after_13, emb13]
  obtain ⟨i, a, b, rfl⟩ : ∃ i a b, y = ix3 i a b := ⟨y 0, y 1, y 2, eq_ix3 y⟩
  obtain rfl : i = 0 := Subsingleton.elim _ _
  exact out13 m c t a b
theorem final14 : (dats m 0 c).arrAt 14 (cfgs 0).N
    = fun z : S16x128x128.Idx => grad (V m c main_v726) (m ((c : Thread nD τ).loc main_arg5)) (z 0) (z 1) (z 2) := by
  refine (dats m 0 c).arrAt_eq_of_covers 14 _ (by decide +kernel) fun t hf y => ?_
  blk_simp
  rw [after_14, emb14]
  obtain ⟨i, a, b, rfl⟩ : ∃ i a b, y = ix3 i a b := ⟨y 0, y 1, y 2, eq_ix3 y⟩
  obtain rfl : i = 0 := Subsingleton.elim _ _
  exact out14 m c t a b

end Cert.S5.Run

end
-- ==== Proof.S5Sim.lean ====
/- Two straight lines of host operations that compute the same arrays under shifted numbers. -/
module

public import Idealize.ShloMosaic.Lib.StableHlo.RunRead

@[expose] public section

noncomputable section

namespace Cert.S5.Sim

open Idealize.ShloMosaic Idealize.ShloMosaic.TcCoe Idealize.ShloMosaic.StableHlo

variable {τ τ' : Topo} {sig sig' : RefSig} {Val : EltTy → Type}

/-- The number, in the first program, of the array the second numbers `k`: the eight arguments keep theirs, every later
    array stands eighteen further on. -/
def shift (k : ℕ) : ℕ := bif Nat.blt k 8 then k else k + 18

/-- Two arrays that stand for each other. -/
structure Pair (a : Ref sig .tc) (a' : Ref sig' .tc) : Prop where
  hbm : a.space = .hbm
  hbm' : a'.space = .hbm
  place : a.idx.val = shift a'.idx.val
  ty : a.ty = a'.ty

/-- The arrays numbered below `n` hold the same in both programs. -/
def Agree (n : ℕ) (v : Valuation τ sig Val) (v' : Valuation τ' sig' Val) : Prop :=
  ∀ (a : Ref sig .tc) (a' : Ref sig' .tc), Pair a a' → a'.idx.val < n → HEq (v (Proc.devRef .tc a)) (v' (Proc.devRef .tc a'))

/-- From agreement below `n` the two lines lead to agreement below `k`. -/
def Sim (n k : ℕ) (ops : List (HloOp τ sig Val)) (ops' : List (HloOp τ' sig' Val)) : Prop :=
  ∀ v v', Agree n v v' → Agree k (after ops v) (after ops' v')

theorem ref_eq {s : RefSig} {a b : Ref s .tc} (ha : a.space = .hbm) (hb : b.space = .hbm) (h : a.idx.val = b.idx.val) : a = b := by
  obtain ⟨sa, ia, na⟩ := a
  obtain ⟨sb, ib, nb⟩ := b
  simp only at ha hb h
  subst ha; subst hb
  obtain rfl := Fin.ext h
  rfl

theorem shift_inj {i j : ℕ} (h : shift i = shift j) : i = j := by
  unfold shift at h
  cases hi : Nat.blt i 8 <;> cases hj : Nat.blt j 8 <;> simp only [hi, hj, cond_true, cond_false] at h <;>
    simp only [Nat.blt_eq, ← Bool.not_eq_true, not_lt] at hi hj <;> omega

/-- One operation of each, writing arrays that stand for each other and leaving the same there. -/
theorem Agree.step {n : ℕ} {v : Valuation τ sig Val} {v' : Valuation τ' sig' Val} (h : Agree n v v')
    {op : HloOp τ sig Val} {op' : HloOp τ' sig' Val} {y : Ref sig .tc} {y' : Ref sig' .tc}
    (hw : op.writes = {Proc.devRef .tc y}) (hw' : op'.writes = {Proc.devRef .tc y'}) (py : Pair y y') (ly : y'.idx.val = n)
    (hr : HEq (op.result v (Proc.devRef .tc y)) (op'.result v' (Proc.devRef .tc y'))) :
    Agree (y'.idx.val + 1) (op.result v) (op'.result v') := by
  intro a a' pa la
  by_cases e : a'.idx.val = y'.idx.val
  · obtain rfl := ref_eq pa.hbm' py.hbm' e
    obtain rfl := ref_eq pa.hbm py.hbm (pa.place.trans py.place.symm)
    exact hr
  · have ne' : a' ≠ y' := fun h => e (by rw [h])
    have ne : a ≠ y := fun h => e (shift_inj (pa.place.symm.trans (by rw [h]; exact py.place)))
    rw [op.result_of_not_mem v (by rw [hw, Finset.mem_singleton]; exact devRef_ne_of_ne ne),
      op'.result_of_not_mem v' (by rw [hw', Finset.mem_singleton]; exact devRef_ne_of_ne ne')]
    exact h a a' pa (by omega)

theorem app1 {A A' B B' : Type} {f : A → B} {f' : A' → B'} {x : A} {x' : A'} (hA : A = A') (hB : B = B')
    (hf : HEq f f') (hx : HEq x x') : HEq (f x) (f' x') := by
  subst hA; subst hB; cases hf; cases hx; rfl

theorem app2 {A A' B B' C C' : Type} {f : A → B → C} {f' : A' → B' → C'} {x : A} {x' : A'} {y : B} {y' : B'}
    (hA : A = A') (hB : B = B') (hC : C = C') (hf : HEq f f') (hx : HEq x x') (hy : HEq y y') : HEq (f x y) (f' x' y') := by
  subst hA; subst hB; subst hC; cases hf; cases hx; cases hy; rfl

/-- Row-major reordering, of contents of one type to contents of another. -/
def recast (T S : BufTy) (he : T.elt = S.elt) (hn : T.shape.ShapeCasts S.shape) (x : T.Contents Val) : S.Contents Val :=
  fun i => he ▸ shapeCast S.shape x hn i

theorem recast_heq {T T' S S' : BufTy} {he he' hn hn'} {x : T.Contents Val} {x' : T'.Contents Val} (hT : T = T') (hS : S = S')
    (hx : HEq x x') : HEq (recast T S he hn x) (recast T' S' he' hn' x') := by
  subst hT; subst hS; cases hx; rfl

theorem con {T S : BufTy} (h : T = S) : T.Contents Val = S.Contents Val := by rw [h]

variable {n k : ℕ} {ops : List (HloOp τ sig Val)} {ops' : List (HloOp τ' sig' Val)}

theorem Sim.stop (h : n = k) : Sim (Val := Val) (τ := τ) (τ' := τ') (sig := sig) (sig' := sig') n k [] [] := h ▸ fun _ _ a => a

/-- An operation of the first program alone, writing an array that stands for none. -/
theorem Sim.left {op : HloOp τ sig Val} {y : Ref sig .tc} (hw : op.writes = {Proc.devRef .tc y})
    (hy : ∀ i < n, shift i ≠ y.idx.val) (h : Sim n k ops ops') : Sim n k (op :: ops) ops' := fun v v' a =>
  h _ _ fun b b' pb lb => by
    rw [op.result_of_not_mem v (by
      rw [hw, Finset.mem_singleton]
      exact devRef_ne_of_ne fun e => hy _ lb (pb.place.symm.trans (by rw [e])))]
    exact a b b' pb lb

/-- An operation of the second alone, writing an array not asked for. -/
theorem Sim.right {op : HloOp τ' sig' Val} {y : Ref sig' .tc} (hw : op.writes = {Proc.devRef .tc y})
    (hy : n ≤ y.idx.val) (h : Sim n k ops ops') : Sim n k ops (op :: ops') := fun v v' a =>
  h _ _ fun b b' pb lb => by
    rw [op.result_of_not_mem v' (by
      rw [hw, Finset.mem_singleton]
      exact devRef_ne_of_ne fun e => absurd lb (by rw [e]; exact Nat.not_lt.mpr hy))]
    exact a b b' pb lb

theorem Sim.nullary {y : Ref sig .tc} {y' : Ref sig' .tc} {f : y.ty.Contents Val} {f' : y'.ty.Contents Val} {qy qy'}
    (py : Pair y y') (ly : y'.idx.val = n) (hf : HEq f f') (h : Sim (y'.idx.val + 1) k ops ops') :
    Sim n k (StableHlo.nullary y f qy :: ops) (StableHlo.nullary y' f' qy' :: ops') := fun v v' a =>
  h _ _ (a.step rfl rfl py ly (by rw [nullary_result', nullary_result']; exact hf))

theorem Sim.unary {x y : Ref sig .tc} {x' y' : Ref sig' .tc} {f : x.ty.Contents Val → y.ty.Contents Val}
    {f' : x'.ty.Contents Val → y'.ty.Contents Val} {qx qy qx' qy'}
    (px : Pair x x') (lx : x'.idx.val < n) (py : Pair y y') (ly : y'.idx.val = n) (hf : HEq f f')
    (h : Sim (y'.idx.val + 1) k ops ops') :
    Sim n k (StableHlo.unary x y f qx qy :: ops) (StableHlo.unary x' y' f' qx' qy' :: ops') := fun v v' a =>
  h _ _ (a.step rfl rfl py ly (by
    rw [unary_result', unary_result']
    exact app1 (con px.ty) (con py.ty) hf (a x x' px lx)))

theorem Sim.binary {x z y : Ref sig .tc} {x' z' y' : Ref sig' .tc} {f : x.ty.Contents Val → z.ty.Contents Val → y.ty.Contents Val}
    {f' : x'.ty.Contents Val → z'.ty.Contents Val → y'.ty.Contents Val} {qx qz qy qx' qz' qy'}
    (px : Pair x x') (lx : x'.idx.val < n) (pz : Pair z z') (lz : z'.idx.val < n) (py : Pair y y') (ly : y'.idx.val = n)
    (hf : HEq f f') (h : Sim (y'.idx.val + 1) k ops ops') :
    Sim n k (StableHlo.binary x z y f qx qz qy :: ops) (StableHlo.binary x' z' y' f' qx' qz' qy' :: ops') := fun v v' a =>
  h _ _ (a.step rfl rfl py ly (by
    rw [binary_result', binary_result']
    exact app2 (con px.ty) (con pz.ty) (con py.ty) hf (a x x' px lx) (a z z' pz lz)))

theorem Sim.reshape {x y : Ref sig .tc} {x' y' : Ref sig' .tc} {he hn he' hn' qx qy qx' qy'}
    (px : Pair x x') (lx : x'.idx.val < n) (py : Pair y y') (ly : y'.idx.val = n) (h : Sim (y'.idx.val + 1) k ops ops') :
    Sim n k (StableHlo.reshape x y he hn qx qy :: ops) (StableHlo.reshape x' y' he' hn' qx' qy' :: ops') := fun v v' a =>
  h _ _ (a.step rfl rfl py ly (by
    rw [reshape_result', reshape_result']
    exact recast_heq (he := he) (hn := hn) (he' := he') (hn' := hn') px.ty py.ty (a x x' px lx)))

end Cert.S5.Sim

end
-- ==== Proof.S5States.lean ====
/- The states both programs make on the host are the same. -/
module

public import proofs.«01_k».proof.Proof.S5Sim
public import proofs.«01_k».proof.Proof.Gen.S5Ideal.Launch
public import proofs.«01_k».proof.Proof.Gen.RefS5Ideal.Run

@[expose] public section

set_option maxRecDepth 65536

noncomputable section

namespace Cert.S5.Sim

open Idealize.ShloMosaic Idealize.ShloMosaic.TcCoe Idealize.ShloMosaic.StableHlo

variable {F : FTy → Type} [FloatOps F]

attribute [local irreducible] StableHlo.nullary StableHlo.unary StableHlo.binary StableHlo.reshape StableHlo.after Sim Agree

set_option maxHeartbeats 0 in
/-- The kernel's host line begins with eighteen operations of its own; then both make the states by the same operations,
    one for one. -/
theorem states : Sim 8 807 (Cert.S5Ideal.Gen.hostOps0 : List (HloOp Cert.S5Ideal.τ Cert.S5Ideal.sig (Elt F)))
    (Cert.RefS5Ideal.Value.ops : List (HloOp Cert.RefS5Ideal.τ Cert.RefS5Ideal.sig (Elt F))) := by
  iterate 18
    first
      | refine Sim.left (StableHlo.unary_writes ..) (by decide) ?_
      | refine Sim.left (StableHlo.reshape_writes ..) (by decide) ?_
      | refine Sim.left (StableHlo.nullary_writes ..) (by decide) ?_
      | refine Sim.left (StableHlo.binary_writes ..) (by decide) ?_
  iterate 799
    first
      | refine Sim.binary (by exact ⟨rfl, rfl, rfl, rfl⟩) (by exact Nat.le_of_ble_eq_true rfl)
          (by exact ⟨rfl, rfl, rfl, rfl⟩) (by exact Nat.le_of_ble_eq_true rfl) (by exact ⟨rfl, rfl, rfl, rfl⟩) (by exact rfl) (by exact HEq.rfl) ?_
      | refine Sim.unary (by exact ⟨rfl, rfl, rfl, rfl⟩) (by exact Nat.le_of_ble_eq_true rfl)
          (by exact ⟨rfl, rfl, rfl, rfl⟩) (by exact rfl) (by exact HEq.rfl) ?_
      | refine Sim.nullary (by exact ⟨rfl, rfl, rfl, rfl⟩) (by exact rfl) (by exact HEq.rfl) ?_
      | refine Sim.reshape (by exact ⟨rfl, rfl, rfl, rfl⟩) (by exact Nat.le_of_ble_eq_true rfl)
          (by exact ⟨rfl, rfl, rfl, rfl⟩) (by exact rfl) ?_
  iterate 10
    first
      | refine Sim.left (StableHlo.unary_writes ..) (by decide) ?_
      | refine Sim.left (StableHlo.reshape_writes ..) (by decide) ?_
  iterate 21
    first
      | refine Sim.right (StableHlo.unary_writes ..) (by decide) ?_
      | refine Sim.right (StableHlo.reshape_writes ..) (by decide) ?_
      | refine Sim.right (StableHlo.nullary_writes ..) (by decide) ?_
      | refine Sim.right (StableHlo.binary_writes ..) (by decide) ?_
  exact Sim.stop rfl

end Cert.S5.Sim

end
-- ==== Proof.S5Ref.lean ====
/- The reference for the state-space scan's backward kernel: its results read at an index. -/
module

public import proofs.«01_k».proof.Proof.Gen.RefS5Ideal.Run
public import Idealize.ShloMosaic.Lib.Pointwise

@[expose] public section

set_option maxRecDepth 16384

noncomputable section

namespace Cert.RefS5Ideal.Value

open Cert.RefS5Ideal Cert.RefS5Ideal.Gen Idealize.ShloMosaic Idealize.ShloMosaic.TcCoe Idealize.ShloMosaic.StableHlo Idealize.SL.Sem
open scoped BigOperators

section
variable {F : FTy → Type} [FloatOps F] (V0 : Valuation τ sig (Elt F))

/-! ### The states the host's lines leave -/

set_option maxHeartbeats 2000000 in
theorem state_re : after ops V0 (Proc.devRef .tc main_v707) = res_main_v707 V0 := by
  rw [after_ops]
  unfold val14
  simp only [ops_part13]
  after_results_simp
  simp only [val13_main_v665, val13_main_v696] <;> rfl
set_option maxHeartbeats 2000000 in
theorem state_im : after ops V0 (Proc.devRef .tc main_v710) = res_main_v710 V0 := by
  rw [after_ops]
  unfold val14
  simp only [ops_part13]
  after_results_simp
  simp only [val13_main_v668, val13_main_v698] <;> rfl
end

/-! ### The gradient -/

/-- What each result is of the states and of the gradient of what is read out of them. -/
def readOut (st : FVec Ideal S2048x32x64 .f32) (ds : FVec Ideal S2048x512 .f32) : FVec Ideal S16x128x128 .f32 :=
  shapeCast _ (broadcastInDim S16x128x8x16 ![0, 1, 2, 3] bcast_S16x128x1x16_S16x128x8x16_0_1_2_3 (shapeCast S16x128x1x16 (transpose S32x64x16 [0, 2, 1] (Host.dotGeneral (φ₁ := .f32) (φ₂ := .f32) dot_S32x2048x16_S2048x32x64_S32x16x64_1_0_2_2_0_1 none (transpose S32x2048x16 [1, 0, 2] (shapeCast S2048x32x16 ds shapeCasts_S2048x512_S2048x32x16) transposes_S2048x32x16_S32x2048x16_1_0_2) st) transposes_S32x16x64_S32x64x16_0_2_1) shapeCasts_S32x64x16_S16x128x1x16)) shapeCasts_S16x128x8x16_S16x128x128

theorem readOut_at (st : FVec Ideal S2048x32x64 .f32) (ds : FVec Ideal S2048x512 .f32) (j : Fin 16) (a b : Fin 128) : readOut st ds (ix3 j a b)
    = ∑ t : Fin 2048, ds (ix2 t ⟨(j.val * 2 + a.val / 64) * 16 + b.val % 16, by omega⟩)
        * st (ix3 t ⟨j.val * 2 + a.val / 64, by omega⟩ ⟨a.val % 64, by omega⟩) := by
  pointwise [readOut]

end Cert.RefS5Ideal.Value

end
-- ==== Proof.S5Tie.lean ====
/- The states the kernel is given are the reference's. -/
module

public import proofs.«01_k».proof.Proof.S5States
public import proofs.«01_k».proof.Proof.S5Ref
public import proofs.«01_k».proof.Proof.S5Host

@[expose] public section

set_option maxRecDepth 16384

noncomputable section

namespace Cert.S5.Sim

open Idealize.ShloMosaic Idealize.ShloMosaic.TcCoe Idealize.ShloMosaic.StableHlo

section
open Cert.S5Ideal

/-- With the same arguments the two programs begin alike. -/
theorem begins {Val : EltTy → Type} {v : Valuation Cert.S5Ideal.τ Cert.S5Ideal.sig Val} {v' : Valuation Cert.RefS5Ideal.τ Cert.RefS5Ideal.sig Val}
    (h : ∀ k : Fin 8, ∀ (a : Ref Cert.S5Ideal.sig .tc) (a' : Ref Cert.RefS5Ideal.sig .tc), Pair a a' → a'.idx.val = k.val →
      HEq (v (Proc.devRef .tc a)) (v' (Proc.devRef .tc a'))) : Agree 8 v v' :=
  fun a a' p l => h ⟨_, l⟩ a a' p rfl

theorem one {Val : EltTy → Type} {v : Valuation Cert.S5Ideal.τ Cert.S5Ideal.sig Val} {v' : Valuation Cert.RefS5Ideal.τ Cert.RefS5Ideal.sig Val}
    {b : Ref Cert.S5Ideal.sig .tc} {b' : Ref Cert.RefS5Ideal.sig .tc} (q : Pair b b')
    (h : HEq (v (Proc.devRef .tc b)) (v' (Proc.devRef .tc b'))) {a : Ref Cert.S5Ideal.sig .tc} {a' : Ref Cert.RefS5Ideal.sig .tc} (p : Pair a a')
    (e : a'.idx.val = b'.idx.val) : HEq (v (Proc.devRef .tc a)) (v' (Proc.devRef .tc a')) := by
  obtain rfl := ref_eq p.hbm' q.hbm' e
  obtain rfl := ref_eq p.hbm q.hbm (p.place.trans q.place.symm)
  exact h
end

variable {F : FTy → Type} [FloatOps F]
  (m : (ℓ : Loc Cert.S5Ideal.nD Cert.S5Ideal.τ Cert.S5Ideal.sig) → Buf (Elt F) ℓ)
  (m' : (ℓ : Loc Cert.RefS5Ideal.nD Cert.RefS5Ideal.τ Cert.RefS5Ideal.sig) → Buf (Elt F) ℓ) (c : Dev Cert.S5Ideal.nD)

/-- The two launches give the same arguments. -/
abbrev Same : Prop :=
  m' ((c.tc : Thread Cert.RefS5Ideal.nD Cert.RefS5Ideal.τ).loc Cert.RefS5Ideal.main_arg0) = m ((c.tc : Thread Cert.S5Ideal.nD Cert.S5Ideal.τ).loc Cert.S5Ideal.main_arg0)
  ∧ m' ((c.tc : Thread Cert.RefS5Ideal.nD Cert.RefS5Ideal.τ).loc Cert.RefS5Ideal.main_arg1) = m ((c.tc : Thread Cert.S5Ideal.nD Cert.S5Ideal.τ).loc Cert.S5Ideal.main_arg1)
  ∧ m' ((c.tc : Thread Cert.RefS5Ideal.nD Cert.RefS5Ideal.τ).loc Cert.RefS5Ideal.main_arg2) = m ((c.tc : Thread Cert.S5Ideal.nD Cert.S5Ideal.τ).loc Cert.S5Ideal.main_arg2)
  ∧ m' ((c.tc : Thread Cert.RefS5Ideal.nD Cert.RefS5Ideal.τ).loc Cert.RefS5Ideal.main_arg3) = m ((c.tc : Thread Cert.S5Ideal.nD Cert.S5Ideal.τ).loc Cert.S5Ideal.main_arg3)
  ∧ m' ((c.tc : Thread Cert.RefS5Ideal.nD Cert.RefS5Ideal.τ).loc Cert.RefS5Ideal.main_arg4) = m ((c.tc : Thread Cert.S5Ideal.nD Cert.S5Ideal.τ).loc Cert.S5Ideal.main_arg4)
  ∧ m' ((c.tc : Thread Cert.RefS5Ideal.nD Cert.RefS5Ideal.τ).loc Cert.RefS5Ideal.main_arg5) = m ((c.tc : Thread Cert.S5Ideal.nD Cert.S5Ideal.τ).loc Cert.S5Ideal.main_arg5)
  ∧ m' ((c.tc : Thread Cert.RefS5Ideal.nD Cert.RefS5Ideal.τ).loc Cert.RefS5Ideal.main_arg6) = m ((c.tc : Thread Cert.S5Ideal.nD Cert.S5Ideal.τ).loc Cert.S5Ideal.main_arg6)
  ∧ m' ((c.tc : Thread Cert.RefS5Ideal.nD Cert.RefS5Ideal.τ).loc Cert.RefS5Ideal.main_arg7) = m ((c.tc : Thread Cert.S5Ideal.nD Cert.S5Ideal.τ).loc Cert.S5Ideal.main_arg7)

theorem starts (h : Same m m' c) : Agree 8 (fun b => m (c, b) : Valuation Cert.S5Ideal.τ Cert.S5Ideal.sig (Elt F)) (launchContents m' c) := by
  obtain ⟨h0, h1, h2, h3, h4, h5, h6, h7⟩ := h
  refine begins fun k a a' p e => ?_
  fin_cases k
  · refine one (v := fun b => m (c, b)) (v' := launchContents m' c) (b := Cert.S5Ideal.main_arg0) (b' := Cert.RefS5Ideal.main_arg0) ⟨rfl, rfl, rfl, rfl⟩ ?_ p e
    exact heq_of_eq h0.symm
  · refine one (v := fun b => m (c, b)) (v' := launchContents m' c) (b := Cert.S5Ideal.main_arg1) (b' := Cert.RefS5Ideal.main_arg1) ⟨rfl, rfl, rfl, rfl⟩ ?_ p e
    exact heq_of_eq h1.symm
  · refine one (v := fun b => m (c, b)) (v' := launchContents m' c) (b := Cert.S5Ideal.main_arg2) (b' := Cert.RefS5Ideal.main_arg2) ⟨rfl, rfl, rfl, rfl⟩ ?_ p e
    exact heq_of_eq h2.symm
  · refine one (v := fun b => m (c, b)) (v' := launchContents m' c) (b := Cert.S5Ideal.main_arg3) (b' := Cert.RefS5Ideal.main_arg3) ⟨rfl, rfl, rfl, rfl⟩ ?_ p e
    exact heq_of_eq h3.symm
  · refine one (v := fun b => m (c, b)) (v' := launchContents m' c) (b := Cert.S5Ideal.main_arg4) (b' := Cert.RefS5Ideal.main_arg4) ⟨rfl, rfl, rfl, rfl⟩ ?_ p e
    exact heq_of_eq h4.symm
  · refine one (v := fun b => m (c, b)) (v' := launchContents m' c) (b := Cert.S5Ideal.main_arg5) (b' := Cert.RefS5Ideal.main_arg5) ⟨rfl, rfl, rfl, rfl⟩ ?_ p e
    exact heq_of_eq h5.symm
  · refine one (v := fun b => m (c, b)) (v' := launchContents m' c) (b := Cert.S5Ideal.main_arg6) (b' := Cert.RefS5Ideal.main_arg6) ⟨rfl, rfl, rfl, rfl⟩ ?_ p e
    exact heq_of_eq h6.symm
  · refine one (v := fun b => m (c, b)) (v' := launchContents m' c) (b := Cert.S5Ideal.main_arg7) (b' := Cert.RefS5Ideal.main_arg7) ⟨rfl, rfl, rfl, rfl⟩ ?_ p e
    exact heq_of_eq h7.symm

theorem same_re (h : Same m m' c) : (Cert.S5.Run.V m c Cert.S5Ideal.main_v723 : FVec F Cert.S5Ideal.S2048x32x64 .f32)
    = (Cert.RefS5Ideal.Value.res_main_v707 (launchContents m' c) : FVec F Cert.RefS5Ideal.S2048x32x64 .f32) :=
  (eq_of_heq (states _ _ (starts m m' c h) Cert.S5Ideal.main_v723 Cert.RefS5Ideal.main_v707 ⟨rfl, rfl, rfl, rfl⟩ (by exact Nat.le_of_ble_eq_true rfl))).trans
    (Cert.RefS5Ideal.Value.state_re _)
theorem same_im (h : Same m m' c) : (Cert.S5.Run.V m c Cert.S5Ideal.main_v726 : FVec F Cert.S5Ideal.S2048x32x64 .f32)
    = (Cert.RefS5Ideal.Value.res_main_v710 (launchContents m' c) : FVec F Cert.RefS5Ideal.S2048x32x64 .f32) :=
  (eq_of_heq (states _ _ (starts m m' c h) Cert.S5Ideal.main_v726 Cert.RefS5Ideal.main_v710 ⟨rfl, rfl, rfl, rfl⟩ (by exact Nat.le_of_ble_eq_true rfl))).trans
    (Cert.RefS5Ideal.Value.state_im _)

end Cert.S5.Sim

end
-- ==== Proof.S5Pair.lean ====
/- The state-space scan's backward kernel and its reference: what they leave, and that it is the same. -/
module

public import proofs.«01_k».proof.Defs
public import proofs.«01_k».proof.Proof.S5Value
public import proofs.«01_k».proof.Proof.S5Tie
public import proofs.«01_k».proof.Proof.Gen.S5
public import proofs.«01_k».proof.Proof.Gen.On_diagonal_s5
public import Idealize.ShloMosaic.Lib.Quiescent
public import Idealize.ShloMosaic.Lib.Tactic

@[expose] public section

set_option maxRecDepth 16384

noncomputable section

namespace Cert.Proof.S5

open Cert.S5Ideal Cert.S5Ideal.Gen Idealize.ShloMosaic Idealize.ShloMosaic.TcCoe Idealize.SL.Sem
open Cert.S5.Run
open scoped BigOperators

/-! ### The frames -/

/-- A named literal read as its bits. -/
@[reducible] def plain (F : FTy → Type) [FloatOps F] : Named F := ⟨fun _ _ {φ} b => Scalar.ofBits φ b⟩

theorem bits_eq : Cert.quiescent_S5 = (letI := plain Bits; Quiet Bits) := by sl_kernel_rfl

theorem frame : Cert.quiescent_S5 := bits_eq ▸ (letI := plain Bits; quiet Bits)

theorem frame_ideal : Cert.quiescent_S5Ideal := quiet Ideal

theorem frame_ref : Cert.quiescent_RefS5Ideal :=
  fun m g _ => (θ_run _ _ _).mono (fun _ h => ⟨fun c => (h c).2.2, sem_eq_zero_of_no_sems rfl _⟩)
    (Cert.RefS5Ideal.Value.run m g)

/-! ### The mask -/

section

theorem quot16 : ∀ b : Fin 128, Cert.On_diagonal_s5.fn_floor_divide (F := Ideal) (fun _ => BitVec.ofNat 32 b.val) (constantI S_ 32 16#32) (ix3 0 0 0)
    = BitVec.ofNat 32 (b.val / 16) := by decide +kernel
theorem quot64 : ∀ a : Fin 128, Cert.On_diagonal_s5.fn_floor_divide (F := Ideal) (fun _ => BitVec.ofNat 32 a.val) (constantI S_ 32 64#32) (ix3 0 0 0)
    = BitVec.ofNat 32 (a.val / 64) := by decide +kernel
theorem rem4 : ∀ j : Fin 16, 2#32 * Cert.On_diagonal_s5.fn_remainder (F := Ideal) (fun _ => BitVec.ofNat 32 j.val) (constantI S_ 32 4#32) (ix3 0 0 0)
    = BitVec.ofNat 32 (2 * (j.val % 4)) := by decide +kernel

variable (a0 : FVec Ideal S2048x512 .f32) (a1 a2 : FVec Ideal S32x64 .f32) (a3 a4 : FVec Ideal S32x64x16 .f32) (a5 : FVec Ideal S2048x512 .f32)
  (a6 a7 : FVec Ideal S2048x2048 .f32) (j : Fin 16) (a b : Fin 128)

theorem fn_at : (Cert.On_diagonal_s5.fn (F := Ideal) a0 a1 a2 a3 a4 a5 a6 a7).1 (ix3 j a b)
    = BitVec.ofBool (Cert.On_diagonal_s5.fn_floor_divide (F := Ideal) (fun _ => BitVec.ofNat 32 b.val) (constantI S_ 32 16#32) (ix3 0 0 0)
      == 2#32 * Cert.On_diagonal_s5.fn_remainder (F := Ideal) (fun _ => BitVec.ofNat 32 j.val) (constantI S_ 32 4#32) (ix3 0 0 0)
        + Cert.On_diagonal_s5.fn_floor_divide (F := Ideal) (fun _ => BitVec.ofNat 32 a.val) (constantI S_ 32 64#32) (ix3 0 0 0)) := by sl_kernel_rfl

/-- Where the mask holds, a column's group is its row's. -/
theorem mask (h : (Cert.On_diagonal_s5.fn (F := Ideal) a0 a1 a2 a3 a4 a5 a6 a7).1 (ix3 j a b) = 1#1) : b.val / 16 = 2 * (j.val % 4) + a.val / 64 := by
  rw [fn_at, quot16, quot64, rem4, ← BitVec.ofNat_add] at h
  have e : BitVec.ofNat 32 (b.val / 16) = BitVec.ofNat 32 (2 * (j.val % 4) + a.val / 64) := by
    by_contra hne
    rw [beq_eq_false_iff_ne.mpr hne] at h
    exact absurd h (by decide)
  have e' := congrArg BitVec.toNat e
  rw [BitVec.toNat_ofNat, BitVec.toNat_ofNat] at e'
  omega
end

/-! ### The values -/

theorem grad_eq (st : FVec Ideal S2048x32x64 .f32) (ds : FVec Ideal S2048x512 .f32) (j : Fin 16) (a b : Fin 128)
    (h : b.val / 16 = 2 * (j.val % 4) + a.val / 64) : Cert.RefS5Ideal.Value.readOut st ds (ix3 j a b) = grad st ds j a b := by
  rw [Cert.RefS5Ideal.Value.readOut_at]
  refine Finset.sum_congr rfl fun t _ => (mul_comm _ _).trans (congrArg₂ (· * ·) ?_ ?_)
  · exact congrArg (fun q => st (ix3 t q _)) (Fin.ext (by simp only; omega))
  · exact congrArg (fun q => ds (ix2 t q)) (Fin.ext (by simp only; omega))

variable (m : (ℓ : Loc Cert.S5Ideal.nD Cert.S5Ideal.τ Cert.S5Ideal.sig) → Buf (Elt Ideal) ℓ) (c : Dev Cert.S5Ideal.nD)

theorem post13 (r : PUnit × MemSt nD τ sig (Elt Ideal)) (h : Ends m r) : r.2.mem ((c : Thread nD τ).loc main_v737_3)
    = fun z : S16x128x128.Idx => grad (V m c main_v723) (m ((c : Thread nD τ).loc main_arg5)) (z 0) (z 1) (z 2) :=
  (((dats m 0 c).toRForget_arrAt_iff (fgt := unsaid) (w := 13) rfl _ _).mp ((h c).1 13)).trans (final13 m c)
theorem post14 (r : PUnit × MemSt nD τ sig (Elt Ideal)) (h : Ends m r) : r.2.mem ((c : Thread nD τ).loc main_v737_4)
    = fun z : S16x128x128.Idx => grad (V m c main_v726) (m ((c : Thread nD τ).loc main_arg5)) (z 0) (z 1) (z 2) :=
  (((dats m 0 c).toRForget_arrAt_iff (fgt := unsaid) (w := 14) rfl _ _).mp ((h c).1 14)).trans (final14 m c)

theorem algebraic : Cert.algebraic_S5Ideal_RefS5Ideal_on_diagonal_s5 := by
  intro m g m' g' hpre hagree
  refine ⟨fun c (z : S16x128x128.Idx) => grad (V m c main_v723) (m ((c : Thread nD τ).loc main_arg5)) (z 0) (z 1) (z 2),
    fun c (z : S16x128x128.Idx) => grad (V m c main_v726) (m ((c : Thread nD τ).loc main_arg5)) (z 0) (z 1) (z 2),
    (θ_run _ _ _).mono (fun r h c => ?_) (θ_run_and ((θ_run defs _ _).mono (fun _ h => h.1) (run_main m g)) (quiet Ideal m g trivial)),
    (θ_run _ _ _).mono (fun r h c => ?_) (Cert.RefS5Ideal.Value.run m' g')⟩
  · exact ⟨fun i _ => congrFun (post13 m c r h.1) i, fun i _ => congrFun (post14 m c r h.1) i, h.2.1 c⟩
  · obtain ⟨h0, h1, hr⟩ := h c
    have hs : Cert.S5.Sim.Same m m' c := hagree c
    have diag {j : Fin 16} {a b : Fin 128} := mask (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) j a b
    refine ⟨fun i hi => ?_, fun i hi => ?_, hr⟩
    · obtain ⟨j, a, b, rfl⟩ : ∃ (j : Fin 16) (a b : Fin 128), i = ix3 j a b := ⟨i 0, i 1, i 2, eq_ix3 i⟩
      refine (congrFun h0 _).trans ?_
      refine Eq.trans ?_ (grad_eq _ _ j a b (diag hi))
      rw [Cert.S5.Sim.same_re m m' c hs, ← hs.2.2.2.2.2.1]
      rfl
    · obtain ⟨j, a, b, rfl⟩ : ∃ (j : Fin 16) (a b : Fin 128), i = ix3 j a b := ⟨i 0, i 1, i 2, eq_ix3 i⟩
      refine (congrFun h1 _).trans ?_
      refine Eq.trans ?_ (grad_eq _ _ j a b (diag hi))
      rw [Cert.S5.Sim.same_im m m' c hs, ← hs.2.2.2.2.2.1]
      rfl

end Cert.Proof.S5

end
-- ==== Proof.FwdPay.lean ====
/- The feed-forward layer's forward kernel, payload by payload, read at an index of a block whose operands
   hold one row of the arguments. -/
module

public import proofs.«01_k».proof.Proof.FfnMath
public import proofs.«01_k».proof.Proof.Gen.FwdIdeal.Skeleton
public import Idealize.ShloMosaic.Lib.Pipeline.ValueKit
public import Idealize.ShloMosaic.Lib.Pointwise
public import Idealize.ShloMosaic.Lib.Claim

@[expose] public section

set_option maxRecDepth 16384

noncomputable section

namespace Cert.Step.Ffn.Args

open Idealize.ShloMosaic Cert.Step Cert.Step.Ffn
open scoped BigOperators

variable (a : Args)

/-- The sum under the layer norm as a tile adds it, stretch by stretch. -/
def tiles : Mat 2048 1024 := fun i j => alpha * a.x i j + half * (∑ k, a.act i (lo k) * a.wo (lo k) j) + half * ∑ k, a.act i (hi k) * a.wo (hi k) j

/-- The layer's output. -/
def out (b : Row) : Mat 2048 1024 := fun i j => xhat (a.res i) j * a.g j + b j

theorem tiles_eq (hx : ∀ i j, IsR (a.x i j)) (hi' : ∀ i j, IsR (a.wi i j)) (ho : ∀ i j, IsR (a.wo i j)) : a.tiles = a.res := by
  have gu (i) (l) : IsR (a.gu i l) := IsR.sum _ fun k => (hx i k).mul (hi' k l)
  have act (i) (n) : IsR (a.act i n) := ((gu i _).mul (IsR.sigmoid _)).mul (gu i _)
  funext i j
  obtain ⟨p, hp⟩ : IsR (∑ k, a.act i (lo k) * a.wo (lo k) j) := IsR.sum _ fun k => (act i _).mul (ho _ _)
  obtain ⟨q, hq⟩ : IsR (∑ k, a.act i (hi k) * a.wo (hi k) j) := IsR.sum _ fun k => (act i _).mul (ho _ _)
  obtain ⟨s, hs⟩ := half_isR
  rw [tiles, res, halves, hp, hq, hs, add_assoc]
  simp only [← EReal.coe_mul, ← EReal.coe_add, mul_add]

end Cert.Step.Ffn.Args

namespace Cert.Fwd.Pay

open Cert.FwdIdeal Cert.FwdIdeal.Gen Idealize.ShloMosaic Idealize.ShloMosaic.TcCoe Idealize.SL.Sem
open Idealize.ShloMosaic.Pipeline
open Cert.Step Cert.Step.Ffn
open scoped BigOperators

/-- What one row of the operands holds. -/
structure Holds (a : Args) (r : Fin 2048) (i : Fin 256) (v : FVec Ideal S256x1024 .f32) (o0 o1 : FVec Ideal S1x1408x1024 .bf16)
    (w0 w1 w2 w3 : FVec Ideal S1x1024x1408 .bf16) (g : FVec Ideal S1x1024 .f32) : Prop where
  x : ∀ j, v (ix2 i j) = a.x r j
  o0 : ∀ k j, o0 (ix3 0 k j) = a.wo (lo k) j
  o1 : ∀ k j, o1 (ix3 0 k j) = a.wo (hi k) j
  w0 : ∀ j k, w0 (ix3 0 j k) = a.wi j (fst (lo k))
  w1 : ∀ j k, w1 (ix3 0 j k) = a.wi j (fst (hi k))
  w2 : ∀ j k, w2 (ix3 0 j k) = a.wi j (snd (lo k))
  w3 : ∀ j k, w3 (ix3 0 j k) = a.wi j (snd (hi k))
  g : ∀ j, g (ix2 0 j) = a.g j

variable {a : Args} {r : Fin 2048} {i : Fin 256} {v : FVec Ideal S256x1024 .f32} {o0 o1 : FVec Ideal S1x1408x1024 .bf16}
  {w0 w1 w2 w3 : FVec Ideal S1x1024x1408 .bf16} {g : FVec Ideal S1x1024 .f32} (h : Holds a r i v o0 o1 w0 w1 w2 w3 g) (j : Fin 1024) (k : Fin 1408)
include h

theorem xb_at : k0_pay5 (F := Ideal) v (ix2 i j) = a.x r j := by
  pointwise [k0_pay5]
  exact h.x j
theorem xs_at : k0_pay6 (F := Ideal) v (ix2 i j) = a.x r j := by
  pointwise [k0_pay6]
  exact xb_at h j

/-! ### The first stretch -/

theorem gate0_at : k0_pay7 (F := Ideal) v w0 (ix2 i k) = a.gate r (lo k) := by
  pointwise [k0_pay7]
  simp only [xb_at h, h.w0]; rfl
theorem up0_at : k0_pay8 (F := Ideal) v w2 (ix2 i k) = a.up r (lo k) := by
  pointwise [k0_pay8]
  simp only [xb_at h, h.w2]; rfl
theorem gs0_at : k0_pay9 (F := Ideal) v w0 (ix2 i k) = a.gate r (lo k) := by
  pointwise [k0_pay9]
  exact gate0_at h k
theorem us0_at : k0_pay10 (F := Ideal) v w2 (ix2 i k) = a.up r (lo k) := by
  pointwise [k0_pay10]
  exact up0_at h k
theorem acc0_at : k0_pay11 (F := Ideal) v w0 w2 o0 (ix2 i j) = alpha * a.x r j + half * ∑ k, a.act r (lo k) * a.wo (lo k) j := by
  pointwise [k0_pay11]
  simp only [gate0_at h, up0_at h, h.o0, h.x]; rfl

/-! ### The second stretch -/

theorem gate1_at : k0_pay12 (F := Ideal) (k0_pay5 (F := Ideal) v) w1 (ix2 i k) = a.gate r (hi k) := by
  pointwise [k0_pay12]
  simp only [xb_at h, h.w1]; rfl
theorem up1_at : k0_pay13 (F := Ideal) (k0_pay5 (F := Ideal) v) w3 (ix2 i k) = a.up r (hi k) := by
  pointwise [k0_pay13]
  simp only [xb_at h, h.w3]; rfl
theorem gs1_at : k0_pay14 (F := Ideal) (k0_pay5 (F := Ideal) v) w1 (ix2 i k) = a.gate r (hi k) := by
  pointwise [k0_pay14]
  exact gate1_at h k
theorem us1_at : k0_pay15 (F := Ideal) (k0_pay5 (F := Ideal) v) w3 (ix2 i k) = a.up r (hi k) := by
  pointwise [k0_pay15]
  exact up1_at h k

/-! ### The sum, and its layer norm -/

theorem res_at : k0_pay16 (F := Ideal) (k0_pay5 (F := Ideal) v) (k0_pay11 (F := Ideal) v w0 w2 o0) w1 w3 o1 (ix2 i j) = a.tiles r j := by
  pointwise [k0_pay16]
  simp only [acc0_at h, gate1_at h, up1_at h, h.o1]; rfl
theorem ress_at : k0_pay2 (F := Ideal) (k0_pay16 (F := Ideal) (k0_pay5 (F := Ideal) v) (k0_pay11 (F := Ideal) v w0 w2 o0) w1 w3 o1) (ix2 i j) = a.tiles r j := by
  pointwise [k0_pay2]
  exact res_at h j
theorem cen_at : k0_pay17 (F := Ideal) (k0_pay5 (F := Ideal) v) (k0_pay11 (F := Ideal) v w0 w2 o0) w1 w3 o1 (ix2 i j) = cen (a.tiles r) j := by
  pointwise [k0_pay17]
  simp only [res_at h]; rfl
theorem rstd_at : k0_pay18 (F := Ideal) (k0_pay5 (F := Ideal) v) (k0_pay11 (F := Ideal) v w0 w2 o0) w1 w3 o1 (ix2 i j) = rstd (a.tiles r) := by
  pointwise [k0_pay18]
  simp only [cen_at h]; rfl

variable (b : FVec Ideal S1x1024 .f32)

theorem out_at : k0_pay1 (F := Ideal) (k0_pay17 (F := Ideal) (k0_pay5 (F := Ideal) v) (k0_pay11 (F := Ideal) v w0 w2 o0) w1 w3 o1)
    (k0_pay18 (F := Ideal) (k0_pay5 (F := Ideal) v) (k0_pay11 (F := Ideal) v w0 w2 o0) w1 w3 o1) g b (ix2 i j)
      = xhat (a.tiles r) j * a.g j + b (ix2 0 j) := by
  pointwise [k0_pay1]
  rw [cen_at h, rstd_at h, h.g]; rfl
theorem outs_at : k0_pay3 (F := Ideal) (k0_pay17 (F := Ideal) (k0_pay5 (F := Ideal) v) (k0_pay11 (F := Ideal) v w0 w2 o0) w1 w3 o1)
    (k0_pay18 (F := Ideal) (k0_pay5 (F := Ideal) v) (k0_pay11 (F := Ideal) v w0 w2 o0) w1 w3 o1) g b (ix2 i j)
      = xhat (a.tiles r) j * a.g j + b (ix2 0 j) := by
  pointwise [k0_pay3]
  exact out_at h j b
theorem outb_at : k0_pay4 (F := Ideal) (k0_pay17 (F := Ideal) (k0_pay5 (F := Ideal) v) (k0_pay11 (F := Ideal) v w0 w2 o0) w1 w3 o1)
    (k0_pay18 (F := Ideal) (k0_pay5 (F := Ideal) v) (k0_pay11 (F := Ideal) v w0 w2 o0) w1 w3 o1) g b (ix2 i j)
      = xhat (a.tiles r) j * a.g j + b (ix2 0 j) := by
  pointwise [k0_pay4]
  exact out_at h j b

end Cert.Fwd.Pay

end
-- ==== Proof.FwdValue.lean ====
/- The feed-forward layer's forward kernel: the arrays it leaves. -/
module

public import proofs.«01_k».proof.Proof.FwdPay
public import proofs.«01_k».proof.Proof.FfnValue
public import proofs.«01_k».proof.Proof.Gen.FwdIdeal.Value

@[expose] public section

set_option maxRecDepth 16384

noncomputable section

namespace Cert.FwdIdeal.Gen

open Cert.FwdIdeal Idealize.ShloMosaic Idealize.ShloMosaic.TcCoe Idealize.SL.Sem
open Idealize.ShloMosaic.Pipeline
open Cert.Step Cert.Step.Ffn Cert.Fwd.Pay
open scoped BigOperators

variable (m : (ℓ : Loc nD τ sig) → Buf (Elt Ideal) ℓ) (c : Dev nD)

/-- The kernel's arguments, read at their indices; no gradient is among them. -/
def args : Args where
  x i j := (m ((c : Thread nD τ).loc main_arg0) : FVec Ideal S2048x1024 .f32) (ix2 i j)
  wi i j := (m ((c : Thread nD τ).loc main_arg1) : FVec Ideal S1024x5632 .f32) (ix2 i j)
  wo i j := (m ((c : Thread nD τ).loc main_arg2) : FVec Ideal S2816x1024 .f32) (ix2 i j)
  g j := (m ((c : Thread nD τ).loc main_arg3) : FVec Ideal S1x1024 .f32) (ix2 0 j)
  dy _ _ := 0
def aB : Row := fun j => (m ((c : Thread nD τ).loc main_arg4) : FVec Ideal S1x1024 .f32) (ix2 0 j)

section
variable (j : Fin 1024) (k : Fin 1408)
theorem win_at (J : Fin 4) : (V m c main_v2 : FVec Ideal S4x1024x1408 .bf16) (ix3 J j k) = (args m c).wi j ⟨J * 1408 + k, by omega⟩ := by
  entry_read
  pointwise
  rfl
theorem wout_at (K : Fin 2) : (V m c main_v4 : FVec Ideal S2x1408x1024 .bf16) (ix3 K k j) = (args m c).wo ⟨K * 1408 + k, by omega⟩ j := by
  entry_read
  pointwise
  rfl
end

/-! ### The blocks -/

theorem idx : ∀ t : Fin cfg0.N, win0_0.index t = ![t.val, 0] ∧ win0_1.index t = ![0, 0, 0] ∧ win0_2.index t = ![0, 0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The array's row under a block's row. -/
def up (t : Fin cfg0.N) (i : Fin 256) : Fin 2048 := ⟨t.val * 256 + i, by have := lt_of_lt_of_eq t.isLt N_0; omega⟩

variable (t : Fin cfg0.N) (i : Fin 256) (j : Fin 1024) (k : Fin 1408)

theorem blk0 : (iblk m c 0 t : FVec Ideal S256x1024 .f32) (ix2 i j) = (args m c).x (up t i) j := by
  unfold args up; blk_point [iblk, V, idx t]
theorem blk3 : (iblk m c 3 t : FVec Ideal S1x1024 .f32) (ix2 0 j) = (args m c).g j := by
  unfold args; blk_point [iblk, V, idx t]
theorem blk4 : (iblk m c 4 t : FVec Ideal S1x1024 .f32) (ix2 0 j) = aB m c j := by
  unfold aB; blk_point [iblk, V, idx t]
theorem read1 (J : Fin 4) (A : FVec Ideal S4x1024x1408 .bf16) : (((cfg0.win 1).blk t).view.read (Elt Ideal) A : FVec Ideal S4x1024x1408 .bf16) (ix3 J j k) = A (ix3 J j k) := by
  have e : ((View.whole main_v2).slice (win0_1.rect t)).emb (ix3 J j k) = ix3 J j k := by blk_ext [idx t]
  exact congrArg A e
theorem blk1 (J : Fin 4) : (iblk m c 1 t : FVec Ideal S4x1024x1408 .bf16) (ix3 J j k) = (args m c).wi j ⟨J * 1408 + k, by omega⟩ := by
  unfold iblk
  exact (read1 t j k J (V m c main_v2)).trans (win_at m c j k J)
theorem read2 (K : Fin 2) (A : FVec Ideal S2x1408x1024 .bf16) : (((cfg0.win 2).blk t).view.read (Elt Ideal) A : FVec Ideal S2x1408x1024 .bf16) (ix3 K k j) = A (ix3 K k j) := by
  have e : ((View.whole main_v4).slice (win0_2.rect t)).emb (ix3 K k j) = ix3 K k j := by blk_ext [idx t]
  exact congrArg A e
theorem blk2 (K : Fin 2) : (iblk m c 2 t : FVec Ideal S2x1408x1024 .bf16) (ix3 K k j) = (args m c).wo ⟨K * 1408 + k, by omega⟩ j := by
  unfold iblk
  exact (read2 t j k K (V m c main_v4)).trans (wout_at m c j k K)

/-- A block of each matrix. -/
abbrev w1 (J : Fin 4) : FVec Ideal S1x1024x1408 .bf16 :=
  View.ld (iblk m c 1 t : Vec Ideal S4x1024x1408 .bf16) (Rect.unit (s := S4x1024x1408) ![J.val, 0, 0] ![1, 1024, 1408] (Cert.Ffn.Run.inb4 J))
abbrev w2 (K : Fin 2) : FVec Ideal S1x1408x1024 .bf16 :=
  View.ld (iblk m c 2 t : Vec Ideal S2x1408x1024 .bf16) (Rect.unit (s := S2x1408x1024) ![K.val, 0, 0] ![1, 1408, 1024] (Cert.Ffn.Run.inb5 K))

theorem w1_at (J : Fin 4) : w1 m c t J (ix3 0 j k) = (args m c).wi j ⟨J * 1408 + k, by omega⟩ :=
  (View.ld_unit_apply_of _ _ _ _ _ _ (by refine Fin.forall_fin_succ.mpr ⟨rfl, Fin.forall_fin_two.mpr ⟨?_, ?_⟩⟩ <;> exact (Nat.zero_add _).symm)).trans (blk1 m c t j k J)
theorem w2_at (K : Fin 2) : w2 m c t K (ix3 0 k j) = (args m c).wo ⟨K * 1408 + k, by omega⟩ j :=
  (View.ld_unit_apply_of _ _ _ _ _ _ (by refine Fin.forall_fin_succ.mpr ⟨rfl, Fin.forall_fin_two.mpr ⟨?_, ?_⟩⟩ <;> exact (Nat.zero_add _).symm)).trans (blk2 m c t j k K)

theorem holds : Holds (args m c) (up t i) i (iblk m c 0 t) (w2 m c t 0) (w2 m c t 1) (w1 m c t 0) (w1 m c t 1) (w1 m c t 2) (w1 m c t 3) (iblk m c 3 t) where
  x j := blk0 m c t i j
  g j := blk3 m c t j
  o0 k j := (w2_at m c t j k 0).trans (congrArg (fun q => (args m c).wo q j) (Fin.ext (by simp)))
  o1 k j := (w2_at m c t j k 1).trans (congrArg (fun q => (args m c).wo q j) (Fin.ext (by simp)))
  w0 j k := (w1_at m c t j k 0).trans (congrArg ((args m c).wi j) (Fin.ext (by simp)))
  w1 j k := (w1_at m c t j k 1).trans (congrArg ((args m c).wi j) (Fin.ext (by simp)))
  w2 j k := (w1_at m c t j k 2).trans (congrArg ((args m c).wi j) (Fin.ext (by simp)))
  w3 j k := (w1_at m c t j k 3).trans (congrArg ((args m c).wi j) (Fin.ext (by simp; omega)))

/-- The layer's output as the tiles add it. -/
def outT : Mat 2048 1024 := fun r j => xhat ((args m c).tiles r) j * (args m c).g j + aB m c j

/-! ### What a point leaves, and the arrays after the grid -/

theorem out5 (l : Fin 5632) : out0_5 (iblk m c 0 t) (iblk m c 1 t) (iblk m c 2 t) (iblk m c 3 t) (iblk m c 4 t) (ix2 i l) = (args m c).h (up t i) l := by
  unfold_out out0_5
  frame_out
  exact Cert.Ffn.Run.quarters i _ _ _ _ l (args m c).gate (args m c).up (up t i) (us1_at (holds m c t i)) (gs1_at (holds m c t i)) (us0_at (holds m c t i)) (gs0_at (holds m c t i))
theorem out6 : out0_6 (iblk m c 0 t) (iblk m c 1 t) (iblk m c 2 t) (iblk m c 3 t) (iblk m c 4 t) (ix2 i j) = (args m c).tiles (up t i) j := by
  unfold_out out0_6
  frame_out
  exact ress_at (holds m c t i) j
theorem out7 : out0_7 (iblk m c 0 t) (iblk m c 1 t) (iblk m c 2 t) (iblk m c 3 t) (iblk m c 4 t) (ix2 i j) = outT m c (up t i) j := by
  unfold_out out0_7
  frame_out
  exact (outs_at (holds m c t i) j (iblk m c 4 t)).trans (congrArg (_ + ·) (blk4 m c t j))
theorem out8 : out0_8 (iblk m c 0 t) (iblk m c 1 t) (iblk m c 2 t) (iblk m c 3 t) (iblk m c 4 t) (ix2 i j) = outT m c (up t i) j := by
  unfold_out out0_8
  frame_out
  exact (outb_at (holds m c t i) j (iblk m c 4 t)).trans (congrArg (_ + ·) (blk4 m c t j))
theorem out9 : out0_9 (iblk m c 0 t) (iblk m c 1 t) (iblk m c 2 t) (iblk m c 3 t) (iblk m c 4 t) (ix2 i j) = (args m c).x (up t i) j := by
  unfold_out out0_9
  frame_out
  exact xs_at (holds m c t i) j

theorem emb5 (y : S256x5632.Idx) : ((View.whole main_v5_0).slice (win0_5.rect t)).emb y = ix2 (up t (y 0)) (y 1) := by
  unfold up; blk_ext [idx t]
theorem emb6 (y : S256x1024.Idx) : ((View.whole main_v5_1).slice (win0_6.rect t)).emb y = ix2 (up t (y 0)) (y 1) := by
  unfold up; blk_ext [idx t]
theorem emb7 (y : S256x1024.Idx) : ((View.whole main_v5_2).slice (win0_7.rect t)).emb y = ix2 (up t (y 0)) (y 1) := by
  unfold up; blk_ext [idx t]
theorem emb8 (y : S256x1024.Idx) : ((View.whole main_v5_3).slice (win0_8.rect t)).emb y = ix2 (up t (y 0)) (y 1) := by
  unfold up; blk_ext [idx t]
theorem emb9 (y : S256x1024.Idx) : ((View.whole main_v5_4).slice (win0_9.rect t)).emb y = ix2 (up t (y 0)) (y 1) := by
  unfold up; blk_ext [idx t]

theorem final5 : (dats m 0 c).arrAt 5 (cfgs 0).N = fun z : S2048x5632.Idx => (args m c).h (z 0) (z 1) := by
  refine (dats m 0 c).arrAt_eq_of_covers 5 _ (by decide +kernel) fun t hf y => ?_
  blk_simp
  rw [after0_5, emb5]
  obtain ⟨i, j, rfl⟩ : ∃ i j, y = ix2 i j := ⟨y 0, y 1, eq_ix2 y⟩
  exact out5 m c t i j
theorem final6 : (dats m 0 c).arrAt 6 (cfgs 0).N = fun z : S2048x1024.Idx => (args m c).tiles (z 0) (z 1) := by
  refine (dats m 0 c).arrAt_eq_of_covers 6 _ (by decide +kernel) fun t hf y => ?_
  blk_simp
  rw [after0_6, emb6]
  obtain ⟨i, j, rfl⟩ : ∃ i j, y = ix2 i j := ⟨y 0, y 1, eq_ix2 y⟩
  exact out6 m c t i j
theorem final7 : (dats m 0 c).arrAt 7 (cfgs 0).N = fun z : S2048x1024.Idx => outT m c (z 0) (z 1) := by
  refine (dats m 0 c).arrAt_eq_of_covers 7 _ (by decide +kernel) fun t hf y => ?_
  blk_simp
  rw [after0_7, emb7]
  obtain ⟨i, j, rfl⟩ : ∃ i j, y = ix2 i j := ⟨y 0, y 1, eq_ix2 y⟩
  exact out7 m c t i j
theorem final8 : (dats m 0 c).arrAt 8 (cfgs 0).N = fun z : S2048x1024.Idx => outT m c (z 0) (z 1) := by
  refine (dats m 0 c).arrAt_eq_of_covers 8 _ (by decide +kernel) fun t hf y => ?_
  blk_simp
  rw [after0_8, emb8]
  obtain ⟨i, j, rfl⟩ : ∃ i j, y = ix2 i j := ⟨y 0, y 1, eq_ix2 y⟩
  exact out8 m c t i j
theorem final9 : (dats m 0 c).arrAt 9 (cfgs 0).N = fun z : S2048x1024.Idx => (args m c).x (z 0) (z 1) := by
  refine (dats m 0 c).arrAt_eq_of_covers 9 _ (by decide +kernel) fun t hf y => ?_
  blk_simp
  rw [after0_9, emb9]
  obtain ⟨i, j, rfl⟩ : ∃ i j, y = ix2 i j := ⟨y 0, y 1, eq_ix2 y⟩
  exact out9 m c t i j

end Cert.FwdIdeal.Gen

end
-- ==== Proof.FwdRef.lean ====
/- The reference for the feed-forward layer's forward pass: its results read at an index. -/
module

public import proofs.«01_k».proof.Proof.FwdPay
public import proofs.«01_k».proof.Proof.Gen.RefFwdIdeal.Run

@[expose] public section

set_option maxRecDepth 16384

noncomputable section

namespace Cert.RefFwdIdeal.Value

open Cert.RefFwdIdeal Cert.RefFwdIdeal.Gen Idealize.ShloMosaic Idealize.ShloMosaic.TcCoe Idealize.SL.Sem
open Cert.Step Cert.Step.Ffn
open scoped BigOperators

variable (x : FVec Ideal S2048x1024 .f32) (wi : FVec Ideal S1024x5632 .f32) (wo : FVec Ideal S2816x1024 .f32) (g b : FVec Ideal S1x1024 .f32)
  (s : FVec Ideal S2048x1024 .f32) (i : Fin 2048) (j : Fin 1024) (n : Fin 2816) (l : Fin 5632)

/-- Given arrays, read at their indices; no gradient is among them. -/
def args : Args := ⟨fun i j => x (ix2 i j), fun i j => wi (ix2 i j), fun i j => wo (ix2 i j), fun j => g (ix2 0 j), fun _ _ => 0⟩

/-! ### The hidden values -/

def gateV : FVec Ideal S2048x2816 .f32 :=
  extractStridedSlice S2048x2816 ![0, 0] (Host.dotGeneral (F := Ideal) dot_S2048x1024_S1024x5632_S2048x5632_1_0_0_1_n_n none x wi) slices_S2048x5632_S2048x2816_0_0
def upV : FVec Ideal S2048x2816 .f32 :=
  extractStridedSlice S2048x2816 ![0, 2816] (Host.dotGeneral (F := Ideal) dot_S2048x1024_S1024x5632_S2048x5632_1_0_0_1_n_n none x wi) slices_S2048x5632_S2048x2816_0_2816
def oneV : FVec Ideal S2048x2816 .f32 := broadcastInDim S2048x2816 ![] bcast_S_S2048x2816 (constant (F := Ideal) S_ .f32 0x3F800000#32)
def actV : FVec Ideal S2048x2816 .f32 :=
  mulf (mulf (gateV x wi) (Host.divf oneV (addf oneV (Host.exp (Host.negf (gateV x wi)))))) (upV x wi)
def hV : FVec Ideal S2048x5632 .bf16 :=
  truncf .bf16 ((concatenate S2048x5632 1 [⟨S2048x1408, (extractStridedSlice S2048x1408 ![0, 0] (gateV x wi) slices_S2048x2816_S2048x1408_0_0 : FVec Ideal S2048x1408 .f32)⟩,
    ⟨S2048x1408, (extractStridedSlice S2048x1408 ![0, 0] (upV x wi) slices_S2048x2816_S2048x1408_0_0 : FVec Ideal S2048x1408 .f32)⟩,
    ⟨S2048x1408, (extractStridedSlice S2048x1408 ![0, 1408] (gateV x wi) slices_S2048x2816_S2048x1408_0_1408 : FVec Ideal S2048x1408 .f32)⟩,
    ⟨S2048x1408, (extractStridedSlice S2048x1408 ![0, 1408] (upV x wi) slices_S2048x2816_S2048x1408_0_1408 : FVec Ideal S2048x1408 .f32)⟩]
    concatenates_S2048x1408_S2048x1408_S2048x1408_S2048x1408_S2048x5632_d1 : FVec Ideal S2048x5632 .f32)) bitsLt_bf16_f32

theorem gateV_at : gateV x wi (ix2 i n) = (args x wi wo g).gate i n := by
  pointwise [gateV]
  rfl
theorem upV_at : upV x wi (ix2 i n) = (args x wi wo g).up i n := by
  pointwise [upV]
  rfl
theorem actV_at : actV x wi (ix2 i n) = (args x wi wo g).act i n := by
  pointwise [actV, oneV]
  rw [gateV_at x wi wo g, upV_at x wi wo g]
  rfl
theorem hV_at : hV x wi (ix2 i l) = (args x wi wo g).h i l := by
  pointwise [hV]
  simp only [gateV_at x wi wo g, upV_at x wi wo g]
  rfl

/-! ### The sum, and its layer norm -/

def sumV : FVec Ideal S2048x1024 .f32 :=
  addf (mulf (broadcastInDim S2048x1024 ![] bcast_S_S2048x1024 (constant (F := Ideal) S_ .f32 0x3F9837F0#32)) x)
    (mulf (broadcastInDim S2048x1024 ![] bcast_S_S2048x1024 (constant (F := Ideal) S_ .f32 0x3F000000#32))
      (Host.dotGeneral (F := Ideal) dot_S2048x2816_S2816x1024_S2048x1024_1_0_0_1_n_n none (actV x wi) wo))
/-- The mean over the columns, one per row. -/
def meanV : FVec Ideal S2048x1 .f32 :=
  Host.divf (broadcastInDim S2048x1 ![0] bcast_S2048_S2048x1_0 (Host.reduceAdd (F := Ideal) s (constant (F := Ideal) S_ .f32 0x00000000#32) reducesTo_S2048x1024_S2048_d1 h_S_))
    (broadcastInDim S2048x1 ![] bcast_S_S2048x1 (constant (F := Ideal) S_ .f32 0x44800000#32))
def cenV : FVec Ideal S2048x1024 .f32 := subf s (broadcastInDim S2048x1024 ![0, 1] bcast_S2048x1_S2048x1024_0_1 (meanV s))
def rstdV : FVec Ideal S2048x1 .f32 :=
  Host.rsqrt (addf (meanV (mulf (cenV s) (cenV s))) (broadcastInDim S2048x1 ![] bcast_S_S2048x1 (constant (F := Ideal) S_ .f32 0x3727C5AC#32)))
def outV : FVec Ideal S2048x1024 .f32 :=
  addf (mulf (mulf (cenV s) (broadcastInDim S2048x1024 ![0, 1] bcast_S2048x1_S2048x1024_0_1 (rstdV s)))
    (broadcastInDim S2048x1024 ![0, 1] bcast_S1x1024_S2048x1024_0_1 g)) (broadcastInDim S2048x1024 ![0, 1] bcast_S1x1024_S2048x1024_0_1 b)

theorem sumV_at : sumV x wi wo (ix2 i j) = (args x wi wo g).res i j := by
  pointwise [sumV]
  simp only [actV_at x wi wo g]
  rfl
theorem meanV_at : meanV s (ix2 i 0) = mean (fun k => s (ix2 i k)) := by
  pointwise [meanV]
  rfl
theorem cenV_at : cenV s (ix2 i j) = cen (fun k => s (ix2 i k)) j := by
  pointwise [cenV]
  rw [meanV_at]; rfl
theorem sq_at : mulf (cenV s) (cenV s) (ix2 i j) = cen (fun k => s (ix2 i k)) j * cen (fun k => s (ix2 i k)) j := by
  pointwise
  rw [cenV_at]
theorem rstdV_at : rstdV s (ix2 i 0) = rstd (fun k => s (ix2 i k)) := by
  pointwise [rstdV]
  rw [meanV_at]
  simp only [sq_at]
  rfl
theorem outV_at : outV g b s (ix2 i j) = xhat (fun k => s (ix2 i k)) j * g (ix2 0 j) + b (ix2 0 j) := by
  pointwise [outV]
  rw [cenV_at, rstdV_at]; rfl
theorem out_at : outV g b (sumV x wi wo) (ix2 i j) = (args x wi wo g).out (fun j => b (ix2 0 j)) i j := by
  rw [outV_at, show (fun k => sumV x wi wo (ix2 i k)) = (args x wi wo g).res i from funext fun k => sumV_at x wi wo g i k]
  rfl

/-! ### The run's results -/

variable (m : (ℓ : Loc nD τ sig) → Buf (Elt Ideal) ℓ) (c : Dev nD)

abbrev mX : FVec Ideal S2048x1024 .f32 := m ((c.tc : Thread nD τ).loc main_arg0)
abbrev mWi : FVec Ideal S1024x5632 .f32 := m ((c.tc : Thread nD τ).loc main_arg1)
abbrev mWo : FVec Ideal S2816x1024 .f32 := m ((c.tc : Thread nD τ).loc main_arg2)
abbrev mG : FVec Ideal S1x1024 .f32 := m ((c.tc : Thread nD τ).loc main_arg3)
abbrev mB : FVec Ideal S1x1024 .f32 := m ((c.tc : Thread nD τ).loc main_arg4)
abbrev mArgs : Args := args (mX m c) (mWi m c) (mWo m c) (mG m c)

theorem h_eq : hV (mX m c) (mWi m c) = fun z : S2048x5632.Idx => (mArgs m c).h (z 0) (z 1) :=
  funext fun z => (congrArg _ (eq_ix2 z)).trans (hV_at _ _ _ _ (z 0) (z 1))
theorem r_eq : sumV (mX m c) (mWi m c) (mWo m c) = fun z : S2048x1024.Idx => (mArgs m c).res (z 0) (z 1) :=
  funext fun z => (congrArg _ (eq_ix2 z)).trans (sumV_at _ _ _ _ (z 0) (z 1))
theorem y_eq : res_main_v30 m c = fun z : S2048x1024.Idx => (mArgs m c).out (fun j => mB m c (ix2 0 j)) (z 0) (z 1) := by
  have e : res_main_v30 m c = outV (mG m c) (mB m c) (sumV (mX m c) (mWi m c) (mWo m c)) := by
    unfold res_main_v30 outV rstdV cenV meanV sumV actV oneV gateV upV
    rfl
  exact e.trans (funext fun z => (congrArg _ (eq_ix2 z)).trans (out_at _ _ _ _ _ (z 0) (z 1)))
theorem yb_eq : res_main_v37 m c = fun z : S2048x1024.Idx => (mArgs m c).out (fun j => mB m c (ix2 0 j)) (z 0) (z 1) := by
  have e : res_main_v37 m c = (truncf .bf16 (res_main_v30 m c : FVec Ideal S2048x1024 .f32) bitsLt_bf16_f32 : FVec Ideal S2048x1024 .bf16) := by
    unfold res_main_v37 res_main_v30
    rfl
  rw [e, y_eq]
  rfl

end Cert.RefFwdIdeal.Value

end
-- ==== Proof.FwdPair.lean ====
/- The feed-forward layer's forward kernel and its reference leave the same results. -/
module

public import proofs.«01_k».proof.Defs
public import proofs.«01_k».proof.Proof.FwdValue
public import proofs.«01_k».proof.Proof.FwdRef
public import proofs.«01_k».proof.Proof.FfnPair
public import proofs.«01_k».proof.Proof.Gen.Pre_finite_fwd
public import Idealize.ShloMosaic.Lib.Quiescent

@[expose] public section

set_option maxRecDepth 16384

noncomputable section

namespace Cert.Proof.Fwd

open Cert.FwdIdeal Cert.FwdIdeal.Gen Idealize.ShloMosaic Idealize.ShloMosaic.TcCoe Idealize.SL.Sem
open Cert.Step Cert.Step.Ffn
open scoped BigOperators

theorem frame_ref : Cert.quiescent_RefFwdIdeal :=
  fun m g _ => (θ_run _ _ _).mono (fun _ h => ⟨fun c => (h c).2.2.2.2.2, sem_eq_zero_of_no_sems rfl _⟩)
    (Cert.RefFwdIdeal.Value.run m g)

variable (m : (ℓ : Loc nD τ sig) → Buf (Elt Ideal) ℓ) (c : Dev nD)

/-- The sum as the tiles add it is the sum, at finite arguments. -/
theorem tiles_eq (h : Cert.Pre_FwdIdeal_finite_fwd m) : (args m c).tiles = (args m c).res :=
  Args.tiles_eq _ (fun i j => IsR.of_cmp (congrFun (h c).1 (ix2 i j))) (fun i j => IsR.of_cmp (congrFun (h c).2.1 (ix2 i j)))
    fun i j => IsR.of_cmp (congrFun (h c).2.2 (ix2 i j))

theorem outT_eq (h : Cert.Pre_FwdIdeal_finite_fwd m) : outT m c = (args m c).out (aB m c) := by
  unfold outT Args.out
  rw [tiles_eq m c h]

theorem algebraic : Cert.algebraic_FwdIdeal_RefFwdIdeal_pre_finite_fwd := by
  intro m g m' g' hpre hagree
  refine ⟨fun c (z : S2048x5632.Idx) => (args m c).h (z 0) (z 1),
    fun c (z : S2048x1024.Idx) => (args m c).res (z 0) (z 1),
    fun c (z : S2048x1024.Idx) => (args m c).out (aB m c) (z 0) (z 1),
    fun c (z : S2048x1024.Idx) => (args m c).out (aB m c) (z 0) (z 1),
    fun c (z : S2048x1024.Idx) => (args m c).x (z 0) (z 1),
    (θ_run _ _ _).mono (fun r h c => ?_) (Cert.FwdIdeal.Value.run_blocks m g),
    (θ_run _ _ _).mono (fun r h c => ?_) (Cert.RefFwdIdeal.Value.run m' g')⟩
  · obtain ⟨h0, h1, h2, h3, h4, hr⟩ := h c
    exact ⟨h0.trans (final5 m c), h1.trans ((final6 m c).trans (by rw [tiles_eq m c hpre])),
      h2.trans ((final7 m c).trans (by rw [outT_eq m c hpre])), h3.trans ((final8 m c).trans (by rw [outT_eq m c hpre])),
      h4.trans (final9 m c), hr⟩
  · obtain ⟨h0, h1, h2, h3, h4, hr⟩ := h c
    have e : Cert.RefFwdIdeal.Value.mArgs m' c = args m c := Ffn.Args.ext'
      (funext fun i => funext fun j => congrFun (hagree c).1 (ix2 i j))
      (funext fun i => funext fun j => congrFun (hagree c).2.1 (ix2 i j))
      (funext fun i => funext fun j => congrFun (hagree c).2.2.1 (ix2 i j))
      (funext fun j => congrFun (hagree c).2.2.2.1 (ix2 0 j)) rfl
    have eB : (fun j => Cert.RefFwdIdeal.Value.mB m' c (ix2 0 j)) = aB m c :=
      funext fun j => congrFun (hagree c).2.2.2.2 (ix2 0 j)
    exact ⟨h0.trans ((Cert.RefFwdIdeal.Value.h_eq m' c).trans (by rw [e])),
      h1.trans ((Cert.RefFwdIdeal.Value.r_eq m' c).trans (by rw [e])),
      h2.trans ((Cert.RefFwdIdeal.Value.y_eq m' c).trans (by rw [e, eB])),
      h3.trans ((Cert.RefFwdIdeal.Value.yb_eq m' c).trans (by rw [e, eB])),
      h4.trans (funext fun z => (congrArg (m' ((c.tc : Thread Cert.RefFwdIdeal.nD Cert.RefFwdIdeal.τ).loc Cert.RefFwdIdeal.main_arg0) : FVec Ideal Cert.RefFwdIdeal.S2048x1024 .f32) (eq_ix2 z)).trans
        (congrFun (congrFun (congrArg Args.x e) (z 0)) (z 1))), hr⟩

end Cert.Proof.Fwd

end
-- ==== Proof.MixFPay.lean ====
/- The mixing layer's forward kernel, payload by payload, read at an index of a block whose operands hold one
   row of the arguments. -/
module

public import proofs.«01_k».proof.Proof.MixBMath
public import proofs.«01_k».proof.Proof.Gen.MixFIdeal.Skeleton
public import Idealize.ShloMosaic.Lib.Pipeline.ValueKit
public import Idealize.ShloMosaic.Lib.Pointwise
public import Idealize.ShloMosaic.Lib.Claim

@[expose] public section

set_option maxRecDepth 16384

noncomputable section

namespace Cert.Step.MixB.Args

open Idealize.ShloMosaic Cert.Step Cert.Step.MixB
open scoped BigOperators

variable (a : Args)

/-- A product of a state with the read-out, as the tables give it: the imaginary part's sign is the table's. -/
def ro : Mat 2048 512 := fun i n =>
  (∑ k, a.sr i (lane (gp n) k) * a.cr (gp n) (en n) k) + ∑ k, a.si i (lane (gp n) k) * -a.ci (gp n) (en n) k

/-- The layer's output. -/
def out (b : Row) : Mat 2048 1024 := fun i j => xhat (a.res i) j * a.g j + b j

/-- With finite imaginary parts, the sign may be taken out of the sum. -/
theorem s_of_ro (hs : ∀ i j, IsR (a.si i j)) (hc : ∀ u v k, IsR (a.ci u v k)) (i : Fin 2048) (n : Fin 512) :
    a.s i n = a.ro i n + a.sk (gp n) (en n) * a.su i n := by
  choose p hp using hs
  choose q hq using hc
  unfold s ro
  rw [sub_eq_add_neg]
  simp only [hp, hq, ← EReal.coe_neg, ← EReal.coe_mul, ← coe_sum, mul_neg, Finset.sum_neg_distrib]

theorem cr_at {u u' : Fin 32} {v v' : Fin 16} {k k' : Fin 64} (C : Fin 32 → Mat 16 64) (h1 : u.val = u'.val) (h2 : v.val = v'.val)
    (h3 : k.val = k'.val) : C u v k = C u' v' k' := by
  rw [Fin.ext h1, Fin.ext h2, Fin.ext h3]

/-- A row of the states against a column of a table is that column's own group. -/
theorem gather (C : Fin 32 → Mat 16 64) (d : Fin 2048 → EReal) (J : Fin 4) (q : Fin 128) (f w : Fin 512 → EReal)
    (hf : ∀ r : Fin 512, f r = d ⟨J * 512 + r, by omega⟩)
    (hw : ∀ r : Fin 512, w r = if r.val / 64 = q.val / 16 then C ⟨J * 8 + r / 64, by omega⟩ ⟨q % 16, by omega⟩ ⟨r % 64, by omega⟩ else 0)
    (n : Fin 512) (hn : n.val = J * 128 + q) :
    ∑ r, f r * w r = ∑ k, d (lane (gp n) k) * C (gp n) (en n) k := by
  rw [← Equiv.sum_comp (finProdFinEquiv (m := 8) (n := 64)), Fintype.sum_prod_type, Finset.sum_eq_single (⟨q / 16, by omega⟩ : Fin 8)]
  · refine Finset.sum_congr rfl fun k _ => ?_
    have hr : (finProdFinEquiv ((⟨q / 16, by omega⟩ : Fin 8), k) : Fin (8 * 64)).val = k.val + 64 * (q.val / 16) := rfl
    rw [hf, hw, if_pos (by omega)]
    exact congrArg₂ (· * ·) (congrArg d (Fin.ext (by show J.val * 512 + (k.val + 64 * (q.val / 16)) = n.val / 16 * 64 + k.val; omega)))
      (cr_at C (by show J.val * 8 + (k.val + 64 * (q.val / 16)) / 64 = n.val / 16; omega) (by show q.val % 16 = n.val % 16; omega)
        (by show (k.val + 64 * (q.val / 16)) % 64 = k.val; omega))
  · intro u _ hu
    refine Finset.sum_eq_zero fun k _ => ?_
    have hr : (finProdFinEquiv (u, k) : Fin (8 * 64)).val = k.val + 64 * u.val := rfl
    rw [hw, if_neg (fun e => hu (Fin.ext (by show u.val = q.val / 16; omega))), mul_zero]
  · exact fun hu => absurd (Finset.mem_univ _) hu

end Cert.Step.MixB.Args

namespace Cert.MixF.Pay

open Cert.MixFIdeal Cert.MixFIdeal.Gen Idealize.ShloMosaic Idealize.ShloMosaic.TcCoe Idealize.SL.Sem
open Idealize.ShloMosaic.Pipeline
open Cert.Step Cert.Step.MixB
open scoped BigOperators

variable (a : Args) (r : Fin 2048) (i : Fin 256)

/-! ### The read-out -/

section
variable {a r i}
variable (x y : FVec Ideal S256x2048 .bf16) (p q : Fin 4 → FVec Ideal S1x512x128 .bf16) (hx : ∀ l, x (ix2 i l) = a.sr r l) (hy : ∀ l, y (ix2 i l) = a.si r l)
  (hp : ∀ (J : Fin 4) (k : Fin 512) (l : Fin 128), p J (ix3 0 k l) = if k.val / 64 = l.val / 16 then a.cr ⟨J * 8 + k / 64, by omega⟩ ⟨l % 16, by omega⟩ ⟨k % 64, by omega⟩ else 0)
  (hq : ∀ (J : Fin 4) (k : Fin 512) (l : Fin 128), q J (ix3 0 k l) = if k.val / 64 = l.val / 16 then -a.ci ⟨J * 8 + k / 64, by omega⟩ ⟨l % 16, by omega⟩ ⟨k % 64, by omega⟩ else 0)
include hx hy hp hq

theorem piece (J : Fin 4) (l : Fin 128) (f g : Fin 512 → EReal) (hf : ∀ k : Fin 512, f k = a.sr r ⟨J * 512 + k, by omega⟩)
    (hg : ∀ k : Fin 512, g k = a.si r ⟨J * 512 + k, by omega⟩) (n : Fin 512) (hn : n.val = J * 128 + l) :
    (∑ k, f k * p J (ix3 0 k l)) + (∑ k, g k * q J (ix3 0 k l)) = a.ro r n :=
  congrArg₂ (· + ·) (Args.gather a.cr (a.sr r) J l f _ hf (fun k => hp J k l) n hn)
    (Args.gather (fun u v k => -a.ci u v k) (a.si r) J l g _ hg (fun k => hq J k l) n hn)

theorem piece0 (l : Fin 128) (n : Fin 512) (hn : n.val = (0 : Fin 4) * 128 + l) : k0_pay4 (F := Ideal) x y (p 0) (q 0) (ix2 i l) = a.ro r n := by
  pointwise [k0_pay4, k0_pay2, k0_pay3]
  exact piece x y p q hx hy hp hq 0 l _ _ (fun k => (hx _).trans (congrArg (a.sr r) (Fin.ext (by simp)))) (fun k => (hy _).trans (congrArg (a.si r) (Fin.ext (by simp)))) n hn
theorem piece1 (l : Fin 128) (n : Fin 512) (hn : n.val = (1 : Fin 4) * 128 + l) : k0_pay5 (F := Ideal) x y (p 1) (q 1) (ix2 i l) = a.ro r n := by
  pointwise [k0_pay5, k0_pay2, k0_pay3]
  exact piece x y p q hx hy hp hq 1 l _ _ (fun k => (hx _).trans (congrArg (a.sr r) (Fin.ext (by simp)))) (fun k => (hy _).trans (congrArg (a.si r) (Fin.ext (by simp)))) n hn
theorem piece2 (l : Fin 128) (n : Fin 512) (hn : n.val = (2 : Fin 4) * 128 + l) : k0_pay6 (F := Ideal) x y (p 2) (q 2) (ix2 i l) = a.ro r n := by
  pointwise [k0_pay6, k0_pay2, k0_pay3]
  exact piece x y p q hx hy hp hq 2 l _ _ (fun k => (hx _).trans (congrArg (a.sr r) (Fin.ext (by simp)))) (fun k => (hy _).trans (congrArg (a.si r) (Fin.ext (by simp)))) n hn

theorem s_at (d : FVec Ideal S1x512 .f32) (u : FVec Ideal S256x512 .f32) (hd : ∀ n, d (ix2 0 n) = a.sk (gp n) (en n)) (hu : ∀ n, u (ix2 i n) = a.su r n)
    (hs : ∀ i j, IsR (a.si i j)) (hc : ∀ u v k, IsR (a.ci u v k)) (n : Fin 512) :
    k0_pay7 (F := Ideal) (k0_pay2 (F := Ideal) x) (k0_pay3 (F := Ideal) y) (k0_pay4 (F := Ideal) x y (p 0) (q 0)) (k0_pay5 (F := Ideal) x y (p 1) (q 1))
      (k0_pay6 (F := Ideal) x y (p 2) (q 2)) (p 3) (q 3) d u (ix2 i n) = a.s r n := by
  rw [a.s_of_ro hs hc]
  pointwise [k0_pay7]
  refine congrArg₂ (· + ·) ?_ (congrArg₂ (· * ·) (hd n) (hu n))
  split
  · exact piece0 x y p q hx hy hp hq _ n (by simp)
  split
  · exact piece1 x y p q hx hy hp hq _ n (by simp; omega)
  split
  · exact piece2 x y p q hx hy hp hq _ n (by simp; omega)
  · pointwise [k0_pay2, k0_pay3]
    exact piece x y p q hx hy hp hq 3 _ _ _ (fun k => (hx _).trans (congrArg (a.sr r) (Fin.ext (by simp)))) (fun k => (hy _).trans (congrArg (a.si r) (Fin.ext (by simp)))) n (by simp; omega)

end

/-! ### The activation, the gated linear unit, the gates and the residual -/

section
variable {a r i}
variable {x y : FVec Ideal S256x2048 .bf16} {v12 v21 v30 : FVec Ideal S256x128 .f32} {p q : FVec Ideal S1x512x128 .bf16} {d : FVec Ideal S1x512 .f32} {u : FVec Ideal S256x512 .f32}
  (hs : ∀ n, k0_pay7 (F := Ideal) x y v12 v21 v30 p q d u (ix2 i n) = a.s r n)
include hs

theorem act_at (n : Fin 512) : k0_pay8 (F := Ideal) x y v12 v21 v30 p q d u (ix2 i n) = a.act r n := by
  pointwise [k0_pay8]
  simp only [hs]
  rfl
theorem gl0_at (w : FVec Ideal S1x512x512 .bf16) (hw : ∀ n k : Fin 512, w (ix3 0 n k) = a.wg n ⟨(0 : Fin 4) * 512 + k, by omega⟩) (k : Fin 512) :
    k0_pay9 (F := Ideal) x y v12 v21 v30 p q d u w (ix2 i k) = a.gl r ⟨(0 : Fin 4) * 512 + k, by omega⟩ := by
  pointwise [k0_pay9]
  simp only [act_at hs, hw]
  exact congrArg (a.gl r) (Fin.ext (by simp))
theorem gl1_at (w : FVec Ideal S1x512x512 .bf16) (hw : ∀ n k : Fin 512, w (ix3 0 n k) = a.wg n ⟨(1 : Fin 4) * 512 + k, by omega⟩) (k : Fin 512) :
    k0_pay10 (F := Ideal) x y v12 v21 v30 p q d u w (ix2 i k) = a.gl r ⟨(1 : Fin 4) * 512 + k, by omega⟩ := by
  pointwise [k0_pay10]
  simp only [act_at hs, hw]
  rfl
end

/-- What one row of the operands, and of what is made of them, holds. -/
structure Holds (a : Args) (r : Fin 2048) (i : Fin 256) (v : FVec Ideal S256x512 .bf16) (l0 l1 : FVec Ideal S256x512 .f32) (w2 w3 : FVec Ideal S1x512x512 .bf16)
    (gc yc gs : FVec Ideal S256x1024 .bf16) (x : FVec Ideal S256x1024 .f32) (wo : FVec Ideal S1024x1024 .bf16) (g : FVec Ideal S1x1024 .f32) : Prop where
  act : ∀ n, v (ix2 i n) = a.act r n
  l0 : ∀ k : Fin 512, l0 (ix2 i k) = a.gl r ⟨(0 : Fin 4) * 512 + k, by omega⟩
  l1 : ∀ k : Fin 512, l1 (ix2 i k) = a.gl r ⟨(1 : Fin 4) * 512 + k, by omega⟩
  w2 : ∀ n k : Fin 512, w2 (ix3 0 n k) = a.wg n ⟨(2 : Fin 4) * 512 + k, by omega⟩
  w3 : ∀ n k : Fin 512, w3 (ix3 0 n k) = a.wg n ⟨(3 : Fin 4) * 512 + k, by omega⟩
  gc : ∀ j, gc (ix2 i j) = a.gc r j
  yc : ∀ j, yc (ix2 i j) = a.yc r j
  gs : ∀ j, gs (ix2 i j) = a.gs r j
  x : ∀ j, x (ix2 i j) = a.x r j
  wo : ∀ k j, wo (ix2 k j) = a.wo k j
  g : ∀ j, g (ix2 0 j) = a.g j

variable {a r i}
variable {v : FVec Ideal S256x512 .bf16} {l0 l1 : FVec Ideal S256x512 .f32} {w2 w3 : FVec Ideal S1x512x512 .bf16}
  {gc yc gs : FVec Ideal S256x1024 .bf16} {x : FVec Ideal S256x1024 .f32} {wo : FVec Ideal S1024x1024 .bf16} {g : FVec Ideal S1x1024 .f32}
  (h : Holds a r i v l0 l1 w2 w3 gc yc gs x wo g) (j : Fin 1024) (b : FVec Ideal S1x1024 .f32)
include h

theorem ga_at : k0_pay11 (F := Ideal) l0 l1 (ix2 i j) = a.ga r j := by
  pointwise [k0_pay11]
  split
  · exact (h.l0 _).trans (congrArg (a.gl r) (Fin.ext (by simp)))
  · exact (h.l1 _).trans (congrArg (a.gl r) (Fin.ext (by simp; omega)))
theorem gb_at : k0_pay12 (F := Ideal) v w2 w3 (ix2 i j) = a.gl r (snd j) := by
  pointwise [k0_pay12]
  split
  · simp only [h.act, h.w2]
    exact congrArg (a.gl r) (Fin.ext (by simp))
  · simp only [h.act, h.w3]
    exact congrArg (a.gl r) (Fin.ext (by simp; omega))
theorem mg_at : k0_pay13 (F := Ideal) v l0 l1 w2 w3 gc yc gs (ix2 i j) = a.mg r j := by
  pointwise [k0_pay13]
  simp only [ga_at h, gb_at h, h.gc, h.yc, h.gs]
  rfl
theorem res_at : k0_pay14 (F := Ideal) v l0 l1 w2 w3 gc yc gs x wo (ix2 i j) = a.res r j := by
  pointwise [k0_pay14]
  simp only [mg_at h, h.x, h.wo]
  rfl
theorem cen_at : k0_pay15 (F := Ideal) v l0 l1 w2 w3 gc yc gs x wo (ix2 i j) = cen (a.res r) j := by
  pointwise [k0_pay15]
  simp only [res_at h]
  rfl
theorem out_at : k0_pay16 (F := Ideal) (k0_pay15 (F := Ideal) v l0 l1 w2 w3 gc yc gs x wo) g b (ix2 i j) = xhat (a.res r) j * a.g j + b (ix2 0 j) := by
  pointwise [k0_pay16]
  simp only [cen_at h, h.g]
  rfl

end Cert.MixF.Pay

end
-- ==== Proof.MixFValue.lean ====
/- The mixing layer's forward kernel: the arrays it leaves. -/
module

public import proofs.«01_k».proof.Proof.MixFPay
public import proofs.«01_k».proof.Proof.MixBValue
public import proofs.«01_k».proof.Proof.Gen.MixFIdeal.Value

@[expose] public section

set_option maxRecDepth 16384

noncomputable section

namespace Cert.MixFIdeal.Gen

open Cert.MixFIdeal Idealize.ShloMosaic Idealize.ShloMosaic.TcCoe Idealize.SL.Sem
open Idealize.ShloMosaic.Pipeline
open Cert.Step Cert.Step.MixB Cert.MixF.Pay
open scoped BigOperators

variable (m : (ℓ : Loc nD τ sig) → Buf (Elt Ideal) ℓ) (c : Dev nD)

/-- The kernel's arguments, read at their indices; no gradient is among them. -/
def args : Args where
  x i j := (m ((c : Thread nD τ).loc main_arg0) : FVec Ideal S2048x1024 .f32) (ix2 i j)
  sr i j := (m ((c : Thread nD τ).loc main_arg1) : FVec Ideal S2048x2048 .f32) (ix2 i j)
  si i j := (m ((c : Thread nD τ).loc main_arg2) : FVec Ideal S2048x2048 .f32) (ix2 i j)
  su i j := (m ((c : Thread nD τ).loc main_arg3) : FVec Ideal S2048x512 .f32) (ix2 i j)
  sk i j := (m ((c : Thread nD τ).loc main_arg4) : FVec Ideal S32x16 .f32) (ix2 i j)
  cr i j k := (m ((c : Thread nD τ).loc main_arg5) : FVec Ideal S32x16x64 .f32) (ix3 i j k)
  ci i j k := (m ((c : Thread nD τ).loc main_arg6) : FVec Ideal S32x16x64 .f32) (ix3 i j k)
  wg i j := (m ((c : Thread nD τ).loc main_arg7) : FVec Ideal S512x2048 .f32) (ix2 i j)
  gc i j := (m ((c : Thread nD τ).loc main_arg8) : FVec Ideal S2048x1024 .f32) (ix2 i j)
  gs i j := (m ((c : Thread nD τ).loc main_arg9) : FVec Ideal S2048x1024 .f32) (ix2 i j)
  yc i j := (m ((c : Thread nD τ).loc main_arg10) : FVec Ideal S2048x1024 .f32) (ix2 i j)
  wo i j := (m ((c : Thread nD τ).loc main_arg11) : FVec Ideal S1024x1024 .f32) (ix2 i j)
  g j := (m ((c : Thread nD τ).loc main_arg12) : FVec Ideal S1x1024 .f32) (ix2 0 j)
  dy _ _ := 0
def aB : Row := fun j => (m ((c : Thread nD τ).loc main_arg13) : FVec Ideal S1x1024 .f32) (ix2 0 j)

theorem eye0 : ∀ a b : Fin 8, lit0 (S8x8.rowMajor (ix2 a b)) = if a = b then 0x3F800000#32 else 0x00000000#32 := by
  decide +kernel
theorem eye1 : ∀ a b : Fin 8, lit1 (S8x8.rowMajor (ix2 a b)) = if a = b then 0x3F800000#32 else 0x00000000#32 := by
  decide +kernel

section
variable (J : Fin 4) (r : Fin 512) (q : Fin 128) (n k : Fin 512)
theorem wcr_at : (V m c main_v13 : FVec Ideal S4x512x128 .bf16) (ix3 J r q)
    = if r.val / 64 = q.val / 16 then (args m c).cr ⟨J * 8 + r / 64, by omega⟩ ⟨q % 16, by omega⟩ ⟨r % 64, by omega⟩ else 0 := by
  entry_read
  pointwise
  exact Cert.MixB.Run.mul_eye _ eye0 _ _
theorem wci_at : (V m c main_v21 : FVec Ideal S4x512x128 .bf16) (ix3 J r q)
    = if r.val / 64 = q.val / 16 then -(args m c).ci ⟨J * 8 + r / 64, by omega⟩ ⟨q % 16, by omega⟩ ⟨r % 64, by omega⟩ else 0 := by
  entry_read
  pointwise
  exact Cert.MixB.Run.mul_eye _ eye1 _ _
theorem wg_at : (V m c main_v4 : FVec Ideal S4x512x512 .bf16) (ix3 J n k) = (args m c).wg n ⟨J * 512 + k, by omega⟩ := by
  entry_read
  pointwise
  rfl
theorem sk_at : (V m c main_v22 : FVec Ideal S1x512 .f32) (ix2 0 n) = (args m c).sk (gp n) (en n) := by
  entry_read
  pointwise
  rfl
end

/-! ### The blocks -/

theorem idx : ∀ t : Fin cfg0.N, win0_0.index t = ![t.val, 0] ∧ win0_1.index t = ![t.val, 0] ∧ win0_2.index t = ![0, 0, 0] ∧ win0_3.index t = ![0, 0, 0]
    ∧ win0_4.index t = ![t.val, 0] ∧ win0_5.index t = ![0, 0] ∧ win0_6.index t = ![0, 0, 0] ∧ win0_7.index t = ![t.val, 0]
    ∧ win0_8.index t = ![t.val, 0] ∧ win0_9.index t = ![t.val, 0] ∧ win0_10.index t = ![0, 0] ∧ win0_11.index t = ![t.val, 0]
    ∧ win0_12.index t = ![0, 0] ∧ win0_13.index t = ![0, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] :=
  (by decide +kernel : ∀ t : Fin grid0.N, _)

/-- The array's row under a block's row. -/
def up (t : Fin cfg0.N) (i : Fin 256) : Fin 2048 := ⟨t.val * 256 + i, by have := lt_of_lt_of_eq t.isLt N_0; omega⟩

variable (t : Fin cfg0.N) (i : Fin 256) (j : Fin 1024) (n k : Fin 512) (l : Fin 2048)

theorem blk0 : (iblk m c 0 t : FVec Ideal S256x2048 .bf16) (ix2 i l) = (args m c).sr (up t i) l := by
  unfold args up; unfold iblk; entry_read; blk_point [idx t]
theorem blk1 : (iblk m c 1 t : FVec Ideal S256x2048 .bf16) (ix2 i l) = (args m c).si (up t i) l := by
  unfold args up; unfold iblk; entry_read; blk_point [idx t]
theorem blk4 : (iblk m c 4 t : FVec Ideal S256x512 .f32) (ix2 i n) = (args m c).su (up t i) n := by
  unfold args up; blk_point [iblk, V, idx t]
theorem blk7 : (iblk m c 7 t : FVec Ideal S256x1024 .bf16) (ix2 i j) = (args m c).gc (up t i) j := by
  unfold args up; unfold iblk; entry_read; blk_point [idx t]
theorem blk8 : (iblk m c 8 t : FVec Ideal S256x1024 .bf16) (ix2 i j) = (args m c).gs (up t i) j := by
  unfold args up; unfold iblk; entry_read; blk_point [idx t]
theorem blk9 : (iblk m c 9 t : FVec Ideal S256x1024 .bf16) (ix2 i j) = (args m c).yc (up t i) j := by
  unfold args up; unfold iblk; entry_read; blk_point [idx t]
theorem blk11 : (iblk m c 11 t : FVec Ideal S256x1024 .f32) (ix2 i j) = (args m c).x (up t i) j := by
  unfold args up; blk_point [iblk, V, idx t]
theorem blk10 (k j : Fin 1024) : (iblk m c 10 t : FVec Ideal S1024x1024 .bf16) (ix2 k j) = (args m c).wo k j := by
  unfold args; unfold iblk; entry_read; blk_point [idx t]
theorem blk12 : (iblk m c 12 t : FVec Ideal S1x1024 .f32) (ix2 0 j) = (args m c).g j := by
  unfold args; blk_point [iblk, V, idx t]
theorem blk13 : (iblk m c 13 t : FVec Ideal S1x1024 .f32) (ix2 0 j) = aB m c j := by
  unfold aB; blk_point [iblk, V, idx t]
theorem read5 (A : FVec Ideal S1x512 .f32) : (((cfg0.win 5).blk t).view.read (Elt Ideal) A : FVec Ideal S1x512 .f32) (ix2 0 n) = A (ix2 0 n) := by
  have e : ((View.whole main_v22).slice (win0_5.rect t)).emb (ix2 0 n) = ix2 0 n := by blk_ext [idx t]
  exact congrArg A e
theorem blk5 : (iblk m c 5 t : FVec Ideal S1x512 .f32) (ix2 0 n) = (args m c).sk (gp n) (en n) := by
  unfold iblk
  exact (read5 t n (V m c main_v22)).trans (sk_at m c n)
theorem read2 (J : Fin 4) (r : Fin 512) (q : Fin 128) (A : FVec Ideal S4x512x128 .bf16) : (((cfg0.win 2).blk t).view.read (Elt Ideal) A : FVec Ideal S4x512x128 .bf16) (ix3 J r q) = A (ix3 J r q) := by
  have e : ((View.whole main_v13).slice (win0_2.rect t)).emb (ix3 J r q) = ix3 J r q := by blk_ext [idx t]
  exact congrArg A e
theorem blk2 (J : Fin 4) (r : Fin 512) (q : Fin 128) : (iblk m c 2 t : FVec Ideal S4x512x128 .bf16) (ix3 J r q) = if r.val / 64 = q.val / 16 then (args m c).cr ⟨J * 8 + r / 64, by omega⟩ ⟨q % 16, by omega⟩ ⟨r % 64, by omega⟩ else 0 := by
  unfold iblk
  exact (read2 t J r q (V m c main_v13)).trans (wcr_at m c J r q)
/-- A block of the matrix. -/
abbrev w2 (J : Fin 4) : FVec Ideal S1x512x128 .bf16 :=
  View.ld (iblk m c 2 t : Vec Ideal S4x512x128 .bf16) (Rect.unit (s := S4x512x128) ![J.val, 0, 0] ![1, 512, 128] (Cert.MixB.Run.inb13 J))
theorem w2_at (J : Fin 4) (r : Fin 512) (q : Fin 128) : w2 m c t J (ix3 0 r q) = if r.val / 64 = q.val / 16 then (args m c).cr ⟨J * 8 + r / 64, by omega⟩ ⟨q % 16, by omega⟩ ⟨r % 64, by omega⟩ else 0 :=
  (View.ld_unit_apply_of _ _ _ _ _ _ (by refine Fin.forall_fin_succ.mpr ⟨rfl, Fin.forall_fin_two.mpr ⟨?_, ?_⟩⟩ <;> exact (Nat.zero_add _).symm)).trans (blk2 m c t J r q)
theorem read3 (J : Fin 4) (r : Fin 512) (q : Fin 128) (A : FVec Ideal S4x512x128 .bf16) : (((cfg0.win 3).blk t).view.read (Elt Ideal) A : FVec Ideal S4x512x128 .bf16) (ix3 J r q) = A (ix3 J r q) := by
  have e : ((View.whole main_v21).slice (win0_3.rect t)).emb (ix3 J r q) = ix3 J r q := by blk_ext [idx t]
  exact congrArg A e
theorem blk3 (J : Fin 4) (r : Fin 512) (q : Fin 128) : (iblk m c 3 t : FVec Ideal S4x512x128 .bf16) (ix3 J r q) = if r.val / 64 = q.val / 16 then -(args m c).ci ⟨J * 8 + r / 64, by omega⟩ ⟨q % 16, by omega⟩ ⟨r % 64, by omega⟩ else 0 := by
  unfold iblk
  exact (read3 t J r q (V m c main_v21)).trans (wci_at m c J r q)
/-- A block of the matrix. -/
abbrev w3 (J : Fin 4) : FVec Ideal S1x512x128 .bf16 :=
  View.ld (iblk m c 3 t : Vec Ideal S4x512x128 .bf16) (Rect.unit (s := S4x512x128) ![J.val, 0, 0] ![1, 512, 128] (Cert.MixB.Run.inb13 J))
theorem w3_at (J : Fin 4) (r : Fin 512) (q : Fin 128) : w3 m c t J (ix3 0 r q) = if r.val / 64 = q.val / 16 then -(args m c).ci ⟨J * 8 + r / 64, by omega⟩ ⟨q % 16, by omega⟩ ⟨r % 64, by omega⟩ else 0 :=
  (View.ld_unit_apply_of _ _ _ _ _ _ (by refine Fin.forall_fin_succ.mpr ⟨rfl, Fin.forall_fin_two.mpr ⟨?_, ?_⟩⟩ <;> exact (Nat.zero_add _).symm)).trans (blk3 m c t J r q)
theorem read6 (J : Fin 4) (r : Fin 512) (q : Fin 512) (A : FVec Ideal S4x512x512 .bf16) : (((cfg0.win 6).blk t).view.read (Elt Ideal) A : FVec Ideal S4x512x512 .bf16) (ix3 J r q) = A (ix3 J r q) := by
  have e : ((View.whole main_v4).slice (win0_6.rect t)).emb (ix3 J r q) = ix3 J r q := by blk_ext [idx t]
  exact congrArg A e
theorem blk6 (J : Fin 4) (r : Fin 512) (q : Fin 512) : (iblk m c 6 t : FVec Ideal S4x512x512 .bf16) (ix3 J r q) = (args m c).wg r ⟨J * 512 + q, by omega⟩ := by
  unfold iblk
  exact (read6 t J r q (V m c main_v4)).trans (wg_at m c J r q)
/-- A block of the matrix. -/
abbrev w6 (J : Fin 4) : FVec Ideal S1x512x512 .bf16 :=
  View.ld (iblk m c 6 t : Vec Ideal S4x512x512 .bf16) (Rect.unit (s := S4x512x512) ![J.val, 0, 0] ![1, 512, 512] (Cert.MixB.Run.inb12 J))
theorem w6_at (J : Fin 4) (r : Fin 512) (q : Fin 512) : w6 m c t J (ix3 0 r q) = (args m c).wg r ⟨J * 512 + q, by omega⟩ :=
  (View.ld_unit_apply_of _ _ _ _ _ _ (by refine Fin.forall_fin_succ.mpr ⟨rfl, Fin.forall_fin_two.mpr ⟨?_, ?_⟩⟩ <;> exact (Nat.zero_add _).symm)).trans (blk6 m c t J r q)

/-! ### What a point leaves, and the arrays after the grid -/

/-- The imaginary parts are finite. -/
structure ImagFinite : Prop where
  si : ∀ i j, IsR ((args m c).si i j)
  ci : ∀ u v k, IsR ((args m c).ci u v k)

abbrev x0 : FVec Ideal S256x2048 .bf16 := iblk m c 0 t
abbrev x1 : FVec Ideal S256x2048 .bf16 := iblk m c 1 t
abbrev pc0 : FVec Ideal S256x128 .f32 := k0_pay4 (F := Ideal) (x0 m c t) (x1 m c t) (w2 m c t 0) (w3 m c t 0)
abbrev pc1 : FVec Ideal S256x128 .f32 := k0_pay5 (F := Ideal) (x0 m c t) (x1 m c t) (w2 m c t 1) (w3 m c t 1)
abbrev pc2 : FVec Ideal S256x128 .f32 := k0_pay6 (F := Ideal) (x0 m c t) (x1 m c t) (w2 m c t 2) (w3 m c t 2)
abbrev sgP : FVec Ideal S256x512 .bf16 := k0_pay8 (F := Ideal) (k0_pay2 (F := Ideal) (x0 m c t)) (k0_pay3 (F := Ideal) (x1 m c t)) (pc0 m c t) (pc1 m c t) (pc2 m c t) (w2 m c t 3) (w3 m c t 3) (iblk m c 5 t) (iblk m c 4 t)
abbrev gl0P : FVec Ideal S256x512 .f32 := k0_pay9 (F := Ideal) (k0_pay2 (F := Ideal) (x0 m c t)) (k0_pay3 (F := Ideal) (x1 m c t)) (pc0 m c t) (pc1 m c t) (pc2 m c t) (w2 m c t 3) (w3 m c t 3) (iblk m c 5 t) (iblk m c 4 t) (w6 m c t 0)
abbrev gl1P : FVec Ideal S256x512 .f32 := k0_pay10 (F := Ideal) (k0_pay2 (F := Ideal) (x0 m c t)) (k0_pay3 (F := Ideal) (x1 m c t)) (pc0 m c t) (pc1 m c t) (pc2 m c t) (w2 m c t 3) (w3 m c t 3) (iblk m c 5 t) (iblk m c 4 t) (w6 m c t 1)

variable {m c} (hf : ImagFinite m c)
include hf

theorem hS (n : Fin 512) : k0_pay7 (F := Ideal) (k0_pay2 (F := Ideal) (x0 m c t)) (k0_pay3 (F := Ideal) (x1 m c t)) (pc0 m c t) (pc1 m c t) (pc2 m c t) (w2 m c t 3) (w3 m c t 3) (iblk m c 5 t) (iblk m c 4 t) (ix2 i n)
    = (args m c).s (up t i) n :=
  s_at (x0 m c t) (x1 m c t) (w2 m c t) (w3 m c t) (blk0 m c t i) (blk1 m c t i) (w2_at m c t) (w3_at m c t) _ _ (blk5 m c t) (blk4 m c t i) hf.si hf.ci n

theorem holds : Holds (args m c) (up t i) i (sgP m c t) (gl0P m c t) (gl1P m c t) (w6 m c t 2) (w6 m c t 3) (iblk m c 7 t) (iblk m c 9 t) (iblk m c 8 t) (iblk m c 11 t) (iblk m c 10 t) (iblk m c 12 t) where
  act n := act_at (hS t i hf) n
  l0 k := gl0_at (hS t i hf) (w6 m c t 0) (w6_at m c t 0) k
  l1 k := gl1_at (hS t i hf) (w6 m c t 1) (w6_at m c t 1) k
  w2 := w6_at m c t 2
  w3 := w6_at m c t 3
  gc j := blk7 m c t i j
  yc j := blk9 m c t i j
  gs j := blk8 m c t i j
  x j := blk11 m c t i j
  wo k j := blk10 m c t k j
  g j := blk12 m c t j

theorem out14 : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i n) = (args m c).s (up t i) n := by
  unfold_out out0_14
  frame_out
  pointwise [k0_pay17]
  exact hS t i hf n
theorem out15 : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i n) = (args m c).act (up t i) n := by
  unfold_out out0_15
  frame_out
  pointwise [k0_pay18]
  exact (holds t i hf).act n
theorem out16 : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j) = (args m c).ga (up t i) j := by
  unfold_out out0_16
  frame_out
  pointwise [k0_pay19]
  exact ga_at (holds t i hf) j
theorem out17 : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j) = (args m c).gl (up t i) (snd j) := by
  unfold_out out0_17
  frame_out
  pointwise [k0_pay20]
  exact gb_at (holds t i hf) j
theorem out18 : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j) = (args m c).mg (up t i) j := by
  unfold_out out0_18
  frame_out
  pointwise [k0_pay21]
  exact mg_at (holds t i hf) j
theorem out19 : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j) = (args m c).res (up t i) j := by
  unfold_out out0_19
  frame_out
  pointwise [k0_pay22]
  exact res_at (holds t i hf) j
theorem out20 : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i j) = (args m c).out (aB m c) (up t i) j := by
  unfold_out out0_20
  frame_out
  pointwise [k0_pay1]
  exact (out_at (holds t i hf) j (iblk m c 13 t)).trans (congrArg (_ + ·) (blk13 m c t j))
omit hf in
theorem emb14 (y : S256x512.Idx) : ((View.whole main_v27_0).slice (win0_14.rect t)).emb y = ix2 (up t (y 0)) (y 1) := by
  unfold up; blk_ext [idx t]
omit hf in
theorem emb15 (y : S256x512.Idx) : ((View.whole main_v27_1).slice (win0_15.rect t)).emb y = ix2 (up t (y 0)) (y 1) := by
  unfold up; blk_ext [idx t]
omit hf in
theorem emb16 (y : S256x1024.Idx) : ((View.whole main_v27_2).slice (win0_16.rect t)).emb y = ix2 (up t (y 0)) (y 1) := by
  unfold up; blk_ext [idx t]
omit hf in
theorem emb17 (y : S256x1024.Idx) : ((View.whole main_v27_3).slice (win0_17.rect t)).emb y = ix2 (up t (y 0)) (y 1) := by
  unfold up; blk_ext [idx t]
omit hf in
theorem emb18 (y : S256x1024.Idx) : ((View.whole main_v27_4).slice (win0_18.rect t)).emb y = ix2 (up t (y 0)) (y 1) := by
  unfold up; blk_ext [idx t]
omit hf in
theorem emb19 (y : S256x1024.Idx) : ((View.whole main_v27_5).slice (win0_19.rect t)).emb y = ix2 (up t (y 0)) (y 1) := by
  unfold up; blk_ext [idx t]
omit hf in
theorem emb20 (y : S256x1024.Idx) : ((View.whole main_v27_6).slice (win0_20.rect t)).emb y = ix2 (up t (y 0)) (y 1) := by
  unfold up; blk_ext [idx t]
theorem final14 : (dats m 0 c).arrAt 14 (cfgs 0).N = fun z : S2048x512.Idx => (args m c).s (z 0) (z 1) := by
  refine (dats m 0 c).arrAt_eq_of_covers 14 _ (by decide +kernel) fun t _ y => ?_
  blk_simp
  rw [after0_14, emb14]
  obtain ⟨i, j, rfl⟩ : ∃ i j, y = ix2 i j := ⟨y 0, y 1, eq_ix2 y⟩
  exact out14 t i j hf
theorem final15 : (dats m 0 c).arrAt 15 (cfgs 0).N = fun z : S2048x512.Idx => (args m c).act (z 0) (z 1) := by
  refine (dats m 0 c).arrAt_eq_of_covers 15 _ (by decide +kernel) fun t _ y => ?_
  blk_simp
  rw [after0_15, emb15]
  obtain ⟨i, j, rfl⟩ : ∃ i j, y = ix2 i j := ⟨y 0, y 1, eq_ix2 y⟩
  exact out15 t i j hf
theorem final16 : (dats m 0 c).arrAt 16 (cfgs 0).N = fun z : S2048x1024.Idx => (args m c).ga (z 0) (z 1) := by
  refine (dats m 0 c).arrAt_eq_of_covers 16 _ (by decide +kernel) fun t _ y => ?_
  blk_simp
  rw [after0_16, emb16]
  obtain ⟨i, j, rfl⟩ : ∃ i j, y = ix2 i j := ⟨y 0, y 1, eq_ix2 y⟩
  exact out16 t i j hf
theorem final17 : (dats m 0 c).arrAt 17 (cfgs 0).N = fun z : S2048x1024.Idx => (args m c).gl (z 0) (snd (z 1)) := by
  refine (dats m 0 c).arrAt_eq_of_covers 17 _ (by decide +kernel) fun t _ y => ?_
  blk_simp
  rw [after0_17, emb17]
  obtain ⟨i, j, rfl⟩ : ∃ i j, y = ix2 i j := ⟨y 0, y 1, eq_ix2 y⟩
  exact out17 t i j hf
theorem final18 : (dats m 0 c).arrAt 18 (cfgs 0).N = fun z : S2048x1024.Idx => (args m c).mg (z 0) (z 1) := by
  refine (dats m 0 c).arrAt_eq_of_covers 18 _ (by decide +kernel) fun t _ y => ?_
  blk_simp
  rw [after0_18, emb18]
  obtain ⟨i, j, rfl⟩ : ∃ i j, y = ix2 i j := ⟨y 0, y 1, eq_ix2 y⟩
  exact out18 t i j hf
theorem final19 : (dats m 0 c).arrAt 19 (cfgs 0).N = fun z : S2048x1024.Idx => (args m c).res (z 0) (z 1) := by
  refine (dats m 0 c).arrAt_eq_of_covers 19 _ (by decide +kernel) fun t _ y => ?_
  blk_simp
  rw [after0_19, emb19]
  obtain ⟨i, j, rfl⟩ : ∃ i j, y = ix2 i j := ⟨y 0, y 1, eq_ix2 y⟩
  exact out19 t i j hf
theorem final20 : (dats m 0 c).arrAt 20 (cfgs 0).N = fun z : S2048x1024.Idx => (args m c).out (aB m c) (z 0) (z 1) := by
  refine (dats m 0 c).arrAt_eq_of_covers 20 _ (by decide +kernel) fun t _ y => ?_
  blk_simp
  rw [after0_20, emb20]
  obtain ⟨i, j, rfl⟩ : ∃ i j, y = ix2 i j := ⟨y 0, y 1, eq_ix2 y⟩
  exact out20 t i j hf

end Cert.MixFIdeal.Gen

end
-- ==== Proof.MixFRef.lean ====
/- The reference for the mixing layer's forward pass: its results read at an index. -/
module

public import proofs.«01_k».proof.Proof.MixFPay
public import proofs.«01_k».proof.Proof.MixBHost
public import proofs.«01_k».proof.Proof.Gen.RefMixFIdeal.Run

@[expose] public section

set_option maxRecDepth 16384

noncomputable section

namespace Cert.RefMixFIdeal.Value

open Cert.RefMixFIdeal Cert.RefMixFIdeal.Gen Idealize.ShloMosaic Idealize.ShloMosaic.TcCoe Idealize.SL.Sem
open Cert.Step Cert.Step.MixB
open scoped BigOperators

section
variable (x : FVec Ideal S2048x1024 .f32) (sr si : FVec Ideal S2048x2048 .f32) (su s : FVec Ideal S2048x512 .f32) (sk : FVec Ideal S32x16 .f32)
  (cr ci : FVec Ideal S32x16x64 .f32) (wg : FVec Ideal S512x2048 .f32) (gc gs yc : FVec Ideal S2048x1024 .f32) (wo : FVec Ideal S1024x1024 .f32)
  (g b : FVec Ideal S1x1024 .f32) (t : FVec Ideal S2048x1024 .f32) (gl : FVec Ideal S2048x2048 .f32) (mg : FVec Ideal S2048x1024 .f32)

/-! ### The lines, by name -/

/-- A state's product with the read-out, group by group. -/
def roV (cr : FVec Ideal S32x16x64 .f32) (sr : FVec Ideal S2048x2048 .f32) : FVec Ideal S2048x32x16 .f32 :=
  transpose S2048x32x16 [1, 0, 2] (Host.dotGeneral (F := Ideal) dot_S2048x32x64_S32x16x64_S32x2048x16_2_2_0_1_1_0 none (shapeCast _ sr shapeCasts_S2048x2048_S2048x32x64) cr) transposes_S32x2048x16_S2048x32x16_1_0_2
def sV : FVec Ideal S2048x512 .f32 :=
  addf (shapeCast _ (subf (roV cr sr) (roV ci si)) shapeCasts_S2048x32x16_S2048x512)
    (mulf (broadcastInDim S2048x512 ![0, 1] bcast_S1x512_S2048x512_0_1 (shapeCast _ sk shapeCasts_S32x16_S1x512)) su)
def actV : FVec Ideal S2048x512 .f32 :=
  mulf s (mulf (broadcastInDim S2048x512 ![] bcast_S_S2048x512 (constant (F := Ideal) S_ .f32 0x3F000000#32)) (addf (broadcastInDim S2048x512 ![] bcast_S_S2048x512 (constant (F := Ideal) S_ .f32 0x3F800000#32))
    (Host.tanh (mulf (broadcastInDim S2048x512 ![] bcast_S_S2048x512 (constant (F := Ideal) S_ .f32 0x3F4C422A#32)) (addf s (mulf (broadcastInDim S2048x512 ![] bcast_S_S2048x512
      (Host.divf (constant (F := Ideal) S_ .f32 0x472EAB00#32) (constant (F := Ideal) S_ .f32 0x49742400#32))) (mulf (mulf s s) s)))))))
def glV : FVec Ideal S2048x2048 .f32 := Host.dotGeneral (F := Ideal) dot_S2048x512_S512x2048_S2048x2048_1_0_0_1_n_n none (actV s) wg
def sgV : FVec Ideal S2048x1024 .f32 :=
  Host.divf (broadcastInDim S2048x1024 ![] bcast_S_S2048x1024 (constant (F := Ideal) S_ .f32 0x3F800000#32)) (addf (broadcastInDim S2048x1024 ![] bcast_S_S2048x1024 (constant (F := Ideal) S_ .f32 0x3F800000#32)) (Host.exp (Host.negf t)))
def gaV : FVec Ideal S2048x1024 .f32 := extractStridedSlice S2048x1024 ![0, 0] gl slices_S2048x2048_S2048x1024_0_0
def gbV : FVec Ideal S2048x1024 .f32 := extractStridedSlice S2048x1024 ![0, 1024] gl slices_S2048x2048_S2048x1024_0_1024
def mgV : FVec Ideal S2048x1024 .f32 := addf (mulf (sgV gc) yc) (mulf (sgV gs) (mulf (gaV gl) (sgV (gbV gl))))
def resV : FVec Ideal S2048x1024 .f32 :=
  addf (mulf (broadcastInDim S2048x1024 ![] bcast_S_S2048x1024 (constant (F := Ideal) S_ .f32 0x3F9837F0#32)) x) (Host.dotGeneral (F := Ideal) dot_S2048x1024_S1024x1024_S2048x1024_1_0_0_1_n_n none mg wo)
def muV : FVec Ideal S2048x1 .f32 :=
  Host.divf (broadcastInDim S2048x1 ![0] bcast_S2048_S2048x1_0 (Host.reduceAdd (F := Ideal) t (constant (F := Ideal) S_ .f32 0x00000000#32) reducesTo_S2048x1024_S2048_d1 h_S_))
    (broadcastInDim S2048x1 ![] bcast_S_S2048x1 (constant (F := Ideal) S_ .f32 0x44800000#32))
def ceV : FVec Ideal S2048x1024 .f32 := subf t (broadcastInDim S2048x1024 ![0, 1] bcast_S2048x1_S2048x1024_0_1 (muV t))
def rsV : FVec Ideal S2048x1 .f32 :=
  Host.rsqrt (addf (muV (mulf (ceV t) (ceV t))) (broadcastInDim S2048x1 ![] bcast_S_S2048x1 (constant (F := Ideal) S_ .f32 0x3727C5AC#32)))
def lnV : FVec Ideal S2048x1024 .f32 :=
  addf (mulf (mulf (ceV t) (broadcastInDim S2048x1024 ![0, 1] bcast_S2048x1_S2048x1024_0_1 (rsV t))) (broadcastInDim S2048x1024 ![0, 1] bcast_S1x1024_S2048x1024_0_1 g))
    (broadcastInDim S2048x1024 ![0, 1] bcast_S1x1024_S2048x1024_0_1 b)

variable (i : Fin 2048) (j : Fin 1024)

theorem muV_at : muV t (ix2 i 0) = mean (fun k => t (ix2 i k)) := by
  pointwise [muV]
  rfl
theorem ceV_at : ceV t (ix2 i j) = cen (fun k => t (ix2 i k)) j := by
  pointwise [ceV]
  rw [muV_at]; rfl
theorem ce2_at : mulf (ceV t) (ceV t) (ix2 i j) = cen (fun k => t (ix2 i k)) j * cen (fun k => t (ix2 i k)) j := by
  pointwise
  rw [ceV_at]
theorem rsV_at : rsV t (ix2 i 0) = rstd (fun k => t (ix2 i k)) := by
  pointwise [rsV]
  rw [muV_at]
  simp only [ce2_at]
  rfl
theorem lnV_at : lnV g b t (ix2 i j) = xhat (fun k => t (ix2 i k)) j * g (ix2 0 j) + b (ix2 0 j) := by
  pointwise [lnV]
  rw [ceV_at, rsV_at]; rfl
theorem sgV_at : sgV t (ix2 i j) = sgm (t (ix2 i j)) := by
  pointwise [sgV]
end

/-! ### The run's results -/

variable (m : (ℓ : Loc nD τ sig) → Buf (Elt Ideal) ℓ) (c : Dev nD)

abbrev mX : FVec Ideal S2048x1024 .f32 := m ((c.tc : Thread nD τ).loc main_arg0)
abbrev mSr : FVec Ideal S2048x2048 .f32 := m ((c.tc : Thread nD τ).loc main_arg1)
abbrev mSi : FVec Ideal S2048x2048 .f32 := m ((c.tc : Thread nD τ).loc main_arg2)
abbrev mSu : FVec Ideal S2048x512 .f32 := m ((c.tc : Thread nD τ).loc main_arg3)
abbrev mSk : FVec Ideal S32x16 .f32 := m ((c.tc : Thread nD τ).loc main_arg4)
abbrev mCr : FVec Ideal S32x16x64 .f32 := m ((c.tc : Thread nD τ).loc main_arg5)
abbrev mCi : FVec Ideal S32x16x64 .f32 := m ((c.tc : Thread nD τ).loc main_arg6)
abbrev mWg : FVec Ideal S512x2048 .f32 := m ((c.tc : Thread nD τ).loc main_arg7)
abbrev mGc : FVec Ideal S2048x1024 .f32 := m ((c.tc : Thread nD τ).loc main_arg8)
abbrev mGs : FVec Ideal S2048x1024 .f32 := m ((c.tc : Thread nD τ).loc main_arg9)
abbrev mYc : FVec Ideal S2048x1024 .f32 := m ((c.tc : Thread nD τ).loc main_arg10)
abbrev mWo : FVec Ideal S1024x1024 .f32 := m ((c.tc : Thread nD τ).loc main_arg11)
abbrev mG : FVec Ideal S1x1024 .f32 := m ((c.tc : Thread nD τ).loc main_arg12)
abbrev mB : FVec Ideal S1x1024 .f32 := m ((c.tc : Thread nD τ).loc main_arg13)

/-- The arguments, read at their indices; no gradient is among them. -/
def mArgs : Args where
  x i j := mX m c (ix2 i j)
  sr i j := mSr m c (ix2 i j)
  si i j := mSi m c (ix2 i j)
  su i j := mSu m c (ix2 i j)
  sk i j := mSk m c (ix2 i j)
  cr i j k := mCr m c (ix3 i j k)
  ci i j k := mCi m c (ix3 i j k)
  wg i j := mWg m c (ix2 i j)
  gc i j := mGc m c (ix2 i j)
  gs i j := mGs m c (ix2 i j)
  yc i j := mYc m c (ix2 i j)
  wo i j := mWo m c (ix2 i j)
  g j := mG m c (ix2 0 j)
  dy _ _ := 0

abbrev mS : FVec Ideal S2048x512 .f32 := sV (mSr m c) (mSi m c) (mSu m c) (mSk m c) (mCr m c) (mCi m c)
abbrev mGl : FVec Ideal S2048x2048 .f32 := glV (mS m c) (mWg m c)
abbrev mMg : FVec Ideal S2048x1024 .f32 := mgV (mGc m c) (mGs m c) (mYc m c) (mGl m c)
abbrev mRes : FVec Ideal S2048x1024 .f32 := resV (mX m c) (mWo m c) (mMg m c)

variable (i : Fin 2048) (j : Fin 1024) (n : Fin 512) (l : Fin 2048)

theorem s_at : mS m c (ix2 i n) = (mArgs m c).s i n := by
  pointwise [sV, roV]
  rfl
theorem act_at : actV (mS m c) (ix2 i n) = (mArgs m c).act i n := by
  pointwise [actV]
  rw [s_at, cube_quotient]
  show _ = half * (mArgs m c).s i n * (1 + Ideal.tanh (root * ((mArgs m c).s i n + cube * (mArgs m c).s i n * (mArgs m c).s i n * (mArgs m c).s i n)))
  rw [← mul_assoc, mul_comm ((mArgs m c).s i n) half]
  simp only [mul_assoc, Cert.MixB.Run.ofBits_one]
theorem gl_at : mGl m c (ix2 i l) = (mArgs m c).gl i l := by
  pointwise [glV]
  simp only [act_at]
  rfl
theorem ga_at : gaV (mGl m c) (ix2 i j) = (mArgs m c).ga i j := by
  pointwise [gaV]
  exact gl_at m c i (fst j)
theorem gb_at : gbV (mGl m c) (ix2 i j) = (mArgs m c).gl i (snd j) := by
  pointwise [gbV]
  exact gl_at m c i (snd j)
theorem mg_at : mMg m c (ix2 i j) = (mArgs m c).mg i j := by
  pointwise [mgV]
  rw [sgV_at, sgV_at, sgV_at, ga_at, gb_at]
  rfl
theorem res_at : mRes m c (ix2 i j) = (mArgs m c).res i j := by
  pointwise [resV]
  simp only [mg_at]
  rfl
theorem out_at : lnV (mG m c) (mB m c) (mRes m c) (ix2 i j) = (mArgs m c).out (fun j => mB m c (ix2 0 j)) i j := by
  rw [lnV_at, show (fun k => mRes m c (ix2 i k)) = (mArgs m c).res i from funext fun k => res_at m c i k]
  rfl

theorem s_eq : mS m c = fun z : S2048x512.Idx => (mArgs m c).s (z 0) (z 1) :=
  funext fun z => (congrArg _ (eq_ix2 z)).trans (s_at m c (z 0) (z 1))
theorem act_eq : res_main_v55 m c = fun z : S2048x512.Idx => (mArgs m c).act (z 0) (z 1) := by
  have e : res_main_v55 m c = (truncf .bf16 (actV (mS m c) : FVec Ideal S2048x512 .f32) bitsLt_bf16_f32 : FVec Ideal S2048x512 .bf16) := by
    unfold res_main_v55 mS actV sV roV
    rfl
  exact e.trans (funext fun z => (congrArg (actV (mS m c)) (eq_ix2 z)).trans (act_at m c (z 0) (z 1)))
theorem ga_eq : res_main_v56 m c = fun z : S2048x1024.Idx => (mArgs m c).ga (z 0) (z 1) := by
  have e : res_main_v56 m c = (truncf .bf16 (gaV (mGl m c) : FVec Ideal S2048x1024 .f32) bitsLt_bf16_f32 : FVec Ideal S2048x1024 .bf16) := by
    unfold res_main_v56 mGl mS gaV glV actV sV roV
    rfl
  exact e.trans (funext fun z => (congrArg (gaV (mGl m c)) (eq_ix2 z)).trans (ga_at m c (z 0) (z 1)))
theorem gb_eq : res_main_v57 m c = fun z : S2048x1024.Idx => (mArgs m c).gl (z 0) (snd (z 1)) := by
  have e : res_main_v57 m c = (truncf .bf16 (gbV (mGl m c) : FVec Ideal S2048x1024 .f32) bitsLt_bf16_f32 : FVec Ideal S2048x1024 .bf16) := by
    unfold res_main_v57 mGl mS gbV glV actV sV roV
    rfl
  exact e.trans (funext fun z => (congrArg (gbV (mGl m c)) (eq_ix2 z)).trans (gb_at m c (z 0) (z 1)))
theorem mg_eq : res_main_v58 m c = fun z : S2048x1024.Idx => (mArgs m c).mg (z 0) (z 1) := by
  have e : res_main_v58 m c = (truncf .bf16 (mMg m c : FVec Ideal S2048x1024 .f32) bitsLt_bf16_f32 : FVec Ideal S2048x1024 .bf16) := by
    unfold res_main_v58 mMg mGl mS mgV sgV gaV gbV glV actV sV roV
    rfl
  exact e.trans (funext fun z => (congrArg (mMg m c) (eq_ix2 z)).trans (mg_at m c (z 0) (z 1)))
theorem r_eq : res_main_v54 m c = fun z : S2048x1024.Idx => (mArgs m c).res (z 0) (z 1) := by
  have e : res_main_v54 m c = mRes m c := by
    unfold res_main_v54 mRes mMg mGl mS resV mgV sgV gaV gbV glV actV sV roV
    rfl
  exact e.trans (funext fun z => (congrArg (mRes m c) (eq_ix2 z)).trans (res_at m c (z 0) (z 1)))
theorem y_eq : res_main_v78 m c = fun z : S2048x1024.Idx => (mArgs m c).out (fun j => mB m c (ix2 0 j)) (z 0) (z 1) := by
  have e : res_main_v78 m c = lnV (mG m c) (mB m c) (res_main_v54 m c) := by
    unfold res_main_v78 res_main_v54 lnV rsV ceV muV
    rfl
  have e' : res_main_v54 m c = mRes m c := by
    unfold res_main_v54 mRes mMg mGl mS resV mgV sgV gaV gbV glV actV sV roV
    rfl
  rw [e, e']
  exact funext fun z => (congrArg _ (eq_ix2 z)).trans (out_at m c (z 0) (z 1))

end Cert.RefMixFIdeal.Value

end
-- ==== Proof.MixFPair.lean ====
/- The mixing layer's forward kernel and its reference leave the same results. -/
module

public import proofs.«01_k».proof.Defs
public import proofs.«01_k».proof.Proof.MixFValue
public import proofs.«01_k».proof.Proof.MixFRef
public import proofs.«01_k».proof.Proof.MixBPair
public import proofs.«01_k».proof.Proof.Gen.MixF
public import proofs.«01_k».proof.Proof.Gen.Pre_finite_mixf
public import Idealize.ShloMosaic.Lib.Quiescent

@[expose] public section

set_option maxRecDepth 16384

noncomputable section

namespace Cert.Proof.MixF

open Cert.MixFIdeal Cert.MixFIdeal.Gen Idealize.ShloMosaic Idealize.ShloMosaic.TcCoe Idealize.SL.Sem
open Cert.Step Cert.Step.MixB
open scoped BigOperators

theorem frame_ref : Cert.quiescent_RefMixFIdeal :=
  fun m g _ => (θ_run _ _ _).mono (fun _ h => ⟨fun c => (h c).2.2.2.2.2.2.2, sem_eq_zero_of_no_sems rfl _⟩)
    (Cert.RefMixFIdeal.Value.run m g)

theorem preserves : Cert.preserves_MixF_MixFIdeal :=
  IdealRules.named_const.statement Cert.MixFIdeal.κ "cube" .f32 0x3D372713#32 cube rfl

theorem finite (m : (ℓ : Loc nD τ sig) → Buf (Elt Ideal) ℓ) (c : Dev nD) (h : Cert.Pre_MixFIdeal_finite_mixf m) : ImagFinite m c where
  si i j := IsR.of_cmp (congrFun (h c).1 (ix2 i j))
  ci u i j := IsR.of_cmp (congrFun (h c).2 (ix3 u i j))

theorem algebraic : Cert.algebraic_MixFIdeal_RefMixFIdeal_pre_finite_mixf := by
  intro m g m' g' hpre hagree
  refine ⟨fun c (z : S2048x512.Idx) => (args m c).s (z 0) (z 1),
    fun c (z : S2048x512.Idx) => (args m c).act (z 0) (z 1),
    fun c (z : S2048x1024.Idx) => (args m c).ga (z 0) (z 1),
    fun c (z : S2048x1024.Idx) => (args m c).gl (z 0) (snd (z 1)),
    fun c (z : S2048x1024.Idx) => (args m c).mg (z 0) (z 1),
    fun c (z : S2048x1024.Idx) => (args m c).res (z 0) (z 1),
    fun c (z : S2048x1024.Idx) => (args m c).out (aB m c) (z 0) (z 1),
    (θ_run _ _ _).mono (fun r h c => ?_) (Cert.MixFIdeal.Value.run_blocks m g),
    (θ_run _ _ _).mono (fun r h c => ?_) (Cert.RefMixFIdeal.Value.run m' g')⟩
  · obtain ⟨h0, h1, h2, h3, h4, h5, h6, hr⟩ := h c
    have hf := finite m c hpre
    exact ⟨h0.trans (final14 hf), h1.trans (final15 hf), h2.trans (final16 hf), h3.trans (final17 hf), h4.trans (final18 hf),
      h5.trans (final19 hf), h6.trans (final20 hf), hr⟩
  · obtain ⟨h0, h1, h2, h3, h4, h5, h6, hr⟩ := h c
    have e : Cert.RefMixFIdeal.Value.mArgs m' c = args m c := Cert.Proof.MixB.Args.ext'
      (funext fun i => funext fun j => congrFun (hagree c).1 (ix2 i j))
      (funext fun i => funext fun j => congrFun (hagree c).2.1 (ix2 i j))
      (funext fun i => funext fun j => congrFun (hagree c).2.2.1 (ix2 i j))
      (funext fun i => funext fun j => congrFun (hagree c).2.2.2.1 (ix2 i j))
      (funext fun i => funext fun j => congrFun (hagree c).2.2.2.2.1 (ix2 i j))
      (funext fun u => funext fun i => funext fun j => congrFun (hagree c).2.2.2.2.2.1 (ix3 u i j))
      (funext fun u => funext fun i => funext fun j => congrFun (hagree c).2.2.2.2.2.2.1 (ix3 u i j))
      (funext fun i => funext fun j => congrFun (hagree c).2.2.2.2.2.2.2.1 (ix2 i j))
      (funext fun i => funext fun j => congrFun (hagree c).2.2.2.2.2.2.2.2.1 (ix2 i j))
      (funext fun i => funext fun j => congrFun (hagree c).2.2.2.2.2.2.2.2.2.1 (ix2 i j))
      (funext fun i => funext fun j => congrFun (hagree c).2.2.2.2.2.2.2.2.2.2.1 (ix2 i j))
      (funext fun i => funext fun j => congrFun (hagree c).2.2.2.2.2.2.2.2.2.2.2.1 (ix2 i j))
      (funext fun j => congrFun (hagree c).2.2.2.2.2.2.2.2.2.2.2.2.1 (ix2 0 j))
      rfl
    have eB : (fun j => Cert.RefMixFIdeal.Value.mB m' c (ix2 0 j)) = aB m c :=
      funext fun j => congrFun (hagree c).2.2.2.2.2.2.2.2.2.2.2.2.2 (ix2 0 j)
    exact ⟨h0.trans ((Cert.RefMixFIdeal.Value.s_eq m' c).trans (by rw [e])),
      h1.trans ((Cert.RefMixFIdeal.Value.act_eq m' c).trans (by rw [e])),
      h2.trans ((Cert.RefMixFIdeal.Value.ga_eq m' c).trans (by rw [e])),
      h3.trans ((Cert.RefMixFIdeal.Value.gb_eq m' c).trans (by rw [e])),
      h4.trans ((Cert.RefMixFIdeal.Value.mg_eq m' c).trans (by rw [e])),
      h5.trans ((Cert.RefMixFIdeal.Value.r_eq m' c).trans (by rw [e])),
      h6.trans ((Cert.RefMixFIdeal.Value.y_eq m' c).trans (by rw [e, eB])), hr⟩

end Cert.Proof.MixF

end
-- ==== Proof.lean ====
/- The proof of the certificate's claims; the lemmas are in Proof/. -/
module

public import proofs.«01_k».proof.Defs
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.RefPleIdeal
public import proofs.«01_k».proof.Proof.Gen.Pre_finite_ple
public import proofs.«01_k».proof.Proof.Gen.PleIdeal.Value
public import proofs.«01_k».proof.Proof.Gen.RefPleIdeal.Run
public import proofs.«01_k».proof.Proof.Gen.ConvIdeal.Value
public import proofs.«01_k».proof.Proof.Gen.RefConvIdeal.Run
public import proofs.«01_k».proof.Proof.PlePair
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.RefConvIdeal
public import proofs.«01_k».proof.Proof.Gen.On_written_conv
public import proofs.«01_k».proof.Proof.ConvPair
public import proofs.«01_k».proof.Proof.Gen.MixB
public import proofs.«01_k».proof.Proof.Gen.MixBIdeal
public import proofs.«01_k».proof.Proof.Gen.RefMixBIdeal
public import proofs.«01_k».proof.Proof.Gen.Pre_finite_mixb
public import proofs.«01_k».proof.Proof.Gen.RefMixBIdeal.Run
public import proofs.«01_k».proof.Proof.MixBPair
public import proofs.«01_k».proof.Proof.Gen.Ffn
public import proofs.«01_k».proof.Proof.Gen.FfnIdeal
public import proofs.«01_k».proof.Proof.Gen.RefFfnIdeal
public import proofs.«01_k».proof.Proof.Gen.Pre_finite_ffn
public import proofs.«01_k».proof.Proof.Gen.RefFfnIdeal.Run
public import proofs.«01_k».proof.Proof.FfnPair
public import proofs.«01_k».proof.Proof.Gen.S5
public import proofs.«01_k».proof.Proof.Gen.S5Ideal
public import proofs.«01_k».proof.Proof.Gen.RefS5Ideal
public import proofs.«01_k».proof.Proof.Gen.On_diagonal_s5
public import proofs.«01_k».proof.Proof.Gen.RefS5Ideal.Run
public import proofs.«01_k».proof.Proof.S5Pair
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.Gen.RefFwdIdeal
public import proofs.«01_k».proof.Proof.Gen.RefFwdIdeal.Run
public import proofs.«01_k».proof.Proof.Gen.Pre_finite_fwd
public import proofs.«01_k».proof.Proof.FwdPair
public import proofs.«01_k».proof.Proof.Gen.MixF
public import proofs.«01_k».proof.Proof.Gen.MixF.Skeleton
public import proofs.«01_k».proof.Proof.Gen.MixF.Launch
public import proofs.«01_k».proof.Proof.Gen.MixF.Points
public import proofs.«01_k».proof.Proof.Gen.MixF.Frame
public import proofs.«01_k».proof.Proof.Gen.MixFIdeal
public import proofs.«01_k».proof.Proof.Gen.MixFIdeal.Skeleton
public import proofs.«01_k».proof.Proof.Gen.MixFIdeal.Launch
public import proofs.«01_k».proof.Proof.Gen.MixFIdeal.Points
public import proofs.«01_k».proof.Proof.Gen.MixFIdeal.Frame
public import proofs.«01_k».proof.Proof.Gen.MixFIdeal.Value
public import proofs.«01_k».proof.Proof.Gen.RefMixFIdeal
public import proofs.«01_k».proof.Proof.Gen.RefMixFIdeal.Run
public import proofs.«01_k».proof.Proof.Gen.Pre_finite_mixf
public import proofs.«01_k».proof.Proof.MixFPair
public import Idealize.ShloMosaic.Adequacy
public import Idealize.ShloMosaic.Init

@[expose] public section

noncomputable section

namespace Cert.Proof

open Idealize.ShloMosaic Idealize.SL.Sem Cert.Ple

theorem claim : Cert.Claim := ⟨Cert.Ple.Gen.facts, Cert.PleIdeal.Gen.facts, Cert.RefPleIdeal.Gen.facts,
  Cert.Conv.Gen.facts, Cert.ConvIdeal.Gen.facts, Cert.RefConvIdeal.Gen.facts,
  Cert.MixB.Gen.facts, Cert.MixBIdeal.Gen.facts, Cert.RefMixBIdeal.Gen.facts,
  Cert.Ffn.Gen.facts, Cert.FfnIdeal.Gen.facts, Cert.RefFfnIdeal.Gen.facts,
  Cert.S5.Gen.facts, Cert.S5Ideal.Gen.facts, Cert.RefS5Ideal.Gen.facts,
  Cert.Fwd.Gen.facts, Cert.FwdIdeal.Gen.facts, Cert.RefFwdIdeal.Gen.facts,
  Cert.MixF.Gen.facts, Cert.MixFIdeal.Gen.facts, Cert.RefMixFIdeal.Gen.facts,
  Cert.Pre_finite_ple.Gen.facts, Cert.Pre_finite_mixb.Gen.facts, Cert.Pre_finite_ffn.Gen.facts, Cert.Pre_finite_fwd.Gen.facts, Cert.Pre_finite_mixf.Gen.facts, Cert.On_written_conv.Gen.facts, Cert.On_diagonal_s5.Gen.facts,
  fun m ρ _ => Cert.Ple.Gen.frame m ρ, fun m ρ _ => Cert.PleIdeal.Gen.frame m ρ, fun m ρ _ => Cert.PleIdeal.Gen.frame m ρ,
  Ple.frame_ref, fun m ρ _ => Ple.frame_ref m ρ trivial,
  fun m ρ _ => Cert.Conv.Gen.frame m ρ, fun m ρ _ => Cert.ConvIdeal.Gen.frame m ρ, Conv.frame_ref,
  MixB.frame, fun m ρ _ => Cert.MixB.Run.quiet Ideal m ρ trivial, fun m ρ _ => Cert.MixB.Run.quiet Ideal m ρ trivial,
  MixB.frame_ref, fun m ρ _ => MixB.frame_ref m ρ trivial,
  Ffn.frame, fun m ρ _ => Cert.Ffn.Run.quiet Ideal m ρ trivial, fun m ρ _ => Cert.Ffn.Run.quiet Ideal m ρ trivial,
  Ffn.frame_ref, fun m ρ _ => Ffn.frame_ref m ρ trivial,
  S5.frame, S5.frame_ideal, S5.frame_ref,
  fun m ρ _ => Cert.Fwd.Gen.frame m ρ, fun m ρ _ => Cert.FwdIdeal.Gen.frame m ρ, fun m ρ _ => Cert.FwdIdeal.Gen.frame m ρ,
  Fwd.frame_ref, fun m ρ _ => Fwd.frame_ref m ρ trivial,
  fun m ρ _ => Cert.MixF.Gen.frame m ρ, fun m ρ _ => Cert.MixFIdeal.Gen.frame m ρ, fun m ρ _ => Cert.MixFIdeal.Gen.frame m ρ,
  MixF.frame_ref, fun m ρ _ => MixF.frame_ref m ρ trivial,
  trivial, Ple.algebraic, trivial, Conv.algebraic, MixB.preserves, MixB.algebraic, trivial, Ffn.algebraic, trivial, S5.algebraic, trivial, Fwd.algebraic, MixF.preserves, MixF.algebraic⟩

end Cert.Proof

end
